-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mean" .f32 0x3BA3D70A#32 ((200⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens : Cert.Pre_tokens.Facts) (hPre_finite : Cert.Pre_finite.Facts),
    quiescent_Kernel (hKernel := hKernel) (hPre_tokens := hPre_tokens)
    ∧ quiescent_KernelIdeal (hKernelIdeal := hKernelIdeal) (hPre_tokens := hPre_tokens)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x200 : Shape := ⟨2, ![16384, 200]⟩
abbrev S1000x64 : Shape := ⟨2, ![1000, 64]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : IVec S16384x200 32) (main_arg1 : FVec F S1000x64 .f32) (main_arg2 : FVec F S64x256 .f32) (main_arg3 : FVec F S256 .f32) (main_arg4 : FVec F S256x256 .f32) (main_arg5 : FVec F S256 .f32) (main_arg6 : FVec F S256x128 .f32) (main_arg7 : FVec F S128 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  let main_v6 : FVec F S1000x64 .f32 := Host.absf main_arg1
  let main_cst : FVec F S_ .f32 := constant S_ .f32 0x7F800000#32
  let main_v7 : FVec F S1000x64 .f32 := broadcastInDim S1000x64 ![] bcast_S_S1000x64 main_cst
  let main_v8 : IVec S1000x64 1 := cmpf .olt main_v6 main_v7
  let main_c_2 : IVec S_ 1 := constantI S_ 1 1#1
  let main_v9 : IVec S_ 1 := (fun x v => Host.reduce IntOp.andi x v reducesTo_S1000x64_S_d0_1 h_S_) main_v8 main_c_2
  let main_v10 : IVec S_ 1 := andi main_v5 main_v9
  let main_v11 : FVec F S64x256 .f32 := Host.absf main_arg2
  let main_cst_3 : FVec F S_ .f32 := constant S_ .f32 0x7F800000#32
  let main_v12 : FVec F S64x256 .f32 := broadcastInDim S64x256 ![] bcast_S_S64x256 main_cst_3
  let main_v13 : IVec S64x256 1 := cmpf .olt main_v11 main_v12
  let main_c_4 : IVec S_ 1 := constantI S_ 1 1#1
  let main_v14 : IVec S_ 1 := (fun x v => Host.reduce IntOp.andi x v reducesTo_S64x256_S_d0_1 h_S_) main_v13 main_c_4
  let main_v15 : IVec S_ 1 := andi main_v10 main_v14
  main_v15
-- ==== Pre_tokens.lean ====
abbrev S16384x200 : Shape := ⟨2, ![16384, 200]⟩
abbrev S1000x64 : Shape := ⟨2, ![1000, 64]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S1000x64 .f32) (main_arg2 : FVec F S64x256 .f32) (main_arg3 : FVec F S256 .f32) (main_arg4 : FVec F S256x256 .f32) (main_arg5 : FVec F S256 .f32) (main_arg6 : FVec F S256x128 .f32) (main_arg7 : FVec F S128 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S1000x64 : Shape := ⟨2, ![1000, 64]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S1024x64 : Shape := ⟨2, ![1024, 64]⟩
abbrev S1x256 : Shape := ⟨2, ![1, 256]⟩
abbrev S1x128 : Shape := ⟨2, ![1, 128]⟩
abbrev S8192x256 : Shape := ⟨2, ![8192, 256]⟩
abbrev S64x200 : Shape := ⟨2, ![64, 200]⟩
abbrev S16 : Shape := ⟨1, ![16]⟩
abbrev S1x16 : Shape := ⟨2, ![1, 16]⟩
abbrev S16384x128 : Shape := ⟨2, ![16384, 128]⟩
abbrev S2048x256 : Shape := ⟨2, ![2048, 256]⟩
abbrev S2048x128 : Shape := ⟨2, ![2048, 128]⟩
abbrev S1024x256 : Shape := ⟨2, ![1024, 256]⟩

abbrev nBuf : Table → Nat
  | .hbm => 18
  | .local .tc .vmem => 24
  | .local .scVector .vmem => 8
  | _ => 0

abbrev bufTy : (tb : Table) → Fin (nBuf tb) → BufTy
  | .hbm, ⟨0, _⟩ => ⟨S16384x200, .i32⟩
  | .hbm, ⟨1, _⟩ => ⟨S1000x64, .f32⟩
  | .hbm, ⟨2, _⟩ => ⟨S64x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S_, .f32⟩
  | .hbm, ⟨10, _⟩ => ⟨S1024x64, .f32⟩
  | .hbm, ⟨11, _⟩ => ⟨S1x256, .f32⟩
  | .hbm, ⟨12, _⟩ => ⟨S1x256, .f32⟩
  | .hbm, ⟨13, _⟩ => ⟨S1x128, .f32⟩
  | .hbm, ⟨14, _⟩ => ⟨S8192x256, .i32⟩
  | .hbm, ⟨15, _⟩ => ⟨S8192x256, .i32⟩
  | .hbm, ⟨16, _⟩ => ⟨S16384x128, .f32⟩
  | .hbm, ⟨17, _⟩ => ⟨S16384x128, .f32⟩
  | .local .tc .vmem, ⟨0, _⟩ => ⟨S2048x256, .i32⟩
  | .local .tc .vmem, ⟨1, _⟩ => ⟨S2048x256, .i32⟩
  | .local .tc .vmem, ⟨2, _⟩ => ⟨S1024x64, .f32⟩
  | .local .tc .vmem, ⟨3, _⟩ => ⟨S64x256, .f32⟩
  | .local .tc .vmem, ⟨4, _⟩ => ⟨S1x256, .f32⟩
  | .local .tc .vmem, ⟨5, _⟩ => ⟨S256x256, .f32⟩
  | .local .tc .vmem, ⟨6, _⟩ => ⟨S1x256, .f32⟩
  | .local .tc .vmem, ⟨7, _⟩ => ⟨S256x128, .f32⟩
  | .local .tc .vmem, ⟨8, _⟩ => ⟨S1x128, .f32⟩
  | .local .tc .vmem, ⟨9, _⟩ => ⟨S2048x128, .f32⟩
  | .local .tc .vmem, ⟨10, _⟩ => ⟨S2048x128, .f32⟩
  | .local .tc .vmem, ⟨11, _⟩ => ⟨S1024x256, .bf16⟩
  | .local .tc .vmem, ⟨12, _⟩ => ⟨S2048x256, .i32⟩
  | .local .tc .vmem, ⟨13, _⟩ => ⟨S2048x256, .i32⟩
  | .local .tc .vmem, ⟨14, _⟩ => ⟨S1024x64, .f32⟩
  | .local .tc .vmem, ⟨15, _⟩ => ⟨S64x256, .f32⟩
  | .local .tc .vmem, ⟨16, _⟩ => ⟨S1x256, .f32⟩
  | .local .tc .vmem, ⟨17, _⟩ => ⟨S256x256, .f32⟩
  | .local .tc .vmem, ⟨18, _⟩ => ⟨S1x256, .f32⟩
  | .local .tc .vmem, ⟨19, _⟩ => ⟨S256x128, .f32⟩
  | .local .tc .vmem, ⟨20, _⟩ => ⟨S1x128, .f32⟩
  | .local .tc .vmem, ⟨21, _⟩ => ⟨S2048x128, .f32⟩
  | .local .tc .vmem, ⟨22, _⟩ => ⟨S2048x128, .f32⟩
  | .local .tc .vmem, ⟨23, _⟩ => ⟨S1024x256, .bf16⟩
  | .local .scVector .vmem, ⟨0, _⟩ => ⟨S64x200, .i32⟩
  | .local .scVector .vmem, ⟨1, _⟩ => ⟨S64x200, .i32⟩
  | .local .scVector .vmem, ⟨2, _⟩ => ⟨S64x256, .i32⟩
  | .local .scVector .vmem, ⟨3, _⟩ => ⟨S64x256, .i32⟩
  | .local .scVector .vmem, ⟨4, _⟩ => ⟨S64x200, .i32⟩
  | .local .scVector .vmem, ⟨5, _⟩ => ⟨S64x200, .i32⟩
  | .local .scVector .vmem, ⟨6, _⟩ => ⟨S64x256, .i32⟩
  | .local .scVector .vmem, ⟨7, _⟩ => ⟨S64x256, .i32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg0_scv : Ref sig .scVector := ⟨.hbm, 0, rfl⟩
abbrev main_v4_scv : Ref sig .scVector := ⟨.hbm, 14, rfl⟩
abbrev main_v5_scv : Ref sig .scVector := ⟨.hbm, 15, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg4_0 : Ref sig .tc := ⟨.vmem, 5, rfl⟩
abbrev cc2_stg5_0 : Ref sig .tc := ⟨.vmem, 6, rfl⟩
abbrev cc2_stg6_0 : Ref sig .tc := ⟨.vmem, 7, rfl⟩
abbrev cc2_stg7_0 : Ref sig .tc := ⟨.vmem, 8, rfl⟩
abbrev cc2_stg8_0 : Ref sig .tc := ⟨.vmem, 9, rfl⟩
abbrev cc2_stg8_1 : Ref sig .tc := ⟨.vmem, 10, rfl⟩
abbrev cc2_scratch0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg5_0 : Ref sig .tc := ⟨.vmem, 18, rfl⟩
abbrev cc3_stg6_0 : Ref sig .tc := ⟨.vmem, 19, rfl⟩
abbrev cc3_stg7_0 : Ref sig .tc := ⟨.vmem, 20, rfl⟩
abbrev cc3_stg8_0 : Ref sig .tc := ⟨.vmem, 21, rfl⟩
abbrev cc3_stg8_1 : Ref sig .tc := ⟨.vmem, 22, rfl⟩
abbrev cc3_scratch0 : Ref sig .tc := ⟨.vmem, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem8_0 : DmaSem sig := 17
abbrev cc2_sem8_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28
abbrev cc3_sem8_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 2 → Nat :=
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let v8 : BitVec 32 := Scalar.addi v7 c0_i32_0
  let v9 : BitVec 32 := Scalar.addi c0_i32_1 v8
  let c0_i32_2 : BitVec 32 := 0#32
  ![v9.toNat, 0]
@[reducible] def k0_t1_loop : Scf.Loop 32 :=
  let c0_i32_11 : BitVec 32 := 0#32
  let c64_i32_12 : BitVec 32 := 64#32
  let v19 : BitVec 32 := Scalar.addi c0_i32_11 c64_i32_12
  let c1_i32_13 : BitVec 32 := 1#32
  ⟨c0_i32_11, v19, c1_i32_13⟩
def k0_off2 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v67 : Index := Scalar.indexCast arg12
  let c0 : Index := 0#32
  ![v67.toNat, 0]
def k0_off3 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v69 : Index := Scalar.indexCast arg12
  let c16 : Index := 16#32
  ![v69.toNat, 16]
def k0_off4 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v71 : Index := Scalar.indexCast arg12
  let c32 : Index := 32#32
  ![v71.toNat, 32]
def k0_off5 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v73 : Index := Scalar.indexCast arg12
  let c48 : Index := 48#32
  ![v73.toNat, 48]
def k0_off6 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v75 : Index := Scalar.indexCast arg12
  let c64 : Index := 64#32
  ![v75.toNat, 64]
def k0_off7 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v77 : Index := Scalar.indexCast arg12
  let c80 : Index := 80#32
  ![v77.toNat, 80]
def k0_off8 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v79 : Index := Scalar.indexCast arg12
  let c96 : Index := 96#32
  ![v79.toNat, 96]
def k0_off9 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v81 : Index := Scalar.indexCast arg12
  let c112 : Index := 112#32
  ![v81.toNat, 112]
def k0_off10 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v83 : Index := Scalar.indexCast arg12
  let c128 : Index := 128#32
  ![v83.toNat, 128]
def k0_off11 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v85 : Index := Scalar.indexCast arg12
  let c144 : Index := 144#32
  ![v85.toNat, 144]
def k0_off12 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v87 : Index := Scalar.indexCast arg12
  let c160 : Index := 160#32
  ![v87.toNat, 160]
def k0_off13 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v89 : Index := Scalar.indexCast arg12
  let c176 : Index := 176#32
  ![v89.toNat, 176]
def k0_off14 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v91 : Index := Scalar.indexCast arg12
  let c192 : Index := 192#32
  ![v91.toNat, 192]
def k0_off15 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v93 : Index := Scalar.indexCast arg12
  let c208 : Index := 208#32
  ![v93.toNat, 208]
def k0_off16 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v95 : Index := Scalar.indexCast arg12
  let c224 : Index := 224#32
  ![v95.toNat, 224]
def k0_off17 (k0_t1 : Fin k0_t1_loop.trips) : Fin 2 → Nat :=
  let c0_i32_11 : BitVec 32 := 0#32
  let c1_i32_13 : BitVec 32 := 1#32
  let arg12 : BitVec 32 := Scf.iv c0_i32_11 c1_i32_13 k0_t1
  let v97 : Index := Scalar.indexCast arg12
  let c240 : Index := 240#32
  ![v97.toNat, 240]
@[reducible] def k0_t2_loop : Scf.Loop 32 :=
  let c0_i32_16 : BitVec 32 := 0#32
  let c8_i32_17 : BitVec 32 := 8#32
  let v20 : BitVec 32 := Scalar.addi c0_i32_16 c8_i32_17
  let c1_i32_18 : BitVec 32 := 1#32
  ⟨c0_i32_16, v20, c1_i32_18⟩
def k0_off18 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v91 : Index := Scalar.indexCast v68
  let c0 : Index := 0#32
  ![v91.toNat, 0]

def k0_chk1 (v83 : IVec S16 32) (v108 : IVec S16 32) : Prop :=
  (∀ a x, ((![v83, v108] : Fin 2 → IVec S16 32) a x).toNat < S64x256.size a)
theorem k0_idx1_inb : ∀ (v83 : IVec S16 32) (v108 : IVec S16 32) (k0_hw1 : k0_chk1 v83 v108), ∀ a x, ((![v83, v108] : Fin 2 → IVec S16 32) a x).toNat < S64x256.size a := fun v83 v108 k0_hw1 => k0_hw1

def k0_chk2 (v84 : IVec S16 32) (v115 : IVec S16 32) : Prop :=
  (∀ a x, ((![v84, v115] : Fin 2 → IVec S16 32) a x).toNat < S64x256.size a)
theorem k0_idx2_inb : ∀ (v84 : IVec S16 32) (v115 : IVec S16 32) (k0_hw2 : k0_chk2 v84 v115), ∀ a x, ((![v84, v115] : Fin 2 → IVec S16 32) a x).toNat < S64x256.size a := fun v84 v115 k0_hw2 => k0_hw2

def k0_chk3 (v85 : IVec S16 32) (v122 : IVec S16 32) : Prop :=
  (∀ a x, ((![v85, v122] : Fin 2 → IVec S16 32) a x).toNat < S64x256.size a)
theorem k0_idx3_inb : ∀ (v85 : IVec S16 32) (v122 : IVec S16 32) (k0_hw3 : k0_chk3 v85 v122), ∀ a x, ((![v85, v122] : Fin 2 → IVec S16 32) a x).toNat < S64x256.size a := fun v85 v122 k0_hw3 => k0_hw3

def k0_chk4 (v86 : IVec S16 32) (v129 : IVec S16 32) : Prop :=
  (∀ a x, ((![v86, v129] : Fin 2 → IVec S16 32) a x).toNat < S64x256.size a)
theorem k0_idx4_inb : ∀ (v86 : IVec S16 32) (v129 : IVec S16 32) (k0_hw4 : k0_chk4 v86 v129), ∀ a x, ((![v86, v129] : Fin 2 → IVec S16 32) a x).toNat < S64x256.size a := fun v86 v129 k0_hw4 => k0_hw4

def k0_chk5 (v87 : IVec S16 32) (v136 : IVec S16 32) : Prop :=
  (∀ a x, ((![v87, v136] : Fin 2 → IVec S16 32) a x).toNat < S64x256.size a)
theorem k0_idx5_inb : ∀ (v87 : IVec S16 32) (v136 : IVec S16 32) (k0_hw5 : k0_chk5 v87 v136), ∀ a x, ((![v87, v136] : Fin 2 → IVec S16 32) a x).toNat < S64x256.size a := fun v87 v136 k0_hw5 => k0_hw5

def k0_chk6 (v88 : IVec S16 32) (v143 : IVec S16 32) : Prop :=
  (∀ a x, ((![v88, v143] : Fin 2 → IVec S16 32) a x).toNat < S64x256.size a)
theorem k0_idx6_inb : ∀ (v88 : IVec S16 32) (v143 : IVec S16 32) (k0_hw6 : k0_chk6 v88 v143), ∀ a x, ((![v88, v143] : Fin 2 → IVec S16 32) a x).toNat < S64x256.size a := fun v88 v143 k0_hw6 => k0_hw6

def k0_chk7 (v89 : IVec S16 32) (v150 : IVec S16 32) : Prop :=
  (∀ a x, ((![v89, v150] : Fin 2 → IVec S16 32) a x).toNat < S64x256.size a)
theorem k0_idx7_inb : ∀ (v89 : IVec S16 32) (v150 : IVec S16 32) (k0_hw7 : k0_chk7 v89 v150), ∀ a x, ((![v89, v150] : Fin 2 → IVec S16 32) a x).toNat < S64x256.size a := fun v89 v150 k0_hw7 => k0_hw7

def k0_chk8 (v90 : IVec S16 32) (v157 : IVec S16 32) : Prop :=
  (∀ a x, ((![v90, v157] : Fin 2 → IVec S16 32) a x).toNat < S64x256.size a)
theorem k0_idx8_inb : ∀ (v90 : IVec S16 32) (v157 : IVec S16 32) (k0_hw8 : k0_chk8 v90 v157), ∀ a x, ((![v90, v157] : Fin 2 → IVec S16 32) a x).toNat < S64x256.size a := fun v90 v157 k0_hw8 => k0_hw8
def k0_off19 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v163 : Index := Scalar.indexCast v68
  let c16 : Index := 16#32
  ![v163.toNat, 16]

def k0_chk9 (v83 : IVec S16 32) (v180 : IVec S16 32) : Prop :=
  (∀ a x, ((![v83, v180] : Fin 2 → IVec S16 32) a x).toNat < S64x256.size a)
theorem k0_idx9_inb : ∀ (v83 : IVec S16 32) (v180 : IVec S16 32) (k0_hw9 : k0_chk9 v83 v180), ∀ a x, ((![v83, v180] : Fin 2 → IVec S16 32) a x).toNat < S64x256.size a := fun v83 v180 k0_hw9 => k0_hw9

def k0_chk10 (v84 : IVec S16 32) (v187 : IVec S16 32) : Prop :=
  (∀ a x, ((![v84, v187] : Fin 2 → IVec S16 32) a x).toNat < S64x256.size a)
theorem k0_idx10_inb : ∀ (v84 : IVec S16 32) (v187 : IVec S16 32) (k0_hw10 : k0_chk10 v84 v187), ∀ a x, ((![v84, v187] : Fin 2 → IVec S16 32) a x).toNat < S64x256.size a := fun v84 v187 k0_hw10 => k0_hw10

def k0_chk11 (v85 : IVec S16 32) (v194 : IVec S16 32) : Prop :=
  (∀ a x, ((![v85, v194] : Fin 2 → IVec S16 32) a x).toNat < S64x256.size a)
theorem k0_idx11_inb : ∀ (v85 : IVec S16 32) (v194 : IVec S16 32) (k0_hw11 : k0_chk11 v85 v194), ∀ a x, ((![v85, v194] : Fin 2 → IVec S16 32) a x).toNat < S64x256.size a := fun v85 v194 k0_hw11 => k0_hw11

def k0_chk12 (v86 : IVec S16 32) (v201 : IVec S16 32) : Prop :=
  (∀ a x, ((![v86, v201] : Fin 2 → IVec S16 32) a x).toNat < S64x256.size a)
theorem k0_idx12_inb : ∀ (v86 : IVec S16 32) (v201 : IVec S16 32) (k0_hw12 : k0_chk12 v86 v201), ∀ a x, ((![v86, v201] : Fin 2 → IVec S16 32) a x).toNat < S64x256.size a := fun v86 v201 k0_hw12 => k0_hw12

def k0_chk13 (v87 : IVec S16 32) (v208 : IVec S16 32) : Prop :=
  (∀ a x, ((![v87, v208] : Fin 2 → IVec S16 32) a x).toNat < S64x256.size a)
theorem k0_idx13_inb : ∀ (v87 : IVec S16 32) (v208 : IVec S16 32) (k0_hw13 : k0_chk13 v87 v208), ∀ a x, ((![v87, v208] : Fin 2 → IVec S16 32) a x).toNat < S64x256.size a := fun v87 v208 k0_hw13 => k0_hw13

def k0_chk14 (v88 : IVec S16 32) (v215 : IVec S16 32) : Prop :=
  (∀ a x, ((![v88, v215] : Fin 2 → IVec S16 32) a x).toNat < S64x256.size a)
theorem k0_idx14_inb : ∀ (v88 : IVec S16 32) (v215 : IVec S16 32) (k0_hw14 : k0_chk14 v88 v215), ∀ a x, ((![v88, v215] : Fin 2 → IVec S16 32) a x).toNat < S64x256.size a := fun v88 v215 k0_hw14 => k0_hw14

def k0_chk15 (v89 : IVec S16 32) (v222 : IVec S16 32) : Prop :=
  (∀ a x, ((![v89, v222] : Fin 2 → IVec S16 32) a x).toNat < S64x256.size a)
theorem k0_idx15_inb : ∀ (v89 : IVec S16 32) (v222 : IVec S16 32) (k0_hw15 : k0_chk15 v89 v222), ∀ a x, ((![v89, v222] : Fin 2 → IVec S16 32) a x).toNat < S64x256.size a := fun v89 v222 k0_hw15 => k0_hw15

def k0_chk16 (v90 : IVec S16 32) (v229 : IVec S16 32) : Prop :=
  (∀ a x, ((![v90, v229] : Fin 2 → IVec S16 32) a x).toNat < S64x256.size a)
theorem k0_idx16_inb : ∀ (v90 : IVec S16 32) (v229 : IVec S16 32) (k0_hw16 : k0_chk16 v90 v229), ∀ a x, ((![v90, v229] : Fin 2 → IVec S16 32) a x).toNat < S64x256.size a := fun v90 v229 k0_hw16 => k0_hw16
def k0_off20 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v235 : Index := Scalar.indexCast v68
  let c32 : Index := 32#32
  ![v235.toNat, 32]

def k0_chk17 (v83 : IVec S16 32) (v252 : IVec S16 32) : Prop :=
  (∀ a x, ((![v83, v252] : Fin 2 → IVec S16 32) a x).toNat < S64x256.size a)
theorem k0_idx17_inb : ∀ (v83 : IVec S16 32) (v252 : IVec S16 32) (k0_hw17 : k0_chk17 v83 v252), ∀ a x, ((![v83, v252] : Fin 2 → IVec S16 32) a x).toNat < S64x256.size a := fun v83 v252 k0_hw17 => k0_hw17

def k0_chk18 (v84 : IVec S16 32) (v259 : IVec S16 32) : Prop :=
  (∀ a x, ((![v84, v259] : Fin 2 → IVec S16 32) a x).toNat < S64x256.size a)
theorem k0_idx18_inb : ∀ (v84 : IVec S16 32) (v259 : IVec S16 32) (k0_hw18 : k0_chk18 v84 v259), ∀ a x, ((![v84, v259] : Fin 2 → IVec S16 32) a x).toNat < S64x256.size a := fun v84 v259 k0_hw18 => k0_hw18

def k0_chk19 (v85 : IVec S16 32) (v266 : IVec S16 32) : Prop :=
  (∀ a x, ((![v85, v266] : Fin 2 → IVec S16 32) a x).toNat < S64x256.size a)
theorem k0_idx19_inb : ∀ (v85 : IVec S16 32) (v266 : IVec S16 32) (k0_hw19 : k0_chk19 v85 v266), ∀ a x, ((![v85, v266] : Fin 2 → IVec S16 32) a x).toNat < S64x256.size a := fun v85 v266 k0_hw19 => k0_hw19

def k0_chk20 (v86 : IVec S16 32) (v273 : IVec S16 32) : Prop :=
  (∀ a x, ((![v86, v273] : Fin 2 → IVec S16 32) a x).toNat < S64x256.size a)
theorem k0_idx20_inb : ∀ (v86 : IVec S16 32) (v273 : IVec S16 32) (k0_hw20 : k0_chk20 v86 v273), ∀ a x, ((![v86, v273] : Fin 2 → IVec S16 32) a x).toNat < S64x256.size a := fun v86 v273 k0_hw20 => k0_hw20

def k0_chk21 (v87 : IVec S16 32) (v280 : IVec S16 32) : Prop :=
  (∀ a x, ((![v87, v280] : Fin 2 → IVec S16 32) a x).toNat < S64x256.size a)
theorem k0_idx21_inb : ∀ (v87 : IVec S16 32) (v280 : IVec S16 32) (k0_hw21 : k0_chk21 v87 v280), ∀ a x, ((![v87, v280] : Fin 2 → IVec S16 32) a x).toNat < S64x256.size a := fun v87 v280 k0_hw21 => k0_hw21

def k0_chk22 (v88 : IVec S16 32) (v287 : IVec S16 32) : Prop :=
  (∀ a x, ((![v88, v287] : Fin 2 → IVec S16 32) a x).toNat < S64x256.size a)
theorem k0_idx22_inb : ∀ (v88 : IVec S16 32) (v287 : IVec S16 32) (k0_hw22 : k0_chk22 v88 v287), ∀ a x, ((![v88, v287] : Fin 2 → IVec S16 32) a x).toNat < S64x256.size a := fun v88 v287 k0_hw22 => k0_hw22

def k0_chk23 (v89 : IVec S16 32) (v294 : IVec S16 32) : Prop :=
  (∀ a x, ((![v89, v294] : Fin 2 → IVec S16 32) a x).toNat < S64x256.size a)
theorem k0_idx23_inb : ∀ (v89 : IVec S16 32) (v294 : IVec S16 32) (k0_hw23 : k0_chk23 v89 v294), ∀ a x, ((![v89, v294] : Fin 2 → IVec S16 32) a x).toNat < S64x256.size a := fun v89 v294 k0_hw23 => k0_hw23

def k0_chk24 (v90 : IVec S16 32) (v301 : IVec S16 32) : Prop :=
  (∀ a x, ((![v90, v301] : Fin 2 → IVec S16 32) a x).toNat < S64x256.size a)
theorem k0_idx24_inb : ∀ (v90 : IVec S16 32) (v301 : IVec S16 32) (k0_hw24 : k0_chk24 v90 v301), ∀ a x, ((![v90, v301] : Fin 2 → IVec S16 32) a x).toNat < S64x256.size a := fun v90 v301 k0_hw24 => k0_hw24
def k0_off21 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v307 : Index := Scalar.indexCast v68
  let c48 : Index := 48#32
  ![v307.toNat, 48]

def k0_chk25 (v83 : IVec S16 32) (v324 : IVec S16 32) : Prop :=
  (∀ a x, ((![v83, v324] : Fin 2 → IVec S16 32) a x).toNat < S64x256.size a)
theorem k0_idx25_inb : ∀ (v83 : IVec S16 32) (v324 : IVec S16 32) (k0_hw25 : k0_chk25 v83 v324), ∀ a x, ((![v83, v324] : Fin 2 → IVec S16 32) a x).toNat < S64x256.size a := fun v83 v324 k0_hw25 => k0_hw25

def k0_chk26 (v84 : IVec S16 32) (v331 : IVec S16 32) : Prop :=
  (∀ a x, ((![v84, v331] : Fin 2 → IVec S16 32) a x).toNat < S64x256.size a)
theorem k0_idx26_inb : ∀ (v84 : IVec S16 32) (v331 : IVec S16 32) (k0_hw26 : k0_chk26 v84 v331), ∀ a x, ((![v84, v331] : Fin 2 → IVec S16 32) a x).toNat < S64x256.size a := fun v84 v331 k0_hw26 => k0_hw26

def k0_chk27 (v85 : IVec S16 32) (v338 : IVec S16 32) : Prop :=
  (∀ a x, ((![v85, v338] : Fin 2 → IVec S16 32) a x).toNat < S64x256.size a)
theorem k0_idx27_inb : ∀ (v85 : IVec S16 32) (v338 : IVec S16 32) (k0_hw27 : k0_chk27 v85 v338), ∀ a x, ((![v85, v338] : Fin 2 → IVec S16 32) a x).toNat < S64x256.size a := fun v85 v338 k0_hw27 => k0_hw27

def k0_chk28 (v86 : IVec S16 32) (v345 : IVec S16 32) : Prop :=
  (∀ a x, ((![v86, v345] : Fin 2 → IVec S16 32) a x).toNat < S64x256.size a)
theorem k0_idx28_inb : ∀ (v86 : IVec S16 32) (v345 : IVec S16 32) (k0_hw28 : k0_chk28 v86 v345), ∀ a x, ((![v86, v345] : Fin 2 → IVec S16 32) a x).toNat < S64x256.size a := fun v86 v345 k0_hw28 => k0_hw28

def k0_chk29 (v87 : IVec S16 32) (v352 : IVec S16 32) : Prop :=
  (∀ a x, ((![v87, v352] : Fin 2 → IVec S16 32) a x).toNat < S64x256.size a)
theorem k0_idx29_inb : ∀ (v87 : IVec S16 32) (v352 : IVec S16 32) (k0_hw29 : k0_chk29 v87 v352), ∀ a x, ((![v87, v352] : Fin 2 → IVec S16 32) a x).toNat < S64x256.size a := fun v87 v352 k0_hw29 => k0_hw29

def k0_chk30 (v88 : IVec S16 32) (v359 : IVec S16 32) : Prop :=
  (∀ a x, ((![v88, v359] : Fin 2 → IVec S16 32) a x).toNat < S64x256.size a)
theorem k0_idx30_inb : ∀ (v88 : IVec S16 32) (v359 : IVec S16 32) (k0_hw30 : k0_chk30 v88 v359), ∀ a x, ((![v88, v359] : Fin 2 → IVec S16 32) a x).toNat < S64x256.size a := fun v88 v359 k0_hw30 => k0_hw30

def k0_chk31 (v89 : IVec S16 32) (v366 : IVec S16 32) : Prop :=
  (∀ a x, ((![v89, v366] : Fin 2 → IVec S16 32) a x).toNat < S64x256.size a)
theorem k0_idx31_inb : ∀ (v89 : IVec S16 32) (v366 : IVec S16 32) (k0_hw31 : k0_chk31 v89 v366), ∀ a x, ((![v89, v366] : Fin 2 → IVec S16 32) a x).toNat < S64x256.size a := fun v89 v366 k0_hw31 => k0_hw31

def k0_chk32 (v90 : IVec S16 32) (v373 : IVec S16 32) : Prop :=
  (∀ a x, ((![v90, v373] : Fin 2 → IVec S16 32) a x).toNat < S64x256.size a)
theorem k0_idx32_inb : ∀ (v90 : IVec S16 32) (v373 : IVec S16 32) (k0_hw32 : k0_chk32 v90 v373), ∀ a x, ((![v90, v373] : Fin 2 → IVec S16 32) a x).toNat < S64x256.size a := fun v90 v373 k0_hw32 => k0_hw32
def k0_off22 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v379 : Index := Scalar.indexCast v68
  let c64 : Index := 64#32
  ![v379.toNat, 64]

def k0_chk33 (v83 : IVec S16 32) (v396 : IVec S16 32) : Prop :=
  (∀ a x, ((![v83, v396] : Fin 2 → IVec S16 32) a x).toNat < S64x256.size a)
theorem k0_idx33_inb : ∀ (v83 : IVec S16 32) (v396 : IVec S16 32) (k0_hw33 : k0_chk33 v83 v396), ∀ a x, ((![v83, v396] : Fin 2 → IVec S16 32) a x).toNat < S64x256.size a := fun v83 v396 k0_hw33 => k0_hw33

def k0_chk34 (v84 : IVec S16 32) (v403 : IVec S16 32) : Prop :=
  (∀ a x, ((![v84, v403] : Fin 2 → IVec S16 32) a x).toNat < S64x256.size a)
theorem k0_idx34_inb : ∀ (v84 : IVec S16 32) (v403 : IVec S16 32) (k0_hw34 : k0_chk34 v84 v403), ∀ a x, ((![v84, v403] : Fin 2 → IVec S16 32) a x).toNat < S64x256.size a := fun v84 v403 k0_hw34 => k0_hw34

def k0_chk35 (v85 : IVec S16 32) (v410 : IVec S16 32) : Prop :=
  (∀ a x, ((![v85, v410] : Fin 2 → IVec S16 32) a x).toNat < S64x256.size a)
theorem k0_idx35_inb : ∀ (v85 : IVec S16 32) (v410 : IVec S16 32) (k0_hw35 : k0_chk35 v85 v410), ∀ a x, ((![v85, v410] : Fin 2 → IVec S16 32) a x).toNat < S64x256.size a := fun v85 v410 k0_hw35 => k0_hw35

def k0_chk36 (v86 : IVec S16 32) (v417 : IVec S16 32) : Prop :=
  (∀ a x, ((![v86, v417] : Fin 2 → IVec S16 32) a x).toNat < S64x256.size a)
theorem k0_idx36_inb : ∀ (v86 : IVec S16 32) (v417 : IVec S16 32) (k0_hw36 : k0_chk36 v86 v417), ∀ a x, ((![v86, v417] : Fin 2 → IVec S16 32) a x).toNat < S64x256.size a := fun v86 v417 k0_hw36 => k0_hw36

def k0_chk37 (v87 : IVec S16 32) (v424 : IVec S16 32) : Prop :=
  (∀ a x, ((![v87, v424] : Fin 2 → IVec S16 32) a x).toNat < S64x256.size a)
theorem k0_idx37_inb : ∀ (v87 : IVec S16 32) (v424 : IVec S16 32) (k0_hw37 : k0_chk37 v87 v424), ∀ a x, ((![v87, v424] : Fin 2 → IVec S16 32) a x).toNat < S64x256.size a := fun v87 v424 k0_hw37 => k0_hw37

def k0_chk38 (v88 : IVec S16 32) (v431 : IVec S16 32) : Prop :=
  (∀ a x, ((![v88, v431] : Fin 2 → IVec S16 32) a x).toNat < S64x256.size a)
theorem k0_idx38_inb : ∀ (v88 : IVec S16 32) (v431 : IVec S16 32) (k0_hw38 : k0_chk38 v88 v431), ∀ a x, ((![v88, v431] : Fin 2 → IVec S16 32) a x).toNat < S64x256.size a := fun v88 v431 k0_hw38 => k0_hw38

def k0_chk39 (v89 : IVec S16 32) (v438 : IVec S16 32) : Prop :=
  (∀ a x, ((![v89, v438] : Fin 2 → IVec S16 32) a x).toNat < S64x256.size a)
theorem k0_idx39_inb : ∀ (v89 : IVec S16 32) (v438 : IVec S16 32) (k0_hw39 : k0_chk39 v89 v438), ∀ a x, ((![v89, v438] : Fin 2 → IVec S16 32) a x).toNat < S64x256.size a := fun v89 v438 k0_hw39 => k0_hw39

def k0_chk40 (v90 : IVec S16 32) (v445 : IVec S16 32) : Prop :=
  (∀ a x, ((![v90, v445] : Fin 2 → IVec S16 32) a x).toNat < S64x256.size a)
theorem k0_idx40_inb : ∀ (v90 : IVec S16 32) (v445 : IVec S16 32) (k0_hw40 : k0_chk40 v90 v445), ∀ a x, ((![v90, v445] : Fin 2 → IVec S16 32) a x).toNat < S64x256.size a := fun v90 v445 k0_hw40 => k0_hw40
def k0_off23 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v451 : Index := Scalar.indexCast v68
  let c80 : Index := 80#32
  ![v451.toNat, 80]

def k0_chk41 (v83 : IVec S16 32) (v468 : IVec S16 32) : Prop :=
  (∀ a x, ((![v83, v468] : Fin 2 → IVec S16 32) a x).toNat < S64x256.size a)
theorem k0_idx41_inb : ∀ (v83 : IVec S16 32) (v468 : IVec S16 32) (k0_hw41 : k0_chk41 v83 v468), ∀ a x, ((![v83, v468] : Fin 2 → IVec S16 32) a x).toNat < S64x256.size a := fun v83 v468 k0_hw41 => k0_hw41

def k0_chk42 (v84 : IVec S16 32) (v475 : IVec S16 32) : Prop :=
  (∀ a x, ((![v84, v475] : Fin 2 → IVec S16 32) a x).toNat < S64x256.size a)
theorem k0_idx42_inb : ∀ (v84 : IVec S16 32) (v475 : IVec S16 32) (k0_hw42 : k0_chk42 v84 v475), ∀ a x, ((![v84, v475] : Fin 2 → IVec S16 32) a x).toNat < S64x256.size a := fun v84 v475 k0_hw42 => k0_hw42

def k0_chk43 (v85 : IVec S16 32) (v482 : IVec S16 32) : Prop :=
  (∀ a x, ((![v85, v482] : Fin 2 → IVec S16 32) a x).toNat < S64x256.size a)
theorem k0_idx43_inb : ∀ (v85 : IVec S16 32) (v482 : IVec S16 32) (k0_hw43 : k0_chk43 v85 v482), ∀ a x, ((![v85, v482] : Fin 2 → IVec S16 32) a x).toNat < S64x256.size a := fun v85 v482 k0_hw43 => k0_hw43

def k0_chk44 (v86 : IVec S16 32) (v489 : IVec S16 32) : Prop :=
  (∀ a x, ((![v86, v489] : Fin 2 → IVec S16 32) a x).toNat < S64x256.size a)
theorem k0_idx44_inb : ∀ (v86 : IVec S16 32) (v489 : IVec S16 32) (k0_hw44 : k0_chk44 v86 v489), ∀ a x, ((![v86, v489] : Fin 2 → IVec S16 32) a x).toNat < S64x256.size a := fun v86 v489 k0_hw44 => k0_hw44

def k0_chk45 (v87 : IVec S16 32) (v496 : IVec S16 32) : Prop :=
  (∀ a x, ((![v87, v496] : Fin 2 → IVec S16 32) a x).toNat < S64x256.size a)
theorem k0_idx45_inb : ∀ (v87 : IVec S16 32) (v496 : IVec S16 32) (k0_hw45 : k0_chk45 v87 v496), ∀ a x, ((![v87, v496] : Fin 2 → IVec S16 32) a x).toNat < S64x256.size a := fun v87 v496 k0_hw45 => k0_hw45

def k0_chk46 (v88 : IVec S16 32) (v503 : IVec S16 32) : Prop :=
  (∀ a x, ((![v88, v503] : Fin 2 → IVec S16 32) a x).toNat < S64x256.size a)
theorem k0_idx46_inb : ∀ (v88 : IVec S16 32) (v503 : IVec S16 32) (k0_hw46 : k0_chk46 v88 v503), ∀ a x, ((![v88, v503] : Fin 2 → IVec S16 32) a x).toNat < S64x256.size a := fun v88 v503 k0_hw46 => k0_hw46

def k0_chk47 (v89 : IVec S16 32) (v510 : IVec S16 32) : Prop :=
  (∀ a x, ((![v89, v510] : Fin 2 → IVec S16 32) a x).toNat < S64x256.size a)
theorem k0_idx47_inb : ∀ (v89 : IVec S16 32) (v510 : IVec S16 32) (k0_hw47 : k0_chk47 v89 v510), ∀ a x, ((![v89, v510] : Fin 2 → IVec S16 32) a x).toNat < S64x256.size a := fun v89 v510 k0_hw47 => k0_hw47

def k0_chk48 (v90 : IVec S16 32) (v517 : IVec S16 32) : Prop :=
  (∀ a x, ((![v90, v517] : Fin 2 → IVec S16 32) a x).toNat < S64x256.size a)
theorem k0_idx48_inb : ∀ (v90 : IVec S16 32) (v517 : IVec S16 32) (k0_hw48 : k0_chk48 v90 v517), ∀ a x, ((![v90, v517] : Fin 2 → IVec S16 32) a x).toNat < S64x256.size a := fun v90 v517 k0_hw48 => k0_hw48
def k0_off24 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v523 : Index := Scalar.indexCast v68
  let c96 : Index := 96#32
  ![v523.toNat, 96]

def k0_chk49 (v83 : IVec S16 32) (v540 : IVec S16 32) : Prop :=
  (∀ a x, ((![v83, v540] : Fin 2 → IVec S16 32) a x).toNat < S64x256.size a)
theorem k0_idx49_inb : ∀ (v83 : IVec S16 32) (v540 : IVec S16 32) (k0_hw49 : k0_chk49 v83 v540), ∀ a x, ((![v83, v540] : Fin 2 → IVec S16 32) a x).toNat < S64x256.size a := fun v83 v540 k0_hw49 => k0_hw49

def k0_chk50 (v84 : IVec S16 32) (v547 : IVec S16 32) : Prop :=
  (∀ a x, ((![v84, v547] : Fin 2 → IVec S16 32) a x).toNat < S64x256.size a)
theorem k0_idx50_inb : ∀ (v84 : IVec S16 32) (v547 : IVec S16 32) (k0_hw50 : k0_chk50 v84 v547), ∀ a x, ((![v84, v547] : Fin 2 → IVec S16 32) a x).toNat < S64x256.size a := fun v84 v547 k0_hw50 => k0_hw50

def k0_chk51 (v85 : IVec S16 32) (v554 : IVec S16 32) : Prop :=
  (∀ a x, ((![v85, v554] : Fin 2 → IVec S16 32) a x).toNat < S64x256.size a)
theorem k0_idx51_inb : ∀ (v85 : IVec S16 32) (v554 : IVec S16 32) (k0_hw51 : k0_chk51 v85 v554), ∀ a x, ((![v85, v554] : Fin 2 → IVec S16 32) a x).toNat < S64x256.size a := fun v85 v554 k0_hw51 => k0_hw51

def k0_chk52 (v86 : IVec S16 32) (v561 : IVec S16 32) : Prop :=
  (∀ a x, ((![v86, v561] : Fin 2 → IVec S16 32) a x).toNat < S64x256.size a)
theorem k0_idx52_inb : ∀ (v86 : IVec S16 32) (v561 : IVec S16 32) (k0_hw52 : k0_chk52 v86 v561), ∀ a x, ((![v86, v561] : Fin 2 → IVec S16 32) a x).toNat < S64x256.size a := fun v86 v561 k0_hw52 => k0_hw52

def k0_chk53 (v87 : IVec S16 32) (v568 : IVec S16 32) : Prop :=
  (∀ a x, ((![v87, v568] : Fin 2 → IVec S16 32) a x).toNat < S64x256.size a)
theorem k0_idx53_inb : ∀ (v87 : IVec S16 32) (v568 : IVec S16 32) (k0_hw53 : k0_chk53 v87 v568), ∀ a x, ((![v87, v568] : Fin 2 → IVec S16 32) a x).toNat < S64x256.size a := fun v87 v568 k0_hw53 => k0_hw53

def k0_chk54 (v88 : IVec S16 32) (v575 : IVec S16 32) : Prop :=
  (∀ a x, ((![v88, v575] : Fin 2 → IVec S16 32) a x).toNat < S64x256.size a)
theorem k0_idx54_inb : ∀ (v88 : IVec S16 32) (v575 : IVec S16 32) (k0_hw54 : k0_chk54 v88 v575), ∀ a x, ((![v88, v575] : Fin 2 → IVec S16 32) a x).toNat < S64x256.size a := fun v88 v575 k0_hw54 => k0_hw54

def k0_chk55 (v89 : IVec S16 32) (v582 : IVec S16 32) : Prop :=
  (∀ a x, ((![v89, v582] : Fin 2 → IVec S16 32) a x).toNat < S64x256.size a)
theorem k0_idx55_inb : ∀ (v89 : IVec S16 32) (v582 : IVec S16 32) (k0_hw55 : k0_chk55 v89 v582), ∀ a x, ((![v89, v582] : Fin 2 → IVec S16 32) a x).toNat < S64x256.size a := fun v89 v582 k0_hw55 => k0_hw55

def k0_chk56 (v90 : IVec S16 32) (v589 : IVec S16 32) : Prop :=
  (∀ a x, ((![v90, v589] : Fin 2 → IVec S16 32) a x).toNat < S64x256.size a)
theorem k0_idx56_inb : ∀ (v90 : IVec S16 32) (v589 : IVec S16 32) (k0_hw56 : k0_chk56 v90 v589), ∀ a x, ((![v90, v589] : Fin 2 → IVec S16 32) a x).toNat < S64x256.size a := fun v90 v589 k0_hw56 => k0_hw56
def k0_off25 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v595 : Index := Scalar.indexCast v68
  let c112 : Index := 112#32
  ![v595.toNat, 112]

def k0_chk57 (v83 : IVec S16 32) (v612 : IVec S16 32) : Prop :=
  (∀ a x, ((![v83, v612] : Fin 2 → IVec S16 32) a x).toNat < S64x256.size a)
theorem k0_idx57_inb : ∀ (v83 : IVec S16 32) (v612 : IVec S16 32) (k0_hw57 : k0_chk57 v83 v612), ∀ a x, ((![v83, v612] : Fin 2 → IVec S16 32) a x).toNat < S64x256.size a := fun v83 v612 k0_hw57 => k0_hw57

def k0_chk58 (v84 : IVec S16 32) (v619 : IVec S16 32) : Prop :=
  (∀ a x, ((![v84, v619] : Fin 2 → IVec S16 32) a x).toNat < S64x256.size a)
theorem k0_idx58_inb : ∀ (v84 : IVec S16 32) (v619 : IVec S16 32) (k0_hw58 : k0_chk58 v84 v619), ∀ a x, ((![v84, v619] : Fin 2 → IVec S16 32) a x).toNat < S64x256.size a := fun v84 v619 k0_hw58 => k0_hw58

def k0_chk59 (v85 : IVec S16 32) (v626 : IVec S16 32) : Prop :=
  (∀ a x, ((![v85, v626] : Fin 2 → IVec S16 32) a x).toNat < S64x256.size a)
theorem k0_idx59_inb : ∀ (v85 : IVec S16 32) (v626 : IVec S16 32) (k0_hw59 : k0_chk59 v85 v626), ∀ a x, ((![v85, v626] : Fin 2 → IVec S16 32) a x).toNat < S64x256.size a := fun v85 v626 k0_hw59 => k0_hw59

def k0_chk60 (v86 : IVec S16 32) (v633 : IVec S16 32) : Prop :=
  (∀ a x, ((![v86, v633] : Fin 2 → IVec S16 32) a x).toNat < S64x256.size a)
theorem k0_idx60_inb : ∀ (v86 : IVec S16 32) (v633 : IVec S16 32) (k0_hw60 : k0_chk60 v86 v633), ∀ a x, ((![v86, v633] : Fin 2 → IVec S16 32) a x).toNat < S64x256.size a := fun v86 v633 k0_hw60 => k0_hw60

def k0_chk61 (v87 : IVec S16 32) (v640 : IVec S16 32) : Prop :=
  (∀ a x, ((![v87, v640] : Fin 2 → IVec S16 32) a x).toNat < S64x256.size a)
theorem k0_idx61_inb : ∀ (v87 : IVec S16 32) (v640 : IVec S16 32) (k0_hw61 : k0_chk61 v87 v640), ∀ a x, ((![v87, v640] : Fin 2 → IVec S16 32) a x).toNat < S64x256.size a := fun v87 v640 k0_hw61 => k0_hw61

def k0_chk62 (v88 : IVec S16 32) (v647 : IVec S16 32) : Prop :=
  (∀ a x, ((![v88, v647] : Fin 2 → IVec S16 32) a x).toNat < S64x256.size a)
theorem k0_idx62_inb : ∀ (v88 : IVec S16 32) (v647 : IVec S16 32) (k0_hw62 : k0_chk62 v88 v647), ∀ a x, ((![v88, v647] : Fin 2 → IVec S16 32) a x).toNat < S64x256.size a := fun v88 v647 k0_hw62 => k0_hw62

def k0_chk63 (v89 : IVec S16 32) (v654 : IVec S16 32) : Prop :=
  (∀ a x, ((![v89, v654] : Fin 2 → IVec S16 32) a x).toNat < S64x256.size a)
theorem k0_idx63_inb : ∀ (v89 : IVec S16 32) (v654 : IVec S16 32) (k0_hw63 : k0_chk63 v89 v654), ∀ a x, ((![v89, v654] : Fin 2 → IVec S16 32) a x).toNat < S64x256.size a := fun v89 v654 k0_hw63 => k0_hw63

def k0_chk64 (v90 : IVec S16 32) (v661 : IVec S16 32) : Prop :=
  (∀ a x, ((![v90, v661] : Fin 2 → IVec S16 32) a x).toNat < S64x256.size a)
theorem k0_idx64_inb : ∀ (v90 : IVec S16 32) (v661 : IVec S16 32) (k0_hw64 : k0_chk64 v90 v661), ∀ a x, ((![v90, v661] : Fin 2 → IVec S16 32) a x).toNat < S64x256.size a := fun v90 v661 k0_hw64 => k0_hw64
def k0_off26 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v667 : Index := Scalar.indexCast v68
  let c128 : Index := 128#32
  ![v667.toNat, 128]

def k0_chk65 (v83 : IVec S16 32) (v684 : IVec S16 32) : Prop :=
  (∀ a x, ((![v83, v684] : Fin 2 → IVec S16 32) a x).toNat < S64x256.size a)
theorem k0_idx65_inb : ∀ (v83 : IVec S16 32) (v684 : IVec S16 32) (k0_hw65 : k0_chk65 v83 v684), ∀ a x, ((![v83, v684] : Fin 2 → IVec S16 32) a x).toNat < S64x256.size a := fun v83 v684 k0_hw65 => k0_hw65

def k0_chk66 (v84 : IVec S16 32) (v691 : IVec S16 32) : Prop :=
  (∀ a x, ((![v84, v691] : Fin 2 → IVec S16 32) a x).toNat < S64x256.size a)
theorem k0_idx66_inb : ∀ (v84 : IVec S16 32) (v691 : IVec S16 32) (k0_hw66 : k0_chk66 v84 v691), ∀ a x, ((![v84, v691] : Fin 2 → IVec S16 32) a x).toNat < S64x256.size a := fun v84 v691 k0_hw66 => k0_hw66

def k0_chk67 (v85 : IVec S16 32) (v698 : IVec S16 32) : Prop :=
  (∀ a x, ((![v85, v698] : Fin 2 → IVec S16 32) a x).toNat < S64x256.size a)
theorem k0_idx67_inb : ∀ (v85 : IVec S16 32) (v698 : IVec S16 32) (k0_hw67 : k0_chk67 v85 v698), ∀ a x, ((![v85, v698] : Fin 2 → IVec S16 32) a x).toNat < S64x256.size a := fun v85 v698 k0_hw67 => k0_hw67

def k0_chk68 (v86 : IVec S16 32) (v705 : IVec S16 32) : Prop :=
  (∀ a x, ((![v86, v705] : Fin 2 → IVec S16 32) a x).toNat < S64x256.size a)
theorem k0_idx68_inb : ∀ (v86 : IVec S16 32) (v705 : IVec S16 32) (k0_hw68 : k0_chk68 v86 v705), ∀ a x, ((![v86, v705] : Fin 2 → IVec S16 32) a x).toNat < S64x256.size a := fun v86 v705 k0_hw68 => k0_hw68

def k0_chk69 (v87 : IVec S16 32) (v712 : IVec S16 32) : Prop :=
  (∀ a x, ((![v87, v712] : Fin 2 → IVec S16 32) a x).toNat < S64x256.size a)
theorem k0_idx69_inb : ∀ (v87 : IVec S16 32) (v712 : IVec S16 32) (k0_hw69 : k0_chk69 v87 v712), ∀ a x, ((![v87, v712] : Fin 2 → IVec S16 32) a x).toNat < S64x256.size a := fun v87 v712 k0_hw69 => k0_hw69

def k0_chk70 (v88 : IVec S16 32) (v719 : IVec S16 32) : Prop :=
  (∀ a x, ((![v88, v719] : Fin 2 → IVec S16 32) a x).toNat < S64x256.size a)
theorem k0_idx70_inb : ∀ (v88 : IVec S16 32) (v719 : IVec S16 32) (k0_hw70 : k0_chk70 v88 v719), ∀ a x, ((![v88, v719] : Fin 2 → IVec S16 32) a x).toNat < S64x256.size a := fun v88 v719 k0_hw70 => k0_hw70

def k0_chk71 (v89 : IVec S16 32) (v726 : IVec S16 32) : Prop :=
  (∀ a x, ((![v89, v726] : Fin 2 → IVec S16 32) a x).toNat < S64x256.size a)
theorem k0_idx71_inb : ∀ (v89 : IVec S16 32) (v726 : IVec S16 32) (k0_hw71 : k0_chk71 v89 v726), ∀ a x, ((![v89, v726] : Fin 2 → IVec S16 32) a x).toNat < S64x256.size a := fun v89 v726 k0_hw71 => k0_hw71

def k0_chk72 (v90 : IVec S16 32) (v733 : IVec S16 32) : Prop :=
  (∀ a x, ((![v90, v733] : Fin 2 → IVec S16 32) a x).toNat < S64x256.size a)
theorem k0_idx72_inb : ∀ (v90 : IVec S16 32) (v733 : IVec S16 32) (k0_hw72 : k0_chk72 v90 v733), ∀ a x, ((![v90, v733] : Fin 2 → IVec S16 32) a x).toNat < S64x256.size a := fun v90 v733 k0_hw72 => k0_hw72
def k0_off27 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v739 : Index := Scalar.indexCast v68
  let c144 : Index := 144#32
  ![v739.toNat, 144]

def k0_chk73 (v83 : IVec S16 32) (v756 : IVec S16 32) : Prop :=
  (∀ a x, ((![v83, v756] : Fin 2 → IVec S16 32) a x).toNat < S64x256.size a)
theorem k0_idx73_inb : ∀ (v83 : IVec S16 32) (v756 : IVec S16 32) (k0_hw73 : k0_chk73 v83 v756), ∀ a x, ((![v83, v756] : Fin 2 → IVec S16 32) a x).toNat < S64x256.size a := fun v83 v756 k0_hw73 => k0_hw73

def k0_chk74 (v84 : IVec S16 32) (v763 : IVec S16 32) : Prop :=
  (∀ a x, ((![v84, v763] : Fin 2 → IVec S16 32) a x).toNat < S64x256.size a)
theorem k0_idx74_inb : ∀ (v84 : IVec S16 32) (v763 : IVec S16 32) (k0_hw74 : k0_chk74 v84 v763), ∀ a x, ((![v84, v763] : Fin 2 → IVec S16 32) a x).toNat < S64x256.size a := fun v84 v763 k0_hw74 => k0_hw74

def k0_chk75 (v85 : IVec S16 32) (v770 : IVec S16 32) : Prop :=
  (∀ a x, ((![v85, v770] : Fin 2 → IVec S16 32) a x).toNat < S64x256.size a)
theorem k0_idx75_inb : ∀ (v85 : IVec S16 32) (v770 : IVec S16 32) (k0_hw75 : k0_chk75 v85 v770), ∀ a x, ((![v85, v770] : Fin 2 → IVec S16 32) a x).toNat < S64x256.size a := fun v85 v770 k0_hw75 => k0_hw75

def k0_chk76 (v86 : IVec S16 32) (v777 : IVec S16 32) : Prop :=
  (∀ a x, ((![v86, v777] : Fin 2 → IVec S16 32) a x).toNat < S64x256.size a)
theorem k0_idx76_inb : ∀ (v86 : IVec S16 32) (v777 : IVec S16 32) (k0_hw76 : k0_chk76 v86 v777), ∀ a x, ((![v86, v777] : Fin 2 → IVec S16 32) a x).toNat < S64x256.size a := fun v86 v777 k0_hw76 => k0_hw76

def k0_chk77 (v87 : IVec S16 32) (v784 : IVec S16 32) : Prop :=
  (∀ a x, ((![v87, v784] : Fin 2 → IVec S16 32) a x).toNat < S64x256.size a)
theorem k0_idx77_inb : ∀ (v87 : IVec S16 32) (v784 : IVec S16 32) (k0_hw77 : k0_chk77 v87 v784), ∀ a x, ((![v87, v784] : Fin 2 → IVec S16 32) a x).toNat < S64x256.size a := fun v87 v784 k0_hw77 => k0_hw77

def k0_chk78 (v88 : IVec S16 32) (v791 : IVec S16 32) : Prop :=
  (∀ a x, ((![v88, v791] : Fin 2 → IVec S16 32) a x).toNat < S64x256.size a)
theorem k0_idx78_inb : ∀ (v88 : IVec S16 32) (v791 : IVec S16 32) (k0_hw78 : k0_chk78 v88 v791), ∀ a x, ((![v88, v791] : Fin 2 → IVec S16 32) a x).toNat < S64x256.size a := fun v88 v791 k0_hw78 => k0_hw78

def k0_chk79 (v89 : IVec S16 32) (v798 : IVec S16 32) : Prop :=
  (∀ a x, ((![v89, v798] : Fin 2 → IVec S16 32) a x).toNat < S64x256.size a)
theorem k0_idx79_inb : ∀ (v89 : IVec S16 32) (v798 : IVec S16 32) (k0_hw79 : k0_chk79 v89 v798), ∀ a x, ((![v89, v798] : Fin 2 → IVec S16 32) a x).toNat < S64x256.size a := fun v89 v798 k0_hw79 => k0_hw79

def k0_chk80 (v90 : IVec S16 32) (v805 : IVec S16 32) : Prop :=
  (∀ a x, ((![v90, v805] : Fin 2 → IVec S16 32) a x).toNat < S64x256.size a)
theorem k0_idx80_inb : ∀ (v90 : IVec S16 32) (v805 : IVec S16 32) (k0_hw80 : k0_chk80 v90 v805), ∀ a x, ((![v90, v805] : Fin 2 → IVec S16 32) a x).toNat < S64x256.size a := fun v90 v805 k0_hw80 => k0_hw80
def k0_off28 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v811 : Index := Scalar.indexCast v68
  let c160 : Index := 160#32
  ![v811.toNat, 160]

def k0_chk81 (v83 : IVec S16 32) (v828 : IVec S16 32) : Prop :=
  (∀ a x, ((![v83, v828] : Fin 2 → IVec S16 32) a x).toNat < S64x256.size a)
theorem k0_idx81_inb : ∀ (v83 : IVec S16 32) (v828 : IVec S16 32) (k0_hw81 : k0_chk81 v83 v828), ∀ a x, ((![v83, v828] : Fin 2 → IVec S16 32) a x).toNat < S64x256.size a := fun v83 v828 k0_hw81 => k0_hw81

def k0_chk82 (v84 : IVec S16 32) (v835 : IVec S16 32) : Prop :=
  (∀ a x, ((![v84, v835] : Fin 2 → IVec S16 32) a x).toNat < S64x256.size a)
theorem k0_idx82_inb : ∀ (v84 : IVec S16 32) (v835 : IVec S16 32) (k0_hw82 : k0_chk82 v84 v835), ∀ a x, ((![v84, v835] : Fin 2 → IVec S16 32) a x).toNat < S64x256.size a := fun v84 v835 k0_hw82 => k0_hw82

def k0_chk83 (v85 : IVec S16 32) (v842 : IVec S16 32) : Prop :=
  (∀ a x, ((![v85, v842] : Fin 2 → IVec S16 32) a x).toNat < S64x256.size a)
theorem k0_idx83_inb : ∀ (v85 : IVec S16 32) (v842 : IVec S16 32) (k0_hw83 : k0_chk83 v85 v842), ∀ a x, ((![v85, v842] : Fin 2 → IVec S16 32) a x).toNat < S64x256.size a := fun v85 v842 k0_hw83 => k0_hw83

def k0_chk84 (v86 : IVec S16 32) (v849 : IVec S16 32) : Prop :=
  (∀ a x, ((![v86, v849] : Fin 2 → IVec S16 32) a x).toNat < S64x256.size a)
theorem k0_idx84_inb : ∀ (v86 : IVec S16 32) (v849 : IVec S16 32) (k0_hw84 : k0_chk84 v86 v849), ∀ a x, ((![v86, v849] : Fin 2 → IVec S16 32) a x).toNat < S64x256.size a := fun v86 v849 k0_hw84 => k0_hw84

def k0_chk85 (v87 : IVec S16 32) (v856 : IVec S16 32) : Prop :=
  (∀ a x, ((![v87, v856] : Fin 2 → IVec S16 32) a x).toNat < S64x256.size a)
theorem k0_idx85_inb : ∀ (v87 : IVec S16 32) (v856 : IVec S16 32) (k0_hw85 : k0_chk85 v87 v856), ∀ a x, ((![v87, v856] : Fin 2 → IVec S16 32) a x).toNat < S64x256.size a := fun v87 v856 k0_hw85 => k0_hw85

def k0_chk86 (v88 : IVec S16 32) (v863 : IVec S16 32) : Prop :=
  (∀ a x, ((![v88, v863] : Fin 2 → IVec S16 32) a x).toNat < S64x256.size a)
theorem k0_idx86_inb : ∀ (v88 : IVec S16 32) (v863 : IVec S16 32) (k0_hw86 : k0_chk86 v88 v863), ∀ a x, ((![v88, v863] : Fin 2 → IVec S16 32) a x).toNat < S64x256.size a := fun v88 v863 k0_hw86 => k0_hw86

def k0_chk87 (v89 : IVec S16 32) (v870 : IVec S16 32) : Prop :=
  (∀ a x, ((![v89, v870] : Fin 2 → IVec S16 32) a x).toNat < S64x256.size a)
theorem k0_idx87_inb : ∀ (v89 : IVec S16 32) (v870 : IVec S16 32) (k0_hw87 : k0_chk87 v89 v870), ∀ a x, ((![v89, v870] : Fin 2 → IVec S16 32) a x).toNat < S64x256.size a := fun v89 v870 k0_hw87 => k0_hw87

def k0_chk88 (v90 : IVec S16 32) (v877 : IVec S16 32) : Prop :=
  (∀ a x, ((![v90, v877] : Fin 2 → IVec S16 32) a x).toNat < S64x256.size a)
theorem k0_idx88_inb : ∀ (v90 : IVec S16 32) (v877 : IVec S16 32) (k0_hw88 : k0_chk88 v90 v877), ∀ a x, ((![v90, v877] : Fin 2 → IVec S16 32) a x).toNat < S64x256.size a := fun v90 v877 k0_hw88 => k0_hw88
def k0_off29 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v883 : Index := Scalar.indexCast v68
  let c176 : Index := 176#32
  ![v883.toNat, 176]

def k0_chk89 (v83 : IVec S16 32) (v900 : IVec S16 32) : Prop :=
  (∀ a x, ((![v83, v900] : Fin 2 → IVec S16 32) a x).toNat < S64x256.size a)
theorem k0_idx89_inb : ∀ (v83 : IVec S16 32) (v900 : IVec S16 32) (k0_hw89 : k0_chk89 v83 v900), ∀ a x, ((![v83, v900] : Fin 2 → IVec S16 32) a x).toNat < S64x256.size a := fun v83 v900 k0_hw89 => k0_hw89

def k0_chk90 (v84 : IVec S16 32) (v907 : IVec S16 32) : Prop :=
  (∀ a x, ((![v84, v907] : Fin 2 → IVec S16 32) a x).toNat < S64x256.size a)
theorem k0_idx90_inb : ∀ (v84 : IVec S16 32) (v907 : IVec S16 32) (k0_hw90 : k0_chk90 v84 v907), ∀ a x, ((![v84, v907] : Fin 2 → IVec S16 32) a x).toNat < S64x256.size a := fun v84 v907 k0_hw90 => k0_hw90

def k0_chk91 (v85 : IVec S16 32) (v914 : IVec S16 32) : Prop :=
  (∀ a x, ((![v85, v914] : Fin 2 → IVec S16 32) a x).toNat < S64x256.size a)
theorem k0_idx91_inb : ∀ (v85 : IVec S16 32) (v914 : IVec S16 32) (k0_hw91 : k0_chk91 v85 v914), ∀ a x, ((![v85, v914] : Fin 2 → IVec S16 32) a x).toNat < S64x256.size a := fun v85 v914 k0_hw91 => k0_hw91

def k0_chk92 (v86 : IVec S16 32) (v921 : IVec S16 32) : Prop :=
  (∀ a x, ((![v86, v921] : Fin 2 → IVec S16 32) a x).toNat < S64x256.size a)
theorem k0_idx92_inb : ∀ (v86 : IVec S16 32) (v921 : IVec S16 32) (k0_hw92 : k0_chk92 v86 v921), ∀ a x, ((![v86, v921] : Fin 2 → IVec S16 32) a x).toNat < S64x256.size a := fun v86 v921 k0_hw92 => k0_hw92

def k0_chk93 (v87 : IVec S16 32) (v928 : IVec S16 32) : Prop :=
  (∀ a x, ((![v87, v928] : Fin 2 → IVec S16 32) a x).toNat < S64x256.size a)
theorem k0_idx93_inb : ∀ (v87 : IVec S16 32) (v928 : IVec S16 32) (k0_hw93 : k0_chk93 v87 v928), ∀ a x, ((![v87, v928] : Fin 2 → IVec S16 32) a x).toNat < S64x256.size a := fun v87 v928 k0_hw93 => k0_hw93

def k0_chk94 (v88 : IVec S16 32) (v935 : IVec S16 32) : Prop :=
  (∀ a x, ((![v88, v935] : Fin 2 → IVec S16 32) a x).toNat < S64x256.size a)
theorem k0_idx94_inb : ∀ (v88 : IVec S16 32) (v935 : IVec S16 32) (k0_hw94 : k0_chk94 v88 v935), ∀ a x, ((![v88, v935] : Fin 2 → IVec S16 32) a x).toNat < S64x256.size a := fun v88 v935 k0_hw94 => k0_hw94

def k0_chk95 (v89 : IVec S16 32) (v942 : IVec S16 32) : Prop :=
  (∀ a x, ((![v89, v942] : Fin 2 → IVec S16 32) a x).toNat < S64x256.size a)
theorem k0_idx95_inb : ∀ (v89 : IVec S16 32) (v942 : IVec S16 32) (k0_hw95 : k0_chk95 v89 v942), ∀ a x, ((![v89, v942] : Fin 2 → IVec S16 32) a x).toNat < S64x256.size a := fun v89 v942 k0_hw95 => k0_hw95

def k0_chk96 (v90 : IVec S16 32) (v949 : IVec S16 32) : Prop :=
  (∀ a x, ((![v90, v949] : Fin 2 → IVec S16 32) a x).toNat < S64x256.size a)
theorem k0_idx96_inb : ∀ (v90 : IVec S16 32) (v949 : IVec S16 32) (k0_hw96 : k0_chk96 v90 v949), ∀ a x, ((![v90, v949] : Fin 2 → IVec S16 32) a x).toNat < S64x256.size a := fun v90 v949 k0_hw96 => k0_hw96
def k0_off30 (k0_t2 : Fin k0_t2_loop.trips) (c0_i32_89 : BitVec 32) : Fin 2 → Nat :=
  let c0_i32_16 : BitVec 32 := 0#32
  let c1_i32_18 : BitVec 32 := 1#32
  let arg12 : BitVec 32 := Scf.iv c0_i32_16 c1_i32_18 k0_t2
  let c8_i32_88 : BitVec 32 := 8#32
  let v67 : BitVec 32 := Scalar.muli arg12 c8_i32_88
  let v68 : BitVec 32 := Scalar.addi v67 c0_i32_89
  let v955 : Index := Scalar.indexCast v68
  let c184 : Index := 184#32
  ![v955.toNat, 184]

def k0_chk97 (v83 : IVec S16 32) (v972 : IVec S16 32) : Prop :=
  (∀ a x, ((![v83, v972] : Fin 2 → IVec S16 32) a x).toNat < S64x256.size a)
theorem k0_idx97_inb : ∀ (v83 : IVec S16 32) (v972 : IVec S16 32) (k0_hw97 : k0_chk97 v83 v972), ∀ a x, ((![v83, v972] : Fin 2 → IVec S16 32) a x).toNat < S64x256.size a := fun v83 v972 k0_hw97 => k0_hw97

def k0_chk98 (v84 : IVec S16 32) (v979 : IVec S16 32) : Prop :=
  (∀ a x, ((![v84, v979] : Fin 2 → IVec S16 32) a x).toNat < S64x256.size a)
theorem k0_idx98_inb : ∀ (v84 : IVec S16 32) (v979 : IVec S16 32) (k0_hw98 : k0_chk98 v84 v979), ∀ a x, ((![v84, v979] : Fin 2 → IVec S16 32) a x).toNat < S64x256.size a := fun v84 v979 k0_hw98 => k0_hw98

def k0_chk99 (v85 : IVec S16 32) (v986 : IVec S16 32) : Prop :=
  (∀ a x, ((![v85, v986] : Fin 2 → IVec S16 32) a x).toNat < S64x256.size a)
theorem k0_idx99_inb : ∀ (v85 : IVec S16 32) (v986 : IVec S16 32) (k0_hw99 : k0_chk99 v85 v986), ∀ a x, ((![v85, v986] : Fin 2 → IVec S16 32) a x).toNat < S64x256.size a := fun v85 v986 k0_hw99 => k0_hw99

def k0_chk100 (v86 : IVec S16 32) (v993 : IVec S16 32) : Prop :=
  (∀ a x, ((![v86, v993] : Fin 2 → IVec S16 32) a x).toNat < S64x256.size a)
theorem k0_idx100_inb : ∀ (v86 : IVec S16 32) (v993 : IVec S16 32) (k0_hw100 : k0_chk100 v86 v993), ∀ a x, ((![v86, v993] : Fin 2 → IVec S16 32) a x).toNat < S64x256.size a := fun v86 v993 k0_hw100 => k0_hw100

def k0_chk101 (v87 : IVec S16 32) (v1000 : IVec S16 32) : Prop :=
  (∀ a x, ((![v87, v1000] : Fin 2 → IVec S16 32) a x).toNat < S64x256.size a)
theorem k0_idx101_inb : ∀ (v87 : IVec S16 32) (v1000 : IVec S16 32) (k0_hw101 : k0_chk101 v87 v1000), ∀ a x, ((![v87, v1000] : Fin 2 → IVec S16 32) a x).toNat < S64x256.size a := fun v87 v1000 k0_hw101 => k0_hw101

def k0_chk102 (v88 : IVec S16 32) (v1007 : IVec S16 32) : Prop :=
  (∀ a x, ((![v88, v1007] : Fin 2 → IVec S16 32) a x).toNat < S64x256.size a)
theorem k0_idx102_inb : ∀ (v88 : IVec S16 32) (v1007 : IVec S16 32) (k0_hw102 : k0_chk102 v88 v1007), ∀ a x, ((![v88, v1007] : Fin 2 → IVec S16 32) a x).toNat < S64x256.size a := fun v88 v1007 k0_hw102 => k0_hw102

def k0_chk103 (v89 : IVec S16 32) (v1014 : IVec S16 32) : Prop :=
  (∀ a x, ((![v89, v1014] : Fin 2 → IVec S16 32) a x).toNat < S64x256.size a)
theorem k0_idx103_inb : ∀ (v89 : IVec S16 32) (v1014 : IVec S16 32) (k0_hw103 : k0_chk103 v89 v1014), ∀ a x, ((![v89, v1014] : Fin 2 → IVec S16 32) a x).toNat < S64x256.size a := fun v89 v1014 k0_hw103 => k0_hw103

def k0_chk104 (v90 : IVec S16 32) (v1021 : IVec S16 32) : Prop :=
  (∀ a x, ((![v90, v1021] : Fin 2 → IVec S16 32) a x).toNat < S64x256.size a)
theorem k0_idx104_inb : ∀ (v90 : IVec S16 32) (v1021 : IVec S16 32) (k0_hw104 : k0_chk104 v90 v1021), ∀ a x, ((![v90, v1021] : Fin 2 → IVec S16 32) a x).toNat < S64x256.size a := fun v90 v1021 k0_hw104 => k0_hw104
def k0_off31 (i : grid0.Coords) (c0_i32_21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_20 : BitVec 32 := 256#32
  let v21 : BitVec 32 := Scalar.muli v1 c256_i32_20
  let v22 : BitVec 32 := Scalar.addi v21 c0_i32_21
  let c0_i32_22 : BitVec 32 := 0#32
  ![v22.toNat, 0]
@[reducible] def k0_t3_loop : Scf.Loop 32 :=
  let c0_i32_31 : BitVec 32 := 0#32
  let c64_i32_32 : BitVec 32 := 64#32
  let v32 : BitVec 32 := Scalar.addi c0_i32_31 c64_i32_32
  let c1_i32_33 : BitVec 32 := 1#32
  ⟨c0_i32_31, v32, c1_i32_33⟩
def k0_off32 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v67 : Index := Scalar.indexCast arg12
  let c0 : Index := 0#32
  ![v67.toNat, 0]
def k0_off33 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v69 : Index := Scalar.indexCast arg12
  let c16 : Index := 16#32
  ![v69.toNat, 16]
def k0_off34 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v71 : Index := Scalar.indexCast arg12
  let c32 : Index := 32#32
  ![v71.toNat, 32]
def k0_off35 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v73 : Index := Scalar.indexCast arg12
  let c48 : Index := 48#32
  ![v73.toNat, 48]
def k0_off36 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v75 : Index := Scalar.indexCast arg12
  let c64 : Index := 64#32
  ![v75.toNat, 64]
def k0_off37 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v77 : Index := Scalar.indexCast arg12
  let c80 : Index := 80#32
  ![v77.toNat, 80]
def k0_off38 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v79 : Index := Scalar.indexCast arg12
  let c96 : Index := 96#32
  ![v79.toNat, 96]
def k0_off39 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v81 : Index := Scalar.indexCast arg12
  let c112 : Index := 112#32
  ![v81.toNat, 112]
def k0_off40 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v83 : Index := Scalar.indexCast arg12
  let c128 : Index := 128#32
  ![v83.toNat, 128]
def k0_off41 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v85 : Index := Scalar.indexCast arg12
  let c144 : Index := 144#32
  ![v85.toNat, 144]
def k0_off42 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v87 : Index := Scalar.indexCast arg12
  let c160 : Index := 160#32
  ![v87.toNat, 160]
def k0_off43 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v89 : Index := Scalar.indexCast arg12
  let c176 : Index := 176#32
  ![v89.toNat, 176]
def k0_off44 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v91 : Index := Scalar.indexCast arg12
  let c192 : Index := 192#32
  ![v91.toNat, 192]
def k0_off45 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v93 : Index := Scalar.indexCast arg12
  let c208 : Index := 208#32
  ![v93.toNat, 208]
def k0_off46 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v95 : Index := Scalar.indexCast arg12
  let c224 : Index := 224#32
  ![v95.toNat, 224]
def k0_off47 (k0_t3 : Fin k0_t3_loop.trips) : Fin 2 → Nat :=
  let c0_i32_31 : BitVec 32 := 0#32
  let c1_i32_33 : BitVec 32 := 1#32
  let arg12 : BitVec 32 := Scf.iv c0_i32_31 c1_i32_33 k0_t3
  let v97 : Index := Scalar.indexCast arg12
  let c240 : Index := 240#32
  ![v97.toNat, 240]
@[reducible] def k0_t4_loop : Scf.Loop 32 :=
  let c0_i32_36 : BitVec 32 := 0#32
  let c8_i32_37 : BitVec 32 := 8#32
  let v33 : BitVec 32 := Scalar.addi c0_i32_36 c8_i32_37
  let c1_i32_38 : BitVec 32 := 1#32
  ⟨c0_i32_36, v33, c1_i32_38⟩
def k0_off48 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v91 : Index := Scalar.indexCast v68
  let c0 : Index := 0#32
  ![v91.toNat, 0]

def k0_chk105 (v83 : IVec S16 32) (v108 : IVec S16 32) : Prop :=
  (∀ a x, ((![v83, v108] : Fin 2 → IVec S16 32) a x).toNat < S64x256.size a)
theorem k0_idx105_inb : ∀ (v83 : IVec S16 32) (v108 : IVec S16 32) (k0_hw105 : k0_chk105 v83 v108), ∀ a x, ((![v83, v108] : Fin 2 → IVec S16 32) a x).toNat < S64x256.size a := fun v83 v108 k0_hw105 => k0_hw105

def k0_chk106 (v84 : IVec S16 32) (v115 : IVec S16 32) : Prop :=
  (∀ a x, ((![v84, v115] : Fin 2 → IVec S16 32) a x).toNat < S64x256.size a)
theorem k0_idx106_inb : ∀ (v84 : IVec S16 32) (v115 : IVec S16 32) (k0_hw106 : k0_chk106 v84 v115), ∀ a x, ((![v84, v115] : Fin 2 → IVec S16 32) a x).toNat < S64x256.size a := fun v84 v115 k0_hw106 => k0_hw106

def k0_chk107 (v85 : IVec S16 32) (v122 : IVec S16 32) : Prop :=
  (∀ a x, ((![v85, v122] : Fin 2 → IVec S16 32) a x).toNat < S64x256.size a)
theorem k0_idx107_inb : ∀ (v85 : IVec S16 32) (v122 : IVec S16 32) (k0_hw107 : k0_chk107 v85 v122), ∀ a x, ((![v85, v122] : Fin 2 → IVec S16 32) a x).toNat < S64x256.size a := fun v85 v122 k0_hw107 => k0_hw107

def k0_chk108 (v86 : IVec S16 32) (v129 : IVec S16 32) : Prop :=
  (∀ a x, ((![v86, v129] : Fin 2 → IVec S16 32) a x).toNat < S64x256.size a)
theorem k0_idx108_inb : ∀ (v86 : IVec S16 32) (v129 : IVec S16 32) (k0_hw108 : k0_chk108 v86 v129), ∀ a x, ((![v86, v129] : Fin 2 → IVec S16 32) a x).toNat < S64x256.size a := fun v86 v129 k0_hw108 => k0_hw108

def k0_chk109 (v87 : IVec S16 32) (v136 : IVec S16 32) : Prop :=
  (∀ a x, ((![v87, v136] : Fin 2 → IVec S16 32) a x).toNat < S64x256.size a)
theorem k0_idx109_inb : ∀ (v87 : IVec S16 32) (v136 : IVec S16 32) (k0_hw109 : k0_chk109 v87 v136), ∀ a x, ((![v87, v136] : Fin 2 → IVec S16 32) a x).toNat < S64x256.size a := fun v87 v136 k0_hw109 => k0_hw109

def k0_chk110 (v88 : IVec S16 32) (v143 : IVec S16 32) : Prop :=
  (∀ a x, ((![v88, v143] : Fin 2 → IVec S16 32) a x).toNat < S64x256.size a)
theorem k0_idx110_inb : ∀ (v88 : IVec S16 32) (v143 : IVec S16 32) (k0_hw110 : k0_chk110 v88 v143), ∀ a x, ((![v88, v143] : Fin 2 → IVec S16 32) a x).toNat < S64x256.size a := fun v88 v143 k0_hw110 => k0_hw110

def k0_chk111 (v89 : IVec S16 32) (v150 : IVec S16 32) : Prop :=
  (∀ a x, ((![v89, v150] : Fin 2 → IVec S16 32) a x).toNat < S64x256.size a)
theorem k0_idx111_inb : ∀ (v89 : IVec S16 32) (v150 : IVec S16 32) (k0_hw111 : k0_chk111 v89 v150), ∀ a x, ((![v89, v150] : Fin 2 → IVec S16 32) a x).toNat < S64x256.size a := fun v89 v150 k0_hw111 => k0_hw111

def k0_chk112 (v90 : IVec S16 32) (v157 : IVec S16 32) : Prop :=
  (∀ a x, ((![v90, v157] : Fin 2 → IVec S16 32) a x).toNat < S64x256.size a)
theorem k0_idx112_inb : ∀ (v90 : IVec S16 32) (v157 : IVec S16 32) (k0_hw112 : k0_chk112 v90 v157), ∀ a x, ((![v90, v157] : Fin 2 → IVec S16 32) a x).toNat < S64x256.size a := fun v90 v157 k0_hw112 => k0_hw112
def k0_off49 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v163 : Index := Scalar.indexCast v68
  let c16 : Index := 16#32
  ![v163.toNat, 16]

def k0_chk113 (v83 : IVec S16 32) (v180 : IVec S16 32) : Prop :=
  (∀ a x, ((![v83, v180] : Fin 2 → IVec S16 32) a x).toNat < S64x256.size a)
theorem k0_idx113_inb : ∀ (v83 : IVec S16 32) (v180 : IVec S16 32) (k0_hw113 : k0_chk113 v83 v180), ∀ a x, ((![v83, v180] : Fin 2 → IVec S16 32) a x).toNat < S64x256.size a := fun v83 v180 k0_hw113 => k0_hw113

def k0_chk114 (v84 : IVec S16 32) (v187 : IVec S16 32) : Prop :=
  (∀ a x, ((![v84, v187] : Fin 2 → IVec S16 32) a x).toNat < S64x256.size a)
theorem k0_idx114_inb : ∀ (v84 : IVec S16 32) (v187 : IVec S16 32) (k0_hw114 : k0_chk114 v84 v187), ∀ a x, ((![v84, v187] : Fin 2 → IVec S16 32) a x).toNat < S64x256.size a := fun v84 v187 k0_hw114 => k0_hw114

def k0_chk115 (v85 : IVec S16 32) (v194 : IVec S16 32) : Prop :=
  (∀ a x, ((![v85, v194] : Fin 2 → IVec S16 32) a x).toNat < S64x256.size a)
theorem k0_idx115_inb : ∀ (v85 : IVec S16 32) (v194 : IVec S16 32) (k0_hw115 : k0_chk115 v85 v194), ∀ a x, ((![v85, v194] : Fin 2 → IVec S16 32) a x).toNat < S64x256.size a := fun v85 v194 k0_hw115 => k0_hw115

def k0_chk116 (v86 : IVec S16 32) (v201 : IVec S16 32) : Prop :=
  (∀ a x, ((![v86, v201] : Fin 2 → IVec S16 32) a x).toNat < S64x256.size a)
theorem k0_idx116_inb : ∀ (v86 : IVec S16 32) (v201 : IVec S16 32) (k0_hw116 : k0_chk116 v86 v201), ∀ a x, ((![v86, v201] : Fin 2 → IVec S16 32) a x).toNat < S64x256.size a := fun v86 v201 k0_hw116 => k0_hw116

def k0_chk117 (v87 : IVec S16 32) (v208 : IVec S16 32) : Prop :=
  (∀ a x, ((![v87, v208] : Fin 2 → IVec S16 32) a x).toNat < S64x256.size a)
theorem k0_idx117_inb : ∀ (v87 : IVec S16 32) (v208 : IVec S16 32) (k0_hw117 : k0_chk117 v87 v208), ∀ a x, ((![v87, v208] : Fin 2 → IVec S16 32) a x).toNat < S64x256.size a := fun v87 v208 k0_hw117 => k0_hw117

def k0_chk118 (v88 : IVec S16 32) (v215 : IVec S16 32) : Prop :=
  (∀ a x, ((![v88, v215] : Fin 2 → IVec S16 32) a x).toNat < S64x256.size a)
theorem k0_idx118_inb : ∀ (v88 : IVec S16 32) (v215 : IVec S16 32) (k0_hw118 : k0_chk118 v88 v215), ∀ a x, ((![v88, v215] : Fin 2 → IVec S16 32) a x).toNat < S64x256.size a := fun v88 v215 k0_hw118 => k0_hw118

def k0_chk119 (v89 : IVec S16 32) (v222 : IVec S16 32) : Prop :=
  (∀ a x, ((![v89, v222] : Fin 2 → IVec S16 32) a x).toNat < S64x256.size a)
theorem k0_idx119_inb : ∀ (v89 : IVec S16 32) (v222 : IVec S16 32) (k0_hw119 : k0_chk119 v89 v222), ∀ a x, ((![v89, v222] : Fin 2 → IVec S16 32) a x).toNat < S64x256.size a := fun v89 v222 k0_hw119 => k0_hw119

def k0_chk120 (v90 : IVec S16 32) (v229 : IVec S16 32) : Prop :=
  (∀ a x, ((![v90, v229] : Fin 2 → IVec S16 32) a x).toNat < S64x256.size a)
theorem k0_idx120_inb : ∀ (v90 : IVec S16 32) (v229 : IVec S16 32) (k0_hw120 : k0_chk120 v90 v229), ∀ a x, ((![v90, v229] : Fin 2 → IVec S16 32) a x).toNat < S64x256.size a := fun v90 v229 k0_hw120 => k0_hw120
def k0_off50 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v235 : Index := Scalar.indexCast v68
  let c32 : Index := 32#32
  ![v235.toNat, 32]

def k0_chk121 (v83 : IVec S16 32) (v252 : IVec S16 32) : Prop :=
  (∀ a x, ((![v83, v252] : Fin 2 → IVec S16 32) a x).toNat < S64x256.size a)
theorem k0_idx121_inb : ∀ (v83 : IVec S16 32) (v252 : IVec S16 32) (k0_hw121 : k0_chk121 v83 v252), ∀ a x, ((![v83, v252] : Fin 2 → IVec S16 32) a x).toNat < S64x256.size a := fun v83 v252 k0_hw121 => k0_hw121

def k0_chk122 (v84 : IVec S16 32) (v259 : IVec S16 32) : Prop :=
  (∀ a x, ((![v84, v259] : Fin 2 → IVec S16 32) a x).toNat < S64x256.size a)
theorem k0_idx122_inb : ∀ (v84 : IVec S16 32) (v259 : IVec S16 32) (k0_hw122 : k0_chk122 v84 v259), ∀ a x, ((![v84, v259] : Fin 2 → IVec S16 32) a x).toNat < S64x256.size a := fun v84 v259 k0_hw122 => k0_hw122

def k0_chk123 (v85 : IVec S16 32) (v266 : IVec S16 32) : Prop :=
  (∀ a x, ((![v85, v266] : Fin 2 → IVec S16 32) a x).toNat < S64x256.size a)
theorem k0_idx123_inb : ∀ (v85 : IVec S16 32) (v266 : IVec S16 32) (k0_hw123 : k0_chk123 v85 v266), ∀ a x, ((![v85, v266] : Fin 2 → IVec S16 32) a x).toNat < S64x256.size a := fun v85 v266 k0_hw123 => k0_hw123

def k0_chk124 (v86 : IVec S16 32) (v273 : IVec S16 32) : Prop :=
  (∀ a x, ((![v86, v273] : Fin 2 → IVec S16 32) a x).toNat < S64x256.size a)
theorem k0_idx124_inb : ∀ (v86 : IVec S16 32) (v273 : IVec S16 32) (k0_hw124 : k0_chk124 v86 v273), ∀ a x, ((![v86, v273] : Fin 2 → IVec S16 32) a x).toNat < S64x256.size a := fun v86 v273 k0_hw124 => k0_hw124

def k0_chk125 (v87 : IVec S16 32) (v280 : IVec S16 32) : Prop :=
  (∀ a x, ((![v87, v280] : Fin 2 → IVec S16 32) a x).toNat < S64x256.size a)
theorem k0_idx125_inb : ∀ (v87 : IVec S16 32) (v280 : IVec S16 32) (k0_hw125 : k0_chk125 v87 v280), ∀ a x, ((![v87, v280] : Fin 2 → IVec S16 32) a x).toNat < S64x256.size a := fun v87 v280 k0_hw125 => k0_hw125

def k0_chk126 (v88 : IVec S16 32) (v287 : IVec S16 32) : Prop :=
  (∀ a x, ((![v88, v287] : Fin 2 → IVec S16 32) a x).toNat < S64x256.size a)
theorem k0_idx126_inb : ∀ (v88 : IVec S16 32) (v287 : IVec S16 32) (k0_hw126 : k0_chk126 v88 v287), ∀ a x, ((![v88, v287] : Fin 2 → IVec S16 32) a x).toNat < S64x256.size a := fun v88 v287 k0_hw126 => k0_hw126

def k0_chk127 (v89 : IVec S16 32) (v294 : IVec S16 32) : Prop :=
  (∀ a x, ((![v89, v294] : Fin 2 → IVec S16 32) a x).toNat < S64x256.size a)
theorem k0_idx127_inb : ∀ (v89 : IVec S16 32) (v294 : IVec S16 32) (k0_hw127 : k0_chk127 v89 v294), ∀ a x, ((![v89, v294] : Fin 2 → IVec S16 32) a x).toNat < S64x256.size a := fun v89 v294 k0_hw127 => k0_hw127

def k0_chk128 (v90 : IVec S16 32) (v301 : IVec S16 32) : Prop :=
  (∀ a x, ((![v90, v301] : Fin 2 → IVec S16 32) a x).toNat < S64x256.size a)
theorem k0_idx128_inb : ∀ (v90 : IVec S16 32) (v301 : IVec S16 32) (k0_hw128 : k0_chk128 v90 v301), ∀ a x, ((![v90, v301] : Fin 2 → IVec S16 32) a x).toNat < S64x256.size a := fun v90 v301 k0_hw128 => k0_hw128
def k0_off51 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v307 : Index := Scalar.indexCast v68
  let c48 : Index := 48#32
  ![v307.toNat, 48]

def k0_chk129 (v83 : IVec S16 32) (v324 : IVec S16 32) : Prop :=
  (∀ a x, ((![v83, v324] : Fin 2 → IVec S16 32) a x).toNat < S64x256.size a)
theorem k0_idx129_inb : ∀ (v83 : IVec S16 32) (v324 : IVec S16 32) (k0_hw129 : k0_chk129 v83 v324), ∀ a x, ((![v83, v324] : Fin 2 → IVec S16 32) a x).toNat < S64x256.size a := fun v83 v324 k0_hw129 => k0_hw129

def k0_chk130 (v84 : IVec S16 32) (v331 : IVec S16 32) : Prop :=
  (∀ a x, ((![v84, v331] : Fin 2 → IVec S16 32) a x).toNat < S64x256.size a)
theorem k0_idx130_inb : ∀ (v84 : IVec S16 32) (v331 : IVec S16 32) (k0_hw130 : k0_chk130 v84 v331), ∀ a x, ((![v84, v331] : Fin 2 → IVec S16 32) a x).toNat < S64x256.size a := fun v84 v331 k0_hw130 => k0_hw130

def k0_chk131 (v85 : IVec S16 32) (v338 : IVec S16 32) : Prop :=
  (∀ a x, ((![v85, v338] : Fin 2 → IVec S16 32) a x).toNat < S64x256.size a)
theorem k0_idx131_inb : ∀ (v85 : IVec S16 32) (v338 : IVec S16 32) (k0_hw131 : k0_chk131 v85 v338), ∀ a x, ((![v85, v338] : Fin 2 → IVec S16 32) a x).toNat < S64x256.size a := fun v85 v338 k0_hw131 => k0_hw131

def k0_chk132 (v86 : IVec S16 32) (v345 : IVec S16 32) : Prop :=
  (∀ a x, ((![v86, v345] : Fin 2 → IVec S16 32) a x).toNat < S64x256.size a)
theorem k0_idx132_inb : ∀ (v86 : IVec S16 32) (v345 : IVec S16 32) (k0_hw132 : k0_chk132 v86 v345), ∀ a x, ((![v86, v345] : Fin 2 → IVec S16 32) a x).toNat < S64x256.size a := fun v86 v345 k0_hw132 => k0_hw132

def k0_chk133 (v87 : IVec S16 32) (v352 : IVec S16 32) : Prop :=
  (∀ a x, ((![v87, v352] : Fin 2 → IVec S16 32) a x).toNat < S64x256.size a)
theorem k0_idx133_inb : ∀ (v87 : IVec S16 32) (v352 : IVec S16 32) (k0_hw133 : k0_chk133 v87 v352), ∀ a x, ((![v87, v352] : Fin 2 → IVec S16 32) a x).toNat < S64x256.size a := fun v87 v352 k0_hw133 => k0_hw133

def k0_chk134 (v88 : IVec S16 32) (v359 : IVec S16 32) : Prop :=
  (∀ a x, ((![v88, v359] : Fin 2 → IVec S16 32) a x).toNat < S64x256.size a)
theorem k0_idx134_inb : ∀ (v88 : IVec S16 32) (v359 : IVec S16 32) (k0_hw134 : k0_chk134 v88 v359), ∀ a x, ((![v88, v359] : Fin 2 → IVec S16 32) a x).toNat < S64x256.size a := fun v88 v359 k0_hw134 => k0_hw134

def k0_chk135 (v89 : IVec S16 32) (v366 : IVec S16 32) : Prop :=
  (∀ a x, ((![v89, v366] : Fin 2 → IVec S16 32) a x).toNat < S64x256.size a)
theorem k0_idx135_inb : ∀ (v89 : IVec S16 32) (v366 : IVec S16 32) (k0_hw135 : k0_chk135 v89 v366), ∀ a x, ((![v89, v366] : Fin 2 → IVec S16 32) a x).toNat < S64x256.size a := fun v89 v366 k0_hw135 => k0_hw135

def k0_chk136 (v90 : IVec S16 32) (v373 : IVec S16 32) : Prop :=
  (∀ a x, ((![v90, v373] : Fin 2 → IVec S16 32) a x).toNat < S64x256.size a)
theorem k0_idx136_inb : ∀ (v90 : IVec S16 32) (v373 : IVec S16 32) (k0_hw136 : k0_chk136 v90 v373), ∀ a x, ((![v90, v373] : Fin 2 → IVec S16 32) a x).toNat < S64x256.size a := fun v90 v373 k0_hw136 => k0_hw136
def k0_off52 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v379 : Index := Scalar.indexCast v68
  let c64 : Index := 64#32
  ![v379.toNat, 64]

def k0_chk137 (v83 : IVec S16 32) (v396 : IVec S16 32) : Prop :=
  (∀ a x, ((![v83, v396] : Fin 2 → IVec S16 32) a x).toNat < S64x256.size a)
theorem k0_idx137_inb : ∀ (v83 : IVec S16 32) (v396 : IVec S16 32) (k0_hw137 : k0_chk137 v83 v396), ∀ a x, ((![v83, v396] : Fin 2 → IVec S16 32) a x).toNat < S64x256.size a := fun v83 v396 k0_hw137 => k0_hw137

def k0_chk138 (v84 : IVec S16 32) (v403 : IVec S16 32) : Prop :=
  (∀ a x, ((![v84, v403] : Fin 2 → IVec S16 32) a x).toNat < S64x256.size a)
theorem k0_idx138_inb : ∀ (v84 : IVec S16 32) (v403 : IVec S16 32) (k0_hw138 : k0_chk138 v84 v403), ∀ a x, ((![v84, v403] : Fin 2 → IVec S16 32) a x).toNat < S64x256.size a := fun v84 v403 k0_hw138 => k0_hw138

def k0_chk139 (v85 : IVec S16 32) (v410 : IVec S16 32) : Prop :=
  (∀ a x, ((![v85, v410] : Fin 2 → IVec S16 32) a x).toNat < S64x256.size a)
theorem k0_idx139_inb : ∀ (v85 : IVec S16 32) (v410 : IVec S16 32) (k0_hw139 : k0_chk139 v85 v410), ∀ a x, ((![v85, v410] : Fin 2 → IVec S16 32) a x).toNat < S64x256.size a := fun v85 v410 k0_hw139 => k0_hw139

def k0_chk140 (v86 : IVec S16 32) (v417 : IVec S16 32) : Prop :=
  (∀ a x, ((![v86, v417] : Fin 2 → IVec S16 32) a x).toNat < S64x256.size a)
theorem k0_idx140_inb : ∀ (v86 : IVec S16 32) (v417 : IVec S16 32) (k0_hw140 : k0_chk140 v86 v417), ∀ a x, ((![v86, v417] : Fin 2 → IVec S16 32) a x).toNat < S64x256.size a := fun v86 v417 k0_hw140 => k0_hw140

def k0_chk141 (v87 : IVec S16 32) (v424 : IVec S16 32) : Prop :=
  (∀ a x, ((![v87, v424] : Fin 2 → IVec S16 32) a x).toNat < S64x256.size a)
theorem k0_idx141_inb : ∀ (v87 : IVec S16 32) (v424 : IVec S16 32) (k0_hw141 : k0_chk141 v87 v424), ∀ a x, ((![v87, v424] : Fin 2 → IVec S16 32) a x).toNat < S64x256.size a := fun v87 v424 k0_hw141 => k0_hw141

def k0_chk142 (v88 : IVec S16 32) (v431 : IVec S16 32) : Prop :=
  (∀ a x, ((![v88, v431] : Fin 2 → IVec S16 32) a x).toNat < S64x256.size a)
theorem k0_idx142_inb : ∀ (v88 : IVec S16 32) (v431 : IVec S16 32) (k0_hw142 : k0_chk142 v88 v431), ∀ a x, ((![v88, v431] : Fin 2 → IVec S16 32) a x).toNat < S64x256.size a := fun v88 v431 k0_hw142 => k0_hw142

def k0_chk143 (v89 : IVec S16 32) (v438 : IVec S16 32) : Prop :=
  (∀ a x, ((![v89, v438] : Fin 2 → IVec S16 32) a x).toNat < S64x256.size a)
theorem k0_idx143_inb : ∀ (v89 : IVec S16 32) (v438 : IVec S16 32) (k0_hw143 : k0_chk143 v89 v438), ∀ a x, ((![v89, v438] : Fin 2 → IVec S16 32) a x).toNat < S64x256.size a := fun v89 v438 k0_hw143 => k0_hw143

def k0_chk144 (v90 : IVec S16 32) (v445 : IVec S16 32) : Prop :=
  (∀ a x, ((![v90, v445] : Fin 2 → IVec S16 32) a x).toNat < S64x256.size a)
theorem k0_idx144_inb : ∀ (v90 : IVec S16 32) (v445 : IVec S16 32) (k0_hw144 : k0_chk144 v90 v445), ∀ a x, ((![v90, v445] : Fin 2 → IVec S16 32) a x).toNat < S64x256.size a := fun v90 v445 k0_hw144 => k0_hw144
def k0_off53 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v451 : Index := Scalar.indexCast v68
  let c80 : Index := 80#32
  ![v451.toNat, 80]

def k0_chk145 (v83 : IVec S16 32) (v468 : IVec S16 32) : Prop :=
  (∀ a x, ((![v83, v468] : Fin 2 → IVec S16 32) a x).toNat < S64x256.size a)
theorem k0_idx145_inb : ∀ (v83 : IVec S16 32) (v468 : IVec S16 32) (k0_hw145 : k0_chk145 v83 v468), ∀ a x, ((![v83, v468] : Fin 2 → IVec S16 32) a x).toNat < S64x256.size a := fun v83 v468 k0_hw145 => k0_hw145

def k0_chk146 (v84 : IVec S16 32) (v475 : IVec S16 32) : Prop :=
  (∀ a x, ((![v84, v475] : Fin 2 → IVec S16 32) a x).toNat < S64x256.size a)
theorem k0_idx146_inb : ∀ (v84 : IVec S16 32) (v475 : IVec S16 32) (k0_hw146 : k0_chk146 v84 v475), ∀ a x, ((![v84, v475] : Fin 2 → IVec S16 32) a x).toNat < S64x256.size a := fun v84 v475 k0_hw146 => k0_hw146

def k0_chk147 (v85 : IVec S16 32) (v482 : IVec S16 32) : Prop :=
  (∀ a x, ((![v85, v482] : Fin 2 → IVec S16 32) a x).toNat < S64x256.size a)
theorem k0_idx147_inb : ∀ (v85 : IVec S16 32) (v482 : IVec S16 32) (k0_hw147 : k0_chk147 v85 v482), ∀ a x, ((![v85, v482] : Fin 2 → IVec S16 32) a x).toNat < S64x256.size a := fun v85 v482 k0_hw147 => k0_hw147

def k0_chk148 (v86 : IVec S16 32) (v489 : IVec S16 32) : Prop :=
  (∀ a x, ((![v86, v489] : Fin 2 → IVec S16 32) a x).toNat < S64x256.size a)
theorem k0_idx148_inb : ∀ (v86 : IVec S16 32) (v489 : IVec S16 32) (k0_hw148 : k0_chk148 v86 v489), ∀ a x, ((![v86, v489] : Fin 2 → IVec S16 32) a x).toNat < S64x256.size a := fun v86 v489 k0_hw148 => k0_hw148

def k0_chk149 (v87 : IVec S16 32) (v496 : IVec S16 32) : Prop :=
  (∀ a x, ((![v87, v496] : Fin 2 → IVec S16 32) a x).toNat < S64x256.size a)
theorem k0_idx149_inb : ∀ (v87 : IVec S16 32) (v496 : IVec S16 32) (k0_hw149 : k0_chk149 v87 v496), ∀ a x, ((![v87, v496] : Fin 2 → IVec S16 32) a x).toNat < S64x256.size a := fun v87 v496 k0_hw149 => k0_hw149

def k0_chk150 (v88 : IVec S16 32) (v503 : IVec S16 32) : Prop :=
  (∀ a x, ((![v88, v503] : Fin 2 → IVec S16 32) a x).toNat < S64x256.size a)
theorem k0_idx150_inb : ∀ (v88 : IVec S16 32) (v503 : IVec S16 32) (k0_hw150 : k0_chk150 v88 v503), ∀ a x, ((![v88, v503] : Fin 2 → IVec S16 32) a x).toNat < S64x256.size a := fun v88 v503 k0_hw150 => k0_hw150

def k0_chk151 (v89 : IVec S16 32) (v510 : IVec S16 32) : Prop :=
  (∀ a x, ((![v89, v510] : Fin 2 → IVec S16 32) a x).toNat < S64x256.size a)
theorem k0_idx151_inb : ∀ (v89 : IVec S16 32) (v510 : IVec S16 32) (k0_hw151 : k0_chk151 v89 v510), ∀ a x, ((![v89, v510] : Fin 2 → IVec S16 32) a x).toNat < S64x256.size a := fun v89 v510 k0_hw151 => k0_hw151

def k0_chk152 (v90 : IVec S16 32) (v517 : IVec S16 32) : Prop :=
  (∀ a x, ((![v90, v517] : Fin 2 → IVec S16 32) a x).toNat < S64x256.size a)
theorem k0_idx152_inb : ∀ (v90 : IVec S16 32) (v517 : IVec S16 32) (k0_hw152 : k0_chk152 v90 v517), ∀ a x, ((![v90, v517] : Fin 2 → IVec S16 32) a x).toNat < S64x256.size a := fun v90 v517 k0_hw152 => k0_hw152
def k0_off54 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v523 : Index := Scalar.indexCast v68
  let c96 : Index := 96#32
  ![v523.toNat, 96]

def k0_chk153 (v83 : IVec S16 32) (v540 : IVec S16 32) : Prop :=
  (∀ a x, ((![v83, v540] : Fin 2 → IVec S16 32) a x).toNat < S64x256.size a)
theorem k0_idx153_inb : ∀ (v83 : IVec S16 32) (v540 : IVec S16 32) (k0_hw153 : k0_chk153 v83 v540), ∀ a x, ((![v83, v540] : Fin 2 → IVec S16 32) a x).toNat < S64x256.size a := fun v83 v540 k0_hw153 => k0_hw153

def k0_chk154 (v84 : IVec S16 32) (v547 : IVec S16 32) : Prop :=
  (∀ a x, ((![v84, v547] : Fin 2 → IVec S16 32) a x).toNat < S64x256.size a)
theorem k0_idx154_inb : ∀ (v84 : IVec S16 32) (v547 : IVec S16 32) (k0_hw154 : k0_chk154 v84 v547), ∀ a x, ((![v84, v547] : Fin 2 → IVec S16 32) a x).toNat < S64x256.size a := fun v84 v547 k0_hw154 => k0_hw154

def k0_chk155 (v85 : IVec S16 32) (v554 : IVec S16 32) : Prop :=
  (∀ a x, ((![v85, v554] : Fin 2 → IVec S16 32) a x).toNat < S64x256.size a)
theorem k0_idx155_inb : ∀ (v85 : IVec S16 32) (v554 : IVec S16 32) (k0_hw155 : k0_chk155 v85 v554), ∀ a x, ((![v85, v554] : Fin 2 → IVec S16 32) a x).toNat < S64x256.size a := fun v85 v554 k0_hw155 => k0_hw155

def k0_chk156 (v86 : IVec S16 32) (v561 : IVec S16 32) : Prop :=
  (∀ a x, ((![v86, v561] : Fin 2 → IVec S16 32) a x).toNat < S64x256.size a)
theorem k0_idx156_inb : ∀ (v86 : IVec S16 32) (v561 : IVec S16 32) (k0_hw156 : k0_chk156 v86 v561), ∀ a x, ((![v86, v561] : Fin 2 → IVec S16 32) a x).toNat < S64x256.size a := fun v86 v561 k0_hw156 => k0_hw156

def k0_chk157 (v87 : IVec S16 32) (v568 : IVec S16 32) : Prop :=
  (∀ a x, ((![v87, v568] : Fin 2 → IVec S16 32) a x).toNat < S64x256.size a)
theorem k0_idx157_inb : ∀ (v87 : IVec S16 32) (v568 : IVec S16 32) (k0_hw157 : k0_chk157 v87 v568), ∀ a x, ((![v87, v568] : Fin 2 → IVec S16 32) a x).toNat < S64x256.size a := fun v87 v568 k0_hw157 => k0_hw157

def k0_chk158 (v88 : IVec S16 32) (v575 : IVec S16 32) : Prop :=
  (∀ a x, ((![v88, v575] : Fin 2 → IVec S16 32) a x).toNat < S64x256.size a)
theorem k0_idx158_inb : ∀ (v88 : IVec S16 32) (v575 : IVec S16 32) (k0_hw158 : k0_chk158 v88 v575), ∀ a x, ((![v88, v575] : Fin 2 → IVec S16 32) a x).toNat < S64x256.size a := fun v88 v575 k0_hw158 => k0_hw158

def k0_chk159 (v89 : IVec S16 32) (v582 : IVec S16 32) : Prop :=
  (∀ a x, ((![v89, v582] : Fin 2 → IVec S16 32) a x).toNat < S64x256.size a)
theorem k0_idx159_inb : ∀ (v89 : IVec S16 32) (v582 : IVec S16 32) (k0_hw159 : k0_chk159 v89 v582), ∀ a x, ((![v89, v582] : Fin 2 → IVec S16 32) a x).toNat < S64x256.size a := fun v89 v582 k0_hw159 => k0_hw159

def k0_chk160 (v90 : IVec S16 32) (v589 : IVec S16 32) : Prop :=
  (∀ a x, ((![v90, v589] : Fin 2 → IVec S16 32) a x).toNat < S64x256.size a)
theorem k0_idx160_inb : ∀ (v90 : IVec S16 32) (v589 : IVec S16 32) (k0_hw160 : k0_chk160 v90 v589), ∀ a x, ((![v90, v589] : Fin 2 → IVec S16 32) a x).toNat < S64x256.size a := fun v90 v589 k0_hw160 => k0_hw160
def k0_off55 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v595 : Index := Scalar.indexCast v68
  let c112 : Index := 112#32
  ![v595.toNat, 112]

def k0_chk161 (v83 : IVec S16 32) (v612 : IVec S16 32) : Prop :=
  (∀ a x, ((![v83, v612] : Fin 2 → IVec S16 32) a x).toNat < S64x256.size a)
theorem k0_idx161_inb : ∀ (v83 : IVec S16 32) (v612 : IVec S16 32) (k0_hw161 : k0_chk161 v83 v612), ∀ a x, ((![v83, v612] : Fin 2 → IVec S16 32) a x).toNat < S64x256.size a := fun v83 v612 k0_hw161 => k0_hw161

def k0_chk162 (v84 : IVec S16 32) (v619 : IVec S16 32) : Prop :=
  (∀ a x, ((![v84, v619] : Fin 2 → IVec S16 32) a x).toNat < S64x256.size a)
theorem k0_idx162_inb : ∀ (v84 : IVec S16 32) (v619 : IVec S16 32) (k0_hw162 : k0_chk162 v84 v619), ∀ a x, ((![v84, v619] : Fin 2 → IVec S16 32) a x).toNat < S64x256.size a := fun v84 v619 k0_hw162 => k0_hw162

def k0_chk163 (v85 : IVec S16 32) (v626 : IVec S16 32) : Prop :=
  (∀ a x, ((![v85, v626] : Fin 2 → IVec S16 32) a x).toNat < S64x256.size a)
theorem k0_idx163_inb : ∀ (v85 : IVec S16 32) (v626 : IVec S16 32) (k0_hw163 : k0_chk163 v85 v626), ∀ a x, ((![v85, v626] : Fin 2 → IVec S16 32) a x).toNat < S64x256.size a := fun v85 v626 k0_hw163 => k0_hw163

def k0_chk164 (v86 : IVec S16 32) (v633 : IVec S16 32) : Prop :=
  (∀ a x, ((![v86, v633] : Fin 2 → IVec S16 32) a x).toNat < S64x256.size a)
theorem k0_idx164_inb : ∀ (v86 : IVec S16 32) (v633 : IVec S16 32) (k0_hw164 : k0_chk164 v86 v633), ∀ a x, ((![v86, v633] : Fin 2 → IVec S16 32) a x).toNat < S64x256.size a := fun v86 v633 k0_hw164 => k0_hw164

def k0_chk165 (v87 : IVec S16 32) (v640 : IVec S16 32) : Prop :=
  (∀ a x, ((![v87, v640] : Fin 2 → IVec S16 32) a x).toNat < S64x256.size a)
theorem k0_idx165_inb : ∀ (v87 : IVec S16 32) (v640 : IVec S16 32) (k0_hw165 : k0_chk165 v87 v640), ∀ a x, ((![v87, v640] : Fin 2 → IVec S16 32) a x).toNat < S64x256.size a := fun v87 v640 k0_hw165 => k0_hw165

def k0_chk166 (v88 : IVec S16 32) (v647 : IVec S16 32) : Prop :=
  (∀ a x, ((![v88, v647] : Fin 2 → IVec S16 32) a x).toNat < S64x256.size a)
theorem k0_idx166_inb : ∀ (v88 : IVec S16 32) (v647 : IVec S16 32) (k0_hw166 : k0_chk166 v88 v647), ∀ a x, ((![v88, v647] : Fin 2 → IVec S16 32) a x).toNat < S64x256.size a := fun v88 v647 k0_hw166 => k0_hw166

def k0_chk167 (v89 : IVec S16 32) (v654 : IVec S16 32) : Prop :=
  (∀ a x, ((![v89, v654] : Fin 2 → IVec S16 32) a x).toNat < S64x256.size a)
theorem k0_idx167_inb : ∀ (v89 : IVec S16 32) (v654 : IVec S16 32) (k0_hw167 : k0_chk167 v89 v654), ∀ a x, ((![v89, v654] : Fin 2 → IVec S16 32) a x).toNat < S64x256.size a := fun v89 v654 k0_hw167 => k0_hw167

def k0_chk168 (v90 : IVec S16 32) (v661 : IVec S16 32) : Prop :=
  (∀ a x, ((![v90, v661] : Fin 2 → IVec S16 32) a x).toNat < S64x256.size a)
theorem k0_idx168_inb : ∀ (v90 : IVec S16 32) (v661 : IVec S16 32) (k0_hw168 : k0_chk168 v90 v661), ∀ a x, ((![v90, v661] : Fin 2 → IVec S16 32) a x).toNat < S64x256.size a := fun v90 v661 k0_hw168 => k0_hw168
def k0_off56 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v667 : Index := Scalar.indexCast v68
  let c128 : Index := 128#32
  ![v667.toNat, 128]

def k0_chk169 (v83 : IVec S16 32) (v684 : IVec S16 32) : Prop :=
  (∀ a x, ((![v83, v684] : Fin 2 → IVec S16 32) a x).toNat < S64x256.size a)
theorem k0_idx169_inb : ∀ (v83 : IVec S16 32) (v684 : IVec S16 32) (k0_hw169 : k0_chk169 v83 v684), ∀ a x, ((![v83, v684] : Fin 2 → IVec S16 32) a x).toNat < S64x256.size a := fun v83 v684 k0_hw169 => k0_hw169

def k0_chk170 (v84 : IVec S16 32) (v691 : IVec S16 32) : Prop :=
  (∀ a x, ((![v84, v691] : Fin 2 → IVec S16 32) a x).toNat < S64x256.size a)
theorem k0_idx170_inb : ∀ (v84 : IVec S16 32) (v691 : IVec S16 32) (k0_hw170 : k0_chk170 v84 v691), ∀ a x, ((![v84, v691] : Fin 2 → IVec S16 32) a x).toNat < S64x256.size a := fun v84 v691 k0_hw170 => k0_hw170

def k0_chk171 (v85 : IVec S16 32) (v698 : IVec S16 32) : Prop :=
  (∀ a x, ((![v85, v698] : Fin 2 → IVec S16 32) a x).toNat < S64x256.size a)
theorem k0_idx171_inb : ∀ (v85 : IVec S16 32) (v698 : IVec S16 32) (k0_hw171 : k0_chk171 v85 v698), ∀ a x, ((![v85, v698] : Fin 2 → IVec S16 32) a x).toNat < S64x256.size a := fun v85 v698 k0_hw171 => k0_hw171

def k0_chk172 (v86 : IVec S16 32) (v705 : IVec S16 32) : Prop :=
  (∀ a x, ((![v86, v705] : Fin 2 → IVec S16 32) a x).toNat < S64x256.size a)
theorem k0_idx172_inb : ∀ (v86 : IVec S16 32) (v705 : IVec S16 32) (k0_hw172 : k0_chk172 v86 v705), ∀ a x, ((![v86, v705] : Fin 2 → IVec S16 32) a x).toNat < S64x256.size a := fun v86 v705 k0_hw172 => k0_hw172

def k0_chk173 (v87 : IVec S16 32) (v712 : IVec S16 32) : Prop :=
  (∀ a x, ((![v87, v712] : Fin 2 → IVec S16 32) a x).toNat < S64x256.size a)
theorem k0_idx173_inb : ∀ (v87 : IVec S16 32) (v712 : IVec S16 32) (k0_hw173 : k0_chk173 v87 v712), ∀ a x, ((![v87, v712] : Fin 2 → IVec S16 32) a x).toNat < S64x256.size a := fun v87 v712 k0_hw173 => k0_hw173

def k0_chk174 (v88 : IVec S16 32) (v719 : IVec S16 32) : Prop :=
  (∀ a x, ((![v88, v719] : Fin 2 → IVec S16 32) a x).toNat < S64x256.size a)
theorem k0_idx174_inb : ∀ (v88 : IVec S16 32) (v719 : IVec S16 32) (k0_hw174 : k0_chk174 v88 v719), ∀ a x, ((![v88, v719] : Fin 2 → IVec S16 32) a x).toNat < S64x256.size a := fun v88 v719 k0_hw174 => k0_hw174

def k0_chk175 (v89 : IVec S16 32) (v726 : IVec S16 32) : Prop :=
  (∀ a x, ((![v89, v726] : Fin 2 → IVec S16 32) a x).toNat < S64x256.size a)
theorem k0_idx175_inb : ∀ (v89 : IVec S16 32) (v726 : IVec S16 32) (k0_hw175 : k0_chk175 v89 v726), ∀ a x, ((![v89, v726] : Fin 2 → IVec S16 32) a x).toNat < S64x256.size a := fun v89 v726 k0_hw175 => k0_hw175

def k0_chk176 (v90 : IVec S16 32) (v733 : IVec S16 32) : Prop :=
  (∀ a x, ((![v90, v733] : Fin 2 → IVec S16 32) a x).toNat < S64x256.size a)
theorem k0_idx176_inb : ∀ (v90 : IVec S16 32) (v733 : IVec S16 32) (k0_hw176 : k0_chk176 v90 v733), ∀ a x, ((![v90, v733] : Fin 2 → IVec S16 32) a x).toNat < S64x256.size a := fun v90 v733 k0_hw176 => k0_hw176
def k0_off57 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v739 : Index := Scalar.indexCast v68
  let c144 : Index := 144#32
  ![v739.toNat, 144]

def k0_chk177 (v83 : IVec S16 32) (v756 : IVec S16 32) : Prop :=
  (∀ a x, ((![v83, v756] : Fin 2 → IVec S16 32) a x).toNat < S64x256.size a)
theorem k0_idx177_inb : ∀ (v83 : IVec S16 32) (v756 : IVec S16 32) (k0_hw177 : k0_chk177 v83 v756), ∀ a x, ((![v83, v756] : Fin 2 → IVec S16 32) a x).toNat < S64x256.size a := fun v83 v756 k0_hw177 => k0_hw177

def k0_chk178 (v84 : IVec S16 32) (v763 : IVec S16 32) : Prop :=
  (∀ a x, ((![v84, v763] : Fin 2 → IVec S16 32) a x).toNat < S64x256.size a)
theorem k0_idx178_inb : ∀ (v84 : IVec S16 32) (v763 : IVec S16 32) (k0_hw178 : k0_chk178 v84 v763), ∀ a x, ((![v84, v763] : Fin 2 → IVec S16 32) a x).toNat < S64x256.size a := fun v84 v763 k0_hw178 => k0_hw178

def k0_chk179 (v85 : IVec S16 32) (v770 : IVec S16 32) : Prop :=
  (∀ a x, ((![v85, v770] : Fin 2 → IVec S16 32) a x).toNat < S64x256.size a)
theorem k0_idx179_inb : ∀ (v85 : IVec S16 32) (v770 : IVec S16 32) (k0_hw179 : k0_chk179 v85 v770), ∀ a x, ((![v85, v770] : Fin 2 → IVec S16 32) a x).toNat < S64x256.size a := fun v85 v770 k0_hw179 => k0_hw179

def k0_chk180 (v86 : IVec S16 32) (v777 : IVec S16 32) : Prop :=
  (∀ a x, ((![v86, v777] : Fin 2 → IVec S16 32) a x).toNat < S64x256.size a)
theorem k0_idx180_inb : ∀ (v86 : IVec S16 32) (v777 : IVec S16 32) (k0_hw180 : k0_chk180 v86 v777), ∀ a x, ((![v86, v777] : Fin 2 → IVec S16 32) a x).toNat < S64x256.size a := fun v86 v777 k0_hw180 => k0_hw180

def k0_chk181 (v87 : IVec S16 32) (v784 : IVec S16 32) : Prop :=
  (∀ a x, ((![v87, v784] : Fin 2 → IVec S16 32) a x).toNat < S64x256.size a)
theorem k0_idx181_inb : ∀ (v87 : IVec S16 32) (v784 : IVec S16 32) (k0_hw181 : k0_chk181 v87 v784), ∀ a x, ((![v87, v784] : Fin 2 → IVec S16 32) a x).toNat < S64x256.size a := fun v87 v784 k0_hw181 => k0_hw181

def k0_chk182 (v88 : IVec S16 32) (v791 : IVec S16 32) : Prop :=
  (∀ a x, ((![v88, v791] : Fin 2 → IVec S16 32) a x).toNat < S64x256.size a)
theorem k0_idx182_inb : ∀ (v88 : IVec S16 32) (v791 : IVec S16 32) (k0_hw182 : k0_chk182 v88 v791), ∀ a x, ((![v88, v791] : Fin 2 → IVec S16 32) a x).toNat < S64x256.size a := fun v88 v791 k0_hw182 => k0_hw182

def k0_chk183 (v89 : IVec S16 32) (v798 : IVec S16 32) : Prop :=
  (∀ a x, ((![v89, v798] : Fin 2 → IVec S16 32) a x).toNat < S64x256.size a)
theorem k0_idx183_inb : ∀ (v89 : IVec S16 32) (v798 : IVec S16 32) (k0_hw183 : k0_chk183 v89 v798), ∀ a x, ((![v89, v798] : Fin 2 → IVec S16 32) a x).toNat < S64x256.size a := fun v89 v798 k0_hw183 => k0_hw183

def k0_chk184 (v90 : IVec S16 32) (v805 : IVec S16 32) : Prop :=
  (∀ a x, ((![v90, v805] : Fin 2 → IVec S16 32) a x).toNat < S64x256.size a)
theorem k0_idx184_inb : ∀ (v90 : IVec S16 32) (v805 : IVec S16 32) (k0_hw184 : k0_chk184 v90 v805), ∀ a x, ((![v90, v805] : Fin 2 → IVec S16 32) a x).toNat < S64x256.size a := fun v90 v805 k0_hw184 => k0_hw184
def k0_off58 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v811 : Index := Scalar.indexCast v68
  let c160 : Index := 160#32
  ![v811.toNat, 160]

def k0_chk185 (v83 : IVec S16 32) (v828 : IVec S16 32) : Prop :=
  (∀ a x, ((![v83, v828] : Fin 2 → IVec S16 32) a x).toNat < S64x256.size a)
theorem k0_idx185_inb : ∀ (v83 : IVec S16 32) (v828 : IVec S16 32) (k0_hw185 : k0_chk185 v83 v828), ∀ a x, ((![v83, v828] : Fin 2 → IVec S16 32) a x).toNat < S64x256.size a := fun v83 v828 k0_hw185 => k0_hw185

def k0_chk186 (v84 : IVec S16 32) (v835 : IVec S16 32) : Prop :=
  (∀ a x, ((![v84, v835] : Fin 2 → IVec S16 32) a x).toNat < S64x256.size a)
theorem k0_idx186_inb : ∀ (v84 : IVec S16 32) (v835 : IVec S16 32) (k0_hw186 : k0_chk186 v84 v835), ∀ a x, ((![v84, v835] : Fin 2 → IVec S16 32) a x).toNat < S64x256.size a := fun v84 v835 k0_hw186 => k0_hw186

def k0_chk187 (v85 : IVec S16 32) (v842 : IVec S16 32) : Prop :=
  (∀ a x, ((![v85, v842] : Fin 2 → IVec S16 32) a x).toNat < S64x256.size a)
theorem k0_idx187_inb : ∀ (v85 : IVec S16 32) (v842 : IVec S16 32) (k0_hw187 : k0_chk187 v85 v842), ∀ a x, ((![v85, v842] : Fin 2 → IVec S16 32) a x).toNat < S64x256.size a := fun v85 v842 k0_hw187 => k0_hw187

def k0_chk188 (v86 : IVec S16 32) (v849 : IVec S16 32) : Prop :=
  (∀ a x, ((![v86, v849] : Fin 2 → IVec S16 32) a x).toNat < S64x256.size a)
theorem k0_idx188_inb : ∀ (v86 : IVec S16 32) (v849 : IVec S16 32) (k0_hw188 : k0_chk188 v86 v849), ∀ a x, ((![v86, v849] : Fin 2 → IVec S16 32) a x).toNat < S64x256.size a := fun v86 v849 k0_hw188 => k0_hw188

def k0_chk189 (v87 : IVec S16 32) (v856 : IVec S16 32) : Prop :=
  (∀ a x, ((![v87, v856] : Fin 2 → IVec S16 32) a x).toNat < S64x256.size a)
theorem k0_idx189_inb : ∀ (v87 : IVec S16 32) (v856 : IVec S16 32) (k0_hw189 : k0_chk189 v87 v856), ∀ a x, ((![v87, v856] : Fin 2 → IVec S16 32) a x).toNat < S64x256.size a := fun v87 v856 k0_hw189 => k0_hw189

def k0_chk190 (v88 : IVec S16 32) (v863 : IVec S16 32) : Prop :=
  (∀ a x, ((![v88, v863] : Fin 2 → IVec S16 32) a x).toNat < S64x256.size a)
theorem k0_idx190_inb : ∀ (v88 : IVec S16 32) (v863 : IVec S16 32) (k0_hw190 : k0_chk190 v88 v863), ∀ a x, ((![v88, v863] : Fin 2 → IVec S16 32) a x).toNat < S64x256.size a := fun v88 v863 k0_hw190 => k0_hw190

def k0_chk191 (v89 : IVec S16 32) (v870 : IVec S16 32) : Prop :=
  (∀ a x, ((![v89, v870] : Fin 2 → IVec S16 32) a x).toNat < S64x256.size a)
theorem k0_idx191_inb : ∀ (v89 : IVec S16 32) (v870 : IVec S16 32) (k0_hw191 : k0_chk191 v89 v870), ∀ a x, ((![v89, v870] : Fin 2 → IVec S16 32) a x).toNat < S64x256.size a := fun v89 v870 k0_hw191 => k0_hw191

def k0_chk192 (v90 : IVec S16 32) (v877 : IVec S16 32) : Prop :=
  (∀ a x, ((![v90, v877] : Fin 2 → IVec S16 32) a x).toNat < S64x256.size a)
theorem k0_idx192_inb : ∀ (v90 : IVec S16 32) (v877 : IVec S16 32) (k0_hw192 : k0_chk192 v90 v877), ∀ a x, ((![v90, v877] : Fin 2 → IVec S16 32) a x).toNat < S64x256.size a := fun v90 v877 k0_hw192 => k0_hw192
def k0_off59 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v883 : Index := Scalar.indexCast v68
  let c176 : Index := 176#32
  ![v883.toNat, 176]

def k0_chk193 (v83 : IVec S16 32) (v900 : IVec S16 32) : Prop :=
  (∀ a x, ((![v83, v900] : Fin 2 → IVec S16 32) a x).toNat < S64x256.size a)
theorem k0_idx193_inb : ∀ (v83 : IVec S16 32) (v900 : IVec S16 32) (k0_hw193 : k0_chk193 v83 v900), ∀ a x, ((![v83, v900] : Fin 2 → IVec S16 32) a x).toNat < S64x256.size a := fun v83 v900 k0_hw193 => k0_hw193

def k0_chk194 (v84 : IVec S16 32) (v907 : IVec S16 32) : Prop :=
  (∀ a x, ((![v84, v907] : Fin 2 → IVec S16 32) a x).toNat < S64x256.size a)
theorem k0_idx194_inb : ∀ (v84 : IVec S16 32) (v907 : IVec S16 32) (k0_hw194 : k0_chk194 v84 v907), ∀ a x, ((![v84, v907] : Fin 2 → IVec S16 32) a x).toNat < S64x256.size a := fun v84 v907 k0_hw194 => k0_hw194

def k0_chk195 (v85 : IVec S16 32) (v914 : IVec S16 32) : Prop :=
  (∀ a x, ((![v85, v914] : Fin 2 → IVec S16 32) a x).toNat < S64x256.size a)
theorem k0_idx195_inb : ∀ (v85 : IVec S16 32) (v914 : IVec S16 32) (k0_hw195 : k0_chk195 v85 v914), ∀ a x, ((![v85, v914] : Fin 2 → IVec S16 32) a x).toNat < S64x256.size a := fun v85 v914 k0_hw195 => k0_hw195

def k0_chk196 (v86 : IVec S16 32) (v921 : IVec S16 32) : Prop :=
  (∀ a x, ((![v86, v921] : Fin 2 → IVec S16 32) a x).toNat < S64x256.size a)
theorem k0_idx196_inb : ∀ (v86 : IVec S16 32) (v921 : IVec S16 32) (k0_hw196 : k0_chk196 v86 v921), ∀ a x, ((![v86, v921] : Fin 2 → IVec S16 32) a x).toNat < S64x256.size a := fun v86 v921 k0_hw196 => k0_hw196

def k0_chk197 (v87 : IVec S16 32) (v928 : IVec S16 32) : Prop :=
  (∀ a x, ((![v87, v928] : Fin 2 → IVec S16 32) a x).toNat < S64x256.size a)
theorem k0_idx197_inb : ∀ (v87 : IVec S16 32) (v928 : IVec S16 32) (k0_hw197 : k0_chk197 v87 v928), ∀ a x, ((![v87, v928] : Fin 2 → IVec S16 32) a x).toNat < S64x256.size a := fun v87 v928 k0_hw197 => k0_hw197

def k0_chk198 (v88 : IVec S16 32) (v935 : IVec S16 32) : Prop :=
  (∀ a x, ((![v88, v935] : Fin 2 → IVec S16 32) a x).toNat < S64x256.size a)
theorem k0_idx198_inb : ∀ (v88 : IVec S16 32) (v935 : IVec S16 32) (k0_hw198 : k0_chk198 v88 v935), ∀ a x, ((![v88, v935] : Fin 2 → IVec S16 32) a x).toNat < S64x256.size a := fun v88 v935 k0_hw198 => k0_hw198

def k0_chk199 (v89 : IVec S16 32) (v942 : IVec S16 32) : Prop :=
  (∀ a x, ((![v89, v942] : Fin 2 → IVec S16 32) a x).toNat < S64x256.size a)
theorem k0_idx199_inb : ∀ (v89 : IVec S16 32) (v942 : IVec S16 32) (k0_hw199 : k0_chk199 v89 v942), ∀ a x, ((![v89, v942] : Fin 2 → IVec S16 32) a x).toNat < S64x256.size a := fun v89 v942 k0_hw199 => k0_hw199

def k0_chk200 (v90 : IVec S16 32) (v949 : IVec S16 32) : Prop :=
  (∀ a x, ((![v90, v949] : Fin 2 → IVec S16 32) a x).toNat < S64x256.size a)
theorem k0_idx200_inb : ∀ (v90 : IVec S16 32) (v949 : IVec S16 32) (k0_hw200 : k0_chk200 v90 v949), ∀ a x, ((![v90, v949] : Fin 2 → IVec S16 32) a x).toNat < S64x256.size a := fun v90 v949 k0_hw200 => k0_hw200
def k0_off60 (k0_t4 : Fin k0_t4_loop.trips) (c0_i32_89 : BitVec 32) : Fin 2 → Nat :=
  let c0_i32_36 : BitVec 32 := 0#32
  let c1_i32_38 : BitVec 32 := 1#32
  let arg12 : BitVec 32 := Scf.iv c0_i32_36 c1_i32_38 k0_t4
  let c8_i32_88 : BitVec 32 := 8#32
  let v67 : BitVec 32 := Scalar.muli arg12 c8_i32_88
  let v68 : BitVec 32 := Scalar.addi v67 c0_i32_89
  let v955 : Index := Scalar.indexCast v68
  let c184 : Index := 184#32
  ![v955.toNat, 184]

def k0_chk201 (v83 : IVec S16 32) (v972 : IVec S16 32) : Prop :=
  (∀ a x, ((![v83, v972] : Fin 2 → IVec S16 32) a x).toNat < S64x256.size a)
theorem k0_idx201_inb : ∀ (v83 : IVec S16 32) (v972 : IVec S16 32) (k0_hw201 : k0_chk201 v83 v972), ∀ a x, ((![v83, v972] : Fin 2 → IVec S16 32) a x).toNat < S64x256.size a := fun v83 v972 k0_hw201 => k0_hw201

def k0_chk202 (v84 : IVec S16 32) (v979 : IVec S16 32) : Prop :=
  (∀ a x, ((![v84, v979] : Fin 2 → IVec S16 32) a x).toNat < S64x256.size a)
theorem k0_idx202_inb : ∀ (v84 : IVec S16 32) (v979 : IVec S16 32) (k0_hw202 : k0_chk202 v84 v979), ∀ a x, ((![v84, v979] : Fin 2 → IVec S16 32) a x).toNat < S64x256.size a := fun v84 v979 k0_hw202 => k0_hw202

def k0_chk203 (v85 : IVec S16 32) (v986 : IVec S16 32) : Prop :=
  (∀ a x, ((![v85, v986] : Fin 2 → IVec S16 32) a x).toNat < S64x256.size a)
theorem k0_idx203_inb : ∀ (v85 : IVec S16 32) (v986 : IVec S16 32) (k0_hw203 : k0_chk203 v85 v986), ∀ a x, ((![v85, v986] : Fin 2 → IVec S16 32) a x).toNat < S64x256.size a := fun v85 v986 k0_hw203 => k0_hw203

def k0_chk204 (v86 : IVec S16 32) (v993 : IVec S16 32) : Prop :=
  (∀ a x, ((![v86, v993] : Fin 2 → IVec S16 32) a x).toNat < S64x256.size a)
theorem k0_idx204_inb : ∀ (v86 : IVec S16 32) (v993 : IVec S16 32) (k0_hw204 : k0_chk204 v86 v993), ∀ a x, ((![v86, v993] : Fin 2 → IVec S16 32) a x).toNat < S64x256.size a := fun v86 v993 k0_hw204 => k0_hw204

def k0_chk205 (v87 : IVec S16 32) (v1000 : IVec S16 32) : Prop :=
  (∀ a x, ((![v87, v1000] : Fin 2 → IVec S16 32) a x).toNat < S64x256.size a)
theorem k0_idx205_inb : ∀ (v87 : IVec S16 32) (v1000 : IVec S16 32) (k0_hw205 : k0_chk205 v87 v1000), ∀ a x, ((![v87, v1000] : Fin 2 → IVec S16 32) a x).toNat < S64x256.size a := fun v87 v1000 k0_hw205 => k0_hw205

def k0_chk206 (v88 : IVec S16 32) (v1007 : IVec S16 32) : Prop :=
  (∀ a x, ((![v88, v1007] : Fin 2 → IVec S16 32) a x).toNat < S64x256.size a)
theorem k0_idx206_inb : ∀ (v88 : IVec S16 32) (v1007 : IVec S16 32) (k0_hw206 : k0_chk206 v88 v1007), ∀ a x, ((![v88, v1007] : Fin 2 → IVec S16 32) a x).toNat < S64x256.size a := fun v88 v1007 k0_hw206 => k0_hw206

def k0_chk207 (v89 : IVec S16 32) (v1014 : IVec S16 32) : Prop :=
  (∀ a x, ((![v89, v1014] : Fin 2 → IVec S16 32) a x).toNat < S64x256.size a)
theorem k0_idx207_inb : ∀ (v89 : IVec S16 32) (v1014 : IVec S16 32) (k0_hw207 : k0_chk207 v89 v1014), ∀ a x, ((![v89, v1014] : Fin 2 → IVec S16 32) a x).toNat < S64x256.size a := fun v89 v1014 k0_hw207 => k0_hw207

def k0_chk208 (v90 : IVec S16 32) (v1021 : IVec S16 32) : Prop :=
  (∀ a x, ((![v90, v1021] : Fin 2 → IVec S16 32) a x).toNat < S64x256.size a)
theorem k0_idx208_inb : ∀ (v90 : IVec S16 32) (v1021 : IVec S16 32) (k0_hw208 : k0_chk208 v90 v1021), ∀ a x, ((![v90, v1021] : Fin 2 → IVec S16 32) a x).toNat < S64x256.size a := fun v90 v1021 k0_hw208 => k0_hw208
@[reducible] def k0_t5_loop : Scf.Loop 32 :=
  let c0_i32_53 : BitVec 32 := 0#32
  let c64_i32_54 : BitVec 32 := 64#32
  let v47 : BitVec 32 := Scalar.addi c0_i32_53 c64_i32_54
  let c1_i32_55 : BitVec 32 := 1#32
  ⟨c0_i32_53, v47, c1_i32_55⟩
def k0_off61 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v67 : Index := Scalar.indexCast arg12
  let c0 : Index := 0#32
  ![v67.toNat, 0]
def k0_off62 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v69 : Index := Scalar.indexCast arg12
  let c16 : Index := 16#32
  ![v69.toNat, 16]
def k0_off63 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v71 : Index := Scalar.indexCast arg12
  let c32 : Index := 32#32
  ![v71.toNat, 32]
def k0_off64 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v73 : Index := Scalar.indexCast arg12
  let c48 : Index := 48#32
  ![v73.toNat, 48]
def k0_off65 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v75 : Index := Scalar.indexCast arg12
  let c64 : Index := 64#32
  ![v75.toNat, 64]
def k0_off66 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v77 : Index := Scalar.indexCast arg12
  let c80 : Index := 80#32
  ![v77.toNat, 80]
def k0_off67 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v79 : Index := Scalar.indexCast arg12
  let c96 : Index := 96#32
  ![v79.toNat, 96]
def k0_off68 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v81 : Index := Scalar.indexCast arg12
  let c112 : Index := 112#32
  ![v81.toNat, 112]
def k0_off69 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v83 : Index := Scalar.indexCast arg12
  let c128 : Index := 128#32
  ![v83.toNat, 128]
def k0_off70 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v85 : Index := Scalar.indexCast arg12
  let c144 : Index := 144#32
  ![v85.toNat, 144]
def k0_off71 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v87 : Index := Scalar.indexCast arg12
  let c160 : Index := 160#32
  ![v87.toNat, 160]
def k0_off72 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v89 : Index := Scalar.indexCast arg12
  let c176 : Index := 176#32
  ![v89.toNat, 176]
def k0_off73 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v91 : Index := Scalar.indexCast arg12
  let c192 : Index := 192#32
  ![v91.toNat, 192]
def k0_off74 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v93 : Index := Scalar.indexCast arg12
  let c208 : Index := 208#32
  ![v93.toNat, 208]
def k0_off75 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v95 : Index := Scalar.indexCast arg12
  let c224 : Index := 224#32
  ![v95.toNat, 224]
def k0_off76 (k0_t5 : Fin k0_t5_loop.trips) : Fin 2 → Nat :=
  let c0_i32_53 : BitVec 32 := 0#32
  let c1_i32_55 : BitVec 32 := 1#32
  let arg12 : BitVec 32 := Scf.iv c0_i32_53 c1_i32_55 k0_t5
  let v97 : Index := Scalar.indexCast arg12
  let c240 : Index := 240#32
  ![v97.toNat, 240]
@[reducible] def k0_t6_loop : Scf.Loop 32 :=
  let c0_i32_58 : BitVec 32 := 0#32
  let c8_i32_59 : BitVec 32 := 8#32
  let v48 : BitVec 32 := Scalar.addi c0_i32_58 c8_i32_59
  let c1_i32_60 : BitVec 32 := 1#32
  ⟨c0_i32_58, v48, c1_i32_60⟩
def k0_off77 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v91 : Index := Scalar.indexCast v68
  let c0 : Index := 0#32
  ![v91.toNat, 0]

def k0_chk209 (v83 : IVec S16 32) (v108 : IVec S16 32) : Prop :=
  (∀ a x, ((![v83, v108] : Fin 2 → IVec S16 32) a x).toNat < S64x256.size a)
theorem k0_idx209_inb : ∀ (v83 : IVec S16 32) (v108 : IVec S16 32) (k0_hw209 : k0_chk209 v83 v108), ∀ a x, ((![v83, v108] : Fin 2 → IVec S16 32) a x).toNat < S64x256.size a := fun v83 v108 k0_hw209 => k0_hw209

def k0_chk210 (v84 : IVec S16 32) (v115 : IVec S16 32) : Prop :=
  (∀ a x, ((![v84, v115] : Fin 2 → IVec S16 32) a x).toNat < S64x256.size a)
theorem k0_idx210_inb : ∀ (v84 : IVec S16 32) (v115 : IVec S16 32) (k0_hw210 : k0_chk210 v84 v115), ∀ a x, ((![v84, v115] : Fin 2 → IVec S16 32) a x).toNat < S64x256.size a := fun v84 v115 k0_hw210 => k0_hw210

def k0_chk211 (v85 : IVec S16 32) (v122 : IVec S16 32) : Prop :=
  (∀ a x, ((![v85, v122] : Fin 2 → IVec S16 32) a x).toNat < S64x256.size a)
theorem k0_idx211_inb : ∀ (v85 : IVec S16 32) (v122 : IVec S16 32) (k0_hw211 : k0_chk211 v85 v122), ∀ a x, ((![v85, v122] : Fin 2 → IVec S16 32) a x).toNat < S64x256.size a := fun v85 v122 k0_hw211 => k0_hw211

def k0_chk212 (v86 : IVec S16 32) (v129 : IVec S16 32) : Prop :=
  (∀ a x, ((![v86, v129] : Fin 2 → IVec S16 32) a x).toNat < S64x256.size a)
theorem k0_idx212_inb : ∀ (v86 : IVec S16 32) (v129 : IVec S16 32) (k0_hw212 : k0_chk212 v86 v129), ∀ a x, ((![v86, v129] : Fin 2 → IVec S16 32) a x).toNat < S64x256.size a := fun v86 v129 k0_hw212 => k0_hw212

def k0_chk213 (v87 : IVec S16 32) (v136 : IVec S16 32) : Prop :=
  (∀ a x, ((![v87, v136] : Fin 2 → IVec S16 32) a x).toNat < S64x256.size a)
theorem k0_idx213_inb : ∀ (v87 : IVec S16 32) (v136 : IVec S16 32) (k0_hw213 : k0_chk213 v87 v136), ∀ a x, ((![v87, v136] : Fin 2 → IVec S16 32) a x).toNat < S64x256.size a := fun v87 v136 k0_hw213 => k0_hw213

def k0_chk214 (v88 : IVec S16 32) (v143 : IVec S16 32) : Prop :=
  (∀ a x, ((![v88, v143] : Fin 2 → IVec S16 32) a x).toNat < S64x256.size a)
theorem k0_idx214_inb : ∀ (v88 : IVec S16 32) (v143 : IVec S16 32) (k0_hw214 : k0_chk214 v88 v143), ∀ a x, ((![v88, v143] : Fin 2 → IVec S16 32) a x).toNat < S64x256.size a := fun v88 v143 k0_hw214 => k0_hw214

def k0_chk215 (v89 : IVec S16 32) (v150 : IVec S16 32) : Prop :=
  (∀ a x, ((![v89, v150] : Fin 2 → IVec S16 32) a x).toNat < S64x256.size a)
theorem k0_idx215_inb : ∀ (v89 : IVec S16 32) (v150 : IVec S16 32) (k0_hw215 : k0_chk215 v89 v150), ∀ a x, ((![v89, v150] : Fin 2 → IVec S16 32) a x).toNat < S64x256.size a := fun v89 v150 k0_hw215 => k0_hw215

def k0_chk216 (v90 : IVec S16 32) (v157 : IVec S16 32) : Prop :=
  (∀ a x, ((![v90, v157] : Fin 2 → IVec S16 32) a x).toNat < S64x256.size a)
theorem k0_idx216_inb : ∀ (v90 : IVec S16 32) (v157 : IVec S16 32) (k0_hw216 : k0_chk216 v90 v157), ∀ a x, ((![v90, v157] : Fin 2 → IVec S16 32) a x).toNat < S64x256.size a := fun v90 v157 k0_hw216 => k0_hw216
def k0_off78 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v163 : Index := Scalar.indexCast v68
  let c16 : Index := 16#32
  ![v163.toNat, 16]

def k0_chk217 (v83 : IVec S16 32) (v180 : IVec S16 32) : Prop :=
  (∀ a x, ((![v83, v180] : Fin 2 → IVec S16 32) a x).toNat < S64x256.size a)
theorem k0_idx217_inb : ∀ (v83 : IVec S16 32) (v180 : IVec S16 32) (k0_hw217 : k0_chk217 v83 v180), ∀ a x, ((![v83, v180] : Fin 2 → IVec S16 32) a x).toNat < S64x256.size a := fun v83 v180 k0_hw217 => k0_hw217

def k0_chk218 (v84 : IVec S16 32) (v187 : IVec S16 32) : Prop :=
  (∀ a x, ((![v84, v187] : Fin 2 → IVec S16 32) a x).toNat < S64x256.size a)
theorem k0_idx218_inb : ∀ (v84 : IVec S16 32) (v187 : IVec S16 32) (k0_hw218 : k0_chk218 v84 v187), ∀ a x, ((![v84, v187] : Fin 2 → IVec S16 32) a x).toNat < S64x256.size a := fun v84 v187 k0_hw218 => k0_hw218

def k0_chk219 (v85 : IVec S16 32) (v194 : IVec S16 32) : Prop :=
  (∀ a x, ((![v85, v194] : Fin 2 → IVec S16 32) a x).toNat < S64x256.size a)
theorem k0_idx219_inb : ∀ (v85 : IVec S16 32) (v194 : IVec S16 32) (k0_hw219 : k0_chk219 v85 v194), ∀ a x, ((![v85, v194] : Fin 2 → IVec S16 32) a x).toNat < S64x256.size a := fun v85 v194 k0_hw219 => k0_hw219

def k0_chk220 (v86 : IVec S16 32) (v201 : IVec S16 32) : Prop :=
  (∀ a x, ((![v86, v201] : Fin 2 → IVec S16 32) a x).toNat < S64x256.size a)
theorem k0_idx220_inb : ∀ (v86 : IVec S16 32) (v201 : IVec S16 32) (k0_hw220 : k0_chk220 v86 v201), ∀ a x, ((![v86, v201] : Fin 2 → IVec S16 32) a x).toNat < S64x256.size a := fun v86 v201 k0_hw220 => k0_hw220

def k0_chk221 (v87 : IVec S16 32) (v208 : IVec S16 32) : Prop :=
  (∀ a x, ((![v87, v208] : Fin 2 → IVec S16 32) a x).toNat < S64x256.size a)
theorem k0_idx221_inb : ∀ (v87 : IVec S16 32) (v208 : IVec S16 32) (k0_hw221 : k0_chk221 v87 v208), ∀ a x, ((![v87, v208] : Fin 2 → IVec S16 32) a x).toNat < S64x256.size a := fun v87 v208 k0_hw221 => k0_hw221

def k0_chk222 (v88 : IVec S16 32) (v215 : IVec S16 32) : Prop :=
  (∀ a x, ((![v88, v215] : Fin 2 → IVec S16 32) a x).toNat < S64x256.size a)
theorem k0_idx222_inb : ∀ (v88 : IVec S16 32) (v215 : IVec S16 32) (k0_hw222 : k0_chk222 v88 v215), ∀ a x, ((![v88, v215] : Fin 2 → IVec S16 32) a x).toNat < S64x256.size a := fun v88 v215 k0_hw222 => k0_hw222

def k0_chk223 (v89 : IVec S16 32) (v222 : IVec S16 32) : Prop :=
  (∀ a x, ((![v89, v222] : Fin 2 → IVec S16 32) a x).toNat < S64x256.size a)
theorem k0_idx223_inb : ∀ (v89 : IVec S16 32) (v222 : IVec S16 32) (k0_hw223 : k0_chk223 v89 v222), ∀ a x, ((![v89, v222] : Fin 2 → IVec S16 32) a x).toNat < S64x256.size a := fun v89 v222 k0_hw223 => k0_hw223

def k0_chk224 (v90 : IVec S16 32) (v229 : IVec S16 32) : Prop :=
  (∀ a x, ((![v90, v229] : Fin 2 → IVec S16 32) a x).toNat < S64x256.size a)
theorem k0_idx224_inb : ∀ (v90 : IVec S16 32) (v229 : IVec S16 32) (k0_hw224 : k0_chk224 v90 v229), ∀ a x, ((![v90, v229] : Fin 2 → IVec S16 32) a x).toNat < S64x256.size a := fun v90 v229 k0_hw224 => k0_hw224
def k0_off79 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v235 : Index := Scalar.indexCast v68
  let c32 : Index := 32#32
  ![v235.toNat, 32]

def k0_chk225 (v83 : IVec S16 32) (v252 : IVec S16 32) : Prop :=
  (∀ a x, ((![v83, v252] : Fin 2 → IVec S16 32) a x).toNat < S64x256.size a)
theorem k0_idx225_inb : ∀ (v83 : IVec S16 32) (v252 : IVec S16 32) (k0_hw225 : k0_chk225 v83 v252), ∀ a x, ((![v83, v252] : Fin 2 → IVec S16 32) a x).toNat < S64x256.size a := fun v83 v252 k0_hw225 => k0_hw225

def k0_chk226 (v84 : IVec S16 32) (v259 : IVec S16 32) : Prop :=
  (∀ a x, ((![v84, v259] : Fin 2 → IVec S16 32) a x).toNat < S64x256.size a)
theorem k0_idx226_inb : ∀ (v84 : IVec S16 32) (v259 : IVec S16 32) (k0_hw226 : k0_chk226 v84 v259), ∀ a x, ((![v84, v259] : Fin 2 → IVec S16 32) a x).toNat < S64x256.size a := fun v84 v259 k0_hw226 => k0_hw226

def k0_chk227 (v85 : IVec S16 32) (v266 : IVec S16 32) : Prop :=
  (∀ a x, ((![v85, v266] : Fin 2 → IVec S16 32) a x).toNat < S64x256.size a)
theorem k0_idx227_inb : ∀ (v85 : IVec S16 32) (v266 : IVec S16 32) (k0_hw227 : k0_chk227 v85 v266), ∀ a x, ((![v85, v266] : Fin 2 → IVec S16 32) a x).toNat < S64x256.size a := fun v85 v266 k0_hw227 => k0_hw227

def k0_chk228 (v86 : IVec S16 32) (v273 : IVec S16 32) : Prop :=
  (∀ a x, ((![v86, v273] : Fin 2 → IVec S16 32) a x).toNat < S64x256.size a)
theorem k0_idx228_inb : ∀ (v86 : IVec S16 32) (v273 : IVec S16 32) (k0_hw228 : k0_chk228 v86 v273), ∀ a x, ((![v86, v273] : Fin 2 → IVec S16 32) a x).toNat < S64x256.size a := fun v86 v273 k0_hw228 => k0_hw228

def k0_chk229 (v87 : IVec S16 32) (v280 : IVec S16 32) : Prop :=
  (∀ a x, ((![v87, v280] : Fin 2 → IVec S16 32) a x).toNat < S64x256.size a)
theorem k0_idx229_inb : ∀ (v87 : IVec S16 32) (v280 : IVec S16 32) (k0_hw229 : k0_chk229 v87 v280), ∀ a x, ((![v87, v280] : Fin 2 → IVec S16 32) a x).toNat < S64x256.size a := fun v87 v280 k0_hw229 => k0_hw229

def k0_chk230 (v88 : IVec S16 32) (v287 : IVec S16 32) : Prop :=
  (∀ a x, ((![v88, v287] : Fin 2 → IVec S16 32) a x).toNat < S64x256.size a)
theorem k0_idx230_inb : ∀ (v88 : IVec S16 32) (v287 : IVec S16 32) (k0_hw230 : k0_chk230 v88 v287), ∀ a x, ((![v88, v287] : Fin 2 → IVec S16 32) a x).toNat < S64x256.size a := fun v88 v287 k0_hw230 => k0_hw230

def k0_chk231 (v89 : IVec S16 32) (v294 : IVec S16 32) : Prop :=
  (∀ a x, ((![v89, v294] : Fin 2 → IVec S16 32) a x).toNat < S64x256.size a)
theorem k0_idx231_inb : ∀ (v89 : IVec S16 32) (v294 : IVec S16 32) (k0_hw231 : k0_chk231 v89 v294), ∀ a x, ((![v89, v294] : Fin 2 → IVec S16 32) a x).toNat < S64x256.size a := fun v89 v294 k0_hw231 => k0_hw231

def k0_chk232 (v90 : IVec S16 32) (v301 : IVec S16 32) : Prop :=
  (∀ a x, ((![v90, v301] : Fin 2 → IVec S16 32) a x).toNat < S64x256.size a)
theorem k0_idx232_inb : ∀ (v90 : IVec S16 32) (v301 : IVec S16 32) (k0_hw232 : k0_chk232 v90 v301), ∀ a x, ((![v90, v301] : Fin 2 → IVec S16 32) a x).toNat < S64x256.size a := fun v90 v301 k0_hw232 => k0_hw232
def k0_off80 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v307 : Index := Scalar.indexCast v68
  let c48 : Index := 48#32
  ![v307.toNat, 48]

def k0_chk233 (v83 : IVec S16 32) (v324 : IVec S16 32) : Prop :=
  (∀ a x, ((![v83, v324] : Fin 2 → IVec S16 32) a x).toNat < S64x256.size a)
theorem k0_idx233_inb : ∀ (v83 : IVec S16 32) (v324 : IVec S16 32) (k0_hw233 : k0_chk233 v83 v324), ∀ a x, ((![v83, v324] : Fin 2 → IVec S16 32) a x).toNat < S64x256.size a := fun v83 v324 k0_hw233 => k0_hw233

def k0_chk234 (v84 : IVec S16 32) (v331 : IVec S16 32) : Prop :=
  (∀ a x, ((![v84, v331] : Fin 2 → IVec S16 32) a x).toNat < S64x256.size a)
theorem k0_idx234_inb : ∀ (v84 : IVec S16 32) (v331 : IVec S16 32) (k0_hw234 : k0_chk234 v84 v331), ∀ a x, ((![v84, v331] : Fin 2 → IVec S16 32) a x).toNat < S64x256.size a := fun v84 v331 k0_hw234 => k0_hw234

def k0_chk235 (v85 : IVec S16 32) (v338 : IVec S16 32) : Prop :=
  (∀ a x, ((![v85, v338] : Fin 2 → IVec S16 32) a x).toNat < S64x256.size a)
theorem k0_idx235_inb : ∀ (v85 : IVec S16 32) (v338 : IVec S16 32) (k0_hw235 : k0_chk235 v85 v338), ∀ a x, ((![v85, v338] : Fin 2 → IVec S16 32) a x).toNat < S64x256.size a := fun v85 v338 k0_hw235 => k0_hw235

def k0_chk236 (v86 : IVec S16 32) (v345 : IVec S16 32) : Prop :=
  (∀ a x, ((![v86, v345] : Fin 2 → IVec S16 32) a x).toNat < S64x256.size a)
theorem k0_idx236_inb : ∀ (v86 : IVec S16 32) (v345 : IVec S16 32) (k0_hw236 : k0_chk236 v86 v345), ∀ a x, ((![v86, v345] : Fin 2 → IVec S16 32) a x).toNat < S64x256.size a := fun v86 v345 k0_hw236 => k0_hw236

def k0_chk237 (v87 : IVec S16 32) (v352 : IVec S16 32) : Prop :=
  (∀ a x, ((![v87, v352] : Fin 2 → IVec S16 32) a x).toNat < S64x256.size a)
theorem k0_idx237_inb : ∀ (v87 : IVec S16 32) (v352 : IVec S16 32) (k0_hw237 : k0_chk237 v87 v352), ∀ a x, ((![v87, v352] : Fin 2 → IVec S16 32) a x).toNat < S64x256.size a := fun v87 v352 k0_hw237 => k0_hw237

def k0_chk238 (v88 : IVec S16 32) (v359 : IVec S16 32) : Prop :=
  (∀ a x, ((![v88, v359] : Fin 2 → IVec S16 32) a x).toNat < S64x256.size a)
theorem k0_idx238_inb : ∀ (v88 : IVec S16 32) (v359 : IVec S16 32) (k0_hw238 : k0_chk238 v88 v359), ∀ a x, ((![v88, v359] : Fin 2 → IVec S16 32) a x).toNat < S64x256.size a := fun v88 v359 k0_hw238 => k0_hw238

def k0_chk239 (v89 : IVec S16 32) (v366 : IVec S16 32) : Prop :=
  (∀ a x, ((![v89, v366] : Fin 2 → IVec S16 32) a x).toNat < S64x256.size a)
theorem k0_idx239_inb : ∀ (v89 : IVec S16 32) (v366 : IVec S16 32) (k0_hw239 : k0_chk239 v89 v366), ∀ a x, ((![v89, v366] : Fin 2 → IVec S16 32) a x).toNat < S64x256.size a := fun v89 v366 k0_hw239 => k0_hw239

def k0_chk240 (v90 : IVec S16 32) (v373 : IVec S16 32) : Prop :=
  (∀ a x, ((![v90, v373] : Fin 2 → IVec S16 32) a x).toNat < S64x256.size a)
theorem k0_idx240_inb : ∀ (v90 : IVec S16 32) (v373 : IVec S16 32) (k0_hw240 : k0_chk240 v90 v373), ∀ a x, ((![v90, v373] : Fin 2 → IVec S16 32) a x).toNat < S64x256.size a := fun v90 v373 k0_hw240 => k0_hw240
def k0_off81 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v379 : Index := Scalar.indexCast v68
  let c64 : Index := 64#32
  ![v379.toNat, 64]

def k0_chk241 (v83 : IVec S16 32) (v396 : IVec S16 32) : Prop :=
  (∀ a x, ((![v83, v396] : Fin 2 → IVec S16 32) a x).toNat < S64x256.size a)
theorem k0_idx241_inb : ∀ (v83 : IVec S16 32) (v396 : IVec S16 32) (k0_hw241 : k0_chk241 v83 v396), ∀ a x, ((![v83, v396] : Fin 2 → IVec S16 32) a x).toNat < S64x256.size a := fun v83 v396 k0_hw241 => k0_hw241

def k0_chk242 (v84 : IVec S16 32) (v403 : IVec S16 32) : Prop :=
  (∀ a x, ((![v84, v403] : Fin 2 → IVec S16 32) a x).toNat < S64x256.size a)
theorem k0_idx242_inb : ∀ (v84 : IVec S16 32) (v403 : IVec S16 32) (k0_hw242 : k0_chk242 v84 v403), ∀ a x, ((![v84, v403] : Fin 2 → IVec S16 32) a x).toNat < S64x256.size a := fun v84 v403 k0_hw242 => k0_hw242

def k0_chk243 (v85 : IVec S16 32) (v410 : IVec S16 32) : Prop :=
  (∀ a x, ((![v85, v410] : Fin 2 → IVec S16 32) a x).toNat < S64x256.size a)
theorem k0_idx243_inb : ∀ (v85 : IVec S16 32) (v410 : IVec S16 32) (k0_hw243 : k0_chk243 v85 v410), ∀ a x, ((![v85, v410] : Fin 2 → IVec S16 32) a x).toNat < S64x256.size a := fun v85 v410 k0_hw243 => k0_hw243

def k0_chk244 (v86 : IVec S16 32) (v417 : IVec S16 32) : Prop :=
  (∀ a x, ((![v86, v417] : Fin 2 → IVec S16 32) a x).toNat < S64x256.size a)
theorem k0_idx244_inb : ∀ (v86 : IVec S16 32) (v417 : IVec S16 32) (k0_hw244 : k0_chk244 v86 v417), ∀ a x, ((![v86, v417] : Fin 2 → IVec S16 32) a x).toNat < S64x256.size a := fun v86 v417 k0_hw244 => k0_hw244

def k0_chk245 (v87 : IVec S16 32) (v424 : IVec S16 32) : Prop :=
  (∀ a x, ((![v87, v424] : Fin 2 → IVec S16 32) a x).toNat < S64x256.size a)
theorem k0_idx245_inb : ∀ (v87 : IVec S16 32) (v424 : IVec S16 32) (k0_hw245 : k0_chk245 v87 v424), ∀ a x, ((![v87, v424] : Fin 2 → IVec S16 32) a x).toNat < S64x256.size a := fun v87 v424 k0_hw245 => k0_hw245

def k0_chk246 (v88 : IVec S16 32) (v431 : IVec S16 32) : Prop :=
  (∀ a x, ((![v88, v431] : Fin 2 → IVec S16 32) a x).toNat < S64x256.size a)
theorem k0_idx246_inb : ∀ (v88 : IVec S16 32) (v431 : IVec S16 32) (k0_hw246 : k0_chk246 v88 v431), ∀ a x, ((![v88, v431] : Fin 2 → IVec S16 32) a x).toNat < S64x256.size a := fun v88 v431 k0_hw246 => k0_hw246

def k0_chk247 (v89 : IVec S16 32) (v438 : IVec S16 32) : Prop :=
  (∀ a x, ((![v89, v438] : Fin 2 → IVec S16 32) a x).toNat < S64x256.size a)
theorem k0_idx247_inb : ∀ (v89 : IVec S16 32) (v438 : IVec S16 32) (k0_hw247 : k0_chk247 v89 v438), ∀ a x, ((![v89, v438] : Fin 2 → IVec S16 32) a x).toNat < S64x256.size a := fun v89 v438 k0_hw247 => k0_hw247

def k0_chk248 (v90 : IVec S16 32) (v445 : IVec S16 32) : Prop :=
  (∀ a x, ((![v90, v445] : Fin 2 → IVec S16 32) a x).toNat < S64x256.size a)
theorem k0_idx248_inb : ∀ (v90 : IVec S16 32) (v445 : IVec S16 32) (k0_hw248 : k0_chk248 v90 v445), ∀ a x, ((![v90, v445] : Fin 2 → IVec S16 32) a x).toNat < S64x256.size a := fun v90 v445 k0_hw248 => k0_hw248
def k0_off82 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v451 : Index := Scalar.indexCast v68
  let c80 : Index := 80#32
  ![v451.toNat, 80]

def k0_chk249 (v83 : IVec S16 32) (v468 : IVec S16 32) : Prop :=
  (∀ a x, ((![v83, v468] : Fin 2 → IVec S16 32) a x).toNat < S64x256.size a)
theorem k0_idx249_inb : ∀ (v83 : IVec S16 32) (v468 : IVec S16 32) (k0_hw249 : k0_chk249 v83 v468), ∀ a x, ((![v83, v468] : Fin 2 → IVec S16 32) a x).toNat < S64x256.size a := fun v83 v468 k0_hw249 => k0_hw249

def k0_chk250 (v84 : IVec S16 32) (v475 : IVec S16 32) : Prop :=
  (∀ a x, ((![v84, v475] : Fin 2 → IVec S16 32) a x).toNat < S64x256.size a)
theorem k0_idx250_inb : ∀ (v84 : IVec S16 32) (v475 : IVec S16 32) (k0_hw250 : k0_chk250 v84 v475), ∀ a x, ((![v84, v475] : Fin 2 → IVec S16 32) a x).toNat < S64x256.size a := fun v84 v475 k0_hw250 => k0_hw250

def k0_chk251 (v85 : IVec S16 32) (v482 : IVec S16 32) : Prop :=
  (∀ a x, ((![v85, v482] : Fin 2 → IVec S16 32) a x).toNat < S64x256.size a)
theorem k0_idx251_inb : ∀ (v85 : IVec S16 32) (v482 : IVec S16 32) (k0_hw251 : k0_chk251 v85 v482), ∀ a x, ((![v85, v482] : Fin 2 → IVec S16 32) a x).toNat < S64x256.size a := fun v85 v482 k0_hw251 => k0_hw251

def k0_chk252 (v86 : IVec S16 32) (v489 : IVec S16 32) : Prop :=
  (∀ a x, ((![v86, v489] : Fin 2 → IVec S16 32) a x).toNat < S64x256.size a)
theorem k0_idx252_inb : ∀ (v86 : IVec S16 32) (v489 : IVec S16 32) (k0_hw252 : k0_chk252 v86 v489), ∀ a x, ((![v86, v489] : Fin 2 → IVec S16 32) a x).toNat < S64x256.size a := fun v86 v489 k0_hw252 => k0_hw252

def k0_chk253 (v87 : IVec S16 32) (v496 : IVec S16 32) : Prop :=
  (∀ a x, ((![v87, v496] : Fin 2 → IVec S16 32) a x).toNat < S64x256.size a)
theorem k0_idx253_inb : ∀ (v87 : IVec S16 32) (v496 : IVec S16 32) (k0_hw253 : k0_chk253 v87 v496), ∀ a x, ((![v87, v496] : Fin 2 → IVec S16 32) a x).toNat < S64x256.size a := fun v87 v496 k0_hw253 => k0_hw253

def k0_chk254 (v88 : IVec S16 32) (v503 : IVec S16 32) : Prop :=
  (∀ a x, ((![v88, v503] : Fin 2 → IVec S16 32) a x).toNat < S64x256.size a)
theorem k0_idx254_inb : ∀ (v88 : IVec S16 32) (v503 : IVec S16 32) (k0_hw254 : k0_chk254 v88 v503), ∀ a x, ((![v88, v503] : Fin 2 → IVec S16 32) a x).toNat < S64x256.size a := fun v88 v503 k0_hw254 => k0_hw254

def k0_chk255 (v89 : IVec S16 32) (v510 : IVec S16 32) : Prop :=
  (∀ a x, ((![v89, v510] : Fin 2 → IVec S16 32) a x).toNat < S64x256.size a)
theorem k0_idx255_inb : ∀ (v89 : IVec S16 32) (v510 : IVec S16 32) (k0_hw255 : k0_chk255 v89 v510), ∀ a x, ((![v89, v510] : Fin 2 → IVec S16 32) a x).toNat < S64x256.size a := fun v89 v510 k0_hw255 => k0_hw255

def k0_chk256 (v90 : IVec S16 32) (v517 : IVec S16 32) : Prop :=
  (∀ a x, ((![v90, v517] : Fin 2 → IVec S16 32) a x).toNat < S64x256.size a)
theorem k0_idx256_inb : ∀ (v90 : IVec S16 32) (v517 : IVec S16 32) (k0_hw256 : k0_chk256 v90 v517), ∀ a x, ((![v90, v517] : Fin 2 → IVec S16 32) a x).toNat < S64x256.size a := fun v90 v517 k0_hw256 => k0_hw256
def k0_off83 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v523 : Index := Scalar.indexCast v68
  let c96 : Index := 96#32
  ![v523.toNat, 96]

def k0_chk257 (v83 : IVec S16 32) (v540 : IVec S16 32) : Prop :=
  (∀ a x, ((![v83, v540] : Fin 2 → IVec S16 32) a x).toNat < S64x256.size a)
theorem k0_idx257_inb : ∀ (v83 : IVec S16 32) (v540 : IVec S16 32) (k0_hw257 : k0_chk257 v83 v540), ∀ a x, ((![v83, v540] : Fin 2 → IVec S16 32) a x).toNat < S64x256.size a := fun v83 v540 k0_hw257 => k0_hw257

def k0_chk258 (v84 : IVec S16 32) (v547 : IVec S16 32) : Prop :=
  (∀ a x, ((![v84, v547] : Fin 2 → IVec S16 32) a x).toNat < S64x256.size a)
theorem k0_idx258_inb : ∀ (v84 : IVec S16 32) (v547 : IVec S16 32) (k0_hw258 : k0_chk258 v84 v547), ∀ a x, ((![v84, v547] : Fin 2 → IVec S16 32) a x).toNat < S64x256.size a := fun v84 v547 k0_hw258 => k0_hw258

def k0_chk259 (v85 : IVec S16 32) (v554 : IVec S16 32) : Prop :=
  (∀ a x, ((![v85, v554] : Fin 2 → IVec S16 32) a x).toNat < S64x256.size a)
theorem k0_idx259_inb : ∀ (v85 : IVec S16 32) (v554 : IVec S16 32) (k0_hw259 : k0_chk259 v85 v554), ∀ a x, ((![v85, v554] : Fin 2 → IVec S16 32) a x).toNat < S64x256.size a := fun v85 v554 k0_hw259 => k0_hw259

def k0_chk260 (v86 : IVec S16 32) (v561 : IVec S16 32) : Prop :=
  (∀ a x, ((![v86, v561] : Fin 2 → IVec S16 32) a x).toNat < S64x256.size a)
theorem k0_idx260_inb : ∀ (v86 : IVec S16 32) (v561 : IVec S16 32) (k0_hw260 : k0_chk260 v86 v561), ∀ a x, ((![v86, v561] : Fin 2 → IVec S16 32) a x).toNat < S64x256.size a := fun v86 v561 k0_hw260 => k0_hw260

def k0_chk261 (v87 : IVec S16 32) (v568 : IVec S16 32) : Prop :=
  (∀ a x, ((![v87, v568] : Fin 2 → IVec S16 32) a x).toNat < S64x256.size a)
theorem k0_idx261_inb : ∀ (v87 : IVec S16 32) (v568 : IVec S16 32) (k0_hw261 : k0_chk261 v87 v568), ∀ a x, ((![v87, v568] : Fin 2 → IVec S16 32) a x).toNat < S64x256.size a := fun v87 v568 k0_hw261 => k0_hw261

def k0_chk262 (v88 : IVec S16 32) (v575 : IVec S16 32) : Prop :=
  (∀ a x, ((![v88, v575] : Fin 2 → IVec S16 32) a x).toNat < S64x256.size a)
theorem k0_idx262_inb : ∀ (v88 : IVec S16 32) (v575 : IVec S16 32) (k0_hw262 : k0_chk262 v88 v575), ∀ a x, ((![v88, v575] : Fin 2 → IVec S16 32) a x).toNat < S64x256.size a := fun v88 v575 k0_hw262 => k0_hw262

def k0_chk263 (v89 : IVec S16 32) (v582 : IVec S16 32) : Prop :=
  (∀ a x, ((![v89, v582] : Fin 2 → IVec S16 32) a x).toNat < S64x256.size a)
theorem k0_idx263_inb : ∀ (v89 : IVec S16 32) (v582 : IVec S16 32) (k0_hw263 : k0_chk263 v89 v582), ∀ a x, ((![v89, v582] : Fin 2 → IVec S16 32) a x).toNat < S64x256.size a := fun v89 v582 k0_hw263 => k0_hw263

def k0_chk264 (v90 : IVec S16 32) (v589 : IVec S16 32) : Prop :=
  (∀ a x, ((![v90, v589] : Fin 2 → IVec S16 32) a x).toNat < S64x256.size a)
theorem k0_idx264_inb : ∀ (v90 : IVec S16 32) (v589 : IVec S16 32) (k0_hw264 : k0_chk264 v90 v589), ∀ a x, ((![v90, v589] : Fin 2 → IVec S16 32) a x).toNat < S64x256.size a := fun v90 v589 k0_hw264 => k0_hw264
def k0_off84 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v595 : Index := Scalar.indexCast v68
  let c112 : Index := 112#32
  ![v595.toNat, 112]

def k0_chk265 (v83 : IVec S16 32) (v612 : IVec S16 32) : Prop :=
  (∀ a x, ((![v83, v612] : Fin 2 → IVec S16 32) a x).toNat < S64x256.size a)
theorem k0_idx265_inb : ∀ (v83 : IVec S16 32) (v612 : IVec S16 32) (k0_hw265 : k0_chk265 v83 v612), ∀ a x, ((![v83, v612] : Fin 2 → IVec S16 32) a x).toNat < S64x256.size a := fun v83 v612 k0_hw265 => k0_hw265

def k0_chk266 (v84 : IVec S16 32) (v619 : IVec S16 32) : Prop :=
  (∀ a x, ((![v84, v619] : Fin 2 → IVec S16 32) a x).toNat < S64x256.size a)
theorem k0_idx266_inb : ∀ (v84 : IVec S16 32) (v619 : IVec S16 32) (k0_hw266 : k0_chk266 v84 v619), ∀ a x, ((![v84, v619] : Fin 2 → IVec S16 32) a x).toNat < S64x256.size a := fun v84 v619 k0_hw266 => k0_hw266

def k0_chk267 (v85 : IVec S16 32) (v626 : IVec S16 32) : Prop :=
  (∀ a x, ((![v85, v626] : Fin 2 → IVec S16 32) a x).toNat < S64x256.size a)
theorem k0_idx267_inb : ∀ (v85 : IVec S16 32) (v626 : IVec S16 32) (k0_hw267 : k0_chk267 v85 v626), ∀ a x, ((![v85, v626] : Fin 2 → IVec S16 32) a x).toNat < S64x256.size a := fun v85 v626 k0_hw267 => k0_hw267

def k0_chk268 (v86 : IVec S16 32) (v633 : IVec S16 32) : Prop :=
  (∀ a x, ((![v86, v633] : Fin 2 → IVec S16 32) a x).toNat < S64x256.size a)
theorem k0_idx268_inb : ∀ (v86 : IVec S16 32) (v633 : IVec S16 32) (k0_hw268 : k0_chk268 v86 v633), ∀ a x, ((![v86, v633] : Fin 2 → IVec S16 32) a x).toNat < S64x256.size a := fun v86 v633 k0_hw268 => k0_hw268

def k0_chk269 (v87 : IVec S16 32) (v640 : IVec S16 32) : Prop :=
  (∀ a x, ((![v87, v640] : Fin 2 → IVec S16 32) a x).toNat < S64x256.size a)
theorem k0_idx269_inb : ∀ (v87 : IVec S16 32) (v640 : IVec S16 32) (k0_hw269 : k0_chk269 v87 v640), ∀ a x, ((![v87, v640] : Fin 2 → IVec S16 32) a x).toNat < S64x256.size a := fun v87 v640 k0_hw269 => k0_hw269

def k0_chk270 (v88 : IVec S16 32) (v647 : IVec S16 32) : Prop :=
  (∀ a x, ((![v88, v647] : Fin 2 → IVec S16 32) a x).toNat < S64x256.size a)
theorem k0_idx270_inb : ∀ (v88 : IVec S16 32) (v647 : IVec S16 32) (k0_hw270 : k0_chk270 v88 v647), ∀ a x, ((![v88, v647] : Fin 2 → IVec S16 32) a x).toNat < S64x256.size a := fun v88 v647 k0_hw270 => k0_hw270

def k0_chk271 (v89 : IVec S16 32) (v654 : IVec S16 32) : Prop :=
  (∀ a x, ((![v89, v654] : Fin 2 → IVec S16 32) a x).toNat < S64x256.size a)
theorem k0_idx271_inb : ∀ (v89 : IVec S16 32) (v654 : IVec S16 32) (k0_hw271 : k0_chk271 v89 v654), ∀ a x, ((![v89, v654] : Fin 2 → IVec S16 32) a x).toNat < S64x256.size a := fun v89 v654 k0_hw271 => k0_hw271

def k0_chk272 (v90 : IVec S16 32) (v661 : IVec S16 32) : Prop :=
  (∀ a x, ((![v90, v661] : Fin 2 → IVec S16 32) a x).toNat < S64x256.size a)
theorem k0_idx272_inb : ∀ (v90 : IVec S16 32) (v661 : IVec S16 32) (k0_hw272 : k0_chk272 v90 v661), ∀ a x, ((![v90, v661] : Fin 2 → IVec S16 32) a x).toNat < S64x256.size a := fun v90 v661 k0_hw272 => k0_hw272
def k0_off85 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v667 : Index := Scalar.indexCast v68
  let c128 : Index := 128#32
  ![v667.toNat, 128]

def k0_chk273 (v83 : IVec S16 32) (v684 : IVec S16 32) : Prop :=
  (∀ a x, ((![v83, v684] : Fin 2 → IVec S16 32) a x).toNat < S64x256.size a)
theorem k0_idx273_inb : ∀ (v83 : IVec S16 32) (v684 : IVec S16 32) (k0_hw273 : k0_chk273 v83 v684), ∀ a x, ((![v83, v684] : Fin 2 → IVec S16 32) a x).toNat < S64x256.size a := fun v83 v684 k0_hw273 => k0_hw273

def k0_chk274 (v84 : IVec S16 32) (v691 : IVec S16 32) : Prop :=
  (∀ a x, ((![v84, v691] : Fin 2 → IVec S16 32) a x).toNat < S64x256.size a)
theorem k0_idx274_inb : ∀ (v84 : IVec S16 32) (v691 : IVec S16 32) (k0_hw274 : k0_chk274 v84 v691), ∀ a x, ((![v84, v691] : Fin 2 → IVec S16 32) a x).toNat < S64x256.size a := fun v84 v691 k0_hw274 => k0_hw274

def k0_chk275 (v85 : IVec S16 32) (v698 : IVec S16 32) : Prop :=
  (∀ a x, ((![v85, v698] : Fin 2 → IVec S16 32) a x).toNat < S64x256.size a)
theorem k0_idx275_inb : ∀ (v85 : IVec S16 32) (v698 : IVec S16 32) (k0_hw275 : k0_chk275 v85 v698), ∀ a x, ((![v85, v698] : Fin 2 → IVec S16 32) a x).toNat < S64x256.size a := fun v85 v698 k0_hw275 => k0_hw275

def k0_chk276 (v86 : IVec S16 32) (v705 : IVec S16 32) : Prop :=
  (∀ a x, ((![v86, v705] : Fin 2 → IVec S16 32) a x).toNat < S64x256.size a)
theorem k0_idx276_inb : ∀ (v86 : IVec S16 32) (v705 : IVec S16 32) (k0_hw276 : k0_chk276 v86 v705), ∀ a x, ((![v86, v705] : Fin 2 → IVec S16 32) a x).toNat < S64x256.size a := fun v86 v705 k0_hw276 => k0_hw276

def k0_chk277 (v87 : IVec S16 32) (v712 : IVec S16 32) : Prop :=
  (∀ a x, ((![v87, v712] : Fin 2 → IVec S16 32) a x).toNat < S64x256.size a)
theorem k0_idx277_inb : ∀ (v87 : IVec S16 32) (v712 : IVec S16 32) (k0_hw277 : k0_chk277 v87 v712), ∀ a x, ((![v87, v712] : Fin 2 → IVec S16 32) a x).toNat < S64x256.size a := fun v87 v712 k0_hw277 => k0_hw277

def k0_chk278 (v88 : IVec S16 32) (v719 : IVec S16 32) : Prop :=
  (∀ a x, ((![v88, v719] : Fin 2 → IVec S16 32) a x).toNat < S64x256.size a)
theorem k0_idx278_inb : ∀ (v88 : IVec S16 32) (v719 : IVec S16 32) (k0_hw278 : k0_chk278 v88 v719), ∀ a x, ((![v88, v719] : Fin 2 → IVec S16 32) a x).toNat < S64x256.size a := fun v88 v719 k0_hw278 => k0_hw278

def k0_chk279 (v89 : IVec S16 32) (v726 : IVec S16 32) : Prop :=
  (∀ a x, ((![v89, v726] : Fin 2 → IVec S16 32) a x).toNat < S64x256.size a)
theorem k0_idx279_inb : ∀ (v89 : IVec S16 32) (v726 : IVec S16 32) (k0_hw279 : k0_chk279 v89 v726), ∀ a x, ((![v89, v726] : Fin 2 → IVec S16 32) a x).toNat < S64x256.size a := fun v89 v726 k0_hw279 => k0_hw279

def k0_chk280 (v90 : IVec S16 32) (v733 : IVec S16 32) : Prop :=
  (∀ a x, ((![v90, v733] : Fin 2 → IVec S16 32) a x).toNat < S64x256.size a)
theorem k0_idx280_inb : ∀ (v90 : IVec S16 32) (v733 : IVec S16 32) (k0_hw280 : k0_chk280 v90 v733), ∀ a x, ((![v90, v733] : Fin 2 → IVec S16 32) a x).toNat < S64x256.size a := fun v90 v733 k0_hw280 => k0_hw280
def k0_off86 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v739 : Index := Scalar.indexCast v68
  let c144 : Index := 144#32
  ![v739.toNat, 144]

def k0_chk281 (v83 : IVec S16 32) (v756 : IVec S16 32) : Prop :=
  (∀ a x, ((![v83, v756] : Fin 2 → IVec S16 32) a x).toNat < S64x256.size a)
theorem k0_idx281_inb : ∀ (v83 : IVec S16 32) (v756 : IVec S16 32) (k0_hw281 : k0_chk281 v83 v756), ∀ a x, ((![v83, v756] : Fin 2 → IVec S16 32) a x).toNat < S64x256.size a := fun v83 v756 k0_hw281 => k0_hw281

def k0_chk282 (v84 : IVec S16 32) (v763 : IVec S16 32) : Prop :=
  (∀ a x, ((![v84, v763] : Fin 2 → IVec S16 32) a x).toNat < S64x256.size a)
theorem k0_idx282_inb : ∀ (v84 : IVec S16 32) (v763 : IVec S16 32) (k0_hw282 : k0_chk282 v84 v763), ∀ a x, ((![v84, v763] : Fin 2 → IVec S16 32) a x).toNat < S64x256.size a := fun v84 v763 k0_hw282 => k0_hw282

def k0_chk283 (v85 : IVec S16 32) (v770 : IVec S16 32) : Prop :=
  (∀ a x, ((![v85, v770] : Fin 2 → IVec S16 32) a x).toNat < S64x256.size a)
theorem k0_idx283_inb : ∀ (v85 : IVec S16 32) (v770 : IVec S16 32) (k0_hw283 : k0_chk283 v85 v770), ∀ a x, ((![v85, v770] : Fin 2 → IVec S16 32) a x).toNat < S64x256.size a := fun v85 v770 k0_hw283 => k0_hw283

def k0_chk284 (v86 : IVec S16 32) (v777 : IVec S16 32) : Prop :=
  (∀ a x, ((![v86, v777] : Fin 2 → IVec S16 32) a x).toNat < S64x256.size a)
theorem k0_idx284_inb : ∀ (v86 : IVec S16 32) (v777 : IVec S16 32) (k0_hw284 : k0_chk284 v86 v777), ∀ a x, ((![v86, v777] : Fin 2 → IVec S16 32) a x).toNat < S64x256.size a := fun v86 v777 k0_hw284 => k0_hw284

def k0_chk285 (v87 : IVec S16 32) (v784 : IVec S16 32) : Prop :=
  (∀ a x, ((![v87, v784] : Fin 2 → IVec S16 32) a x).toNat < S64x256.size a)
theorem k0_idx285_inb : ∀ (v87 : IVec S16 32) (v784 : IVec S16 32) (k0_hw285 : k0_chk285 v87 v784), ∀ a x, ((![v87, v784] : Fin 2 → IVec S16 32) a x).toNat < S64x256.size a := fun v87 v784 k0_hw285 => k0_hw285

def k0_chk286 (v88 : IVec S16 32) (v791 : IVec S16 32) : Prop :=
  (∀ a x, ((![v88, v791] : Fin 2 → IVec S16 32) a x).toNat < S64x256.size a)
theorem k0_idx286_inb : ∀ (v88 : IVec S16 32) (v791 : IVec S16 32) (k0_hw286 : k0_chk286 v88 v791), ∀ a x, ((![v88, v791] : Fin 2 → IVec S16 32) a x).toNat < S64x256.size a := fun v88 v791 k0_hw286 => k0_hw286

def k0_chk287 (v89 : IVec S16 32) (v798 : IVec S16 32) : Prop :=
  (∀ a x, ((![v89, v798] : Fin 2 → IVec S16 32) a x).toNat < S64x256.size a)
theorem k0_idx287_inb : ∀ (v89 : IVec S16 32) (v798 : IVec S16 32) (k0_hw287 : k0_chk287 v89 v798), ∀ a x, ((![v89, v798] : Fin 2 → IVec S16 32) a x).toNat < S64x256.size a := fun v89 v798 k0_hw287 => k0_hw287

def k0_chk288 (v90 : IVec S16 32) (v805 : IVec S16 32) : Prop :=
  (∀ a x, ((![v90, v805] : Fin 2 → IVec S16 32) a x).toNat < S64x256.size a)
theorem k0_idx288_inb : ∀ (v90 : IVec S16 32) (v805 : IVec S16 32) (k0_hw288 : k0_chk288 v90 v805), ∀ a x, ((![v90, v805] : Fin 2 → IVec S16 32) a x).toNat < S64x256.size a := fun v90 v805 k0_hw288 => k0_hw288
def k0_off87 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v811 : Index := Scalar.indexCast v68
  let c160 : Index := 160#32
  ![v811.toNat, 160]

def k0_chk289 (v83 : IVec S16 32) (v828 : IVec S16 32) : Prop :=
  (∀ a x, ((![v83, v828] : Fin 2 → IVec S16 32) a x).toNat < S64x256.size a)
theorem k0_idx289_inb : ∀ (v83 : IVec S16 32) (v828 : IVec S16 32) (k0_hw289 : k0_chk289 v83 v828), ∀ a x, ((![v83, v828] : Fin 2 → IVec S16 32) a x).toNat < S64x256.size a := fun v83 v828 k0_hw289 => k0_hw289

def k0_chk290 (v84 : IVec S16 32) (v835 : IVec S16 32) : Prop :=
  (∀ a x, ((![v84, v835] : Fin 2 → IVec S16 32) a x).toNat < S64x256.size a)
theorem k0_idx290_inb : ∀ (v84 : IVec S16 32) (v835 : IVec S16 32) (k0_hw290 : k0_chk290 v84 v835), ∀ a x, ((![v84, v835] : Fin 2 → IVec S16 32) a x).toNat < S64x256.size a := fun v84 v835 k0_hw290 => k0_hw290

def k0_chk291 (v85 : IVec S16 32) (v842 : IVec S16 32) : Prop :=
  (∀ a x, ((![v85, v842] : Fin 2 → IVec S16 32) a x).toNat < S64x256.size a)
theorem k0_idx291_inb : ∀ (v85 : IVec S16 32) (v842 : IVec S16 32) (k0_hw291 : k0_chk291 v85 v842), ∀ a x, ((![v85, v842] : Fin 2 → IVec S16 32) a x).toNat < S64x256.size a := fun v85 v842 k0_hw291 => k0_hw291

def k0_chk292 (v86 : IVec S16 32) (v849 : IVec S16 32) : Prop :=
  (∀ a x, ((![v86, v849] : Fin 2 → IVec S16 32) a x).toNat < S64x256.size a)
theorem k0_idx292_inb : ∀ (v86 : IVec S16 32) (v849 : IVec S16 32) (k0_hw292 : k0_chk292 v86 v849), ∀ a x, ((![v86, v849] : Fin 2 → IVec S16 32) a x).toNat < S64x256.size a := fun v86 v849 k0_hw292 => k0_hw292

def k0_chk293 (v87 : IVec S16 32) (v856 : IVec S16 32) : Prop :=
  (∀ a x, ((![v87, v856] : Fin 2 → IVec S16 32) a x).toNat < S64x256.size a)
theorem k0_idx293_inb : ∀ (v87 : IVec S16 32) (v856 : IVec S16 32) (k0_hw293 : k0_chk293 v87 v856), ∀ a x, ((![v87, v856] : Fin 2 → IVec S16 32) a x).toNat < S64x256.size a := fun v87 v856 k0_hw293 => k0_hw293

def k0_chk294 (v88 : IVec S16 32) (v863 : IVec S16 32) : Prop :=
  (∀ a x, ((![v88, v863] : Fin 2 → IVec S16 32) a x).toNat < S64x256.size a)
theorem k0_idx294_inb : ∀ (v88 : IVec S16 32) (v863 : IVec S16 32) (k0_hw294 : k0_chk294 v88 v863), ∀ a x, ((![v88, v863] : Fin 2 → IVec S16 32) a x).toNat < S64x256.size a := fun v88 v863 k0_hw294 => k0_hw294

def k0_chk295 (v89 : IVec S16 32) (v870 : IVec S16 32) : Prop :=
  (∀ a x, ((![v89, v870] : Fin 2 → IVec S16 32) a x).toNat < S64x256.size a)
theorem k0_idx295_inb : ∀ (v89 : IVec S16 32) (v870 : IVec S16 32) (k0_hw295 : k0_chk295 v89 v870), ∀ a x, ((![v89, v870] : Fin 2 → IVec S16 32) a x).toNat < S64x256.size a := fun v89 v870 k0_hw295 => k0_hw295

def k0_chk296 (v90 : IVec S16 32) (v877 : IVec S16 32) : Prop :=
  (∀ a x, ((![v90, v877] : Fin 2 → IVec S16 32) a x).toNat < S64x256.size a)
theorem k0_idx296_inb : ∀ (v90 : IVec S16 32) (v877 : IVec S16 32) (k0_hw296 : k0_chk296 v90 v877), ∀ a x, ((![v90, v877] : Fin 2 → IVec S16 32) a x).toNat < S64x256.size a := fun v90 v877 k0_hw296 => k0_hw296
def k0_off88 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v883 : Index := Scalar.indexCast v68
  let c176 : Index := 176#32
  ![v883.toNat, 176]

def k0_chk297 (v83 : IVec S16 32) (v900 : IVec S16 32) : Prop :=
  (∀ a x, ((![v83, v900] : Fin 2 → IVec S16 32) a x).toNat < S64x256.size a)
theorem k0_idx297_inb : ∀ (v83 : IVec S16 32) (v900 : IVec S16 32) (k0_hw297 : k0_chk297 v83 v900), ∀ a x, ((![v83, v900] : Fin 2 → IVec S16 32) a x).toNat < S64x256.size a := fun v83 v900 k0_hw297 => k0_hw297

def k0_chk298 (v84 : IVec S16 32) (v907 : IVec S16 32) : Prop :=
  (∀ a x, ((![v84, v907] : Fin 2 → IVec S16 32) a x).toNat < S64x256.size a)
theorem k0_idx298_inb : ∀ (v84 : IVec S16 32) (v907 : IVec S16 32) (k0_hw298 : k0_chk298 v84 v907), ∀ a x, ((![v84, v907] : Fin 2 → IVec S16 32) a x).toNat < S64x256.size a := fun v84 v907 k0_hw298 => k0_hw298

def k0_chk299 (v85 : IVec S16 32) (v914 : IVec S16 32) : Prop :=
  (∀ a x, ((![v85, v914] : Fin 2 → IVec S16 32) a x).toNat < S64x256.size a)
theorem k0_idx299_inb : ∀ (v85 : IVec S16 32) (v914 : IVec S16 32) (k0_hw299 : k0_chk299 v85 v914), ∀ a x, ((![v85, v914] : Fin 2 → IVec S16 32) a x).toNat < S64x256.size a := fun v85 v914 k0_hw299 => k0_hw299

def k0_chk300 (v86 : IVec S16 32) (v921 : IVec S16 32) : Prop :=
  (∀ a x, ((![v86, v921] : Fin 2 → IVec S16 32) a x).toNat < S64x256.size a)
theorem k0_idx300_inb : ∀ (v86 : IVec S16 32) (v921 : IVec S16 32) (k0_hw300 : k0_chk300 v86 v921), ∀ a x, ((![v86, v921] : Fin 2 → IVec S16 32) a x).toNat < S64x256.size a := fun v86 v921 k0_hw300 => k0_hw300

def k0_chk301 (v87 : IVec S16 32) (v928 : IVec S16 32) : Prop :=
  (∀ a x, ((![v87, v928] : Fin 2 → IVec S16 32) a x).toNat < S64x256.size a)
theorem k0_idx301_inb : ∀ (v87 : IVec S16 32) (v928 : IVec S16 32) (k0_hw301 : k0_chk301 v87 v928), ∀ a x, ((![v87, v928] : Fin 2 → IVec S16 32) a x).toNat < S64x256.size a := fun v87 v928 k0_hw301 => k0_hw301

def k0_chk302 (v88 : IVec S16 32) (v935 : IVec S16 32) : Prop :=
  (∀ a x, ((![v88, v935] : Fin 2 → IVec S16 32) a x).toNat < S64x256.size a)
theorem k0_idx302_inb : ∀ (v88 : IVec S16 32) (v935 : IVec S16 32) (k0_hw302 : k0_chk302 v88 v935), ∀ a x, ((![v88, v935] : Fin 2 → IVec S16 32) a x).toNat < S64x256.size a := fun v88 v935 k0_hw302 => k0_hw302

def k0_chk303 (v89 : IVec S16 32) (v942 : IVec S16 32) : Prop :=
  (∀ a x, ((![v89, v942] : Fin 2 → IVec S16 32) a x).toNat < S64x256.size a)
theorem k0_idx303_inb : ∀ (v89 : IVec S16 32) (v942 : IVec S16 32) (k0_hw303 : k0_chk303 v89 v942), ∀ a x, ((![v89, v942] : Fin 2 → IVec S16 32) a x).toNat < S64x256.size a := fun v89 v942 k0_hw303 => k0_hw303

def k0_chk304 (v90 : IVec S16 32) (v949 : IVec S16 32) : Prop :=
  (∀ a x, ((![v90, v949] : Fin 2 → IVec S16 32) a x).toNat < S64x256.size a)
theorem k0_idx304_inb : ∀ (v90 : IVec S16 32) (v949 : IVec S16 32) (k0_hw304 : k0_chk304 v90 v949), ∀ a x, ((![v90, v949] : Fin 2 → IVec S16 32) a x).toNat < S64x256.size a := fun v90 v949 k0_hw304 => k0_hw304
def k0_off89 (k0_t6 : Fin k0_t6_loop.trips) (c0_i32_89 : BitVec 32) : Fin 2 → Nat :=
  let c0_i32_58 : BitVec 32 := 0#32
  let c1_i32_60 : BitVec 32 := 1#32
  let arg12 : BitVec 32 := Scf.iv c0_i32_58 c1_i32_60 k0_t6
  let c8_i32_88 : BitVec 32 := 8#32
  let v67 : BitVec 32 := Scalar.muli arg12 c8_i32_88
  let v68 : BitVec 32 := Scalar.addi v67 c0_i32_89
  let v955 : Index := Scalar.indexCast v68
  let c184 : Index := 184#32
  ![v955.toNat, 184]

def k0_chk305 (v83 : IVec S16 32) (v972 : IVec S16 32) : Prop :=
  (∀ a x, ((![v83, v972] : Fin 2 → IVec S16 32) a x).toNat < S64x256.size a)
theorem k0_idx305_inb : ∀ (v83 : IVec S16 32) (v972 : IVec S16 32) (k0_hw305 : k0_chk305 v83 v972), ∀ a x, ((![v83, v972] : Fin 2 → IVec S16 32) a x).toNat < S64x256.size a := fun v83 v972 k0_hw305 => k0_hw305

def k0_chk306 (v84 : IVec S16 32) (v979 : IVec S16 32) : Prop :=
  (∀ a x, ((![v84, v979] : Fin 2 → IVec S16 32) a x).toNat < S64x256.size a)
theorem k0_idx306_inb : ∀ (v84 : IVec S16 32) (v979 : IVec S16 32) (k0_hw306 : k0_chk306 v84 v979), ∀ a x, ((![v84, v979] : Fin 2 → IVec S16 32) a x).toNat < S64x256.size a := fun v84 v979 k0_hw306 => k0_hw306

def k0_chk307 (v85 : IVec S16 32) (v986 : IVec S16 32) : Prop :=
  (∀ a x, ((![v85, v986] : Fin 2 → IVec S16 32) a x).toNat < S64x256.size a)
theorem k0_idx307_inb : ∀ (v85 : IVec S16 32) (v986 : IVec S16 32) (k0_hw307 : k0_chk307 v85 v986), ∀ a x, ((![v85, v986] : Fin 2 → IVec S16 32) a x).toNat < S64x256.size a := fun v85 v986 k0_hw307 => k0_hw307

def k0_chk308 (v86 : IVec S16 32) (v993 : IVec S16 32) : Prop :=
  (∀ a x, ((![v86, v993] : Fin 2 → IVec S16 32) a x).toNat < S64x256.size a)
theorem k0_idx308_inb : ∀ (v86 : IVec S16 32) (v993 : IVec S16 32) (k0_hw308 : k0_chk308 v86 v993), ∀ a x, ((![v86, v993] : Fin 2 → IVec S16 32) a x).toNat < S64x256.size a := fun v86 v993 k0_hw308 => k0_hw308

def k0_chk309 (v87 : IVec S16 32) (v1000 : IVec S16 32) : Prop :=
  (∀ a x, ((![v87, v1000] : Fin 2 → IVec S16 32) a x).toNat < S64x256.size a)
theorem k0_idx309_inb : ∀ (v87 : IVec S16 32) (v1000 : IVec S16 32) (k0_hw309 : k0_chk309 v87 v1000), ∀ a x, ((![v87, v1000] : Fin 2 → IVec S16 32) a x).toNat < S64x256.size a := fun v87 v1000 k0_hw309 => k0_hw309

def k0_chk310 (v88 : IVec S16 32) (v1007 : IVec S16 32) : Prop :=
  (∀ a x, ((![v88, v1007] : Fin 2 → IVec S16 32) a x).toNat < S64x256.size a)
theorem k0_idx310_inb : ∀ (v88 : IVec S16 32) (v1007 : IVec S16 32) (k0_hw310 : k0_chk310 v88 v1007), ∀ a x, ((![v88, v1007] : Fin 2 → IVec S16 32) a x).toNat < S64x256.size a := fun v88 v1007 k0_hw310 => k0_hw310

def k0_chk311 (v89 : IVec S16 32) (v1014 : IVec S16 32) : Prop :=
  (∀ a x, ((![v89, v1014] : Fin 2 → IVec S16 32) a x).toNat < S64x256.size a)
theorem k0_idx311_inb : ∀ (v89 : IVec S16 32) (v1014 : IVec S16 32) (k0_hw311 : k0_chk311 v89 v1014), ∀ a x, ((![v89, v1014] : Fin 2 → IVec S16 32) a x).toNat < S64x256.size a := fun v89 v1014 k0_hw311 => k0_hw311

def k0_chk312 (v90 : IVec S16 32) (v1021 : IVec S16 32) : Prop :=
  (∀ a x, ((![v90, v1021] : Fin 2 → IVec S16 32) a x).toNat < S64x256.size a)
theorem k0_idx312_inb : ∀ (v90 : IVec S16 32) (v1021 : IVec S16 32) (k0_hw312 : k0_chk312 v90 v1021), ∀ a x, ((![v90, v1021] : Fin 2 → IVec S16 32) a x).toNat < S64x256.size a := fun v90 v1021 k0_hw312 => k0_hw312
@[reducible] def k0_t7_loop : Scf.Loop 32 :=
  let c0_i32_71 : BitVec 32 := 0#32
  let c64_i32_72 : BitVec 32 := 64#32
  let v57 : BitVec 32 := Scalar.addi c0_i32_71 c64_i32_72
  let c1_i32_73 : BitVec 32 := 1#32
  ⟨c0_i32_71, v57, c1_i32_73⟩
def k0_off90 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v67 : Index := Scalar.indexCast arg12
  let c0 : Index := 0#32
  ![v67.toNat, 0]
def k0_off91 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v69 : Index := Scalar.indexCast arg12
  let c16 : Index := 16#32
  ![v69.toNat, 16]
def k0_off92 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v71 : Index := Scalar.indexCast arg12
  let c32 : Index := 32#32
  ![v71.toNat, 32]
def k0_off93 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v73 : Index := Scalar.indexCast arg12
  let c48 : Index := 48#32
  ![v73.toNat, 48]
def k0_off94 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v75 : Index := Scalar.indexCast arg12
  let c64 : Index := 64#32
  ![v75.toNat, 64]
def k0_off95 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v77 : Index := Scalar.indexCast arg12
  let c80 : Index := 80#32
  ![v77.toNat, 80]
def k0_off96 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v79 : Index := Scalar.indexCast arg12
  let c96 : Index := 96#32
  ![v79.toNat, 96]
def k0_off97 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v81 : Index := Scalar.indexCast arg12
  let c112 : Index := 112#32
  ![v81.toNat, 112]
def k0_off98 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v83 : Index := Scalar.indexCast arg12
  let c128 : Index := 128#32
  ![v83.toNat, 128]
def k0_off99 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v85 : Index := Scalar.indexCast arg12
  let c144 : Index := 144#32
  ![v85.toNat, 144]
def k0_off100 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v87 : Index := Scalar.indexCast arg12
  let c160 : Index := 160#32
  ![v87.toNat, 160]
def k0_off101 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v89 : Index := Scalar.indexCast arg12
  let c176 : Index := 176#32
  ![v89.toNat, 176]
def k0_off102 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v91 : Index := Scalar.indexCast arg12
  let c192 : Index := 192#32
  ![v91.toNat, 192]
def k0_off103 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v93 : Index := Scalar.indexCast arg12
  let c208 : Index := 208#32
  ![v93.toNat, 208]
def k0_off104 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v95 : Index := Scalar.indexCast arg12
  let c224 : Index := 224#32
  ![v95.toNat, 224]
def k0_off105 (k0_t7 : Fin k0_t7_loop.trips) : Fin 2 → Nat :=
  let c0_i32_71 : BitVec 32 := 0#32
  let c1_i32_73 : BitVec 32 := 1#32
  let arg12 : BitVec 32 := Scf.iv c0_i32_71 c1_i32_73 k0_t7
  let v97 : Index := Scalar.indexCast arg12
  let c240 : Index := 240#32
  ![v97.toNat, 240]
@[reducible] def k0_t8_loop : Scf.Loop 32 :=
  let c0_i32_76 : BitVec 32 := 0#32
  let c8_i32_77 : BitVec 32 := 8#32
  let v58 : BitVec 32 := Scalar.addi c0_i32_76 c8_i32_77
  let c1_i32_78 : BitVec 32 := 1#32
  ⟨c0_i32_76, v58, c1_i32_78⟩
def k0_off106 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v91 : Index := Scalar.indexCast v68
  let c0 : Index := 0#32
  ![v91.toNat, 0]

def k0_chk313 (v83 : IVec S16 32) (v108 : IVec S16 32) : Prop :=
  (∀ a x, ((![v83, v108] : Fin 2 → IVec S16 32) a x).toNat < S64x256.size a)
theorem k0_idx313_inb : ∀ (v83 : IVec S16 32) (v108 : IVec S16 32) (k0_hw313 : k0_chk313 v83 v108), ∀ a x, ((![v83, v108] : Fin 2 → IVec S16 32) a x).toNat < S64x256.size a := fun v83 v108 k0_hw313 => k0_hw313

def k0_chk314 (v84 : IVec S16 32) (v115 : IVec S16 32) : Prop :=
  (∀ a x, ((![v84, v115] : Fin 2 → IVec S16 32) a x).toNat < S64x256.size a)
theorem k0_idx314_inb : ∀ (v84 : IVec S16 32) (v115 : IVec S16 32) (k0_hw314 : k0_chk314 v84 v115), ∀ a x, ((![v84, v115] : Fin 2 → IVec S16 32) a x).toNat < S64x256.size a := fun v84 v115 k0_hw314 => k0_hw314

def k0_chk315 (v85 : IVec S16 32) (v122 : IVec S16 32) : Prop :=
  (∀ a x, ((![v85, v122] : Fin 2 → IVec S16 32) a x).toNat < S64x256.size a)
theorem k0_idx315_inb : ∀ (v85 : IVec S16 32) (v122 : IVec S16 32) (k0_hw315 : k0_chk315 v85 v122), ∀ a x, ((![v85, v122] : Fin 2 → IVec S16 32) a x).toNat < S64x256.size a := fun v85 v122 k0_hw315 => k0_hw315

def k0_chk316 (v86 : IVec S16 32) (v129 : IVec S16 32) : Prop :=
  (∀ a x, ((![v86, v129] : Fin 2 → IVec S16 32) a x).toNat < S64x256.size a)
theorem k0_idx316_inb : ∀ (v86 : IVec S16 32) (v129 : IVec S16 32) (k0_hw316 : k0_chk316 v86 v129), ∀ a x, ((![v86, v129] : Fin 2 → IVec S16 32) a x).toNat < S64x256.size a := fun v86 v129 k0_hw316 => k0_hw316

def k0_chk317 (v87 : IVec S16 32) (v136 : IVec S16 32) : Prop :=
  (∀ a x, ((![v87, v136] : Fin 2 → IVec S16 32) a x).toNat < S64x256.size a)
theorem k0_idx317_inb : ∀ (v87 : IVec S16 32) (v136 : IVec S16 32) (k0_hw317 : k0_chk317 v87 v136), ∀ a x, ((![v87, v136] : Fin 2 → IVec S16 32) a x).toNat < S64x256.size a := fun v87 v136 k0_hw317 => k0_hw317

def k0_chk318 (v88 : IVec S16 32) (v143 : IVec S16 32) : Prop :=
  (∀ a x, ((![v88, v143] : Fin 2 → IVec S16 32) a x).toNat < S64x256.size a)
theorem k0_idx318_inb : ∀ (v88 : IVec S16 32) (v143 : IVec S16 32) (k0_hw318 : k0_chk318 v88 v143), ∀ a x, ((![v88, v143] : Fin 2 → IVec S16 32) a x).toNat < S64x256.size a := fun v88 v143 k0_hw318 => k0_hw318

def k0_chk319 (v89 : IVec S16 32) (v150 : IVec S16 32) : Prop :=
  (∀ a x, ((![v89, v150] : Fin 2 → IVec S16 32) a x).toNat < S64x256.size a)
theorem k0_idx319_inb : ∀ (v89 : IVec S16 32) (v150 : IVec S16 32) (k0_hw319 : k0_chk319 v89 v150), ∀ a x, ((![v89, v150] : Fin 2 → IVec S16 32) a x).toNat < S64x256.size a := fun v89 v150 k0_hw319 => k0_hw319

def k0_chk320 (v90 : IVec S16 32) (v157 : IVec S16 32) : Prop :=
  (∀ a x, ((![v90, v157] : Fin 2 → IVec S16 32) a x).toNat < S64x256.size a)
theorem k0_idx320_inb : ∀ (v90 : IVec S16 32) (v157 : IVec S16 32) (k0_hw320 : k0_chk320 v90 v157), ∀ a x, ((![v90, v157] : Fin 2 → IVec S16 32) a x).toNat < S64x256.size a := fun v90 v157 k0_hw320 => k0_hw320
def k0_off107 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v163 : Index := Scalar.indexCast v68
  let c16 : Index := 16#32
  ![v163.toNat, 16]

def k0_chk321 (v83 : IVec S16 32) (v180 : IVec S16 32) : Prop :=
  (∀ a x, ((![v83, v180] : Fin 2 → IVec S16 32) a x).toNat < S64x256.size a)
theorem k0_idx321_inb : ∀ (v83 : IVec S16 32) (v180 : IVec S16 32) (k0_hw321 : k0_chk321 v83 v180), ∀ a x, ((![v83, v180] : Fin 2 → IVec S16 32) a x).toNat < S64x256.size a := fun v83 v180 k0_hw321 => k0_hw321

def k0_chk322 (v84 : IVec S16 32) (v187 : IVec S16 32) : Prop :=
  (∀ a x, ((![v84, v187] : Fin 2 → IVec S16 32) a x).toNat < S64x256.size a)
theorem k0_idx322_inb : ∀ (v84 : IVec S16 32) (v187 : IVec S16 32) (k0_hw322 : k0_chk322 v84 v187), ∀ a x, ((![v84, v187] : Fin 2 → IVec S16 32) a x).toNat < S64x256.size a := fun v84 v187 k0_hw322 => k0_hw322

def k0_chk323 (v85 : IVec S16 32) (v194 : IVec S16 32) : Prop :=
  (∀ a x, ((![v85, v194] : Fin 2 → IVec S16 32) a x).toNat < S64x256.size a)
theorem k0_idx323_inb : ∀ (v85 : IVec S16 32) (v194 : IVec S16 32) (k0_hw323 : k0_chk323 v85 v194), ∀ a x, ((![v85, v194] : Fin 2 → IVec S16 32) a x).toNat < S64x256.size a := fun v85 v194 k0_hw323 => k0_hw323

def k0_chk324 (v86 : IVec S16 32) (v201 : IVec S16 32) : Prop :=
  (∀ a x, ((![v86, v201] : Fin 2 → IVec S16 32) a x).toNat < S64x256.size a)
theorem k0_idx324_inb : ∀ (v86 : IVec S16 32) (v201 : IVec S16 32) (k0_hw324 : k0_chk324 v86 v201), ∀ a x, ((![v86, v201] : Fin 2 → IVec S16 32) a x).toNat < S64x256.size a := fun v86 v201 k0_hw324 => k0_hw324

def k0_chk325 (v87 : IVec S16 32) (v208 : IVec S16 32) : Prop :=
  (∀ a x, ((![v87, v208] : Fin 2 → IVec S16 32) a x).toNat < S64x256.size a)
theorem k0_idx325_inb : ∀ (v87 : IVec S16 32) (v208 : IVec S16 32) (k0_hw325 : k0_chk325 v87 v208), ∀ a x, ((![v87, v208] : Fin 2 → IVec S16 32) a x).toNat < S64x256.size a := fun v87 v208 k0_hw325 => k0_hw325

def k0_chk326 (v88 : IVec S16 32) (v215 : IVec S16 32) : Prop :=
  (∀ a x, ((![v88, v215] : Fin 2 → IVec S16 32) a x).toNat < S64x256.size a)
theorem k0_idx326_inb : ∀ (v88 : IVec S16 32) (v215 : IVec S16 32) (k0_hw326 : k0_chk326 v88 v215), ∀ a x, ((![v88, v215] : Fin 2 → IVec S16 32) a x).toNat < S64x256.size a := fun v88 v215 k0_hw326 => k0_hw326

def k0_chk327 (v89 : IVec S16 32) (v222 : IVec S16 32) : Prop :=
  (∀ a x, ((![v89, v222] : Fin 2 → IVec S16 32) a x).toNat < S64x256.size a)
theorem k0_idx327_inb : ∀ (v89 : IVec S16 32) (v222 : IVec S16 32) (k0_hw327 : k0_chk327 v89 v222), ∀ a x, ((![v89, v222] : Fin 2 → IVec S16 32) a x).toNat < S64x256.size a := fun v89 v222 k0_hw327 => k0_hw327

def k0_chk328 (v90 : IVec S16 32) (v229 : IVec S16 32) : Prop :=
  (∀ a x, ((![v90, v229] : Fin 2 → IVec S16 32) a x).toNat < S64x256.size a)
theorem k0_idx328_inb : ∀ (v90 : IVec S16 32) (v229 : IVec S16 32) (k0_hw328 : k0_chk328 v90 v229), ∀ a x, ((![v90, v229] : Fin 2 → IVec S16 32) a x).toNat < S64x256.size a := fun v90 v229 k0_hw328 => k0_hw328
def k0_off108 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v235 : Index := Scalar.indexCast v68
  let c32 : Index := 32#32
  ![v235.toNat, 32]

def k0_chk329 (v83 : IVec S16 32) (v252 : IVec S16 32) : Prop :=
  (∀ a x, ((![v83, v252] : Fin 2 → IVec S16 32) a x).toNat < S64x256.size a)
theorem k0_idx329_inb : ∀ (v83 : IVec S16 32) (v252 : IVec S16 32) (k0_hw329 : k0_chk329 v83 v252), ∀ a x, ((![v83, v252] : Fin 2 → IVec S16 32) a x).toNat < S64x256.size a := fun v83 v252 k0_hw329 => k0_hw329

def k0_chk330 (v84 : IVec S16 32) (v259 : IVec S16 32) : Prop :=
  (∀ a x, ((![v84, v259] : Fin 2 → IVec S16 32) a x).toNat < S64x256.size a)
theorem k0_idx330_inb : ∀ (v84 : IVec S16 32) (v259 : IVec S16 32) (k0_hw330 : k0_chk330 v84 v259), ∀ a x, ((![v84, v259] : Fin 2 → IVec S16 32) a x).toNat < S64x256.size a := fun v84 v259 k0_hw330 => k0_hw330

def k0_chk331 (v85 : IVec S16 32) (v266 : IVec S16 32) : Prop :=
  (∀ a x, ((![v85, v266] : Fin 2 → IVec S16 32) a x).toNat < S64x256.size a)
theorem k0_idx331_inb : ∀ (v85 : IVec S16 32) (v266 : IVec S16 32) (k0_hw331 : k0_chk331 v85 v266), ∀ a x, ((![v85, v266] : Fin 2 → IVec S16 32) a x).toNat < S64x256.size a := fun v85 v266 k0_hw331 => k0_hw331

def k0_chk332 (v86 : IVec S16 32) (v273 : IVec S16 32) : Prop :=
  (∀ a x, ((![v86, v273] : Fin 2 → IVec S16 32) a x).toNat < S64x256.size a)
theorem k0_idx332_inb : ∀ (v86 : IVec S16 32) (v273 : IVec S16 32) (k0_hw332 : k0_chk332 v86 v273), ∀ a x, ((![v86, v273] : Fin 2 → IVec S16 32) a x).toNat < S64x256.size a := fun v86 v273 k0_hw332 => k0_hw332

def k0_chk333 (v87 : IVec S16 32) (v280 : IVec S16 32) : Prop :=
  (∀ a x, ((![v87, v280] : Fin 2 → IVec S16 32) a x).toNat < S64x256.size a)
theorem k0_idx333_inb : ∀ (v87 : IVec S16 32) (v280 : IVec S16 32) (k0_hw333 : k0_chk333 v87 v280), ∀ a x, ((![v87, v280] : Fin 2 → IVec S16 32) a x).toNat < S64x256.size a := fun v87 v280 k0_hw333 => k0_hw333

def k0_chk334 (v88 : IVec S16 32) (v287 : IVec S16 32) : Prop :=
  (∀ a x, ((![v88, v287] : Fin 2 → IVec S16 32) a x).toNat < S64x256.size a)
theorem k0_idx334_inb : ∀ (v88 : IVec S16 32) (v287 : IVec S16 32) (k0_hw334 : k0_chk334 v88 v287), ∀ a x, ((![v88, v287] : Fin 2 → IVec S16 32) a x).toNat < S64x256.size a := fun v88 v287 k0_hw334 => k0_hw334

def k0_chk335 (v89 : IVec S16 32) (v294 : IVec S16 32) : Prop :=
  (∀ a x, ((![v89, v294] : Fin 2 → IVec S16 32) a x).toNat < S64x256.size a)
theorem k0_idx335_inb : ∀ (v89 : IVec S16 32) (v294 : IVec S16 32) (k0_hw335 : k0_chk335 v89 v294), ∀ a x, ((![v89, v294] : Fin 2 → IVec S16 32) a x).toNat < S64x256.size a := fun v89 v294 k0_hw335 => k0_hw335

def k0_chk336 (v90 : IVec S16 32) (v301 : IVec S16 32) : Prop :=
  (∀ a x, ((![v90, v301] : Fin 2 → IVec S16 32) a x).toNat < S64x256.size a)
theorem k0_idx336_inb : ∀ (v90 : IVec S16 32) (v301 : IVec S16 32) (k0_hw336 : k0_chk336 v90 v301), ∀ a x, ((![v90, v301] : Fin 2 → IVec S16 32) a x).toNat < S64x256.size a := fun v90 v301 k0_hw336 => k0_hw336
def k0_off109 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v307 : Index := Scalar.indexCast v68
  let c48 : Index := 48#32
  ![v307.toNat, 48]

def k0_chk337 (v83 : IVec S16 32) (v324 : IVec S16 32) : Prop :=
  (∀ a x, ((![v83, v324] : Fin 2 → IVec S16 32) a x).toNat < S64x256.size a)
theorem k0_idx337_inb : ∀ (v83 : IVec S16 32) (v324 : IVec S16 32) (k0_hw337 : k0_chk337 v83 v324), ∀ a x, ((![v83, v324] : Fin 2 → IVec S16 32) a x).toNat < S64x256.size a := fun v83 v324 k0_hw337 => k0_hw337

def k0_chk338 (v84 : IVec S16 32) (v331 : IVec S16 32) : Prop :=
  (∀ a x, ((![v84, v331] : Fin 2 → IVec S16 32) a x).toNat < S64x256.size a)
theorem k0_idx338_inb : ∀ (v84 : IVec S16 32) (v331 : IVec S16 32) (k0_hw338 : k0_chk338 v84 v331), ∀ a x, ((![v84, v331] : Fin 2 → IVec S16 32) a x).toNat < S64x256.size a := fun v84 v331 k0_hw338 => k0_hw338

def k0_chk339 (v85 : IVec S16 32) (v338 : IVec S16 32) : Prop :=
  (∀ a x, ((![v85, v338] : Fin 2 → IVec S16 32) a x).toNat < S64x256.size a)
theorem k0_idx339_inb : ∀ (v85 : IVec S16 32) (v338 : IVec S16 32) (k0_hw339 : k0_chk339 v85 v338), ∀ a x, ((![v85, v338] : Fin 2 → IVec S16 32) a x).toNat < S64x256.size a := fun v85 v338 k0_hw339 => k0_hw339

def k0_chk340 (v86 : IVec S16 32) (v345 : IVec S16 32) : Prop :=
  (∀ a x, ((![v86, v345] : Fin 2 → IVec S16 32) a x).toNat < S64x256.size a)
theorem k0_idx340_inb : ∀ (v86 : IVec S16 32) (v345 : IVec S16 32) (k0_hw340 : k0_chk340 v86 v345), ∀ a x, ((![v86, v345] : Fin 2 → IVec S16 32) a x).toNat < S64x256.size a := fun v86 v345 k0_hw340 => k0_hw340

def k0_chk341 (v87 : IVec S16 32) (v352 : IVec S16 32) : Prop :=
  (∀ a x, ((![v87, v352] : Fin 2 → IVec S16 32) a x).toNat < S64x256.size a)
theorem k0_idx341_inb : ∀ (v87 : IVec S16 32) (v352 : IVec S16 32) (k0_hw341 : k0_chk341 v87 v352), ∀ a x, ((![v87, v352] : Fin 2 → IVec S16 32) a x).toNat < S64x256.size a := fun v87 v352 k0_hw341 => k0_hw341

def k0_chk342 (v88 : IVec S16 32) (v359 : IVec S16 32) : Prop :=
  (∀ a x, ((![v88, v359] : Fin 2 → IVec S16 32) a x).toNat < S64x256.size a)
theorem k0_idx342_inb : ∀ (v88 : IVec S16 32) (v359 : IVec S16 32) (k0_hw342 : k0_chk342 v88 v359), ∀ a x, ((![v88, v359] : Fin 2 → IVec S16 32) a x).toNat < S64x256.size a := fun v88 v359 k0_hw342 => k0_hw342

def k0_chk343 (v89 : IVec S16 32) (v366 : IVec S16 32) : Prop :=
  (∀ a x, ((![v89, v366] : Fin 2 → IVec S16 32) a x).toNat < S64x256.size a)
theorem k0_idx343_inb : ∀ (v89 : IVec S16 32) (v366 : IVec S16 32) (k0_hw343 : k0_chk343 v89 v366), ∀ a x, ((![v89, v366] : Fin 2 → IVec S16 32) a x).toNat < S64x256.size a := fun v89 v366 k0_hw343 => k0_hw343

def k0_chk344 (v90 : IVec S16 32) (v373 : IVec S16 32) : Prop :=
  (∀ a x, ((![v90, v373] : Fin 2 → IVec S16 32) a x).toNat < S64x256.size a)
theorem k0_idx344_inb : ∀ (v90 : IVec S16 32) (v373 : IVec S16 32) (k0_hw344 : k0_chk344 v90 v373), ∀ a x, ((![v90, v373] : Fin 2 → IVec S16 32) a x).toNat < S64x256.size a := fun v90 v373 k0_hw344 => k0_hw344
def k0_off110 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v379 : Index := Scalar.indexCast v68
  let c64 : Index := 64#32
  ![v379.toNat, 64]

def k0_chk345 (v83 : IVec S16 32) (v396 : IVec S16 32) : Prop :=
  (∀ a x, ((![v83, v396] : Fin 2 → IVec S16 32) a x).toNat < S64x256.size a)
theorem k0_idx345_inb : ∀ (v83 : IVec S16 32) (v396 : IVec S16 32) (k0_hw345 : k0_chk345 v83 v396), ∀ a x, ((![v83, v396] : Fin 2 → IVec S16 32) a x).toNat < S64x256.size a := fun v83 v396 k0_hw345 => k0_hw345

def k0_chk346 (v84 : IVec S16 32) (v403 : IVec S16 32) : Prop :=
  (∀ a x, ((![v84, v403] : Fin 2 → IVec S16 32) a x).toNat < S64x256.size a)
theorem k0_idx346_inb : ∀ (v84 : IVec S16 32) (v403 : IVec S16 32) (k0_hw346 : k0_chk346 v84 v403), ∀ a x, ((![v84, v403] : Fin 2 → IVec S16 32) a x).toNat < S64x256.size a := fun v84 v403 k0_hw346 => k0_hw346

def k0_chk347 (v85 : IVec S16 32) (v410 : IVec S16 32) : Prop :=
  (∀ a x, ((![v85, v410] : Fin 2 → IVec S16 32) a x).toNat < S64x256.size a)
theorem k0_idx347_inb : ∀ (v85 : IVec S16 32) (v410 : IVec S16 32) (k0_hw347 : k0_chk347 v85 v410), ∀ a x, ((![v85, v410] : Fin 2 → IVec S16 32) a x).toNat < S64x256.size a := fun v85 v410 k0_hw347 => k0_hw347

def k0_chk348 (v86 : IVec S16 32) (v417 : IVec S16 32) : Prop :=
  (∀ a x, ((![v86, v417] : Fin 2 → IVec S16 32) a x).toNat < S64x256.size a)
theorem k0_idx348_inb : ∀ (v86 : IVec S16 32) (v417 : IVec S16 32) (k0_hw348 : k0_chk348 v86 v417), ∀ a x, ((![v86, v417] : Fin 2 → IVec S16 32) a x).toNat < S64x256.size a := fun v86 v417 k0_hw348 => k0_hw348

def k0_chk349 (v87 : IVec S16 32) (v424 : IVec S16 32) : Prop :=
  (∀ a x, ((![v87, v424] : Fin 2 → IVec S16 32) a x).toNat < S64x256.size a)
theorem k0_idx349_inb : ∀ (v87 : IVec S16 32) (v424 : IVec S16 32) (k0_hw349 : k0_chk349 v87 v424), ∀ a x, ((![v87, v424] : Fin 2 → IVec S16 32) a x).toNat < S64x256.size a := fun v87 v424 k0_hw349 => k0_hw349

def k0_chk350 (v88 : IVec S16 32) (v431 : IVec S16 32) : Prop :=
  (∀ a x, ((![v88, v431] : Fin 2 → IVec S16 32) a x).toNat < S64x256.size a)
theorem k0_idx350_inb : ∀ (v88 : IVec S16 32) (v431 : IVec S16 32) (k0_hw350 : k0_chk350 v88 v431), ∀ a x, ((![v88, v431] : Fin 2 → IVec S16 32) a x).toNat < S64x256.size a := fun v88 v431 k0_hw350 => k0_hw350

def k0_chk351 (v89 : IVec S16 32) (v438 : IVec S16 32) : Prop :=
  (∀ a x, ((![v89, v438] : Fin 2 → IVec S16 32) a x).toNat < S64x256.size a)
theorem k0_idx351_inb : ∀ (v89 : IVec S16 32) (v438 : IVec S16 32) (k0_hw351 : k0_chk351 v89 v438), ∀ a x, ((![v89, v438] : Fin 2 → IVec S16 32) a x).toNat < S64x256.size a := fun v89 v438 k0_hw351 => k0_hw351

def k0_chk352 (v90 : IVec S16 32) (v445 : IVec S16 32) : Prop :=
  (∀ a x, ((![v90, v445] : Fin 2 → IVec S16 32) a x).toNat < S64x256.size a)
theorem k0_idx352_inb : ∀ (v90 : IVec S16 32) (v445 : IVec S16 32) (k0_hw352 : k0_chk352 v90 v445), ∀ a x, ((![v90, v445] : Fin 2 → IVec S16 32) a x).toNat < S64x256.size a := fun v90 v445 k0_hw352 => k0_hw352
def k0_off111 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v451 : Index := Scalar.indexCast v68
  let c80 : Index := 80#32
  ![v451.toNat, 80]

def k0_chk353 (v83 : IVec S16 32) (v468 : IVec S16 32) : Prop :=
  (∀ a x, ((![v83, v468] : Fin 2 → IVec S16 32) a x).toNat < S64x256.size a)
theorem k0_idx353_inb : ∀ (v83 : IVec S16 32) (v468 : IVec S16 32) (k0_hw353 : k0_chk353 v83 v468), ∀ a x, ((![v83, v468] : Fin 2 → IVec S16 32) a x).toNat < S64x256.size a := fun v83 v468 k0_hw353 => k0_hw353

def k0_chk354 (v84 : IVec S16 32) (v475 : IVec S16 32) : Prop :=
  (∀ a x, ((![v84, v475] : Fin 2 → IVec S16 32) a x).toNat < S64x256.size a)
theorem k0_idx354_inb : ∀ (v84 : IVec S16 32) (v475 : IVec S16 32) (k0_hw354 : k0_chk354 v84 v475), ∀ a x, ((![v84, v475] : Fin 2 → IVec S16 32) a x).toNat < S64x256.size a := fun v84 v475 k0_hw354 => k0_hw354

def k0_chk355 (v85 : IVec S16 32) (v482 : IVec S16 32) : Prop :=
  (∀ a x, ((![v85, v482] : Fin 2 → IVec S16 32) a x).toNat < S64x256.size a)
theorem k0_idx355_inb : ∀ (v85 : IVec S16 32) (v482 : IVec S16 32) (k0_hw355 : k0_chk355 v85 v482), ∀ a x, ((![v85, v482] : Fin 2 → IVec S16 32) a x).toNat < S64x256.size a := fun v85 v482 k0_hw355 => k0_hw355

def k0_chk356 (v86 : IVec S16 32) (v489 : IVec S16 32) : Prop :=
  (∀ a x, ((![v86, v489] : Fin 2 → IVec S16 32) a x).toNat < S64x256.size a)
theorem k0_idx356_inb : ∀ (v86 : IVec S16 32) (v489 : IVec S16 32) (k0_hw356 : k0_chk356 v86 v489), ∀ a x, ((![v86, v489] : Fin 2 → IVec S16 32) a x).toNat < S64x256.size a := fun v86 v489 k0_hw356 => k0_hw356

def k0_chk357 (v87 : IVec S16 32) (v496 : IVec S16 32) : Prop :=
  (∀ a x, ((![v87, v496] : Fin 2 → IVec S16 32) a x).toNat < S64x256.size a)
theorem k0_idx357_inb : ∀ (v87 : IVec S16 32) (v496 : IVec S16 32) (k0_hw357 : k0_chk357 v87 v496), ∀ a x, ((![v87, v496] : Fin 2 → IVec S16 32) a x).toNat < S64x256.size a := fun v87 v496 k0_hw357 => k0_hw357

def k0_chk358 (v88 : IVec S16 32) (v503 : IVec S16 32) : Prop :=
  (∀ a x, ((![v88, v503] : Fin 2 → IVec S16 32) a x).toNat < S64x256.size a)
theorem k0_idx358_inb : ∀ (v88 : IVec S16 32) (v503 : IVec S16 32) (k0_hw358 : k0_chk358 v88 v503), ∀ a x, ((![v88, v503] : Fin 2 → IVec S16 32) a x).toNat < S64x256.size a := fun v88 v503 k0_hw358 => k0_hw358

def k0_chk359 (v89 : IVec S16 32) (v510 : IVec S16 32) : Prop :=
  (∀ a x, ((![v89, v510] : Fin 2 → IVec S16 32) a x).toNat < S64x256.size a)
theorem k0_idx359_inb : ∀ (v89 : IVec S16 32) (v510 : IVec S16 32) (k0_hw359 : k0_chk359 v89 v510), ∀ a x, ((![v89, v510] : Fin 2 → IVec S16 32) a x).toNat < S64x256.size a := fun v89 v510 k0_hw359 => k0_hw359

def k0_chk360 (v90 : IVec S16 32) (v517 : IVec S16 32) : Prop :=
  (∀ a x, ((![v90, v517] : Fin 2 → IVec S16 32) a x).toNat < S64x256.size a)
theorem k0_idx360_inb : ∀ (v90 : IVec S16 32) (v517 : IVec S16 32) (k0_hw360 : k0_chk360 v90 v517), ∀ a x, ((![v90, v517] : Fin 2 → IVec S16 32) a x).toNat < S64x256.size a := fun v90 v517 k0_hw360 => k0_hw360
def k0_off112 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v523 : Index := Scalar.indexCast v68
  let c96 : Index := 96#32
  ![v523.toNat, 96]

def k0_chk361 (v83 : IVec S16 32) (v540 : IVec S16 32) : Prop :=
  (∀ a x, ((![v83, v540] : Fin 2 → IVec S16 32) a x).toNat < S64x256.size a)
theorem k0_idx361_inb : ∀ (v83 : IVec S16 32) (v540 : IVec S16 32) (k0_hw361 : k0_chk361 v83 v540), ∀ a x, ((![v83, v540] : Fin 2 → IVec S16 32) a x).toNat < S64x256.size a := fun v83 v540 k0_hw361 => k0_hw361

def k0_chk362 (v84 : IVec S16 32) (v547 : IVec S16 32) : Prop :=
  (∀ a x, ((![v84, v547] : Fin 2 → IVec S16 32) a x).toNat < S64x256.size a)
theorem k0_idx362_inb : ∀ (v84 : IVec S16 32) (v547 : IVec S16 32) (k0_hw362 : k0_chk362 v84 v547), ∀ a x, ((![v84, v547] : Fin 2 → IVec S16 32) a x).toNat < S64x256.size a := fun v84 v547 k0_hw362 => k0_hw362

def k0_chk363 (v85 : IVec S16 32) (v554 : IVec S16 32) : Prop :=
  (∀ a x, ((![v85, v554] : Fin 2 → IVec S16 32) a x).toNat < S64x256.size a)
theorem k0_idx363_inb : ∀ (v85 : IVec S16 32) (v554 : IVec S16 32) (k0_hw363 : k0_chk363 v85 v554), ∀ a x, ((![v85, v554] : Fin 2 → IVec S16 32) a x).toNat < S64x256.size a := fun v85 v554 k0_hw363 => k0_hw363

def k0_chk364 (v86 : IVec S16 32) (v561 : IVec S16 32) : Prop :=
  (∀ a x, ((![v86, v561] : Fin 2 → IVec S16 32) a x).toNat < S64x256.size a)
theorem k0_idx364_inb : ∀ (v86 : IVec S16 32) (v561 : IVec S16 32) (k0_hw364 : k0_chk364 v86 v561), ∀ a x, ((![v86, v561] : Fin 2 → IVec S16 32) a x).toNat < S64x256.size a := fun v86 v561 k0_hw364 => k0_hw364

def k0_chk365 (v87 : IVec S16 32) (v568 : IVec S16 32) : Prop :=
  (∀ a x, ((![v87, v568] : Fin 2 → IVec S16 32) a x).toNat < S64x256.size a)
theorem k0_idx365_inb : ∀ (v87 : IVec S16 32) (v568 : IVec S16 32) (k0_hw365 : k0_chk365 v87 v568), ∀ a x, ((![v87, v568] : Fin 2 → IVec S16 32) a x).toNat < S64x256.size a := fun v87 v568 k0_hw365 => k0_hw365

def k0_chk366 (v88 : IVec S16 32) (v575 : IVec S16 32) : Prop :=
  (∀ a x, ((![v88, v575] : Fin 2 → IVec S16 32) a x).toNat < S64x256.size a)
theorem k0_idx366_inb : ∀ (v88 : IVec S16 32) (v575 : IVec S16 32) (k0_hw366 : k0_chk366 v88 v575), ∀ a x, ((![v88, v575] : Fin 2 → IVec S16 32) a x).toNat < S64x256.size a := fun v88 v575 k0_hw366 => k0_hw366

def k0_chk367 (v89 : IVec S16 32) (v582 : IVec S16 32) : Prop :=
  (∀ a x, ((![v89, v582] : Fin 2 → IVec S16 32) a x).toNat < S64x256.size a)
theorem k0_idx367_inb : ∀ (v89 : IVec S16 32) (v582 : IVec S16 32) (k0_hw367 : k0_chk367 v89 v582), ∀ a x, ((![v89, v582] : Fin 2 → IVec S16 32) a x).toNat < S64x256.size a := fun v89 v582 k0_hw367 => k0_hw367

def k0_chk368 (v90 : IVec S16 32) (v589 : IVec S16 32) : Prop :=
  (∀ a x, ((![v90, v589] : Fin 2 → IVec S16 32) a x).toNat < S64x256.size a)
theorem k0_idx368_inb : ∀ (v90 : IVec S16 32) (v589 : IVec S16 32) (k0_hw368 : k0_chk368 v90 v589), ∀ a x, ((![v90, v589] : Fin 2 → IVec S16 32) a x).toNat < S64x256.size a := fun v90 v589 k0_hw368 => k0_hw368
def k0_off113 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v595 : Index := Scalar.indexCast v68
  let c112 : Index := 112#32
  ![v595.toNat, 112]

def k0_chk369 (v83 : IVec S16 32) (v612 : IVec S16 32) : Prop :=
  (∀ a x, ((![v83, v612] : Fin 2 → IVec S16 32) a x).toNat < S64x256.size a)
theorem k0_idx369_inb : ∀ (v83 : IVec S16 32) (v612 : IVec S16 32) (k0_hw369 : k0_chk369 v83 v612), ∀ a x, ((![v83, v612] : Fin 2 → IVec S16 32) a x).toNat < S64x256.size a := fun v83 v612 k0_hw369 => k0_hw369

def k0_chk370 (v84 : IVec S16 32) (v619 : IVec S16 32) : Prop :=
  (∀ a x, ((![v84, v619] : Fin 2 → IVec S16 32) a x).toNat < S64x256.size a)
theorem k0_idx370_inb : ∀ (v84 : IVec S16 32) (v619 : IVec S16 32) (k0_hw370 : k0_chk370 v84 v619), ∀ a x, ((![v84, v619] : Fin 2 → IVec S16 32) a x).toNat < S64x256.size a := fun v84 v619 k0_hw370 => k0_hw370

def k0_chk371 (v85 : IVec S16 32) (v626 : IVec S16 32) : Prop :=
  (∀ a x, ((![v85, v626] : Fin 2 → IVec S16 32) a x).toNat < S64x256.size a)
theorem k0_idx371_inb : ∀ (v85 : IVec S16 32) (v626 : IVec S16 32) (k0_hw371 : k0_chk371 v85 v626), ∀ a x, ((![v85, v626] : Fin 2 → IVec S16 32) a x).toNat < S64x256.size a := fun v85 v626 k0_hw371 => k0_hw371

def k0_chk372 (v86 : IVec S16 32) (v633 : IVec S16 32) : Prop :=
  (∀ a x, ((![v86, v633] : Fin 2 → IVec S16 32) a x).toNat < S64x256.size a)
theorem k0_idx372_inb : ∀ (v86 : IVec S16 32) (v633 : IVec S16 32) (k0_hw372 : k0_chk372 v86 v633), ∀ a x, ((![v86, v633] : Fin 2 → IVec S16 32) a x).toNat < S64x256.size a := fun v86 v633 k0_hw372 => k0_hw372

def k0_chk373 (v87 : IVec S16 32) (v640 : IVec S16 32) : Prop :=
  (∀ a x, ((![v87, v640] : Fin 2 → IVec S16 32) a x).toNat < S64x256.size a)
theorem k0_idx373_inb : ∀ (v87 : IVec S16 32) (v640 : IVec S16 32) (k0_hw373 : k0_chk373 v87 v640), ∀ a x, ((![v87, v640] : Fin 2 → IVec S16 32) a x).toNat < S64x256.size a := fun v87 v640 k0_hw373 => k0_hw373

def k0_chk374 (v88 : IVec S16 32) (v647 : IVec S16 32) : Prop :=
  (∀ a x, ((![v88, v647] : Fin 2 → IVec S16 32) a x).toNat < S64x256.size a)
theorem k0_idx374_inb : ∀ (v88 : IVec S16 32) (v647 : IVec S16 32) (k0_hw374 : k0_chk374 v88 v647), ∀ a x, ((![v88, v647] : Fin 2 → IVec S16 32) a x).toNat < S64x256.size a := fun v88 v647 k0_hw374 => k0_hw374

def k0_chk375 (v89 : IVec S16 32) (v654 : IVec S16 32) : Prop :=
  (∀ a x, ((![v89, v654] : Fin 2 → IVec S16 32) a x).toNat < S64x256.size a)
theorem k0_idx375_inb : ∀ (v89 : IVec S16 32) (v654 : IVec S16 32) (k0_hw375 : k0_chk375 v89 v654), ∀ a x, ((![v89, v654] : Fin 2 → IVec S16 32) a x).toNat < S64x256.size a := fun v89 v654 k0_hw375 => k0_hw375

def k0_chk376 (v90 : IVec S16 32) (v661 : IVec S16 32) : Prop :=
  (∀ a x, ((![v90, v661] : Fin 2 → IVec S16 32) a x).toNat < S64x256.size a)
theorem k0_idx376_inb : ∀ (v90 : IVec S16 32) (v661 : IVec S16 32) (k0_hw376 : k0_chk376 v90 v661), ∀ a x, ((![v90, v661] : Fin 2 → IVec S16 32) a x).toNat < S64x256.size a := fun v90 v661 k0_hw376 => k0_hw376
def k0_off114 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v667 : Index := Scalar.indexCast v68
  let c128 : Index := 128#32
  ![v667.toNat, 128]

def k0_chk377 (v83 : IVec S16 32) (v684 : IVec S16 32) : Prop :=
  (∀ a x, ((![v83, v684] : Fin 2 → IVec S16 32) a x).toNat < S64x256.size a)
theorem k0_idx377_inb : ∀ (v83 : IVec S16 32) (v684 : IVec S16 32) (k0_hw377 : k0_chk377 v83 v684), ∀ a x, ((![v83, v684] : Fin 2 → IVec S16 32) a x).toNat < S64x256.size a := fun v83 v684 k0_hw377 => k0_hw377

def k0_chk378 (v84 : IVec S16 32) (v691 : IVec S16 32) : Prop :=
  (∀ a x, ((![v84, v691] : Fin 2 → IVec S16 32) a x).toNat < S64x256.size a)
theorem k0_idx378_inb : ∀ (v84 : IVec S16 32) (v691 : IVec S16 32) (k0_hw378 : k0_chk378 v84 v691), ∀ a x, ((![v84, v691] : Fin 2 → IVec S16 32) a x).toNat < S64x256.size a := fun v84 v691 k0_hw378 => k0_hw378

def k0_chk379 (v85 : IVec S16 32) (v698 : IVec S16 32) : Prop :=
  (∀ a x, ((![v85, v698] : Fin 2 → IVec S16 32) a x).toNat < S64x256.size a)
theorem k0_idx379_inb : ∀ (v85 : IVec S16 32) (v698 : IVec S16 32) (k0_hw379 : k0_chk379 v85 v698), ∀ a x, ((![v85, v698] : Fin 2 → IVec S16 32) a x).toNat < S64x256.size a := fun v85 v698 k0_hw379 => k0_hw379

def k0_chk380 (v86 : IVec S16 32) (v705 : IVec S16 32) : Prop :=
  (∀ a x, ((![v86, v705] : Fin 2 → IVec S16 32) a x).toNat < S64x256.size a)
theorem k0_idx380_inb : ∀ (v86 : IVec S16 32) (v705 : IVec S16 32) (k0_hw380 : k0_chk380 v86 v705), ∀ a x, ((![v86, v705] : Fin 2 → IVec S16 32) a x).toNat < S64x256.size a := fun v86 v705 k0_hw380 => k0_hw380

def k0_chk381 (v87 : IVec S16 32) (v712 : IVec S16 32) : Prop :=
  (∀ a x, ((![v87, v712] : Fin 2 → IVec S16 32) a x).toNat < S64x256.size a)
theorem k0_idx381_inb : ∀ (v87 : IVec S16 32) (v712 : IVec S16 32) (k0_hw381 : k0_chk381 v87 v712), ∀ a x, ((![v87, v712] : Fin 2 → IVec S16 32) a x).toNat < S64x256.size a := fun v87 v712 k0_hw381 => k0_hw381

def k0_chk382 (v88 : IVec S16 32) (v719 : IVec S16 32) : Prop :=
  (∀ a x, ((![v88, v719] : Fin 2 → IVec S16 32) a x).toNat < S64x256.size a)
theorem k0_idx382_inb : ∀ (v88 : IVec S16 32) (v719 : IVec S16 32) (k0_hw382 : k0_chk382 v88 v719), ∀ a x, ((![v88, v719] : Fin 2 → IVec S16 32) a x).toNat < S64x256.size a := fun v88 v719 k0_hw382 => k0_hw382

def k0_chk383 (v89 : IVec S16 32) (v726 : IVec S16 32) : Prop :=
  (∀ a x, ((![v89, v726] : Fin 2 → IVec S16 32) a x).toNat < S64x256.size a)
theorem k0_idx383_inb : ∀ (v89 : IVec S16 32) (v726 : IVec S16 32) (k0_hw383 : k0_chk383 v89 v726), ∀ a x, ((![v89, v726] : Fin 2 → IVec S16 32) a x).toNat < S64x256.size a := fun v89 v726 k0_hw383 => k0_hw383

def k0_chk384 (v90 : IVec S16 32) (v733 : IVec S16 32) : Prop :=
  (∀ a x, ((![v90, v733] : Fin 2 → IVec S16 32) a x).toNat < S64x256.size a)
theorem k0_idx384_inb : ∀ (v90 : IVec S16 32) (v733 : IVec S16 32) (k0_hw384 : k0_chk384 v90 v733), ∀ a x, ((![v90, v733] : Fin 2 → IVec S16 32) a x).toNat < S64x256.size a := fun v90 v733 k0_hw384 => k0_hw384
def k0_off115 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v739 : Index := Scalar.indexCast v68
  let c144 : Index := 144#32
  ![v739.toNat, 144]

def k0_chk385 (v83 : IVec S16 32) (v756 : IVec S16 32) : Prop :=
  (∀ a x, ((![v83, v756] : Fin 2 → IVec S16 32) a x).toNat < S64x256.size a)
theorem k0_idx385_inb : ∀ (v83 : IVec S16 32) (v756 : IVec S16 32) (k0_hw385 : k0_chk385 v83 v756), ∀ a x, ((![v83, v756] : Fin 2 → IVec S16 32) a x).toNat < S64x256.size a := fun v83 v756 k0_hw385 => k0_hw385

def k0_chk386 (v84 : IVec S16 32) (v763 : IVec S16 32) : Prop :=
  (∀ a x, ((![v84, v763] : Fin 2 → IVec S16 32) a x).toNat < S64x256.size a)
theorem k0_idx386_inb : ∀ (v84 : IVec S16 32) (v763 : IVec S16 32) (k0_hw386 : k0_chk386 v84 v763), ∀ a x, ((![v84, v763] : Fin 2 → IVec S16 32) a x).toNat < S64x256.size a := fun v84 v763 k0_hw386 => k0_hw386

def k0_chk387 (v85 : IVec S16 32) (v770 : IVec S16 32) : Prop :=
  (∀ a x, ((![v85, v770] : Fin 2 → IVec S16 32) a x).toNat < S64x256.size a)
theorem k0_idx387_inb : ∀ (v85 : IVec S16 32) (v770 : IVec S16 32) (k0_hw387 : k0_chk387 v85 v770), ∀ a x, ((![v85, v770] : Fin 2 → IVec S16 32) a x).toNat < S64x256.size a := fun v85 v770 k0_hw387 => k0_hw387

def k0_chk388 (v86 : IVec S16 32) (v777 : IVec S16 32) : Prop :=
  (∀ a x, ((![v86, v777] : Fin 2 → IVec S16 32) a x).toNat < S64x256.size a)
theorem k0_idx388_inb : ∀ (v86 : IVec S16 32) (v777 : IVec S16 32) (k0_hw388 : k0_chk388 v86 v777), ∀ a x, ((![v86, v777] : Fin 2 → IVec S16 32) a x).toNat < S64x256.size a := fun v86 v777 k0_hw388 => k0_hw388

def k0_chk389 (v87 : IVec S16 32) (v784 : IVec S16 32) : Prop :=
  (∀ a x, ((![v87, v784] : Fin 2 → IVec S16 32) a x).toNat < S64x256.size a)
theorem k0_idx389_inb : ∀ (v87 : IVec S16 32) (v784 : IVec S16 32) (k0_hw389 : k0_chk389 v87 v784), ∀ a x, ((![v87, v784] : Fin 2 → IVec S16 32) a x).toNat < S64x256.size a := fun v87 v784 k0_hw389 => k0_hw389

def k0_chk390 (v88 : IVec S16 32) (v791 : IVec S16 32) : Prop :=
  (∀ a x, ((![v88, v791] : Fin 2 → IVec S16 32) a x).toNat < S64x256.size a)
theorem k0_idx390_inb : ∀ (v88 : IVec S16 32) (v791 : IVec S16 32) (k0_hw390 : k0_chk390 v88 v791), ∀ a x, ((![v88, v791] : Fin 2 → IVec S16 32) a x).toNat < S64x256.size a := fun v88 v791 k0_hw390 => k0_hw390

def k0_chk391 (v89 : IVec S16 32) (v798 : IVec S16 32) : Prop :=
  (∀ a x, ((![v89, v798] : Fin 2 → IVec S16 32) a x).toNat < S64x256.size a)
theorem k0_idx391_inb : ∀ (v89 : IVec S16 32) (v798 : IVec S16 32) (k0_hw391 : k0_chk391 v89 v798), ∀ a x, ((![v89, v798] : Fin 2 → IVec S16 32) a x).toNat < S64x256.size a := fun v89 v798 k0_hw391 => k0_hw391

def k0_chk392 (v90 : IVec S16 32) (v805 : IVec S16 32) : Prop :=
  (∀ a x, ((![v90, v805] : Fin 2 → IVec S16 32) a x).toNat < S64x256.size a)
theorem k0_idx392_inb : ∀ (v90 : IVec S16 32) (v805 : IVec S16 32) (k0_hw392 : k0_chk392 v90 v805), ∀ a x, ((![v90, v805] : Fin 2 → IVec S16 32) a x).toNat < S64x256.size a := fun v90 v805 k0_hw392 => k0_hw392
def k0_off116 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v811 : Index := Scalar.indexCast v68
  let c160 : Index := 160#32
  ![v811.toNat, 160]

def k0_chk393 (v83 : IVec S16 32) (v828 : IVec S16 32) : Prop :=
  (∀ a x, ((![v83, v828] : Fin 2 → IVec S16 32) a x).toNat < S64x256.size a)
theorem k0_idx393_inb : ∀ (v83 : IVec S16 32) (v828 : IVec S16 32) (k0_hw393 : k0_chk393 v83 v828), ∀ a x, ((![v83, v828] : Fin 2 → IVec S16 32) a x).toNat < S64x256.size a := fun v83 v828 k0_hw393 => k0_hw393

def k0_chk394 (v84 : IVec S16 32) (v835 : IVec S16 32) : Prop :=
  (∀ a x, ((![v84, v835] : Fin 2 → IVec S16 32) a x).toNat < S64x256.size a)
theorem k0_idx394_inb : ∀ (v84 : IVec S16 32) (v835 : IVec S16 32) (k0_hw394 : k0_chk394 v84 v835), ∀ a x, ((![v84, v835] : Fin 2 → IVec S16 32) a x).toNat < S64x256.size a := fun v84 v835 k0_hw394 => k0_hw394

def k0_chk395 (v85 : IVec S16 32) (v842 : IVec S16 32) : Prop :=
  (∀ a x, ((![v85, v842] : Fin 2 → IVec S16 32) a x).toNat < S64x256.size a)
theorem k0_idx395_inb : ∀ (v85 : IVec S16 32) (v842 : IVec S16 32) (k0_hw395 : k0_chk395 v85 v842), ∀ a x, ((![v85, v842] : Fin 2 → IVec S16 32) a x).toNat < S64x256.size a := fun v85 v842 k0_hw395 => k0_hw395

def k0_chk396 (v86 : IVec S16 32) (v849 : IVec S16 32) : Prop :=
  (∀ a x, ((![v86, v849] : Fin 2 → IVec S16 32) a x).toNat < S64x256.size a)
theorem k0_idx396_inb : ∀ (v86 : IVec S16 32) (v849 : IVec S16 32) (k0_hw396 : k0_chk396 v86 v849), ∀ a x, ((![v86, v849] : Fin 2 → IVec S16 32) a x).toNat < S64x256.size a := fun v86 v849 k0_hw396 => k0_hw396

def k0_chk397 (v87 : IVec S16 32) (v856 : IVec S16 32) : Prop :=
  (∀ a x, ((![v87, v856] : Fin 2 → IVec S16 32) a x).toNat < S64x256.size a)
theorem k0_idx397_inb : ∀ (v87 : IVec S16 32) (v856 : IVec S16 32) (k0_hw397 : k0_chk397 v87 v856), ∀ a x, ((![v87, v856] : Fin 2 → IVec S16 32) a x).toNat < S64x256.size a := fun v87 v856 k0_hw397 => k0_hw397

def k0_chk398 (v88 : IVec S16 32) (v863 : IVec S16 32) : Prop :=
  (∀ a x, ((![v88, v863] : Fin 2 → IVec S16 32) a x).toNat < S64x256.size a)
theorem k0_idx398_inb : ∀ (v88 : IVec S16 32) (v863 : IVec S16 32) (k0_hw398 : k0_chk398 v88 v863), ∀ a x, ((![v88, v863] : Fin 2 → IVec S16 32) a x).toNat < S64x256.size a := fun v88 v863 k0_hw398 => k0_hw398

def k0_chk399 (v89 : IVec S16 32) (v870 : IVec S16 32) : Prop :=
  (∀ a x, ((![v89, v870] : Fin 2 → IVec S16 32) a x).toNat < S64x256.size a)
theorem k0_idx399_inb : ∀ (v89 : IVec S16 32) (v870 : IVec S16 32) (k0_hw399 : k0_chk399 v89 v870), ∀ a x, ((![v89, v870] : Fin 2 → IVec S16 32) a x).toNat < S64x256.size a := fun v89 v870 k0_hw399 => k0_hw399

def k0_chk400 (v90 : IVec S16 32) (v877 : IVec S16 32) : Prop :=
  (∀ a x, ((![v90, v877] : Fin 2 → IVec S16 32) a x).toNat < S64x256.size a)
theorem k0_idx400_inb : ∀ (v90 : IVec S16 32) (v877 : IVec S16 32) (k0_hw400 : k0_chk400 v90 v877), ∀ a x, ((![v90, v877] : Fin 2 → IVec S16 32) a x).toNat < S64x256.size a := fun v90 v877 k0_hw400 => k0_hw400
def k0_off117 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v883 : Index := Scalar.indexCast v68
  let c176 : Index := 176#32
  ![v883.toNat, 176]

def k0_chk401 (v83 : IVec S16 32) (v900 : IVec S16 32) : Prop :=
  (∀ a x, ((![v83, v900] : Fin 2 → IVec S16 32) a x).toNat < S64x256.size a)
theorem k0_idx401_inb : ∀ (v83 : IVec S16 32) (v900 : IVec S16 32) (k0_hw401 : k0_chk401 v83 v900), ∀ a x, ((![v83, v900] : Fin 2 → IVec S16 32) a x).toNat < S64x256.size a := fun v83 v900 k0_hw401 => k0_hw401

def k0_chk402 (v84 : IVec S16 32) (v907 : IVec S16 32) : Prop :=
  (∀ a x, ((![v84, v907] : Fin 2 → IVec S16 32) a x).toNat < S64x256.size a)
theorem k0_idx402_inb : ∀ (v84 : IVec S16 32) (v907 : IVec S16 32) (k0_hw402 : k0_chk402 v84 v907), ∀ a x, ((![v84, v907] : Fin 2 → IVec S16 32) a x).toNat < S64x256.size a := fun v84 v907 k0_hw402 => k0_hw402

def k0_chk403 (v85 : IVec S16 32) (v914 : IVec S16 32) : Prop :=
  (∀ a x, ((![v85, v914] : Fin 2 → IVec S16 32) a x).toNat < S64x256.size a)
theorem k0_idx403_inb : ∀ (v85 : IVec S16 32) (v914 : IVec S16 32) (k0_hw403 : k0_chk403 v85 v914), ∀ a x, ((![v85, v914] : Fin 2 → IVec S16 32) a x).toNat < S64x256.size a := fun v85 v914 k0_hw403 => k0_hw403

def k0_chk404 (v86 : IVec S16 32) (v921 : IVec S16 32) : Prop :=
  (∀ a x, ((![v86, v921] : Fin 2 → IVec S16 32) a x).toNat < S64x256.size a)
theorem k0_idx404_inb : ∀ (v86 : IVec S16 32) (v921 : IVec S16 32) (k0_hw404 : k0_chk404 v86 v921), ∀ a x, ((![v86, v921] : Fin 2 → IVec S16 32) a x).toNat < S64x256.size a := fun v86 v921 k0_hw404 => k0_hw404

def k0_chk405 (v87 : IVec S16 32) (v928 : IVec S16 32) : Prop :=
  (∀ a x, ((![v87, v928] : Fin 2 → IVec S16 32) a x).toNat < S64x256.size a)
theorem k0_idx405_inb : ∀ (v87 : IVec S16 32) (v928 : IVec S16 32) (k0_hw405 : k0_chk405 v87 v928), ∀ a x, ((![v87, v928] : Fin 2 → IVec S16 32) a x).toNat < S64x256.size a := fun v87 v928 k0_hw405 => k0_hw405

def k0_chk406 (v88 : IVec S16 32) (v935 : IVec S16 32) : Prop :=
  (∀ a x, ((![v88, v935] : Fin 2 → IVec S16 32) a x).toNat < S64x256.size a)
theorem k0_idx406_inb : ∀ (v88 : IVec S16 32) (v935 : IVec S16 32) (k0_hw406 : k0_chk406 v88 v935), ∀ a x, ((![v88, v935] : Fin 2 → IVec S16 32) a x).toNat < S64x256.size a := fun v88 v935 k0_hw406 => k0_hw406

def k0_chk407 (v89 : IVec S16 32) (v942 : IVec S16 32) : Prop :=
  (∀ a x, ((![v89, v942] : Fin 2 → IVec S16 32) a x).toNat < S64x256.size a)
theorem k0_idx407_inb : ∀ (v89 : IVec S16 32) (v942 : IVec S16 32) (k0_hw407 : k0_chk407 v89 v942), ∀ a x, ((![v89, v942] : Fin 2 → IVec S16 32) a x).toNat < S64x256.size a := fun v89 v942 k0_hw407 => k0_hw407

def k0_chk408 (v90 : IVec S16 32) (v949 : IVec S16 32) : Prop :=
  (∀ a x, ((![v90, v949] : Fin 2 → IVec S16 32) a x).toNat < S64x256.size a)
theorem k0_idx408_inb : ∀ (v90 : IVec S16 32) (v949 : IVec S16 32) (k0_hw408 : k0_chk408 v90 v949), ∀ a x, ((![v90, v949] : Fin 2 → IVec S16 32) a x).toNat < S64x256.size a := fun v90 v949 k0_hw408 => k0_hw408
def k0_off118 (k0_t8 : Fin k0_t8_loop.trips) (c0_i32_89 : BitVec 32) : Fin 2 → Nat :=
  let c0_i32_76 : BitVec 32 := 0#32
  let c1_i32_78 : BitVec 32 := 1#32
  let arg12 : BitVec 32 := Scf.iv c0_i32_76 c1_i32_78 k0_t8
  let c8_i32_88 : BitVec 32 := 8#32
  let v67 : BitVec 32 := Scalar.muli arg12 c8_i32_88
  let v68 : BitVec 32 := Scalar.addi v67 c0_i32_89
  let v955 : Index := Scalar.indexCast v68
  let c184 : Index := 184#32
  ![v955.toNat, 184]

def k0_chk409 (v83 : IVec S16 32) (v972 : IVec S16 32) : Prop :=
  (∀ a x, ((![v83, v972] : Fin 2 → IVec S16 32) a x).toNat < S64x256.size a)
theorem k0_idx409_inb : ∀ (v83 : IVec S16 32) (v972 : IVec S16 32) (k0_hw409 : k0_chk409 v83 v972), ∀ a x, ((![v83, v972] : Fin 2 → IVec S16 32) a x).toNat < S64x256.size a := fun v83 v972 k0_hw409 => k0_hw409

def k0_chk410 (v84 : IVec S16 32) (v979 : IVec S16 32) : Prop :=
  (∀ a x, ((![v84, v979] : Fin 2 → IVec S16 32) a x).toNat < S64x256.size a)
theorem k0_idx410_inb : ∀ (v84 : IVec S16 32) (v979 : IVec S16 32) (k0_hw410 : k0_chk410 v84 v979), ∀ a x, ((![v84, v979] : Fin 2 → IVec S16 32) a x).toNat < S64x256.size a := fun v84 v979 k0_hw410 => k0_hw410

def k0_chk411 (v85 : IVec S16 32) (v986 : IVec S16 32) : Prop :=
  (∀ a x, ((![v85, v986] : Fin 2 → IVec S16 32) a x).toNat < S64x256.size a)
theorem k0_idx411_inb : ∀ (v85 : IVec S16 32) (v986 : IVec S16 32) (k0_hw411 : k0_chk411 v85 v986), ∀ a x, ((![v85, v986] : Fin 2 → IVec S16 32) a x).toNat < S64x256.size a := fun v85 v986 k0_hw411 => k0_hw411

def k0_chk412 (v86 : IVec S16 32) (v993 : IVec S16 32) : Prop :=
  (∀ a x, ((![v86, v993] : Fin 2 → IVec S16 32) a x).toNat < S64x256.size a)
theorem k0_idx412_inb : ∀ (v86 : IVec S16 32) (v993 : IVec S16 32) (k0_hw412 : k0_chk412 v86 v993), ∀ a x, ((![v86, v993] : Fin 2 → IVec S16 32) a x).toNat < S64x256.size a := fun v86 v993 k0_hw412 => k0_hw412

def k0_chk413 (v87 : IVec S16 32) (v1000 : IVec S16 32) : Prop :=
  (∀ a x, ((![v87, v1000] : Fin 2 → IVec S16 32) a x).toNat < S64x256.size a)
theorem k0_idx413_inb : ∀ (v87 : IVec S16 32) (v1000 : IVec S16 32) (k0_hw413 : k0_chk413 v87 v1000), ∀ a x, ((![v87, v1000] : Fin 2 → IVec S16 32) a x).toNat < S64x256.size a := fun v87 v1000 k0_hw413 => k0_hw413

def k0_chk414 (v88 : IVec S16 32) (v1007 : IVec S16 32) : Prop :=
  (∀ a x, ((![v88, v1007] : Fin 2 → IVec S16 32) a x).toNat < S64x256.size a)
theorem k0_idx414_inb : ∀ (v88 : IVec S16 32) (v1007 : IVec S16 32) (k0_hw414 : k0_chk414 v88 v1007), ∀ a x, ((![v88, v1007] : Fin 2 → IVec S16 32) a x).toNat < S64x256.size a := fun v88 v1007 k0_hw414 => k0_hw414

def k0_chk415 (v89 : IVec S16 32) (v1014 : IVec S16 32) : Prop :=
  (∀ a x, ((![v89, v1014] : Fin 2 → IVec S16 32) a x).toNat < S64x256.size a)
theorem k0_idx415_inb : ∀ (v89 : IVec S16 32) (v1014 : IVec S16 32) (k0_hw415 : k0_chk415 v89 v1014), ∀ a x, ((![v89, v1014] : Fin 2 → IVec S16 32) a x).toNat < S64x256.size a := fun v89 v1014 k0_hw415 => k0_hw415

def k0_chk416 (v90 : IVec S16 32) (v1021 : IVec S16 32) : Prop :=
  (∀ a x, ((![v90, v1021] : Fin 2 → IVec S16 32) a x).toNat < S64x256.size a)
theorem k0_idx416_inb : ∀ (v90 : IVec S16 32) (v1021 : IVec S16 32) (k0_hw416 : k0_chk416 v90 v1021), ∀ a x, ((![v90, v1021] : Fin 2 → IVec S16 32) a x).toNat < S64x256.size a := fun v90 v1021 k0_hw416 => k0_hw416
abbrev grid1 : Pipeline.Grid := ⟨2, ![2, 16], ![false, false]⟩

def k1_off1 (i : grid1.Coords) (c0_i32_0 : BitVec 32) : Fin 2 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let v8 : BitVec 32 := Scalar.addi v7 c0_i32_0
  let v9 : BitVec 32 := Scalar.addi c8192_i32 v8
  let c0_i32_1 : BitVec 32 := 0#32
  ![v9.toNat, 0]
@[reducible] def k1_t1_loop : Scf.Loop 32 :=
  let c0_i32_10 : BitVec 32 := 0#32
  let c64_i32_11 : BitVec 32 := 64#32
  let v19 : BitVec 32 := Scalar.addi c0_i32_10 c64_i32_11
  let c1_i32_12 : BitVec 32 := 1#32
  ⟨c0_i32_10, v19, c1_i32_12⟩
def k1_off2 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v67 : Index := Scalar.indexCast arg12
  let c0 : Index := 0#32
  ![v67.toNat, 0]
def k1_off3 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v69 : Index := Scalar.indexCast arg12
  let c16 : Index := 16#32
  ![v69.toNat, 16]
def k1_off4 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v71 : Index := Scalar.indexCast arg12
  let c32 : Index := 32#32
  ![v71.toNat, 32]
def k1_off5 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v73 : Index := Scalar.indexCast arg12
  let c48 : Index := 48#32
  ![v73.toNat, 48]
def k1_off6 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v75 : Index := Scalar.indexCast arg12
  let c64 : Index := 64#32
  ![v75.toNat, 64]
def k1_off7 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v77 : Index := Scalar.indexCast arg12
  let c80 : Index := 80#32
  ![v77.toNat, 80]
def k1_off8 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v79 : Index := Scalar.indexCast arg12
  let c96 : Index := 96#32
  ![v79.toNat, 96]
def k1_off9 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v81 : Index := Scalar.indexCast arg12
  let c112 : Index := 112#32
  ![v81.toNat, 112]
def k1_off10 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v83 : Index := Scalar.indexCast arg12
  let c128 : Index := 128#32
  ![v83.toNat, 128]
def k1_off11 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v85 : Index := Scalar.indexCast arg12
  let c144 : Index := 144#32
  ![v85.toNat, 144]
def k1_off12 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v87 : Index := Scalar.indexCast arg12
  let c160 : Index := 160#32
  ![v87.toNat, 160]
def k1_off13 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v89 : Index := Scalar.indexCast arg12
  let c176 : Index := 176#32
  ![v89.toNat, 176]
def k1_off14 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v91 : Index := Scalar.indexCast arg12
  let c192 : Index := 192#32
  ![v91.toNat, 192]
def k1_off15 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v93 : Index := Scalar.indexCast arg12
  let c208 : Index := 208#32
  ![v93.toNat, 208]
def k1_off16 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v95 : Index := Scalar.indexCast arg12
  let c224 : Index := 224#32
  ![v95.toNat, 224]
def k1_off17 (k1_t1 : Fin k1_t1_loop.trips) : Fin 2 → Nat :=
  let c0_i32_10 : BitVec 32 := 0#32
  let c1_i32_12 : BitVec 32 := 1#32
  let arg12 : BitVec 32 := Scf.iv c0_i32_10 c1_i32_12 k1_t1
  let v97 : Index := Scalar.indexCast arg12
  let c240 : Index := 240#32
  ![v97.toNat, 240]
@[reducible] def k1_t2_loop : Scf.Loop 32 :=
  let c0_i32_15 : BitVec 32 := 0#32
  let c8_i32_16 : BitVec 32 := 8#32
  let v20 : BitVec 32 := Scalar.addi c0_i32_15 c8_i32_16
  let c1_i32_17 : BitVec 32 := 1#32
  ⟨c0_i32_15, v20, c1_i32_17⟩
def k1_off18 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v91 : Index := Scalar.indexCast v68
  let c0 : Index := 0#32
  ![v91.toNat, 0]

def k1_chk1 (v83 : IVec S16 32) (v108 : IVec S16 32) : Prop :=
  (∀ a x, ((![v83, v108] : Fin 2 → IVec S16 32) a x).toNat < S64x256.size a)
theorem k1_idx1_inb : ∀ (v83 : IVec S16 32) (v108 : IVec S16 32) (k1_hw1 : k1_chk1 v83 v108), ∀ a x, ((![v83, v108] : Fin 2 → IVec S16 32) a x).toNat < S64x256.size a := fun v83 v108 k1_hw1 => k1_hw1

def k1_chk2 (v84 : IVec S16 32) (v115 : IVec S16 32) : Prop :=
  (∀ a x, ((![v84, v115] : Fin 2 → IVec S16 32) a x).toNat < S64x256.size a)
theorem k1_idx2_inb : ∀ (v84 : IVec S16 32) (v115 : IVec S16 32) (k1_hw2 : k1_chk2 v84 v115), ∀ a x, ((![v84, v115] : Fin 2 → IVec S16 32) a x).toNat < S64x256.size a := fun v84 v115 k1_hw2 => k1_hw2

def k1_chk3 (v85 : IVec S16 32) (v122 : IVec S16 32) : Prop :=
  (∀ a x, ((![v85, v122] : Fin 2 → IVec S16 32) a x).toNat < S64x256.size a)
theorem k1_idx3_inb : ∀ (v85 : IVec S16 32) (v122 : IVec S16 32) (k1_hw3 : k1_chk3 v85 v122), ∀ a x, ((![v85, v122] : Fin 2 → IVec S16 32) a x).toNat < S64x256.size a := fun v85 v122 k1_hw3 => k1_hw3

def k1_chk4 (v86 : IVec S16 32) (v129 : IVec S16 32) : Prop :=
  (∀ a x, ((![v86, v129] : Fin 2 → IVec S16 32) a x).toNat < S64x256.size a)
theorem k1_idx4_inb : ∀ (v86 : IVec S16 32) (v129 : IVec S16 32) (k1_hw4 : k1_chk4 v86 v129), ∀ a x, ((![v86, v129] : Fin 2 → IVec S16 32) a x).toNat < S64x256.size a := fun v86 v129 k1_hw4 => k1_hw4

def k1_chk5 (v87 : IVec S16 32) (v136 : IVec S16 32) : Prop :=
  (∀ a x, ((![v87, v136] : Fin 2 → IVec S16 32) a x).toNat < S64x256.size a)
theorem k1_idx5_inb : ∀ (v87 : IVec S16 32) (v136 : IVec S16 32) (k1_hw5 : k1_chk5 v87 v136), ∀ a x, ((![v87, v136] : Fin 2 → IVec S16 32) a x).toNat < S64x256.size a := fun v87 v136 k1_hw5 => k1_hw5

def k1_chk6 (v88 : IVec S16 32) (v143 : IVec S16 32) : Prop :=
  (∀ a x, ((![v88, v143] : Fin 2 → IVec S16 32) a x).toNat < S64x256.size a)
theorem k1_idx6_inb : ∀ (v88 : IVec S16 32) (v143 : IVec S16 32) (k1_hw6 : k1_chk6 v88 v143), ∀ a x, ((![v88, v143] : Fin 2 → IVec S16 32) a x).toNat < S64x256.size a := fun v88 v143 k1_hw6 => k1_hw6

def k1_chk7 (v89 : IVec S16 32) (v150 : IVec S16 32) : Prop :=
  (∀ a x, ((![v89, v150] : Fin 2 → IVec S16 32) a x).toNat < S64x256.size a)
theorem k1_idx7_inb : ∀ (v89 : IVec S16 32) (v150 : IVec S16 32) (k1_hw7 : k1_chk7 v89 v150), ∀ a x, ((![v89, v150] : Fin 2 → IVec S16 32) a x).toNat < S64x256.size a := fun v89 v150 k1_hw7 => k1_hw7

def k1_chk8 (v90 : IVec S16 32) (v157 : IVec S16 32) : Prop :=
  (∀ a x, ((![v90, v157] : Fin 2 → IVec S16 32) a x).toNat < S64x256.size a)
theorem k1_idx8_inb : ∀ (v90 : IVec S16 32) (v157 : IVec S16 32) (k1_hw8 : k1_chk8 v90 v157), ∀ a x, ((![v90, v157] : Fin 2 → IVec S16 32) a x).toNat < S64x256.size a := fun v90 v157 k1_hw8 => k1_hw8
def k1_off19 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v163 : Index := Scalar.indexCast v68
  let c16 : Index := 16#32
  ![v163.toNat, 16]

def k1_chk9 (v83 : IVec S16 32) (v180 : IVec S16 32) : Prop :=
  (∀ a x, ((![v83, v180] : Fin 2 → IVec S16 32) a x).toNat < S64x256.size a)
theorem k1_idx9_inb : ∀ (v83 : IVec S16 32) (v180 : IVec S16 32) (k1_hw9 : k1_chk9 v83 v180), ∀ a x, ((![v83, v180] : Fin 2 → IVec S16 32) a x).toNat < S64x256.size a := fun v83 v180 k1_hw9 => k1_hw9

def k1_chk10 (v84 : IVec S16 32) (v187 : IVec S16 32) : Prop :=
  (∀ a x, ((![v84, v187] : Fin 2 → IVec S16 32) a x).toNat < S64x256.size a)
theorem k1_idx10_inb : ∀ (v84 : IVec S16 32) (v187 : IVec S16 32) (k1_hw10 : k1_chk10 v84 v187), ∀ a x, ((![v84, v187] : Fin 2 → IVec S16 32) a x).toNat < S64x256.size a := fun v84 v187 k1_hw10 => k1_hw10

def k1_chk11 (v85 : IVec S16 32) (v194 : IVec S16 32) : Prop :=
  (∀ a x, ((![v85, v194] : Fin 2 → IVec S16 32) a x).toNat < S64x256.size a)
theorem k1_idx11_inb : ∀ (v85 : IVec S16 32) (v194 : IVec S16 32) (k1_hw11 : k1_chk11 v85 v194), ∀ a x, ((![v85, v194] : Fin 2 → IVec S16 32) a x).toNat < S64x256.size a := fun v85 v194 k1_hw11 => k1_hw11

def k1_chk12 (v86 : IVec S16 32) (v201 : IVec S16 32) : Prop :=
  (∀ a x, ((![v86, v201] : Fin 2 → IVec S16 32) a x).toNat < S64x256.size a)
theorem k1_idx12_inb : ∀ (v86 : IVec S16 32) (v201 : IVec S16 32) (k1_hw12 : k1_chk12 v86 v201), ∀ a x, ((![v86, v201] : Fin 2 → IVec S16 32) a x).toNat < S64x256.size a := fun v86 v201 k1_hw12 => k1_hw12

def k1_chk13 (v87 : IVec S16 32) (v208 : IVec S16 32) : Prop :=
  (∀ a x, ((![v87, v208] : Fin 2 → IVec S16 32) a x).toNat < S64x256.size a)
theorem k1_idx13_inb : ∀ (v87 : IVec S16 32) (v208 : IVec S16 32) (k1_hw13 : k1_chk13 v87 v208), ∀ a x, ((![v87, v208] : Fin 2 → IVec S16 32) a x).toNat < S64x256.size a := fun v87 v208 k1_hw13 => k1_hw13

def k1_chk14 (v88 : IVec S16 32) (v215 : IVec S16 32) : Prop :=
  (∀ a x, ((![v88, v215] : Fin 2 → IVec S16 32) a x).toNat < S64x256.size a)
theorem k1_idx14_inb : ∀ (v88 : IVec S16 32) (v215 : IVec S16 32) (k1_hw14 : k1_chk14 v88 v215), ∀ a x, ((![v88, v215] : Fin 2 → IVec S16 32) a x).toNat < S64x256.size a := fun v88 v215 k1_hw14 => k1_hw14

def k1_chk15 (v89 : IVec S16 32) (v222 : IVec S16 32) : Prop :=
  (∀ a x, ((![v89, v222] : Fin 2 → IVec S16 32) a x).toNat < S64x256.size a)
theorem k1_idx15_inb : ∀ (v89 : IVec S16 32) (v222 : IVec S16 32) (k1_hw15 : k1_chk15 v89 v222), ∀ a x, ((![v89, v222] : Fin 2 → IVec S16 32) a x).toNat < S64x256.size a := fun v89 v222 k1_hw15 => k1_hw15

def k1_chk16 (v90 : IVec S16 32) (v229 : IVec S16 32) : Prop :=
  (∀ a x, ((![v90, v229] : Fin 2 → IVec S16 32) a x).toNat < S64x256.size a)
theorem k1_idx16_inb : ∀ (v90 : IVec S16 32) (v229 : IVec S16 32) (k1_hw16 : k1_chk16 v90 v229), ∀ a x, ((![v90, v229] : Fin 2 → IVec S16 32) a x).toNat < S64x256.size a := fun v90 v229 k1_hw16 => k1_hw16
def k1_off20 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v235 : Index := Scalar.indexCast v68
  let c32 : Index := 32#32
  ![v235.toNat, 32]

def k1_chk17 (v83 : IVec S16 32) (v252 : IVec S16 32) : Prop :=
  (∀ a x, ((![v83, v252] : Fin 2 → IVec S16 32) a x).toNat < S64x256.size a)
theorem k1_idx17_inb : ∀ (v83 : IVec S16 32) (v252 : IVec S16 32) (k1_hw17 : k1_chk17 v83 v252), ∀ a x, ((![v83, v252] : Fin 2 → IVec S16 32) a x).toNat < S64x256.size a := fun v83 v252 k1_hw17 => k1_hw17

def k1_chk18 (v84 : IVec S16 32) (v259 : IVec S16 32) : Prop :=
  (∀ a x, ((![v84, v259] : Fin 2 → IVec S16 32) a x).toNat < S64x256.size a)
theorem k1_idx18_inb : ∀ (v84 : IVec S16 32) (v259 : IVec S16 32) (k1_hw18 : k1_chk18 v84 v259), ∀ a x, ((![v84, v259] : Fin 2 → IVec S16 32) a x).toNat < S64x256.size a := fun v84 v259 k1_hw18 => k1_hw18

def k1_chk19 (v85 : IVec S16 32) (v266 : IVec S16 32) : Prop :=
  (∀ a x, ((![v85, v266] : Fin 2 → IVec S16 32) a x).toNat < S64x256.size a)
theorem k1_idx19_inb : ∀ (v85 : IVec S16 32) (v266 : IVec S16 32) (k1_hw19 : k1_chk19 v85 v266), ∀ a x, ((![v85, v266] : Fin 2 → IVec S16 32) a x).toNat < S64x256.size a := fun v85 v266 k1_hw19 => k1_hw19

def k1_chk20 (v86 : IVec S16 32) (v273 : IVec S16 32) : Prop :=
  (∀ a x, ((![v86, v273] : Fin 2 → IVec S16 32) a x).toNat < S64x256.size a)
theorem k1_idx20_inb : ∀ (v86 : IVec S16 32) (v273 : IVec S16 32) (k1_hw20 : k1_chk20 v86 v273), ∀ a x, ((![v86, v273] : Fin 2 → IVec S16 32) a x).toNat < S64x256.size a := fun v86 v273 k1_hw20 => k1_hw20

def k1_chk21 (v87 : IVec S16 32) (v280 : IVec S16 32) : Prop :=
  (∀ a x, ((![v87, v280] : Fin 2 → IVec S16 32) a x).toNat < S64x256.size a)
theorem k1_idx21_inb : ∀ (v87 : IVec S16 32) (v280 : IVec S16 32) (k1_hw21 : k1_chk21 v87 v280), ∀ a x, ((![v87, v280] : Fin 2 → IVec S16 32) a x).toNat < S64x256.size a := fun v87 v280 k1_hw21 => k1_hw21

def k1_chk22 (v88 : IVec S16 32) (v287 : IVec S16 32) : Prop :=
  (∀ a x, ((![v88, v287] : Fin 2 → IVec S16 32) a x).toNat < S64x256.size a)
theorem k1_idx22_inb : ∀ (v88 : IVec S16 32) (v287 : IVec S16 32) (k1_hw22 : k1_chk22 v88 v287), ∀ a x, ((![v88, v287] : Fin 2 → IVec S16 32) a x).toNat < S64x256.size a := fun v88 v287 k1_hw22 => k1_hw22

def k1_chk23 (v89 : IVec S16 32) (v294 : IVec S16 32) : Prop :=
  (∀ a x, ((![v89, v294] : Fin 2 → IVec S16 32) a x).toNat < S64x256.size a)
theorem k1_idx23_inb : ∀ (v89 : IVec S16 32) (v294 : IVec S16 32) (k1_hw23 : k1_chk23 v89 v294), ∀ a x, ((![v89, v294] : Fin 2 → IVec S16 32) a x).toNat < S64x256.size a := fun v89 v294 k1_hw23 => k1_hw23

def k1_chk24 (v90 : IVec S16 32) (v301 : IVec S16 32) : Prop :=
  (∀ a x, ((![v90, v301] : Fin 2 → IVec S16 32) a x).toNat < S64x256.size a)
theorem k1_idx24_inb : ∀ (v90 : IVec S16 32) (v301 : IVec S16 32) (k1_hw24 : k1_chk24 v90 v301), ∀ a x, ((![v90, v301] : Fin 2 → IVec S16 32) a x).toNat < S64x256.size a := fun v90 v301 k1_hw24 => k1_hw24
def k1_off21 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v307 : Index := Scalar.indexCast v68
  let c48 : Index := 48#32
  ![v307.toNat, 48]

def k1_chk25 (v83 : IVec S16 32) (v324 : IVec S16 32) : Prop :=
  (∀ a x, ((![v83, v324] : Fin 2 → IVec S16 32) a x).toNat < S64x256.size a)
theorem k1_idx25_inb : ∀ (v83 : IVec S16 32) (v324 : IVec S16 32) (k1_hw25 : k1_chk25 v83 v324), ∀ a x, ((![v83, v324] : Fin 2 → IVec S16 32) a x).toNat < S64x256.size a := fun v83 v324 k1_hw25 => k1_hw25

def k1_chk26 (v84 : IVec S16 32) (v331 : IVec S16 32) : Prop :=
  (∀ a x, ((![v84, v331] : Fin 2 → IVec S16 32) a x).toNat < S64x256.size a)
theorem k1_idx26_inb : ∀ (v84 : IVec S16 32) (v331 : IVec S16 32) (k1_hw26 : k1_chk26 v84 v331), ∀ a x, ((![v84, v331] : Fin 2 → IVec S16 32) a x).toNat < S64x256.size a := fun v84 v331 k1_hw26 => k1_hw26

def k1_chk27 (v85 : IVec S16 32) (v338 : IVec S16 32) : Prop :=
  (∀ a x, ((![v85, v338] : Fin 2 → IVec S16 32) a x).toNat < S64x256.size a)
theorem k1_idx27_inb : ∀ (v85 : IVec S16 32) (v338 : IVec S16 32) (k1_hw27 : k1_chk27 v85 v338), ∀ a x, ((![v85, v338] : Fin 2 → IVec S16 32) a x).toNat < S64x256.size a := fun v85 v338 k1_hw27 => k1_hw27

def k1_chk28 (v86 : IVec S16 32) (v345 : IVec S16 32) : Prop :=
  (∀ a x, ((![v86, v345] : Fin 2 → IVec S16 32) a x).toNat < S64x256.size a)
theorem k1_idx28_inb : ∀ (v86 : IVec S16 32) (v345 : IVec S16 32) (k1_hw28 : k1_chk28 v86 v345), ∀ a x, ((![v86, v345] : Fin 2 → IVec S16 32) a x).toNat < S64x256.size a := fun v86 v345 k1_hw28 => k1_hw28

def k1_chk29 (v87 : IVec S16 32) (v352 : IVec S16 32) : Prop :=
  (∀ a x, ((![v87, v352] : Fin 2 → IVec S16 32) a x).toNat < S64x256.size a)
theorem k1_idx29_inb : ∀ (v87 : IVec S16 32) (v352 : IVec S16 32) (k1_hw29 : k1_chk29 v87 v352), ∀ a x, ((![v87, v352] : Fin 2 → IVec S16 32) a x).toNat < S64x256.size a := fun v87 v352 k1_hw29 => k1_hw29

def k1_chk30 (v88 : IVec S16 32) (v359 : IVec S16 32) : Prop :=
  (∀ a x, ((![v88, v359] : Fin 2 → IVec S16 32) a x).toNat < S64x256.size a)
theorem k1_idx30_inb : ∀ (v88 : IVec S16 32) (v359 : IVec S16 32) (k1_hw30 : k1_chk30 v88 v359), ∀ a x, ((![v88, v359] : Fin 2 → IVec S16 32) a x).toNat < S64x256.size a := fun v88 v359 k1_hw30 => k1_hw30

def k1_chk31 (v89 : IVec S16 32) (v366 : IVec S16 32) : Prop :=
  (∀ a x, ((![v89, v366] : Fin 2 → IVec S16 32) a x).toNat < S64x256.size a)
theorem k1_idx31_inb : ∀ (v89 : IVec S16 32) (v366 : IVec S16 32) (k1_hw31 : k1_chk31 v89 v366), ∀ a x, ((![v89, v366] : Fin 2 → IVec S16 32) a x).toNat < S64x256.size a := fun v89 v366 k1_hw31 => k1_hw31

def k1_chk32 (v90 : IVec S16 32) (v373 : IVec S16 32) : Prop :=
  (∀ a x, ((![v90, v373] : Fin 2 → IVec S16 32) a x).toNat < S64x256.size a)
theorem k1_idx32_inb : ∀ (v90 : IVec S16 32) (v373 : IVec S16 32) (k1_hw32 : k1_chk32 v90 v373), ∀ a x, ((![v90, v373] : Fin 2 → IVec S16 32) a x).toNat < S64x256.size a := fun v90 v373 k1_hw32 => k1_hw32
def k1_off22 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v379 : Index := Scalar.indexCast v68
  let c64 : Index := 64#32
  ![v379.toNat, 64]

def k1_chk33 (v83 : IVec S16 32) (v396 : IVec S16 32) : Prop :=
  (∀ a x, ((![v83, v396] : Fin 2 → IVec S16 32) a x).toNat < S64x256.size a)
theorem k1_idx33_inb : ∀ (v83 : IVec S16 32) (v396 : IVec S16 32) (k1_hw33 : k1_chk33 v83 v396), ∀ a x, ((![v83, v396] : Fin 2 → IVec S16 32) a x).toNat < S64x256.size a := fun v83 v396 k1_hw33 => k1_hw33

def k1_chk34 (v84 : IVec S16 32) (v403 : IVec S16 32) : Prop :=
  (∀ a x, ((![v84, v403] : Fin 2 → IVec S16 32) a x).toNat < S64x256.size a)
theorem k1_idx34_inb : ∀ (v84 : IVec S16 32) (v403 : IVec S16 32) (k1_hw34 : k1_chk34 v84 v403), ∀ a x, ((![v84, v403] : Fin 2 → IVec S16 32) a x).toNat < S64x256.size a := fun v84 v403 k1_hw34 => k1_hw34

def k1_chk35 (v85 : IVec S16 32) (v410 : IVec S16 32) : Prop :=
  (∀ a x, ((![v85, v410] : Fin 2 → IVec S16 32) a x).toNat < S64x256.size a)
theorem k1_idx35_inb : ∀ (v85 : IVec S16 32) (v410 : IVec S16 32) (k1_hw35 : k1_chk35 v85 v410), ∀ a x, ((![v85, v410] : Fin 2 → IVec S16 32) a x).toNat < S64x256.size a := fun v85 v410 k1_hw35 => k1_hw35

def k1_chk36 (v86 : IVec S16 32) (v417 : IVec S16 32) : Prop :=
  (∀ a x, ((![v86, v417] : Fin 2 → IVec S16 32) a x).toNat < S64x256.size a)
theorem k1_idx36_inb : ∀ (v86 : IVec S16 32) (v417 : IVec S16 32) (k1_hw36 : k1_chk36 v86 v417), ∀ a x, ((![v86, v417] : Fin 2 → IVec S16 32) a x).toNat < S64x256.size a := fun v86 v417 k1_hw36 => k1_hw36

def k1_chk37 (v87 : IVec S16 32) (v424 : IVec S16 32) : Prop :=
  (∀ a x, ((![v87, v424] : Fin 2 → IVec S16 32) a x).toNat < S64x256.size a)
theorem k1_idx37_inb : ∀ (v87 : IVec S16 32) (v424 : IVec S16 32) (k1_hw37 : k1_chk37 v87 v424), ∀ a x, ((![v87, v424] : Fin 2 → IVec S16 32) a x).toNat < S64x256.size a := fun v87 v424 k1_hw37 => k1_hw37

def k1_chk38 (v88 : IVec S16 32) (v431 : IVec S16 32) : Prop :=
  (∀ a x, ((![v88, v431] : Fin 2 → IVec S16 32) a x).toNat < S64x256.size a)
theorem k1_idx38_inb : ∀ (v88 : IVec S16 32) (v431 : IVec S16 32) (k1_hw38 : k1_chk38 v88 v431), ∀ a x, ((![v88, v431] : Fin 2 → IVec S16 32) a x).toNat < S64x256.size a := fun v88 v431 k1_hw38 => k1_hw38

def k1_chk39 (v89 : IVec S16 32) (v438 : IVec S16 32) : Prop :=
  (∀ a x, ((![v89, v438] : Fin 2 → IVec S16 32) a x).toNat < S64x256.size a)
theorem k1_idx39_inb : ∀ (v89 : IVec S16 32) (v438 : IVec S16 32) (k1_hw39 : k1_chk39 v89 v438), ∀ a x, ((![v89, v438] : Fin 2 → IVec S16 32) a x).toNat < S64x256.size a := fun v89 v438 k1_hw39 => k1_hw39

def k1_chk40 (v90 : IVec S16 32) (v445 : IVec S16 32) : Prop :=
  (∀ a x, ((![v90, v445] : Fin 2 → IVec S16 32) a x).toNat < S64x256.size a)
theorem k1_idx40_inb : ∀ (v90 : IVec S16 32) (v445 : IVec S16 32) (k1_hw40 : k1_chk40 v90 v445), ∀ a x, ((![v90, v445] : Fin 2 → IVec S16 32) a x).toNat < S64x256.size a := fun v90 v445 k1_hw40 => k1_hw40
def k1_off23 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v451 : Index := Scalar.indexCast v68
  let c80 : Index := 80#32
  ![v451.toNat, 80]

def k1_chk41 (v83 : IVec S16 32) (v468 : IVec S16 32) : Prop :=
  (∀ a x, ((![v83, v468] : Fin 2 → IVec S16 32) a x).toNat < S64x256.size a)
theorem k1_idx41_inb : ∀ (v83 : IVec S16 32) (v468 : IVec S16 32) (k1_hw41 : k1_chk41 v83 v468), ∀ a x, ((![v83, v468] : Fin 2 → IVec S16 32) a x).toNat < S64x256.size a := fun v83 v468 k1_hw41 => k1_hw41

def k1_chk42 (v84 : IVec S16 32) (v475 : IVec S16 32) : Prop :=
  (∀ a x, ((![v84, v475] : Fin 2 → IVec S16 32) a x).toNat < S64x256.size a)
theorem k1_idx42_inb : ∀ (v84 : IVec S16 32) (v475 : IVec S16 32) (k1_hw42 : k1_chk42 v84 v475), ∀ a x, ((![v84, v475] : Fin 2 → IVec S16 32) a x).toNat < S64x256.size a := fun v84 v475 k1_hw42 => k1_hw42

def k1_chk43 (v85 : IVec S16 32) (v482 : IVec S16 32) : Prop :=
  (∀ a x, ((![v85, v482] : Fin 2 → IVec S16 32) a x).toNat < S64x256.size a)
theorem k1_idx43_inb : ∀ (v85 : IVec S16 32) (v482 : IVec S16 32) (k1_hw43 : k1_chk43 v85 v482), ∀ a x, ((![v85, v482] : Fin 2 → IVec S16 32) a x).toNat < S64x256.size a := fun v85 v482 k1_hw43 => k1_hw43

def k1_chk44 (v86 : IVec S16 32) (v489 : IVec S16 32) : Prop :=
  (∀ a x, ((![v86, v489] : Fin 2 → IVec S16 32) a x).toNat < S64x256.size a)
theorem k1_idx44_inb : ∀ (v86 : IVec S16 32) (v489 : IVec S16 32) (k1_hw44 : k1_chk44 v86 v489), ∀ a x, ((![v86, v489] : Fin 2 → IVec S16 32) a x).toNat < S64x256.size a := fun v86 v489 k1_hw44 => k1_hw44

def k1_chk45 (v87 : IVec S16 32) (v496 : IVec S16 32) : Prop :=
  (∀ a x, ((![v87, v496] : Fin 2 → IVec S16 32) a x).toNat < S64x256.size a)
theorem k1_idx45_inb : ∀ (v87 : IVec S16 32) (v496 : IVec S16 32) (k1_hw45 : k1_chk45 v87 v496), ∀ a x, ((![v87, v496] : Fin 2 → IVec S16 32) a x).toNat < S64x256.size a := fun v87 v496 k1_hw45 => k1_hw45

def k1_chk46 (v88 : IVec S16 32) (v503 : IVec S16 32) : Prop :=
  (∀ a x, ((![v88, v503] : Fin 2 → IVec S16 32) a x).toNat < S64x256.size a)
theorem k1_idx46_inb : ∀ (v88 : IVec S16 32) (v503 : IVec S16 32) (k1_hw46 : k1_chk46 v88 v503), ∀ a x, ((![v88, v503] : Fin 2 → IVec S16 32) a x).toNat < S64x256.size a := fun v88 v503 k1_hw46 => k1_hw46

def k1_chk47 (v89 : IVec S16 32) (v510 : IVec S16 32) : Prop :=
  (∀ a x, ((![v89, v510] : Fin 2 → IVec S16 32) a x).toNat < S64x256.size a)
theorem k1_idx47_inb : ∀ (v89 : IVec S16 32) (v510 : IVec S16 32) (k1_hw47 : k1_chk47 v89 v510), ∀ a x, ((![v89, v510] : Fin 2 → IVec S16 32) a x).toNat < S64x256.size a := fun v89 v510 k1_hw47 => k1_hw47

def k1_chk48 (v90 : IVec S16 32) (v517 : IVec S16 32) : Prop :=
  (∀ a x, ((![v90, v517] : Fin 2 → IVec S16 32) a x).toNat < S64x256.size a)
theorem k1_idx48_inb : ∀ (v90 : IVec S16 32) (v517 : IVec S16 32) (k1_hw48 : k1_chk48 v90 v517), ∀ a x, ((![v90, v517] : Fin 2 → IVec S16 32) a x).toNat < S64x256.size a := fun v90 v517 k1_hw48 => k1_hw48
def k1_off24 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v523 : Index := Scalar.indexCast v68
  let c96 : Index := 96#32
  ![v523.toNat, 96]

def k1_chk49 (v83 : IVec S16 32) (v540 : IVec S16 32) : Prop :=
  (∀ a x, ((![v83, v540] : Fin 2 → IVec S16 32) a x).toNat < S64x256.size a)
theorem k1_idx49_inb : ∀ (v83 : IVec S16 32) (v540 : IVec S16 32) (k1_hw49 : k1_chk49 v83 v540), ∀ a x, ((![v83, v540] : Fin 2 → IVec S16 32) a x).toNat < S64x256.size a := fun v83 v540 k1_hw49 => k1_hw49

def k1_chk50 (v84 : IVec S16 32) (v547 : IVec S16 32) : Prop :=
  (∀ a x, ((![v84, v547] : Fin 2 → IVec S16 32) a x).toNat < S64x256.size a)
theorem k1_idx50_inb : ∀ (v84 : IVec S16 32) (v547 : IVec S16 32) (k1_hw50 : k1_chk50 v84 v547), ∀ a x, ((![v84, v547] : Fin 2 → IVec S16 32) a x).toNat < S64x256.size a := fun v84 v547 k1_hw50 => k1_hw50

def k1_chk51 (v85 : IVec S16 32) (v554 : IVec S16 32) : Prop :=
  (∀ a x, ((![v85, v554] : Fin 2 → IVec S16 32) a x).toNat < S64x256.size a)
theorem k1_idx51_inb : ∀ (v85 : IVec S16 32) (v554 : IVec S16 32) (k1_hw51 : k1_chk51 v85 v554), ∀ a x, ((![v85, v554] : Fin 2 → IVec S16 32) a x).toNat < S64x256.size a := fun v85 v554 k1_hw51 => k1_hw51

def k1_chk52 (v86 : IVec S16 32) (v561 : IVec S16 32) : Prop :=
  (∀ a x, ((![v86, v561] : Fin 2 → IVec S16 32) a x).toNat < S64x256.size a)
theorem k1_idx52_inb : ∀ (v86 : IVec S16 32) (v561 : IVec S16 32) (k1_hw52 : k1_chk52 v86 v561), ∀ a x, ((![v86, v561] : Fin 2 → IVec S16 32) a x).toNat < S64x256.size a := fun v86 v561 k1_hw52 => k1_hw52

def k1_chk53 (v87 : IVec S16 32) (v568 : IVec S16 32) : Prop :=
  (∀ a x, ((![v87, v568] : Fin 2 → IVec S16 32) a x).toNat < S64x256.size a)
theorem k1_idx53_inb : ∀ (v87 : IVec S16 32) (v568 : IVec S16 32) (k1_hw53 : k1_chk53 v87 v568), ∀ a x, ((![v87, v568] : Fin 2 → IVec S16 32) a x).toNat < S64x256.size a := fun v87 v568 k1_hw53 => k1_hw53

def k1_chk54 (v88 : IVec S16 32) (v575 : IVec S16 32) : Prop :=
  (∀ a x, ((![v88, v575] : Fin 2 → IVec S16 32) a x).toNat < S64x256.size a)
theorem k1_idx54_inb : ∀ (v88 : IVec S16 32) (v575 : IVec S16 32) (k1_hw54 : k1_chk54 v88 v575), ∀ a x, ((![v88, v575] : Fin 2 → IVec S16 32) a x).toNat < S64x256.size a := fun v88 v575 k1_hw54 => k1_hw54

def k1_chk55 (v89 : IVec S16 32) (v582 : IVec S16 32) : Prop :=
  (∀ a x, ((![v89, v582] : Fin 2 → IVec S16 32) a x).toNat < S64x256.size a)
theorem k1_idx55_inb : ∀ (v89 : IVec S16 32) (v582 : IVec S16 32) (k1_hw55 : k1_chk55 v89 v582), ∀ a x, ((![v89, v582] : Fin 2 → IVec S16 32) a x).toNat < S64x256.size a := fun v89 v582 k1_hw55 => k1_hw55

def k1_chk56 (v90 : IVec S16 32) (v589 : IVec S16 32) : Prop :=
  (∀ a x, ((![v90, v589] : Fin 2 → IVec S16 32) a x).toNat < S64x256.size a)
theorem k1_idx56_inb : ∀ (v90 : IVec S16 32) (v589 : IVec S16 32) (k1_hw56 : k1_chk56 v90 v589), ∀ a x, ((![v90, v589] : Fin 2 → IVec S16 32) a x).toNat < S64x256.size a := fun v90 v589 k1_hw56 => k1_hw56
def k1_off25 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v595 : Index := Scalar.indexCast v68
  let c112 : Index := 112#32
  ![v595.toNat, 112]

def k1_chk57 (v83 : IVec S16 32) (v612 : IVec S16 32) : Prop :=
  (∀ a x, ((![v83, v612] : Fin 2 → IVec S16 32) a x).toNat < S64x256.size a)
theorem k1_idx57_inb : ∀ (v83 : IVec S16 32) (v612 : IVec S16 32) (k1_hw57 : k1_chk57 v83 v612), ∀ a x, ((![v83, v612] : Fin 2 → IVec S16 32) a x).toNat < S64x256.size a := fun v83 v612 k1_hw57 => k1_hw57

def k1_chk58 (v84 : IVec S16 32) (v619 : IVec S16 32) : Prop :=
  (∀ a x, ((![v84, v619] : Fin 2 → IVec S16 32) a x).toNat < S64x256.size a)
theorem k1_idx58_inb : ∀ (v84 : IVec S16 32) (v619 : IVec S16 32) (k1_hw58 : k1_chk58 v84 v619), ∀ a x, ((![v84, v619] : Fin 2 → IVec S16 32) a x).toNat < S64x256.size a := fun v84 v619 k1_hw58 => k1_hw58

def k1_chk59 (v85 : IVec S16 32) (v626 : IVec S16 32) : Prop :=
  (∀ a x, ((![v85, v626] : Fin 2 → IVec S16 32) a x).toNat < S64x256.size a)
theorem k1_idx59_inb : ∀ (v85 : IVec S16 32) (v626 : IVec S16 32) (k1_hw59 : k1_chk59 v85 v626), ∀ a x, ((![v85, v626] : Fin 2 → IVec S16 32) a x).toNat < S64x256.size a := fun v85 v626 k1_hw59 => k1_hw59

def k1_chk60 (v86 : IVec S16 32) (v633 : IVec S16 32) : Prop :=
  (∀ a x, ((![v86, v633] : Fin 2 → IVec S16 32) a x).toNat < S64x256.size a)
theorem k1_idx60_inb : ∀ (v86 : IVec S16 32) (v633 : IVec S16 32) (k1_hw60 : k1_chk60 v86 v633), ∀ a x, ((![v86, v633] : Fin 2 → IVec S16 32) a x).toNat < S64x256.size a := fun v86 v633 k1_hw60 => k1_hw60

def k1_chk61 (v87 : IVec S16 32) (v640 : IVec S16 32) : Prop :=
  (∀ a x, ((![v87, v640] : Fin 2 → IVec S16 32) a x).toNat < S64x256.size a)
theorem k1_idx61_inb : ∀ (v87 : IVec S16 32) (v640 : IVec S16 32) (k1_hw61 : k1_chk61 v87 v640), ∀ a x, ((![v87, v640] : Fin 2 → IVec S16 32) a x).toNat < S64x256.size a := fun v87 v640 k1_hw61 => k1_hw61

def k1_chk62 (v88 : IVec S16 32) (v647 : IVec S16 32) : Prop :=
  (∀ a x, ((![v88, v647] : Fin 2 → IVec S16 32) a x).toNat < S64x256.size a)
theorem k1_idx62_inb : ∀ (v88 : IVec S16 32) (v647 : IVec S16 32) (k1_hw62 : k1_chk62 v88 v647), ∀ a x, ((![v88, v647] : Fin 2 → IVec S16 32) a x).toNat < S64x256.size a := fun v88 v647 k1_hw62 => k1_hw62

def k1_chk63 (v89 : IVec S16 32) (v654 : IVec S16 32) : Prop :=
  (∀ a x, ((![v89, v654] : Fin 2 → IVec S16 32) a x).toNat < S64x256.size a)
theorem k1_idx63_inb : ∀ (v89 : IVec S16 32) (v654 : IVec S16 32) (k1_hw63 : k1_chk63 v89 v654), ∀ a x, ((![v89, v654] : Fin 2 → IVec S16 32) a x).toNat < S64x256.size a := fun v89 v654 k1_hw63 => k1_hw63

def k1_chk64 (v90 : IVec S16 32) (v661 : IVec S16 32) : Prop :=
  (∀ a x, ((![v90, v661] : Fin 2 → IVec S16 32) a x).toNat < S64x256.size a)
theorem k1_idx64_inb : ∀ (v90 : IVec S16 32) (v661 : IVec S16 32) (k1_hw64 : k1_chk64 v90 v661), ∀ a x, ((![v90, v661] : Fin 2 → IVec S16 32) a x).toNat < S64x256.size a := fun v90 v661 k1_hw64 => k1_hw64
def k1_off26 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v667 : Index := Scalar.indexCast v68
  let c128 : Index := 128#32
  ![v667.toNat, 128]

def k1_chk65 (v83 : IVec S16 32) (v684 : IVec S16 32) : Prop :=
  (∀ a x, ((![v83, v684] : Fin 2 → IVec S16 32) a x).toNat < S64x256.size a)
theorem k1_idx65_inb : ∀ (v83 : IVec S16 32) (v684 : IVec S16 32) (k1_hw65 : k1_chk65 v83 v684), ∀ a x, ((![v83, v684] : Fin 2 → IVec S16 32) a x).toNat < S64x256.size a := fun v83 v684 k1_hw65 => k1_hw65

def k1_chk66 (v84 : IVec S16 32) (v691 : IVec S16 32) : Prop :=
  (∀ a x, ((![v84, v691] : Fin 2 → IVec S16 32) a x).toNat < S64x256.size a)
theorem k1_idx66_inb : ∀ (v84 : IVec S16 32) (v691 : IVec S16 32) (k1_hw66 : k1_chk66 v84 v691), ∀ a x, ((![v84, v691] : Fin 2 → IVec S16 32) a x).toNat < S64x256.size a := fun v84 v691 k1_hw66 => k1_hw66

def k1_chk67 (v85 : IVec S16 32) (v698 : IVec S16 32) : Prop :=
  (∀ a x, ((![v85, v698] : Fin 2 → IVec S16 32) a x).toNat < S64x256.size a)
theorem k1_idx67_inb : ∀ (v85 : IVec S16 32) (v698 : IVec S16 32) (k1_hw67 : k1_chk67 v85 v698), ∀ a x, ((![v85, v698] : Fin 2 → IVec S16 32) a x).toNat < S64x256.size a := fun v85 v698 k1_hw67 => k1_hw67

def k1_chk68 (v86 : IVec S16 32) (v705 : IVec S16 32) : Prop :=
  (∀ a x, ((![v86, v705] : Fin 2 → IVec S16 32) a x).toNat < S64x256.size a)
theorem k1_idx68_inb : ∀ (v86 : IVec S16 32) (v705 : IVec S16 32) (k1_hw68 : k1_chk68 v86 v705), ∀ a x, ((![v86, v705] : Fin 2 → IVec S16 32) a x).toNat < S64x256.size a := fun v86 v705 k1_hw68 => k1_hw68

def k1_chk69 (v87 : IVec S16 32) (v712 : IVec S16 32) : Prop :=
  (∀ a x, ((![v87, v712] : Fin 2 → IVec S16 32) a x).toNat < S64x256.size a)
theorem k1_idx69_inb : ∀ (v87 : IVec S16 32) (v712 : IVec S16 32) (k1_hw69 : k1_chk69 v87 v712), ∀ a x, ((![v87, v712] : Fin 2 → IVec S16 32) a x).toNat < S64x256.size a := fun v87 v712 k1_hw69 => k1_hw69

def k1_chk70 (v88 : IVec S16 32) (v719 : IVec S16 32) : Prop :=
  (∀ a x, ((![v88, v719] : Fin 2 → IVec S16 32) a x).toNat < S64x256.size a)
theorem k1_idx70_inb : ∀ (v88 : IVec S16 32) (v719 : IVec S16 32) (k1_hw70 : k1_chk70 v88 v719), ∀ a x, ((![v88, v719] : Fin 2 → IVec S16 32) a x).toNat < S64x256.size a := fun v88 v719 k1_hw70 => k1_hw70

def k1_chk71 (v89 : IVec S16 32) (v726 : IVec S16 32) : Prop :=
  (∀ a x, ((![v89, v726] : Fin 2 → IVec S16 32) a x).toNat < S64x256.size a)
theorem k1_idx71_inb : ∀ (v89 : IVec S16 32) (v726 : IVec S16 32) (k1_hw71 : k1_chk71 v89 v726), ∀ a x, ((![v89, v726] : Fin 2 → IVec S16 32) a x).toNat < S64x256.size a := fun v89 v726 k1_hw71 => k1_hw71

def k1_chk72 (v90 : IVec S16 32) (v733 : IVec S16 32) : Prop :=
  (∀ a x, ((![v90, v733] : Fin 2 → IVec S16 32) a x).toNat < S64x256.size a)
theorem k1_idx72_inb : ∀ (v90 : IVec S16 32) (v733 : IVec S16 32) (k1_hw72 : k1_chk72 v90 v733), ∀ a x, ((![v90, v733] : Fin 2 → IVec S16 32) a x).toNat < S64x256.size a := fun v90 v733 k1_hw72 => k1_hw72
def k1_off27 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v739 : Index := Scalar.indexCast v68
  let c144 : Index := 144#32
  ![v739.toNat, 144]

def k1_chk73 (v83 : IVec S16 32) (v756 : IVec S16 32) : Prop :=
  (∀ a x, ((![v83, v756] : Fin 2 → IVec S16 32) a x).toNat < S64x256.size a)
theorem k1_idx73_inb : ∀ (v83 : IVec S16 32) (v756 : IVec S16 32) (k1_hw73 : k1_chk73 v83 v756), ∀ a x, ((![v83, v756] : Fin 2 → IVec S16 32) a x).toNat < S64x256.size a := fun v83 v756 k1_hw73 => k1_hw73

def k1_chk74 (v84 : IVec S16 32) (v763 : IVec S16 32) : Prop :=
  (∀ a x, ((![v84, v763] : Fin 2 → IVec S16 32) a x).toNat < S64x256.size a)
theorem k1_idx74_inb : ∀ (v84 : IVec S16 32) (v763 : IVec S16 32) (k1_hw74 : k1_chk74 v84 v763), ∀ a x, ((![v84, v763] : Fin 2 → IVec S16 32) a x).toNat < S64x256.size a := fun v84 v763 k1_hw74 => k1_hw74

def k1_chk75 (v85 : IVec S16 32) (v770 : IVec S16 32) : Prop :=
  (∀ a x, ((![v85, v770] : Fin 2 → IVec S16 32) a x).toNat < S64x256.size a)
theorem k1_idx75_inb : ∀ (v85 : IVec S16 32) (v770 : IVec S16 32) (k1_hw75 : k1_chk75 v85 v770), ∀ a x, ((![v85, v770] : Fin 2 → IVec S16 32) a x).toNat < S64x256.size a := fun v85 v770 k1_hw75 => k1_hw75

def k1_chk76 (v86 : IVec S16 32) (v777 : IVec S16 32) : Prop :=
  (∀ a x, ((![v86, v777] : Fin 2 → IVec S16 32) a x).toNat < S64x256.size a)
theorem k1_idx76_inb : ∀ (v86 : IVec S16 32) (v777 : IVec S16 32) (k1_hw76 : k1_chk76 v86 v777), ∀ a x, ((![v86, v777] : Fin 2 → IVec S16 32) a x).toNat < S64x256.size a := fun v86 v777 k1_hw76 => k1_hw76

def k1_chk77 (v87 : IVec S16 32) (v784 : IVec S16 32) : Prop :=
  (∀ a x, ((![v87, v784] : Fin 2 → IVec S16 32) a x).toNat < S64x256.size a)
theorem k1_idx77_inb : ∀ (v87 : IVec S16 32) (v784 : IVec S16 32) (k1_hw77 : k1_chk77 v87 v784), ∀ a x, ((![v87, v784] : Fin 2 → IVec S16 32) a x).toNat < S64x256.size a := fun v87 v784 k1_hw77 => k1_hw77

def k1_chk78 (v88 : IVec S16 32) (v791 : IVec S16 32) : Prop :=
  (∀ a x, ((![v88, v791] : Fin 2 → IVec S16 32) a x).toNat < S64x256.size a)
theorem k1_idx78_inb : ∀ (v88 : IVec S16 32) (v791 : IVec S16 32) (k1_hw78 : k1_chk78 v88 v791), ∀ a x, ((![v88, v791] : Fin 2 → IVec S16 32) a x).toNat < S64x256.size a := fun v88 v791 k1_hw78 => k1_hw78

def k1_chk79 (v89 : IVec S16 32) (v798 : IVec S16 32) : Prop :=
  (∀ a x, ((![v89, v798] : Fin 2 → IVec S16 32) a x).toNat < S64x256.size a)
theorem k1_idx79_inb : ∀ (v89 : IVec S16 32) (v798 : IVec S16 32) (k1_hw79 : k1_chk79 v89 v798), ∀ a x, ((![v89, v798] : Fin 2 → IVec S16 32) a x).toNat < S64x256.size a := fun v89 v798 k1_hw79 => k1_hw79

def k1_chk80 (v90 : IVec S16 32) (v805 : IVec S16 32) : Prop :=
  (∀ a x, ((![v90, v805] : Fin 2 → IVec S16 32) a x).toNat < S64x256.size a)
theorem k1_idx80_inb : ∀ (v90 : IVec S16 32) (v805 : IVec S16 32) (k1_hw80 : k1_chk80 v90 v805), ∀ a x, ((![v90, v805] : Fin 2 → IVec S16 32) a x).toNat < S64x256.size a := fun v90 v805 k1_hw80 => k1_hw80
def k1_off28 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v811 : Index := Scalar.indexCast v68
  let c160 : Index := 160#32
  ![v811.toNat, 160]

def k1_chk81 (v83 : IVec S16 32) (v828 : IVec S16 32) : Prop :=
  (∀ a x, ((![v83, v828] : Fin 2 → IVec S16 32) a x).toNat < S64x256.size a)
theorem k1_idx81_inb : ∀ (v83 : IVec S16 32) (v828 : IVec S16 32) (k1_hw81 : k1_chk81 v83 v828), ∀ a x, ((![v83, v828] : Fin 2 → IVec S16 32) a x).toNat < S64x256.size a := fun v83 v828 k1_hw81 => k1_hw81

def k1_chk82 (v84 : IVec S16 32) (v835 : IVec S16 32) : Prop :=
  (∀ a x, ((![v84, v835] : Fin 2 → IVec S16 32) a x).toNat < S64x256.size a)
theorem k1_idx82_inb : ∀ (v84 : IVec S16 32) (v835 : IVec S16 32) (k1_hw82 : k1_chk82 v84 v835), ∀ a x, ((![v84, v835] : Fin 2 → IVec S16 32) a x).toNat < S64x256.size a := fun v84 v835 k1_hw82 => k1_hw82

def k1_chk83 (v85 : IVec S16 32) (v842 : IVec S16 32) : Prop :=
  (∀ a x, ((![v85, v842] : Fin 2 → IVec S16 32) a x).toNat < S64x256.size a)
theorem k1_idx83_inb : ∀ (v85 : IVec S16 32) (v842 : IVec S16 32) (k1_hw83 : k1_chk83 v85 v842), ∀ a x, ((![v85, v842] : Fin 2 → IVec S16 32) a x).toNat < S64x256.size a := fun v85 v842 k1_hw83 => k1_hw83

def k1_chk84 (v86 : IVec S16 32) (v849 : IVec S16 32) : Prop :=
  (∀ a x, ((![v86, v849] : Fin 2 → IVec S16 32) a x).toNat < S64x256.size a)
theorem k1_idx84_inb : ∀ (v86 : IVec S16 32) (v849 : IVec S16 32) (k1_hw84 : k1_chk84 v86 v849), ∀ a x, ((![v86, v849] : Fin 2 → IVec S16 32) a x).toNat < S64x256.size a := fun v86 v849 k1_hw84 => k1_hw84

def k1_chk85 (v87 : IVec S16 32) (v856 : IVec S16 32) : Prop :=
  (∀ a x, ((![v87, v856] : Fin 2 → IVec S16 32) a x).toNat < S64x256.size a)
theorem k1_idx85_inb : ∀ (v87 : IVec S16 32) (v856 : IVec S16 32) (k1_hw85 : k1_chk85 v87 v856), ∀ a x, ((![v87, v856] : Fin 2 → IVec S16 32) a x).toNat < S64x256.size a := fun v87 v856 k1_hw85 => k1_hw85

def k1_chk86 (v88 : IVec S16 32) (v863 : IVec S16 32) : Prop :=
  (∀ a x, ((![v88, v863] : Fin 2 → IVec S16 32) a x).toNat < S64x256.size a)
theorem k1_idx86_inb : ∀ (v88 : IVec S16 32) (v863 : IVec S16 32) (k1_hw86 : k1_chk86 v88 v863), ∀ a x, ((![v88, v863] : Fin 2 → IVec S16 32) a x).toNat < S64x256.size a := fun v88 v863 k1_hw86 => k1_hw86

def k1_chk87 (v89 : IVec S16 32) (v870 : IVec S16 32) : Prop :=
  (∀ a x, ((![v89, v870] : Fin 2 → IVec S16 32) a x).toNat < S64x256.size a)
theorem k1_idx87_inb : ∀ (v89 : IVec S16 32) (v870 : IVec S16 32) (k1_hw87 : k1_chk87 v89 v870), ∀ a x, ((![v89, v870] : Fin 2 → IVec S16 32) a x).toNat < S64x256.size a := fun v89 v870 k1_hw87 => k1_hw87

def k1_chk88 (v90 : IVec S16 32) (v877 : IVec S16 32) : Prop :=
  (∀ a x, ((![v90, v877] : Fin 2 → IVec S16 32) a x).toNat < S64x256.size a)
theorem k1_idx88_inb : ∀ (v90 : IVec S16 32) (v877 : IVec S16 32) (k1_hw88 : k1_chk88 v90 v877), ∀ a x, ((![v90, v877] : Fin 2 → IVec S16 32) a x).toNat < S64x256.size a := fun v90 v877 k1_hw88 => k1_hw88
def k1_off29 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v883 : Index := Scalar.indexCast v68
  let c176 : Index := 176#32
  ![v883.toNat, 176]

def k1_chk89 (v83 : IVec S16 32) (v900 : IVec S16 32) : Prop :=
  (∀ a x, ((![v83, v900] : Fin 2 → IVec S16 32) a x).toNat < S64x256.size a)
theorem k1_idx89_inb : ∀ (v83 : IVec S16 32) (v900 : IVec S16 32) (k1_hw89 : k1_chk89 v83 v900), ∀ a x, ((![v83, v900] : Fin 2 → IVec S16 32) a x).toNat < S64x256.size a := fun v83 v900 k1_hw89 => k1_hw89

def k1_chk90 (v84 : IVec S16 32) (v907 : IVec S16 32) : Prop :=
  (∀ a x, ((![v84, v907] : Fin 2 → IVec S16 32) a x).toNat < S64x256.size a)
theorem k1_idx90_inb : ∀ (v84 : IVec S16 32) (v907 : IVec S16 32) (k1_hw90 : k1_chk90 v84 v907), ∀ a x, ((![v84, v907] : Fin 2 → IVec S16 32) a x).toNat < S64x256.size a := fun v84 v907 k1_hw90 => k1_hw90

def k1_chk91 (v85 : IVec S16 32) (v914 : IVec S16 32) : Prop :=
  (∀ a x, ((![v85, v914] : Fin 2 → IVec S16 32) a x).toNat < S64x256.size a)
theorem k1_idx91_inb : ∀ (v85 : IVec S16 32) (v914 : IVec S16 32) (k1_hw91 : k1_chk91 v85 v914), ∀ a x, ((![v85, v914] : Fin 2 → IVec S16 32) a x).toNat < S64x256.size a := fun v85 v914 k1_hw91 => k1_hw91

def k1_chk92 (v86 : IVec S16 32) (v921 : IVec S16 32) : Prop :=
  (∀ a x, ((![v86, v921] : Fin 2 → IVec S16 32) a x).toNat < S64x256.size a)
theorem k1_idx92_inb : ∀ (v86 : IVec S16 32) (v921 : IVec S16 32) (k1_hw92 : k1_chk92 v86 v921), ∀ a x, ((![v86, v921] : Fin 2 → IVec S16 32) a x).toNat < S64x256.size a := fun v86 v921 k1_hw92 => k1_hw92

def k1_chk93 (v87 : IVec S16 32) (v928 : IVec S16 32) : Prop :=
  (∀ a x, ((![v87, v928] : Fin 2 → IVec S16 32) a x).toNat < S64x256.size a)
theorem k1_idx93_inb : ∀ (v87 : IVec S16 32) (v928 : IVec S16 32) (k1_hw93 : k1_chk93 v87 v928), ∀ a x, ((![v87, v928] : Fin 2 → IVec S16 32) a x).toNat < S64x256.size a := fun v87 v928 k1_hw93 => k1_hw93

def k1_chk94 (v88 : IVec S16 32) (v935 : IVec S16 32) : Prop :=
  (∀ a x, ((![v88, v935] : Fin 2 → IVec S16 32) a x).toNat < S64x256.size a)
theorem k1_idx94_inb : ∀ (v88 : IVec S16 32) (v935 : IVec S16 32) (k1_hw94 : k1_chk94 v88 v935), ∀ a x, ((![v88, v935] : Fin 2 → IVec S16 32) a x).toNat < S64x256.size a := fun v88 v935 k1_hw94 => k1_hw94

def k1_chk95 (v89 : IVec S16 32) (v942 : IVec S16 32) : Prop :=
  (∀ a x, ((![v89, v942] : Fin 2 → IVec S16 32) a x).toNat < S64x256.size a)
theorem k1_idx95_inb : ∀ (v89 : IVec S16 32) (v942 : IVec S16 32) (k1_hw95 : k1_chk95 v89 v942), ∀ a x, ((![v89, v942] : Fin 2 → IVec S16 32) a x).toNat < S64x256.size a := fun v89 v942 k1_hw95 => k1_hw95

def k1_chk96 (v90 : IVec S16 32) (v949 : IVec S16 32) : Prop :=
  (∀ a x, ((![v90, v949] : Fin 2 → IVec S16 32) a x).toNat < S64x256.size a)
theorem k1_idx96_inb : ∀ (v90 : IVec S16 32) (v949 : IVec S16 32) (k1_hw96 : k1_chk96 v90 v949), ∀ a x, ((![v90, v949] : Fin 2 → IVec S16 32) a x).toNat < S64x256.size a := fun v90 v949 k1_hw96 => k1_hw96
def k1_off30 (k1_t2 : Fin k1_t2_loop.trips) (c0_i32_88 : BitVec 32) : Fin 2 → Nat :=
  let c0_i32_15 : BitVec 32 := 0#32
  let c1_i32_17 : BitVec 32 := 1#32
  let arg12 : BitVec 32 := Scf.iv c0_i32_15 c1_i32_17 k1_t2
  let c8_i32_87 : BitVec 32 := 8#32
  let v67 : BitVec 32 := Scalar.muli arg12 c8_i32_87
  let v68 : BitVec 32 := Scalar.addi v67 c0_i32_88
  let v955 : Index := Scalar.indexCast v68
  let c184 : Index := 184#32
  ![v955.toNat, 184]

def k1_chk97 (v83 : IVec S16 32) (v972 : IVec S16 32) : Prop :=
  (∀ a x, ((![v83, v972] : Fin 2 → IVec S16 32) a x).toNat < S64x256.size a)
theorem k1_idx97_inb : ∀ (v83 : IVec S16 32) (v972 : IVec S16 32) (k1_hw97 : k1_chk97 v83 v972), ∀ a x, ((![v83, v972] : Fin 2 → IVec S16 32) a x).toNat < S64x256.size a := fun v83 v972 k1_hw97 => k1_hw97

def k1_chk98 (v84 : IVec S16 32) (v979 : IVec S16 32) : Prop :=
  (∀ a x, ((![v84, v979] : Fin 2 → IVec S16 32) a x).toNat < S64x256.size a)
theorem k1_idx98_inb : ∀ (v84 : IVec S16 32) (v979 : IVec S16 32) (k1_hw98 : k1_chk98 v84 v979), ∀ a x, ((![v84, v979] : Fin 2 → IVec S16 32) a x).toNat < S64x256.size a := fun v84 v979 k1_hw98 => k1_hw98

def k1_chk99 (v85 : IVec S16 32) (v986 : IVec S16 32) : Prop :=
  (∀ a x, ((![v85, v986] : Fin 2 → IVec S16 32) a x).toNat < S64x256.size a)
theorem k1_idx99_inb : ∀ (v85 : IVec S16 32) (v986 : IVec S16 32) (k1_hw99 : k1_chk99 v85 v986), ∀ a x, ((![v85, v986] : Fin 2 → IVec S16 32) a x).toNat < S64x256.size a := fun v85 v986 k1_hw99 => k1_hw99

def k1_chk100 (v86 : IVec S16 32) (v993 : IVec S16 32) : Prop :=
  (∀ a x, ((![v86, v993] : Fin 2 → IVec S16 32) a x).toNat < S64x256.size a)
theorem k1_idx100_inb : ∀ (v86 : IVec S16 32) (v993 : IVec S16 32) (k1_hw100 : k1_chk100 v86 v993), ∀ a x, ((![v86, v993] : Fin 2 → IVec S16 32) a x).toNat < S64x256.size a := fun v86 v993 k1_hw100 => k1_hw100

def k1_chk101 (v87 : IVec S16 32) (v1000 : IVec S16 32) : Prop :=
  (∀ a x, ((![v87, v1000] : Fin 2 → IVec S16 32) a x).toNat < S64x256.size a)
theorem k1_idx101_inb : ∀ (v87 : IVec S16 32) (v1000 : IVec S16 32) (k1_hw101 : k1_chk101 v87 v1000), ∀ a x, ((![v87, v1000] : Fin 2 → IVec S16 32) a x).toNat < S64x256.size a := fun v87 v1000 k1_hw101 => k1_hw101

def k1_chk102 (v88 : IVec S16 32) (v1007 : IVec S16 32) : Prop :=
  (∀ a x, ((![v88, v1007] : Fin 2 → IVec S16 32) a x).toNat < S64x256.size a)
theorem k1_idx102_inb : ∀ (v88 : IVec S16 32) (v1007 : IVec S16 32) (k1_hw102 : k1_chk102 v88 v1007), ∀ a x, ((![v88, v1007] : Fin 2 → IVec S16 32) a x).toNat < S64x256.size a := fun v88 v1007 k1_hw102 => k1_hw102

def k1_chk103 (v89 : IVec S16 32) (v1014 : IVec S16 32) : Prop :=
  (∀ a x, ((![v89, v1014] : Fin 2 → IVec S16 32) a x).toNat < S64x256.size a)
theorem k1_idx103_inb : ∀ (v89 : IVec S16 32) (v1014 : IVec S16 32) (k1_hw103 : k1_chk103 v89 v1014), ∀ a x, ((![v89, v1014] : Fin 2 → IVec S16 32) a x).toNat < S64x256.size a := fun v89 v1014 k1_hw103 => k1_hw103

def k1_chk104 (v90 : IVec S16 32) (v1021 : IVec S16 32) : Prop :=
  (∀ a x, ((![v90, v1021] : Fin 2 → IVec S16 32) a x).toNat < S64x256.size a)
theorem k1_idx104_inb : ∀ (v90 : IVec S16 32) (v1021 : IVec S16 32) (k1_hw104 : k1_chk104 v90 v1021), ∀ a x, ((![v90, v1021] : Fin 2 → IVec S16 32) a x).toNat < S64x256.size a := fun v90 v1021 k1_hw104 => k1_hw104
def k1_off31 (i : grid1.Coords) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_19 : BitVec 32 := 256#32
  let v21 : BitVec 32 := Scalar.muli v1 c256_i32_19
  let v22 : BitVec 32 := Scalar.addi v21 c0_i32_20
  let c0_i32_21 : BitVec 32 := 0#32
  ![v22.toNat, 0]
@[reducible] def k1_t3_loop : Scf.Loop 32 :=
  let c0_i32_30 : BitVec 32 := 0#32
  let c64_i32_31 : BitVec 32 := 64#32
  let v32 : BitVec 32 := Scalar.addi c0_i32_30 c64_i32_31
  let c1_i32_32 : BitVec 32 := 1#32
  ⟨c0_i32_30, v32, c1_i32_32⟩
def k1_off32 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v67 : Index := Scalar.indexCast arg12
  let c0 : Index := 0#32
  ![v67.toNat, 0]
def k1_off33 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v69 : Index := Scalar.indexCast arg12
  let c16 : Index := 16#32
  ![v69.toNat, 16]
def k1_off34 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v71 : Index := Scalar.indexCast arg12
  let c32 : Index := 32#32
  ![v71.toNat, 32]
def k1_off35 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v73 : Index := Scalar.indexCast arg12
  let c48 : Index := 48#32
  ![v73.toNat, 48]
def k1_off36 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v75 : Index := Scalar.indexCast arg12
  let c64 : Index := 64#32
  ![v75.toNat, 64]
def k1_off37 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v77 : Index := Scalar.indexCast arg12
  let c80 : Index := 80#32
  ![v77.toNat, 80]
def k1_off38 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v79 : Index := Scalar.indexCast arg12
  let c96 : Index := 96#32
  ![v79.toNat, 96]
def k1_off39 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v81 : Index := Scalar.indexCast arg12
  let c112 : Index := 112#32
  ![v81.toNat, 112]
def k1_off40 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v83 : Index := Scalar.indexCast arg12
  let c128 : Index := 128#32
  ![v83.toNat, 128]
def k1_off41 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v85 : Index := Scalar.indexCast arg12
  let c144 : Index := 144#32
  ![v85.toNat, 144]
def k1_off42 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v87 : Index := Scalar.indexCast arg12
  let c160 : Index := 160#32
  ![v87.toNat, 160]
def k1_off43 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v89 : Index := Scalar.indexCast arg12
  let c176 : Index := 176#32
  ![v89.toNat, 176]
def k1_off44 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v91 : Index := Scalar.indexCast arg12
  let c192 : Index := 192#32
  ![v91.toNat, 192]
def k1_off45 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v93 : Index := Scalar.indexCast arg12
  let c208 : Index := 208#32
  ![v93.toNat, 208]
def k1_off46 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v95 : Index := Scalar.indexCast arg12
  let c224 : Index := 224#32
  ![v95.toNat, 224]
def k1_off47 (k1_t3 : Fin k1_t3_loop.trips) : Fin 2 → Nat :=
  let c0_i32_30 : BitVec 32 := 0#32
  let c1_i32_32 : BitVec 32 := 1#32
  let arg12 : BitVec 32 := Scf.iv c0_i32_30 c1_i32_32 k1_t3
  let v97 : Index := Scalar.indexCast arg12
  let c240 : Index := 240#32
  ![v97.toNat, 240]
@[reducible] def k1_t4_loop : Scf.Loop 32 :=
  let c0_i32_35 : BitVec 32 := 0#32
  let c8_i32_36 : BitVec 32 := 8#32
  let v33 : BitVec 32 := Scalar.addi c0_i32_35 c8_i32_36
  let c1_i32_37 : BitVec 32 := 1#32
  ⟨c0_i32_35, v33, c1_i32_37⟩
def k1_off48 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v91 : Index := Scalar.indexCast v68
  let c0 : Index := 0#32
  ![v91.toNat, 0]

def k1_chk105 (v83 : IVec S16 32) (v108 : IVec S16 32) : Prop :=
  (∀ a x, ((![v83, v108] : Fin 2 → IVec S16 32) a x).toNat < S64x256.size a)
theorem k1_idx105_inb : ∀ (v83 : IVec S16 32) (v108 : IVec S16 32) (k1_hw105 : k1_chk105 v83 v108), ∀ a x, ((![v83, v108] : Fin 2 → IVec S16 32) a x).toNat < S64x256.size a := fun v83 v108 k1_hw105 => k1_hw105

def k1_chk106 (v84 : IVec S16 32) (v115 : IVec S16 32) : Prop :=
  (∀ a x, ((![v84, v115] : Fin 2 → IVec S16 32) a x).toNat < S64x256.size a)
theorem k1_idx106_inb : ∀ (v84 : IVec S16 32) (v115 : IVec S16 32) (k1_hw106 : k1_chk106 v84 v115), ∀ a x, ((![v84, v115] : Fin 2 → IVec S16 32) a x).toNat < S64x256.size a := fun v84 v115 k1_hw106 => k1_hw106

def k1_chk107 (v85 : IVec S16 32) (v122 : IVec S16 32) : Prop :=
  (∀ a x, ((![v85, v122] : Fin 2 → IVec S16 32) a x).toNat < S64x256.size a)
theorem k1_idx107_inb : ∀ (v85 : IVec S16 32) (v122 : IVec S16 32) (k1_hw107 : k1_chk107 v85 v122), ∀ a x, ((![v85, v122] : Fin 2 → IVec S16 32) a x).toNat < S64x256.size a := fun v85 v122 k1_hw107 => k1_hw107

def k1_chk108 (v86 : IVec S16 32) (v129 : IVec S16 32) : Prop :=
  (∀ a x, ((![v86, v129] : Fin 2 → IVec S16 32) a x).toNat < S64x256.size a)
theorem k1_idx108_inb : ∀ (v86 : IVec S16 32) (v129 : IVec S16 32) (k1_hw108 : k1_chk108 v86 v129), ∀ a x, ((![v86, v129] : Fin 2 → IVec S16 32) a x).toNat < S64x256.size a := fun v86 v129 k1_hw108 => k1_hw108

def k1_chk109 (v87 : IVec S16 32) (v136 : IVec S16 32) : Prop :=
  (∀ a x, ((![v87, v136] : Fin 2 → IVec S16 32) a x).toNat < S64x256.size a)
theorem k1_idx109_inb : ∀ (v87 : IVec S16 32) (v136 : IVec S16 32) (k1_hw109 : k1_chk109 v87 v136), ∀ a x, ((![v87, v136] : Fin 2 → IVec S16 32) a x).toNat < S64x256.size a := fun v87 v136 k1_hw109 => k1_hw109

def k1_chk110 (v88 : IVec S16 32) (v143 : IVec S16 32) : Prop :=
  (∀ a x, ((![v88, v143] : Fin 2 → IVec S16 32) a x).toNat < S64x256.size a)
theorem k1_idx110_inb : ∀ (v88 : IVec S16 32) (v143 : IVec S16 32) (k1_hw110 : k1_chk110 v88 v143), ∀ a x, ((![v88, v143] : Fin 2 → IVec S16 32) a x).toNat < S64x256.size a := fun v88 v143 k1_hw110 => k1_hw110

def k1_chk111 (v89 : IVec S16 32) (v150 : IVec S16 32) : Prop :=
  (∀ a x, ((![v89, v150] : Fin 2 → IVec S16 32) a x).toNat < S64x256.size a)
theorem k1_idx111_inb : ∀ (v89 : IVec S16 32) (v150 : IVec S16 32) (k1_hw111 : k1_chk111 v89 v150), ∀ a x, ((![v89, v150] : Fin 2 → IVec S16 32) a x).toNat < S64x256.size a := fun v89 v150 k1_hw111 => k1_hw111

def k1_chk112 (v90 : IVec S16 32) (v157 : IVec S16 32) : Prop :=
  (∀ a x, ((![v90, v157] : Fin 2 → IVec S16 32) a x).toNat < S64x256.size a)
theorem k1_idx112_inb : ∀ (v90 : IVec S16 32) (v157 : IVec S16 32) (k1_hw112 : k1_chk112 v90 v157), ∀ a x, ((![v90, v157] : Fin 2 → IVec S16 32) a x).toNat < S64x256.size a := fun v90 v157 k1_hw112 => k1_hw112
def k1_off49 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v163 : Index := Scalar.indexCast v68
  let c16 : Index := 16#32
  ![v163.toNat, 16]

def k1_chk113 (v83 : IVec S16 32) (v180 : IVec S16 32) : Prop :=
  (∀ a x, ((![v83, v180] : Fin 2 → IVec S16 32) a x).toNat < S64x256.size a)
theorem k1_idx113_inb : ∀ (v83 : IVec S16 32) (v180 : IVec S16 32) (k1_hw113 : k1_chk113 v83 v180), ∀ a x, ((![v83, v180] : Fin 2 → IVec S16 32) a x).toNat < S64x256.size a := fun v83 v180 k1_hw113 => k1_hw113

def k1_chk114 (v84 : IVec S16 32) (v187 : IVec S16 32) : Prop :=
  (∀ a x, ((![v84, v187] : Fin 2 → IVec S16 32) a x).toNat < S64x256.size a)
theorem k1_idx114_inb : ∀ (v84 : IVec S16 32) (v187 : IVec S16 32) (k1_hw114 : k1_chk114 v84 v187), ∀ a x, ((![v84, v187] : Fin 2 → IVec S16 32) a x).toNat < S64x256.size a := fun v84 v187 k1_hw114 => k1_hw114

def k1_chk115 (v85 : IVec S16 32) (v194 : IVec S16 32) : Prop :=
  (∀ a x, ((![v85, v194] : Fin 2 → IVec S16 32) a x).toNat < S64x256.size a)
theorem k1_idx115_inb : ∀ (v85 : IVec S16 32) (v194 : IVec S16 32) (k1_hw115 : k1_chk115 v85 v194), ∀ a x, ((![v85, v194] : Fin 2 → IVec S16 32) a x).toNat < S64x256.size a := fun v85 v194 k1_hw115 => k1_hw115

def k1_chk116 (v86 : IVec S16 32) (v201 : IVec S16 32) : Prop :=
  (∀ a x, ((![v86, v201] : Fin 2 → IVec S16 32) a x).toNat < S64x256.size a)
theorem k1_idx116_inb : ∀ (v86 : IVec S16 32) (v201 : IVec S16 32) (k1_hw116 : k1_chk116 v86 v201), ∀ a x, ((![v86, v201] : Fin 2 → IVec S16 32) a x).toNat < S64x256.size a := fun v86 v201 k1_hw116 => k1_hw116

def k1_chk117 (v87 : IVec S16 32) (v208 : IVec S16 32) : Prop :=
  (∀ a x, ((![v87, v208] : Fin 2 → IVec S16 32) a x).toNat < S64x256.size a)
theorem k1_idx117_inb : ∀ (v87 : IVec S16 32) (v208 : IVec S16 32) (k1_hw117 : k1_chk117 v87 v208), ∀ a x, ((![v87, v208] : Fin 2 → IVec S16 32) a x).toNat < S64x256.size a := fun v87 v208 k1_hw117 => k1_hw117

def k1_chk118 (v88 : IVec S16 32) (v215 : IVec S16 32) : Prop :=
  (∀ a x, ((![v88, v215] : Fin 2 → IVec S16 32) a x).toNat < S64x256.size a)
theorem k1_idx118_inb : ∀ (v88 : IVec S16 32) (v215 : IVec S16 32) (k1_hw118 : k1_chk118 v88 v215), ∀ a x, ((![v88, v215] : Fin 2 → IVec S16 32) a x).toNat < S64x256.size a := fun v88 v215 k1_hw118 => k1_hw118

def k1_chk119 (v89 : IVec S16 32) (v222 : IVec S16 32) : Prop :=
  (∀ a x, ((![v89, v222] : Fin 2 → IVec S16 32) a x).toNat < S64x256.size a)
theorem k1_idx119_inb : ∀ (v89 : IVec S16 32) (v222 : IVec S16 32) (k1_hw119 : k1_chk119 v89 v222), ∀ a x, ((![v89, v222] : Fin 2 → IVec S16 32) a x).toNat < S64x256.size a := fun v89 v222 k1_hw119 => k1_hw119

def k1_chk120 (v90 : IVec S16 32) (v229 : IVec S16 32) : Prop :=
  (∀ a x, ((![v90, v229] : Fin 2 → IVec S16 32) a x).toNat < S64x256.size a)
theorem k1_idx120_inb : ∀ (v90 : IVec S16 32) (v229 : IVec S16 32) (k1_hw120 : k1_chk120 v90 v229), ∀ a x, ((![v90, v229] : Fin 2 → IVec S16 32) a x).toNat < S64x256.size a := fun v90 v229 k1_hw120 => k1_hw120
def k1_off50 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v235 : Index := Scalar.indexCast v68
  let c32 : Index := 32#32
  ![v235.toNat, 32]

def k1_chk121 (v83 : IVec S16 32) (v252 : IVec S16 32) : Prop :=
  (∀ a x, ((![v83, v252] : Fin 2 → IVec S16 32) a x).toNat < S64x256.size a)
theorem k1_idx121_inb : ∀ (v83 : IVec S16 32) (v252 : IVec S16 32) (k1_hw121 : k1_chk121 v83 v252), ∀ a x, ((![v83, v252] : Fin 2 → IVec S16 32) a x).toNat < S64x256.size a := fun v83 v252 k1_hw121 => k1_hw121

def k1_chk122 (v84 : IVec S16 32) (v259 : IVec S16 32) : Prop :=
  (∀ a x, ((![v84, v259] : Fin 2 → IVec S16 32) a x).toNat < S64x256.size a)
theorem k1_idx122_inb : ∀ (v84 : IVec S16 32) (v259 : IVec S16 32) (k1_hw122 : k1_chk122 v84 v259), ∀ a x, ((![v84, v259] : Fin 2 → IVec S16 32) a x).toNat < S64x256.size a := fun v84 v259 k1_hw122 => k1_hw122

def k1_chk123 (v85 : IVec S16 32) (v266 : IVec S16 32) : Prop :=
  (∀ a x, ((![v85, v266] : Fin 2 → IVec S16 32) a x).toNat < S64x256.size a)
theorem k1_idx123_inb : ∀ (v85 : IVec S16 32) (v266 : IVec S16 32) (k1_hw123 : k1_chk123 v85 v266), ∀ a x, ((![v85, v266] : Fin 2 → IVec S16 32) a x).toNat < S64x256.size a := fun v85 v266 k1_hw123 => k1_hw123

def k1_chk124 (v86 : IVec S16 32) (v273 : IVec S16 32) : Prop :=
  (∀ a x, ((![v86, v273] : Fin 2 → IVec S16 32) a x).toNat < S64x256.size a)
theorem k1_idx124_inb : ∀ (v86 : IVec S16 32) (v273 : IVec S16 32) (k1_hw124 : k1_chk124 v86 v273), ∀ a x, ((![v86, v273] : Fin 2 → IVec S16 32) a x).toNat < S64x256.size a := fun v86 v273 k1_hw124 => k1_hw124

def k1_chk125 (v87 : IVec S16 32) (v280 : IVec S16 32) : Prop :=
  (∀ a x, ((![v87, v280] : Fin 2 → IVec S16 32) a x).toNat < S64x256.size a)
theorem k1_idx125_inb : ∀ (v87 : IVec S16 32) (v280 : IVec S16 32) (k1_hw125 : k1_chk125 v87 v280), ∀ a x, ((![v87, v280] : Fin 2 → IVec S16 32) a x).toNat < S64x256.size a := fun v87 v280 k1_hw125 => k1_hw125

def k1_chk126 (v88 : IVec S16 32) (v287 : IVec S16 32) : Prop :=
  (∀ a x, ((![v88, v287] : Fin 2 → IVec S16 32) a x).toNat < S64x256.size a)
theorem k1_idx126_inb : ∀ (v88 : IVec S16 32) (v287 : IVec S16 32) (k1_hw126 : k1_chk126 v88 v287), ∀ a x, ((![v88, v287] : Fin 2 → IVec S16 32) a x).toNat < S64x256.size a := fun v88 v287 k1_hw126 => k1_hw126

def k1_chk127 (v89 : IVec S16 32) (v294 : IVec S16 32) : Prop :=
  (∀ a x, ((![v89, v294] : Fin 2 → IVec S16 32) a x).toNat < S64x256.size a)
theorem k1_idx127_inb : ∀ (v89 : IVec S16 32) (v294 : IVec S16 32) (k1_hw127 : k1_chk127 v89 v294), ∀ a x, ((![v89, v294] : Fin 2 → IVec S16 32) a x).toNat < S64x256.size a := fun v89 v294 k1_hw127 => k1_hw127

def k1_chk128 (v90 : IVec S16 32) (v301 : IVec S16 32) : Prop :=
  (∀ a x, ((![v90, v301] : Fin 2 → IVec S16 32) a x).toNat < S64x256.size a)
theorem k1_idx128_inb : ∀ (v90 : IVec S16 32) (v301 : IVec S16 32) (k1_hw128 : k1_chk128 v90 v301), ∀ a x, ((![v90, v301] : Fin 2 → IVec S16 32) a x).toNat < S64x256.size a := fun v90 v301 k1_hw128 => k1_hw128
def k1_off51 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v307 : Index := Scalar.indexCast v68
  let c48 : Index := 48#32
  ![v307.toNat, 48]

def k1_chk129 (v83 : IVec S16 32) (v324 : IVec S16 32) : Prop :=
  (∀ a x, ((![v83, v324] : Fin 2 → IVec S16 32) a x).toNat < S64x256.size a)
theorem k1_idx129_inb : ∀ (v83 : IVec S16 32) (v324 : IVec S16 32) (k1_hw129 : k1_chk129 v83 v324), ∀ a x, ((![v83, v324] : Fin 2 → IVec S16 32) a x).toNat < S64x256.size a := fun v83 v324 k1_hw129 => k1_hw129

def k1_chk130 (v84 : IVec S16 32) (v331 : IVec S16 32) : Prop :=
  (∀ a x, ((![v84, v331] : Fin 2 → IVec S16 32) a x).toNat < S64x256.size a)
theorem k1_idx130_inb : ∀ (v84 : IVec S16 32) (v331 : IVec S16 32) (k1_hw130 : k1_chk130 v84 v331), ∀ a x, ((![v84, v331] : Fin 2 → IVec S16 32) a x).toNat < S64x256.size a := fun v84 v331 k1_hw130 => k1_hw130

def k1_chk131 (v85 : IVec S16 32) (v338 : IVec S16 32) : Prop :=
  (∀ a x, ((![v85, v338] : Fin 2 → IVec S16 32) a x).toNat < S64x256.size a)
theorem k1_idx131_inb : ∀ (v85 : IVec S16 32) (v338 : IVec S16 32) (k1_hw131 : k1_chk131 v85 v338), ∀ a x, ((![v85, v338] : Fin 2 → IVec S16 32) a x).toNat < S64x256.size a := fun v85 v338 k1_hw131 => k1_hw131

def k1_chk132 (v86 : IVec S16 32) (v345 : IVec S16 32) : Prop :=
  (∀ a x, ((![v86, v345] : Fin 2 → IVec S16 32) a x).toNat < S64x256.size a)
theorem k1_idx132_inb : ∀ (v86 : IVec S16 32) (v345 : IVec S16 32) (k1_hw132 : k1_chk132 v86 v345), ∀ a x, ((![v86, v345] : Fin 2 → IVec S16 32) a x).toNat < S64x256.size a := fun v86 v345 k1_hw132 => k1_hw132

def k1_chk133 (v87 : IVec S16 32) (v352 : IVec S16 32) : Prop :=
  (∀ a x, ((![v87, v352] : Fin 2 → IVec S16 32) a x).toNat < S64x256.size a)
theorem k1_idx133_inb : ∀ (v87 : IVec S16 32) (v352 : IVec S16 32) (k1_hw133 : k1_chk133 v87 v352), ∀ a x, ((![v87, v352] : Fin 2 → IVec S16 32) a x).toNat < S64x256.size a := fun v87 v352 k1_hw133 => k1_hw133

def k1_chk134 (v88 : IVec S16 32) (v359 : IVec S16 32) : Prop :=
  (∀ a x, ((![v88, v359] : Fin 2 → IVec S16 32) a x).toNat < S64x256.size a)
theorem k1_idx134_inb : ∀ (v88 : IVec S16 32) (v359 : IVec S16 32) (k1_hw134 : k1_chk134 v88 v359), ∀ a x, ((![v88, v359] : Fin 2 → IVec S16 32) a x).toNat < S64x256.size a := fun v88 v359 k1_hw134 => k1_hw134

def k1_chk135 (v89 : IVec S16 32) (v366 : IVec S16 32) : Prop :=
  (∀ a x, ((![v89, v366] : Fin 2 → IVec S16 32) a x).toNat < S64x256.size a)
theorem k1_idx135_inb : ∀ (v89 : IVec S16 32) (v366 : IVec S16 32) (k1_hw135 : k1_chk135 v89 v366), ∀ a x, ((![v89, v366] : Fin 2 → IVec S16 32) a x).toNat < S64x256.size a := fun v89 v366 k1_hw135 => k1_hw135

def k1_chk136 (v90 : IVec S16 32) (v373 : IVec S16 32) : Prop :=
  (∀ a x, ((![v90, v373] : Fin 2 → IVec S16 32) a x).toNat < S64x256.size a)
theorem k1_idx136_inb : ∀ (v90 : IVec S16 32) (v373 : IVec S16 32) (k1_hw136 : k1_chk136 v90 v373), ∀ a x, ((![v90, v373] : Fin 2 → IVec S16 32) a x).toNat < S64x256.size a := fun v90 v373 k1_hw136 => k1_hw136
def k1_off52 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v379 : Index := Scalar.indexCast v68
  let c64 : Index := 64#32
  ![v379.toNat, 64]

def k1_chk137 (v83 : IVec S16 32) (v396 : IVec S16 32) : Prop :=
  (∀ a x, ((![v83, v396] : Fin 2 → IVec S16 32) a x).toNat < S64x256.size a)
theorem k1_idx137_inb : ∀ (v83 : IVec S16 32) (v396 : IVec S16 32) (k1_hw137 : k1_chk137 v83 v396), ∀ a x, ((![v83, v396] : Fin 2 → IVec S16 32) a x).toNat < S64x256.size a := fun v83 v396 k1_hw137 => k1_hw137

def k1_chk138 (v84 : IVec S16 32) (v403 : IVec S16 32) : Prop :=
  (∀ a x, ((![v84, v403] : Fin 2 → IVec S16 32) a x).toNat < S64x256.size a)
theorem k1_idx138_inb : ∀ (v84 : IVec S16 32) (v403 : IVec S16 32) (k1_hw138 : k1_chk138 v84 v403), ∀ a x, ((![v84, v403] : Fin 2 → IVec S16 32) a x).toNat < S64x256.size a := fun v84 v403 k1_hw138 => k1_hw138

def k1_chk139 (v85 : IVec S16 32) (v410 : IVec S16 32) : Prop :=
  (∀ a x, ((![v85, v410] : Fin 2 → IVec S16 32) a x).toNat < S64x256.size a)
theorem k1_idx139_inb : ∀ (v85 : IVec S16 32) (v410 : IVec S16 32) (k1_hw139 : k1_chk139 v85 v410), ∀ a x, ((![v85, v410] : Fin 2 → IVec S16 32) a x).toNat < S64x256.size a := fun v85 v410 k1_hw139 => k1_hw139

def k1_chk140 (v86 : IVec S16 32) (v417 : IVec S16 32) : Prop :=
  (∀ a x, ((![v86, v417] : Fin 2 → IVec S16 32) a x).toNat < S64x256.size a)
theorem k1_idx140_inb : ∀ (v86 : IVec S16 32) (v417 : IVec S16 32) (k1_hw140 : k1_chk140 v86 v417), ∀ a x, ((![v86, v417] : Fin 2 → IVec S16 32) a x).toNat < S64x256.size a := fun v86 v417 k1_hw140 => k1_hw140

def k1_chk141 (v87 : IVec S16 32) (v424 : IVec S16 32) : Prop :=
  (∀ a x, ((![v87, v424] : Fin 2 → IVec S16 32) a x).toNat < S64x256.size a)
theorem k1_idx141_inb : ∀ (v87 : IVec S16 32) (v424 : IVec S16 32) (k1_hw141 : k1_chk141 v87 v424), ∀ a x, ((![v87, v424] : Fin 2 → IVec S16 32) a x).toNat < S64x256.size a := fun v87 v424 k1_hw141 => k1_hw141

def k1_chk142 (v88 : IVec S16 32) (v431 : IVec S16 32) : Prop :=
  (∀ a x, ((![v88, v431] : Fin 2 → IVec S16 32) a x).toNat < S64x256.size a)
theorem k1_idx142_inb : ∀ (v88 : IVec S16 32) (v431 : IVec S16 32) (k1_hw142 : k1_chk142 v88 v431), ∀ a x, ((![v88, v431] : Fin 2 → IVec S16 32) a x).toNat < S64x256.size a := fun v88 v431 k1_hw142 => k1_hw142

def k1_chk143 (v89 : IVec S16 32) (v438 : IVec S16 32) : Prop :=
  (∀ a x, ((![v89, v438] : Fin 2 → IVec S16 32) a x).toNat < S64x256.size a)
theorem k1_idx143_inb : ∀ (v89 : IVec S16 32) (v438 : IVec S16 32) (k1_hw143 : k1_chk143 v89 v438), ∀ a x, ((![v89, v438] : Fin 2 → IVec S16 32) a x).toNat < S64x256.size a := fun v89 v438 k1_hw143 => k1_hw143

def k1_chk144 (v90 : IVec S16 32) (v445 : IVec S16 32) : Prop :=
  (∀ a x, ((![v90, v445] : Fin 2 → IVec S16 32) a x).toNat < S64x256.size a)
theorem k1_idx144_inb : ∀ (v90 : IVec S16 32) (v445 : IVec S16 32) (k1_hw144 : k1_chk144 v90 v445), ∀ a x, ((![v90, v445] : Fin 2 → IVec S16 32) a x).toNat < S64x256.size a := fun v90 v445 k1_hw144 => k1_hw144
def k1_off53 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v451 : Index := Scalar.indexCast v68
  let c80 : Index := 80#32
  ![v451.toNat, 80]

def k1_chk145 (v83 : IVec S16 32) (v468 : IVec S16 32) : Prop :=
  (∀ a x, ((![v83, v468] : Fin 2 → IVec S16 32) a x).toNat < S64x256.size a)
theorem k1_idx145_inb : ∀ (v83 : IVec S16 32) (v468 : IVec S16 32) (k1_hw145 : k1_chk145 v83 v468), ∀ a x, ((![v83, v468] : Fin 2 → IVec S16 32) a x).toNat < S64x256.size a := fun v83 v468 k1_hw145 => k1_hw145

def k1_chk146 (v84 : IVec S16 32) (v475 : IVec S16 32) : Prop :=
  (∀ a x, ((![v84, v475] : Fin 2 → IVec S16 32) a x).toNat < S64x256.size a)
theorem k1_idx146_inb : ∀ (v84 : IVec S16 32) (v475 : IVec S16 32) (k1_hw146 : k1_chk146 v84 v475), ∀ a x, ((![v84, v475] : Fin 2 → IVec S16 32) a x).toNat < S64x256.size a := fun v84 v475 k1_hw146 => k1_hw146

def k1_chk147 (v85 : IVec S16 32) (v482 : IVec S16 32) : Prop :=
  (∀ a x, ((![v85, v482] : Fin 2 → IVec S16 32) a x).toNat < S64x256.size a)
theorem k1_idx147_inb : ∀ (v85 : IVec S16 32) (v482 : IVec S16 32) (k1_hw147 : k1_chk147 v85 v482), ∀ a x, ((![v85, v482] : Fin 2 → IVec S16 32) a x).toNat < S64x256.size a := fun v85 v482 k1_hw147 => k1_hw147

def k1_chk148 (v86 : IVec S16 32) (v489 : IVec S16 32) : Prop :=
  (∀ a x, ((![v86, v489] : Fin 2 → IVec S16 32) a x).toNat < S64x256.size a)
theorem k1_idx148_inb : ∀ (v86 : IVec S16 32) (v489 : IVec S16 32) (k1_hw148 : k1_chk148 v86 v489), ∀ a x, ((![v86, v489] : Fin 2 → IVec S16 32) a x).toNat < S64x256.size a := fun v86 v489 k1_hw148 => k1_hw148

def k1_chk149 (v87 : IVec S16 32) (v496 : IVec S16 32) : Prop :=
  (∀ a x, ((![v87, v496] : Fin 2 → IVec S16 32) a x).toNat < S64x256.size a)
theorem k1_idx149_inb : ∀ (v87 : IVec S16 32) (v496 : IVec S16 32) (k1_hw149 : k1_chk149 v87 v496), ∀ a x, ((![v87, v496] : Fin 2 → IVec S16 32) a x).toNat < S64x256.size a := fun v87 v496 k1_hw149 => k1_hw149

def k1_chk150 (v88 : IVec S16 32) (v503 : IVec S16 32) : Prop :=
  (∀ a x, ((![v88, v503] : Fin 2 → IVec S16 32) a x).toNat < S64x256.size a)
theorem k1_idx150_inb : ∀ (v88 : IVec S16 32) (v503 : IVec S16 32) (k1_hw150 : k1_chk150 v88 v503), ∀ a x, ((![v88, v503] : Fin 2 → IVec S16 32) a x).toNat < S64x256.size a := fun v88 v503 k1_hw150 => k1_hw150

def k1_chk151 (v89 : IVec S16 32) (v510 : IVec S16 32) : Prop :=
  (∀ a x, ((![v89, v510] : Fin 2 → IVec S16 32) a x).toNat < S64x256.size a)
theorem k1_idx151_inb : ∀ (v89 : IVec S16 32) (v510 : IVec S16 32) (k1_hw151 : k1_chk151 v89 v510), ∀ a x, ((![v89, v510] : Fin 2 → IVec S16 32) a x).toNat < S64x256.size a := fun v89 v510 k1_hw151 => k1_hw151

def k1_chk152 (v90 : IVec S16 32) (v517 : IVec S16 32) : Prop :=
  (∀ a x, ((![v90, v517] : Fin 2 → IVec S16 32) a x).toNat < S64x256.size a)
theorem k1_idx152_inb : ∀ (v90 : IVec S16 32) (v517 : IVec S16 32) (k1_hw152 : k1_chk152 v90 v517), ∀ a x, ((![v90, v517] : Fin 2 → IVec S16 32) a x).toNat < S64x256.size a := fun v90 v517 k1_hw152 => k1_hw152
def k1_off54 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v523 : Index := Scalar.indexCast v68
  let c96 : Index := 96#32
  ![v523.toNat, 96]

def k1_chk153 (v83 : IVec S16 32) (v540 : IVec S16 32) : Prop :=
  (∀ a x, ((![v83, v540] : Fin 2 → IVec S16 32) a x).toNat < S64x256.size a)
theorem k1_idx153_inb : ∀ (v83 : IVec S16 32) (v540 : IVec S16 32) (k1_hw153 : k1_chk153 v83 v540), ∀ a x, ((![v83, v540] : Fin 2 → IVec S16 32) a x).toNat < S64x256.size a := fun v83 v540 k1_hw153 => k1_hw153

def k1_chk154 (v84 : IVec S16 32) (v547 : IVec S16 32) : Prop :=
  (∀ a x, ((![v84, v547] : Fin 2 → IVec S16 32) a x).toNat < S64x256.size a)
theorem k1_idx154_inb : ∀ (v84 : IVec S16 32) (v547 : IVec S16 32) (k1_hw154 : k1_chk154 v84 v547), ∀ a x, ((![v84, v547] : Fin 2 → IVec S16 32) a x).toNat < S64x256.size a := fun v84 v547 k1_hw154 => k1_hw154

def k1_chk155 (v85 : IVec S16 32) (v554 : IVec S16 32) : Prop :=
  (∀ a x, ((![v85, v554] : Fin 2 → IVec S16 32) a x).toNat < S64x256.size a)
theorem k1_idx155_inb : ∀ (v85 : IVec S16 32) (v554 : IVec S16 32) (k1_hw155 : k1_chk155 v85 v554), ∀ a x, ((![v85, v554] : Fin 2 → IVec S16 32) a x).toNat < S64x256.size a := fun v85 v554 k1_hw155 => k1_hw155

def k1_chk156 (v86 : IVec S16 32) (v561 : IVec S16 32) : Prop :=
  (∀ a x, ((![v86, v561] : Fin 2 → IVec S16 32) a x).toNat < S64x256.size a)
theorem k1_idx156_inb : ∀ (v86 : IVec S16 32) (v561 : IVec S16 32) (k1_hw156 : k1_chk156 v86 v561), ∀ a x, ((![v86, v561] : Fin 2 → IVec S16 32) a x).toNat < S64x256.size a := fun v86 v561 k1_hw156 => k1_hw156

def k1_chk157 (v87 : IVec S16 32) (v568 : IVec S16 32) : Prop :=
  (∀ a x, ((![v87, v568] : Fin 2 → IVec S16 32) a x).toNat < S64x256.size a)
theorem k1_idx157_inb : ∀ (v87 : IVec S16 32) (v568 : IVec S16 32) (k1_hw157 : k1_chk157 v87 v568), ∀ a x, ((![v87, v568] : Fin 2 → IVec S16 32) a x).toNat < S64x256.size a := fun v87 v568 k1_hw157 => k1_hw157

def k1_chk158 (v88 : IVec S16 32) (v575 : IVec S16 32) : Prop :=
  (∀ a x, ((![v88, v575] : Fin 2 → IVec S16 32) a x).toNat < S64x256.size a)
theorem k1_idx158_inb : ∀ (v88 : IVec S16 32) (v575 : IVec S16 32) (k1_hw158 : k1_chk158 v88 v575), ∀ a x, ((![v88, v575] : Fin 2 → IVec S16 32) a x).toNat < S64x256.size a := fun v88 v575 k1_hw158 => k1_hw158

def k1_chk159 (v89 : IVec S16 32) (v582 : IVec S16 32) : Prop :=
  (∀ a x, ((![v89, v582] : Fin 2 → IVec S16 32) a x).toNat < S64x256.size a)
theorem k1_idx159_inb : ∀ (v89 : IVec S16 32) (v582 : IVec S16 32) (k1_hw159 : k1_chk159 v89 v582), ∀ a x, ((![v89, v582] : Fin 2 → IVec S16 32) a x).toNat < S64x256.size a := fun v89 v582 k1_hw159 => k1_hw159

def k1_chk160 (v90 : IVec S16 32) (v589 : IVec S16 32) : Prop :=
  (∀ a x, ((![v90, v589] : Fin 2 → IVec S16 32) a x).toNat < S64x256.size a)
theorem k1_idx160_inb : ∀ (v90 : IVec S16 32) (v589 : IVec S16 32) (k1_hw160 : k1_chk160 v90 v589), ∀ a x, ((![v90, v589] : Fin 2 → IVec S16 32) a x).toNat < S64x256.size a := fun v90 v589 k1_hw160 => k1_hw160
def k1_off55 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v595 : Index := Scalar.indexCast v68
  let c112 : Index := 112#32
  ![v595.toNat, 112]

def k1_chk161 (v83 : IVec S16 32) (v612 : IVec S16 32) : Prop :=
  (∀ a x, ((![v83, v612] : Fin 2 → IVec S16 32) a x).toNat < S64x256.size a)
theorem k1_idx161_inb : ∀ (v83 : IVec S16 32) (v612 : IVec S16 32) (k1_hw161 : k1_chk161 v83 v612), ∀ a x, ((![v83, v612] : Fin 2 → IVec S16 32) a x).toNat < S64x256.size a := fun v83 v612 k1_hw161 => k1_hw161

def k1_chk162 (v84 : IVec S16 32) (v619 : IVec S16 32) : Prop :=
  (∀ a x, ((![v84, v619] : Fin 2 → IVec S16 32) a x).toNat < S64x256.size a)
theorem k1_idx162_inb : ∀ (v84 : IVec S16 32) (v619 : IVec S16 32) (k1_hw162 : k1_chk162 v84 v619), ∀ a x, ((![v84, v619] : Fin 2 → IVec S16 32) a x).toNat < S64x256.size a := fun v84 v619 k1_hw162 => k1_hw162

def k1_chk163 (v85 : IVec S16 32) (v626 : IVec S16 32) : Prop :=
  (∀ a x, ((![v85, v626] : Fin 2 → IVec S16 32) a x).toNat < S64x256.size a)
theorem k1_idx163_inb : ∀ (v85 : IVec S16 32) (v626 : IVec S16 32) (k1_hw163 : k1_chk163 v85 v626), ∀ a x, ((![v85, v626] : Fin 2 → IVec S16 32) a x).toNat < S64x256.size a := fun v85 v626 k1_hw163 => k1_hw163

def k1_chk164 (v86 : IVec S16 32) (v633 : IVec S16 32) : Prop :=
  (∀ a x, ((![v86, v633] : Fin 2 → IVec S16 32) a x).toNat < S64x256.size a)
theorem k1_idx164_inb : ∀ (v86 : IVec S16 32) (v633 : IVec S16 32) (k1_hw164 : k1_chk164 v86 v633), ∀ a x, ((![v86, v633] : Fin 2 → IVec S16 32) a x).toNat < S64x256.size a := fun v86 v633 k1_hw164 => k1_hw164

def k1_chk165 (v87 : IVec S16 32) (v640 : IVec S16 32) : Prop :=
  (∀ a x, ((![v87, v640] : Fin 2 → IVec S16 32) a x).toNat < S64x256.size a)
theorem k1_idx165_inb : ∀ (v87 : IVec S16 32) (v640 : IVec S16 32) (k1_hw165 : k1_chk165 v87 v640), ∀ a x, ((![v87, v640] : Fin 2 → IVec S16 32) a x).toNat < S64x256.size a := fun v87 v640 k1_hw165 => k1_hw165

def k1_chk166 (v88 : IVec S16 32) (v647 : IVec S16 32) : Prop :=
  (∀ a x, ((![v88, v647] : Fin 2 → IVec S16 32) a x).toNat < S64x256.size a)
theorem k1_idx166_inb : ∀ (v88 : IVec S16 32) (v647 : IVec S16 32) (k1_hw166 : k1_chk166 v88 v647), ∀ a x, ((![v88, v647] : Fin 2 → IVec S16 32) a x).toNat < S64x256.size a := fun v88 v647 k1_hw166 => k1_hw166

def k1_chk167 (v89 : IVec S16 32) (v654 : IVec S16 32) : Prop :=
  (∀ a x, ((![v89, v654] : Fin 2 → IVec S16 32) a x).toNat < S64x256.size a)
theorem k1_idx167_inb : ∀ (v89 : IVec S16 32) (v654 : IVec S16 32) (k1_hw167 : k1_chk167 v89 v654), ∀ a x, ((![v89, v654] : Fin 2 → IVec S16 32) a x).toNat < S64x256.size a := fun v89 v654 k1_hw167 => k1_hw167

def k1_chk168 (v90 : IVec S16 32) (v661 : IVec S16 32) : Prop :=
  (∀ a x, ((![v90, v661] : Fin 2 → IVec S16 32) a x).toNat < S64x256.size a)
theorem k1_idx168_inb : ∀ (v90 : IVec S16 32) (v661 : IVec S16 32) (k1_hw168 : k1_chk168 v90 v661), ∀ a x, ((![v90, v661] : Fin 2 → IVec S16 32) a x).toNat < S64x256.size a := fun v90 v661 k1_hw168 => k1_hw168
def k1_off56 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v667 : Index := Scalar.indexCast v68
  let c128 : Index := 128#32
  ![v667.toNat, 128]

def k1_chk169 (v83 : IVec S16 32) (v684 : IVec S16 32) : Prop :=
  (∀ a x, ((![v83, v684] : Fin 2 → IVec S16 32) a x).toNat < S64x256.size a)
theorem k1_idx169_inb : ∀ (v83 : IVec S16 32) (v684 : IVec S16 32) (k1_hw169 : k1_chk169 v83 v684), ∀ a x, ((![v83, v684] : Fin 2 → IVec S16 32) a x).toNat < S64x256.size a := fun v83 v684 k1_hw169 => k1_hw169

def k1_chk170 (v84 : IVec S16 32) (v691 : IVec S16 32) : Prop :=
  (∀ a x, ((![v84, v691] : Fin 2 → IVec S16 32) a x).toNat < S64x256.size a)
theorem k1_idx170_inb : ∀ (v84 : IVec S16 32) (v691 : IVec S16 32) (k1_hw170 : k1_chk170 v84 v691), ∀ a x, ((![v84, v691] : Fin 2 → IVec S16 32) a x).toNat < S64x256.size a := fun v84 v691 k1_hw170 => k1_hw170

def k1_chk171 (v85 : IVec S16 32) (v698 : IVec S16 32) : Prop :=
  (∀ a x, ((![v85, v698] : Fin 2 → IVec S16 32) a x).toNat < S64x256.size a)
theorem k1_idx171_inb : ∀ (v85 : IVec S16 32) (v698 : IVec S16 32) (k1_hw171 : k1_chk171 v85 v698), ∀ a x, ((![v85, v698] : Fin 2 → IVec S16 32) a x).toNat < S64x256.size a := fun v85 v698 k1_hw171 => k1_hw171

def k1_chk172 (v86 : IVec S16 32) (v705 : IVec S16 32) : Prop :=
  (∀ a x, ((![v86, v705] : Fin 2 → IVec S16 32) a x).toNat < S64x256.size a)
theorem k1_idx172_inb : ∀ (v86 : IVec S16 32) (v705 : IVec S16 32) (k1_hw172 : k1_chk172 v86 v705), ∀ a x, ((![v86, v705] : Fin 2 → IVec S16 32) a x).toNat < S64x256.size a := fun v86 v705 k1_hw172 => k1_hw172

def k1_chk173 (v87 : IVec S16 32) (v712 : IVec S16 32) : Prop :=
  (∀ a x, ((![v87, v712] : Fin 2 → IVec S16 32) a x).toNat < S64x256.size a)
theorem k1_idx173_inb : ∀ (v87 : IVec S16 32) (v712 : IVec S16 32) (k1_hw173 : k1_chk173 v87 v712), ∀ a x, ((![v87, v712] : Fin 2 → IVec S16 32) a x).toNat < S64x256.size a := fun v87 v712 k1_hw173 => k1_hw173

def k1_chk174 (v88 : IVec S16 32) (v719 : IVec S16 32) : Prop :=
  (∀ a x, ((![v88, v719] : Fin 2 → IVec S16 32) a x).toNat < S64x256.size a)
theorem k1_idx174_inb : ∀ (v88 : IVec S16 32) (v719 : IVec S16 32) (k1_hw174 : k1_chk174 v88 v719), ∀ a x, ((![v88, v719] : Fin 2 → IVec S16 32) a x).toNat < S64x256.size a := fun v88 v719 k1_hw174 => k1_hw174

def k1_chk175 (v89 : IVec S16 32) (v726 : IVec S16 32) : Prop :=
  (∀ a x, ((![v89, v726] : Fin 2 → IVec S16 32) a x).toNat < S64x256.size a)
theorem k1_idx175_inb : ∀ (v89 : IVec S16 32) (v726 : IVec S16 32) (k1_hw175 : k1_chk175 v89 v726), ∀ a x, ((![v89, v726] : Fin 2 → IVec S16 32) a x).toNat < S64x256.size a := fun v89 v726 k1_hw175 => k1_hw175

def k1_chk176 (v90 : IVec S16 32) (v733 : IVec S16 32) : Prop :=
  (∀ a x, ((![v90, v733] : Fin 2 → IVec S16 32) a x).toNat < S64x256.size a)
theorem k1_idx176_inb : ∀ (v90 : IVec S16 32) (v733 : IVec S16 32) (k1_hw176 : k1_chk176 v90 v733), ∀ a x, ((![v90, v733] : Fin 2 → IVec S16 32) a x).toNat < S64x256.size a := fun v90 v733 k1_hw176 => k1_hw176
def k1_off57 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v739 : Index := Scalar.indexCast v68
  let c144 : Index := 144#32
  ![v739.toNat, 144]

def k1_chk177 (v83 : IVec S16 32) (v756 : IVec S16 32) : Prop :=
  (∀ a x, ((![v83, v756] : Fin 2 → IVec S16 32) a x).toNat < S64x256.size a)
theorem k1_idx177_inb : ∀ (v83 : IVec S16 32) (v756 : IVec S16 32) (k1_hw177 : k1_chk177 v83 v756), ∀ a x, ((![v83, v756] : Fin 2 → IVec S16 32) a x).toNat < S64x256.size a := fun v83 v756 k1_hw177 => k1_hw177

def k1_chk178 (v84 : IVec S16 32) (v763 : IVec S16 32) : Prop :=
  (∀ a x, ((![v84, v763] : Fin 2 → IVec S16 32) a x).toNat < S64x256.size a)
theorem k1_idx178_inb : ∀ (v84 : IVec S16 32) (v763 : IVec S16 32) (k1_hw178 : k1_chk178 v84 v763), ∀ a x, ((![v84, v763] : Fin 2 → IVec S16 32) a x).toNat < S64x256.size a := fun v84 v763 k1_hw178 => k1_hw178

def k1_chk179 (v85 : IVec S16 32) (v770 : IVec S16 32) : Prop :=
  (∀ a x, ((![v85, v770] : Fin 2 → IVec S16 32) a x).toNat < S64x256.size a)
theorem k1_idx179_inb : ∀ (v85 : IVec S16 32) (v770 : IVec S16 32) (k1_hw179 : k1_chk179 v85 v770), ∀ a x, ((![v85, v770] : Fin 2 → IVec S16 32) a x).toNat < S64x256.size a := fun v85 v770 k1_hw179 => k1_hw179

def k1_chk180 (v86 : IVec S16 32) (v777 : IVec S16 32) : Prop :=
  (∀ a x, ((![v86, v777] : Fin 2 → IVec S16 32) a x).toNat < S64x256.size a)
theorem k1_idx180_inb : ∀ (v86 : IVec S16 32) (v777 : IVec S16 32) (k1_hw180 : k1_chk180 v86 v777), ∀ a x, ((![v86, v777] : Fin 2 → IVec S16 32) a x).toNat < S64x256.size a := fun v86 v777 k1_hw180 => k1_hw180

def k1_chk181 (v87 : IVec S16 32) (v784 : IVec S16 32) : Prop :=
  (∀ a x, ((![v87, v784] : Fin 2 → IVec S16 32) a x).toNat < S64x256.size a)
theorem k1_idx181_inb : ∀ (v87 : IVec S16 32) (v784 : IVec S16 32) (k1_hw181 : k1_chk181 v87 v784), ∀ a x, ((![v87, v784] : Fin 2 → IVec S16 32) a x).toNat < S64x256.size a := fun v87 v784 k1_hw181 => k1_hw181

def k1_chk182 (v88 : IVec S16 32) (v791 : IVec S16 32) : Prop :=
  (∀ a x, ((![v88, v791] : Fin 2 → IVec S16 32) a x).toNat < S64x256.size a)
theorem k1_idx182_inb : ∀ (v88 : IVec S16 32) (v791 : IVec S16 32) (k1_hw182 : k1_chk182 v88 v791), ∀ a x, ((![v88, v791] : Fin 2 → IVec S16 32) a x).toNat < S64x256.size a := fun v88 v791 k1_hw182 => k1_hw182

def k1_chk183 (v89 : IVec S16 32) (v798 : IVec S16 32) : Prop :=
  (∀ a x, ((![v89, v798] : Fin 2 → IVec S16 32) a x).toNat < S64x256.size a)
theorem k1_idx183_inb : ∀ (v89 : IVec S16 32) (v798 : IVec S16 32) (k1_hw183 : k1_chk183 v89 v798), ∀ a x, ((![v89, v798] : Fin 2 → IVec S16 32) a x).toNat < S64x256.size a := fun v89 v798 k1_hw183 => k1_hw183

def k1_chk184 (v90 : IVec S16 32) (v805 : IVec S16 32) : Prop :=
  (∀ a x, ((![v90, v805] : Fin 2 → IVec S16 32) a x).toNat < S64x256.size a)
theorem k1_idx184_inb : ∀ (v90 : IVec S16 32) (v805 : IVec S16 32) (k1_hw184 : k1_chk184 v90 v805), ∀ a x, ((![v90, v805] : Fin 2 → IVec S16 32) a x).toNat < S64x256.size a := fun v90 v805 k1_hw184 => k1_hw184
def k1_off58 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v811 : Index := Scalar.indexCast v68
  let c160 : Index := 160#32
  ![v811.toNat, 160]

def k1_chk185 (v83 : IVec S16 32) (v828 : IVec S16 32) : Prop :=
  (∀ a x, ((![v83, v828] : Fin 2 → IVec S16 32) a x).toNat < S64x256.size a)
theorem k1_idx185_inb : ∀ (v83 : IVec S16 32) (v828 : IVec S16 32) (k1_hw185 : k1_chk185 v83 v828), ∀ a x, ((![v83, v828] : Fin 2 → IVec S16 32) a x).toNat < S64x256.size a := fun v83 v828 k1_hw185 => k1_hw185

def k1_chk186 (v84 : IVec S16 32) (v835 : IVec S16 32) : Prop :=
  (∀ a x, ((![v84, v835] : Fin 2 → IVec S16 32) a x).toNat < S64x256.size a)
theorem k1_idx186_inb : ∀ (v84 : IVec S16 32) (v835 : IVec S16 32) (k1_hw186 : k1_chk186 v84 v835), ∀ a x, ((![v84, v835] : Fin 2 → IVec S16 32) a x).toNat < S64x256.size a := fun v84 v835 k1_hw186 => k1_hw186

def k1_chk187 (v85 : IVec S16 32) (v842 : IVec S16 32) : Prop :=
  (∀ a x, ((![v85, v842] : Fin 2 → IVec S16 32) a x).toNat < S64x256.size a)
theorem k1_idx187_inb : ∀ (v85 : IVec S16 32) (v842 : IVec S16 32) (k1_hw187 : k1_chk187 v85 v842), ∀ a x, ((![v85, v842] : Fin 2 → IVec S16 32) a x).toNat < S64x256.size a := fun v85 v842 k1_hw187 => k1_hw187

def k1_chk188 (v86 : IVec S16 32) (v849 : IVec S16 32) : Prop :=
  (∀ a x, ((![v86, v849] : Fin 2 → IVec S16 32) a x).toNat < S64x256.size a)
theorem k1_idx188_inb : ∀ (v86 : IVec S16 32) (v849 : IVec S16 32) (k1_hw188 : k1_chk188 v86 v849), ∀ a x, ((![v86, v849] : Fin 2 → IVec S16 32) a x).toNat < S64x256.size a := fun v86 v849 k1_hw188 => k1_hw188

def k1_chk189 (v87 : IVec S16 32) (v856 : IVec S16 32) : Prop :=
  (∀ a x, ((![v87, v856] : Fin 2 → IVec S16 32) a x).toNat < S64x256.size a)
theorem k1_idx189_inb : ∀ (v87 : IVec S16 32) (v856 : IVec S16 32) (k1_hw189 : k1_chk189 v87 v856), ∀ a x, ((![v87, v856] : Fin 2 → IVec S16 32) a x).toNat < S64x256.size a := fun v87 v856 k1_hw189 => k1_hw189

def k1_chk190 (v88 : IVec S16 32) (v863 : IVec S16 32) : Prop :=
  (∀ a x, ((![v88, v863] : Fin 2 → IVec S16 32) a x).toNat < S64x256.size a)
theorem k1_idx190_inb : ∀ (v88 : IVec S16 32) (v863 : IVec S16 32) (k1_hw190 : k1_chk190 v88 v863), ∀ a x, ((![v88, v863] : Fin 2 → IVec S16 32) a x).toNat < S64x256.size a := fun v88 v863 k1_hw190 => k1_hw190

def k1_chk191 (v89 : IVec S16 32) (v870 : IVec S16 32) : Prop :=
  (∀ a x, ((![v89, v870] : Fin 2 → IVec S16 32) a x).toNat < S64x256.size a)
theorem k1_idx191_inb : ∀ (v89 : IVec S16 32) (v870 : IVec S16 32) (k1_hw191 : k1_chk191 v89 v870), ∀ a x, ((![v89, v870] : Fin 2 → IVec S16 32) a x).toNat < S64x256.size a := fun v89 v870 k1_hw191 => k1_hw191

def k1_chk192 (v90 : IVec S16 32) (v877 : IVec S16 32) : Prop :=
  (∀ a x, ((![v90, v877] : Fin 2 → IVec S16 32) a x).toNat < S64x256.size a)
theorem k1_idx192_inb : ∀ (v90 : IVec S16 32) (v877 : IVec S16 32) (k1_hw192 : k1_chk192 v90 v877), ∀ a x, ((![v90, v877] : Fin 2 → IVec S16 32) a x).toNat < S64x256.size a := fun v90 v877 k1_hw192 => k1_hw192
def k1_off59 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v883 : Index := Scalar.indexCast v68
  let c176 : Index := 176#32
  ![v883.toNat, 176]

def k1_chk193 (v83 : IVec S16 32) (v900 : IVec S16 32) : Prop :=
  (∀ a x, ((![v83, v900] : Fin 2 → IVec S16 32) a x).toNat < S64x256.size a)
theorem k1_idx193_inb : ∀ (v83 : IVec S16 32) (v900 : IVec S16 32) (k1_hw193 : k1_chk193 v83 v900), ∀ a x, ((![v83, v900] : Fin 2 → IVec S16 32) a x).toNat < S64x256.size a := fun v83 v900 k1_hw193 => k1_hw193

def k1_chk194 (v84 : IVec S16 32) (v907 : IVec S16 32) : Prop :=
  (∀ a x, ((![v84, v907] : Fin 2 → IVec S16 32) a x).toNat < S64x256.size a)
theorem k1_idx194_inb : ∀ (v84 : IVec S16 32) (v907 : IVec S16 32) (k1_hw194 : k1_chk194 v84 v907), ∀ a x, ((![v84, v907] : Fin 2 → IVec S16 32) a x).toNat < S64x256.size a := fun v84 v907 k1_hw194 => k1_hw194

def k1_chk195 (v85 : IVec S16 32) (v914 : IVec S16 32) : Prop :=
  (∀ a x, ((![v85, v914] : Fin 2 → IVec S16 32) a x).toNat < S64x256.size a)
theorem k1_idx195_inb : ∀ (v85 : IVec S16 32) (v914 : IVec S16 32) (k1_hw195 : k1_chk195 v85 v914), ∀ a x, ((![v85, v914] : Fin 2 → IVec S16 32) a x).toNat < S64x256.size a := fun v85 v914 k1_hw195 => k1_hw195

def k1_chk196 (v86 : IVec S16 32) (v921 : IVec S16 32) : Prop :=
  (∀ a x, ((![v86, v921] : Fin 2 → IVec S16 32) a x).toNat < S64x256.size a)
theorem k1_idx196_inb : ∀ (v86 : IVec S16 32) (v921 : IVec S16 32) (k1_hw196 : k1_chk196 v86 v921), ∀ a x, ((![v86, v921] : Fin 2 → IVec S16 32) a x).toNat < S64x256.size a := fun v86 v921 k1_hw196 => k1_hw196

def k1_chk197 (v87 : IVec S16 32) (v928 : IVec S16 32) : Prop :=
  (∀ a x, ((![v87, v928] : Fin 2 → IVec S16 32) a x).toNat < S64x256.size a)
theorem k1_idx197_inb : ∀ (v87 : IVec S16 32) (v928 : IVec S16 32) (k1_hw197 : k1_chk197 v87 v928), ∀ a x, ((![v87, v928] : Fin 2 → IVec S16 32) a x).toNat < S64x256.size a := fun v87 v928 k1_hw197 => k1_hw197

def k1_chk198 (v88 : IVec S16 32) (v935 : IVec S16 32) : Prop :=
  (∀ a x, ((![v88, v935] : Fin 2 → IVec S16 32) a x).toNat < S64x256.size a)
theorem k1_idx198_inb : ∀ (v88 : IVec S16 32) (v935 : IVec S16 32) (k1_hw198 : k1_chk198 v88 v935), ∀ a x, ((![v88, v935] : Fin 2 → IVec S16 32) a x).toNat < S64x256.size a := fun v88 v935 k1_hw198 => k1_hw198

def k1_chk199 (v89 : IVec S16 32) (v942 : IVec S16 32) : Prop :=
  (∀ a x, ((![v89, v942] : Fin 2 → IVec S16 32) a x).toNat < S64x256.size a)
theorem k1_idx199_inb : ∀ (v89 : IVec S16 32) (v942 : IVec S16 32) (k1_hw199 : k1_chk199 v89 v942), ∀ a x, ((![v89, v942] : Fin 2 → IVec S16 32) a x).toNat < S64x256.size a := fun v89 v942 k1_hw199 => k1_hw199

def k1_chk200 (v90 : IVec S16 32) (v949 : IVec S16 32) : Prop :=
  (∀ a x, ((![v90, v949] : Fin 2 → IVec S16 32) a x).toNat < S64x256.size a)
theorem k1_idx200_inb : ∀ (v90 : IVec S16 32) (v949 : IVec S16 32) (k1_hw200 : k1_chk200 v90 v949), ∀ a x, ((![v90, v949] : Fin 2 → IVec S16 32) a x).toNat < S64x256.size a := fun v90 v949 k1_hw200 => k1_hw200
def k1_off60 (k1_t4 : Fin k1_t4_loop.trips) (c0_i32_88 : BitVec 32) : Fin 2 → Nat :=
  let c0_i32_35 : BitVec 32 := 0#32
  let c1_i32_37 : BitVec 32 := 1#32
  let arg12 : BitVec 32 := Scf.iv c0_i32_35 c1_i32_37 k1_t4
  let c8_i32_87 : BitVec 32 := 8#32
  let v67 : BitVec 32 := Scalar.muli arg12 c8_i32_87
  let v68 : BitVec 32 := Scalar.addi v67 c0_i32_88
  let v955 : Index := Scalar.indexCast v68
  let c184 : Index := 184#32
  ![v955.toNat, 184]

def k1_chk201 (v83 : IVec S16 32) (v972 : IVec S16 32) : Prop :=
  (∀ a x, ((![v83, v972] : Fin 2 → IVec S16 32) a x).toNat < S64x256.size a)
theorem k1_idx201_inb : ∀ (v83 : IVec S16 32) (v972 : IVec S16 32) (k1_hw201 : k1_chk201 v83 v972), ∀ a x, ((![v83, v972] : Fin 2 → IVec S16 32) a x).toNat < S64x256.size a := fun v83 v972 k1_hw201 => k1_hw201

def k1_chk202 (v84 : IVec S16 32) (v979 : IVec S16 32) : Prop :=
  (∀ a x, ((![v84, v979] : Fin 2 → IVec S16 32) a x).toNat < S64x256.size a)
theorem k1_idx202_inb : ∀ (v84 : IVec S16 32) (v979 : IVec S16 32) (k1_hw202 : k1_chk202 v84 v979), ∀ a x, ((![v84, v979] : Fin 2 → IVec S16 32) a x).toNat < S64x256.size a := fun v84 v979 k1_hw202 => k1_hw202

def k1_chk203 (v85 : IVec S16 32) (v986 : IVec S16 32) : Prop :=
  (∀ a x, ((![v85, v986] : Fin 2 → IVec S16 32) a x).toNat < S64x256.size a)
theorem k1_idx203_inb : ∀ (v85 : IVec S16 32) (v986 : IVec S16 32) (k1_hw203 : k1_chk203 v85 v986), ∀ a x, ((![v85, v986] : Fin 2 → IVec S16 32) a x).toNat < S64x256.size a := fun v85 v986 k1_hw203 => k1_hw203

def k1_chk204 (v86 : IVec S16 32) (v993 : IVec S16 32) : Prop :=
  (∀ a x, ((![v86, v993] : Fin 2 → IVec S16 32) a x).toNat < S64x256.size a)
theorem k1_idx204_inb : ∀ (v86 : IVec S16 32) (v993 : IVec S16 32) (k1_hw204 : k1_chk204 v86 v993), ∀ a x, ((![v86, v993] : Fin 2 → IVec S16 32) a x).toNat < S64x256.size a := fun v86 v993 k1_hw204 => k1_hw204

def k1_chk205 (v87 : IVec S16 32) (v1000 : IVec S16 32) : Prop :=
  (∀ a x, ((![v87, v1000] : Fin 2 → IVec S16 32) a x).toNat < S64x256.size a)
theorem k1_idx205_inb : ∀ (v87 : IVec S16 32) (v1000 : IVec S16 32) (k1_hw205 : k1_chk205 v87 v1000), ∀ a x, ((![v87, v1000] : Fin 2 → IVec S16 32) a x).toNat < S64x256.size a := fun v87 v1000 k1_hw205 => k1_hw205

def k1_chk206 (v88 : IVec S16 32) (v1007 : IVec S16 32) : Prop :=
  (∀ a x, ((![v88, v1007] : Fin 2 → IVec S16 32) a x).toNat < S64x256.size a)
theorem k1_idx206_inb : ∀ (v88 : IVec S16 32) (v1007 : IVec S16 32) (k1_hw206 : k1_chk206 v88 v1007), ∀ a x, ((![v88, v1007] : Fin 2 → IVec S16 32) a x).toNat < S64x256.size a := fun v88 v1007 k1_hw206 => k1_hw206

def k1_chk207 (v89 : IVec S16 32) (v1014 : IVec S16 32) : Prop :=
  (∀ a x, ((![v89, v1014] : Fin 2 → IVec S16 32) a x).toNat < S64x256.size a)
theorem k1_idx207_inb : ∀ (v89 : IVec S16 32) (v1014 : IVec S16 32) (k1_hw207 : k1_chk207 v89 v1014), ∀ a x, ((![v89, v1014] : Fin 2 → IVec S16 32) a x).toNat < S64x256.size a := fun v89 v1014 k1_hw207 => k1_hw207

def k1_chk208 (v90 : IVec S16 32) (v1021 : IVec S16 32) : Prop :=
  (∀ a x, ((![v90, v1021] : Fin 2 → IVec S16 32) a x).toNat < S64x256.size a)
theorem k1_idx208_inb : ∀ (v90 : IVec S16 32) (v1021 : IVec S16 32) (k1_hw208 : k1_chk208 v90 v1021), ∀ a x, ((![v90, v1021] : Fin 2 → IVec S16 32) a x).toNat < S64x256.size a := fun v90 v1021 k1_hw208 => k1_hw208
@[reducible] def k1_t5_loop : Scf.Loop 32 :=
  let c0_i32_52 : BitVec 32 := 0#32
  let c64_i32_53 : BitVec 32 := 64#32
  let v47 : BitVec 32 := Scalar.addi c0_i32_52 c64_i32_53
  let c1_i32_54 : BitVec 32 := 1#32
  ⟨c0_i32_52, v47, c1_i32_54⟩
def k1_off61 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v67 : Index := Scalar.indexCast arg12
  let c0 : Index := 0#32
  ![v67.toNat, 0]
def k1_off62 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v69 : Index := Scalar.indexCast arg12
  let c16 : Index := 16#32
  ![v69.toNat, 16]
def k1_off63 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v71 : Index := Scalar.indexCast arg12
  let c32 : Index := 32#32
  ![v71.toNat, 32]
def k1_off64 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v73 : Index := Scalar.indexCast arg12
  let c48 : Index := 48#32
  ![v73.toNat, 48]
def k1_off65 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v75 : Index := Scalar.indexCast arg12
  let c64 : Index := 64#32
  ![v75.toNat, 64]
def k1_off66 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v77 : Index := Scalar.indexCast arg12
  let c80 : Index := 80#32
  ![v77.toNat, 80]
def k1_off67 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v79 : Index := Scalar.indexCast arg12
  let c96 : Index := 96#32
  ![v79.toNat, 96]
def k1_off68 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v81 : Index := Scalar.indexCast arg12
  let c112 : Index := 112#32
  ![v81.toNat, 112]
def k1_off69 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v83 : Index := Scalar.indexCast arg12
  let c128 : Index := 128#32
  ![v83.toNat, 128]
def k1_off70 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v85 : Index := Scalar.indexCast arg12
  let c144 : Index := 144#32
  ![v85.toNat, 144]
def k1_off71 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v87 : Index := Scalar.indexCast arg12
  let c160 : Index := 160#32
  ![v87.toNat, 160]
def k1_off72 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v89 : Index := Scalar.indexCast arg12
  let c176 : Index := 176#32
  ![v89.toNat, 176]
def k1_off73 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v91 : Index := Scalar.indexCast arg12
  let c192 : Index := 192#32
  ![v91.toNat, 192]
def k1_off74 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v93 : Index := Scalar.indexCast arg12
  let c208 : Index := 208#32
  ![v93.toNat, 208]
def k1_off75 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v95 : Index := Scalar.indexCast arg12
  let c224 : Index := 224#32
  ![v95.toNat, 224]
def k1_off76 (k1_t5 : Fin k1_t5_loop.trips) : Fin 2 → Nat :=
  let c0_i32_52 : BitVec 32 := 0#32
  let c1_i32_54 : BitVec 32 := 1#32
  let arg12 : BitVec 32 := Scf.iv c0_i32_52 c1_i32_54 k1_t5
  let v97 : Index := Scalar.indexCast arg12
  let c240 : Index := 240#32
  ![v97.toNat, 240]
@[reducible] def k1_t6_loop : Scf.Loop 32 :=
  let c0_i32_57 : BitVec 32 := 0#32
  let c8_i32_58 : BitVec 32 := 8#32
  let v48 : BitVec 32 := Scalar.addi c0_i32_57 c8_i32_58
  let c1_i32_59 : BitVec 32 := 1#32
  ⟨c0_i32_57, v48, c1_i32_59⟩
def k1_off77 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v91 : Index := Scalar.indexCast v68
  let c0 : Index := 0#32
  ![v91.toNat, 0]

def k1_chk209 (v83 : IVec S16 32) (v108 : IVec S16 32) : Prop :=
  (∀ a x, ((![v83, v108] : Fin 2 → IVec S16 32) a x).toNat < S64x256.size a)
theorem k1_idx209_inb : ∀ (v83 : IVec S16 32) (v108 : IVec S16 32) (k1_hw209 : k1_chk209 v83 v108), ∀ a x, ((![v83, v108] : Fin 2 → IVec S16 32) a x).toNat < S64x256.size a := fun v83 v108 k1_hw209 => k1_hw209

def k1_chk210 (v84 : IVec S16 32) (v115 : IVec S16 32) : Prop :=
  (∀ a x, ((![v84, v115] : Fin 2 → IVec S16 32) a x).toNat < S64x256.size a)
theorem k1_idx210_inb : ∀ (v84 : IVec S16 32) (v115 : IVec S16 32) (k1_hw210 : k1_chk210 v84 v115), ∀ a x, ((![v84, v115] : Fin 2 → IVec S16 32) a x).toNat < S64x256.size a := fun v84 v115 k1_hw210 => k1_hw210

def k1_chk211 (v85 : IVec S16 32) (v122 : IVec S16 32) : Prop :=
  (∀ a x, ((![v85, v122] : Fin 2 → IVec S16 32) a x).toNat < S64x256.size a)
theorem k1_idx211_inb : ∀ (v85 : IVec S16 32) (v122 : IVec S16 32) (k1_hw211 : k1_chk211 v85 v122), ∀ a x, ((![v85, v122] : Fin 2 → IVec S16 32) a x).toNat < S64x256.size a := fun v85 v122 k1_hw211 => k1_hw211

def k1_chk212 (v86 : IVec S16 32) (v129 : IVec S16 32) : Prop :=
  (∀ a x, ((![v86, v129] : Fin 2 → IVec S16 32) a x).toNat < S64x256.size a)
theorem k1_idx212_inb : ∀ (v86 : IVec S16 32) (v129 : IVec S16 32) (k1_hw212 : k1_chk212 v86 v129), ∀ a x, ((![v86, v129] : Fin 2 → IVec S16 32) a x).toNat < S64x256.size a := fun v86 v129 k1_hw212 => k1_hw212

def k1_chk213 (v87 : IVec S16 32) (v136 : IVec S16 32) : Prop :=
  (∀ a x, ((![v87, v136] : Fin 2 → IVec S16 32) a x).toNat < S64x256.size a)
theorem k1_idx213_inb : ∀ (v87 : IVec S16 32) (v136 : IVec S16 32) (k1_hw213 : k1_chk213 v87 v136), ∀ a x, ((![v87, v136] : Fin 2 → IVec S16 32) a x).toNat < S64x256.size a := fun v87 v136 k1_hw213 => k1_hw213

def k1_chk214 (v88 : IVec S16 32) (v143 : IVec S16 32) : Prop :=
  (∀ a x, ((![v88, v143] : Fin 2 → IVec S16 32) a x).toNat < S64x256.size a)
theorem k1_idx214_inb : ∀ (v88 : IVec S16 32) (v143 : IVec S16 32) (k1_hw214 : k1_chk214 v88 v143), ∀ a x, ((![v88, v143] : Fin 2 → IVec S16 32) a x).toNat < S64x256.size a := fun v88 v143 k1_hw214 => k1_hw214

def k1_chk215 (v89 : IVec S16 32) (v150 : IVec S16 32) : Prop :=
  (∀ a x, ((![v89, v150] : Fin 2 → IVec S16 32) a x).toNat < S64x256.size a)
theorem k1_idx215_inb : ∀ (v89 : IVec S16 32) (v150 : IVec S16 32) (k1_hw215 : k1_chk215 v89 v150), ∀ a x, ((![v89, v150] : Fin 2 → IVec S16 32) a x).toNat < S64x256.size a := fun v89 v150 k1_hw215 => k1_hw215

def k1_chk216 (v90 : IVec S16 32) (v157 : IVec S16 32) : Prop :=
  (∀ a x, ((![v90, v157] : Fin 2 → IVec S16 32) a x).toNat < S64x256.size a)
theorem k1_idx216_inb : ∀ (v90 : IVec S16 32) (v157 : IVec S16 32) (k1_hw216 : k1_chk216 v90 v157), ∀ a x, ((![v90, v157] : Fin 2 → IVec S16 32) a x).toNat < S64x256.size a := fun v90 v157 k1_hw216 => k1_hw216
def k1_off78 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v163 : Index := Scalar.indexCast v68
  let c16 : Index := 16#32
  ![v163.toNat, 16]

def k1_chk217 (v83 : IVec S16 32) (v180 : IVec S16 32) : Prop :=
  (∀ a x, ((![v83, v180] : Fin 2 → IVec S16 32) a x).toNat < S64x256.size a)
theorem k1_idx217_inb : ∀ (v83 : IVec S16 32) (v180 : IVec S16 32) (k1_hw217 : k1_chk217 v83 v180), ∀ a x, ((![v83, v180] : Fin 2 → IVec S16 32) a x).toNat < S64x256.size a := fun v83 v180 k1_hw217 => k1_hw217

def k1_chk218 (v84 : IVec S16 32) (v187 : IVec S16 32) : Prop :=
  (∀ a x, ((![v84, v187] : Fin 2 → IVec S16 32) a x).toNat < S64x256.size a)
theorem k1_idx218_inb : ∀ (v84 : IVec S16 32) (v187 : IVec S16 32) (k1_hw218 : k1_chk218 v84 v187), ∀ a x, ((![v84, v187] : Fin 2 → IVec S16 32) a x).toNat < S64x256.size a := fun v84 v187 k1_hw218 => k1_hw218

def k1_chk219 (v85 : IVec S16 32) (v194 : IVec S16 32) : Prop :=
  (∀ a x, ((![v85, v194] : Fin 2 → IVec S16 32) a x).toNat < S64x256.size a)
theorem k1_idx219_inb : ∀ (v85 : IVec S16 32) (v194 : IVec S16 32) (k1_hw219 : k1_chk219 v85 v194), ∀ a x, ((![v85, v194] : Fin 2 → IVec S16 32) a x).toNat < S64x256.size a := fun v85 v194 k1_hw219 => k1_hw219

def k1_chk220 (v86 : IVec S16 32) (v201 : IVec S16 32) : Prop :=
  (∀ a x, ((![v86, v201] : Fin 2 → IVec S16 32) a x).toNat < S64x256.size a)
theorem k1_idx220_inb : ∀ (v86 : IVec S16 32) (v201 : IVec S16 32) (k1_hw220 : k1_chk220 v86 v201), ∀ a x, ((![v86, v201] : Fin 2 → IVec S16 32) a x).toNat < S64x256.size a := fun v86 v201 k1_hw220 => k1_hw220

def k1_chk221 (v87 : IVec S16 32) (v208 : IVec S16 32) : Prop :=
  (∀ a x, ((![v87, v208] : Fin 2 → IVec S16 32) a x).toNat < S64x256.size a)
theorem k1_idx221_inb : ∀ (v87 : IVec S16 32) (v208 : IVec S16 32) (k1_hw221 : k1_chk221 v87 v208), ∀ a x, ((![v87, v208] : Fin 2 → IVec S16 32) a x).toNat < S64x256.size a := fun v87 v208 k1_hw221 => k1_hw221

def k1_chk222 (v88 : IVec S16 32) (v215 : IVec S16 32) : Prop :=
  (∀ a x, ((![v88, v215] : Fin 2 → IVec S16 32) a x).toNat < S64x256.size a)
theorem k1_idx222_inb : ∀ (v88 : IVec S16 32) (v215 : IVec S16 32) (k1_hw222 : k1_chk222 v88 v215), ∀ a x, ((![v88, v215] : Fin 2 → IVec S16 32) a x).toNat < S64x256.size a := fun v88 v215 k1_hw222 => k1_hw222

def k1_chk223 (v89 : IVec S16 32) (v222 : IVec S16 32) : Prop :=
  (∀ a x, ((![v89, v222] : Fin 2 → IVec S16 32) a x).toNat < S64x256.size a)
theorem k1_idx223_inb : ∀ (v89 : IVec S16 32) (v222 : IVec S16 32) (k1_hw223 : k1_chk223 v89 v222), ∀ a x, ((![v89, v222] : Fin 2 → IVec S16 32) a x).toNat < S64x256.size a := fun v89 v222 k1_hw223 => k1_hw223

def k1_chk224 (v90 : IVec S16 32) (v229 : IVec S16 32) : Prop :=
  (∀ a x, ((![v90, v229] : Fin 2 → IVec S16 32) a x).toNat < S64x256.size a)
theorem k1_idx224_inb : ∀ (v90 : IVec S16 32) (v229 : IVec S16 32) (k1_hw224 : k1_chk224 v90 v229), ∀ a x, ((![v90, v229] : Fin 2 → IVec S16 32) a x).toNat < S64x256.size a := fun v90 v229 k1_hw224 => k1_hw224
def k1_off79 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v235 : Index := Scalar.indexCast v68
  let c32 : Index := 32#32
  ![v235.toNat, 32]

def k1_chk225 (v83 : IVec S16 32) (v252 : IVec S16 32) : Prop :=
  (∀ a x, ((![v83, v252] : Fin 2 → IVec S16 32) a x).toNat < S64x256.size a)
theorem k1_idx225_inb : ∀ (v83 : IVec S16 32) (v252 : IVec S16 32) (k1_hw225 : k1_chk225 v83 v252), ∀ a x, ((![v83, v252] : Fin 2 → IVec S16 32) a x).toNat < S64x256.size a := fun v83 v252 k1_hw225 => k1_hw225

def k1_chk226 (v84 : IVec S16 32) (v259 : IVec S16 32) : Prop :=
  (∀ a x, ((![v84, v259] : Fin 2 → IVec S16 32) a x).toNat < S64x256.size a)
theorem k1_idx226_inb : ∀ (v84 : IVec S16 32) (v259 : IVec S16 32) (k1_hw226 : k1_chk226 v84 v259), ∀ a x, ((![v84, v259] : Fin 2 → IVec S16 32) a x).toNat < S64x256.size a := fun v84 v259 k1_hw226 => k1_hw226

def k1_chk227 (v85 : IVec S16 32) (v266 : IVec S16 32) : Prop :=
  (∀ a x, ((![v85, v266] : Fin 2 → IVec S16 32) a x).toNat < S64x256.size a)
theorem k1_idx227_inb : ∀ (v85 : IVec S16 32) (v266 : IVec S16 32) (k1_hw227 : k1_chk227 v85 v266), ∀ a x, ((![v85, v266] : Fin 2 → IVec S16 32) a x).toNat < S64x256.size a := fun v85 v266 k1_hw227 => k1_hw227

def k1_chk228 (v86 : IVec S16 32) (v273 : IVec S16 32) : Prop :=
  (∀ a x, ((![v86, v273] : Fin 2 → IVec S16 32) a x).toNat < S64x256.size a)
theorem k1_idx228_inb : ∀ (v86 : IVec S16 32) (v273 : IVec S16 32) (k1_hw228 : k1_chk228 v86 v273), ∀ a x, ((![v86, v273] : Fin 2 → IVec S16 32) a x).toNat < S64x256.size a := fun v86 v273 k1_hw228 => k1_hw228

def k1_chk229 (v87 : IVec S16 32) (v280 : IVec S16 32) : Prop :=
  (∀ a x, ((![v87, v280] : Fin 2 → IVec S16 32) a x).toNat < S64x256.size a)
theorem k1_idx229_inb : ∀ (v87 : IVec S16 32) (v280 : IVec S16 32) (k1_hw229 : k1_chk229 v87 v280), ∀ a x, ((![v87, v280] : Fin 2 → IVec S16 32) a x).toNat < S64x256.size a := fun v87 v280 k1_hw229 => k1_hw229

def k1_chk230 (v88 : IVec S16 32) (v287 : IVec S16 32) : Prop :=
  (∀ a x, ((![v88, v287] : Fin 2 → IVec S16 32) a x).toNat < S64x256.size a)
theorem k1_idx230_inb : ∀ (v88 : IVec S16 32) (v287 : IVec S16 32) (k1_hw230 : k1_chk230 v88 v287), ∀ a x, ((![v88, v287] : Fin 2 → IVec S16 32) a x).toNat < S64x256.size a := fun v88 v287 k1_hw230 => k1_hw230

def k1_chk231 (v89 : IVec S16 32) (v294 : IVec S16 32) : Prop :=
  (∀ a x, ((![v89, v294] : Fin 2 → IVec S16 32) a x).toNat < S64x256.size a)
theorem k1_idx231_inb : ∀ (v89 : IVec S16 32) (v294 : IVec S16 32) (k1_hw231 : k1_chk231 v89 v294), ∀ a x, ((![v89, v294] : Fin 2 → IVec S16 32) a x).toNat < S64x256.size a := fun v89 v294 k1_hw231 => k1_hw231

def k1_chk232 (v90 : IVec S16 32) (v301 : IVec S16 32) : Prop :=
  (∀ a x, ((![v90, v301] : Fin 2 → IVec S16 32) a x).toNat < S64x256.size a)
theorem k1_idx232_inb : ∀ (v90 : IVec S16 32) (v301 : IVec S16 32) (k1_hw232 : k1_chk232 v90 v301), ∀ a x, ((![v90, v301] : Fin 2 → IVec S16 32) a x).toNat < S64x256.size a := fun v90 v301 k1_hw232 => k1_hw232
def k1_off80 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v307 : Index := Scalar.indexCast v68
  let c48 : Index := 48#32
  ![v307.toNat, 48]

def k1_chk233 (v83 : IVec S16 32) (v324 : IVec S16 32) : Prop :=
  (∀ a x, ((![v83, v324] : Fin 2 → IVec S16 32) a x).toNat < S64x256.size a)
theorem k1_idx233_inb : ∀ (v83 : IVec S16 32) (v324 : IVec S16 32) (k1_hw233 : k1_chk233 v83 v324), ∀ a x, ((![v83, v324] : Fin 2 → IVec S16 32) a x).toNat < S64x256.size a := fun v83 v324 k1_hw233 => k1_hw233

def k1_chk234 (v84 : IVec S16 32) (v331 : IVec S16 32) : Prop :=
  (∀ a x, ((![v84, v331] : Fin 2 → IVec S16 32) a x).toNat < S64x256.size a)
theorem k1_idx234_inb : ∀ (v84 : IVec S16 32) (v331 : IVec S16 32) (k1_hw234 : k1_chk234 v84 v331), ∀ a x, ((![v84, v331] : Fin 2 → IVec S16 32) a x).toNat < S64x256.size a := fun v84 v331 k1_hw234 => k1_hw234

def k1_chk235 (v85 : IVec S16 32) (v338 : IVec S16 32) : Prop :=
  (∀ a x, ((![v85, v338] : Fin 2 → IVec S16 32) a x).toNat < S64x256.size a)
theorem k1_idx235_inb : ∀ (v85 : IVec S16 32) (v338 : IVec S16 32) (k1_hw235 : k1_chk235 v85 v338), ∀ a x, ((![v85, v338] : Fin 2 → IVec S16 32) a x).toNat < S64x256.size a := fun v85 v338 k1_hw235 => k1_hw235

def k1_chk236 (v86 : IVec S16 32) (v345 : IVec S16 32) : Prop :=
  (∀ a x, ((![v86, v345] : Fin 2 → IVec S16 32) a x).toNat < S64x256.size a)
theorem k1_idx236_inb : ∀ (v86 : IVec S16 32) (v345 : IVec S16 32) (k1_hw236 : k1_chk236 v86 v345), ∀ a x, ((![v86, v345] : Fin 2 → IVec S16 32) a x).toNat < S64x256.size a := fun v86 v345 k1_hw236 => k1_hw236

def k1_chk237 (v87 : IVec S16 32) (v352 : IVec S16 32) : Prop :=
  (∀ a x, ((![v87, v352] : Fin 2 → IVec S16 32) a x).toNat < S64x256.size a)
theorem k1_idx237_inb : ∀ (v87 : IVec S16 32) (v352 : IVec S16 32) (k1_hw237 : k1_chk237 v87 v352), ∀ a x, ((![v87, v352] : Fin 2 → IVec S16 32) a x).toNat < S64x256.size a := fun v87 v352 k1_hw237 => k1_hw237

def k1_chk238 (v88 : IVec S16 32) (v359 : IVec S16 32) : Prop :=
  (∀ a x, ((![v88, v359] : Fin 2 → IVec S16 32) a x).toNat < S64x256.size a)
theorem k1_idx238_inb : ∀ (v88 : IVec S16 32) (v359 : IVec S16 32) (k1_hw238 : k1_chk238 v88 v359), ∀ a x, ((![v88, v359] : Fin 2 → IVec S16 32) a x).toNat < S64x256.size a := fun v88 v359 k1_hw238 => k1_hw238

def k1_chk239 (v89 : IVec S16 32) (v366 : IVec S16 32) : Prop :=
  (∀ a x, ((![v89, v366] : Fin 2 → IVec S16 32) a x).toNat < S64x256.size a)
theorem k1_idx239_inb : ∀ (v89 : IVec S16 32) (v366 : IVec S16 32) (k1_hw239 : k1_chk239 v89 v366), ∀ a x, ((![v89, v366] : Fin 2 → IVec S16 32) a x).toNat < S64x256.size a := fun v89 v366 k1_hw239 => k1_hw239

def k1_chk240 (v90 : IVec S16 32) (v373 : IVec S16 32) : Prop :=
  (∀ a x, ((![v90, v373] : Fin 2 → IVec S16 32) a x).toNat < S64x256.size a)
theorem k1_idx240_inb : ∀ (v90 : IVec S16 32) (v373 : IVec S16 32) (k1_hw240 : k1_chk240 v90 v373), ∀ a x, ((![v90, v373] : Fin 2 → IVec S16 32) a x).toNat < S64x256.size a := fun v90 v373 k1_hw240 => k1_hw240
def k1_off81 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v379 : Index := Scalar.indexCast v68
  let c64 : Index := 64#32
  ![v379.toNat, 64]

def k1_chk241 (v83 : IVec S16 32) (v396 : IVec S16 32) : Prop :=
  (∀ a x, ((![v83, v396] : Fin 2 → IVec S16 32) a x).toNat < S64x256.size a)
theorem k1_idx241_inb : ∀ (v83 : IVec S16 32) (v396 : IVec S16 32) (k1_hw241 : k1_chk241 v83 v396), ∀ a x, ((![v83, v396] : Fin 2 → IVec S16 32) a x).toNat < S64x256.size a := fun v83 v396 k1_hw241 => k1_hw241

def k1_chk242 (v84 : IVec S16 32) (v403 : IVec S16 32) : Prop :=
  (∀ a x, ((![v84, v403] : Fin 2 → IVec S16 32) a x).toNat < S64x256.size a)
theorem k1_idx242_inb : ∀ (v84 : IVec S16 32) (v403 : IVec S16 32) (k1_hw242 : k1_chk242 v84 v403), ∀ a x, ((![v84, v403] : Fin 2 → IVec S16 32) a x).toNat < S64x256.size a := fun v84 v403 k1_hw242 => k1_hw242

def k1_chk243 (v85 : IVec S16 32) (v410 : IVec S16 32) : Prop :=
  (∀ a x, ((![v85, v410] : Fin 2 → IVec S16 32) a x).toNat < S64x256.size a)
theorem k1_idx243_inb : ∀ (v85 : IVec S16 32) (v410 : IVec S16 32) (k1_hw243 : k1_chk243 v85 v410), ∀ a x, ((![v85, v410] : Fin 2 → IVec S16 32) a x).toNat < S64x256.size a := fun v85 v410 k1_hw243 => k1_hw243

def k1_chk244 (v86 : IVec S16 32) (v417 : IVec S16 32) : Prop :=
  (∀ a x, ((![v86, v417] : Fin 2 → IVec S16 32) a x).toNat < S64x256.size a)
theorem k1_idx244_inb : ∀ (v86 : IVec S16 32) (v417 : IVec S16 32) (k1_hw244 : k1_chk244 v86 v417), ∀ a x, ((![v86, v417] : Fin 2 → IVec S16 32) a x).toNat < S64x256.size a := fun v86 v417 k1_hw244 => k1_hw244

def k1_chk245 (v87 : IVec S16 32) (v424 : IVec S16 32) : Prop :=
  (∀ a x, ((![v87, v424] : Fin 2 → IVec S16 32) a x).toNat < S64x256.size a)
theorem k1_idx245_inb : ∀ (v87 : IVec S16 32) (v424 : IVec S16 32) (k1_hw245 : k1_chk245 v87 v424), ∀ a x, ((![v87, v424] : Fin 2 → IVec S16 32) a x).toNat < S64x256.size a := fun v87 v424 k1_hw245 => k1_hw245

def k1_chk246 (v88 : IVec S16 32) (v431 : IVec S16 32) : Prop :=
  (∀ a x, ((![v88, v431] : Fin 2 → IVec S16 32) a x).toNat < S64x256.size a)
theorem k1_idx246_inb : ∀ (v88 : IVec S16 32) (v431 : IVec S16 32) (k1_hw246 : k1_chk246 v88 v431), ∀ a x, ((![v88, v431] : Fin 2 → IVec S16 32) a x).toNat < S64x256.size a := fun v88 v431 k1_hw246 => k1_hw246

def k1_chk247 (v89 : IVec S16 32) (v438 : IVec S16 32) : Prop :=
  (∀ a x, ((![v89, v438] : Fin 2 → IVec S16 32) a x).toNat < S64x256.size a)
theorem k1_idx247_inb : ∀ (v89 : IVec S16 32) (v438 : IVec S16 32) (k1_hw247 : k1_chk247 v89 v438), ∀ a x, ((![v89, v438] : Fin 2 → IVec S16 32) a x).toNat < S64x256.size a := fun v89 v438 k1_hw247 => k1_hw247

def k1_chk248 (v90 : IVec S16 32) (v445 : IVec S16 32) : Prop :=
  (∀ a x, ((![v90, v445] : Fin 2 → IVec S16 32) a x).toNat < S64x256.size a)
theorem k1_idx248_inb : ∀ (v90 : IVec S16 32) (v445 : IVec S16 32) (k1_hw248 : k1_chk248 v90 v445), ∀ a x, ((![v90, v445] : Fin 2 → IVec S16 32) a x).toNat < S64x256.size a := fun v90 v445 k1_hw248 => k1_hw248
def k1_off82 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v451 : Index := Scalar.indexCast v68
  let c80 : Index := 80#32
  ![v451.toNat, 80]

def k1_chk249 (v83 : IVec S16 32) (v468 : IVec S16 32) : Prop :=
  (∀ a x, ((![v83, v468] : Fin 2 → IVec S16 32) a x).toNat < S64x256.size a)
theorem k1_idx249_inb : ∀ (v83 : IVec S16 32) (v468 : IVec S16 32) (k1_hw249 : k1_chk249 v83 v468), ∀ a x, ((![v83, v468] : Fin 2 → IVec S16 32) a x).toNat < S64x256.size a := fun v83 v468 k1_hw249 => k1_hw249

def k1_chk250 (v84 : IVec S16 32) (v475 : IVec S16 32) : Prop :=
  (∀ a x, ((![v84, v475] : Fin 2 → IVec S16 32) a x).toNat < S64x256.size a)
theorem k1_idx250_inb : ∀ (v84 : IVec S16 32) (v475 : IVec S16 32) (k1_hw250 : k1_chk250 v84 v475), ∀ a x, ((![v84, v475] : Fin 2 → IVec S16 32) a x).toNat < S64x256.size a := fun v84 v475 k1_hw250 => k1_hw250

def k1_chk251 (v85 : IVec S16 32) (v482 : IVec S16 32) : Prop :=
  (∀ a x, ((![v85, v482] : Fin 2 → IVec S16 32) a x).toNat < S64x256.size a)
theorem k1_idx251_inb : ∀ (v85 : IVec S16 32) (v482 : IVec S16 32) (k1_hw251 : k1_chk251 v85 v482), ∀ a x, ((![v85, v482] : Fin 2 → IVec S16 32) a x).toNat < S64x256.size a := fun v85 v482 k1_hw251 => k1_hw251

def k1_chk252 (v86 : IVec S16 32) (v489 : IVec S16 32) : Prop :=
  (∀ a x, ((![v86, v489] : Fin 2 → IVec S16 32) a x).toNat < S64x256.size a)
theorem k1_idx252_inb : ∀ (v86 : IVec S16 32) (v489 : IVec S16 32) (k1_hw252 : k1_chk252 v86 v489), ∀ a x, ((![v86, v489] : Fin 2 → IVec S16 32) a x).toNat < S64x256.size a := fun v86 v489 k1_hw252 => k1_hw252

def k1_chk253 (v87 : IVec S16 32) (v496 : IVec S16 32) : Prop :=
  (∀ a x, ((![v87, v496] : Fin 2 → IVec S16 32) a x).toNat < S64x256.size a)
theorem k1_idx253_inb : ∀ (v87 : IVec S16 32) (v496 : IVec S16 32) (k1_hw253 : k1_chk253 v87 v496), ∀ a x, ((![v87, v496] : Fin 2 → IVec S16 32) a x).toNat < S64x256.size a := fun v87 v496 k1_hw253 => k1_hw253

def k1_chk254 (v88 : IVec S16 32) (v503 : IVec S16 32) : Prop :=
  (∀ a x, ((![v88, v503] : Fin 2 → IVec S16 32) a x).toNat < S64x256.size a)
theorem k1_idx254_inb : ∀ (v88 : IVec S16 32) (v503 : IVec S16 32) (k1_hw254 : k1_chk254 v88 v503), ∀ a x, ((![v88, v503] : Fin 2 → IVec S16 32) a x).toNat < S64x256.size a := fun v88 v503 k1_hw254 => k1_hw254

def k1_chk255 (v89 : IVec S16 32) (v510 : IVec S16 32) : Prop :=
  (∀ a x, ((![v89, v510] : Fin 2 → IVec S16 32) a x).toNat < S64x256.size a)
theorem k1_idx255_inb : ∀ (v89 : IVec S16 32) (v510 : IVec S16 32) (k1_hw255 : k1_chk255 v89 v510), ∀ a x, ((![v89, v510] : Fin 2 → IVec S16 32) a x).toNat < S64x256.size a := fun v89 v510 k1_hw255 => k1_hw255

def k1_chk256 (v90 : IVec S16 32) (v517 : IVec S16 32) : Prop :=
  (∀ a x, ((![v90, v517] : Fin 2 → IVec S16 32) a x).toNat < S64x256.size a)
theorem k1_idx256_inb : ∀ (v90 : IVec S16 32) (v517 : IVec S16 32) (k1_hw256 : k1_chk256 v90 v517), ∀ a x, ((![v90, v517] : Fin 2 → IVec S16 32) a x).toNat < S64x256.size a := fun v90 v517 k1_hw256 => k1_hw256
def k1_off83 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v523 : Index := Scalar.indexCast v68
  let c96 : Index := 96#32
  ![v523.toNat, 96]

def k1_chk257 (v83 : IVec S16 32) (v540 : IVec S16 32) : Prop :=
  (∀ a x, ((![v83, v540] : Fin 2 → IVec S16 32) a x).toNat < S64x256.size a)
theorem k1_idx257_inb : ∀ (v83 : IVec S16 32) (v540 : IVec S16 32) (k1_hw257 : k1_chk257 v83 v540), ∀ a x, ((![v83, v540] : Fin 2 → IVec S16 32) a x).toNat < S64x256.size a := fun v83 v540 k1_hw257 => k1_hw257

def k1_chk258 (v84 : IVec S16 32) (v547 : IVec S16 32) : Prop :=
  (∀ a x, ((![v84, v547] : Fin 2 → IVec S16 32) a x).toNat < S64x256.size a)
theorem k1_idx258_inb : ∀ (v84 : IVec S16 32) (v547 : IVec S16 32) (k1_hw258 : k1_chk258 v84 v547), ∀ a x, ((![v84, v547] : Fin 2 → IVec S16 32) a x).toNat < S64x256.size a := fun v84 v547 k1_hw258 => k1_hw258

def k1_chk259 (v85 : IVec S16 32) (v554 : IVec S16 32) : Prop :=
  (∀ a x, ((![v85, v554] : Fin 2 → IVec S16 32) a x).toNat < S64x256.size a)
theorem k1_idx259_inb : ∀ (v85 : IVec S16 32) (v554 : IVec S16 32) (k1_hw259 : k1_chk259 v85 v554), ∀ a x, ((![v85, v554] : Fin 2 → IVec S16 32) a x).toNat < S64x256.size a := fun v85 v554 k1_hw259 => k1_hw259

def k1_chk260 (v86 : IVec S16 32) (v561 : IVec S16 32) : Prop :=
  (∀ a x, ((![v86, v561] : Fin 2 → IVec S16 32) a x).toNat < S64x256.size a)
theorem k1_idx260_inb : ∀ (v86 : IVec S16 32) (v561 : IVec S16 32) (k1_hw260 : k1_chk260 v86 v561), ∀ a x, ((![v86, v561] : Fin 2 → IVec S16 32) a x).toNat < S64x256.size a := fun v86 v561 k1_hw260 => k1_hw260

def k1_chk261 (v87 : IVec S16 32) (v568 : IVec S16 32) : Prop :=
  (∀ a x, ((![v87, v568] : Fin 2 → IVec S16 32) a x).toNat < S64x256.size a)
theorem k1_idx261_inb : ∀ (v87 : IVec S16 32) (v568 : IVec S16 32) (k1_hw261 : k1_chk261 v87 v568), ∀ a x, ((![v87, v568] : Fin 2 → IVec S16 32) a x).toNat < S64x256.size a := fun v87 v568 k1_hw261 => k1_hw261

def k1_chk262 (v88 : IVec S16 32) (v575 : IVec S16 32) : Prop :=
  (∀ a x, ((![v88, v575] : Fin 2 → IVec S16 32) a x).toNat < S64x256.size a)
theorem k1_idx262_inb : ∀ (v88 : IVec S16 32) (v575 : IVec S16 32) (k1_hw262 : k1_chk262 v88 v575), ∀ a x, ((![v88, v575] : Fin 2 → IVec S16 32) a x).toNat < S64x256.size a := fun v88 v575 k1_hw262 => k1_hw262

def k1_chk263 (v89 : IVec S16 32) (v582 : IVec S16 32) : Prop :=
  (∀ a x, ((![v89, v582] : Fin 2 → IVec S16 32) a x).toNat < S64x256.size a)
theorem k1_idx263_inb : ∀ (v89 : IVec S16 32) (v582 : IVec S16 32) (k1_hw263 : k1_chk263 v89 v582), ∀ a x, ((![v89, v582] : Fin 2 → IVec S16 32) a x).toNat < S64x256.size a := fun v89 v582 k1_hw263 => k1_hw263

def k1_chk264 (v90 : IVec S16 32) (v589 : IVec S16 32) : Prop :=
  (∀ a x, ((![v90, v589] : Fin 2 → IVec S16 32) a x).toNat < S64x256.size a)
theorem k1_idx264_inb : ∀ (v90 : IVec S16 32) (v589 : IVec S16 32) (k1_hw264 : k1_chk264 v90 v589), ∀ a x, ((![v90, v589] : Fin 2 → IVec S16 32) a x).toNat < S64x256.size a := fun v90 v589 k1_hw264 => k1_hw264
def k1_off84 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v595 : Index := Scalar.indexCast v68
  let c112 : Index := 112#32
  ![v595.toNat, 112]

def k1_chk265 (v83 : IVec S16 32) (v612 : IVec S16 32) : Prop :=
  (∀ a x, ((![v83, v612] : Fin 2 → IVec S16 32) a x).toNat < S64x256.size a)
theorem k1_idx265_inb : ∀ (v83 : IVec S16 32) (v612 : IVec S16 32) (k1_hw265 : k1_chk265 v83 v612), ∀ a x, ((![v83, v612] : Fin 2 → IVec S16 32) a x).toNat < S64x256.size a := fun v83 v612 k1_hw265 => k1_hw265

def k1_chk266 (v84 : IVec S16 32) (v619 : IVec S16 32) : Prop :=
  (∀ a x, ((![v84, v619] : Fin 2 → IVec S16 32) a x).toNat < S64x256.size a)
theorem k1_idx266_inb : ∀ (v84 : IVec S16 32) (v619 : IVec S16 32) (k1_hw266 : k1_chk266 v84 v619), ∀ a x, ((![v84, v619] : Fin 2 → IVec S16 32) a x).toNat < S64x256.size a := fun v84 v619 k1_hw266 => k1_hw266

def k1_chk267 (v85 : IVec S16 32) (v626 : IVec S16 32) : Prop :=
  (∀ a x, ((![v85, v626] : Fin 2 → IVec S16 32) a x).toNat < S64x256.size a)
theorem k1_idx267_inb : ∀ (v85 : IVec S16 32) (v626 : IVec S16 32) (k1_hw267 : k1_chk267 v85 v626), ∀ a x, ((![v85, v626] : Fin 2 → IVec S16 32) a x).toNat < S64x256.size a := fun v85 v626 k1_hw267 => k1_hw267

def k1_chk268 (v86 : IVec S16 32) (v633 : IVec S16 32) : Prop :=
  (∀ a x, ((![v86, v633] : Fin 2 → IVec S16 32) a x).toNat < S64x256.size a)
theorem k1_idx268_inb : ∀ (v86 : IVec S16 32) (v633 : IVec S16 32) (k1_hw268 : k1_chk268 v86 v633), ∀ a x, ((![v86, v633] : Fin 2 → IVec S16 32) a x).toNat < S64x256.size a := fun v86 v633 k1_hw268 => k1_hw268

def k1_chk269 (v87 : IVec S16 32) (v640 : IVec S16 32) : Prop :=
  (∀ a x, ((![v87, v640] : Fin 2 → IVec S16 32) a x).toNat < S64x256.size a)
theorem k1_idx269_inb : ∀ (v87 : IVec S16 32) (v640 : IVec S16 32) (k1_hw269 : k1_chk269 v87 v640), ∀ a x, ((![v87, v640] : Fin 2 → IVec S16 32) a x).toNat < S64x256.size a := fun v87 v640 k1_hw269 => k1_hw269

def k1_chk270 (v88 : IVec S16 32) (v647 : IVec S16 32) : Prop :=
  (∀ a x, ((![v88, v647] : Fin 2 → IVec S16 32) a x).toNat < S64x256.size a)
theorem k1_idx270_inb : ∀ (v88 : IVec S16 32) (v647 : IVec S16 32) (k1_hw270 : k1_chk270 v88 v647), ∀ a x, ((![v88, v647] : Fin 2 → IVec S16 32) a x).toNat < S64x256.size a := fun v88 v647 k1_hw270 => k1_hw270

def k1_chk271 (v89 : IVec S16 32) (v654 : IVec S16 32) : Prop :=
  (∀ a x, ((![v89, v654] : Fin 2 → IVec S16 32) a x).toNat < S64x256.size a)
theorem k1_idx271_inb : ∀ (v89 : IVec S16 32) (v654 : IVec S16 32) (k1_hw271 : k1_chk271 v89 v654), ∀ a x, ((![v89, v654] : Fin 2 → IVec S16 32) a x).toNat < S64x256.size a := fun v89 v654 k1_hw271 => k1_hw271

def k1_chk272 (v90 : IVec S16 32) (v661 : IVec S16 32) : Prop :=
  (∀ a x, ((![v90, v661] : Fin 2 → IVec S16 32) a x).toNat < S64x256.size a)
theorem k1_idx272_inb : ∀ (v90 : IVec S16 32) (v661 : IVec S16 32) (k1_hw272 : k1_chk272 v90 v661), ∀ a x, ((![v90, v661] : Fin 2 → IVec S16 32) a x).toNat < S64x256.size a := fun v90 v661 k1_hw272 => k1_hw272
def k1_off85 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v667 : Index := Scalar.indexCast v68
  let c128 : Index := 128#32
  ![v667.toNat, 128]

def k1_chk273 (v83 : IVec S16 32) (v684 : IVec S16 32) : Prop :=
  (∀ a x, ((![v83, v684] : Fin 2 → IVec S16 32) a x).toNat < S64x256.size a)
theorem k1_idx273_inb : ∀ (v83 : IVec S16 32) (v684 : IVec S16 32) (k1_hw273 : k1_chk273 v83 v684), ∀ a x, ((![v83, v684] : Fin 2 → IVec S16 32) a x).toNat < S64x256.size a := fun v83 v684 k1_hw273 => k1_hw273

def k1_chk274 (v84 : IVec S16 32) (v691 : IVec S16 32) : Prop :=
  (∀ a x, ((![v84, v691] : Fin 2 → IVec S16 32) a x).toNat < S64x256.size a)
theorem k1_idx274_inb : ∀ (v84 : IVec S16 32) (v691 : IVec S16 32) (k1_hw274 : k1_chk274 v84 v691), ∀ a x, ((![v84, v691] : Fin 2 → IVec S16 32) a x).toNat < S64x256.size a := fun v84 v691 k1_hw274 => k1_hw274

def k1_chk275 (v85 : IVec S16 32) (v698 : IVec S16 32) : Prop :=
  (∀ a x, ((![v85, v698] : Fin 2 → IVec S16 32) a x).toNat < S64x256.size a)
theorem k1_idx275_inb : ∀ (v85 : IVec S16 32) (v698 : IVec S16 32) (k1_hw275 : k1_chk275 v85 v698), ∀ a x, ((![v85, v698] : Fin 2 → IVec S16 32) a x).toNat < S64x256.size a := fun v85 v698 k1_hw275 => k1_hw275

def k1_chk276 (v86 : IVec S16 32) (v705 : IVec S16 32) : Prop :=
  (∀ a x, ((![v86, v705] : Fin 2 → IVec S16 32) a x).toNat < S64x256.size a)
theorem k1_idx276_inb : ∀ (v86 : IVec S16 32) (v705 : IVec S16 32) (k1_hw276 : k1_chk276 v86 v705), ∀ a x, ((![v86, v705] : Fin 2 → IVec S16 32) a x).toNat < S64x256.size a := fun v86 v705 k1_hw276 => k1_hw276

def k1_chk277 (v87 : IVec S16 32) (v712 : IVec S16 32) : Prop :=
  (∀ a x, ((![v87, v712] : Fin 2 → IVec S16 32) a x).toNat < S64x256.size a)
theorem k1_idx277_inb : ∀ (v87 : IVec S16 32) (v712 : IVec S16 32) (k1_hw277 : k1_chk277 v87 v712), ∀ a x, ((![v87, v712] : Fin 2 → IVec S16 32) a x).toNat < S64x256.size a := fun v87 v712 k1_hw277 => k1_hw277

def k1_chk278 (v88 : IVec S16 32) (v719 : IVec S16 32) : Prop :=
  (∀ a x, ((![v88, v719] : Fin 2 → IVec S16 32) a x).toNat < S64x256.size a)
theorem k1_idx278_inb : ∀ (v88 : IVec S16 32) (v719 : IVec S16 32) (k1_hw278 : k1_chk278 v88 v719), ∀ a x, ((![v88, v719] : Fin 2 → IVec S16 32) a x).toNat < S64x256.size a := fun v88 v719 k1_hw278 => k1_hw278

def k1_chk279 (v89 : IVec S16 32) (v726 : IVec S16 32) : Prop :=
  (∀ a x, ((![v89, v726] : Fin 2 → IVec S16 32) a x).toNat < S64x256.size a)
theorem k1_idx279_inb : ∀ (v89 : IVec S16 32) (v726 : IVec S16 32) (k1_hw279 : k1_chk279 v89 v726), ∀ a x, ((![v89, v726] : Fin 2 → IVec S16 32) a x).toNat < S64x256.size a := fun v89 v726 k1_hw279 => k1_hw279

def k1_chk280 (v90 : IVec S16 32) (v733 : IVec S16 32) : Prop :=
  (∀ a x, ((![v90, v733] : Fin 2 → IVec S16 32) a x).toNat < S64x256.size a)
theorem k1_idx280_inb : ∀ (v90 : IVec S16 32) (v733 : IVec S16 32) (k1_hw280 : k1_chk280 v90 v733), ∀ a x, ((![v90, v733] : Fin 2 → IVec S16 32) a x).toNat < S64x256.size a := fun v90 v733 k1_hw280 => k1_hw280
def k1_off86 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v739 : Index := Scalar.indexCast v68
  let c144 : Index := 144#32
  ![v739.toNat, 144]

def k1_chk281 (v83 : IVec S16 32) (v756 : IVec S16 32) : Prop :=
  (∀ a x, ((![v83, v756] : Fin 2 → IVec S16 32) a x).toNat < S64x256.size a)
theorem k1_idx281_inb : ∀ (v83 : IVec S16 32) (v756 : IVec S16 32) (k1_hw281 : k1_chk281 v83 v756), ∀ a x, ((![v83, v756] : Fin 2 → IVec S16 32) a x).toNat < S64x256.size a := fun v83 v756 k1_hw281 => k1_hw281

def k1_chk282 (v84 : IVec S16 32) (v763 : IVec S16 32) : Prop :=
  (∀ a x, ((![v84, v763] : Fin 2 → IVec S16 32) a x).toNat < S64x256.size a)
theorem k1_idx282_inb : ∀ (v84 : IVec S16 32) (v763 : IVec S16 32) (k1_hw282 : k1_chk282 v84 v763), ∀ a x, ((![v84, v763] : Fin 2 → IVec S16 32) a x).toNat < S64x256.size a := fun v84 v763 k1_hw282 => k1_hw282

def k1_chk283 (v85 : IVec S16 32) (v770 : IVec S16 32) : Prop :=
  (∀ a x, ((![v85, v770] : Fin 2 → IVec S16 32) a x).toNat < S64x256.size a)
theorem k1_idx283_inb : ∀ (v85 : IVec S16 32) (v770 : IVec S16 32) (k1_hw283 : k1_chk283 v85 v770), ∀ a x, ((![v85, v770] : Fin 2 → IVec S16 32) a x).toNat < S64x256.size a := fun v85 v770 k1_hw283 => k1_hw283

def k1_chk284 (v86 : IVec S16 32) (v777 : IVec S16 32) : Prop :=
  (∀ a x, ((![v86, v777] : Fin 2 → IVec S16 32) a x).toNat < S64x256.size a)
theorem k1_idx284_inb : ∀ (v86 : IVec S16 32) (v777 : IVec S16 32) (k1_hw284 : k1_chk284 v86 v777), ∀ a x, ((![v86, v777] : Fin 2 → IVec S16 32) a x).toNat < S64x256.size a := fun v86 v777 k1_hw284 => k1_hw284

def k1_chk285 (v87 : IVec S16 32) (v784 : IVec S16 32) : Prop :=
  (∀ a x, ((![v87, v784] : Fin 2 → IVec S16 32) a x).toNat < S64x256.size a)
theorem k1_idx285_inb : ∀ (v87 : IVec S16 32) (v784 : IVec S16 32) (k1_hw285 : k1_chk285 v87 v784), ∀ a x, ((![v87, v784] : Fin 2 → IVec S16 32) a x).toNat < S64x256.size a := fun v87 v784 k1_hw285 => k1_hw285

def k1_chk286 (v88 : IVec S16 32) (v791 : IVec S16 32) : Prop :=
  (∀ a x, ((![v88, v791] : Fin 2 → IVec S16 32) a x).toNat < S64x256.size a)
theorem k1_idx286_inb : ∀ (v88 : IVec S16 32) (v791 : IVec S16 32) (k1_hw286 : k1_chk286 v88 v791), ∀ a x, ((![v88, v791] : Fin 2 → IVec S16 32) a x).toNat < S64x256.size a := fun v88 v791 k1_hw286 => k1_hw286

def k1_chk287 (v89 : IVec S16 32) (v798 : IVec S16 32) : Prop :=
  (∀ a x, ((![v89, v798] : Fin 2 → IVec S16 32) a x).toNat < S64x256.size a)
theorem k1_idx287_inb : ∀ (v89 : IVec S16 32) (v798 : IVec S16 32) (k1_hw287 : k1_chk287 v89 v798), ∀ a x, ((![v89, v798] : Fin 2 → IVec S16 32) a x).toNat < S64x256.size a := fun v89 v798 k1_hw287 => k1_hw287

def k1_chk288 (v90 : IVec S16 32) (v805 : IVec S16 32) : Prop :=
  (∀ a x, ((![v90, v805] : Fin 2 → IVec S16 32) a x).toNat < S64x256.size a)
theorem k1_idx288_inb : ∀ (v90 : IVec S16 32) (v805 : IVec S16 32) (k1_hw288 : k1_chk288 v90 v805), ∀ a x, ((![v90, v805] : Fin 2 → IVec S16 32) a x).toNat < S64x256.size a := fun v90 v805 k1_hw288 => k1_hw288
def k1_off87 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v811 : Index := Scalar.indexCast v68
  let c160 : Index := 160#32
  ![v811.toNat, 160]

def k1_chk289 (v83 : IVec S16 32) (v828 : IVec S16 32) : Prop :=
  (∀ a x, ((![v83, v828] : Fin 2 → IVec S16 32) a x).toNat < S64x256.size a)
theorem k1_idx289_inb : ∀ (v83 : IVec S16 32) (v828 : IVec S16 32) (k1_hw289 : k1_chk289 v83 v828), ∀ a x, ((![v83, v828] : Fin 2 → IVec S16 32) a x).toNat < S64x256.size a := fun v83 v828 k1_hw289 => k1_hw289

def k1_chk290 (v84 : IVec S16 32) (v835 : IVec S16 32) : Prop :=
  (∀ a x, ((![v84, v835] : Fin 2 → IVec S16 32) a x).toNat < S64x256.size a)
theorem k1_idx290_inb : ∀ (v84 : IVec S16 32) (v835 : IVec S16 32) (k1_hw290 : k1_chk290 v84 v835), ∀ a x, ((![v84, v835] : Fin 2 → IVec S16 32) a x).toNat < S64x256.size a := fun v84 v835 k1_hw290 => k1_hw290

def k1_chk291 (v85 : IVec S16 32) (v842 : IVec S16 32) : Prop :=
  (∀ a x, ((![v85, v842] : Fin 2 → IVec S16 32) a x).toNat < S64x256.size a)
theorem k1_idx291_inb : ∀ (v85 : IVec S16 32) (v842 : IVec S16 32) (k1_hw291 : k1_chk291 v85 v842), ∀ a x, ((![v85, v842] : Fin 2 → IVec S16 32) a x).toNat < S64x256.size a := fun v85 v842 k1_hw291 => k1_hw291

def k1_chk292 (v86 : IVec S16 32) (v849 : IVec S16 32) : Prop :=
  (∀ a x, ((![v86, v849] : Fin 2 → IVec S16 32) a x).toNat < S64x256.size a)
theorem k1_idx292_inb : ∀ (v86 : IVec S16 32) (v849 : IVec S16 32) (k1_hw292 : k1_chk292 v86 v849), ∀ a x, ((![v86, v849] : Fin 2 → IVec S16 32) a x).toNat < S64x256.size a := fun v86 v849 k1_hw292 => k1_hw292

def k1_chk293 (v87 : IVec S16 32) (v856 : IVec S16 32) : Prop :=
  (∀ a x, ((![v87, v856] : Fin 2 → IVec S16 32) a x).toNat < S64x256.size a)
theorem k1_idx293_inb : ∀ (v87 : IVec S16 32) (v856 : IVec S16 32) (k1_hw293 : k1_chk293 v87 v856), ∀ a x, ((![v87, v856] : Fin 2 → IVec S16 32) a x).toNat < S64x256.size a := fun v87 v856 k1_hw293 => k1_hw293

def k1_chk294 (v88 : IVec S16 32) (v863 : IVec S16 32) : Prop :=
  (∀ a x, ((![v88, v863] : Fin 2 → IVec S16 32) a x).toNat < S64x256.size a)
theorem k1_idx294_inb : ∀ (v88 : IVec S16 32) (v863 : IVec S16 32) (k1_hw294 : k1_chk294 v88 v863), ∀ a x, ((![v88, v863] : Fin 2 → IVec S16 32) a x).toNat < S64x256.size a := fun v88 v863 k1_hw294 => k1_hw294

def k1_chk295 (v89 : IVec S16 32) (v870 : IVec S16 32) : Prop :=
  (∀ a x, ((![v89, v870] : Fin 2 → IVec S16 32) a x).toNat < S64x256.size a)
theorem k1_idx295_inb : ∀ (v89 : IVec S16 32) (v870 : IVec S16 32) (k1_hw295 : k1_chk295 v89 v870), ∀ a x, ((![v89, v870] : Fin 2 → IVec S16 32) a x).toNat < S64x256.size a := fun v89 v870 k1_hw295 => k1_hw295

def k1_chk296 (v90 : IVec S16 32) (v877 : IVec S16 32) : Prop :=
  (∀ a x, ((![v90, v877] : Fin 2 → IVec S16 32) a x).toNat < S64x256.size a)
theorem k1_idx296_inb : ∀ (v90 : IVec S16 32) (v877 : IVec S16 32) (k1_hw296 : k1_chk296 v90 v877), ∀ a x, ((![v90, v877] : Fin 2 → IVec S16 32) a x).toNat < S64x256.size a := fun v90 v877 k1_hw296 => k1_hw296
def k1_off88 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v883 : Index := Scalar.indexCast v68
  let c176 : Index := 176#32
  ![v883.toNat, 176]

def k1_chk297 (v83 : IVec S16 32) (v900 : IVec S16 32) : Prop :=
  (∀ a x, ((![v83, v900] : Fin 2 → IVec S16 32) a x).toNat < S64x256.size a)
theorem k1_idx297_inb : ∀ (v83 : IVec S16 32) (v900 : IVec S16 32) (k1_hw297 : k1_chk297 v83 v900), ∀ a x, ((![v83, v900] : Fin 2 → IVec S16 32) a x).toNat < S64x256.size a := fun v83 v900 k1_hw297 => k1_hw297

def k1_chk298 (v84 : IVec S16 32) (v907 : IVec S16 32) : Prop :=
  (∀ a x, ((![v84, v907] : Fin 2 → IVec S16 32) a x).toNat < S64x256.size a)
theorem k1_idx298_inb : ∀ (v84 : IVec S16 32) (v907 : IVec S16 32) (k1_hw298 : k1_chk298 v84 v907), ∀ a x, ((![v84, v907] : Fin 2 → IVec S16 32) a x).toNat < S64x256.size a := fun v84 v907 k1_hw298 => k1_hw298

def k1_chk299 (v85 : IVec S16 32) (v914 : IVec S16 32) : Prop :=
  (∀ a x, ((![v85, v914] : Fin 2 → IVec S16 32) a x).toNat < S64x256.size a)
theorem k1_idx299_inb : ∀ (v85 : IVec S16 32) (v914 : IVec S16 32) (k1_hw299 : k1_chk299 v85 v914), ∀ a x, ((![v85, v914] : Fin 2 → IVec S16 32) a x).toNat < S64x256.size a := fun v85 v914 k1_hw299 => k1_hw299

def k1_chk300 (v86 : IVec S16 32) (v921 : IVec S16 32) : Prop :=
  (∀ a x, ((![v86, v921] : Fin 2 → IVec S16 32) a x).toNat < S64x256.size a)
theorem k1_idx300_inb : ∀ (v86 : IVec S16 32) (v921 : IVec S16 32) (k1_hw300 : k1_chk300 v86 v921), ∀ a x, ((![v86, v921] : Fin 2 → IVec S16 32) a x).toNat < S64x256.size a := fun v86 v921 k1_hw300 => k1_hw300

def k1_chk301 (v87 : IVec S16 32) (v928 : IVec S16 32) : Prop :=
  (∀ a x, ((![v87, v928] : Fin 2 → IVec S16 32) a x).toNat < S64x256.size a)
theorem k1_idx301_inb : ∀ (v87 : IVec S16 32) (v928 : IVec S16 32) (k1_hw301 : k1_chk301 v87 v928), ∀ a x, ((![v87, v928] : Fin 2 → IVec S16 32) a x).toNat < S64x256.size a := fun v87 v928 k1_hw301 => k1_hw301

def k1_chk302 (v88 : IVec S16 32) (v935 : IVec S16 32) : Prop :=
  (∀ a x, ((![v88, v935] : Fin 2 → IVec S16 32) a x).toNat < S64x256.size a)
theorem k1_idx302_inb : ∀ (v88 : IVec S16 32) (v935 : IVec S16 32) (k1_hw302 : k1_chk302 v88 v935), ∀ a x, ((![v88, v935] : Fin 2 → IVec S16 32) a x).toNat < S64x256.size a := fun v88 v935 k1_hw302 => k1_hw302

def k1_chk303 (v89 : IVec S16 32) (v942 : IVec S16 32) : Prop :=
  (∀ a x, ((![v89, v942] : Fin 2 → IVec S16 32) a x).toNat < S64x256.size a)
theorem k1_idx303_inb : ∀ (v89 : IVec S16 32) (v942 : IVec S16 32) (k1_hw303 : k1_chk303 v89 v942), ∀ a x, ((![v89, v942] : Fin 2 → IVec S16 32) a x).toNat < S64x256.size a := fun v89 v942 k1_hw303 => k1_hw303

def k1_chk304 (v90 : IVec S16 32) (v949 : IVec S16 32) : Prop :=
  (∀ a x, ((![v90, v949] : Fin 2 → IVec S16 32) a x).toNat < S64x256.size a)
theorem k1_idx304_inb : ∀ (v90 : IVec S16 32) (v949 : IVec S16 32) (k1_hw304 : k1_chk304 v90 v949), ∀ a x, ((![v90, v949] : Fin 2 → IVec S16 32) a x).toNat < S64x256.size a := fun v90 v949 k1_hw304 => k1_hw304
def k1_off89 (k1_t6 : Fin k1_t6_loop.trips) (c0_i32_88 : BitVec 32) : Fin 2 → Nat :=
  let c0_i32_57 : BitVec 32 := 0#32
  let c1_i32_59 : BitVec 32 := 1#32
  let arg12 : BitVec 32 := Scf.iv c0_i32_57 c1_i32_59 k1_t6
  let c8_i32_87 : BitVec 32 := 8#32
  let v67 : BitVec 32 := Scalar.muli arg12 c8_i32_87
  let v68 : BitVec 32 := Scalar.addi v67 c0_i32_88
  let v955 : Index := Scalar.indexCast v68
  let c184 : Index := 184#32
  ![v955.toNat, 184]

def k1_chk305 (v83 : IVec S16 32) (v972 : IVec S16 32) : Prop :=
  (∀ a x, ((![v83, v972] : Fin 2 → IVec S16 32) a x).toNat < S64x256.size a)
theorem k1_idx305_inb : ∀ (v83 : IVec S16 32) (v972 : IVec S16 32) (k1_hw305 : k1_chk305 v83 v972), ∀ a x, ((![v83, v972] : Fin 2 → IVec S16 32) a x).toNat < S64x256.size a := fun v83 v972 k1_hw305 => k1_hw305

def k1_chk306 (v84 : IVec S16 32) (v979 : IVec S16 32) : Prop :=
  (∀ a x, ((![v84, v979] : Fin 2 → IVec S16 32) a x).toNat < S64x256.size a)
theorem k1_idx306_inb : ∀ (v84 : IVec S16 32) (v979 : IVec S16 32) (k1_hw306 : k1_chk306 v84 v979), ∀ a x, ((![v84, v979] : Fin 2 → IVec S16 32) a x).toNat < S64x256.size a := fun v84 v979 k1_hw306 => k1_hw306

def k1_chk307 (v85 : IVec S16 32) (v986 : IVec S16 32) : Prop :=
  (∀ a x, ((![v85, v986] : Fin 2 → IVec S16 32) a x).toNat < S64x256.size a)
theorem k1_idx307_inb : ∀ (v85 : IVec S16 32) (v986 : IVec S16 32) (k1_hw307 : k1_chk307 v85 v986), ∀ a x, ((![v85, v986] : Fin 2 → IVec S16 32) a x).toNat < S64x256.size a := fun v85 v986 k1_hw307 => k1_hw307

def k1_chk308 (v86 : IVec S16 32) (v993 : IVec S16 32) : Prop :=
  (∀ a x, ((![v86, v993] : Fin 2 → IVec S16 32) a x).toNat < S64x256.size a)
theorem k1_idx308_inb : ∀ (v86 : IVec S16 32) (v993 : IVec S16 32) (k1_hw308 : k1_chk308 v86 v993), ∀ a x, ((![v86, v993] : Fin 2 → IVec S16 32) a x).toNat < S64x256.size a := fun v86 v993 k1_hw308 => k1_hw308

def k1_chk309 (v87 : IVec S16 32) (v1000 : IVec S16 32) : Prop :=
  (∀ a x, ((![v87, v1000] : Fin 2 → IVec S16 32) a x).toNat < S64x256.size a)
theorem k1_idx309_inb : ∀ (v87 : IVec S16 32) (v1000 : IVec S16 32) (k1_hw309 : k1_chk309 v87 v1000), ∀ a x, ((![v87, v1000] : Fin 2 → IVec S16 32) a x).toNat < S64x256.size a := fun v87 v1000 k1_hw309 => k1_hw309

def k1_chk310 (v88 : IVec S16 32) (v1007 : IVec S16 32) : Prop :=
  (∀ a x, ((![v88, v1007] : Fin 2 → IVec S16 32) a x).toNat < S64x256.size a)
theorem k1_idx310_inb : ∀ (v88 : IVec S16 32) (v1007 : IVec S16 32) (k1_hw310 : k1_chk310 v88 v1007), ∀ a x, ((![v88, v1007] : Fin 2 → IVec S16 32) a x).toNat < S64x256.size a := fun v88 v1007 k1_hw310 => k1_hw310

def k1_chk311 (v89 : IVec S16 32) (v1014 : IVec S16 32) : Prop :=
  (∀ a x, ((![v89, v1014] : Fin 2 → IVec S16 32) a x).toNat < S64x256.size a)
theorem k1_idx311_inb : ∀ (v89 : IVec S16 32) (v1014 : IVec S16 32) (k1_hw311 : k1_chk311 v89 v1014), ∀ a x, ((![v89, v1014] : Fin 2 → IVec S16 32) a x).toNat < S64x256.size a := fun v89 v1014 k1_hw311 => k1_hw311

def k1_chk312 (v90 : IVec S16 32) (v1021 : IVec S16 32) : Prop :=
  (∀ a x, ((![v90, v1021] : Fin 2 → IVec S16 32) a x).toNat < S64x256.size a)
theorem k1_idx312_inb : ∀ (v90 : IVec S16 32) (v1021 : IVec S16 32) (k1_hw312 : k1_chk312 v90 v1021), ∀ a x, ((![v90, v1021] : Fin 2 → IVec S16 32) a x).toNat < S64x256.size a := fun v90 v1021 k1_hw312 => k1_hw312
@[reducible] def k1_t7_loop : Scf.Loop 32 :=
  let c0_i32_70 : BitVec 32 := 0#32
  let c64_i32_71 : BitVec 32 := 64#32
  let v57 : BitVec 32 := Scalar.addi c0_i32_70 c64_i32_71
  let c1_i32_72 : BitVec 32 := 1#32
  ⟨c0_i32_70, v57, c1_i32_72⟩
def k1_off90 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v67 : Index := Scalar.indexCast arg12
  let c0 : Index := 0#32
  ![v67.toNat, 0]
def k1_off91 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v69 : Index := Scalar.indexCast arg12
  let c16 : Index := 16#32
  ![v69.toNat, 16]
def k1_off92 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v71 : Index := Scalar.indexCast arg12
  let c32 : Index := 32#32
  ![v71.toNat, 32]
def k1_off93 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v73 : Index := Scalar.indexCast arg12
  let c48 : Index := 48#32
  ![v73.toNat, 48]
def k1_off94 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v75 : Index := Scalar.indexCast arg12
  let c64 : Index := 64#32
  ![v75.toNat, 64]
def k1_off95 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v77 : Index := Scalar.indexCast arg12
  let c80 : Index := 80#32
  ![v77.toNat, 80]
def k1_off96 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v79 : Index := Scalar.indexCast arg12
  let c96 : Index := 96#32
  ![v79.toNat, 96]
def k1_off97 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v81 : Index := Scalar.indexCast arg12
  let c112 : Index := 112#32
  ![v81.toNat, 112]
def k1_off98 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v83 : Index := Scalar.indexCast arg12
  let c128 : Index := 128#32
  ![v83.toNat, 128]
def k1_off99 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v85 : Index := Scalar.indexCast arg12
  let c144 : Index := 144#32
  ![v85.toNat, 144]
def k1_off100 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v87 : Index := Scalar.indexCast arg12
  let c160 : Index := 160#32
  ![v87.toNat, 160]
def k1_off101 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v89 : Index := Scalar.indexCast arg12
  let c176 : Index := 176#32
  ![v89.toNat, 176]
def k1_off102 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v91 : Index := Scalar.indexCast arg12
  let c192 : Index := 192#32
  ![v91.toNat, 192]
def k1_off103 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v93 : Index := Scalar.indexCast arg12
  let c208 : Index := 208#32
  ![v93.toNat, 208]
def k1_off104 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v95 : Index := Scalar.indexCast arg12
  let c224 : Index := 224#32
  ![v95.toNat, 224]
def k1_off105 (k1_t7 : Fin k1_t7_loop.trips) : Fin 2 → Nat :=
  let c0_i32_70 : BitVec 32 := 0#32
  let c1_i32_72 : BitVec 32 := 1#32
  let arg12 : BitVec 32 := Scf.iv c0_i32_70 c1_i32_72 k1_t7
  let v97 : Index := Scalar.indexCast arg12
  let c240 : Index := 240#32
  ![v97.toNat, 240]
@[reducible] def k1_t8_loop : Scf.Loop 32 :=
  let c0_i32_75 : BitVec 32 := 0#32
  let c8_i32_76 : BitVec 32 := 8#32
  let v58 : BitVec 32 := Scalar.addi c0_i32_75 c8_i32_76
  let c1_i32_77 : BitVec 32 := 1#32
  ⟨c0_i32_75, v58, c1_i32_77⟩
def k1_off106 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v91 : Index := Scalar.indexCast v68
  let c0 : Index := 0#32
  ![v91.toNat, 0]

def k1_chk313 (v83 : IVec S16 32) (v108 : IVec S16 32) : Prop :=
  (∀ a x, ((![v83, v108] : Fin 2 → IVec S16 32) a x).toNat < S64x256.size a)
theorem k1_idx313_inb : ∀ (v83 : IVec S16 32) (v108 : IVec S16 32) (k1_hw313 : k1_chk313 v83 v108), ∀ a x, ((![v83, v108] : Fin 2 → IVec S16 32) a x).toNat < S64x256.size a := fun v83 v108 k1_hw313 => k1_hw313

def k1_chk314 (v84 : IVec S16 32) (v115 : IVec S16 32) : Prop :=
  (∀ a x, ((![v84, v115] : Fin 2 → IVec S16 32) a x).toNat < S64x256.size a)
theorem k1_idx314_inb : ∀ (v84 : IVec S16 32) (v115 : IVec S16 32) (k1_hw314 : k1_chk314 v84 v115), ∀ a x, ((![v84, v115] : Fin 2 → IVec S16 32) a x).toNat < S64x256.size a := fun v84 v115 k1_hw314 => k1_hw314

def k1_chk315 (v85 : IVec S16 32) (v122 : IVec S16 32) : Prop :=
  (∀ a x, ((![v85, v122] : Fin 2 → IVec S16 32) a x).toNat < S64x256.size a)
theorem k1_idx315_inb : ∀ (v85 : IVec S16 32) (v122 : IVec S16 32) (k1_hw315 : k1_chk315 v85 v122), ∀ a x, ((![v85, v122] : Fin 2 → IVec S16 32) a x).toNat < S64x256.size a := fun v85 v122 k1_hw315 => k1_hw315

def k1_chk316 (v86 : IVec S16 32) (v129 : IVec S16 32) : Prop :=
  (∀ a x, ((![v86, v129] : Fin 2 → IVec S16 32) a x).toNat < S64x256.size a)
theorem k1_idx316_inb : ∀ (v86 : IVec S16 32) (v129 : IVec S16 32) (k1_hw316 : k1_chk316 v86 v129), ∀ a x, ((![v86, v129] : Fin 2 → IVec S16 32) a x).toNat < S64x256.size a := fun v86 v129 k1_hw316 => k1_hw316

def k1_chk317 (v87 : IVec S16 32) (v136 : IVec S16 32) : Prop :=
  (∀ a x, ((![v87, v136] : Fin 2 → IVec S16 32) a x).toNat < S64x256.size a)
theorem k1_idx317_inb : ∀ (v87 : IVec S16 32) (v136 : IVec S16 32) (k1_hw317 : k1_chk317 v87 v136), ∀ a x, ((![v87, v136] : Fin 2 → IVec S16 32) a x).toNat < S64x256.size a := fun v87 v136 k1_hw317 => k1_hw317

def k1_chk318 (v88 : IVec S16 32) (v143 : IVec S16 32) : Prop :=
  (∀ a x, ((![v88, v143] : Fin 2 → IVec S16 32) a x).toNat < S64x256.size a)
theorem k1_idx318_inb : ∀ (v88 : IVec S16 32) (v143 : IVec S16 32) (k1_hw318 : k1_chk318 v88 v143), ∀ a x, ((![v88, v143] : Fin 2 → IVec S16 32) a x).toNat < S64x256.size a := fun v88 v143 k1_hw318 => k1_hw318

def k1_chk319 (v89 : IVec S16 32) (v150 : IVec S16 32) : Prop :=
  (∀ a x, ((![v89, v150] : Fin 2 → IVec S16 32) a x).toNat < S64x256.size a)
theorem k1_idx319_inb : ∀ (v89 : IVec S16 32) (v150 : IVec S16 32) (k1_hw319 : k1_chk319 v89 v150), ∀ a x, ((![v89, v150] : Fin 2 → IVec S16 32) a x).toNat < S64x256.size a := fun v89 v150 k1_hw319 => k1_hw319

def k1_chk320 (v90 : IVec S16 32) (v157 : IVec S16 32) : Prop :=
  (∀ a x, ((![v90, v157] : Fin 2 → IVec S16 32) a x).toNat < S64x256.size a)
theorem k1_idx320_inb : ∀ (v90 : IVec S16 32) (v157 : IVec S16 32) (k1_hw320 : k1_chk320 v90 v157), ∀ a x, ((![v90, v157] : Fin 2 → IVec S16 32) a x).toNat < S64x256.size a := fun v90 v157 k1_hw320 => k1_hw320
def k1_off107 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v163 : Index := Scalar.indexCast v68
  let c16 : Index := 16#32
  ![v163.toNat, 16]

def k1_chk321 (v83 : IVec S16 32) (v180 : IVec S16 32) : Prop :=
  (∀ a x, ((![v83, v180] : Fin 2 → IVec S16 32) a x).toNat < S64x256.size a)
theorem k1_idx321_inb : ∀ (v83 : IVec S16 32) (v180 : IVec S16 32) (k1_hw321 : k1_chk321 v83 v180), ∀ a x, ((![v83, v180] : Fin 2 → IVec S16 32) a x).toNat < S64x256.size a := fun v83 v180 k1_hw321 => k1_hw321

def k1_chk322 (v84 : IVec S16 32) (v187 : IVec S16 32) : Prop :=
  (∀ a x, ((![v84, v187] : Fin 2 → IVec S16 32) a x).toNat < S64x256.size a)
theorem k1_idx322_inb : ∀ (v84 : IVec S16 32) (v187 : IVec S16 32) (k1_hw322 : k1_chk322 v84 v187), ∀ a x, ((![v84, v187] : Fin 2 → IVec S16 32) a x).toNat < S64x256.size a := fun v84 v187 k1_hw322 => k1_hw322

def k1_chk323 (v85 : IVec S16 32) (v194 : IVec S16 32) : Prop :=
  (∀ a x, ((![v85, v194] : Fin 2 → IVec S16 32) a x).toNat < S64x256.size a)
theorem k1_idx323_inb : ∀ (v85 : IVec S16 32) (v194 : IVec S16 32) (k1_hw323 : k1_chk323 v85 v194), ∀ a x, ((![v85, v194] : Fin 2 → IVec S16 32) a x).toNat < S64x256.size a := fun v85 v194 k1_hw323 => k1_hw323

def k1_chk324 (v86 : IVec S16 32) (v201 : IVec S16 32) : Prop :=
  (∀ a x, ((![v86, v201] : Fin 2 → IVec S16 32) a x).toNat < S64x256.size a)
theorem k1_idx324_inb : ∀ (v86 : IVec S16 32) (v201 : IVec S16 32) (k1_hw324 : k1_chk324 v86 v201), ∀ a x, ((![v86, v201] : Fin 2 → IVec S16 32) a x).toNat < S64x256.size a := fun v86 v201 k1_hw324 => k1_hw324

def k1_chk325 (v87 : IVec S16 32) (v208 : IVec S16 32) : Prop :=
  (∀ a x, ((![v87, v208] : Fin 2 → IVec S16 32) a x).toNat < S64x256.size a)
theorem k1_idx325_inb : ∀ (v87 : IVec S16 32) (v208 : IVec S16 32) (k1_hw325 : k1_chk325 v87 v208), ∀ a x, ((![v87, v208] : Fin 2 → IVec S16 32) a x).toNat < S64x256.size a := fun v87 v208 k1_hw325 => k1_hw325

def k1_chk326 (v88 : IVec S16 32) (v215 : IVec S16 32) : Prop :=
  (∀ a x, ((![v88, v215] : Fin 2 → IVec S16 32) a x).toNat < S64x256.size a)
theorem k1_idx326_inb : ∀ (v88 : IVec S16 32) (v215 : IVec S16 32) (k1_hw326 : k1_chk326 v88 v215), ∀ a x, ((![v88, v215] : Fin 2 → IVec S16 32) a x).toNat < S64x256.size a := fun v88 v215 k1_hw326 => k1_hw326

def k1_chk327 (v89 : IVec S16 32) (v222 : IVec S16 32) : Prop :=
  (∀ a x, ((![v89, v222] : Fin 2 → IVec S16 32) a x).toNat < S64x256.size a)
theorem k1_idx327_inb : ∀ (v89 : IVec S16 32) (v222 : IVec S16 32) (k1_hw327 : k1_chk327 v89 v222), ∀ a x, ((![v89, v222] : Fin 2 → IVec S16 32) a x).toNat < S64x256.size a := fun v89 v222 k1_hw327 => k1_hw327

def k1_chk328 (v90 : IVec S16 32) (v229 : IVec S16 32) : Prop :=
  (∀ a x, ((![v90, v229] : Fin 2 → IVec S16 32) a x).toNat < S64x256.size a)
theorem k1_idx328_inb : ∀ (v90 : IVec S16 32) (v229 : IVec S16 32) (k1_hw328 : k1_chk328 v90 v229), ∀ a x, ((![v90, v229] : Fin 2 → IVec S16 32) a x).toNat < S64x256.size a := fun v90 v229 k1_hw328 => k1_hw328
def k1_off108 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v235 : Index := Scalar.indexCast v68
  let c32 : Index := 32#32
  ![v235.toNat, 32]

def k1_chk329 (v83 : IVec S16 32) (v252 : IVec S16 32) : Prop :=
  (∀ a x, ((![v83, v252] : Fin 2 → IVec S16 32) a x).toNat < S64x256.size a)
theorem k1_idx329_inb : ∀ (v83 : IVec S16 32) (v252 : IVec S16 32) (k1_hw329 : k1_chk329 v83 v252), ∀ a x, ((![v83, v252] : Fin 2 → IVec S16 32) a x).toNat < S64x256.size a := fun v83 v252 k1_hw329 => k1_hw329

def k1_chk330 (v84 : IVec S16 32) (v259 : IVec S16 32) : Prop :=
  (∀ a x, ((![v84, v259] : Fin 2 → IVec S16 32) a x).toNat < S64x256.size a)
theorem k1_idx330_inb : ∀ (v84 : IVec S16 32) (v259 : IVec S16 32) (k1_hw330 : k1_chk330 v84 v259), ∀ a x, ((![v84, v259] : Fin 2 → IVec S16 32) a x).toNat < S64x256.size a := fun v84 v259 k1_hw330 => k1_hw330

def k1_chk331 (v85 : IVec S16 32) (v266 : IVec S16 32) : Prop :=
  (∀ a x, ((![v85, v266] : Fin 2 → IVec S16 32) a x).toNat < S64x256.size a)
theorem k1_idx331_inb : ∀ (v85 : IVec S16 32) (v266 : IVec S16 32) (k1_hw331 : k1_chk331 v85 v266), ∀ a x, ((![v85, v266] : Fin 2 → IVec S16 32) a x).toNat < S64x256.size a := fun v85 v266 k1_hw331 => k1_hw331

def k1_chk332 (v86 : IVec S16 32) (v273 : IVec S16 32) : Prop :=
  (∀ a x, ((![v86, v273] : Fin 2 → IVec S16 32) a x).toNat < S64x256.size a)
theorem k1_idx332_inb : ∀ (v86 : IVec S16 32) (v273 : IVec S16 32) (k1_hw332 : k1_chk332 v86 v273), ∀ a x, ((![v86, v273] : Fin 2 → IVec S16 32) a x).toNat < S64x256.size a := fun v86 v273 k1_hw332 => k1_hw332

def k1_chk333 (v87 : IVec S16 32) (v280 : IVec S16 32) : Prop :=
  (∀ a x, ((![v87, v280] : Fin 2 → IVec S16 32) a x).toNat < S64x256.size a)
theorem k1_idx333_inb : ∀ (v87 : IVec S16 32) (v280 : IVec S16 32) (k1_hw333 : k1_chk333 v87 v280), ∀ a x, ((![v87, v280] : Fin 2 → IVec S16 32) a x).toNat < S64x256.size a := fun v87 v280 k1_hw333 => k1_hw333

def k1_chk334 (v88 : IVec S16 32) (v287 : IVec S16 32) : Prop :=
  (∀ a x, ((![v88, v287] : Fin 2 → IVec S16 32) a x).toNat < S64x256.size a)
theorem k1_idx334_inb : ∀ (v88 : IVec S16 32) (v287 : IVec S16 32) (k1_hw334 : k1_chk334 v88 v287), ∀ a x, ((![v88, v287] : Fin 2 → IVec S16 32) a x).toNat < S64x256.size a := fun v88 v287 k1_hw334 => k1_hw334

def k1_chk335 (v89 : IVec S16 32) (v294 : IVec S16 32) : Prop :=
  (∀ a x, ((![v89, v294] : Fin 2 → IVec S16 32) a x).toNat < S64x256.size a)
theorem k1_idx335_inb : ∀ (v89 : IVec S16 32) (v294 : IVec S16 32) (k1_hw335 : k1_chk335 v89 v294), ∀ a x, ((![v89, v294] : Fin 2 → IVec S16 32) a x).toNat < S64x256.size a := fun v89 v294 k1_hw335 => k1_hw335

def k1_chk336 (v90 : IVec S16 32) (v301 : IVec S16 32) : Prop :=
  (∀ a x, ((![v90, v301] : Fin 2 → IVec S16 32) a x).toNat < S64x256.size a)
theorem k1_idx336_inb : ∀ (v90 : IVec S16 32) (v301 : IVec S16 32) (k1_hw336 : k1_chk336 v90 v301), ∀ a x, ((![v90, v301] : Fin 2 → IVec S16 32) a x).toNat < S64x256.size a := fun v90 v301 k1_hw336 => k1_hw336
def k1_off109 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v307 : Index := Scalar.indexCast v68
  let c48 : Index := 48#32
  ![v307.toNat, 48]

def k1_chk337 (v83 : IVec S16 32) (v324 : IVec S16 32) : Prop :=
  (∀ a x, ((![v83, v324] : Fin 2 → IVec S16 32) a x).toNat < S64x256.size a)
theorem k1_idx337_inb : ∀ (v83 : IVec S16 32) (v324 : IVec S16 32) (k1_hw337 : k1_chk337 v83 v324), ∀ a x, ((![v83, v324] : Fin 2 → IVec S16 32) a x).toNat < S64x256.size a := fun v83 v324 k1_hw337 => k1_hw337

def k1_chk338 (v84 : IVec S16 32) (v331 : IVec S16 32) : Prop :=
  (∀ a x, ((![v84, v331] : Fin 2 → IVec S16 32) a x).toNat < S64x256.size a)
theorem k1_idx338_inb : ∀ (v84 : IVec S16 32) (v331 : IVec S16 32) (k1_hw338 : k1_chk338 v84 v331), ∀ a x, ((![v84, v331] : Fin 2 → IVec S16 32) a x).toNat < S64x256.size a := fun v84 v331 k1_hw338 => k1_hw338

def k1_chk339 (v85 : IVec S16 32) (v338 : IVec S16 32) : Prop :=
  (∀ a x, ((![v85, v338] : Fin 2 → IVec S16 32) a x).toNat < S64x256.size a)
theorem k1_idx339_inb : ∀ (v85 : IVec S16 32) (v338 : IVec S16 32) (k1_hw339 : k1_chk339 v85 v338), ∀ a x, ((![v85, v338] : Fin 2 → IVec S16 32) a x).toNat < S64x256.size a := fun v85 v338 k1_hw339 => k1_hw339

def k1_chk340 (v86 : IVec S16 32) (v345 : IVec S16 32) : Prop :=
  (∀ a x, ((![v86, v345] : Fin 2 → IVec S16 32) a x).toNat < S64x256.size a)
theorem k1_idx340_inb : ∀ (v86 : IVec S16 32) (v345 : IVec S16 32) (k1_hw340 : k1_chk340 v86 v345), ∀ a x, ((![v86, v345] : Fin 2 → IVec S16 32) a x).toNat < S64x256.size a := fun v86 v345 k1_hw340 => k1_hw340

def k1_chk341 (v87 : IVec S16 32) (v352 : IVec S16 32) : Prop :=
  (∀ a x, ((![v87, v352] : Fin 2 → IVec S16 32) a x).toNat < S64x256.size a)
theorem k1_idx341_inb : ∀ (v87 : IVec S16 32) (v352 : IVec S16 32) (k1_hw341 : k1_chk341 v87 v352), ∀ a x, ((![v87, v352] : Fin 2 → IVec S16 32) a x).toNat < S64x256.size a := fun v87 v352 k1_hw341 => k1_hw341

def k1_chk342 (v88 : IVec S16 32) (v359 : IVec S16 32) : Prop :=
  (∀ a x, ((![v88, v359] : Fin 2 → IVec S16 32) a x).toNat < S64x256.size a)
theorem k1_idx342_inb : ∀ (v88 : IVec S16 32) (v359 : IVec S16 32) (k1_hw342 : k1_chk342 v88 v359), ∀ a x, ((![v88, v359] : Fin 2 → IVec S16 32) a x).toNat < S64x256.size a := fun v88 v359 k1_hw342 => k1_hw342

def k1_chk343 (v89 : IVec S16 32) (v366 : IVec S16 32) : Prop :=
  (∀ a x, ((![v89, v366] : Fin 2 → IVec S16 32) a x).toNat < S64x256.size a)
theorem k1_idx343_inb : ∀ (v89 : IVec S16 32) (v366 : IVec S16 32) (k1_hw343 : k1_chk343 v89 v366), ∀ a x, ((![v89, v366] : Fin 2 → IVec S16 32) a x).toNat < S64x256.size a := fun v89 v366 k1_hw343 => k1_hw343

def k1_chk344 (v90 : IVec S16 32) (v373 : IVec S16 32) : Prop :=
  (∀ a x, ((![v90, v373] : Fin 2 → IVec S16 32) a x).toNat < S64x256.size a)
theorem k1_idx344_inb : ∀ (v90 : IVec S16 32) (v373 : IVec S16 32) (k1_hw344 : k1_chk344 v90 v373), ∀ a x, ((![v90, v373] : Fin 2 → IVec S16 32) a x).toNat < S64x256.size a := fun v90 v373 k1_hw344 => k1_hw344
def k1_off110 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v379 : Index := Scalar.indexCast v68
  let c64 : Index := 64#32
  ![v379.toNat, 64]

def k1_chk345 (v83 : IVec S16 32) (v396 : IVec S16 32) : Prop :=
  (∀ a x, ((![v83, v396] : Fin 2 → IVec S16 32) a x).toNat < S64x256.size a)
theorem k1_idx345_inb : ∀ (v83 : IVec S16 32) (v396 : IVec S16 32) (k1_hw345 : k1_chk345 v83 v396), ∀ a x, ((![v83, v396] : Fin 2 → IVec S16 32) a x).toNat < S64x256.size a := fun v83 v396 k1_hw345 => k1_hw345

def k1_chk346 (v84 : IVec S16 32) (v403 : IVec S16 32) : Prop :=
  (∀ a x, ((![v84, v403] : Fin 2 → IVec S16 32) a x).toNat < S64x256.size a)
theorem k1_idx346_inb : ∀ (v84 : IVec S16 32) (v403 : IVec S16 32) (k1_hw346 : k1_chk346 v84 v403), ∀ a x, ((![v84, v403] : Fin 2 → IVec S16 32) a x).toNat < S64x256.size a := fun v84 v403 k1_hw346 => k1_hw346

def k1_chk347 (v85 : IVec S16 32) (v410 : IVec S16 32) : Prop :=
  (∀ a x, ((![v85, v410] : Fin 2 → IVec S16 32) a x).toNat < S64x256.size a)
theorem k1_idx347_inb : ∀ (v85 : IVec S16 32) (v410 : IVec S16 32) (k1_hw347 : k1_chk347 v85 v410), ∀ a x, ((![v85, v410] : Fin 2 → IVec S16 32) a x).toNat < S64x256.size a := fun v85 v410 k1_hw347 => k1_hw347

def k1_chk348 (v86 : IVec S16 32) (v417 : IVec S16 32) : Prop :=
  (∀ a x, ((![v86, v417] : Fin 2 → IVec S16 32) a x).toNat < S64x256.size a)
theorem k1_idx348_inb : ∀ (v86 : IVec S16 32) (v417 : IVec S16 32) (k1_hw348 : k1_chk348 v86 v417), ∀ a x, ((![v86, v417] : Fin 2 → IVec S16 32) a x).toNat < S64x256.size a := fun v86 v417 k1_hw348 => k1_hw348

def k1_chk349 (v87 : IVec S16 32) (v424 : IVec S16 32) : Prop :=
  (∀ a x, ((![v87, v424] : Fin 2 → IVec S16 32) a x).toNat < S64x256.size a)
theorem k1_idx349_inb : ∀ (v87 : IVec S16 32) (v424 : IVec S16 32) (k1_hw349 : k1_chk349 v87 v424), ∀ a x, ((![v87, v424] : Fin 2 → IVec S16 32) a x).toNat < S64x256.size a := fun v87 v424 k1_hw349 => k1_hw349

def k1_chk350 (v88 : IVec S16 32) (v431 : IVec S16 32) : Prop :=
  (∀ a x, ((![v88, v431] : Fin 2 → IVec S16 32) a x).toNat < S64x256.size a)
theorem k1_idx350_inb : ∀ (v88 : IVec S16 32) (v431 : IVec S16 32) (k1_hw350 : k1_chk350 v88 v431), ∀ a x, ((![v88, v431] : Fin 2 → IVec S16 32) a x).toNat < S64x256.size a := fun v88 v431 k1_hw350 => k1_hw350

def k1_chk351 (v89 : IVec S16 32) (v438 : IVec S16 32) : Prop :=
  (∀ a x, ((![v89, v438] : Fin 2 → IVec S16 32) a x).toNat < S64x256.size a)
theorem k1_idx351_inb : ∀ (v89 : IVec S16 32) (v438 : IVec S16 32) (k1_hw351 : k1_chk351 v89 v438), ∀ a x, ((![v89, v438] : Fin 2 → IVec S16 32) a x).toNat < S64x256.size a := fun v89 v438 k1_hw351 => k1_hw351

def k1_chk352 (v90 : IVec S16 32) (v445 : IVec S16 32) : Prop :=
  (∀ a x, ((![v90, v445] : Fin 2 → IVec S16 32) a x).toNat < S64x256.size a)
theorem k1_idx352_inb : ∀ (v90 : IVec S16 32) (v445 : IVec S16 32) (k1_hw352 : k1_chk352 v90 v445), ∀ a x, ((![v90, v445] : Fin 2 → IVec S16 32) a x).toNat < S64x256.size a := fun v90 v445 k1_hw352 => k1_hw352
def k1_off111 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v451 : Index := Scalar.indexCast v68
  let c80 : Index := 80#32
  ![v451.toNat, 80]

def k1_chk353 (v83 : IVec S16 32) (v468 : IVec S16 32) : Prop :=
  (∀ a x, ((![v83, v468] : Fin 2 → IVec S16 32) a x).toNat < S64x256.size a)
theorem k1_idx353_inb : ∀ (v83 : IVec S16 32) (v468 : IVec S16 32) (k1_hw353 : k1_chk353 v83 v468), ∀ a x, ((![v83, v468] : Fin 2 → IVec S16 32) a x).toNat < S64x256.size a := fun v83 v468 k1_hw353 => k1_hw353

def k1_chk354 (v84 : IVec S16 32) (v475 : IVec S16 32) : Prop :=
  (∀ a x, ((![v84, v475] : Fin 2 → IVec S16 32) a x).toNat < S64x256.size a)
theorem k1_idx354_inb : ∀ (v84 : IVec S16 32) (v475 : IVec S16 32) (k1_hw354 : k1_chk354 v84 v475), ∀ a x, ((![v84, v475] : Fin 2 → IVec S16 32) a x).toNat < S64x256.size a := fun v84 v475 k1_hw354 => k1_hw354

def k1_chk355 (v85 : IVec S16 32) (v482 : IVec S16 32) : Prop :=
  (∀ a x, ((![v85, v482] : Fin 2 → IVec S16 32) a x).toNat < S64x256.size a)
theorem k1_idx355_inb : ∀ (v85 : IVec S16 32) (v482 : IVec S16 32) (k1_hw355 : k1_chk355 v85 v482), ∀ a x, ((![v85, v482] : Fin 2 → IVec S16 32) a x).toNat < S64x256.size a := fun v85 v482 k1_hw355 => k1_hw355

def k1_chk356 (v86 : IVec S16 32) (v489 : IVec S16 32) : Prop :=
  (∀ a x, ((![v86, v489] : Fin 2 → IVec S16 32) a x).toNat < S64x256.size a)
theorem k1_idx356_inb : ∀ (v86 : IVec S16 32) (v489 : IVec S16 32) (k1_hw356 : k1_chk356 v86 v489), ∀ a x, ((![v86, v489] : Fin 2 → IVec S16 32) a x).toNat < S64x256.size a := fun v86 v489 k1_hw356 => k1_hw356

def k1_chk357 (v87 : IVec S16 32) (v496 : IVec S16 32) : Prop :=
  (∀ a x, ((![v87, v496] : Fin 2 → IVec S16 32) a x).toNat < S64x256.size a)
theorem k1_idx357_inb : ∀ (v87 : IVec S16 32) (v496 : IVec S16 32) (k1_hw357 : k1_chk357 v87 v496), ∀ a x, ((![v87, v496] : Fin 2 → IVec S16 32) a x).toNat < S64x256.size a := fun v87 v496 k1_hw357 => k1_hw357

def k1_chk358 (v88 : IVec S16 32) (v503 : IVec S16 32) : Prop :=
  (∀ a x, ((![v88, v503] : Fin 2 → IVec S16 32) a x).toNat < S64x256.size a)
theorem k1_idx358_inb : ∀ (v88 : IVec S16 32) (v503 : IVec S16 32) (k1_hw358 : k1_chk358 v88 v503), ∀ a x, ((![v88, v503] : Fin 2 → IVec S16 32) a x).toNat < S64x256.size a := fun v88 v503 k1_hw358 => k1_hw358

def k1_chk359 (v89 : IVec S16 32) (v510 : IVec S16 32) : Prop :=
  (∀ a x, ((![v89, v510] : Fin 2 → IVec S16 32) a x).toNat < S64x256.size a)
theorem k1_idx359_inb : ∀ (v89 : IVec S16 32) (v510 : IVec S16 32) (k1_hw359 : k1_chk359 v89 v510), ∀ a x, ((![v89, v510] : Fin 2 → IVec S16 32) a x).toNat < S64x256.size a := fun v89 v510 k1_hw359 => k1_hw359

def k1_chk360 (v90 : IVec S16 32) (v517 : IVec S16 32) : Prop :=
  (∀ a x, ((![v90, v517] : Fin 2 → IVec S16 32) a x).toNat < S64x256.size a)
theorem k1_idx360_inb : ∀ (v90 : IVec S16 32) (v517 : IVec S16 32) (k1_hw360 : k1_chk360 v90 v517), ∀ a x, ((![v90, v517] : Fin 2 → IVec S16 32) a x).toNat < S64x256.size a := fun v90 v517 k1_hw360 => k1_hw360
def k1_off112 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v523 : Index := Scalar.indexCast v68
  let c96 : Index := 96#32
  ![v523.toNat, 96]

def k1_chk361 (v83 : IVec S16 32) (v540 : IVec S16 32) : Prop :=
  (∀ a x, ((![v83, v540] : Fin 2 → IVec S16 32) a x).toNat < S64x256.size a)
theorem k1_idx361_inb : ∀ (v83 : IVec S16 32) (v540 : IVec S16 32) (k1_hw361 : k1_chk361 v83 v540), ∀ a x, ((![v83, v540] : Fin 2 → IVec S16 32) a x).toNat < S64x256.size a := fun v83 v540 k1_hw361 => k1_hw361

def k1_chk362 (v84 : IVec S16 32) (v547 : IVec S16 32) : Prop :=
  (∀ a x, ((![v84, v547] : Fin 2 → IVec S16 32) a x).toNat < S64x256.size a)
theorem k1_idx362_inb : ∀ (v84 : IVec S16 32) (v547 : IVec S16 32) (k1_hw362 : k1_chk362 v84 v547), ∀ a x, ((![v84, v547] : Fin 2 → IVec S16 32) a x).toNat < S64x256.size a := fun v84 v547 k1_hw362 => k1_hw362

def k1_chk363 (v85 : IVec S16 32) (v554 : IVec S16 32) : Prop :=
  (∀ a x, ((![v85, v554] : Fin 2 → IVec S16 32) a x).toNat < S64x256.size a)
theorem k1_idx363_inb : ∀ (v85 : IVec S16 32) (v554 : IVec S16 32) (k1_hw363 : k1_chk363 v85 v554), ∀ a x, ((![v85, v554] : Fin 2 → IVec S16 32) a x).toNat < S64x256.size a := fun v85 v554 k1_hw363 => k1_hw363

def k1_chk364 (v86 : IVec S16 32) (v561 : IVec S16 32) : Prop :=
  (∀ a x, ((![v86, v561] : Fin 2 → IVec S16 32) a x).toNat < S64x256.size a)
theorem k1_idx364_inb : ∀ (v86 : IVec S16 32) (v561 : IVec S16 32) (k1_hw364 : k1_chk364 v86 v561), ∀ a x, ((![v86, v561] : Fin 2 → IVec S16 32) a x).toNat < S64x256.size a := fun v86 v561 k1_hw364 => k1_hw364

def k1_chk365 (v87 : IVec S16 32) (v568 : IVec S16 32) : Prop :=
  (∀ a x, ((![v87, v568] : Fin 2 → IVec S16 32) a x).toNat < S64x256.size a)
theorem k1_idx365_inb : ∀ (v87 : IVec S16 32) (v568 : IVec S16 32) (k1_hw365 : k1_chk365 v87 v568), ∀ a x, ((![v87, v568] : Fin 2 → IVec S16 32) a x).toNat < S64x256.size a := fun v87 v568 k1_hw365 => k1_hw365

def k1_chk366 (v88 : IVec S16 32) (v575 : IVec S16 32) : Prop :=
  (∀ a x, ((![v88, v575] : Fin 2 → IVec S16 32) a x).toNat < S64x256.size a)
theorem k1_idx366_inb : ∀ (v88 : IVec S16 32) (v575 : IVec S16 32) (k1_hw366 : k1_chk366 v88 v575), ∀ a x, ((![v88, v575] : Fin 2 → IVec S16 32) a x).toNat < S64x256.size a := fun v88 v575 k1_hw366 => k1_hw366

def k1_chk367 (v89 : IVec S16 32) (v582 : IVec S16 32) : Prop :=
  (∀ a x, ((![v89, v582] : Fin 2 → IVec S16 32) a x).toNat < S64x256.size a)
theorem k1_idx367_inb : ∀ (v89 : IVec S16 32) (v582 : IVec S16 32) (k1_hw367 : k1_chk367 v89 v582), ∀ a x, ((![v89, v582] : Fin 2 → IVec S16 32) a x).toNat < S64x256.size a := fun v89 v582 k1_hw367 => k1_hw367

def k1_chk368 (v90 : IVec S16 32) (v589 : IVec S16 32) : Prop :=
  (∀ a x, ((![v90, v589] : Fin 2 → IVec S16 32) a x).toNat < S64x256.size a)
theorem k1_idx368_inb : ∀ (v90 : IVec S16 32) (v589 : IVec S16 32) (k1_hw368 : k1_chk368 v90 v589), ∀ a x, ((![v90, v589] : Fin 2 → IVec S16 32) a x).toNat < S64x256.size a := fun v90 v589 k1_hw368 => k1_hw368
def k1_off113 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v595 : Index := Scalar.indexCast v68
  let c112 : Index := 112#32
  ![v595.toNat, 112]

def k1_chk369 (v83 : IVec S16 32) (v612 : IVec S16 32) : Prop :=
  (∀ a x, ((![v83, v612] : Fin 2 → IVec S16 32) a x).toNat < S64x256.size a)
theorem k1_idx369_inb : ∀ (v83 : IVec S16 32) (v612 : IVec S16 32) (k1_hw369 : k1_chk369 v83 v612), ∀ a x, ((![v83, v612] : Fin 2 → IVec S16 32) a x).toNat < S64x256.size a := fun v83 v612 k1_hw369 => k1_hw369

def k1_chk370 (v84 : IVec S16 32) (v619 : IVec S16 32) : Prop :=
  (∀ a x, ((![v84, v619] : Fin 2 → IVec S16 32) a x).toNat < S64x256.size a)
theorem k1_idx370_inb : ∀ (v84 : IVec S16 32) (v619 : IVec S16 32) (k1_hw370 : k1_chk370 v84 v619), ∀ a x, ((![v84, v619] : Fin 2 → IVec S16 32) a x).toNat < S64x256.size a := fun v84 v619 k1_hw370 => k1_hw370

def k1_chk371 (v85 : IVec S16 32) (v626 : IVec S16 32) : Prop :=
  (∀ a x, ((![v85, v626] : Fin 2 → IVec S16 32) a x).toNat < S64x256.size a)
theorem k1_idx371_inb : ∀ (v85 : IVec S16 32) (v626 : IVec S16 32) (k1_hw371 : k1_chk371 v85 v626), ∀ a x, ((![v85, v626] : Fin 2 → IVec S16 32) a x).toNat < S64x256.size a := fun v85 v626 k1_hw371 => k1_hw371

def k1_chk372 (v86 : IVec S16 32) (v633 : IVec S16 32) : Prop :=
  (∀ a x, ((![v86, v633] : Fin 2 → IVec S16 32) a x).toNat < S64x256.size a)
theorem k1_idx372_inb : ∀ (v86 : IVec S16 32) (v633 : IVec S16 32) (k1_hw372 : k1_chk372 v86 v633), ∀ a x, ((![v86, v633] : Fin 2 → IVec S16 32) a x).toNat < S64x256.size a := fun v86 v633 k1_hw372 => k1_hw372

def k1_chk373 (v87 : IVec S16 32) (v640 : IVec S16 32) : Prop :=
  (∀ a x, ((![v87, v640] : Fin 2 → IVec S16 32) a x).toNat < S64x256.size a)
theorem k1_idx373_inb : ∀ (v87 : IVec S16 32) (v640 : IVec S16 32) (k1_hw373 : k1_chk373 v87 v640), ∀ a x, ((![v87, v640] : Fin 2 → IVec S16 32) a x).toNat < S64x256.size a := fun v87 v640 k1_hw373 => k1_hw373

def k1_chk374 (v88 : IVec S16 32) (v647 : IVec S16 32) : Prop :=
  (∀ a x, ((![v88, v647] : Fin 2 → IVec S16 32) a x).toNat < S64x256.size a)
theorem k1_idx374_inb : ∀ (v88 : IVec S16 32) (v647 : IVec S16 32) (k1_hw374 : k1_chk374 v88 v647), ∀ a x, ((![v88, v647] : Fin 2 → IVec S16 32) a x).toNat < S64x256.size a := fun v88 v647 k1_hw374 => k1_hw374

def k1_chk375 (v89 : IVec S16 32) (v654 : IVec S16 32) : Prop :=
  (∀ a x, ((![v89, v654] : Fin 2 → IVec S16 32) a x).toNat < S64x256.size a)
theorem k1_idx375_inb : ∀ (v89 : IVec S16 32) (v654 : IVec S16 32) (k1_hw375 : k1_chk375 v89 v654), ∀ a x, ((![v89, v654] : Fin 2 → IVec S16 32) a x).toNat < S64x256.size a := fun v89 v654 k1_hw375 => k1_hw375

def k1_chk376 (v90 : IVec S16 32) (v661 : IVec S16 32) : Prop :=
  (∀ a x, ((![v90, v661] : Fin 2 → IVec S16 32) a x).toNat < S64x256.size a)
theorem k1_idx376_inb : ∀ (v90 : IVec S16 32) (v661 : IVec S16 32) (k1_hw376 : k1_chk376 v90 v661), ∀ a x, ((![v90, v661] : Fin 2 → IVec S16 32) a x).toNat < S64x256.size a := fun v90 v661 k1_hw376 => k1_hw376
def k1_off114 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v667 : Index := Scalar.indexCast v68
  let c128 : Index := 128#32
  ![v667.toNat, 128]

def k1_chk377 (v83 : IVec S16 32) (v684 : IVec S16 32) : Prop :=
  (∀ a x, ((![v83, v684] : Fin 2 → IVec S16 32) a x).toNat < S64x256.size a)
theorem k1_idx377_inb : ∀ (v83 : IVec S16 32) (v684 : IVec S16 32) (k1_hw377 : k1_chk377 v83 v684), ∀ a x, ((![v83, v684] : Fin 2 → IVec S16 32) a x).toNat < S64x256.size a := fun v83 v684 k1_hw377 => k1_hw377

def k1_chk378 (v84 : IVec S16 32) (v691 : IVec S16 32) : Prop :=
  (∀ a x, ((![v84, v691] : Fin 2 → IVec S16 32) a x).toNat < S64x256.size a)
theorem k1_idx378_inb : ∀ (v84 : IVec S16 32) (v691 : IVec S16 32) (k1_hw378 : k1_chk378 v84 v691), ∀ a x, ((![v84, v691] : Fin 2 → IVec S16 32) a x).toNat < S64x256.size a := fun v84 v691 k1_hw378 => k1_hw378

def k1_chk379 (v85 : IVec S16 32) (v698 : IVec S16 32) : Prop :=
  (∀ a x, ((![v85, v698] : Fin 2 → IVec S16 32) a x).toNat < S64x256.size a)
theorem k1_idx379_inb : ∀ (v85 : IVec S16 32) (v698 : IVec S16 32) (k1_hw379 : k1_chk379 v85 v698), ∀ a x, ((![v85, v698] : Fin 2 → IVec S16 32) a x).toNat < S64x256.size a := fun v85 v698 k1_hw379 => k1_hw379

def k1_chk380 (v86 : IVec S16 32) (v705 : IVec S16 32) : Prop :=
  (∀ a x, ((![v86, v705] : Fin 2 → IVec S16 32) a x).toNat < S64x256.size a)
theorem k1_idx380_inb : ∀ (v86 : IVec S16 32) (v705 : IVec S16 32) (k1_hw380 : k1_chk380 v86 v705), ∀ a x, ((![v86, v705] : Fin 2 → IVec S16 32) a x).toNat < S64x256.size a := fun v86 v705 k1_hw380 => k1_hw380

def k1_chk381 (v87 : IVec S16 32) (v712 : IVec S16 32) : Prop :=
  (∀ a x, ((![v87, v712] : Fin 2 → IVec S16 32) a x).toNat < S64x256.size a)
theorem k1_idx381_inb : ∀ (v87 : IVec S16 32) (v712 : IVec S16 32) (k1_hw381 : k1_chk381 v87 v712), ∀ a x, ((![v87, v712] : Fin 2 → IVec S16 32) a x).toNat < S64x256.size a := fun v87 v712 k1_hw381 => k1_hw381

def k1_chk382 (v88 : IVec S16 32) (v719 : IVec S16 32) : Prop :=
  (∀ a x, ((![v88, v719] : Fin 2 → IVec S16 32) a x).toNat < S64x256.size a)
theorem k1_idx382_inb : ∀ (v88 : IVec S16 32) (v719 : IVec S16 32) (k1_hw382 : k1_chk382 v88 v719), ∀ a x, ((![v88, v719] : Fin 2 → IVec S16 32) a x).toNat < S64x256.size a := fun v88 v719 k1_hw382 => k1_hw382

def k1_chk383 (v89 : IVec S16 32) (v726 : IVec S16 32) : Prop :=
  (∀ a x, ((![v89, v726] : Fin 2 → IVec S16 32) a x).toNat < S64x256.size a)
theorem k1_idx383_inb : ∀ (v89 : IVec S16 32) (v726 : IVec S16 32) (k1_hw383 : k1_chk383 v89 v726), ∀ a x, ((![v89, v726] : Fin 2 → IVec S16 32) a x).toNat < S64x256.size a := fun v89 v726 k1_hw383 => k1_hw383

def k1_chk384 (v90 : IVec S16 32) (v733 : IVec S16 32) : Prop :=
  (∀ a x, ((![v90, v733] : Fin 2 → IVec S16 32) a x).toNat < S64x256.size a)
theorem k1_idx384_inb : ∀ (v90 : IVec S16 32) (v733 : IVec S16 32) (k1_hw384 : k1_chk384 v90 v733), ∀ a x, ((![v90, v733] : Fin 2 → IVec S16 32) a x).toNat < S64x256.size a := fun v90 v733 k1_hw384 => k1_hw384
def k1_off115 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v739 : Index := Scalar.indexCast v68
  let c144 : Index := 144#32
  ![v739.toNat, 144]

def k1_chk385 (v83 : IVec S16 32) (v756 : IVec S16 32) : Prop :=
  (∀ a x, ((![v83, v756] : Fin 2 → IVec S16 32) a x).toNat < S64x256.size a)
theorem k1_idx385_inb : ∀ (v83 : IVec S16 32) (v756 : IVec S16 32) (k1_hw385 : k1_chk385 v83 v756), ∀ a x, ((![v83, v756] : Fin 2 → IVec S16 32) a x).toNat < S64x256.size a := fun v83 v756 k1_hw385 => k1_hw385

def k1_chk386 (v84 : IVec S16 32) (v763 : IVec S16 32) : Prop :=
  (∀ a x, ((![v84, v763] : Fin 2 → IVec S16 32) a x).toNat < S64x256.size a)
theorem k1_idx386_inb : ∀ (v84 : IVec S16 32) (v763 : IVec S16 32) (k1_hw386 : k1_chk386 v84 v763), ∀ a x, ((![v84, v763] : Fin 2 → IVec S16 32) a x).toNat < S64x256.size a := fun v84 v763 k1_hw386 => k1_hw386

def k1_chk387 (v85 : IVec S16 32) (v770 : IVec S16 32) : Prop :=
  (∀ a x, ((![v85, v770] : Fin 2 → IVec S16 32) a x).toNat < S64x256.size a)
theorem k1_idx387_inb : ∀ (v85 : IVec S16 32) (v770 : IVec S16 32) (k1_hw387 : k1_chk387 v85 v770), ∀ a x, ((![v85, v770] : Fin 2 → IVec S16 32) a x).toNat < S64x256.size a := fun v85 v770 k1_hw387 => k1_hw387

def k1_chk388 (v86 : IVec S16 32) (v777 : IVec S16 32) : Prop :=
  (∀ a x, ((![v86, v777] : Fin 2 → IVec S16 32) a x).toNat < S64x256.size a)
theorem k1_idx388_inb : ∀ (v86 : IVec S16 32) (v777 : IVec S16 32) (k1_hw388 : k1_chk388 v86 v777), ∀ a x, ((![v86, v777] : Fin 2 → IVec S16 32) a x).toNat < S64x256.size a := fun v86 v777 k1_hw388 => k1_hw388

def k1_chk389 (v87 : IVec S16 32) (v784 : IVec S16 32) : Prop :=
  (∀ a x, ((![v87, v784] : Fin 2 → IVec S16 32) a x).toNat < S64x256.size a)
theorem k1_idx389_inb : ∀ (v87 : IVec S16 32) (v784 : IVec S16 32) (k1_hw389 : k1_chk389 v87 v784), ∀ a x, ((![v87, v784] : Fin 2 → IVec S16 32) a x).toNat < S64x256.size a := fun v87 v784 k1_hw389 => k1_hw389

def k1_chk390 (v88 : IVec S16 32) (v791 : IVec S16 32) : Prop :=
  (∀ a x, ((![v88, v791] : Fin 2 → IVec S16 32) a x).toNat < S64x256.size a)
theorem k1_idx390_inb : ∀ (v88 : IVec S16 32) (v791 : IVec S16 32) (k1_hw390 : k1_chk390 v88 v791), ∀ a x, ((![v88, v791] : Fin 2 → IVec S16 32) a x).toNat < S64x256.size a := fun v88 v791 k1_hw390 => k1_hw390

def k1_chk391 (v89 : IVec S16 32) (v798 : IVec S16 32) : Prop :=
  (∀ a x, ((![v89, v798] : Fin 2 → IVec S16 32) a x).toNat < S64x256.size a)
theorem k1_idx391_inb : ∀ (v89 : IVec S16 32) (v798 : IVec S16 32) (k1_hw391 : k1_chk391 v89 v798), ∀ a x, ((![v89, v798] : Fin 2 → IVec S16 32) a x).toNat < S64x256.size a := fun v89 v798 k1_hw391 => k1_hw391

def k1_chk392 (v90 : IVec S16 32) (v805 : IVec S16 32) : Prop :=
  (∀ a x, ((![v90, v805] : Fin 2 → IVec S16 32) a x).toNat < S64x256.size a)
theorem k1_idx392_inb : ∀ (v90 : IVec S16 32) (v805 : IVec S16 32) (k1_hw392 : k1_chk392 v90 v805), ∀ a x, ((![v90, v805] : Fin 2 → IVec S16 32) a x).toNat < S64x256.size a := fun v90 v805 k1_hw392 => k1_hw392
def k1_off116 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v811 : Index := Scalar.indexCast v68
  let c160 : Index := 160#32
  ![v811.toNat, 160]

def k1_chk393 (v83 : IVec S16 32) (v828 : IVec S16 32) : Prop :=
  (∀ a x, ((![v83, v828] : Fin 2 → IVec S16 32) a x).toNat < S64x256.size a)
theorem k1_idx393_inb : ∀ (v83 : IVec S16 32) (v828 : IVec S16 32) (k1_hw393 : k1_chk393 v83 v828), ∀ a x, ((![v83, v828] : Fin 2 → IVec S16 32) a x).toNat < S64x256.size a := fun v83 v828 k1_hw393 => k1_hw393

def k1_chk394 (v84 : IVec S16 32) (v835 : IVec S16 32) : Prop :=
  (∀ a x, ((![v84, v835] : Fin 2 → IVec S16 32) a x).toNat < S64x256.size a)
theorem k1_idx394_inb : ∀ (v84 : IVec S16 32) (v835 : IVec S16 32) (k1_hw394 : k1_chk394 v84 v835), ∀ a x, ((![v84, v835] : Fin 2 → IVec S16 32) a x).toNat < S64x256.size a := fun v84 v835 k1_hw394 => k1_hw394

def k1_chk395 (v85 : IVec S16 32) (v842 : IVec S16 32) : Prop :=
  (∀ a x, ((![v85, v842] : Fin 2 → IVec S16 32) a x).toNat < S64x256.size a)
theorem k1_idx395_inb : ∀ (v85 : IVec S16 32) (v842 : IVec S16 32) (k1_hw395 : k1_chk395 v85 v842), ∀ a x, ((![v85, v842] : Fin 2 → IVec S16 32) a x).toNat < S64x256.size a := fun v85 v842 k1_hw395 => k1_hw395

def k1_chk396 (v86 : IVec S16 32) (v849 : IVec S16 32) : Prop :=
  (∀ a x, ((![v86, v849] : Fin 2 → IVec S16 32) a x).toNat < S64x256.size a)
theorem k1_idx396_inb : ∀ (v86 : IVec S16 32) (v849 : IVec S16 32) (k1_hw396 : k1_chk396 v86 v849), ∀ a x, ((![v86, v849] : Fin 2 → IVec S16 32) a x).toNat < S64x256.size a := fun v86 v849 k1_hw396 => k1_hw396

def k1_chk397 (v87 : IVec S16 32) (v856 : IVec S16 32) : Prop :=
  (∀ a x, ((![v87, v856] : Fin 2 → IVec S16 32) a x).toNat < S64x256.size a)
theorem k1_idx397_inb : ∀ (v87 : IVec S16 32) (v856 : IVec S16 32) (k1_hw397 : k1_chk397 v87 v856), ∀ a x, ((![v87, v856] : Fin 2 → IVec S16 32) a x).toNat < S64x256.size a := fun v87 v856 k1_hw397 => k1_hw397

def k1_chk398 (v88 : IVec S16 32) (v863 : IVec S16 32) : Prop :=
  (∀ a x, ((![v88, v863] : Fin 2 → IVec S16 32) a x).toNat < S64x256.size a)
theorem k1_idx398_inb : ∀ (v88 : IVec S16 32) (v863 : IVec S16 32) (k1_hw398 : k1_chk398 v88 v863), ∀ a x, ((![v88, v863] : Fin 2 → IVec S16 32) a x).toNat < S64x256.size a := fun v88 v863 k1_hw398 => k1_hw398

def k1_chk399 (v89 : IVec S16 32) (v870 : IVec S16 32) : Prop :=
  (∀ a x, ((![v89, v870] : Fin 2 → IVec S16 32) a x).toNat < S64x256.size a)
theorem k1_idx399_inb : ∀ (v89 : IVec S16 32) (v870 : IVec S16 32) (k1_hw399 : k1_chk399 v89 v870), ∀ a x, ((![v89, v870] : Fin 2 → IVec S16 32) a x).toNat < S64x256.size a := fun v89 v870 k1_hw399 => k1_hw399

def k1_chk400 (v90 : IVec S16 32) (v877 : IVec S16 32) : Prop :=
  (∀ a x, ((![v90, v877] : Fin 2 → IVec S16 32) a x).toNat < S64x256.size a)
theorem k1_idx400_inb : ∀ (v90 : IVec S16 32) (v877 : IVec S16 32) (k1_hw400 : k1_chk400 v90 v877), ∀ a x, ((![v90, v877] : Fin 2 → IVec S16 32) a x).toNat < S64x256.size a := fun v90 v877 k1_hw400 => k1_hw400
def k1_off117 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v883 : Index := Scalar.indexCast v68
  let c176 : Index := 176#32
  ![v883.toNat, 176]

def k1_chk401 (v83 : IVec S16 32) (v900 : IVec S16 32) : Prop :=
  (∀ a x, ((![v83, v900] : Fin 2 → IVec S16 32) a x).toNat < S64x256.size a)
theorem k1_idx401_inb : ∀ (v83 : IVec S16 32) (v900 : IVec S16 32) (k1_hw401 : k1_chk401 v83 v900), ∀ a x, ((![v83, v900] : Fin 2 → IVec S16 32) a x).toNat < S64x256.size a := fun v83 v900 k1_hw401 => k1_hw401

def k1_chk402 (v84 : IVec S16 32) (v907 : IVec S16 32) : Prop :=
  (∀ a x, ((![v84, v907] : Fin 2 → IVec S16 32) a x).toNat < S64x256.size a)
theorem k1_idx402_inb : ∀ (v84 : IVec S16 32) (v907 : IVec S16 32) (k1_hw402 : k1_chk402 v84 v907), ∀ a x, ((![v84, v907] : Fin 2 → IVec S16 32) a x).toNat < S64x256.size a := fun v84 v907 k1_hw402 => k1_hw402

def k1_chk403 (v85 : IVec S16 32) (v914 : IVec S16 32) : Prop :=
  (∀ a x, ((![v85, v914] : Fin 2 → IVec S16 32) a x).toNat < S64x256.size a)
theorem k1_idx403_inb : ∀ (v85 : IVec S16 32) (v914 : IVec S16 32) (k1_hw403 : k1_chk403 v85 v914), ∀ a x, ((![v85, v914] : Fin 2 → IVec S16 32) a x).toNat < S64x256.size a := fun v85 v914 k1_hw403 => k1_hw403

def k1_chk404 (v86 : IVec S16 32) (v921 : IVec S16 32) : Prop :=
  (∀ a x, ((![v86, v921] : Fin 2 → IVec S16 32) a x).toNat < S64x256.size a)
theorem k1_idx404_inb : ∀ (v86 : IVec S16 32) (v921 : IVec S16 32) (k1_hw404 : k1_chk404 v86 v921), ∀ a x, ((![v86, v921] : Fin 2 → IVec S16 32) a x).toNat < S64x256.size a := fun v86 v921 k1_hw404 => k1_hw404

def k1_chk405 (v87 : IVec S16 32) (v928 : IVec S16 32) : Prop :=
  (∀ a x, ((![v87, v928] : Fin 2 → IVec S16 32) a x).toNat < S64x256.size a)
theorem k1_idx405_inb : ∀ (v87 : IVec S16 32) (v928 : IVec S16 32) (k1_hw405 : k1_chk405 v87 v928), ∀ a x, ((![v87, v928] : Fin 2 → IVec S16 32) a x).toNat < S64x256.size a := fun v87 v928 k1_hw405 => k1_hw405

def k1_chk406 (v88 : IVec S16 32) (v935 : IVec S16 32) : Prop :=
  (∀ a x, ((![v88, v935] : Fin 2 → IVec S16 32) a x).toNat < S64x256.size a)
theorem k1_idx406_inb : ∀ (v88 : IVec S16 32) (v935 : IVec S16 32) (k1_hw406 : k1_chk406 v88 v935), ∀ a x, ((![v88, v935] : Fin 2 → IVec S16 32) a x).toNat < S64x256.size a := fun v88 v935 k1_hw406 => k1_hw406

def k1_chk407 (v89 : IVec S16 32) (v942 : IVec S16 32) : Prop :=
  (∀ a x, ((![v89, v942] : Fin 2 → IVec S16 32) a x).toNat < S64x256.size a)
theorem k1_idx407_inb : ∀ (v89 : IVec S16 32) (v942 : IVec S16 32) (k1_hw407 : k1_chk407 v89 v942), ∀ a x, ((![v89, v942] : Fin 2 → IVec S16 32) a x).toNat < S64x256.size a := fun v89 v942 k1_hw407 => k1_hw407

def k1_chk408 (v90 : IVec S16 32) (v949 : IVec S16 32) : Prop :=
  (∀ a x, ((![v90, v949] : Fin 2 → IVec S16 32) a x).toNat < S64x256.size a)
theorem k1_idx408_inb : ∀ (v90 : IVec S16 32) (v949 : IVec S16 32) (k1_hw408 : k1_chk408 v90 v949), ∀ a x, ((![v90, v949] : Fin 2 → IVec S16 32) a x).toNat < S64x256.size a := fun v90 v949 k1_hw408 => k1_hw408
def k1_off118 (k1_t8 : Fin k1_t8_loop.trips) (c0_i32_88 : BitVec 32) : Fin 2 → Nat :=
  let c0_i32_75 : BitVec 32 := 0#32
  let c1_i32_77 : BitVec 32 := 1#32
  let arg12 : BitVec 32 := Scf.iv c0_i32_75 c1_i32_77 k1_t8
  let c8_i32_87 : BitVec 32 := 8#32
  let v67 : BitVec 32 := Scalar.muli arg12 c8_i32_87
  let v68 : BitVec 32 := Scalar.addi v67 c0_i32_88
  let v955 : Index := Scalar.indexCast v68
  let c184 : Index := 184#32
  ![v955.toNat, 184]

def k1_chk409 (v83 : IVec S16 32) (v972 : IVec S16 32) : Prop :=
  (∀ a x, ((![v83, v972] : Fin 2 → IVec S16 32) a x).toNat < S64x256.size a)
theorem k1_idx409_inb : ∀ (v83 : IVec S16 32) (v972 : IVec S16 32) (k1_hw409 : k1_chk409 v83 v972), ∀ a x, ((![v83, v972] : Fin 2 → IVec S16 32) a x).toNat < S64x256.size a := fun v83 v972 k1_hw409 => k1_hw409

def k1_chk410 (v84 : IVec S16 32) (v979 : IVec S16 32) : Prop :=
  (∀ a x, ((![v84, v979] : Fin 2 → IVec S16 32) a x).toNat < S64x256.size a)
theorem k1_idx410_inb : ∀ (v84 : IVec S16 32) (v979 : IVec S16 32) (k1_hw410 : k1_chk410 v84 v979), ∀ a x, ((![v84, v979] : Fin 2 → IVec S16 32) a x).toNat < S64x256.size a := fun v84 v979 k1_hw410 => k1_hw410

def k1_chk411 (v85 : IVec S16 32) (v986 : IVec S16 32) : Prop :=
  (∀ a x, ((![v85, v986] : Fin 2 → IVec S16 32) a x).toNat < S64x256.size a)
theorem k1_idx411_inb : ∀ (v85 : IVec S16 32) (v986 : IVec S16 32) (k1_hw411 : k1_chk411 v85 v986), ∀ a x, ((![v85, v986] : Fin 2 → IVec S16 32) a x).toNat < S64x256.size a := fun v85 v986 k1_hw411 => k1_hw411

def k1_chk412 (v86 : IVec S16 32) (v993 : IVec S16 32) : Prop :=
  (∀ a x, ((![v86, v993] : Fin 2 → IVec S16 32) a x).toNat < S64x256.size a)
theorem k1_idx412_inb : ∀ (v86 : IVec S16 32) (v993 : IVec S16 32) (k1_hw412 : k1_chk412 v86 v993), ∀ a x, ((![v86, v993] : Fin 2 → IVec S16 32) a x).toNat < S64x256.size a := fun v86 v993 k1_hw412 => k1_hw412

def k1_chk413 (v87 : IVec S16 32) (v1000 : IVec S16 32) : Prop :=
  (∀ a x, ((![v87, v1000] : Fin 2 → IVec S16 32) a x).toNat < S64x256.size a)
theorem k1_idx413_inb : ∀ (v87 : IVec S16 32) (v1000 : IVec S16 32) (k1_hw413 : k1_chk413 v87 v1000), ∀ a x, ((![v87, v1000] : Fin 2 → IVec S16 32) a x).toNat < S64x256.size a := fun v87 v1000 k1_hw413 => k1_hw413

def k1_chk414 (v88 : IVec S16 32) (v1007 : IVec S16 32) : Prop :=
  (∀ a x, ((![v88, v1007] : Fin 2 → IVec S16 32) a x).toNat < S64x256.size a)
theorem k1_idx414_inb : ∀ (v88 : IVec S16 32) (v1007 : IVec S16 32) (k1_hw414 : k1_chk414 v88 v1007), ∀ a x, ((![v88, v1007] : Fin 2 → IVec S16 32) a x).toNat < S64x256.size a := fun v88 v1007 k1_hw414 => k1_hw414

def k1_chk415 (v89 : IVec S16 32) (v1014 : IVec S16 32) : Prop :=
  (∀ a x, ((![v89, v1014] : Fin 2 → IVec S16 32) a x).toNat < S64x256.size a)
theorem k1_idx415_inb : ∀ (v89 : IVec S16 32) (v1014 : IVec S16 32) (k1_hw415 : k1_chk415 v89 v1014), ∀ a x, ((![v89, v1014] : Fin 2 → IVec S16 32) a x).toNat < S64x256.size a := fun v89 v1014 k1_hw415 => k1_hw415

def k1_chk416 (v90 : IVec S16 32) (v1021 : IVec S16 32) : Prop :=
  (∀ a x, ((![v90, v1021] : Fin 2 → IVec S16 32) a x).toNat < S64x256.size a)
theorem k1_idx416_inb : ∀ (v90 : IVec S16 32) (v1021 : IVec S16 32) (k1_hw416 : k1_chk416 v90 v1021), ∀ a x, ((![v90, v1021] : Fin 2 → IVec S16 32) a x).toNat < S64x256.size a := fun v90 v1021 k1_hw416 => k1_hw416
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage2_0 : Fin 2 → Memref sig .tc .vmem S2048x256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage3_0 : Fin 2 → Memref sig .tc .vmem S2048x256 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2048x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "mean" => some ((200⁻¹ : ℝ) : EReal)
  | _ => none
-- ==== ReferenceIdeal.lean ====
abbrev S16384x200 : Shape := ⟨2, ![16384, 200]⟩
abbrev S1000x64 : Shape := ⟨2, ![1000, 64]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x64 : Shape := ⟨3, ![16384, 200, 64]⟩
abbrev S16384x64 : Shape := ⟨2, ![16384, 64]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000x64, .f32⟩
  | .hbm, ⟨2, _⟩ => ⟨S64x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S16384x200, .i32⟩
  | .hbm, ⟨10, _⟩ => ⟨S16384x200, .i1⟩
  | .hbm, ⟨11, _⟩ => ⟨S_, .i32⟩
  | .hbm, ⟨12, _⟩ => ⟨S16384x200, .i32⟩
  | .hbm, ⟨13, _⟩ => ⟨S16384x200, .i32⟩
  | .hbm, ⟨14, _⟩ => ⟨S16384x200, .i32⟩
  | .hbm, ⟨15, _⟩ => ⟨S16384x200x1, .i32⟩
  | .hbm, ⟨16, _⟩ => ⟨S1, .i32⟩
  | .hbm, ⟨17, _⟩ => ⟨S_, .i32⟩
  | .hbm, ⟨18, _⟩ => ⟨S16384x200x1, .i32⟩
  | .hbm, ⟨19, _⟩ => ⟨S16384x200x1, .i1⟩
  | .hbm, ⟨20, _⟩ => ⟨S1x1x1, .i32⟩
  | .hbm, ⟨21, _⟩ => ⟨S16384x200x1, .i32⟩
  | .hbm, ⟨22, _⟩ => ⟨S16384x200x1, .i1⟩
  | .hbm, ⟨23, _⟩ => ⟨S16384x200x1, .i1⟩
  | .hbm, ⟨24, _⟩ => ⟨S_, .i1⟩
  | .hbm, ⟨25, _⟩ => ⟨S16384x200, .i1⟩
  | .hbm, ⟨26, _⟩ => ⟨S16384x200x64, .f32⟩
  | .hbm, ⟨27, _⟩ => ⟨S16384x200x64, .i1⟩
  | .hbm, ⟨28, _⟩ => ⟨S_, .f32⟩
  | .hbm, ⟨29, _⟩ => ⟨S16384x200x64, .f32⟩
  | .hbm, ⟨30, _⟩ => ⟨S16384x200x64, .f32⟩
  | .hbm, ⟨31, _⟩ => ⟨S_, .f32⟩
  | .hbm, ⟨32, _⟩ => ⟨S16384x64, .f32⟩
  | .hbm, ⟨33, _⟩ => ⟨S_, .f32⟩
  | .hbm, ⟨34, _⟩ => ⟨S16384x64, .f32⟩
  | .hbm, ⟨35, _⟩ => ⟨S16384x64, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S1x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S16384x128, .f32⟩
  | .hbm, ⟨51, _⟩ => ⟨S1x128, .f32⟩
  | .hbm, ⟨52, _⟩ => ⟨S16384x128, .f32⟩
  | .hbm, ⟨53, _⟩ => ⟨S16384x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_cst_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_call1_cst : Ref sig .tc := ⟨.hbm, 40, rfl⟩
abbrev main_call1_v0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call2_cst : Ref sig .tc := ⟨.hbm, 47, rfl⟩
abbrev main_call2_v0 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩

abbrev nD : Nat := 1
abbrev τ : Topo := Topo.v7x

variable {F : FTy → Type} [FloatOps F]
-- ==== Proof.Task.lean ====
/- The tile task of both SparseCore calls, written once: each call's printed body is an instance of `task`. -/
module

public import proofs.«01_k».proof.Proof.Gen.KernelIdeal

@[expose] public section

noncomputable section

namespace Cert.Hist

open Idealize.ShloMosaic Idealize.SL.Sem Cert.KernelIdeal Cert.KernelIdeal.Gen

variable {F : FTy → Type} [FloatOps F] [Named F]

/-- The effects of tile `s` of core `c`. -/
abbrev TE (F : FTy → Type) (c : Fin τ.nSC) (s : Fin τ.nSub) := TpuEff nD τ sig (Elt F) Λ₀ (.scVector c s)

/-- The row word of trip `t` and row constant `r`: `8 t + r`. -/
def rowWord (t : Fin k0_t2_loop.trips) (r : BitVec 32) : BitVec 32 := Scalar.addi (Scalar.muli (Scf.iv 0#32 1#32 t) 8#32) r

/-- Where the load of row `r` of trip `t` at column `a` starts. -/
def xOff (t : Fin k0_t2_loop.trips) (r : BitVec 32) (a : Nat) : Fin 2 → Nat := ![(Scalar.indexCast (rowWord t r)).toNat, a]

theorem rowWord_eq : ∀ (t : Fin k0_t2_loop.trips) (r : Fin 8), (rowWord t (BitVec.ofNat 32 r.val)).toNat = 8 * t.val + r.val := by decide +kernel

theorem xOff_inb (t : Fin k0_t2_loop.trips) (r : Fin 8) (a : Nat) (ha : a + 16 ≤ 200) :
    ∀ x, xOff t (BitVec.ofNat 32 r.val) a x + S1x16.size x ≤ S64x200.size x := by
  have ht : t.val < 8 := t.isLt
  intro x
  match x with
  | 0 =>
    show (rowWord t (BitVec.ofNat 32 r.val)).toNat + 1 ≤ 64
    rw [rowWord_eq]; omega
  | 1 => exact ha

/-- Where a trip of the zero loop stores: row `t`, column `a`. -/
def zOff (t : Fin k0_t1_loop.trips) (a : Nat) : Fin 2 → Nat := ![(Scalar.indexCast (Scf.iv 0#32 1#32 t)).toNat, a]

theorem zRow_eq : ∀ (t : Fin k0_t1_loop.trips), (Scalar.indexCast (Scf.iv 0#32 1#32 t)).toNat = t.val := by decide +kernel

theorem zOff_inb (t : Fin k0_t1_loop.trips) (a : Nat) (ha : a + 16 ≤ 256) : ∀ x, zOff t a x + S1x16.size x ≤ S64x256.size x := by
  have ht : t.val < 64 := t.isLt
  intro x
  match x with
  | 0 =>
    show (Scalar.indexCast (Scf.iv 0#32 1#32 t)).toNat + 1 ≤ 64
    rw [zRow_eq]; omega
  | 1 => exact ha

section Body
variable (c : Fin τ.nSC) (s : Fin τ.nSub)

/-- One load of sixteen tokens. -/
def ld (mx : Memref sig .scVector .vmem S64x200 .i32) (t : Fin k0_t2_loop.trips) (r : Fin 8) (a : Nat) (ha : a + 16 ≤ 200) : Prog (TE F c s) (Vec F S16 .i32) := do
  let w ← Prog.lift (.load mx (Rect.unit (s := S64x200) (xOff t (BitVec.ofNat 32 r.val) a) S1x16.size (xOff_inb t r a ha)).toLoadRect (View.loadsAt_vmem h_S1x16))
  pure (shapeCast S16 w shapeCasts_S1x16_S16)

/-- One scatter-add of sixteen lanes: at row `row`, column `w & 255`, the word `1 << ((w >> 5) & 24)`. -/
def scat (mc : Memref sig .scVector .vmem S64x256 .i32) (one : IVec S16 32) (mask : IVec S16 1) (row w : IVec S16 32) : Prog (TE F c s) PUnit := do
  have col : IVec S16 32 := andi w (broadcast S16 255#32)
  have h : k0_chk1 row col := (← Prog.lift (TpuEff.assume (k0_chk1 row col) (k0_chk1.dec row col))).down
  SparseCore.vectorStoreIdx mc ![row, col] (shli one (andi (shrsi w (broadcast S16 5#32)) (broadcast S16 24#32))) mask true (k0_idx1_inb row col h) (View.stores_vmem_bits_univ h_S64x256 rfl)

/-- One column group: eight loads, eight scatter-adds. -/
def group (mx : Memref sig .scVector .vmem S64x200 .i32) (mc : Memref sig .scVector .vmem S64x256 .i32) (one : IVec S16 32) (mask : IVec S16 1)
    (t : Fin k0_t2_loop.trips) (a : Nat) (ha : a + 16 ≤ 200) : Prog (TE F c s) PUnit := do
  let w0 ← ld c s mx t 0 a ha
  let w1 ← ld c s mx t 1 a ha
  let w2 ← ld c s mx t 2 a ha
  let w3 ← ld c s mx t 3 a ha
  let w4 ← ld c s mx t 4 a ha
  let w5 ← ld c s mx t 5 a ha
  let w6 ← ld c s mx t 6 a ha
  let w7 ← ld c s mx t 7 a ha
  scat c s mc one mask (broadcast S16 (rowWord t 0#32)) w0
  scat c s mc one mask (broadcast S16 (rowWord t 1#32)) w1
  scat c s mc one mask (broadcast S16 (rowWord t 2#32)) w2
  scat c s mc one mask (broadcast S16 (rowWord t 3#32)) w3
  scat c s mc one mask (broadcast S16 (rowWord t 4#32)) w4
  scat c s mc one mask (broadcast S16 (rowWord t 5#32)) w5
  scat c s mc one mask (broadcast S16 (rowWord t 6#32)) w6
  scat c s mc one mask (broadcast S16 (rowWord t 7#32)) w7

/-- One trip of the scatter loop: twelve whole groups and the masked tail. -/
def trip (mx : Memref sig .scVector .vmem S64x200 .i32) (mc : Memref sig .scVector .vmem S64x256 .i32) (one : IVec S16 32) (tail : IVec S16 1)
    (t : Fin k0_t2_loop.trips) : Prog (TE F c s) PUnit := do
  group c s mx mc one (fun _ => 1#1) t 0 (by decide)
  group c s mx mc one (fun _ => 1#1) t 16 (by decide)
  group c s mx mc one (fun _ => 1#1) t 32 (by decide)
  group c s mx mc one (fun _ => 1#1) t 48 (by decide)
  group c s mx mc one (fun _ => 1#1) t 64 (by decide)
  group c s mx mc one (fun _ => 1#1) t 80 (by decide)
  group c s mx mc one (fun _ => 1#1) t 96 (by decide)
  group c s mx mc one (fun _ => 1#1) t 112 (by decide)
  group c s mx mc one (fun _ => 1#1) t 128 (by decide)
  group c s mx mc one (fun _ => 1#1) t 144 (by decide)
  group c s mx mc one (fun _ => 1#1) t 160 (by decide)
  group c s mx mc one (fun _ => 1#1) t 176 (by decide)
  group c s mx mc one tail t 184 (by decide)
  pure ⟨⟩

/-- Sixteen zeros stored at row `t`, column `a` (after a load that nothing reads). -/
def zst (mc : Memref sig .scVector .vmem S64x256 .i32) (z : IVec S16 32) (t : Fin k0_t1_loop.trips) (a : Nat) (ha : a + 16 ≤ 256) : Prog (TE F c s) PUnit := do
  let _ ← Prog.lift (.load mc (Rect.unit (s := S64x256) (zOff t a) S1x16.size (zOff_inb t a ha)).toLoadRect (View.loadsAt_vmem h_S1x16))
  Prog.lift (.store mc (Rect.unit (s := S64x256) (zOff t a) S1x16.size (zOff_inb t a ha)) (shapeCast S1x16 z shapeCasts_S16_S1x16) Finset.univ (View.stores_vmem_bits_univ h_S1x16 rfl) (.inl rfl))

/-- One trip of the zero loop: a row of the count buffer cleared. -/
def ztrip (mc : Memref sig .scVector .vmem S64x256 .i32) (z : IVec S16 32) (t : Fin k0_t1_loop.trips) : Prog (TE F c s) PUnit := do
  zst c s mc z t 0 (by decide)
  zst c s mc z t 16 (by decide)
  zst c s mc z t 32 (by decide)
  zst c s mc z t 48 (by decide)
  zst c s mc z t 64 (by decide)
  zst c s mc z t 80 (by decide)
  zst c s mc z t 96 (by decide)
  zst c s mc z t 112 (by decide)
  zst c s mc z t 128 (by decide)
  zst c s mc z t 144 (by decide)
  zst c s mc z t 160 (by decide)
  zst c s mc z t 176 (by decide)
  zst c s mc z t 192 (by decide)
  zst c s mc z t 208 (by decide)
  zst c s mc z t 224 (by decide)
  zst c s mc z t 240 (by decide)
  pure ⟨⟩

/-- The zero loop of one chunk. -/
def zloop (mc : Memref sig .scVector .vmem S64x256 .i32) : Prog (TE F c s) PUnit :=
  Scf.Loop.for k0_t1_loop k0_t1_ok ⟨⟩ fun t _ => ztrip c s mc (broadcast S16 0#32) t

/-- The scatter loop of one chunk. -/
def sloop (mx : Memref sig .scVector .vmem S64x200 .i32) (mc : Memref sig .scVector .vmem S64x256 .i32) : Prog (TE F c s) PUnit :=
  Scf.Loop.for k0_t2_loop k0_t2_ok ⟨⟩ fun t _ =>
    trip c s mx mc (broadcast S16 1#32) (cmpi .sge (iota .scVector S16 32 [0] iota_S16_d0_w32_scVector) (broadcast S16 8#32)) t

section Chunks
variable (x0 x1 x2 x3 : Memref sig .scVector .hbm S64x200 .i32) (d0 d1 d2 d3 : Memref sig .scVector .hbm S64x256 .i32)
variable (xa xb : Memref sig .scVector .vmem S64x200 .i32) (ca cb : Memref sig .scVector .vmem S64x256 .i32) (sxa sxb sca scb : DmaSems sig S_)

/-- The copy of a chunk's tokens into a token buffer starts. -/
def inn (x : Memref sig .scVector .hbm S64x200 .i32) (b : Memref sig .scVector .vmem S64x200 .i32) (e : DmaSems sig S_) : Prog (TE F c s) PUnit :=
  Prog.lift (.enqueueDma x (.here b) (.dma e.sem) (View.wordExact_bits rfl) (View.wordExact_bits rfl) ⟨Or.inl rfl, trivial⟩)

/-- The wait for that copy. -/
def innW (x : Memref sig .scVector .hbm S64x200 .i32) (b : Memref sig .scVector .vmem S64x200 .i32) (e : DmaSems sig S_) : Prog (TE F c s) PUnit :=
  Prog.lift (.waitDma2 e.sem x b (View.wordExact_bits rfl) (View.wordExact_bits rfl))

/-- The copy of a count buffer to its rows of the result starts. -/
def out (b : Memref sig .scVector .vmem S64x256 .i32) (o : Memref sig .scVector .hbm S64x256 .i32) (e : DmaSems sig S_) : Prog (TE F c s) PUnit :=
  Prog.lift (.enqueueDma b (.here o) (.dma e.sem) (View.wordExact_bits rfl) (View.wordExact_bits rfl) ⟨Or.inl rfl, trivial⟩)

/-- The wait for that copy. -/
def outW (b : Memref sig .scVector .vmem S64x256 .i32) (o : Memref sig .scVector .hbm S64x256 .i32) (e : DmaSems sig S_) : Prog (TE F c s) PUnit :=
  Prog.lift (.waitDma2 e.sem b o (View.wordExact_bits rfl) (View.wordExact_bits rfl))

/-- The first chunk, up to its counts. -/
def partA {α : Type} (v : α) : Prog (TE F c s) α := do
  inn c s x0 xa sxa
  innW c s x0 xa sxa
  inn c s x1 xb sxb
  zloop c s ca
  sloop c s xa ca
  pure v

/-- The first chunk's copy out, the second chunk, and the third and fourth chunks' copies in. -/
def partB : Prog (TE F c s) PUnit := do
  out c s ca d0 sca
  innW c s x1 xb sxb
  inn c s x2 xa sxa
  zloop c s cb
  sloop c s xb cb
  out c s cb d1 scb
  innW c s x2 xa sxa
  inn c s x3 xb sxb
  pure ⟨⟩

/-- The third and fourth chunks. -/
def partC : Prog (TE F c s) PUnit := do
  outW c s ca d0 sca
  zloop c s ca
  sloop c s xa ca
  out c s ca d2 sca
  innW c s x3 xb sxb
  outW c s cb d1 scb
  zloop c s cb
  sloop c s xb cb
  out c s cb d3 scb
  pure ⟨⟩

/-- The task of a tile: four chunks of sixty-four rows, the token buffers and the count buffers used in turn. -/
def task : Prog (TE F c s) PUnit := do
  partA c s x0 x1 xa xb ca sxa sxb PUnit.unit
  partB c s x1 x2 x3 d0 d1 xa xb ca cb sxa sxb sca scb
  partC c s x3 d0 d1 d2 d3 xa xb ca cb sxb sca scb
  outW c s ca d2 sca
  outW c s cb d3 scb
  pure ⟨⟩

end Chunks

end Body

/-- The tokens of chunk `r` of the tile at `i`, in call 0. -/
abbrev xs0 (i : grid0.Coords) (arg2 : Memref sig .scVector .hbm S16384x200 .i32) (r : Fin 4) : Memref sig .scVector .hbm S64x200 .i32 :=
  arg2.slice (Rect.unit (s := S16384x200) (k0_off1 i (BitVec.ofNat 32 (64 * r.val))) S64x200.size (k0_off1_inb i r)) (fun _ => rfl)

/-- The counts of chunk `r` of the tile at `i`, in call 0. -/
abbrev ds0 (i : grid0.Coords) (arg3 : Memref sig .scVector .hbm S8192x256 .i32) (r : Fin 4) : Memref sig .scVector .hbm S64x256 .i32 :=
  arg3.slice (Rect.unit (s := S8192x256) (k0_off31 i (BitVec.ofNat 32 (64 * r.val))) S64x256.size (k0_off31_inb i r)) (fun _ => rfl)

/-- Call 0's printed body is `task` on the tile's slices. -/
theorem cc0_task (i : grid0.Coords) (arg2 : Memref sig .scVector .hbm S16384x200 .i32) (harg2 : arg2.IsWhole) (arg3 : Memref sig .scVector .hbm S8192x256 .i32) (harg3 : arg3.IsWhole) (arg4 : Memref sig .scVector .vmem S64x200 .i32) (harg4 : arg4.IsWhole)
    (arg5 : Memref sig .scVector .vmem S64x200 .i32) (harg5 : arg5.IsWhole) (arg6 : Memref sig .scVector .vmem S64x256 .i32) (harg6 : arg6.IsWhole) (arg7 : Memref sig .scVector .vmem S64x256 .i32) (harg7 : arg7.IsWhole)
    (arg8 arg9 arg10 arg11 : DmaSems sig S_) :
    cc0_body (F := F) i arg2 harg2 arg3 harg3 arg4 harg4 arg5 harg5 arg6 harg6 arg7 harg7 arg8 arg9 arg10 arg11 =
      task ((i 0).castLE hcore0) ((i 1).castLE hsub0) (xs0 i arg2 0) (xs0 i arg2 1) (xs0 i arg2 2) (xs0 i arg2 3) (ds0 i arg3 0) (ds0 i arg3 1) (ds0 i arg3 2) (ds0 i arg3 3)
        arg4 arg5 arg6 arg7 arg8 arg9 arg10 arg11 := by
  have hA : ∀ (G : (Σ' (_ : BitVec 32) (_ : IVec S16 1) (_ : IVec S16 32), IVec S16 32) → Prog (TE F ((i 0).castLE hcore0) ((i 1).castLE hsub0)) PUnit) (R : Prog (TE F ((i 0).castLE hcore0) ((i 1).castLE hsub0)) PUnit)
      (_ : G ⟨Scalar.addi (Scalar.muli (BitVec.ofNat 32 (i 1).val) 2#32) (BitVec.ofNat 32 (i 0).val), cmpi .sge (iota .scVector S16 32 [0] iota_S16_d0_w32_scVector) (broadcast S16 8#32), broadcast S16 1#32, broadcast S16 0#32⟩ = R),
      (k0_part117 (F := F) i arg2 harg2 arg3 harg3 arg4 harg4 arg5 harg5 arg6 harg6 arg7 harg7 arg8 arg9 arg10 arg11 >>= G)
        = (partA ((i 0).castLE hcore0) ((i 1).castLE hsub0) (xs0 i arg2 0) (xs0 i arg2 1) arg4 arg5 arg6 arg8 arg9 PUnit.unit >>= fun _ => R) := by
    rintro G _ rfl
    show (partA _ _ (xs0 i arg2 0) (xs0 i arg2 1) arg4 arg5 arg6 arg8 arg9 _ >>= G) = _
    simp only [partA, bind_assoc, pure_bind]
  exact hA _ _ rfl

/-- The tokens of chunk `r` of the tile at `i`, in call 1. -/
abbrev xs1 (i : grid1.Coords) (arg2 : Memref sig .scVector .hbm S16384x200 .i32) (r : Fin 4) : Memref sig .scVector .hbm S64x200 .i32 :=
  arg2.slice (Rect.unit (s := S16384x200) (k1_off1 i (BitVec.ofNat 32 (64 * r.val))) S64x200.size (k1_off1_inb i r)) (fun _ => rfl)

/-- The counts of chunk `r` of the tile at `i`, in call 1. -/
abbrev ds1 (i : grid1.Coords) (arg3 : Memref sig .scVector .hbm S8192x256 .i32) (r : Fin 4) : Memref sig .scVector .hbm S64x256 .i32 :=
  arg3.slice (Rect.unit (s := S8192x256) (k1_off31 i (BitVec.ofNat 32 (64 * r.val))) S64x256.size (k1_off31_inb i r)) (fun _ => rfl)

/-- Call 1's printed body is `task` on the tile's slices. -/
theorem cc1_task (i : grid1.Coords) (arg2 : Memref sig .scVector .hbm S16384x200 .i32) (harg2 : arg2.IsWhole) (arg3 : Memref sig .scVector .hbm S8192x256 .i32) (harg3 : arg3.IsWhole) (arg4 : Memref sig .scVector .vmem S64x200 .i32) (harg4 : arg4.IsWhole)
    (arg5 : Memref sig .scVector .vmem S64x200 .i32) (harg5 : arg5.IsWhole) (arg6 : Memref sig .scVector .vmem S64x256 .i32) (harg6 : arg6.IsWhole) (arg7 : Memref sig .scVector .vmem S64x256 .i32) (harg7 : arg7.IsWhole)
    (arg8 arg9 arg10 arg11 : DmaSems sig S_) :
    cc1_body (F := F) i arg2 harg2 arg3 harg3 arg4 harg4 arg5 harg5 arg6 harg6 arg7 harg7 arg8 arg9 arg10 arg11 =
      task ((i 0).castLE hcore1) ((i 1).castLE hsub1) (xs1 i arg2 0) (xs1 i arg2 1) (xs1 i arg2 2) (xs1 i arg2 3) (ds1 i arg3 0) (ds1 i arg3 1) (ds1 i arg3 2) (ds1 i arg3 3)
        arg4 arg5 arg6 arg7 arg8 arg9 arg10 arg11 := by
  have hA : ∀ (G : (Σ' (_ : BitVec 32) (_ : IVec S16 1) (_ : IVec S16 32), IVec S16 32) → Prog (TE F ((i 0).castLE hcore1) ((i 1).castLE hsub1)) PUnit) (R : Prog (TE F ((i 0).castLE hcore1) ((i 1).castLE hsub1)) PUnit)
      (_ : G ⟨Scalar.addi (Scalar.muli (BitVec.ofNat 32 (i 1).val) 2#32) (BitVec.ofNat 32 (i 0).val), cmpi .sge (iota .scVector S16 32 [0] iota_S16_d0_w32_scVector) (broadcast S16 8#32), broadcast S16 1#32, broadcast S16 0#32⟩ = R),
      (k1_part117 (F := F) i arg2 harg2 arg3 harg3 arg4 harg4 arg5 harg5 arg6 harg6 arg7 harg7 arg8 arg9 arg10 arg11 >>= G)
        = (partA ((i 0).castLE hcore1) ((i 1).castLE hsub1) (xs1 i arg2 0) (xs1 i arg2 1) arg4 arg5 arg6 arg8 arg9 PUnit.unit >>= fun _ => R) := by
    rintro G _ rfl
    show (partA _ _ (xs1 i arg2 0) (xs1 i arg2 1) arg4 arg5 arg6 arg8 arg9 _ >>= G) = _
    simp only [partA, bind_assoc, pure_bind]
  exact hA _ _ rfl

end Cert.Hist
-- ==== Proof.Counts.lean ====
/- What the scatter-adds of a chunk leave: the packed counts of each row, as sums over the row's tokens. -/
module

public import proofs.«01_k».proof.Proof.Task
public import Idealize.ShloMosaic.Lib.ValueIdx
public import Mathlib.Data.BitVec
public import Mathlib.Algebra.BigOperators.Intervals
public import Mathlib.Algebra.BigOperators.Fin

@[expose] public section

noncomputable section

namespace Cert.Hist

open Idealize.ShloMosaic Idealize.SL.Sem Cert.KernelIdeal Cert.KernelIdeal.Gen

variable {F : FTy → Type} [FloatOps F] [Named F]

/-- The word a token adds: one, in the byte the token's high bits name. -/
def shft (w : BitVec 32) : BitVec 32 := IntOp.shli .vector 1#32 (IntOp.andi (IntOp.shrsi .vector w 5#32) 24#32)

/-- What a token adds at column `c`. -/
def hit (w : BitVec 32) (c : Nat) : BitVec 32 := if (w &&& 255#32).toNat = c then shft w else 0#32

/-- Token `p` of row `r`. -/
def tk (X : S64x200.Idx → BitVec 32) (r : Fin 64) (p : Nat) : BitVec 32 := if h : p < 200 then X (ValueIdx.ix2 r ⟨p, h⟩) else 0#32

/-- What the first `n` tokens of row `r` add at column `c`. -/
def part (X : S64x200.Idx → BitVec 32) (n : Nat) (r : Fin 64) (c : Nat) : BitVec 32 := ∑ p ∈ Finset.range n, hit (tk X r p) c

/-- What the masked lanes from token `a` on add. -/
def lanes (X : S64x200.Idx → BitVec 32) (a : Nat) (mask : IVec S16 1) (r : Fin 64) (c : Nat) : BitVec 32 :=
  ∑ k : Fin 16, if mask (ValueIdx.ix1 k) = 1 then hit (tk X r (a + k.val)) c else 0#32

/-- The packed counts of a chunk. -/
def counts (X : S64x200.Idx → BitVec 32) : S64x256.Idx → BitVec 32 := fun j => part X 200 (j 0) (j 1).val

theorem part_add (X : S64x200.Idx → BitVec 32) (a : Nat) (r : Fin 64) (c : Nat) :
    part X a r c + lanes X a (fun _ => 1#1) r c = part X (a + 16) r c := by
  unfold part lanes
  rw [Finset.sum_range_add, Finset.sum_range (n := 16)]
  exact congrArg _ (Finset.sum_congr rfl fun k _ => if_pos rfl)

/-- The lanes of the tail group: those from 8 on. -/
def tailMask : IVec S16 1 := cmpi .sge (iota .scVector S16 32 [0] iota_S16_d0_w32_scVector) (broadcast S16 8#32)

theorem tailMask_iff : ∀ k : Fin 16, tailMask (ValueIdx.ix1 k) = 1 ↔ 8 ≤ k.val := by decide +kernel

theorem part_tail (X : S64x200.Idx → BitVec 32) (r : Fin 64) (c : Nat) :
    part X 192 r c + lanes X 184 tailMask r c = part X 200 r c := by
  unfold part lanes
  refine Eq.trans (congrArg (_ + ·) ?_) (Finset.sum_range_add _ 192 8).symm
  show (_ : BitVec 32) = _
  rw [Finset.sum_range]
  simp only [tailMask_iff]
  rw [Fin.sum_univ_add (a := 8) (b := 8) (f := fun k : Fin (8 + 8) => if 8 ≤ k.val then hit (tk X r (184 + k.val)) c else 0#32)]
  rw [Finset.sum_eq_zero (s := Finset.univ) (f := fun i : Fin 8 => if 8 ≤ (Fin.castAdd 8 i).val then hit (tk X r (184 + (Fin.castAdd 8 i).val)) c else 0#32) (fun (i : Fin 8) _ => if_neg (by simp)), zero_add]
  refine Finset.sum_congr rfl fun k _ => ?_
  rw [if_pos (by simp)]
  congr 2
  simp only [Fin.val_natAdd]
  omega

/-- A scatter-add read at one element: what was there and the lanes that name it. -/
theorem storeIdx_sum {s : Shape} {d : Fin 1 → Nat} (f : Vec F s .i32) (idxs : Fin s.rank → IVec ⟨1, d⟩ 32)
    (v : Vec F ⟨1, d⟩ .i32) (mask : IVec ⟨1, d⟩ 1) (h : ∀ a x, (idxs a x).toNat < s.size a) (j : s.Idx) :
    (storeIdx f idxs v mask true h j : BitVec 32) = (f j : BitVec 32) + ∑ k : Fin (d 0),
      (if mask (Shape.ofLane k) = 1 then (if ∀ a, (j a).val = (idxs a (Shape.ofLane k)).toNat then (v (Shape.ofLane k) : BitVec 32) else 0#32) else 0#32) := by
  have key : ∀ (STEP : Vec F s .i32 → Fin (d 0) → Vec F s .i32) (T : Fin (d 0) → BitVec 32)
      (_ : ∀ g k, (STEP g k j : BitVec 32) = (g j : BitVec 32) + T k) (L : List (Fin (d 0))) (g : Vec F s .i32),
      (L.foldl STEP g j : BitVec 32) = (g j : BitVec 32) + (L.map T).sum := by
    intro STEP T hS L
    induction L with
    | nil => intro g; exact (add_zero _).symm
    | cons k L ih =>
      intro g
      rw [List.foldl_cons, ih, List.map_cons, List.sum_cons, ← add_assoc, hS]
  rw [Fin.sum_univ_def]
  refine key _ _ (fun g k => ?_) (List.finRange (d 0)) f
  by_cases hm : mask (Shape.ofLane k) = 1
  · simp only [hm, if_true]
    by_cases hj : ∀ a, (j a).val = (idxs a (Shape.ofLane k)).toNat
    · rw [if_pos hj]
      have hi : idxAt idxs h (Shape.ofLane k) = j := funext fun a => Fin.ext (hj a).symm
      rw [if_pos (show ∀ a, (j a).val = ((idxAt idxs h (Shape.ofLane k)) a).val from hj), hi]
      rfl
    · rw [if_neg hj, if_neg (show ¬ ∀ a, (j a).val = ((idxAt idxs h (Shape.ofLane k)) a).val from hj)]
      exact (add_zero _).symm
  · simp only [hm, if_false]
    exact (add_zero _).symm

theorem ofLane_eq (k : Fin 16) : (Shape.ofLane (d := ![16]) k) = ValueIdx.ix1 k := by
  funext a
  match a with
  | ⟨0, _⟩ => rfl

/-- The scatter-add of one row's lanes into the chunk's counts. -/
theorem storeIdx_row (f : Vec F S64x256 .i32) (X : S64x200.Idx → BitVec 32) (w : IVec S16 32) (mask : IVec S16 1) (row : IVec S16 32)
    (a : Nat) (r : Fin 64) (hrow : ∀ x, (row x).toNat = r.val) (hw : ∀ k : Fin 16, w (ValueIdx.ix1 k) = tk X r (a + k.val))
    (h : ∀ b x, ((![row, andi w (broadcast S16 255#32)] : Fin 2 → IVec S16 32) b x).toNat < S64x256.size b) (j : S64x256.Idx) :
    (storeIdx (F := F) (e := .i32) f ![row, andi w (broadcast S16 255#32)] (shli (broadcast S16 1#32) (andi (shrsi w (broadcast S16 5#32)) (broadcast S16 24#32))) mask true h j : BitVec 32)
      = (f j : BitVec 32) + if (j 0).val = r.val then lanes X a mask r (j 1).val else 0#32 := by
  refine (storeIdx_sum (F := F) f _ _ mask h j).trans (congrArg (fun z : BitVec 32 => (f j : BitVec 32) + z) ?_)
  have hs : ∀ k : Fin 16, (if mask (Shape.ofLane (d := ![16]) k) = 1 then (if ∀ b, (j b).val = ((![row, andi w (broadcast S16 255#32)] : Fin 2 → IVec S16 32) b (Shape.ofLane (d := ![16]) k)).toNat
      then ((shli (broadcast S16 1#32) (andi (shrsi w (broadcast S16 5#32)) (broadcast S16 24#32))) (Shape.ofLane (d := ![16]) k) : BitVec 32) else 0#32) else 0#32)
      = if (j 0).val = r.val then (if mask (ValueIdx.ix1 k) = 1 then hit (tk X r (a + k.val)) (j 1).val else 0#32) else 0#32 := by
    intro k
    rw [ofLane_eq, ← hw k]
    have hv : ((shli (broadcast S16 1#32) (andi (shrsi w (broadcast S16 5#32)) (broadcast S16 24#32))) (ValueIdx.ix1 k) : BitVec 32) = shft (w (ValueIdx.ix1 k)) := rfl
    have hall : (∀ b, (j b).val = ((![row, andi w (broadcast S16 255#32)] : Fin 2 → IVec S16 32) b (ValueIdx.ix1 k)).toNat)
        ↔ ((j 0).val = r.val ∧ (w (ValueIdx.ix1 k) &&& 255#32).toNat = (j 1).val) := by
      refine (Fin.forall_fin_two (p := fun b : Fin 2 => (j b).val = ((![row, andi w (broadcast S16 255#32)] : Fin 2 → IVec S16 32) b (ValueIdx.ix1 k)).toNat)).trans ?_
      refine and_congr ?_ ?_
      · rw [show (![row, andi w (broadcast S16 255#32)] : Fin 2 → IVec S16 32) 0 (ValueIdx.ix1 k) = row (ValueIdx.ix1 k) from rfl, hrow]
      · exact eq_comm
    rw [hv]
    simp only [hall, hit]
    split_ifs <;> first | rfl | (exfalso; tauto)
  refine (Finset.sum_congr rfl fun k _ => hs k).trans ?_
  by_cases hj : (j 0).val = r.val
  · simp only [hj, if_true]; rfl
  · simp only [hj, if_false]; exact Finset.sum_const_zero

end Cert.Hist
-- ==== Proof.Common.lean ====
/- The program as the launch theorem sees it, and the resources the proof runs on. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.RegionArrays
public import Idealize.ShloMosaic.Lib.Pipeline.Regions
public import Idealize.ShloMosaic.Lib.Tactic
public import proofs.«01_k».proof.Proof.Counts

@[expose] public section

noncomputable section

namespace Cert.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := URounds (GSem nD τ sig) Unit
abbrev UU : Type := (UH × UP) × Counters

/-- The model the proof runs in. -/
abbrev 𝕄 (F : FTy → Type) : Type := MT nD τ sig (HIx 2) (Elt F) ℕ UU ℕ

end Cert.Hist
-- ==== Proof.Loops.lean ====
/- The two loops of a chunk: the count buffer cleared, and the tokens' counts added into it. -/
module

public import proofs.«01_k».proof.Proof.Common
public import Idealize.ShloMosaic.Lib.Pipeline.Value

@[expose] public section

noncomputable section

namespace Cert.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F] [Named F]

/-- A memref held (at share `q`) with contents that read as `X`. -/
def At {sp : Space} {s : Shape} (thr : Thread nD τ) (mm : Memref sig thr.2.kind sp s .i32) (q : PosShare TreeShare) (X : s.Idx → BitVec 32) : sProp (𝕄 F) :=
  iprop(∃ f : Buf (Elt F) (mm.view.loc thr), ⌜mm.view.read (Elt F) f = X⌝ ∗ (mm.view.loc thr ↦[mm.view.set]{q} f))

theorem At_intro {sp : Space} {s : Shape} {thr : Thread nD τ} {mm : Memref sig thr.2.kind sp s .i32} {q : PosShare TreeShare} {X : s.Idx → BitVec 32}
    (f : Buf (Elt F) (mm.view.loc thr)) (h : mm.view.read (Elt F) f = X) : (mm.view.loc thr ↦[mm.view.set]{q} f) ⊢ At (F := F) thr mm q X := by
  unfold At
  iintro H
  iexists f
  isplitr [H]
  · ipureintro; exact h
  · iexact H

section Access
variable {κ : Kind} {sp : Space} {s : Shape} (mm : Memref sig κ sp s .i32) (f : mm.view.ty.Contents (Elt F))

theorem set_acc : (mm.access (Rect.whole s)).set = mm.view.set := by
  rw [View.set_slice, Rect.set_whole]; rfl

theorem read_acc : (mm.access (Rect.whole s)).read (Elt F) f = mm.view.read (Elt F) f := by
  funext x
  rw [View.read_apply, View.read_apply, show (mm.access (Rect.whole s)).emb x = mm.view.emb ((Rect.whole s).emb x) from rfl, Rect.emb_whole_apply]

theorem read_write_acc (w : s.Idx → Elt F .i32) : mm.view.read (Elt F) ((mm.access (Rect.whole s)).write (Elt F) f w Finset.univ) = w := by
  funext j
  have h1 := View.read_slice_write_emb (v := mm.view) (Val := Elt F) (Rect.whole s) f w (x := j) (Finset.mem_univ _)
  rw [Rect.emb_whole_apply] at h1
  exact h1

end Access

section Body
variable (d : Dev nD) (c : Fin τ.nSC) (i : Fin τ.nSub)

/-- The lanes' sixteen tokens, as a load's cast reads them. -/
theorem cast_row (w : S1x16.Idx → BitVec 32) (k : Fin 16) : shapeCast S16 w shapeCasts_S1x16_S16 (ix1 k) = w (ix2 0 k) := by
  refine shapeCast_apply _ _ _ _ ?_
  rw [Shape.rowMajor_val_two, Shape.rowMajor_val_one]
  simp

/-- The weakest precondition of a tile's program. -/
abbrev W {α : Type} (p : Prog (TE F c i) α) (Q : α → sProp (𝕄 F)) : sProp (𝕄 F) :=
  wp frame (wpE (defs₀ (F := F)) 𝒱₀ (V d c i) none) Set.univ p Q

/-- A load of sixteen tokens of row `8 t + r`, from column `a`. -/
theorem seq_ld {α : Type} (mx : Memref sig .scVector .vmem S64x200 .i32) (q : PosShare TreeShare) (X : S64x200.Idx → BitVec 32) (t : Fin k0_t2_loop.trips) (r : Fin 8) (row : Fin 64) (hr : row.val = 8 * t.val + r.val)
    (a : Nat) (ha : a + 16 ≤ 200) {R : sProp (𝕄 F)} {k : Vec F S16 .i32 → Prog (TE F c i) α} {Q : α → sProp (𝕄 F)}
    (h : ∀ w : Vec F S16 .i32, (∀ j : Fin 16, (w (ix1 j) : BitVec 32) = tk X row (a + j.val)) → iprop(At (F := F) (V d c i) mx q X ∗ R) ⊢ W d c i (k w) Q) :
    iprop(At (F := F) (V d c i) mx q X ∗ R) ⊢ W d c i (ld c i mx t r a ha >>= k) Q := by
  have hw : ∀ f : Buf (Elt F) (mx.view.loc (V d c i)), mx.view.read (Elt F) f = X → ∀ j : Fin 16,
      (shapeCast S16 (mx.view.readAt (Elt F) (Rect.unit (s := S64x200) (xOff t (BitVec.ofNat 32 r.val) a) S1x16.size (xOff_inb t r a ha)).toLoadRect f) shapeCasts_S1x16_S16 (ix1 j) : BitVec 32) = tk X row (a + j.val) := by
    intro f hf j
    refine (cast_row _ j).trans ?_
    rw [View.readAt_apply, hf]
    unfold tk
    rw [dif_pos (show a + j.val < 200 by omega)]
    congr 1
    funext b
    match b with
    | 0 => exact Fin.ext (by
        show (rowWord t (BitVec.ofNat 32 r.val)).toNat + 1 * 0 = row.val
        rw [rowWord_eq, hr]; omega)
    | 1 => exact Fin.ext (by show a + 1 * j.val = a + j.val; omega)
  unfold At at h ⊢
  iintro ⟨⟨%f, %hf, H⟩, HR⟩
  iapply (wp_load (defs := defs₀ (F := F)) 𝒱₀ (V d c i) none Set.univ (m := mx)
    (hl := View.loadsAt_vmem h_S1x16) (k := fun w => k (shapeCast S16 w shapeCasts_S1x16_S16)) (S := mx.view.set) (f := f) (View.setOn_subset_set _ _)) $$ H
  iintro H
  iapply (h _ (hw f hf))
  isplitl [H]
  · iexists f
    isplitr [H]
    · ipureintro; exact hf
    · iexact H
  · iexact HR

/-- A scatter-add of sixteen lanes into one row. -/
theorem seq_scat {α : Type} (mc : Memref sig .scVector .vmem S64x256 .i32) (C : S64x256.Idx → BitVec 32) (X : S64x200.Idx → BitVec 32) (mask : IVec S16 1) (rw : IVec S16 32) (w : IVec S16 32) (a : Nat) (row : Fin 64)
    (hrow : ∀ x, (rw x).toNat = row.val) (hw : ∀ k : Fin 16, w (ix1 k) = tk X row (a + k.val))
    {R : sProp (𝕄 F)} {k : PUnit → Prog (TE F c i) α} {Q : α → sProp (𝕄 F)}
    (h : iprop(At (F := F) (V d c i) mc fullShare (fun j => C j + if (j 0).val = row.val then lanes X a mask row (j 1).val else 0#32) ∗ R) ⊢ W d c i (k ⟨⟩) Q) :
    iprop(At (F := F) (V d c i) mc fullShare C ∗ R) ⊢ W d c i (scat c i mc (broadcast S16 1#32) mask rw w >>= k) Q := by
  have hchk : k0_chk1 rw (andi w (broadcast S16 255#32)) := by
    intro b x
    match b with
    | 0 => show (rw x).toNat < 64; rw [hrow]; exact row.isLt
    | 1 =>
      show (w x &&& 255#32).toNat < 256
      rw [BitVec.toNat_and]
      exact Nat.lt_succ_of_le Nat.and_le_right
  show _ ⊢ W d c i (.op (.assume (k0_chk1 rw (andi w (broadcast S16 255#32))) (k0_chk1.dec _ _)) fun h => SparseCore.vectorStoreIdx mc ![rw, andi w (broadcast S16 255#32)] (shli (broadcast S16 1#32) (andi (shrsi w (broadcast S16 5#32)) (broadcast S16 24#32))) mask true (k0_idx1_inb rw (andi w (broadcast S16 255#32)) h.down) (View.stores_vmem_bits_univ h_S64x256 rfl) >>= k) Q
  refine BIBase.Entails.trans ?_ (wp_assume 𝒱₀ (V d c i) none Set.univ hchk)
  unfold At
  iintro ⟨⟨%f, %hf, H⟩, HR⟩
  iapply (SparseCore.wp_vectorStoreIdx (defs := defs₀ (F := F)) 𝒱₀ (V d c i) none Set.univ (base := mc) (f := f)) $$ [H]
  · rw [set_acc]; iexact H
  iintro H
  iapply h
  isplitl [H]
  · rw [set_acc, read_acc, hf]
    iapply (At_intro (thr := V d c i) (mm := mc) _ ((read_write_acc (F := F) mc f _).trans (funext fun j => storeIdx_row C X w mask rw a row hrow hw _ j)))
    iexact H
  · iexact HR

/-- What a group's first `r` scatter-adds of trip `t` leave. -/
def gst (X : S64x200.Idx → BitVec 32) (t : Nat) (C : S64x256.Idx → BitVec 32) (a : Nat) (mask : IVec S16 1) (r : Nat) : S64x256.Idx → BitVec 32 :=
  fun j => C j + if 8 * t ≤ (j 0).val ∧ (j 0).val < 8 * t + r then lanes X a mask (j 0) (j 1).val else 0#32

omit [FloatOps F] [Named F] in
theorem gst_zero (X : S64x200.Idx → BitVec 32) (t : Nat) (C : S64x256.Idx → BitVec 32) (a : Nat) (mask : IVec S16 1) : gst X t C a mask 0 = C := by
  funext j
  unfold gst
  rw [if_neg (by omega), show (0#32 : BitVec 32) = 0 from rfl, add_zero]

omit [FloatOps F] [Named F] in
theorem gst_succ (X : S64x200.Idx → BitVec 32) (t : Nat) (C : S64x256.Idx → BitVec 32) (a : Nat) (mask : IVec S16 1) (r : Nat) (row : Fin 64) (hr : row.val = 8 * t + r) :
    (fun j : S64x256.Idx => gst X t C a mask r j + if (j 0).val = row.val then lanes X a mask row (j 1).val else 0#32) = gst X t C a mask (r + 1) := by
  funext j
  unfold gst
  by_cases hj : (j 0).val = row.val
  · have hj' : j 0 = row := Fin.ext hj
    rw [if_neg (by omega), if_pos hj, if_pos (by omega), hj', show (0#32 : BitVec 32) = 0 from rfl, add_zero]
  · rw [if_neg hj, show (0#32 : BitVec 32) = 0 from rfl, add_zero]
    congr 1
    exact if_congr (by omega) rfl rfl

/-- Row `r` of trip `t`. -/
def rowOf (t : Fin k0_t2_loop.trips) (r : Fin 8) : Fin 64 := ⟨8 * t.val + r.val, by have : t.val < 8 := t.isLt; omega⟩

/-- One column group. -/
theorem seq_group {α : Type} (mx : Memref sig .scVector .vmem S64x200 .i32) (mc : Memref sig .scVector .vmem S64x256 .i32) (q : PosShare TreeShare) (X : S64x200.Idx → BitVec 32) (C : S64x256.Idx → BitVec 32)
    (mask : IVec S16 1) (t : Fin k0_t2_loop.trips) (a : Nat) (ha : a + 16 ≤ 200) {k : PUnit → Prog (TE F c i) α} {Q : α → sProp (𝕄 F)}
    (h : iprop(At (F := F) (V d c i) mx q X ∗ At (F := F) (V d c i) mc fullShare (gst X t.val C a mask 8)) ⊢ W d c i (k ⟨⟩) Q) :
    iprop(At (F := F) (V d c i) mx q X ∗ At (F := F) (V d c i) mc fullShare C) ⊢ W d c i (group c i mx mc (broadcast S16 1#32) mask t a ha >>= k) Q := by
  unfold group
  simp only [bind_assoc]
  have hrow : ∀ (r : Fin 8) (x : S16.Idx), ((broadcast S16 (rowWord t (BitVec.ofNat 32 r.val)) : IVec S16 32) x).toNat = (rowOf t r).val := fun r x => rowWord_eq t r
  have step : ∀ (r : Fin 8) (w : IVec S16 32) (_ : ∀ k : Fin 16, w (ix1 k) = tk X (rowOf t r) (a + k.val)) (k : PUnit → Prog (TE F c i) α)
      (_ : iprop(At (F := F) (V d c i) mc fullShare (gst X t.val C a mask (r.val + 1)) ∗ At (F := F) (V d c i) mx q X) ⊢ W d c i (k ⟨⟩) Q),
      iprop(At (F := F) (V d c i) mc fullShare (gst X t.val C a mask r.val) ∗ At (F := F) (V d c i) mx q X) ⊢ W d c i (scat c i mc (broadcast S16 1#32) mask (broadcast S16 (rowWord t (BitVec.ofNat 32 r.val))) w >>= k) Q := by
    intro r w hw k hk
    refine seq_scat d c i mc _ X mask _ w a (rowOf t r) (hrow r) hw ?_
    rw [gst_succ X t.val C a mask r.val (rowOf t r) rfl]
    exact hk
  refine seq_ld d c i mx q X t 0 (rowOf t 0) rfl a ha fun w0 h0 => ?_
  refine seq_ld d c i mx q X t 1 (rowOf t 1) rfl a ha fun w1 h1 => ?_
  refine seq_ld d c i mx q X t 2 (rowOf t 2) rfl a ha fun w2 h2 => ?_
  refine seq_ld d c i mx q X t 3 (rowOf t 3) rfl a ha fun w3 h3 => ?_
  refine seq_ld d c i mx q X t 4 (rowOf t 4) rfl a ha fun w4 h4 => ?_
  refine seq_ld d c i mx q X t 5 (rowOf t 5) rfl a ha fun w5 h5 => ?_
  refine seq_ld d c i mx q X t 6 (rowOf t 6) rfl a ha fun w6 h6 => ?_
  refine seq_ld d c i mx q X t 7 (rowOf t 7) rfl a ha fun w7 h7 => ?_
  refine sep_comm.1.trans ?_
  rw [show At (F := F) (V d c i) mc fullShare C = At (F := F) (V d c i) mc fullShare (gst X t.val C a mask 0) by rw [gst_zero]]
  refine step 0 w0 h0 _ ?_
  refine step 1 w1 h1 _ ?_
  refine step 2 w2 h2 _ ?_
  refine step 3 w3 h3 _ ?_
  refine step 4 w4 h4 _ ?_
  refine step 5 w5 h5 _ ?_
  refine step 6 w6 h6 _ ?_
  refine step 7 w7 h7 _ ?_
  exact sep_comm.1.trans h

/-- The counts after `t` trips and `n` columns of trip `t`. -/
def tst (X : S64x200.Idx → BitVec 32) (t n : Nat) : S64x256.Idx → BitVec 32 :=
  fun j => if (j 0).val < 8 * t then part X 200 (j 0) (j 1).val else if (j 0).val < 8 * t + 8 then part X n (j 0) (j 1).val else 0#32

omit [FloatOps F] [Named F] in
theorem tst_group (X : S64x200.Idx → BitVec 32) (t a n : Nat) (mask : IVec S16 1) (h : ∀ r c, part X a r c + lanes X a mask r c = part X n r c) :
    gst X t (tst X t a) a mask 8 = tst X t n := by
  funext j
  unfold gst tst
  by_cases h1 : (j 0).val < 8 * t
  · rw [if_pos h1, if_pos h1, if_neg (by omega), show (0#32 : BitVec 32) = 0 from rfl, add_zero]
  · rw [if_neg h1, if_neg h1]
    by_cases h2 : (j 0).val < 8 * t + 8
    · rw [if_pos h2, if_pos h2, if_pos (by omega)]; exact h (j 0) (j 1).val
    · rw [if_neg h2, if_neg h2, if_neg (by omega), show (0#32 : BitVec 32) = 0 from rfl, add_zero]

omit [FloatOps F] [Named F] in
theorem tst_tail (X : S64x200.Idx → BitVec 32) (t : Nat) : gst X t (tst X t 192) 184 tailMask 8 = tst X t 200 := by
  funext j
  unfold gst tst
  by_cases h1 : (j 0).val < 8 * t
  · rw [if_pos h1, if_pos h1, if_neg (by omega), show (0#32 : BitVec 32) = 0 from rfl, add_zero]
  · rw [if_neg h1, if_neg h1]
    by_cases h2 : (j 0).val < 8 * t + 8
    · rw [if_pos h2, if_pos h2, if_pos (by omega)]; exact part_tail X (j 0) (j 1).val
    · rw [if_neg h2, if_neg h2, if_neg (by omega), show (0#32 : BitVec 32) = 0 from rfl, add_zero]

omit [FloatOps F] [Named F] in
theorem tst_next (X : S64x200.Idx → BitVec 32) (t : Nat) : tst X t 200 = tst X (t + 1) 0 := by
  funext j
  unfold tst
  by_cases h1 : (j 0).val < 8 * t
  · rw [if_pos h1, if_pos (by omega)]
  · rw [if_neg h1]
    by_cases h2 : (j 0).val < 8 * t + 8
    · rw [if_pos h2, if_pos (by omega)]
    · rw [if_neg h2, if_neg (by omega)]
      simp [part]

omit [FloatOps F] [Named F] in
theorem tst_last (X : S64x200.Idx → BitVec 32) : tst X 8 0 = counts X := by
  funext j
  unfold tst counts
  rw [if_pos (show (j 0).val < 64 from (j 0).isLt)]

omit [FloatOps F] [Named F] in
theorem tst_first (X : S64x200.Idx → BitVec 32) : tst X 0 0 = fun _ => 0#32 := by
  funext j
  unfold tst
  rw [if_neg (by omega)]
  simp [part]

/-- One trip of the scatter loop. -/
theorem trip_wp (mx : Memref sig .scVector .vmem S64x200 .i32) (mc : Memref sig .scVector .vmem S64x256 .i32) (q : PosShare TreeShare) (X : S64x200.Idx → BitVec 32) (t : Fin k0_t2_loop.trips) :
    iprop(At (F := F) (V d c i) mx q X ∗ At (F := F) (V d c i) mc fullShare (tst X t.val 0))
      ⊢ W d c i (trip c i mx mc (broadcast S16 1#32) tailMask t) fun _ => iprop(At (F := F) (V d c i) mx q X ∗ At (F := F) (V d c i) mc fullShare (tst X (t.val + 1) 0)) := by
  have step : ∀ (a : Nat) (ha : a + 16 ≤ 200) (k : PUnit → Prog (TE F c i) PUnit) (Q : PUnit → sProp (𝕄 F))
      (_ : iprop(At (F := F) (V d c i) mx q X ∗ At (F := F) (V d c i) mc fullShare (tst X t.val (a + 16))) ⊢ W d c i (k ⟨⟩) Q),
      iprop(At (F := F) (V d c i) mx q X ∗ At (F := F) (V d c i) mc fullShare (tst X t.val a)) ⊢ W d c i (group c i mx mc (broadcast S16 1#32) (fun _ => 1#1) t a ha >>= k) Q := by
    intro a ha k Q hk
    refine seq_group d c i mx mc q X _ _ t a ha ?_
    rw [tst_group X t.val a (a + 16) _ (part_add X a)]
    exact hk
  unfold trip
  refine step 0 _ _ _ ?_
  refine step 16 _ _ _ ?_
  refine step 32 _ _ _ ?_
  refine step 48 _ _ _ ?_
  refine step 64 _ _ _ ?_
  refine step 80 _ _ _ ?_
  refine step 96 _ _ _ ?_
  refine step 112 _ _ _ ?_
  refine step 128 _ _ _ ?_
  refine step 144 _ _ _ ?_
  refine step 160 _ _ _ ?_
  refine step 176 _ _ _ ?_
  refine seq_group d c i mx mc q X _ _ t 184 _ ?_
  rw [tst_tail, tst_next]
  exact fupd_intro

seal trip in
/-- The scatter loop: from a cleared count buffer to the chunk's counts. -/
theorem seq_sloop {α : Type} (mx : Memref sig .scVector .vmem S64x200 .i32) (mc : Memref sig .scVector .vmem S64x256 .i32) (q : PosShare TreeShare) (X : S64x200.Idx → BitVec 32)
    {R : sProp (𝕄 F)} {k : PUnit → Prog (TE F c i) α} {Q : α → sProp (𝕄 F)}
    (h : iprop((At (F := F) (V d c i) mx q X ∗ At (F := F) (V d c i) mc fullShare (counts X)) ∗ R) ⊢ W d c i (k ⟨⟩) Q) :
    iprop((At (F := F) (V d c i) mx q X ∗ At (F := F) (V d c i) mc fullShare (fun _ => 0#32)) ∗ R) ⊢ W d c i (sloop c i mx mc >>= k) Q := by
  have hs : sloop (F := F) c i mx mc = Scf.Loop.for k0_t2_loop k0_t2_ok ⟨⟩ fun t _ => trip c i mx mc (broadcast S16 1#32) tailMask t := by
    unfold sloop tailMask; rfl
  rw [hs]
  iintro ⟨H, HR⟩
  iapply (Scf.wp_for_bind (M := 𝕄 F) frame (wpE (defs₀ (F := F)) 𝒱₀ (V d c i) none) Set.univ k0_t2_loop.lb k0_t2_loop.ub k0_t2_loop.st k0_t2_ok PUnit.unit
    (fun t _ => trip c i mx mc (broadcast S16 1#32) tailMask t)
    (fun n _ => iprop(At (F := F) (V d c i) mx q X ∗ At (F := F) (V d c i) mc fullShare (tst X n 0)))
    (fun t _ => trip_wp d c i mx mc q X t)) $$ [H]
  · rw [tst_first]; iexact H
  iintro %u H
  iapply h
  isplitl [H]
  · rw [show Scf.trips k0_t2_loop.lb k0_t2_loop.ub k0_t2_loop.st = 8 from by decide, tst_last]; iexact H
  · iexact HR

/-- The count buffer with the rows before `t`, and the first `n` columns of row `t`, cleared. -/
def zset (C : S64x256.Idx → BitVec 32) (t n : Nat) : S64x256.Idx → BitVec 32 :=
  fun j => if (j 0).val < t ∨ ((j 0).val = t ∧ (j 1).val < n) then 0#32 else C j

/-- Sixteen zeros stored, as the count buffer then reads. -/
theorem zst_read (mc : Memref sig .scVector .vmem S64x256 .i32) (C : S64x256.Idx → BitVec 32) (t : Fin k0_t1_loop.trips) (a : Nat) (ha : a + 16 ≤ 256)
  (f : mc.view.ty.Contents (Elt F)) (hf : mc.view.read (Elt F) f = zset C t.val a) :
  mc.view.read (Elt F) ((mc.access (Rect.unit (s := S64x256) (zOff t a) S1x16.size (zOff_inb t a ha))).write (Elt F) f (shapeCast S1x16 (broadcast S16 (0#32 : Elt F .i32)) shapeCasts_S16_S1x16) Finset.univ) = zset C t.val (a + 16) := by
  have hrow := zRow_eq t
  funext j
  by_cases hj : j ∈ (Rect.unit (s := S64x256) (zOff t a) S1x16.size (zOff_inb t a ha)).set
  · obtain ⟨y, rfl⟩ := LoadRect.exists_idx_of_mem _ hj
    refine (View.read_slice_write_emb (v := mc.view) (Val := Elt F) (Rect.unit (s := S64x256) (zOff t a) S1x16.size (zOff_inb t a ha)) f _ (x := y) (Finset.mem_univ _)).trans ?_
    unfold zset
    have h0 : (y 0).val < 1 := (y 0).isLt
    have h1 : (y 1).val < 16 := (y 1).isLt
    rw [if_pos]
    · rfl
    · right
      constructor
      · show (Scalar.indexCast (Scf.iv 0#32 1#32 t)).toNat + 1 * (y 0).val = t.val
        omega
      · show a + 1 * (y 1).val < a + 16
        omega
  · refine (View.read_slice_write_of_not_mem (v := mc.view) (Val := Elt F) (Rect.unit (s := S64x256) (zOff t a) S1x16.size (zOff_inb t a ha)) f _ Finset.univ (by rw [Rect.map_emb_univ]; exact hj)).trans ?_
    rw [hf]
    unfold zset
    refine if_congr ?_ rfl rfl
    have hn : ¬ ((j 0).val = t.val ∧ a ≤ (j 1).val ∧ (j 1).val < a + 16) := by
      rintro ⟨e0, e1, e2⟩
      apply hj
      rw [LoadRect.mem_set]
      intro b
      match b with
      | 0 => exact ⟨0, Nat.one_pos, by show (j 0).val = (Scalar.indexCast (Scf.iv 0#32 1#32 t)).toNat + 1 * 0; omega⟩
      | 1 => exact ⟨(j 1).val - a, by show (j 1).val - a < 16; omega, by show (j 1).val = a + 1 * ((j 1).val - a); omega⟩
    omega

/-- Sixteen zeros stored. -/
theorem seq_zst {α : Type} (mc : Memref sig .scVector .vmem S64x256 .i32) (C : S64x256.Idx → BitVec 32) (t : Fin k0_t1_loop.trips) (a : Nat) (ha : a + 16 ≤ 256)
    {k : PUnit → Prog (TE F c i) α} {Q : α → sProp (𝕄 F)}
    (h : At (F := F) (V d c i) mc fullShare (zset C t.val (a + 16)) ⊢ W d c i (k ⟨⟩) Q) :
    At (F := F) (V d c i) mc fullShare (zset C t.val a) ⊢ W d c i (zst c i mc (broadcast S16 0#32) t a ha >>= k) Q := by
  have hz := zst_read (F := F) mc C t a ha
  unfold zst At
  iintro ⟨%f, %hf, H⟩
  iapply (wp_load (defs := defs₀ (F := F)) 𝒱₀ (V d c i) none Set.univ (m := mc)
    (hl := View.loadsAt_vmem h_S1x16)
    (k := fun _ => Prog.op (.store mc (Rect.unit (s := S64x256) (zOff t a) S1x16.size (zOff_inb t a ha)) (shapeCast S1x16 (broadcast S16 0#32) shapeCasts_S16_S1x16) Finset.univ (View.stores_vmem_bits_univ h_S1x16 rfl) (.inl rfl)) k)
    (S := mc.view.set) (f := f) (View.setOn_subset_set _ _)) $$ H
  iintro H
  iapply (wp_store (defs := defs₀ (F := F)) 𝒱₀ (V d c i) none Set.univ (m := mc) (r := Rect.unit (s := S64x256) (zOff t a) S1x16.size (zOff_inb t a ha)) (S := mc.view.set) (f := f)
    (w := shapeCast S1x16 (broadcast S16 0#32) shapeCasts_S16_S1x16) (Mk := Finset.univ) (hx := View.stores_vmem_bits_univ h_S1x16 rfl) (hm := .inl rfl) (k := k)
    (View.set_slice_subset _ _)) $$ H
  iintro H
  iapply h
  iapply (At_intro (thr := V d c i) (mm := mc) _ (hz f hf))
  iexact H

/-- One trip of the zero loop. -/
theorem ztrip_wp (mc : Memref sig .scVector .vmem S64x256 .i32) (C : S64x256.Idx → BitVec 32) (t : Fin k0_t1_loop.trips) :
    At (F := F) (V d c i) mc fullShare (zset C t.val 0)
      ⊢ W d c i (ztrip c i mc (broadcast S16 0#32) t) fun _ => At (F := F) (V d c i) mc fullShare (zset C (t.val + 1) 0) := by
  have hz : zset C t.val 256 = zset C (t.val + 1) 0 := by
    funext j
    unfold zset
    have hj : (j 1).val < 256 := (j 1).isLt
    exact if_congr (by omega) rfl rfl
  unfold ztrip
  refine seq_zst d c i mc C t 0 _ ?_
  refine seq_zst d c i mc C t 16 _ ?_
  refine seq_zst d c i mc C t 32 _ ?_
  refine seq_zst d c i mc C t 48 _ ?_
  refine seq_zst d c i mc C t 64 _ ?_
  refine seq_zst d c i mc C t 80 _ ?_
  refine seq_zst d c i mc C t 96 _ ?_
  refine seq_zst d c i mc C t 112 _ ?_
  refine seq_zst d c i mc C t 128 _ ?_
  refine seq_zst d c i mc C t 144 _ ?_
  refine seq_zst d c i mc C t 160 _ ?_
  refine seq_zst d c i mc C t 176 _ ?_
  refine seq_zst d c i mc C t 192 _ ?_
  refine seq_zst d c i mc C t 208 _ ?_
  refine seq_zst d c i mc C t 224 _ ?_
  refine seq_zst d c i mc C t 240 _ ?_
  rw [hz]
  exact fupd_intro

/-- The zero loop: whatever the count buffer held, it ends cleared. -/
theorem seq_zloop {α : Type} (mc : Memref sig .scVector .vmem S64x256 .i32) (C : S64x256.Idx → BitVec 32)
    {R : sProp (𝕄 F)} {k : PUnit → Prog (TE F c i) α} {Q : α → sProp (𝕄 F)}
    (h : iprop(At (F := F) (V d c i) mc fullShare (fun _ => 0#32) ∗ R) ⊢ W d c i (k ⟨⟩) Q) :
    iprop(At (F := F) (V d c i) mc fullShare C ∗ R) ⊢ W d c i (zloop c i mc >>= k) Q := by
  have h0 : C = zset C 0 0 := by
    funext j
    unfold zset
    rw [if_neg (by omega)]
  have h1 : zset C 64 0 = fun _ => 0#32 := by
    funext j
    unfold zset
    rw [if_pos (.inl (show (j 0).val < 64 from (j 0).isLt))]
  unfold zloop
  iintro ⟨H, HR⟩
  iapply (Scf.wp_for_bind (M := 𝕄 F) frame (wpE (defs₀ (F := F)) 𝒱₀ (V d c i) none) Set.univ k0_t1_loop.lb k0_t1_loop.ub k0_t1_loop.st k0_t1_ok PUnit.unit
    (fun t _ => ztrip c i mc (broadcast S16 0#32) t)
    (fun n _ => At (F := F) (V d c i) mc fullShare (zset C n 0))
    (fun t _ => ztrip_wp d c i mc C t)) $$ [H]
  · rw [← h0]; iexact H
  iintro %u H
  iapply h
  isplitl [H]
  · rw [show Scf.trips k0_t1_loop.lb k0_t1_loop.ub k0_t1_loop.st = 64 from by decide, h1]; iexact H
  · iexact HR

end Body

end Cert.Hist
-- ==== Proof.Tile.lean ====
/- The task of a tile: four chunks copied in, counted, and copied out. -/
module

public import proofs.«01_k».proof.Proof.Loops
public import Idealize.ShloMosaic.Lib.Transfers

@[expose] public section

noncomputable section

namespace Cert.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F] [Named F]

/-- A memref held whole at some contents. -/
abbrev Any {sp : Space} {s : Shape} (thr : Thread nD τ) (mm : Memref sig thr.2.kind sp s .i32) : sProp (𝕄 F) :=
  iprop(∃ Y, At (F := F) thr mm fullShare Y)

/-- What a thread owes, its waits those recorded at first and any at the transfers' index. -/
abbrev Ow (thr : Thread nD τ) (O : CellTallies nD τ sig (HIx 2)) (W₀ : Waits sig (HIx 2)) : sProp (𝕄 F) :=
  iprop(∃ W, ⌜∀ p ∈ W, p ∈ W₀ ∨ p.2 = none⌝ ∗ owes thr O W)

/-- A copy in flight on a cell, delivering `P`. -/
abbrev Fly {sp : Space} {s : Shape} (thr : Thread nD τ) (b : Memref sig thr.2.kind sp s .i32) (e : DmaSems sig S_) (P : sProp (𝕄 F)) : sProp (𝕄 F) :=
  Transfers.Flight countersEmb thr (.dma e.sem) (default : HIx 2) (b.view.amount (.dma e.sem)) P

section Body
variable (d : Dev nD) (c : Fin τ.nSC) (i : Fin τ.nSub)

/-- A finished program. -/
theorem wp_done {α : Type} {P : sProp (𝕄 F)} {Q : α → sProp (𝕄 F)} (a : α) (h : P ⊢ Q a) : P ⊢ W d c i (pure a) Q :=
  BIBase.Entails.trans h fupd_intro

/-- A part, then the rest. -/
theorem wp_part {α β : Type} {P : sProp (𝕄 F)} {p : Prog (TE F c i) α} {k : α → Prog (TE F c i) β} {Q : α → sProp (𝕄 F)} {R : β → sProp (𝕄 F)} (h : P ⊢ W d c i p Q) :
    P ⊢ iprop((∀ a, Q a -∗ W d c i (k a) R) -∗ W d c i (p >>= k) R) := by
  show _ ⊢ iprop(_ -∗ wp frame _ _ _ _)
  rw [Idealize.SL.Sem.wp_bind]
  iintro H Hk
  iapply wp_wand_r
  isplitl [H]
  · iapply h $$ H
  · iexact Hk

/-- A copy starts. -/
theorem wp_copy {α : Type} {sp sp' : Space} {s : Shape} (x : Memref sig .scVector sp s .i32) (b : Memref sig .scVector sp' s .i32) (e : DmaSems sig S_) (q : PosShare TreeShare) (X : s.Idx → BitVec 32)
    (hs : 0 < s.numel) {h1 : x.view.WordExact} {h2 : b.view.WordExact} {h3 : DmaTarget.Typed (nD := nD) (τ := τ) (p := .scVector c i) sp (.dma e.sem) (.here b)}
    {k : PUnit → Prog (TE F c i) α} {Q : α → sProp (𝕄 F)} :
    iprop(At (F := F) (V d c i) x q X ∗ Any (F := F) (V d c i) b ∗ semVal (V d c i, .dma e.sem) 0)
      ⊢ iprop((Fly (F := F) (V d c i) b e iprop(At (F := F) (V d c i) b fullShare X ∗ At (F := F) (V d c i) x q X) -∗ W d c i (k ⟨⟩) Q)
        -∗ W d c i (.op (.enqueueDma x (.here b) (.dma e.sem) h1 h2 h3) k) Q) := by
  iintro ⟨Hx, ⟨%Y, Hb⟩, Hv⟩ Hk
  unfold At
  icases Hx with ⟨%f, %hf, Hx⟩
  icases Hb with ⟨%g, -, Hb⟩
  iapply (Transfers.wp_dmaLocal (defs := defs₀ (F := F)) countersEmb 𝒱₀ (V d c i) none (src := x) (dst := b) (via := .same) (fs := f) (fd := g) (Sd := b.view.set) (q := q)
    (default : HIx 2) (b.view.amount (.dma e.sem)) rfl (View.amount_pos _ _ hs) subset_rfl) $$ [Hx Hb Hv]
  · isplitl [Hx]; · iexact Hx
    isplitl [Hb]; · iexact Hb
    iexact Hv
  iintro HF
  iapply Hk
  iapply (Transfers.Flight_mono ?_) $$ HF
  iintro ⟨Hb, Hx⟩
  isplitl [Hb]
  · iexists _
    isplitr [Hb]
    swap
    · iexact Hb
    ipureintro
    exact (View.read_write_univ _ _).trans hf
  · iexists f
    isplitr [Hx]
    · ipureintro; exact hf
    · iexact Hx

/-- The wait for a copy. -/
theorem wp_wait {α : Type} {sp sp' : Space} {s : Shape} (x : Memref sig .scVector sp s .i32) (b : Memref sig .scVector sp' s .i32) (e : DmaSems sig S_) (P : sProp (𝕄 F))
    (O : CellTallies nD τ sig (HIx 2)) (W₀ : Waits sig (HIx 2))
    {h1 : x.view.WordExact} {h2 : b.view.WordExact} {k : PUnit → Prog (TE F c i) α} {Q : α → sProp (𝕄 F)} :
    iprop(Transfers.MayWaits (V d c i) (default : HIx 2) O ∗ Fly (F := F) (V d c i) b e P ∗ Ow (F := F) (V d c i) O W₀)
      ⊢ iprop((iprop(P ∗ semVal (V d c i, .dma e.sem) 0 ∗ Ow (F := F) (V d c i) O W₀) -∗ W d c i (k ⟨⟩) Q)
        -∗ W d c i (.op (.waitDma2 e.sem x b h1 h2) k) Q) := by
  iintro ⟨#Hm, HF, ⟨%W', %hW, HO⟩⟩ Hk
  iapply (Transfers.wp_waitLocalO (defs := defs₀ (F := F)) countersEmb 𝒱₀ (V d c i) none (default : HIx 2) (N := b.view.amount (.dma e.sem)) rfl (O := O) (W := W')) $$ [HF HO]
  · isplitl [HF]; · iexact HF
    isplitl [HO]; · iexact HO
    iapply (Transfers.MayWaits.elim (SemLoc.dma e.sem)) $$ Hm
  iintro ⟨HP, Hv, HO⟩
  iapply Hk
  isplitl [HP]; · iexact HP
  isplitl [Hv]; · iexact Hv
  iexists _
  isplitr [HO]
  swap
  · iexact HO
  ipureintro
  intro p hp
  rcases Finset.mem_insert.mp hp with rfl | hp
  · exact .inr rfl
  · exact hW p hp

/-- The zero loop, as a step. -/
theorem wp_zloop {α : Type} (mc : Memref sig .scVector .vmem S64x256 .i32) {k : PUnit → Prog (TE F c i) α} {Q : α → sProp (𝕄 F)} :
    Any (F := F) (V d c i) mc ⊢ iprop((At (F := F) (V d c i) mc fullShare (fun _ => 0#32) -∗ W d c i (k ⟨⟩) Q) -∗ W d c i (zloop c i mc >>= k) Q) := by
  iintro ⟨%Y, H⟩ Hk
  iapply (seq_zloop d c i mc Y (k := k) (Q := Q) (R := iprop(At (F := F) (V d c i) mc fullShare (fun _ => 0#32) -∗ W d c i (k ⟨⟩) Q)) wand_elim_right)
  isplitl [H]; · iexact H
  iexact Hk

/-- The scatter loop, as a step. -/
theorem wp_sloop {α : Type} (mx : Memref sig .scVector .vmem S64x200 .i32) (mc : Memref sig .scVector .vmem S64x256 .i32) (X : S64x200.Idx → BitVec 32) {k : PUnit → Prog (TE F c i) α} {Q : α → sProp (𝕄 F)} :
    iprop(At (F := F) (V d c i) mx fullShare X ∗ At (F := F) (V d c i) mc fullShare (fun _ => 0#32))
      ⊢ iprop((iprop(At (F := F) (V d c i) mx fullShare X ∗ At (F := F) (V d c i) mc fullShare (counts X)) -∗ W d c i (k ⟨⟩) Q) -∗ W d c i (sloop c i mx mc >>= k) Q) := by
  iintro H Hk
  iapply (seq_sloop d c i mx mc fullShare X (k := k) (Q := Q)
    (R := iprop(iprop(At (F := F) (V d c i) mx fullShare X ∗ At (F := F) (V d c i) mc fullShare (counts X)) -∗ W d c i (k ⟨⟩) Q)) wand_elim_right)
  isplitl [H]; · iexact H
  iexact Hk

/-- A chunk's copy in starts. -/
theorem wp_inn {α : Type} (x : Memref sig .scVector .hbm S64x200 .i32) (b : Memref sig .scVector .vmem S64x200 .i32) (e : DmaSems sig S_) (q : PosShare TreeShare) (X : S64x200.Idx → BitVec 32)
    {k : PUnit → Prog (TE F c i) α} {Q : α → sProp (𝕄 F)} :
    iprop(At (F := F) (V d c i) x q X ∗ Any (F := F) (V d c i) b ∗ semVal (V d c i, .dma e.sem) 0)
      ⊢ iprop((Fly (F := F) (V d c i) b e iprop(At (F := F) (V d c i) b fullShare X ∗ At (F := F) (V d c i) x q X) -∗ W d c i (k ⟨⟩) Q)
        -∗ W d c i (inn c i x b e >>= k) Q) :=
  wp_copy d c i x b e q X (by decide)

/-- A chunk's copy out starts. -/
theorem wp_out {α : Type} (b : Memref sig .scVector .vmem S64x256 .i32) (o : Memref sig .scVector .hbm S64x256 .i32) (e : DmaSems sig S_) (X : S64x256.Idx → BitVec 32)
    {k : PUnit → Prog (TE F c i) α} {Q : α → sProp (𝕄 F)} :
    iprop(At (F := F) (V d c i) b fullShare X ∗ Any (F := F) (V d c i) o ∗ semVal (V d c i, .dma e.sem) 0)
      ⊢ iprop((Fly (F := F) (V d c i) o e iprop(At (F := F) (V d c i) o fullShare X ∗ At (F := F) (V d c i) b fullShare X) -∗ W d c i (k ⟨⟩) Q)
        -∗ W d c i (out c i b o e >>= k) Q) :=
  wp_copy d c i b o e fullShare X (by decide)

section Waits
variable (O : CellTallies nD τ sig (HIx 2)) (W₀ : Waits sig (HIx 2))

/-- The wait for a copy in. -/
theorem wp_innW {α : Type} (x : Memref sig .scVector .hbm S64x200 .i32) (b : Memref sig .scVector .vmem S64x200 .i32) (e : DmaSems sig S_) (P : sProp (𝕄 F))
    {k : PUnit → Prog (TE F c i) α} {Q : α → sProp (𝕄 F)} :
    iprop(Transfers.MayWaits (V d c i) (default : HIx 2) O ∗ Fly (F := F) (V d c i) b e P ∗ Ow (F := F) (V d c i) O W₀)
      ⊢ iprop((iprop(P ∗ semVal (V d c i, .dma e.sem) 0 ∗ Ow (F := F) (V d c i) O W₀) -∗ W d c i (k ⟨⟩) Q)
        -∗ W d c i (innW c i x b e >>= k) Q) :=
  wp_wait d c i x b e P O W₀

/-- The wait for a copy out. -/
theorem wp_outW {α : Type} (b : Memref sig .scVector .vmem S64x256 .i32) (o : Memref sig .scVector .hbm S64x256 .i32) (e : DmaSems sig S_) (P : sProp (𝕄 F))
    {k : PUnit → Prog (TE F c i) α} {Q : α → sProp (𝕄 F)} :
    iprop(Transfers.MayWaits (V d c i) (default : HIx 2) O ∗ Fly (F := F) (V d c i) o e P ∗ Ow (F := F) (V d c i) O W₀)
      ⊢ iprop((iprop(P ∗ semVal (V d c i, .dma e.sem) 0 ∗ Ow (F := F) (V d c i) O W₀) -∗ W d c i (k ⟨⟩) Q)
        -∗ W d c i (outW c i b o e >>= k) Q) :=
  wp_wait d c i b o e P O W₀

section Parts
variable (x0 x1 x2 x3 : Memref sig .scVector .hbm S64x200 .i32) (d0 d1 d2 d3 : Memref sig .scVector .hbm S64x256 .i32)
variable (xa xb : Memref sig .scVector .vmem S64x200 .i32) (ca cb : Memref sig .scVector .vmem S64x256 .i32) (sxa sxb sca scb : DmaSems sig S_)
variable (q : PosShare TreeShare) (X0 X1 X2 X3 : S64x200.Idx → BitVec 32)

/-- What the tile holds between parts: a token buffer's copy in flight. -/
abbrev FlyIn (x : Memref sig .scVector .hbm S64x200 .i32) (b : Memref sig .scVector .vmem S64x200 .i32) (e : DmaSems sig S_) (X : S64x200.Idx → BitVec 32) : sProp (𝕄 F) :=
  Fly (F := F) (V d c i) b e iprop(At (F := F) (V d c i) b fullShare X ∗ At (F := F) (V d c i) x q X)

/-- What the tile holds between parts: a count buffer's copy in flight. -/
abbrev FlyOut (b : Memref sig .scVector .vmem S64x256 .i32) (o : Memref sig .scVector .hbm S64x256 .i32) (e : DmaSems sig S_) (X : S64x200.Idx → BitVec 32) : sProp (𝕄 F) :=
  Fly (F := F) (V d c i) o e iprop(At (F := F) (V d c i) o fullShare (counts X) ∗ At (F := F) (V d c i) b fullShare (counts X))

/-- The first part. -/
theorem partA_wp :
    iprop(Transfers.MayWaits (V d c i) (default : HIx 2) O ∗ Ow (F := F) (V d c i) O W₀
        ∗ At (F := F) (V d c i) x0 q X0 ∗ At (F := F) (V d c i) x1 q X1 ∗ Any (F := F) (V d c i) xa ∗ Any (F := F) (V d c i) xb ∗ Any (F := F) (V d c i) ca
        ∗ semVal (V d c i, .dma sxa.sem) 0 ∗ semVal (V d c i, .dma sxb.sem) 0)
      ⊢ W d c i (partA c i x0 x1 xa xb ca sxa sxb PUnit.unit) fun _ =>
        iprop(Ow (F := F) (V d c i) O W₀ ∗ At (F := F) (V d c i) x0 q X0 ∗ FlyIn d c i q x1 xb sxb X1 ∗ Any (F := F) (V d c i) xa
          ∗ At (F := F) (V d c i) ca fullShare (counts X0) ∗ semVal (V d c i, .dma sxa.sem) 0) := by
  iintro ⟨#Hm, Ho, H0, H1, Ha, Hb, Hc, Va, Vb⟩
  unfold partA
  iapply (wp_inn d c i x0 xa sxa q X0) $$ [H0 Ha Va]
  · isplitl [H0]; · iexact H0
    isplitl [Ha]; · iexact Ha
    iexact Va
  iintro HF
  iapply (wp_innW d c i O W₀ x0 xa sxa _) $$ [HF Ho]
  · isplitr; · iexact Hm
    isplitl [HF]; · iexact HF
    iexact Ho
  iintro ⟨⟨Ha, H0⟩, Va, Ho⟩
  iapply (wp_inn d c i x1 xb sxb q X1) $$ [H1 Hb Vb]
  · isplitl [H1]; · iexact H1
    isplitl [Hb]; · iexact Hb
    iexact Vb
  iintro HG
  iapply (wp_zloop d c i ca) $$ Hc
  iintro Hc
  iapply (wp_sloop d c i xa ca X0) $$ [Ha Hc]
  · isplitl [Ha]; · iexact Ha
    iexact Hc
  iintro ⟨Ha, Hc⟩
  iapply (wp_done d c i PUnit.unit (BIBase.Entails.rfl))
  isplitl [Ho]; · iexact Ho
  isplitl [H0]; · iexact H0
  isplitl [HG]; · iexact HG
  isplitl [Ha]
  · iexists _; iexact Ha
  isplitl [Hc]; · iexact Hc
  iexact Va

/-- The second part. -/
theorem partB_wp :
    iprop(Transfers.MayWaits (V d c i) (default : HIx 2) O ∗ Ow (F := F) (V d c i) O W₀
        ∗ At (F := F) (V d c i) x2 q X2 ∗ At (F := F) (V d c i) x3 q X3 ∗ Any (F := F) (V d c i) d0 ∗ Any (F := F) (V d c i) d1
        ∗ FlyIn d c i q x1 xb sxb X1 ∗ Any (F := F) (V d c i) xa ∗ At (F := F) (V d c i) ca fullShare (counts X0) ∗ Any (F := F) (V d c i) cb
        ∗ semVal (V d c i, .dma sxa.sem) 0 ∗ semVal (V d c i, .dma sca.sem) 0 ∗ semVal (V d c i, .dma scb.sem) 0)
      ⊢ W d c i (partB c i x1 x2 x3 d0 d1 xa xb ca cb sxa sxb sca scb) fun _ =>
        iprop(Ow (F := F) (V d c i) O W₀ ∗ At (F := F) (V d c i) x1 q X1 ∗ At (F := F) (V d c i) x2 q X2 ∗ FlyIn d c i q x3 xb sxb X3
          ∗ FlyOut d c i ca d0 sca X0 ∗ FlyOut d c i cb d1 scb X1 ∗ At (F := F) (V d c i) xa fullShare X2 ∗ semVal (V d c i, .dma sxa.sem) 0) := by
  iintro ⟨#Hm, Ho, H2, H3, D0, D1, HG, Ha, Hc, Hd, Va, Vc, Vd⟩
  unfold partB
  iapply (wp_out d c i ca d0 sca (counts X0)) $$ [Hc D0 Vc]
  · isplitl [Hc]; · iexact Hc
    isplitl [D0]; · iexact D0
    iexact Vc
  iintro F0
  iapply (wp_innW d c i O W₀ x1 xb sxb _) $$ [HG Ho]
  · isplitr; · iexact Hm
    isplitl [HG]; · iexact HG
    iexact Ho
  iintro ⟨⟨Hb, H1⟩, Vb, Ho⟩
  iapply (wp_inn d c i x2 xa sxa q X2) $$ [H2 Ha Va]
  · isplitl [H2]; · iexact H2
    isplitl [Ha]; · iexact Ha
    iexact Va
  iintro HF
  iapply (wp_zloop d c i cb) $$ Hd
  iintro Hd
  iapply (wp_sloop d c i xb cb X1) $$ [Hb Hd]
  · isplitl [Hb]; · iexact Hb
    iexact Hd
  iintro ⟨Hb, Hd⟩
  iapply (wp_out d c i cb d1 scb (counts X1)) $$ [Hd D1 Vd]
  · isplitl [Hd]; · iexact Hd
    isplitl [D1]; · iexact D1
    iexact Vd
  iintro F1
  iapply (wp_innW d c i O W₀ x2 xa sxa _) $$ [HF Ho]
  · isplitr; · iexact Hm
    isplitl [HF]; · iexact HF
    iexact Ho
  iintro ⟨⟨Ha, H2⟩, Va, Ho⟩
  iapply (wp_inn d c i x3 xb sxb q X3) $$ [H3 Hb Vb]
  · isplitl [H3]; · iexact H3
    isplitl [Hb]
    · iexists _; iexact Hb
    iexact Vb
  iintro HG
  iapply (wp_done d c i PUnit.unit (BIBase.Entails.rfl))
  isplitl [Ho]; · iexact Ho
  isplitl [H1]; · iexact H1
  isplitl [H2]; · iexact H2
  isplitl [HG]; · iexact HG
  isplitl [F0]; · iexact F0
  isplitl [F1]; · iexact F1
  isplitl [Ha]; · iexact Ha
  iexact Va

/-- The third part. -/
theorem partC_wp :
    iprop(Transfers.MayWaits (V d c i) (default : HIx 2) O ∗ Ow (F := F) (V d c i) O W₀
        ∗ Any (F := F) (V d c i) d2 ∗ Any (F := F) (V d c i) d3 ∗ FlyIn d c i q x3 xb sxb X3
        ∗ FlyOut d c i ca d0 sca X0 ∗ FlyOut d c i cb d1 scb X1 ∗ At (F := F) (V d c i) xa fullShare X2)
      ⊢ W d c i (partC c i x3 d0 d1 d2 d3 xa xb ca cb sxb sca scb) fun _ =>
        iprop(Ow (F := F) (V d c i) O W₀ ∗ At (F := F) (V d c i) x3 q X3 ∗ At (F := F) (V d c i) d0 fullShare (counts X0) ∗ At (F := F) (V d c i) d1 fullShare (counts X1)
          ∗ FlyOut d c i ca d2 sca X2 ∗ FlyOut d c i cb d3 scb X3 ∗ Any (F := F) (V d c i) xa ∗ Any (F := F) (V d c i) xb ∗ semVal (V d c i, .dma sxb.sem) 0) := by
  iintro ⟨#Hm, Ho, D2, D3, HG, F0, F1, Ha⟩
  unfold partC
  iapply (wp_outW d c i O W₀ ca d0 sca _) $$ [F0 Ho]
  · isplitr; · iexact Hm
    isplitl [F0]; · iexact F0
    iexact Ho
  iintro ⟨⟨D0, Hc⟩, Vc, Ho⟩
  iapply (wp_zloop d c i ca) $$ [Hc]
  · iexists _; iexact Hc
  iintro Hc
  iapply (wp_sloop d c i xa ca X2) $$ [Ha Hc]
  · isplitl [Ha]; · iexact Ha
    iexact Hc
  iintro ⟨Ha, Hc⟩
  iapply (wp_out d c i ca d2 sca (counts X2)) $$ [Hc D2 Vc]
  · isplitl [Hc]; · iexact Hc
    isplitl [D2]; · iexact D2
    iexact Vc
  iintro F2
  iapply (wp_innW d c i O W₀ x3 xb sxb _) $$ [HG Ho]
  · isplitr; · iexact Hm
    isplitl [HG]; · iexact HG
    iexact Ho
  iintro ⟨⟨Hb, H3⟩, Vb, Ho⟩
  iapply (wp_outW d c i O W₀ cb d1 scb _) $$ [F1 Ho]
  · isplitr; · iexact Hm
    isplitl [F1]; · iexact F1
    iexact Ho
  iintro ⟨⟨D1, Hd⟩, Vd, Ho⟩
  iapply (wp_zloop d c i cb) $$ [Hd]
  · iexists _; iexact Hd
  iintro Hd
  iapply (wp_sloop d c i xb cb X3) $$ [Hb Hd]
  · isplitl [Hb]; · iexact Hb
    iexact Hd
  iintro ⟨Hb, Hd⟩
  iapply (wp_out d c i cb d3 scb (counts X3)) $$ [Hd D3 Vd]
  · isplitl [Hd]; · iexact Hd
    isplitl [D3]; · iexact D3
    iexact Vd
  iintro F3
  iapply (wp_done d c i PUnit.unit (BIBase.Entails.rfl))
  isplitl [Ho]; · iexact Ho
  isplitl [H3]; · iexact H3
  isplitl [D0]; · iexact D0
  isplitl [D1]; · iexact D1
  isplitl [F2]; · iexact F2
  isplitl [F3]; · iexact F3
  isplitl [Ha]
  · iexists _; iexact Ha
  isplitl [Hb]
  · iexists _; iexact Hb
  iexact Vb

/-- The tile's task: from the tokens of its four chunks, the counts of its four chunks. -/
theorem task_wp :
    iprop(Transfers.MayWaits (V d c i) (default : HIx 2) O ∗ Ow (F := F) (V d c i) O W₀
        ∗ (At (F := F) (V d c i) x0 q X0 ∗ At (F := F) (V d c i) x1 q X1 ∗ At (F := F) (V d c i) x2 q X2 ∗ At (F := F) (V d c i) x3 q X3)
        ∗ (Any (F := F) (V d c i) d0 ∗ Any (F := F) (V d c i) d1 ∗ Any (F := F) (V d c i) d2 ∗ Any (F := F) (V d c i) d3)
        ∗ (Any (F := F) (V d c i) xa ∗ Any (F := F) (V d c i) xb ∗ Any (F := F) (V d c i) ca ∗ Any (F := F) (V d c i) cb)
        ∗ semVal (V d c i, .dma sxa.sem) 0 ∗ semVal (V d c i, .dma sxb.sem) 0 ∗ semVal (V d c i, .dma sca.sem) 0 ∗ semVal (V d c i, .dma scb.sem) 0)
      ⊢ W d c i (task c i x0 x1 x2 x3 d0 d1 d2 d3 xa xb ca cb sxa sxb sca scb) fun _ =>
        iprop(Ow (F := F) (V d c i) O W₀
        ∗ (At (F := F) (V d c i) x0 q X0 ∗ At (F := F) (V d c i) x1 q X1 ∗ At (F := F) (V d c i) x2 q X2 ∗ At (F := F) (V d c i) x3 q X3)
        ∗ (At (F := F) (V d c i) d0 fullShare (counts X0) ∗ At (F := F) (V d c i) d1 fullShare (counts X1) ∗ At (F := F) (V d c i) d2 fullShare (counts X2) ∗ At (F := F) (V d c i) d3 fullShare (counts X3))
        ∗ (Any (F := F) (V d c i) xa ∗ Any (F := F) (V d c i) xb ∗ Any (F := F) (V d c i) ca ∗ Any (F := F) (V d c i) cb)
        ∗ semVal (V d c i, .dma sxa.sem) 0 ∗ semVal (V d c i, .dma sxb.sem) 0 ∗ semVal (V d c i, .dma sca.sem) 0 ∗ semVal (V d c i, .dma scb.sem) 0) := by
  iintro ⟨#Hm, Ho, ⟨H0, H1, H2, H3⟩, ⟨D0, D1, D2, D3⟩, ⟨Ha, Hb, Hc, Hd⟩, Va, Vb, Vc, Vd⟩
  unfold task
  iapply (wp_part d c i (partA_wp d c i O W₀ x0 x1 xa xb ca sxa sxb q X0 X1)) $$ [Ho H0 H1 Ha Hb Hc Va Vb]
  · isplitr; · iexact Hm
    isplitl [Ho]; · iexact Ho
    isplitl [H0]; · iexact H0
    isplitl [H1]; · iexact H1
    isplitl [Ha]; · iexact Ha
    isplitl [Hb]; · iexact Hb
    isplitl [Hc]; · iexact Hc
    isplitl [Va]; · iexact Va
    iexact Vb
  iintro %_ ⟨Ho, H0, HG, Ha, Hc, Va⟩
  iapply (wp_part d c i (partB_wp d c i O W₀ x1 x2 x3 d0 d1 xa xb ca cb sxa sxb sca scb q X0 X1 X2 X3)) $$ [Ho H2 H3 D0 D1 HG Ha Hc Hd Va Vc Vd]
  · isplitr; · iexact Hm
    isplitl [Ho]; · iexact Ho
    isplitl [H2]; · iexact H2
    isplitl [H3]; · iexact H3
    isplitl [D0]; · iexact D0
    isplitl [D1]; · iexact D1
    isplitl [HG]; · iexact HG
    isplitl [Ha]; · iexact Ha
    isplitl [Hc]; · iexact Hc
    isplitl [Hd]; · iexact Hd
    isplitl [Va]; · iexact Va
    isplitl [Vc]; · iexact Vc
    iexact Vd
  iintro %_ ⟨Ho, H1, H2, HG, F0, F1, Ha, Va⟩
  iapply (wp_part d c i (partC_wp d c i O W₀ x3 d0 d1 d2 d3 xa xb ca cb sxb sca scb q X0 X1 X2 X3)) $$ [Ho D2 D3 HG F0 F1 Ha]
  · isplitr; · iexact Hm
    isplitl [Ho]; · iexact Ho
    isplitl [D2]; · iexact D2
    isplitl [D3]; · iexact D3
    isplitl [HG]; · iexact HG
    isplitl [F0]; · iexact F0
    isplitl [F1]; · iexact F1
    iexact Ha
  iintro %_ ⟨Ho, H3, D0, D1, F2, F3, Ha, Hb, Vb⟩
  iapply (wp_outW d c i O W₀ ca d2 sca _) $$ [F2 Ho]
  · isplitr; · iexact Hm
    isplitl [F2]; · iexact F2
    iexact Ho
  iintro ⟨⟨D2, Hc⟩, Vc, Ho⟩
  iapply (wp_outW d c i O W₀ cb d3 scb _) $$ [F3 Ho]
  · isplitr; · iexact Hm
    isplitl [F3]; · iexact F3
    iexact Ho
  iintro ⟨⟨D3, Hd⟩, Vd, Ho⟩
  iapply (wp_done d c i PUnit.unit (BIBase.Entails.rfl))
  isplitl [Ho]; · iexact Ho
  isplitl [H0 H1 H2 H3]
  · isplitl [H0]; · iexact H0
    isplitl [H1]; · iexact H1
    isplitl [H2]; · iexact H2
    iexact H3
  isplitl [D0 D1 D2 D3]
  · isplitl [D0]; · iexact D0
    isplitl [D1]; · iexact D1
    isplitl [D2]; · iexact D2
    iexact D3
  isplitl [Ha Hb Hc Hd]
  · isplitl [Ha]; · iexact Ha
    isplitl [Hb]; · iexact Hb
    isplitl [Hc]
    · iexists _; iexact Hc
    iexists _; iexact Hd
  isplitl [Va]; · iexact Va
  isplitl [Vb]; · iexact Vb
  isplitl [Vc]; · iexact Vc
  iexact Vd

end Parts
end Waits
end Body

end Cert.Hist
-- ==== Proof.Rows.lean ====
/- The rows of the token array and of the two count arrays: which chunk each tile has, and the counts the whole arrays hold. -/
module

public import proofs.«01_k».proof.Proof.Tile

@[expose] public section

noncomputable section

namespace Cert.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F] [Named F]

/-- The packed count of row `n` of the token array at column `c`. -/
def rowCnt (x : S16384x200.Idx → BitVec 32) (n : Fin 16384) (c : Nat) : BitVec 32 :=
  ∑ p ∈ Finset.range 200, hit (if h : p < 200 then x (ix2 n ⟨p, h⟩) else 0#32) c

/-- What call 0 leaves: the packed counts of the first half of the rows. -/
def cnt0 (x : S16384x200.Idx → BitVec 32) : S8192x256.Idx → BitVec 32 :=
  fun j => rowCnt x ⟨(j 0).val, lt_trans (j 0).isLt (by decide)⟩ (j 1).val

/-- What call 1 leaves: the packed counts of the second half. -/
def cnt1 (x : S16384x200.Idx → BitVec 32) : S8192x256.Idx → BitVec 32 :=
  fun j => rowCnt x ⟨8192 + (j 0).val, Nat.lt_of_lt_of_le (Nat.add_lt_add_left (j 0).isLt 8192) (by decide)⟩ (j 1).val

/-- The coordinates of a tile. -/
def co (c : Fin 2) (s : Fin 16) : grid0.Coords := fun
  | 0 => c
  | 1 => s
  | ⟨_ + 2, h⟩ => absurd h (Nat.not_lt.2 (Nat.le_add_left _ _))

abbrev xW : Memref sig .scVector .hbm S16384x200 .i32 := Memref.whole main_arg0_scv
abbrev oW : Memref sig .scVector .hbm S8192x256 .i32 := Memref.whole main_v4_scv
abbrev pW : Memref sig .scVector .hbm S8192x256 .i32 := Memref.whole main_v5_scv

abbrev X0 (t : Fin 2 × Fin 16 × Fin 4) := xs0 (co t.1 t.2.1) xW t.2.2
abbrev X1 (t : Fin 2 × Fin 16 × Fin 4) := xs1 (co t.1 t.2.1) xW t.2.2
abbrev D0 (t : Fin 2 × Fin 16 × Fin 4) := ds0 (co t.1 t.2.1) oW t.2.2
abbrev D1 (t : Fin 2 × Fin 16 × Fin 4) := ds1 (co t.1 t.2.1) pW t.2.2

/-- The first row of a tile's chunk. -/
def base (t : Fin 2 × Fin 16 × Fin 4) : Nat := 512 * t.2.1.val + 256 * t.1.val + 64 * t.2.2.val

theorem base_lt (t : Fin 2 × Fin 16 × Fin 4) : base t + 64 ≤ 8192 := by unfold base; omega

theorem counts_read (X : S64x200.Idx → BitVec 32) (x : S16384x200.Idx → BitVec 32) (n : Nat) (hn : n + 64 ≤ 16384)
    (h : ∀ (a : Fin 64) (b : Fin 200), X (ix2 a b) = x (ix2 ⟨n + a.val, by omega⟩ b)) (j : S64x256.Idx) (r : Fin 16384) (c : Nat) (hr : r.val = n + (j 0).val) (hc : c = (j 1).val) :
    counts X j = rowCnt x r c := by
  subst hc
  show (∑ p ∈ Finset.range 200, hit (tk X (j 0) p) (j 1).val) = ∑ p ∈ Finset.range 200, hit _ _
  refine Finset.sum_congr rfl fun p hp => ?_
  have hp' := Finset.mem_range.mp hp
  unfold tk
  rw [dif_pos hp', dif_pos hp']
  refine congrArg (fun w => hit w (j 1).val) ((h (j 0) ⟨p, hp'⟩).trans (congrArg x ?_))
  exact congrArg (fun r => ix2 r (⟨p, hp'⟩ : Fin 200)) (Fin.ext hr.symm)

/-- Where the element `k` of a chunk of the token array lies, the chunk's slice at offset `n`. -/
theorem emb_val {sh : Shape} (off : Fin sh.rank → Nat) (size : Fin sh.rank → Nat) (inb) (a : Fin sh.rank) (k : (Rect.unit (s := sh) off size inb).shape.Idx)
    {off' : Fin sh.rank → Nat} (h : off = off') : (((Rect.unit (s := sh) off size inb).emb k) a).val = off' a + (k a).val := by
  subst h
  show off a + 1 * (k a).val = _
  omega

theorem off_X0 (t : Fin 2 × Fin 16 × Fin 4) : k0_off1 (co t.1 t.2.1) (BitVec.ofNat 32 (64 * t.2.2.val)) = ![base t, 0] := k0_off1_eq (co t.1 t.2.1) t.2.2

theorem off_D0 (t : Fin 2 × Fin 16 × Fin 4) : k0_off31 (co t.1 t.2.1) (BitVec.ofNat 32 (64 * t.2.2.val)) = ![base t, 0] := k0_off31_eq (co t.1 t.2.1) t.2.2

theorem off_X1 (t : Fin 2 × Fin 16 × Fin 4) : k1_off1 (co t.1 t.2.1) (BitVec.ofNat 32 (64 * t.2.2.val)) = ![base t + 8192, 0] := k1_off1_eq (co t.1 t.2.1) t.2.2

theorem off_D1 (t : Fin 2 × Fin 16 × Fin 4) : k1_off31 (co t.1 t.2.1) (BitVec.ofNat 32 (64 * t.2.2.val)) = ![base t, 0] := k1_off31_eq (co t.1 t.2.1) t.2.2

theorem mem_X0 (t : Fin 2 × Fin 16 × Fin 4) (j : S16384x200.Idx) : j ∈ (X0 t).view.set ↔ base t ≤ (j 0).val ∧ (j 0).val < base t + 64 := by
  have e : (X0 t).view.set = (Rect.unit (s := S16384x200) (k0_off1 (co t.1 t.2.1) (BitVec.ofNat 32 (64 * t.2.2.val))) S64x200.size (k0_off1_inb (co t.1 t.2.1) t.2.2)).set := View.set_slice_whole _ _
  rw [e, Rect.mem_set_unit, off_X0]
  exact ⟨fun h => h 0, fun h a => match a with | 0 => h | 1 => ⟨Nat.zero_le _, by have := (j 1).isLt; show (j 1).val < 0 + 200; rw [Nat.zero_add]; exact this⟩⟩

theorem mem_X1 (t : Fin 2 × Fin 16 × Fin 4) (j : S16384x200.Idx) : j ∈ (X1 t).view.set ↔ base t + 8192 ≤ (j 0).val ∧ (j 0).val < base t + 8192 + 64 := by
  have e : (X1 t).view.set = (Rect.unit (s := S16384x200) (k1_off1 (co t.1 t.2.1) (BitVec.ofNat 32 (64 * t.2.2.val))) S64x200.size (k1_off1_inb (co t.1 t.2.1) t.2.2)).set := View.set_slice_whole _ _
  rw [e, Rect.mem_set_unit, off_X1]
  exact ⟨fun h => h 0, fun h a => match a with | 0 => h | 1 => ⟨Nat.zero_le _, by have := (j 1).isLt; show (j 1).val < 0 + 200; rw [Nat.zero_add]; exact this⟩⟩

theorem mem_D0 (t : Fin 2 × Fin 16 × Fin 4) (j : S8192x256.Idx) : j ∈ (D0 t).view.set ↔ base t ≤ (j 0).val ∧ (j 0).val < base t + 64 := by
  have e : (D0 t).view.set = (Rect.unit (s := S8192x256) (k0_off31 (co t.1 t.2.1) (BitVec.ofNat 32 (64 * t.2.2.val))) S64x256.size (k0_off31_inb (co t.1 t.2.1) t.2.2)).set := View.set_slice_whole _ _
  rw [e, Rect.mem_set_unit, off_D0]
  exact ⟨fun h => h 0, fun h a => match a with | 0 => h | 1 => ⟨Nat.zero_le _, by have := (j 1).isLt; show (j 1).val < 0 + 256; rw [Nat.zero_add]; exact this⟩⟩

theorem mem_D1 (t : Fin 2 × Fin 16 × Fin 4) (j : S8192x256.Idx) : j ∈ (D1 t).view.set ↔ base t ≤ (j 0).val ∧ (j 0).val < base t + 64 := by
  have e : (D1 t).view.set = (Rect.unit (s := S8192x256) (k1_off31 (co t.1 t.2.1) (BitVec.ofNat 32 (64 * t.2.2.val))) S64x256.size (k1_off31_inb (co t.1 t.2.1) t.2.2)).set := View.set_slice_whole _ _
  rw [e, Rect.mem_set_unit, off_D1]
  exact ⟨fun h => h 0, fun h a => match a with | 0 => h | 1 => ⟨Nat.zero_le _, by have := (j 1).isLt; show (j 1).val < 0 + 256; rw [Nat.zero_add]; exact this⟩⟩

theorem base_sep {t t' : Fin 2 × Fin 16 × Fin 4} {n : Nat} (h : base t ≤ n ∧ n < base t + 64) (h' : base t' ≤ n ∧ n < base t' + 64) : t = t' := by
  obtain ⟨a, b, c⟩ := t
  obtain ⟨a', b', c'⟩ := t'
  unfold base at h h'
  simp only at h h'
  refine Prod.ext (Fin.ext ?_) (Prod.ext (Fin.ext ?_) (Fin.ext ?_)) <;> simp only <;> omega

theorem base_cover {n : Nat} (h : n < 8192) : ∃ t : Fin 2 × Fin 16 × Fin 4, base t ≤ n ∧ n < base t + 64 :=
  ⟨(⟨n / 256 % 2, by omega⟩, ⟨n / 512, by omega⟩, ⟨n / 64 % 4, by omega⟩), by unfold base; simp only; omega, by unfold base; simp only; omega⟩

/-- What a chunk's counts are, in the whole array. -/
theorem read_cnt0 (x : S16384x200.Idx → BitVec 32) (t : Fin 2 × Fin 16 × Fin 4) :
    (D0 t).view.read (Elt F) (cnt0 x) = counts ((X0 t).view.read (Elt F) x) := by
  funext j
  refine (Eq.trans (b := _) (by rfl) (counts_read _ x (base t) ((base_lt t).trans (by decide)) (fun a b => (congrArg x ?_ : x ((X0 t).view.emb (ix2 a b)) = _)) j _ _ ?_ ?_).symm)
  · funext z
    match z with
    | 0 => exact Fin.ext ((emb_val _ _ _ _ _ (off_X0 t)).trans rfl)
    | 1 => exact Fin.ext ((emb_val _ _ _ _ _ (off_X0 t)).trans (Nat.zero_add _))
  · exact (emb_val (sh := S8192x256) _ _ (k0_off31_inb (co t.1 t.2.1) t.2.2) 0 j (off_D0 t)).trans rfl
  · exact (emb_val (sh := S8192x256) _ _ (k0_off31_inb (co t.1 t.2.1) t.2.2) 1 j (off_D0 t)).trans (Nat.zero_add _)

theorem read_cnt1 (x : S16384x200.Idx → BitVec 32) (t : Fin 2 × Fin 16 × Fin 4) :
    (D1 t).view.read (Elt F) (cnt1 x) = counts ((X1 t).view.read (Elt F) x) := by
  funext j
  refine (Eq.trans (b := _) (by rfl) (counts_read _ x (base t + 8192) (by have := base_lt t; omega) (fun a b => (congrArg x ?_ : x ((X1 t).view.emb (ix2 a b)) = _)) j _ _ ?_ ?_).symm)
  · funext z
    match z with
    | 0 => exact Fin.ext ((emb_val _ _ _ _ _ (off_X1 t)).trans rfl)
    | 1 => exact Fin.ext ((emb_val _ _ _ _ _ (off_X1 t)).trans (Nat.zero_add _))
  · refine (congrArg (8192 + ·) (emb_val (sh := S8192x256) _ _ (k1_off31_inb (co t.1 t.2.1) t.2.2) 0 j (off_D1 t))).trans ?_
    show 8192 + (base t + _) = _
    omega
  · exact (emb_val (sh := S8192x256) _ _ (k1_off31_inb (co t.1 t.2.1) t.2.2) 1 j (off_D1 t)).trans (Nat.zero_add _)

section Split
variable (d : Dev nD)

abbrev xLoc : Loc nD τ sig := (SparseCore.T d).loc main_arg0
abbrev oLoc : Loc nD τ sig := (SparseCore.T d).loc main_v4
abbrev pLoc : Loc nD τ sig := (SparseCore.T d).loc main_v5

/-- The token array, a chunk at a time. -/
theorem split_x (f : Buf (Elt F) (xLoc d)) :
    ((xLoc d ↦{fullShare} f : sProp (𝕄 F)))
      = iprop((bigSep Finset.univ fun t => xLoc d ↦[(X0 t).view.set]{fullShare} f) ∗ (bigSep Finset.univ fun t => xLoc d ↦[(X1 t).view.set]{fullShare} f)) := by
  have e : (Finset.univ : Finset (Fin 2 × (Fin 2 × Fin 16 × Fin 4))).biUnion (fun u => (if u.1 = 0 then (X0 u.2).view.set else (X1 u.2).view.set : Finset (Idx (xLoc d)))) = Finset.univ := by
    refine Finset.eq_univ_of_forall fun j => Finset.mem_biUnion.mpr ?_
    by_cases hj : (j 0).val < 8192
    · obtain ⟨t, ht⟩ := base_cover hj
      exact ⟨(0, t), Finset.mem_univ _, (mem_X0 t j).mpr ht⟩
    · have := (j 0).isLt
      obtain ⟨t, ht⟩ := base_cover (n := (j 0).val - 8192) (by have : (j 0).val < 16384 := this; omega)
      exact ⟨(1, t), Finset.mem_univ _, (mem_X1 t j).mpr (by omega)⟩
  rw [← e, pointsTo_biUnion, BI.bigSep_univ_prod, BI.bigSep_fin_two]
  · rfl
  · intro u _ u' _ hne
    refine Finset.disjoint_left.mpr fun j h h' => hne ?_
    obtain ⟨a, t⟩ := u
    obtain ⟨a', t'⟩ := u'
    have b := base_lt t
    have b' := base_lt t'
    match a, a' with
    | 0, 0 => exact congrArg (Prod.mk 0) (base_sep ((mem_X0 t j).mp h) ((mem_X0 t' j).mp h'))
    | 1, 1 =>
      have g := (mem_X1 t j).mp h
      have g' := (mem_X1 t' j).mp h'
      exact congrArg (Prod.mk 1) (base_sep (n := (j 0).val - 8192) (by omega) (by omega))
    | 0, 1 =>
      have g := (mem_X0 t j).mp h
      have g' := (mem_X1 t' j).mp h'
      omega
    | 1, 0 =>
      have g := (mem_X1 t j).mp h
      have g' := (mem_X0 t' j).mp h'
      omega

/-- Call 0's result, a chunk at a time. -/
theorem split_o (f : Buf (Elt F) (oLoc d)) :
    ((oLoc d ↦{fullShare} f : sProp (𝕄 F))) = bigSep Finset.univ fun t => oLoc d ↦[(D0 t).view.set]{fullShare} f := by
  have e : Finset.biUnion (β := Idx (oLoc d)) (Finset.univ : Finset (Fin 2 × Fin 16 × Fin 4)) (fun t => (D0 t).view.set) = Finset.univ := by
    refine Finset.eq_univ_of_forall fun j => Finset.mem_biUnion.mpr ?_
    obtain ⟨t, ht⟩ := base_cover (n := (j 0).val) (j 0).isLt
    exact ⟨t, Finset.mem_univ _, (mem_D0 t j).mpr ht⟩
  rw [← e, pointsTo_biUnion]
  intro t _ t' _ hne
  exact Finset.disjoint_left.mpr fun j h h' => hne (base_sep ((mem_D0 t j).mp h) ((mem_D0 t' j).mp h'))

/-- Call 1's result, a chunk at a time. -/
theorem split_p (f : Buf (Elt F) (pLoc d)) :
    ((pLoc d ↦{fullShare} f : sProp (𝕄 F))) = bigSep Finset.univ fun t => pLoc d ↦[(D1 t).view.set]{fullShare} f := by
  have e : Finset.biUnion (β := Idx (pLoc d)) (Finset.univ : Finset (Fin 2 × Fin 16 × Fin 4)) (fun t => (D1 t).view.set) = Finset.univ := by
    refine Finset.eq_univ_of_forall fun j => Finset.mem_biUnion.mpr ?_
    obtain ⟨t, ht⟩ := base_cover (n := (j 0).val) (j 0).isLt
    exact ⟨t, Finset.mem_univ _, (mem_D1 t j).mpr ht⟩
  rw [← e, pointsTo_biUnion]
  intro t _ t' _ hne
  exact Finset.disjoint_left.mpr fun j h h' => hne (base_sep ((mem_D1 t j).mp h) ((mem_D1 t' j).mp h'))

/-- A chunk's resources over all chunks, a core and a tile at a time. -/
theorem bigSep_chunks (Φ : Fin 2 × Fin 16 × Fin 4 → sProp (𝕄 F)) :
    bigSep Finset.univ Φ = bigSep Finset.univ fun c : Fin 2 => bigSep Finset.univ fun i : Fin 16 => bigSep Finset.univ fun r : Fin 4 => Φ (c, i, r) := by
  rw [BI.bigSep_univ_prod]
  exact BI.bigSep_congr fun c _ => BI.bigSep_univ_prod _

theorem bigSep_four (Φ : Fin 4 → sProp (𝕄 F)) : bigSep Finset.univ Φ = iprop(Φ 0 ∗ Φ 1 ∗ Φ 2 ∗ Φ 3) :=
  BI.bigSep_univ_eq_bigSepL [0, 1, 2, 3] (by decide) (by decide) Φ

end Split

end Cert.Hist
-- ==== Proof.Sc.lean ====
/- The two SparseCore calls: what their handshakes carry, and that every tile meets its obligation. -/
module

public import proofs.«01_k».proof.Proof.Rows

@[expose] public section

noncomputable section

namespace Cert.Hist

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F] [Named F]

section Own
variable (d : Dev nD) (c : Fin τ.nSC) (i : Fin τ.nSub)

/-- Four of a tile's buffers, and its others. -/
theorem ownBufs_four (b0 b1 b2 b3 : Ref sig .scVector) (h0 : ((Proc.scVector c i).devRef b0 : DevRef τ sig).owner = .proc (.scVector c i)) (h1 : ((Proc.scVector c i).devRef b1 : DevRef τ sig).owner = .proc (.scVector c i))
    (h2 : ((Proc.scVector c i).devRef b2 : DevRef τ sig).owner = .proc (.scVector c i)) (h3 : ((Proc.scVector c i).devRef b3 : DevRef τ sig).owner = .proc (.scVector c i))
    (n10 : b1 ≠ b0) (n20 : b2 ≠ b0) (n21 : b2 ≠ b1) (n30 : b3 ≠ b0) (n31 : b3 ≠ b1) (n32 : b3 ≠ b2) :
    (ownBufs (V d c i) : sProp (𝕄 F))
      = iprop((∃ f, (V d c i).loc b0 ↦{fullShare} f) ∗ (∃ f, (V d c i).loc b1 ↦{fullShare} f) ∗ (∃ f, (V d c i).loc b2 ↦{fullShare} f) ∗ (∃ f, (V d c i).loc b3 ↦{fullShare} f)
          ∗ bigSep (((((ownRefs (τ := τ) (.scVector c i)).erase ((Proc.scVector c i).devRef b0)).erase ((Proc.scVector c i).devRef b1)).erase ((Proc.scVector c i).devRef b2)).erase ((Proc.scVector c i).devRef b3))
              fun b => iprop(∃ f, ((d, b) : Loc nD τ sig) ↦{fullShare} f)) := by
  have m {b : Ref sig .scVector} (h : ((Proc.scVector c i).devRef b : DevRef τ sig).owner = .proc (.scVector c i)) := SparseCore.Cfg.mem_ownRefs_of_owner h
  have n {b b' : Ref sig .scVector} (h : b ≠ b') : (Proc.scVector c i).devRef b ≠ (Proc.scVector c i).devRef b' := fun e => h (Proc.devRef_injective _ e)
  unfold SparseCore.Cfg.ownBufs
  refine (SparseCore.bigSep_erase' (m h0)).trans ?_
  rw [SparseCore.bigSep_erase' (Finset.mem_erase.mpr ⟨n n10, m h1⟩), SparseCore.bigSep_erase' (Finset.mem_erase.mpr ⟨n n21, Finset.mem_erase.mpr ⟨n n20, m h2⟩⟩),
    SparseCore.bigSep_erase' (Finset.mem_erase.mpr ⟨n n32, Finset.mem_erase.mpr ⟨n n31, Finset.mem_erase.mpr ⟨n n30, m h3⟩⟩⟩)]

/-- Four of a tile's scoped semaphores, and its others. -/
theorem ownSems0_four (e0 e1 e2 e3 : SemLoc sig) (h0 : e0.isScoped .scVector = true) (h1 : e1.isScoped .scVector = true) (h2 : e2.isScoped .scVector = true) (h3 : e3.isScoped .scVector = true)
    (n10 : e1 ≠ e0) (n20 : e2 ≠ e0) (n21 : e2 ≠ e1) (n30 : e3 ≠ e0) (n31 : e3 ≠ e1) (n32 : e3 ≠ e2) :
    (ownSems0 (V d c i) : sProp (𝕄 F))
      = iprop(semVal (V d c i, e0) 0 ∗ semVal (V d c i, e1) 0 ∗ semVal (V d c i, e2) 0 ∗ semVal (V d c i, e3) 0
          ∗ bigSep (((((ownCells (V d c i)).erase (V d c i, e0)).erase (V d c i, e1)).erase (V d c i, e2)).erase (V d c i, e3)) fun g => semVal g 0) := by
  have m {e : SemLoc sig} (h : e.isScoped .scVector = true) : ((V d c i, e) : GSem nD τ sig) ∈ ownCells (V d c i) := mem_ownCells.mpr ⟨rfl, h⟩
  have n {e e' : SemLoc sig} (h : e ≠ e') : ((V d c i, e) : GSem nD τ sig) ≠ (V d c i, e') := fun q => h (Prod.mk.inj q).2
  unfold SparseCore.Cfg.ownSems0
  rw [SparseCore.bigSep_erase' (m h0), SparseCore.bigSep_erase' (Finset.mem_erase.mpr ⟨n n10, m h1⟩), SparseCore.bigSep_erase' (Finset.mem_erase.mpr ⟨n n21, Finset.mem_erase.mpr ⟨n n20, m h2⟩⟩),
    SparseCore.bigSep_erase' (Finset.mem_erase.mpr ⟨n n32, Finset.mem_erase.mpr ⟨n n31, Finset.mem_erase.mpr ⟨n n30, m h3⟩⟩⟩)]

/-- A whole buffer at some contents. -/
theorem any_whole {sp : Space} {s : Shape} (mm : Memref sig .scVector sp s .i32) (h : mm.view.set = Finset.univ) :
    (Any (F := F) (V d c i) mm : sProp (𝕄 F)) = iprop(∃ f, mm.view.loc (V d c i) ↦{fullShare} f) := by
  have h1 : Any (F := F) (V d c i) mm ⊢ (iprop(∃ f, mm.view.loc (V d c i) ↦{fullShare} f) : sProp (𝕄 F)) := by
    iintro ⟨%Y, H⟩
    unfold At
    icases H with ⟨%f, -, H⟩
    iexists f
    rw [h]
    iexact H
  have h2 : (iprop(∃ f, mm.view.loc (V d c i) ↦{fullShare} f) : sProp (𝕄 F)) ⊢ Any (F := F) (V d c i) mm := by
    iintro ⟨%f, H⟩
    iexists _
    iapply (At_intro (thr := V d c i) (mm := mm) f rfl)
    rw [h]
    iexact H
  exact BI.Entails.antisymm h1 h2

/-- What is held at the values it reads as, at any contents that read so. -/
theorem At_pts {sp : Space} {s : Shape} (mm : Memref sig .scVector sp s .i32) (q : PosShare TreeShare) (X : s.Idx → BitVec 32) (g : mm.view.ty.Contents (Elt F)) (h : mm.view.read (Elt F) g = X) :
    At (F := F) (V d c i) mm q X ⊢ (mm.view.loc (V d c i) ↦[mm.view.set]{q} g : sProp (𝕄 F)) := by
  unfold At
  iintro ⟨%f, %hf, H⟩
  have e : (mm.view.loc (V d c i) ↦[mm.view.set]{q} f : sProp (𝕄 F)) = mm.view.loc (V d c i) ↦[mm.view.set]{q} g := by
    refine pointsTo_congr fun z hz => ?_
    obtain ⟨k, -, rfl⟩ := Finset.mem_map.mp hz
    have := congrFun (hf.trans h.symm) k
    rw [View.read_apply, View.read_apply] at this
    exact eq_of_heq ((cast_heq _ _).symm.trans ((heq_of_eq this).trans (cast_heq _ _)))
  rw [← e]
  iexact H

/-- A tile's obligation, from its handshake's resources to what it gives back. -/
theorem tile_gen (O : CellTallies nD τ sig (HIx 2)) (W₀ : Waits sig (HIx 2)) (hO : ∀ g, O g none = 0) (n : Fin 2)
    (x0 x1 x2 x3 : Memref sig .scVector .hbm S64x200 .i32) (d0 d1 d2 d3 : Memref sig .scVector .hbm S64x256 .i32)
    (xa xb : Memref sig .scVector .vmem S64x200 .i32) (ca cb : Memref sig .scVector .vmem S64x256 .i32) (sxa sxb sca scb : DmaSems sig S_)
    (X0 X1 X2 X3 : S64x200.Idx → BitVec 32) (GO TD BB SS : sProp (𝕄 F))
    (hB : (ownBufs (V d c i) : sProp (𝕄 F)) = iprop(Any (F := F) (V d c i) xa ∗ Any (F := F) (V d c i) xb ∗ Any (F := F) (V d c i) ca ∗ Any (F := F) (V d c i) cb ∗ BB))
    (hS : (ownSems0 (V d c i) : sProp (𝕄 F)) = iprop(semVal (V d c i, .dma sxa.sem) 0 ∗ semVal (V d c i, .dma sxb.sem) 0 ∗ semVal (V d c i, .dma sca.sem) 0 ∗ semVal (V d c i, .dma scb.sem) 0 ∗ SS))
    (hG : GO ⊢ iprop((At (F := F) (V d c i) x0 fullShare X0 ∗ At (F := F) (V d c i) x1 fullShare X1 ∗ At (F := F) (V d c i) x2 fullShare X2 ∗ At (F := F) (V d c i) x3 fullShare X3)
        ∗ (Any (F := F) (V d c i) d0 ∗ Any (F := F) (V d c i) d1 ∗ Any (F := F) (V d c i) d2 ∗ Any (F := F) (V d c i) d3)))
    (hT : iprop((At (F := F) (V d c i) x0 fullShare X0 ∗ At (F := F) (V d c i) x1 fullShare X1 ∗ At (F := F) (V d c i) x2 fullShare X2 ∗ At (F := F) (V d c i) x3 fullShare X3)
        ∗ (At (F := F) (V d c i) d0 fullShare (counts X0) ∗ At (F := F) (V d c i) d1 fullShare (counts X1) ∗ At (F := F) (V d c i) d2 fullShare (counts X2) ∗ At (F := F) (V d c i) d3 fullShare (counts X3))) ⊢ TD) :
    iprop(levAts (K (F := F)).L (K (F := F)).lev ∗ emp ∗ GO ∗ scopedBufs (V d c i) ∗ scopedSems0 (V d c i) ∗ owes (V d c i) O W₀)
      ⊢ wp frame (wpE (defs₀ (F := F)) 𝒱₀ (V d c i) none) Set.univ (task c i x0 x1 x2 x3 d0 d1 d2 d3 xa xb ca cb sxa sxb sca scb)
          fun _ => iprop(TD ∗ scopedBufs (V d c i) ∗ scopedSems0 (V d c i) ∗ ∃ W', ⌜∀ p ∈ W', p ∈ W₀ ∨ p.2 = none ∨ p.2 = some n⌝ ∗ owes (V d c i) O W') := by
  rw [(K (F := F)).scopedBufs_V facts d c i, SparseCore.Cfg.scopedSems0_V (Val := Elt F) d c i, hB, hS]
  iintro ⟨#Hlv, -, HG, ⟨Ba, Bb, Bc, Bd, HB⟩, ⟨Sa, Sb, Sc, Sd, HS⟩, HO⟩
  ihave #Hm := (show levAts (K (F := F)).L (K (F := F)).lev ⊢ Transfers.MayWaits (V d c i) (default : HIx 2) O from
    (K (F := F)).mayWaits_none (thr := V d c i) hO) $$ Hlv
  ihave HG' := hG $$ HG
  icases HG' with ⟨Hx, Hd⟩
  iapply wp_wand_r
  isplitl [HO Hx Hd Ba Bb Bc Bd Sa Sb Sc Sd]
  · iapply (task_wp d c i O W₀ x0 x1 x2 x3 d0 d1 d2 d3 xa xb ca cb sxa sxb sca scb fullShare X0 X1 X2 X3)
    isplitr; · iexact Hm
    isplitl [HO]
    · iexists W₀
      isplitr [HO]
      · ipureintro; exact fun p hp => .inl hp
      · iexact HO
    isplitl [Hx]; · iexact Hx
    isplitl [Hd]; · iexact Hd
    isplitl [Ba Bb Bc Bd]
    · isplitl [Ba]; · iexact Ba
      isplitl [Bb]; · iexact Bb
      isplitl [Bc]; · iexact Bc
      iexact Bd
    isplitl [Sa]; · iexact Sa
    isplitl [Sb]; · iexact Sb
    isplitl [Sc]; · iexact Sc
    iexact Sd
  iintro %_ ⟨⟨%W', %hW, HO⟩, Hx, Hd, ⟨Ba, Bb, Bc, Bd⟩, Sa, Sb, Sc, Sd⟩
  isplitl [Hx Hd]
  · iapply hT
    isplitl [Hx]; · iexact Hx
    iexact Hd
  isplitl [Ba Bb Bc Bd HB]
  · isplitl [Ba]; · iexact Ba
    isplitl [Bb]; · iexact Bb
    isplitl [Bc]; · iexact Bc
    isplitl [Bd]; · iexact Bd
    iexact HB
  isplitl [Sa Sb Sc Sd HS]
  · isplitl [Sa]; · iexact Sa
    isplitl [Sb]; · iexact Sb
    isplitl [Sc]; · iexact Sc
    isplitl [Sd]; · iexact Sd
    iexact HS
  iexists W'
  isplitr [HO]
  · ipureintro
    exact fun p hp => (hW p hp).imp id .inl
  · iexact HO

end Own

/-! ## What the handshakes carry -/

variable (m : (ℓ : Loc nD τ sig) → Buf (Elt F) ℓ) (d : Dev nD)

/-- A chunk of call 0: its tokens, and its rows of the result at contents `f`. -/
abbrev ch0 (f : Buf (Elt F) (oLoc d)) (t : Fin 2 × Fin 16 × Fin 4) : sProp (𝕄 F) :=
  iprop((xLoc d ↦[(X0 t).view.set]{fullShare} m (xLoc d)) ∗ (oLoc d ↦[(D0 t).view.set]{fullShare} f))

/-- A chunk of call 1. -/
abbrev ch1 (f : Buf (Elt F) (pLoc d)) (t : Fin 2 × Fin 16 × Fin 4) : sProp (𝕄 F) :=
  iprop((xLoc d ↦[(X1 t).view.set]{fullShare} m (xLoc d)) ∗ (pLoc d ↦[(D1 t).view.set]{fullShare} f))

/-- A tile's four chunks. -/
abbrev tile4 (Φ : Fin 2 × Fin 16 × Fin 4 → sProp (𝕄 F)) (c : Fin 2) (s : Fin 16) : sProp (𝕄 F) :=
  iprop(Φ (c, s, 0) ∗ Φ (c, s, 1) ∗ Φ (c, s, 2) ∗ Φ (c, s, 3))

/-- A core's chunks. -/
abbrev core64 (Φ : Fin 2 × Fin 16 × Fin 4 → sProp (𝕄 F)) (c : Fin 2) : sProp (𝕄 F) :=
  bigSep Finset.univ fun s : Fin 16 => tile4 Φ c s

/-- The counts call 0 leaves. -/
abbrev C0 : Buf (Elt F) (oLoc d) := cnt0 (m (xLoc d))

/-- The counts call 1 leaves. -/
abbrev C1 : Buf (Elt F) (pLoc d) := cnt1 (m (xLoc d))

def P : (K (F := F)).Pay (nD := nD) (Val := Elt F) (Name := ℕ) (U := UU) where
  st := fun q d c => match q with
    | 0 => core64 (ch0 m d (m (oLoc d))) c
    | 1 => core64 (ch1 m d (m (pLoc d))) c
  dn := fun q d c => match q with
    | 0 => core64 (ch0 m d (C0 m d)) c
    | 1 => core64 (ch1 m d (C1 m d)) c
  go := fun q d c i => match q with
    | 0 => tile4 (ch0 m d (m (oLoc d))) c i
    | 1 => tile4 (ch1 m d (m (pLoc d))) c i
  td := fun q d c i => match q with
    | 0 => tile4 (ch0 m d (C0 m d)) c i
    | 1 => tile4 (ch1 m d (C1 m d)) c i
  x := fun _ _ => iprop(emp)

instance P_storable : (P (F := F) m).IsStorable where
  st q d c := match q with
    | 0 => (inferInstance : BI.Storable (upEmb : UEmb _ (𝕄 F)) (core64 (ch0 m d (m (oLoc d))) c))
    | 1 => (inferInstance : BI.Storable (upEmb : UEmb _ (𝕄 F)) (core64 (ch1 m d (m (pLoc d))) c))
  dn q d c := match q with
    | 0 => (inferInstance : BI.Storable (upEmb : UEmb _ (𝕄 F)) (core64 (ch0 m d (C0 m d)) c))
    | 1 => (inferInstance : BI.Storable (upEmb : UEmb _ (𝕄 F)) (core64 (ch1 m d (C1 m d)) c))
  go q d c i := match q with
    | 0 => (inferInstance : BI.Storable (upEmb : UEmb _ (𝕄 F)) (tile4 (ch0 m d (m (oLoc d))) c i))
    | 1 => (inferInstance : BI.Storable (upEmb : UEmb _ (𝕄 F)) (tile4 (ch1 m d (m (pLoc d))) c i))
  td q d c i := match q with
    | 0 => (inferInstance : BI.Storable (upEmb : UEmb _ (𝕄 F)) (tile4 (ch0 m d (C0 m d)) c i))
    | 1 => (inferInstance : BI.Storable (upEmb : UEmb _ (𝕄 F)) (tile4 (ch1 m d (C1 m d)) c i))

/-- Both calls' splits: a core's chunks are its tiles'. -/
theorem vecSplit (q : Fin 2) : (K (F := F)).VecSplit' (P m) q := by
  intro d c
  match q with
  | 0 =>
    rw [show (P m).st 0 d c = core64 (ch0 m d (m (oLoc d))) c from rfl,
      show (bigSep Finset.univ fun i : Fin ((K (F := F)).nSub 0) => (P m).go 0 d c i) = core64 (ch0 m d (m (oLoc d))) c from rfl,
      show (bigSep Finset.univ fun i : Fin ((K (F := F)).nSub 0) => (P m).td 0 d c i) = core64 (ch0 m d (C0 m d)) c from rfl,
      show (P m).dn 0 d c = core64 (ch0 m d (C0 m d)) c from rfl]
    iintro H
    imodintro
    isplitl [H]; · iexact H
    iintro H; iexact H
  | 1 =>
    rw [show (P m).st 1 d c = core64 (ch1 m d (m (pLoc d))) c from rfl,
      show (bigSep Finset.univ fun i : Fin ((K (F := F)).nSub 1) => (P m).go 1 d c i) = core64 (ch1 m d (m (pLoc d))) c from rfl,
      show (bigSep Finset.univ fun i : Fin ((K (F := F)).nSub 1) => (P m).td 1 d c i) = core64 (ch1 m d (C1 m d)) c from rfl,
      show (P m).dn 1 d c = core64 (ch1 m d (C1 m d)) c from rfl]
    iintro H
    imodintro
    isplitl [H]; · iexact H
    iintro H; iexact H

/-! ## The tiles' obligations -/

theorem defs0_vector (c : Fin τ.nSC) (s : Fin τ.nSub) :
    defs₀ (F := F) (.scVector c s) 0 ()
      = SparseCore.onTile hcore0 hsub0 (fun c s => cc0_body (co c s) xW (Memref.isWhole_whole _) oW (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 cc0_scratch6 cc0_scratch7) ⟨⟩ c s := rfl

theorem defs1_vector (c : Fin τ.nSC) (s : Fin τ.nSub) :
    defs₀ (F := F) (.scVector c s) 1 ()
      = SparseCore.onTile hcore1 hsub1 (fun c s => cc1_body (co c s) xW (Memref.isWhole_whole _) pW (Memref.isWhole_whole _) (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4 cc1_scratch5 cc1_scratch6 cc1_scratch7) ⟨⟩ c s := rfl

/-! ## The tiles, chunk by chunk -/

theorem four_in {A B C D A' B' C' D' X Y Z W : sProp (𝕄 F)} (h0 : X ⊢ iprop(A ∗ A')) (h1 : Y ⊢ iprop(B ∗ B')) (h2 : Z ⊢ iprop(C ∗ C')) (h3 : W ⊢ iprop(D ∗ D')) :
    iprop(X ∗ Y ∗ Z ∗ W) ⊢ iprop((A ∗ B ∗ C ∗ D) ∗ (A' ∗ B' ∗ C' ∗ D')) := by
  iintro ⟨x, y, z, w⟩
  ihave x := h0 $$ x
  ihave y := h1 $$ y
  ihave z := h2 $$ z
  ihave w := h3 $$ w
  icases x with ⟨a, a'⟩
  icases y with ⟨b, b'⟩
  icases z with ⟨c, c'⟩
  icases w with ⟨d, d'⟩
  isplitl [a b c d]
  · isplitl [a]; · iexact a
    isplitl [b]; · iexact b
    isplitl [c]; · iexact c
    iexact d
  isplitl [a']; · iexact a'
  isplitl [b']; · iexact b'
  isplitl [c']; · iexact c'
  iexact d'

theorem four_out {A B C D A' B' C' D' X Y Z W : sProp (𝕄 F)} (h0 : iprop(A ∗ A') ⊢ X) (h1 : iprop(B ∗ B') ⊢ Y) (h2 : iprop(C ∗ C') ⊢ Z) (h3 : iprop(D ∗ D') ⊢ W) :
    iprop((A ∗ B ∗ C ∗ D) ∗ (A' ∗ B' ∗ C' ∗ D')) ⊢ iprop(X ∗ Y ∗ Z ∗ W) := by
  iintro ⟨⟨a, b, c, d⟩, a', b', c', d'⟩
  isplitl [a a']
  · iapply h0; isplitl [a]; · iexact a
    iexact a'
  isplitl [b b']
  · iapply h1; isplitl [b]; · iexact b
    iexact b'
  isplitl [c c']
  · iapply h2; isplitl [c]; · iexact c
    iexact c'
  iapply h3; isplitl [d]; · iexact d
  iexact d'

abbrev cV (c : Fin 2) : Fin τ.nSC := (c : Fin (grid0.bound 0)).castLE hcore0
abbrev iV (s : Fin 16) : Fin τ.nSub := (s : Fin (grid0.bound 1)).castLE hsub0

theorem pts_X0 (t : Fin 2 × Fin 16 × Fin 4) (c : Fin τ.nSC) (s : Fin τ.nSub) (f : Buf (Elt F) (xLoc d)) :
    ((X0 t).view.loc (V d c s) ↦[(X0 t).view.set]{fullShare} f : sProp (𝕄 F)) = xLoc d ↦[(X0 t).view.set]{fullShare} f := rfl

theorem pts_D0 (t : Fin 2 × Fin 16 × Fin 4) (c : Fin τ.nSC) (s : Fin τ.nSub) (f : Buf (Elt F) (oLoc d)) :
    ((D0 t).view.loc (V d c s) ↦[(D0 t).view.set]{fullShare} f : sProp (𝕄 F)) = oLoc d ↦[(D0 t).view.set]{fullShare} f := rfl

/-- A chunk of call 0, as its tile takes it. -/
theorem in0 (t : Fin 2 × Fin 16 × Fin 4) (c : Fin τ.nSC) (s : Fin τ.nSub) :
    ch0 m d (m (oLoc d)) t ⊢ iprop(At (F := F) (V d c s) (X0 t) fullShare ((X0 t).view.read (Elt F) (m (xLoc d))) ∗ Any (F := F) (V d c s) (D0 t)) := by
  unfold ch0
  rw [← pts_X0 d t c s (m (xLoc d)), ← pts_D0 d t c s (m (oLoc d))]
  iintro ⟨Hx, Hd⟩
  isplitl [Hx]
  · iapply (At_intro (thr := V d c s) (mm := X0 t) (m (xLoc d)) rfl) $$ Hx
  iexists _
  iapply (At_intro (thr := V d c s) (mm := D0 t) (m (oLoc d)) rfl) $$ Hd

/-- A chunk of call 0, as its tile gives it back. -/
theorem out0 (t : Fin 2 × Fin 16 × Fin 4) (c : Fin τ.nSC) (s : Fin τ.nSub) :
    iprop(At (F := F) (V d c s) (X0 t) fullShare ((X0 t).view.read (Elt F) (m (xLoc d))) ∗ At (F := F) (V d c s) (D0 t) fullShare (counts ((X0 t).view.read (Elt F) (m (xLoc d)))))
      ⊢ ch0 m d (C0 m d) t := by
  unfold ch0
  rw [← pts_X0 d t c s (m (xLoc d)), ← pts_D0 d t c s (C0 m d)]
  iintro ⟨Hx, Hd⟩
  isplitl [Hx]
  · iapply (At_pts d c s (X0 t) fullShare _ (m (xLoc d)) rfl) $$ Hx
  iapply (At_pts d c s (D0 t) fullShare _ (C0 m d) (read_cnt0 (m (xLoc d)) t)) $$ Hd

/-- Call 0's buffers of a tile. -/
theorem bufs0 (c : Fin τ.nSC) (s : Fin τ.nSub) : ∃ BB : sProp (𝕄 F), (ownBufs (V d c s) : sProp (𝕄 F))
    = iprop(Any (F := F) (V d c s) (Memref.whole cc0_scratch0) ∗ Any (F := F) (V d c s) (Memref.whole cc0_scratch1) ∗ Any (F := F) (V d c s) (Memref.whole cc0_scratch2) ∗ Any (F := F) (V d c s) (Memref.whole cc0_scratch3) ∗ BB) := by
  rw [any_whole d c s (Memref.whole cc0_scratch0) (View.set_whole _), any_whole d c s (Memref.whole cc0_scratch1) (View.set_whole _),
    any_whole d c s (Memref.whole cc0_scratch2) (View.set_whole _), any_whole d c s (Memref.whole cc0_scratch3) (View.set_whole _)]
  exact ⟨_, ownBufs_four d c s cc0_scratch0 cc0_scratch1 cc0_scratch2 cc0_scratch3 rfl rfl rfl rfl (by decide) (by decide) (by decide) (by decide) (by decide) (by decide)⟩

/-- Call 0's semaphores of a tile. -/
theorem sems0 (c : Fin τ.nSC) (s : Fin τ.nSub) : ∃ SS : sProp (𝕄 F), (ownSems0 (V d c s) : sProp (𝕄 F))
    = iprop(semVal (V d c s, .dma cc0_scratch4.sem) 0 ∗ semVal (V d c s, .dma cc0_scratch5.sem) 0 ∗ semVal (V d c s, .dma cc0_scratch6.sem) 0 ∗ semVal (V d c s, .dma cc0_scratch7.sem) 0 ∗ SS) :=
  ⟨_, ownSems0_four d c s (.dma cc0_scratch4.sem) (.dma cc0_scratch5.sem) (.dma cc0_scratch6.sem) (.dma cc0_scratch7.sem) (by decide) (by decide) (by decide) (by decide)
    (by decide) (by decide) (by decide) (by decide) (by decide) (by decide)⟩

/-- Call 0's tile. -/
theorem tile0 (c : Fin 2) (s : Fin 16) (O : CellTallies nD τ sig (HIx 2)) (W₀ : Waits sig (HIx 2)) (hO : ∀ g, O g none = 0) :
    iprop(levAts (K (F := F)).L (K (F := F)).lev ∗ emp ∗ tile4 (ch0 m d (m (oLoc d))) c s ∗ scopedBufs (V d (cV c) (iV s)) ∗ scopedSems0 (V d (cV c) (iV s)) ∗ owes (V d (cV c) (iV s)) O W₀)
      ⊢ wp frame (wpE (defs₀ (F := F)) 𝒱₀ (V d (cV c) (iV s)) none) Set.univ
          (cc0_body (co c s) xW (Memref.isWhole_whole _) oW (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 cc0_scratch6 cc0_scratch7)
          fun _ => iprop(tile4 (ch0 m d (C0 m d)) c s ∗ scopedBufs (V d (cV c) (iV s)) ∗ scopedSems0 (V d (cV c) (iV s)) ∗ ∃ W', ⌜∀ p ∈ W', p ∈ W₀ ∨ p.2 = none ∨ p.2 = some (0 : Fin 2)⌝ ∗ owes (V d (cV c) (iV s)) O W') := by
  obtain ⟨BB, hB⟩ := bufs0 (F := F) d (cV c) (iV s)
  obtain ⟨SS, hS⟩ := sems0 (F := F) d (cV c) (iV s)
  rw [cc0_task]
  exact tile_gen d (cV c) (iV s) O W₀ hO 0 _ _ _ _ _ _ _ _ _ _ _ _ _ _ _ _ _ _ _ _ _ _ BB SS hB hS
    (four_in (in0 m d (c, s, 0) _ _) (in0 m d (c, s, 1) _ _) (in0 m d (c, s, 2) _ _) (in0 m d (c, s, 3) _ _))
    (four_out (out0 m d (c, s, 0) _ _) (out0 m d (c, s, 1) _ _) (out0 m d (c, s, 2) _ _) (out0 m d (c, s, 3) _ _))

/-- Every tile of call 0 meets its obligation. -/
theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs0_vector]; simp only [SparseCore.onTile, hci, and_self, ↓reduceDIte]
  exact tile0 m d c i O W hO

theorem pts_X1 (t : Fin 2 × Fin 16 × Fin 4) (c : Fin τ.nSC) (s : Fin τ.nSub) (f : Buf (Elt F) (xLoc d)) :
    ((X1 t).view.loc (V d c s) ↦[(X1 t).view.set]{fullShare} f : sProp (𝕄 F)) = xLoc d ↦[(X1 t).view.set]{fullShare} f := rfl

theorem pts_D1 (t : Fin 2 × Fin 16 × Fin 4) (c : Fin τ.nSC) (s : Fin τ.nSub) (f : Buf (Elt F) (pLoc d)) :
    ((D1 t).view.loc (V d c s) ↦[(D1 t).view.set]{fullShare} f : sProp (𝕄 F)) = pLoc d ↦[(D1 t).view.set]{fullShare} f := rfl

/-- A chunk of call 1, as its tile takes it. -/
theorem in1 (t : Fin 2 × Fin 16 × Fin 4) (c : Fin τ.nSC) (s : Fin τ.nSub) :
    ch1 m d (m (pLoc d)) t ⊢ iprop(At (F := F) (V d c s) (X1 t) fullShare ((X1 t).view.read (Elt F) (m (xLoc d))) ∗ Any (F := F) (V d c s) (D1 t)) := by
  unfold ch1
  rw [← pts_X1 d t c s (m (xLoc d)), ← pts_D1 d t c s (m (pLoc d))]
  iintro ⟨Hx, Hd⟩
  isplitl [Hx]
  · iapply (At_intro (thr := V d c s) (mm := X1 t) (m (xLoc d)) rfl) $$ Hx
  iexists _
  iapply (At_intro (thr := V d c s) (mm := D1 t) (m (pLoc d)) rfl) $$ Hd

/-- A chunk of call 1, as its tile gives it back. -/
theorem out1 (t : Fin 2 × Fin 16 × Fin 4) (c : Fin τ.nSC) (s : Fin τ.nSub) :
    iprop(At (F := F) (V d c s) (X1 t) fullShare ((X1 t).view.read (Elt F) (m (xLoc d))) ∗ At (F := F) (V d c s) (D1 t) fullShare (counts ((X1 t).view.read (Elt F) (m (xLoc d)))))
      ⊢ ch1 m d (C1 m d) t := by
  unfold ch1
  rw [← pts_X1 d t c s (m (xLoc d)), ← pts_D1 d t c s (C1 m d)]
  iintro ⟨Hx, Hd⟩
  isplitl [Hx]
  · iapply (At_pts d c s (X1 t) fullShare _ (m (xLoc d)) rfl) $$ Hx
  iapply (At_pts d c s (D1 t) fullShare _ (C1 m d) (read_cnt1 (m (xLoc d)) t)) $$ Hd

/-- Call 1's buffers of a tile. -/
theorem bufs1 (c : Fin τ.nSC) (s : Fin τ.nSub) : ∃ BB : sProp (𝕄 F), (ownBufs (V d c s) : sProp (𝕄 F))
    = iprop(Any (F := F) (V d c s) (Memref.whole cc1_scratch0) ∗ Any (F := F) (V d c s) (Memref.whole cc1_scratch1) ∗ Any (F := F) (V d c s) (Memref.whole cc1_scratch2) ∗ Any (F := F) (V d c s) (Memref.whole cc1_scratch3) ∗ BB) := by
  rw [any_whole d c s (Memref.whole cc1_scratch0) (View.set_whole _), any_whole d c s (Memref.whole cc1_scratch1) (View.set_whole _),
    any_whole d c s (Memref.whole cc1_scratch2) (View.set_whole _), any_whole d c s (Memref.whole cc1_scratch3) (View.set_whole _)]
  exact ⟨_, ownBufs_four d c s cc1_scratch0 cc1_scratch1 cc1_scratch2 cc1_scratch3 rfl rfl rfl rfl (by decide) (by decide) (by decide) (by decide) (by decide) (by decide)⟩

/-- Call 1's semaphores of a tile. -/
theorem sems1 (c : Fin τ.nSC) (s : Fin τ.nSub) : ∃ SS : sProp (𝕄 F), (ownSems0 (V d c s) : sProp (𝕄 F))
    = iprop(semVal (V d c s, .dma cc1_scratch4.sem) 0 ∗ semVal (V d c s, .dma cc1_scratch5.sem) 0 ∗ semVal (V d c s, .dma cc1_scratch6.sem) 0 ∗ semVal (V d c s, .dma cc1_scratch7.sem) 0 ∗ SS) :=
  ⟨_, ownSems0_four d c s (.dma cc1_scratch4.sem) (.dma cc1_scratch5.sem) (.dma cc1_scratch6.sem) (.dma cc1_scratch7.sem) (by decide) (by decide) (by decide) (by decide)
    (by decide) (by decide) (by decide) (by decide) (by decide) (by decide)⟩

/-- Call 1's tile. -/
theorem tile1 (c : Fin 2) (s : Fin 16) (O : CellTallies nD τ sig (HIx 2)) (W₀ : Waits sig (HIx 2)) (hO : ∀ g, O g none = 0) :
    iprop(levAts (K (F := F)).L (K (F := F)).lev ∗ emp ∗ tile4 (ch1 m d (m (pLoc d))) c s ∗ scopedBufs (V d (cV c) (iV s)) ∗ scopedSems0 (V d (cV c) (iV s)) ∗ owes (V d (cV c) (iV s)) O W₀)
      ⊢ wp frame (wpE (defs₀ (F := F)) 𝒱₀ (V d (cV c) (iV s)) none) Set.univ
          (cc1_body (co c s) xW (Memref.isWhole_whole _) pW (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scratch4 cc1_scratch5 cc1_scratch6 cc1_scratch7)
          fun _ => iprop(tile4 (ch1 m d (C1 m d)) c s ∗ scopedBufs (V d (cV c) (iV s)) ∗ scopedSems0 (V d (cV c) (iV s)) ∗ ∃ W', ⌜∀ p ∈ W', p ∈ W₀ ∨ p.2 = none ∨ p.2 = some (1 : Fin 2)⌝ ∗ owes (V d (cV c) (iV s)) O W') := by
  obtain ⟨BB, hB⟩ := bufs1 (F := F) d (cV c) (iV s)
  obtain ⟨SS, hS⟩ := sems1 (F := F) d (cV c) (iV s)
  rw [cc1_task]
  exact tile_gen d (cV c) (iV s) O W₀ hO 1 _ _ _ _ _ _ _ _ _ _ _ _ _ _ _ _ _ _ _ _ _ _ BB SS hB hS
    (four_in (in1 m d (c, s, 0) _ _) (in1 m d (c, s, 1) _ _) (in1 m d (c, s, 2) _ _) (in1 m d (c, s, 3) _ _))
    (four_out (out1 m d (c, s, 0) _ _) (out1 m d (c, s, 1) _ _) (out1 m d (c, s, 2) _ _) (out1 m d (c, s, 3) _ _))

/-- Every tile of call 1 meets its obligation. -/
theorem tileObl1 : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BIBase.Entails.trans ?_ (Pipeline.wp_liftProg (D (F := F)) (Pipeline.defs_kernel pcfgs defs₀) 𝒱₀ _ Set.univ none _ _)
  rw [defs1_vector]; simp only [SparseCore.onTile, hci, and_self, ↓reduceDIte]
  exact tile1 m d c i O W hO

end Cert.Hist
-- ==== Proof.Mlp.lean ====
/- The dense half's body: what it leaves in its result's block and in its scratch. -/
module

public import proofs.«01_k».proof.Proof.Sc

@[expose] public section

noncomputable section

namespace Cert.Hist

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F] [Named F]

/-! ## What the body computes -/

/-- The table times the first weights, times the mean's factor, in the narrow format. -/
def prep (E : FVec F S1024x64 .f32) (W1 : FVec F S64x256 .f32) : FVec F S1024x256 .bf16 :=
  truncf .bf16 (mulf (matmul dot_S1024x64_S64x256_S1024x256_1_0_0_1_n_n none E W1 (constant S1024x256 .f32 0x00000000#32))
    (broadcast S1024x256 (Named.named κ "mean" 0x3BA3D70A#32))) bitsLt_bf16_f32

/-- One byte of every count word, as a narrow float. -/
def byteF (C : IVec S2048x256 32) (k : BitVec 32) : FVec F S2048x256 .bf16 :=
  sitofp .bf16 (andi (shrsi C (broadcast S2048x256 k)) (broadcast S2048x256 255#32))

/-- 256 rows of the scratch, from row `o`. -/
def rows (M : FVec F S1024x256 .bf16) (o : Nat) (ho : o + 256 ≤ 1024) : FVec F S256x256 .bf16 :=
  fun j => M (ix2 ⟨o + (j 0).val, by have := (j 0).isLt; have h : S256x256.size 0 = 256 := rfl; omega⟩ (j 1))

/-- One byte's product with its rows. -/
def term (C : IVec S2048x256 32) (M : FVec F S1024x256 .bf16) (k : BitVec 32) (o : Nat) (ho : o + 256 ≤ 1024) : FVec F S2048x256 .f32 :=
  matmul dot_S2048x256_S256x256_S2048x256_1_0_0_1_n_n none (byteF C k) (rows M o ho) (constant S2048x256 .f32 0x00000000#32)

/-- The first three bytes' products added up. -/
def acc3 (C : IVec S2048x256 32) (M : FVec F S1024x256 .bf16) : FVec F S2048x256 .f32 :=
  addf (addf (addf (broadcast S2048x256 (Scalar.ofBits .f32 0x00000000#32)) (term C M 0#32 0 (by omega))) (term C M 8#32 256 (by omega))) (term C M 16#32 512 (by omega))

/-- The first hidden layer. -/
def hid1 (C : IVec S2048x256 32) (M : FVec F S1024x256 .bf16) (b1 : FVec F S1x256 .f32) : FVec F S2048x256 .f32 :=
  maximumf (addf (addf (acc3 C M) (term C M 24#32 768 (by omega))) (broadcastTo S2048x256 b1 broadcasts_S1x256_S2048x256))
    (broadcast S2048x256 (Scalar.ofBits .f32 0x00000000#32))

/-- The second hidden layer. -/
def hid2 (h : FVec F S2048x256 .f32) (W2 : FVec F S256x256 .f32) (b2 : FVec F S1x256 .f32) : FVec F S2048x256 .f32 :=
  maximumf (addf (matmul dot_S2048x256_S256x256_S2048x256_1_0_0_1_n_n none (truncf .bf16 h bitsLt_bf16_f32) (truncf .bf16 W2 bitsLt_bf16_f32) (constant S2048x256 .f32 0x00000000#32))
    (broadcastTo S2048x256 b2 broadcasts_S1x256_S2048x256)) (broadcast S2048x256 (Scalar.ofBits .f32 0x00000000#32))

/-- The result's block. -/
def blk (C : IVec S2048x256 32) (M : FVec F S1024x256 .bf16) (b1 : FVec F S1x256 .f32) (W2 : FVec F S256x256 .f32) (b2 : FVec F S1x256 .f32)
    (Wo : FVec F S256x128 .f32) (bo : FVec F S1x128 .f32) : FVec F S2048x128 .f32 :=
  addf (matmul dot_S2048x256_S256x128_S2048x128_1_0_0_1_n_n none (hid2 (hid1 C M b1) W2 b2) Wo (constant S2048x128 .f32 0x00000000#32))
    (broadcastTo S2048x128 bo broadcasts_S1x128_S2048x128)

/-! ## Loads and stores of blocks held whole -/

section Rules
variable (d : Dev nD) {s : Shape} {e : EltTy} (mm : Memref sig .tc .vmem s e)

/-- The weakest precondition of a core's program. -/
abbrev Wt {α : Type} (p : Prog (TpuEff nD τ sig (Elt F) Λ₀ .tc) α) (Q : α → sProp (𝕄 F)) : sProp (𝕄 F) :=
  wp frame (wpE (defs₀ (F := F)) 𝒱₀ (d : Thread nD τ) none) Set.univ p Q

/-- A block held whole, at contents `X`. -/
abbrev Own (X : s.Idx → Elt F e) : sProp (𝕄 F) := owns (d : Thread nD τ) mm fullShare X

/-- One effect, then a continuation. -/
theorem Wt_lift {α β : Type} (x : TpuEff nD τ sig (Elt F) Λ₀ .tc β) (k : β → Prog (TpuEff nD τ sig (Elt F) Λ₀ .tc) α) (Q : α → sProp (𝕄 F)) :
    Wt d (Prog.lift x >>= k) Q = Wt d (.op x k) Q := rfl

omit [FloatOps F] [Named F] in
/-- The rectangle of the whole block embeds every index as itself. -/
theorem unit_emb (o : Fin s.rank → Nat) (inb : ∀ a, o a + s.size a ≤ s.size a) (j : s.Idx) : (Rect.unit o s.size inb).emb j = j :=
  funext fun a => Fin.ext (by
    show o a + 1 * (j a).val = (j a).val
    have := inb a; omega)

/-- A load reads the held block's contents under its coordinates. -/
theorem ld_wp {α : Type} {r : LoadRect s} {hl : mm.view.LoadsAt r} {k : (r.shape.Idx → Elt F e) → Prog (TpuEff nD τ sig (Elt F) Λ₀ .tc) α}
    {Q : α → sProp (𝕄 F)} (X : s.Idx → Elt F e) (Y : r.shape.Idx → Elt F e) (hY : ∀ j, X (r.idx j) = Y j) :
    Own d mm X ⊢ iprop((Own d mm X -∗ Wt d (k Y) Q) -∗ Wt d (Prog.lift (.load mm r hl) >>= k) Q) := by
  rw [Wt_lift]
  unfold Own owns
  iintro ⟨%f, %hf, H⟩ Hk
  iapply (wp_load (defs := defs₀ (F := F)) 𝒱₀ (d : Thread nD τ) none Set.univ (m := mm) (hl := hl) (k := k) (S := mm.view.set) (f := f) (View.setOn_subset_set _ _)) $$ H
  iintro H
  have hR : mm.view.readAt (Elt F) r f = Y := funext fun j => by rw [View.readAt_apply, hf, hY]
  rw [hR]
  iapply Hk
  iexists f
  isplitr [H]
  · ipureintro; exact hf
  · iexact H

/-- A load of the whole block. -/
theorem ldw_wp {α : Type} {o : Fin s.rank → Nat} {inb : ∀ a, o a + s.size a ≤ s.size a} {hl : mm.view.LoadsAt (Rect.unit o s.size inb).toLoadRect}
    {k : (s.Idx → Elt F e) → Prog (TpuEff nD τ sig (Elt F) Λ₀ .tc) α}
    {Q : α → sProp (𝕄 F)} (X : s.Idx → Elt F e) :
    Own d mm X ⊢ iprop((Own d mm X -∗ Wt d (k X) Q) -∗ Wt d (Prog.lift (.load mm (Rect.unit o s.size inb).toLoadRect hl) >>= k) Q) :=
  ld_wp d mm (r := (Rect.unit o s.size inb).toLoadRect) (hl := hl) (k := k) X X fun j => congrArg X (unit_emb o inb j)

/-- A store of the whole block. -/
theorem stw_wp {α : Type} {o : Fin s.rank → Nat} {inb : ∀ a, o a + s.size a ≤ s.size a} {w : s.Idx → Elt F e}
    {hx : (mm.access (Rect.unit o s.size inb)).Stores (Finset.univ : Finset (Rect.unit o s.size inb).shape.Idx)} {hm}
    {k : PUnit → Prog (TpuEff nD τ sig (Elt F) Λ₀ .tc) α}
    {Q : α → sProp (𝕄 F)} (X : s.Idx → Elt F e) :
    Own d mm X ⊢ iprop((Own d mm w -∗ Wt d (k ⟨⟩) Q)
      -∗ Wt d (Prog.lift (.store mm (Rect.unit o s.size inb) w Finset.univ hx hm) >>= k) Q) := by
  rw [Wt_lift]
  unfold Own owns
  iintro ⟨%f, %hf, H⟩ Hk
  iapply (wp_store (defs := defs₀ (F := F)) 𝒱₀ (d : Thread nD τ) none Set.univ (m := mm) (r := Rect.unit o s.size inb) (S := mm.view.set) (f := f)
    (w := w) (Mk := Finset.univ) (hx := hx) (hm := hm) (k := k) (by rw [View.setOn_univ]; exact View.set_slice_subset _ _)) $$ H
  iintro H
  have hR : mm.view.read (Elt F) ((mm.access (Rect.unit o s.size inb)).write (Elt F) f w Finset.univ) = w := funext fun j => by
    have h1 := View.read_slice_write_emb (v := mm.view) (Val := Elt F) (Rect.unit o s.size inb) f w (x := j) (Finset.mem_univ _)
    rw [unit_emb] at h1
    exact h1
  iapply Hk
  iexists ((mm.access (Rect.unit o s.size inb)).write (Elt F) f w Finset.univ)
  isplitr [H]
  · ipureintro; exact hR
  · iexact H

end Rules

omit [FloatOps F] [Named F] in
/-- The rectangle of 256 rows from row `o` embeds an index as the rows' index. -/
theorem rows_idx (j : S256x256.Idx) (o : Nat) (inb : ∀ a, (![o, 0] : Fin 2 → Nat) a + S256x256.size a ≤ S1024x256.size a) (h : o + (j 0).val < 1024) :
    (Rect.unit (s := S1024x256) ![o, 0] S256x256.size inb).toLoadRect.idx j = ix2 ⟨o + (j 0).val, h⟩ (j 1) := by
  funext a
  match a with
  | 0 => exact Fin.ext (show o + 1 * (j 0).val = o + (j 0).val by omega)
  | 1 => exact Fin.ext (show 0 + 1 * (j 1).val = (j 1).val by omega)

/-- A program at its end. -/
theorem ret_wp (d : Dev nD) {α : Type} {x : α} (y : α) (h : x = y) {Q : α → sProp (𝕄 F)} : Q y ⊢ Wt d (pure x) Q := by
  subst h; exact fupd_intro

/-- Equal programs. -/
theorem eq_wp (d : Dev nD) {α : Type} {p : Prog (TpuEff nD τ sig (Elt F) Λ₀ .tc) α} (p' : Prog (TpuEff nD τ sig (Elt F) Λ₀ .tc) α) (h : p = p') {Q : α → sProp (𝕄 F)} :
    Wt d p' Q ⊢ Wt d p Q := by
  rw [h]

/-! ## The body -/

/-- A point past the first. -/
def one : grid2.Coords := fun a => ⟨1, (by decide : ∀ a, 1 < grid2.bound a) a⟩

section Body
variable (d : Dev nD) (i : grid2.Coords)
  (arg1 : Memref sig .tc .vmem S2048x256 .i32) (harg1 : arg1.IsWhole)
  (arg2 : Memref sig .tc .vmem S1024x64 .f32) (harg2 : arg2.IsWhole)
  (arg3 : Memref sig .tc .vmem S64x256 .f32) (harg3 : arg3.IsWhole)
  (arg4 : Memref sig .tc .vmem S1x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S256x128 .f32) (harg7 : arg7.IsWhole)
  (arg8 : Memref sig .tc .vmem S1x128 .f32) (harg8 : arg8.IsWhole)
  (arg9 : Memref sig .tc .vmem S2048x128 .f32) (harg9 : arg9.IsWhole)
  (arg10 : Memref sig .tc .vmem S1024x256 .bf16) (harg10 : arg10.IsWhole)

/-- The coordinate is the first exactly where the body prepares its scratch. -/
theorem first_iff : ∀ a : Fin 4, (Scalar.cmpi .ne (Scalar.extui (Scalar.cmpi .eq (BitVec.ofNat 32 a.val) 0#32)) 0#32 : BitVec 1) = 1#1 ↔ a.val = 0 := by decide

/-- The first part past the first point: three bytes' products, the scratch as it stands. -/
theorem part1_tail (hi : (i 0).val ≠ 0) (C : IVec S2048x256 32) (M : FVec F S1024x256 .bf16) (Q : (Σ' (_ : FVec F S2048x256 .f32), FVec F S2048x256 .bf16) → sProp (𝕄 F)) :
    iprop(Own d arg1 C ∗ Own d arg10 M ∗ (Own d arg1 C -∗ Own d arg10 M -∗ Q ⟨acc3 C M, byteF C 24#32⟩))
      ⊢ Wt d (k2_part1 (F := F) i arg1 harg1 arg2 harg2 arg3 harg3 arg4 harg4 arg5 harg5 arg6 harg6 arg7 harg7 arg8 harg8 arg9 harg9 arg10 harg10) Q := by
  unfold k2_part1
  have hc : ¬ (Scalar.cmpi .ne (Scalar.extui (Scalar.cmpi .eq (BitVec.ofNat 32 (i 0).val) 0#32)) 0#32 : BitVec 1) = 1#1 := fun h => hi ((first_iff (i 0)).mp h)
  extract_lets
  rw [dif_neg hc]
  iintro ⟨H1, H10, Hk⟩
  iapply (ldw_wp d arg1 C) $$ H1
  iintro H1
  iapply (ld_wp d arg10 M (rows M 0 (by omega)) (fun j => congrArg M (rows_idx j _ _ _))) $$ H10
  iintro H10
  iapply (ld_wp d arg10 M (rows M 256 (by omega)) (fun j => congrArg M (rows_idx j _ _ _))) $$ H10
  iintro H10
  iapply (ld_wp d arg10 M (rows M 512 (by omega)) (fun j => congrArg M (rows_idx j _ _ _))) $$ H10
  iintro H10
  simp only [shapeCast_self]
  iapply (ret_wp d ⟨acc3 C M, byteF C 24#32⟩ ?e)
  case e => rfl
  iapply Hk $$ H1 H10

/-- The first part at the first point: the scratch prepared, then as past it. -/
theorem part1_first (hi : (i 0).val = 0) (C : IVec S2048x256 32) (E : FVec F S1024x64 .f32) (W1 : FVec F S64x256 .f32) (M : FVec F S1024x256 .bf16)
    (Q : (Σ' (_ : FVec F S2048x256 .f32), FVec F S2048x256 .bf16) → sProp (𝕄 F)) :
    iprop(Own d arg1 C ∗ Own d arg2 E ∗ Own d arg3 W1 ∗ Own d arg10 M
        ∗ (Own d arg1 C -∗ Own d arg2 E -∗ Own d arg3 W1 -∗ Own d arg10 (prep E W1) -∗ Q ⟨acc3 C (prep E W1), byteF C 24#32⟩))
      ⊢ Wt d (k2_part1 (F := F) i arg1 harg1 arg2 harg2 arg3 harg3 arg4 harg4 arg5 harg5 arg6 harg6 arg7 harg7 arg8 harg8 arg9 harg9 arg10 harg10) Q := by
  unfold k2_part1
  have hc : (Scalar.cmpi .ne (Scalar.extui (Scalar.cmpi .eq (BitVec.ofNat 32 (i 0).val) 0#32)) 0#32 : BitVec 1) = 1#1 := (first_iff (i 0)).mpr hi
  extract_lets
  rw [dif_pos hc]
  iintro ⟨H1, H2, H3, H10, Hk⟩
  iapply (ldw_wp d arg2 E) $$ H2
  iintro H2
  iapply (ldw_wp d arg3 W1) $$ H3
  iintro H3
  iapply (ldw_wp d arg10 M) $$ H10
  iintro H10
  iapply (stw_wp d arg10 M) $$ H10
  iintro H10
  iapply (eq_wp d (k2_part1 (F := F) one arg1 harg1 arg2 harg2 arg3 harg3 arg4 harg4 arg5 harg5 arg6 harg6 arg7 harg7 arg8 harg8 arg9 harg9 arg10 harg10) ?e)
  case e =>
    unfold k2_part1
    extract_lets
    rw [dif_neg (by decide)]
  rw [shapeCast_self, shapeCast_self]
  iapply (part1_tail d one arg1 harg1 arg2 harg2 arg3 harg3 arg4 harg4 arg5 harg5 arg6 harg6 arg7 harg7 arg8 harg8 arg9 harg9 arg10 harg10 (by decide) C (prep E W1) Q)
  isplitl [H1]; · iexact H1
  isplitl [H10]; · iexact H10
  iintro H1 H10
  iapply Hk $$ H1 H2 H3 H10
/-- The scratch after a point that found it at `M`. -/
def scr (E : FVec F S1024x64 .f32) (W1 : FVec F S64x256 .f32) (M : FVec F S1024x256 .bf16) : FVec F S1024x256 .bf16 :=
  if (i 0).val = 0 then prep E W1 else M

/-- The first part at any point. -/
theorem part1_wp (C : IVec S2048x256 32) (E : FVec F S1024x64 .f32) (W1 : FVec F S64x256 .f32) (M : FVec F S1024x256 .bf16)
    (Q : (Σ' (_ : FVec F S2048x256 .f32), FVec F S2048x256 .bf16) → sProp (𝕄 F)) :
    iprop(Own d arg1 C ∗ Own d arg2 E ∗ Own d arg3 W1 ∗ Own d arg10 M
        ∗ (Own d arg1 C -∗ Own d arg2 E -∗ Own d arg3 W1 -∗ Own d arg10 (scr i E W1 M) -∗ Q ⟨acc3 C (scr i E W1 M), byteF C 24#32⟩))
      ⊢ Wt d (k2_part1 (F := F) i arg1 harg1 arg2 harg2 arg3 harg3 arg4 harg4 arg5 harg5 arg6 harg6 arg7 harg7 arg8 harg8 arg9 harg9 arg10 harg10) Q := by
  by_cases hi : (i 0).val = 0
  · rw [show scr i E W1 M = prep E W1 from if_pos hi]
    exact part1_first d i arg1 harg1 arg2 harg2 arg3 harg3 arg4 harg4 arg5 harg5 arg6 harg6 arg7 harg7 arg8 harg8 arg9 harg9 arg10 harg10 hi C E W1 M Q
  · rw [show scr i E W1 M = M from if_neg hi]
    refine BIBase.Entails.trans ?_ (part1_tail d i arg1 harg1 arg2 harg2 arg3 harg3 arg4 harg4 arg5 harg5 arg6 harg6 arg7 harg7 arg8 harg8 arg9 harg9 arg10 harg10 hi C M Q)
    iintro ⟨H1, H2, H3, H10, Hk⟩
    isplitl [H1]; · iexact H1
    isplitl [H10]; · iexact H10
    iintro H1 H10
    iapply Hk $$ H1 H2 H3 H10

/-- The whole body at any point: its result's block, and the scratch it leaves. -/
theorem mlp_wp (C : IVec S2048x256 32) (E : FVec F S1024x64 .f32) (W1 : FVec F S64x256 .f32) (b1 : FVec F S1x256 .f32) (W2 : FVec F S256x256 .f32) (b2 : FVec F S1x256 .f32)
    (Wo : FVec F S256x128 .f32) (bo : FVec F S1x128 .f32) (X : FVec F S2048x128 .f32) (M : FVec F S1024x256 .bf16) (Q : PUnit → sProp (𝕄 F)) :
    iprop(Own d arg1 C ∗ Own d arg2 E ∗ Own d arg3 W1 ∗ Own d arg4 b1 ∗ Own d arg5 W2 ∗ Own d arg6 b2 ∗ Own d arg7 Wo ∗ Own d arg8 bo ∗ Own d arg9 X ∗ Own d arg10 M
        ∗ (Own d arg1 C -∗ Own d arg2 E -∗ Own d arg3 W1 -∗ Own d arg4 b1 -∗ Own d arg5 W2 -∗ Own d arg6 b2 -∗ Own d arg7 Wo -∗ Own d arg8 bo
            -∗ Own d arg9 (blk C (scr i E W1 M) b1 W2 b2 Wo bo) -∗ Own d arg10 (scr i E W1 M) -∗ Q ⟨⟩))
      ⊢ Wt d (cc2__mlp_body (F := F) i arg1 harg1 arg2 harg2 arg3 harg3 arg4 harg4 arg5 harg5 arg6 harg6 arg7 harg7 arg8 harg8 arg9 harg9 arg10 harg10) Q := by
  unfold cc2__mlp_body Wt
  rw [wp_bind]
  refine BIBase.Entails.trans ?_ (part1_wp d i arg1 harg1 arg2 harg2 arg3 harg3 arg4 harg4 arg5 harg5 arg6 harg6 arg7 harg7 arg8 harg8 arg9 harg9 arg10 harg10 C E W1 M _)
  iintro ⟨H1, H2, H3, H4, H5, H6, H7, H8, H9, H10, Hk⟩
  isplitl [H1]; · iexact H1
  isplitl [H2]; · iexact H2
  isplitl [H3]; · iexact H3
  isplitl [H10]; · iexact H10
  iintro H1 H2 H3 H10
  generalize scr i E W1 M = M'
  dsimp only
  iapply (ld_wp d arg10 M' (rows M' 768 (by omega)) (fun j => congrArg M' (rows_idx j _ _ _))) $$ H10
  iintro H10
  iapply (ldw_wp d arg4 b1) $$ H4
  iintro H4
  iapply (ldw_wp d arg5 W2) $$ H5
  iintro H5
  iapply (ldw_wp d arg6 b2) $$ H6
  iintro H6
  iapply (ldw_wp d arg7 Wo) $$ H7
  iintro H7
  iapply (ldw_wp d arg8 bo) $$ H8
  iintro H8
  iapply (ldw_wp d arg9 X) $$ H9
  iintro H9
  iapply (stw_wp d arg9 X) $$ H9
  iintro H9
  simp only [shapeCast_self]
  iapply (ret_wp d ⟨⟩ ?e)
  case e => rfl
  iapply Hk $$ H1 H2 H3 H4 H5 H6 H7 H8 [H9] H10
  unfold blk hid2 hid1 term
  iexact H9

end Body

/-- The second call's body is the first's, its extra operand unused. -/
theorem cc3_body_eq (i : grid3.Coords) (arg1 : Memref sig .tc .vmem S2048x256 .i32) (harg1 : arg1.IsWhole) (arg2 : Memref sig .tc .vmem S1024x64 .f32) (harg2 : arg2.IsWhole) (arg3 : Memref sig .tc .vmem S64x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .hbm S16384x128 .f32) (harg9 : arg9.IsWhole) (arg10 : Memref sig .tc .vmem S2048x128 .f32) (harg10 : arg10.IsWhole) (arg11 : Memref sig .tc .vmem S1024x256 .bf16) (harg11 : arg11.IsWhole) :
    cc3__mlp_body_acc (F := F) i arg1 harg1 arg2 harg2 arg3 harg3 arg4 harg4 arg5 harg5 arg6 harg6 arg7 harg7 arg8 harg8 arg9 harg9 arg10 harg10 arg11 harg11
      = cc2__mlp_body (F := F) i arg1 harg1 arg2 harg2 arg3 harg3 arg4 harg4 arg5 harg5 arg6 harg6 arg7 harg7 arg8 harg8 arg10 harg10 arg11 harg11 := rfl

end Cert.Hist
-- ==== Proof.Tc.lean ====
/- The two dense calls as pipelines: what each point stages, finds and leaves, and that the body meets it. -/
module

public import proofs.«01_k».proof.Proof.Mlp
public import proofs.«01_k».proof.Proof.Gen.KernelIdeal.Points
public import proofs.«01_k».proof.Proof.Gen.KernelIdeal.Launch
public import Idealize.ShloMosaic.Lib.Pipeline.Value

@[expose] public section

noncomputable section

namespace Cert.Hist

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef)

variable {F : FTy → Type} [FloatOps F] [Named F]

/-- What a buffer of the core holds in a valuation. -/
abbrev at_ (V : Valuation τ sig (Elt F)) (b : Ref sig .tc) : b.ty.Contents (Elt F) := V (Proc.devRef .tc b)

/-- What the scratch holds after the first point. -/
abbrev prepV (V : Valuation τ sig (Elt F)) : FVec F S1024x256 .bf16 := prep (at_ V main_v0) (at_ V main_arg2)

/-- A block of the result from a block of counts. -/
abbrev blkV (V : Valuation τ sig (Elt F)) (C : IVec S2048x256 32) : FVec F S2048x128 .f32 :=
  blk C (prepV V) (at_ V main_v1) (at_ V main_arg4) (at_ V main_v2) (at_ V main_arg6) (at_ V main_v3)

/-- A scratch between points: at anything before the first, at the prepared table after. -/
def Scr (V : Valuation τ sig (Elt F)) (c : Dev nD) (b : Memref sig .tc .vmem S1024x256 .bf16) (n : Nat) : sProp (𝕄 F) :=
  iprop(∃ M, ⌜n ≠ 0 → M = prepV V⌝ ∗ Own c b M)

/-- An input window that every point leaves at `X`, the array's block at every point, is found at `X`. -/
theorem before_whole {cfg : Pipeline.Cfg sig Λ₀} {c : Dev nD} (dat : Dat τ (Elt F) (HIx 2) ℕ UU ℕ cfg c) (w : Fin cfg.W) (hw : (cfg.win w).isOut = false)
    (hlive : ∀ i, cfg.idle w i = false) (hclip : ∀ (i : cfg.grid.Coords) a, (cfg.win w).clip i a = none) (X : (cfg.win w).block.Idx → Elt F (cfg.win w).elt)
    (ha : ∀ t, dat.after w t = X) (hb : ∀ t, (cfg.win w).cut (cfg.grid.coords t) X = dat.blockOf w t) (t : Fin cfg.N) (d) : dat.before w t d = X := by
  rw [Dat.before_in_eq_fetched dat w hw hlive (fun t t' _ => by funext a; rw [hclip, hclip]) (fun t => by rw [ha, hb]) t d]
  unfold Dat.fetched
  rw [← hb, Pipeline.fill_of_clip_none w _ (hclip _) d X]
  exact (cfg.win w).fill_cut _ X

/-! ## The first call -/

/-- The counts' block at a point. -/
abbrev cb2 (V : Valuation τ sig (Elt F)) (t : Fin cfg2.N) : IVec S2048x256 32 := ((cfg2.win 0).blk t).view.read (Elt F) (at_ V main_v4)

/-- The core's other scoped buffers. -/
abbrev rest2 (c : Dev nD) : sProp (𝕄 F) := Pipeline.scopedRestBut (Ix := HIx 2) (Name := ℕ) (U := UU) (Lvl := ℕ) (Val := Elt F) spec2 c [cc2_scratch0]

/-- The first call's proof data, entered at the valuation `V`. -/
def dat2 (V : Valuation τ sig (Elt F)) (c : Dev nD) : Dat τ (Elt F) (HIx 2) ℕ UU ℕ cfg2 c where
  A w := V (Proc.devRef .tc (arrRef spec2 w))
  after w t := match w with
    | 0 => cb2 V t
    | 1 => at_ V main_v0
    | 2 => at_ V main_arg2
    | 3 => at_ V main_v1
    | 4 => at_ V main_arg4
    | 5 => at_ V main_v2
    | 6 => at_ V main_arg6
    | 7 => at_ V main_v3
    | 8 => blkV V (cb2 V t)
  Φ t := iprop(Scr V c (Memref.whole cc2_scratch0) t.val
    ∗ rest2 c)
  q _ := fullShare
  owed _ := 0

/-- The grid's coordinate is the point. -/
theorem coord2 (t : Fin cfg2.N) : (grid2.coords t 0).val = t.val := by
  obtain h | h | h | h := fin_N2 t <;> subst h <;> decide

theorem before2_0 (V : Valuation τ sig (Elt F)) (c : Dev nD) (t : Fin cfg2.N) (d) : (dat2 V c).before 0 t d = cb2 V t := by
  rw [Dat.before_fetched _ _ _ (fetch2_0 t)]; rfl

/-! The windows whose block is their whole array are found at the array. -/

theorem before2_1 (V : Valuation τ sig (Elt F)) (c : Dev nD) (t : Fin cfg2.N) (d) : (dat2 V c).before 1 t d = at_ V main_v0 :=
  before_whole (dat2 V c) 1 rfl (fun _ => rfl) (fun _ _ => rfl) _ (fun _ => rfl)
    (fun t => funext fun j => (congrArg (at_ V main_v0) (funext fun a => Fin.ext (Pipeline.Window.rect_emb_val_of_index_zero win2_1 t a (by fin_cases a <;> rfl) j))).symm) t d
theorem before2_2 (V : Valuation τ sig (Elt F)) (c : Dev nD) (t : Fin cfg2.N) (d) : (dat2 V c).before 2 t d = at_ V main_arg2 :=
  before_whole (dat2 V c) 2 rfl (fun _ => rfl) (fun _ _ => rfl) _ (fun _ => rfl)
    (fun t => funext fun j => (congrArg (at_ V main_arg2) (funext fun a => Fin.ext (Pipeline.Window.rect_emb_val_of_index_zero win2_2 t a (by fin_cases a <;> rfl) j))).symm) t d
theorem before2_3 (V : Valuation τ sig (Elt F)) (c : Dev nD) (t : Fin cfg2.N) (d) : (dat2 V c).before 3 t d = at_ V main_v1 :=
  before_whole (dat2 V c) 3 rfl (fun _ => rfl) (fun _ _ => rfl) _ (fun _ => rfl)
    (fun t => funext fun j => (congrArg (at_ V main_v1) (funext fun a => Fin.ext (Pipeline.Window.rect_emb_val_of_index_zero win2_3 t a (by fin_cases a <;> rfl) j))).symm) t d
theorem before2_4 (V : Valuation τ sig (Elt F)) (c : Dev nD) (t : Fin cfg2.N) (d) : (dat2 V c).before 4 t d = at_ V main_arg4 :=
  before_whole (dat2 V c) 4 rfl (fun _ => rfl) (fun _ _ => rfl) _ (fun _ => rfl)
    (fun t => funext fun j => (congrArg (at_ V main_arg4) (funext fun a => Fin.ext (Pipeline.Window.rect_emb_val_of_index_zero win2_4 t a (by fin_cases a <;> rfl) j))).symm) t d
theorem before2_5 (V : Valuation τ sig (Elt F)) (c : Dev nD) (t : Fin cfg2.N) (d) : (dat2 V c).before 5 t d = at_ V main_v2 :=
  before_whole (dat2 V c) 5 rfl (fun _ => rfl) (fun _ _ => rfl) _ (fun _ => rfl)
    (fun t => funext fun j => (congrArg (at_ V main_v2) (funext fun a => Fin.ext (Pipeline.Window.rect_emb_val_of_index_zero win2_5 t a (by fin_cases a <;> rfl) j))).symm) t d
theorem before2_6 (V : Valuation τ sig (Elt F)) (c : Dev nD) (t : Fin cfg2.N) (d) : (dat2 V c).before 6 t d = at_ V main_arg6 :=
  before_whole (dat2 V c) 6 rfl (fun _ => rfl) (fun _ _ => rfl) _ (fun _ => rfl)
    (fun t => funext fun j => (congrArg (at_ V main_arg6) (funext fun a => Fin.ext (Pipeline.Window.rect_emb_val_of_index_zero win2_6 t a (by fin_cases a <;> rfl) j))).symm) t d
theorem before2_7 (V : Valuation τ sig (Elt F)) (c : Dev nD) (t : Fin cfg2.N) (d) : (dat2 V c).before 7 t d = at_ V main_v3 :=
  before_whole (dat2 V c) 7 rfl (fun _ => rfl) (fun _ _ => rfl) _ (fun _ => rfl)
    (fun t => funext fun j => (congrArg (at_ V main_v3) (funext fun a => Fin.ext (Pipeline.Window.rect_emb_val_of_index_zero win2_7 t a (by fin_cases a <;> rfl) j))).symm) t d

/-- The body on a point's staging buffers. -/
theorem mlp2_wp (t : Fin cfg2.N) (d : Dev nD) (C : IVec S2048x256 32) (E : FVec F S1024x64 .f32) (W1 : FVec F S64x256 .f32) (b1 : FVec F S1x256 .f32) (W2 : FVec F S256x256 .f32) (b2 : FVec F S1x256 .f32)
    (Wo : FVec F S256x128 .f32) (bo : FVec F S1x128 .f32) (X : FVec F S2048x128 .f32) (M : FVec F S1024x256 .bf16) (Q : PUnit → sProp (𝕄 F)) :
    iprop(Own d (win2_0.stage (cfg2.slots t 0)) C ∗ Own d (win2_1.stage (cfg2.slots t 1)) E ∗ Own d (win2_2.stage (cfg2.slots t 2)) W1 ∗ Own d (win2_3.stage (cfg2.slots t 3)) b1 ∗ Own d (win2_4.stage (cfg2.slots t 4)) W2 ∗ Own d (win2_5.stage (cfg2.slots t 5)) b2 ∗ Own d (win2_6.stage (cfg2.slots t 6)) Wo ∗ Own d (win2_7.stage (cfg2.slots t 7)) bo ∗ Own d (win2_8.stage (cfg2.slots t 8)) X ∗ Own d (Memref.whole cc2_scratch0) M
        ∗ (Own d (win2_0.stage (cfg2.slots t 0)) C -∗ Own d (win2_1.stage (cfg2.slots t 1)) E -∗ Own d (win2_2.stage (cfg2.slots t 2)) W1 -∗ Own d (win2_3.stage (cfg2.slots t 3)) b1 -∗ Own d (win2_4.stage (cfg2.slots t 4)) W2 -∗ Own d (win2_5.stage (cfg2.slots t 5)) b2 -∗ Own d (win2_6.stage (cfg2.slots t 6)) Wo -∗ Own d (win2_7.stage (cfg2.slots t 7)) bo
            -∗ Own d (win2_8.stage (cfg2.slots t 8)) (blk C (scr (grid2.coords t) E W1 M) b1 W2 b2 Wo bo) -∗ Own d (Memref.whole cc2_scratch0) (scr (grid2.coords t) E W1 M) -∗ Q ⟨⟩))
      ⊢ Wt d (defs₀ (F := F) .tc cfg2.body (cfg2.bodyArgs t (cfg2.slots t))) Q := by
  show _ ⊢ Wt d (bodyAt2 (F := F) t) Q
  exact mlp_wp d (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (Memref.whole cc2_scratch0) (Memref.isWhole_whole _) C E W1 b1 W2 b2 Wo bo X M Q

/-- The body meets the pipeline's obligation at every point. -/
theorem body_obligation2 (V : Valuation τ sig (Elt F)) (c : Dev nD) : BodyObligation (dat2 V c) (defs₀ (F := F)) 𝒱₀ none Set.univ := fun t => by
  rw [bigSep_W2, bigSep_W2]
  rw [show (dat2 V c).Φ t.castSucc = iprop(Scr V c (Memref.whole cc2_scratch0) t.val ∗ rest2 c) from rfl,
    show (dat2 V c).Φ t.succ = iprop(Scr V c (Memref.whole cc2_scratch0) (t.val + 1) ∗ rest2 c) from rfl,
    show (dat2 V c).owesAt none t.succ = (dat2 V c).owesAt none t.castSucc from rfl]
  unfold Scr
  iintro ⟨⟨⟨%M, %hM, HS⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0, before2_1, before2_2, before2_3, before2_4, before2_5, before2_6, before2_7]
  have hs : scr (grid2.coords t) (at_ V main_v0) (at_ V main_arg2) M = prepV V := by
    unfold scr
    split
    · rfl
    · rename_i h; rw [coord2] at h; exact hM h
  iapply (mlp2_wp t c (cb2 V t) (at_ V main_v0) (at_ V main_arg2) (at_ V main_v1) (at_ V main_arg4) (at_ V main_v2) (at_ V main_arg6) (at_ V main_v3) _ M _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  rw [hs]
  iintro H0 H1 H2 H3 H4 H5 H6 H7 H8 HS
  isplitl [HS HR]
  · isplitl [HS]
    · iexists (prepV V)
      isplitr
      · ipureintro; exact fun _ => rfl
      · iexact HS
    · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The second call -/

/-- The counts' block at a point. -/
abbrev cb3 (V : Valuation τ sig (Elt F)) (t : Fin cfg3.N) : IVec S2048x256 32 := ((cfg3.win 0).blk t).view.read (Elt F) (at_ V main_v5)

/-- The core's other scoped buffers. -/
abbrev rest3 (c : Dev nD) : sProp (𝕄 F) := Pipeline.scopedRestBut (Ix := HIx 2) (Name := ℕ) (U := UU) (Lvl := ℕ) (Val := Elt F) spec3 c [cc3_scratch0]

/-- The second call's proof data, entered at the valuation `V`. -/
def dat3 (V : Valuation τ sig (Elt F)) (c : Dev nD) : Dat τ (Elt F) (HIx 2) ℕ UU ℕ cfg3 c where
  A w := V (Proc.devRef .tc (arrRef spec3 w))
  after w t := match w with
    | 0 => cb3 V t
    | 1 => at_ V main_v0
    | 2 => at_ V main_arg2
    | 3 => at_ V main_v1
    | 4 => at_ V main_arg4
    | 5 => at_ V main_v2
    | 6 => at_ V main_arg6
    | 7 => at_ V main_v3
    | 8 => blkV V (cb3 V t)
  Φ t := iprop(Scr V c (Memref.whole cc3_scratch0) t.val
    ∗ rest3 c)
  q _ := fullShare
  owed _ := 0

/-- The grid's coordinate is the point. -/
theorem coord3 (t : Fin cfg3.N) : (grid3.coords t 0).val = t.val := by
  obtain h | h | h | h := fin_N3 t <;> subst h <;> decide

theorem before3_0 (V : Valuation τ sig (Elt F)) (c : Dev nD) (t : Fin cfg3.N) (d) : (dat3 V c).before 0 t d = cb3 V t := by
  rw [Dat.before_fetched _ _ _ (fetch3_0 t)]; rfl

theorem before3_1 (V : Valuation τ sig (Elt F)) (c : Dev nD) (t : Fin cfg3.N) (d) : (dat3 V c).before 1 t d = at_ V main_v0 :=
  before_whole (dat3 V c) 1 rfl (fun _ => rfl) (fun _ _ => rfl) _ (fun _ => rfl)
    (fun t => funext fun j => (congrArg (at_ V main_v0) (funext fun a => Fin.ext (Pipeline.Window.rect_emb_val_of_index_zero win3_1 t a (by fin_cases a <;> rfl) j))).symm) t d
theorem before3_2 (V : Valuation τ sig (Elt F)) (c : Dev nD) (t : Fin cfg3.N) (d) : (dat3 V c).before 2 t d = at_ V main_arg2 :=
  before_whole (dat3 V c) 2 rfl (fun _ => rfl) (fun _ _ => rfl) _ (fun _ => rfl)
    (fun t => funext fun j => (congrArg (at_ V main_arg2) (funext fun a => Fin.ext (Pipeline.Window.rect_emb_val_of_index_zero win3_2 t a (by fin_cases a <;> rfl) j))).symm) t d
theorem before3_3 (V : Valuation τ sig (Elt F)) (c : Dev nD) (t : Fin cfg3.N) (d) : (dat3 V c).before 3 t d = at_ V main_v1 :=
  before_whole (dat3 V c) 3 rfl (fun _ => rfl) (fun _ _ => rfl) _ (fun _ => rfl)
    (fun t => funext fun j => (congrArg (at_ V main_v1) (funext fun a => Fin.ext (Pipeline.Window.rect_emb_val_of_index_zero win3_3 t a (by fin_cases a <;> rfl) j))).symm) t d
theorem before3_4 (V : Valuation τ sig (Elt F)) (c : Dev nD) (t : Fin cfg3.N) (d) : (dat3 V c).before 4 t d = at_ V main_arg4 :=
  before_whole (dat3 V c) 4 rfl (fun _ => rfl) (fun _ _ => rfl) _ (fun _ => rfl)
    (fun t => funext fun j => (congrArg (at_ V main_arg4) (funext fun a => Fin.ext (Pipeline.Window.rect_emb_val_of_index_zero win3_4 t a (by fin_cases a <;> rfl) j))).symm) t d
theorem before3_5 (V : Valuation τ sig (Elt F)) (c : Dev nD) (t : Fin cfg3.N) (d) : (dat3 V c).before 5 t d = at_ V main_v2 :=
  before_whole (dat3 V c) 5 rfl (fun _ => rfl) (fun _ _ => rfl) _ (fun _ => rfl)
    (fun t => funext fun j => (congrArg (at_ V main_v2) (funext fun a => Fin.ext (Pipeline.Window.rect_emb_val_of_index_zero win3_5 t a (by fin_cases a <;> rfl) j))).symm) t d
theorem before3_6 (V : Valuation τ sig (Elt F)) (c : Dev nD) (t : Fin cfg3.N) (d) : (dat3 V c).before 6 t d = at_ V main_arg6 :=
  before_whole (dat3 V c) 6 rfl (fun _ => rfl) (fun _ _ => rfl) _ (fun _ => rfl)
    (fun t => funext fun j => (congrArg (at_ V main_arg6) (funext fun a => Fin.ext (Pipeline.Window.rect_emb_val_of_index_zero win3_6 t a (by fin_cases a <;> rfl) j))).symm) t d
theorem before3_7 (V : Valuation τ sig (Elt F)) (c : Dev nD) (t : Fin cfg3.N) (d) : (dat3 V c).before 7 t d = at_ V main_v3 :=
  before_whole (dat3 V c) 7 rfl (fun _ => rfl) (fun _ _ => rfl) _ (fun _ => rfl)
    (fun t => funext fun j => (congrArg (at_ V main_v3) (funext fun a => Fin.ext (Pipeline.Window.rect_emb_val_of_index_zero win3_7 t a (by fin_cases a <;> rfl) j))).symm) t d

/-- The body on a point's staging buffers. -/
theorem mlp3_wp (t : Fin cfg3.N) (d : Dev nD) (C : IVec S2048x256 32) (E : FVec F S1024x64 .f32) (W1 : FVec F S64x256 .f32) (b1 : FVec F S1x256 .f32) (W2 : FVec F S256x256 .f32) (b2 : FVec F S1x256 .f32)
    (Wo : FVec F S256x128 .f32) (bo : FVec F S1x128 .f32) (X : FVec F S2048x128 .f32) (M : FVec F S1024x256 .bf16) (Q : PUnit → sProp (𝕄 F)) :
    iprop(Own d (win3_0.stage (cfg3.slots t 0)) C ∗ Own d (win3_1.stage (cfg3.slots t 1)) E ∗ Own d (win3_2.stage (cfg3.slots t 2)) W1 ∗ Own d (win3_3.stage (cfg3.slots t 3)) b1 ∗ Own d (win3_4.stage (cfg3.slots t 4)) W2 ∗ Own d (win3_5.stage (cfg3.slots t 5)) b2 ∗ Own d (win3_6.stage (cfg3.slots t 6)) Wo ∗ Own d (win3_7.stage (cfg3.slots t 7)) bo ∗ Own d (win3_8.stage (cfg3.slots t 8)) X ∗ Own d (Memref.whole cc3_scratch0) M
        ∗ (Own d (win3_0.stage (cfg3.slots t 0)) C -∗ Own d (win3_1.stage (cfg3.slots t 1)) E -∗ Own d (win3_2.stage (cfg3.slots t 2)) W1 -∗ Own d (win3_3.stage (cfg3.slots t 3)) b1 -∗ Own d (win3_4.stage (cfg3.slots t 4)) W2 -∗ Own d (win3_5.stage (cfg3.slots t 5)) b2 -∗ Own d (win3_6.stage (cfg3.slots t 6)) Wo -∗ Own d (win3_7.stage (cfg3.slots t 7)) bo
            -∗ Own d (win3_8.stage (cfg3.slots t 8)) (blk C (scr (grid3.coords t) E W1 M) b1 W2 b2 Wo bo) -∗ Own d (Memref.whole cc3_scratch0) (scr (grid3.coords t) E W1 M) -∗ Q ⟨⟩))
      ⊢ Wt d (defs₀ (F := F) .tc cfg3.body (cfg3.bodyArgs t (cfg3.slots t))) Q := by
  show _ ⊢ Wt d (bodyAt3 (F := F) t) Q
  rw [show bodyAt3 (F := F) t = cc2__mlp_body (F := F) (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (Memref.whole cc3_scratch0) (Memref.isWhole_whole _) from cc3_body_eq _ _ _ _ _ _ _ _ _ _ _ _ _ _ _ _ _ _ _ _ _ _ _]
  exact mlp_wp d (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (Memref.whole cc3_scratch0) (Memref.isWhole_whole _) C E W1 b1 W2 b2 Wo bo X M Q

/-- The body meets the pipeline's obligation at every point. -/
theorem body_obligation3 (V : Valuation τ sig (Elt F)) (c : Dev nD) : BodyObligation (dat3 V c) (defs₀ (F := F)) 𝒱₀ none Set.univ := fun t => by
  rw [bigSep_W3, bigSep_W3]
  rw [show (dat3 V c).Φ t.castSucc = iprop(Scr V c (Memref.whole cc3_scratch0) t.val ∗ rest3 c) from rfl,
    show (dat3 V c).Φ t.succ = iprop(Scr V c (Memref.whole cc3_scratch0) (t.val + 1) ∗ rest3 c) from rfl,
    show (dat3 V c).owesAt none t.succ = (dat3 V c).owesAt none t.castSucc from rfl]
  unfold Scr
  iintro ⟨⟨⟨%M, %hM, HS⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before3_0, before3_1, before3_2, before3_3, before3_4, before3_5, before3_6, before3_7]
  have hs : scr (grid3.coords t) (at_ V main_v0) (at_ V main_arg2) M = prepV V := by
    unfold scr
    split
    · rfl
    · rename_i h; rw [coord3] at h; exact hM h
  iapply (mlp3_wp t c (cb3 V t) (at_ V main_v0) (at_ V main_arg2) (at_ V main_v1) (at_ V main_arg4) (at_ V main_v2) (at_ V main_arg6) (at_ V main_v3) _ M _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  rw [hs]
  iintro H0 H1 H2 H3 H4 H5 H6 H7 H8 HS
  isplitl [HS HR]
  · isplitl [HS]
    · iexists (prepV V)
      isplitr
      · ipureintro; exact fun _ => rfl
      · iexact HS
    · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Hist
-- ==== Proof.Region.lean ====
/- The two dense calls run whole: from the buffers at a valuation to the buffers at it with the call's result changed. -/
module

public import proofs.«01_k».proof.Proof.Tc
public import proofs.«01_k».proof.Proof.Sc

@[expose] public section

noncomputable section

namespace Cert.Hist

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef RegionSeg arrRefs ucRefs)
open Idealize.ShloMosaic.StableHlo (held)

variable {F : FTy → Type} [FloatOps F] [Named F]

/-- The handshakes' embedding. -/
def EH : Emb UH (𝕄 F) := (Emb.inl : Emb UH (UH × UP)).trans embL

/-- The pipelines' embedding. -/
def EP : Emb UP (𝕄 F) := (Emb.inr : Emb UP (UH × UP)).trans embL

instance EH_landsIn : (EH : Emb UH (𝕄 F)).LandsIn (upEmb : UEmb _ (𝕄 F)) := by unfold EH; infer_instance
instance EP_landsIn : (EP : Emb UP (𝕄 F)).LandsIn (upEmb : UEmb _ (𝕄 F)) := by unfold EP; infer_instance

abbrev adm : (p : Fin 2) → (pcfgs (F := F) p).Adm := fun p => (cfgs p).toPCfg_adm

/-- Both calls' proof data, entered at one valuation per core. -/
def pdats (V : Dev nD → Valuation τ sig (Elt F)) : (p : Fin 2) → (c : Dev nD) → Dat τ (Elt F) (HIx 2) ℕ UU ℕ (Pipeline.pin (pcfgs (F := F)) adm p) c
  | 0 => fun c => dat2 (V c) c
  | 1 => fun c => dat3 (V c) c

/-- The first dense call's result. -/
def out2 (V : Valuation τ sig (Elt F)) (c : Dev nD) : main_v6.ty.Contents (Elt F) := (dat2 V c).arrAt 8 cfg2.N

/-- The second's. -/
def out3 (V : Valuation τ sig (Elt F)) (c : Dev nD) : main_v7.ty.Contents (Elt F) := (dat3 V c).arrAt 8 cfg3.N

/-- The valuation after the first dense call. -/
def aft2 (V : Valuation τ sig (Elt F)) (c : Dev nD) : Valuation τ sig (Elt F) := Function.update V (Proc.devRef .tc main_v6) (out2 V c)

/-- The valuation after the second. -/
def aft3 (V : Valuation τ sig (Elt F)) (c : Dev nD) : Valuation τ sig (Elt F) := Function.update V (Proc.devRef .tc main_v7) (out3 V c)

theorem aft2_ne (V : Valuation τ sig (Elt F)) (c : Dev nD) (b : Ref sig .tc) (h : b ≠ main_v6) : at_ (aft2 V c) b = at_ V b :=
  Function.update_of_ne (fun e => h (Proc.devRef_injective _ e)) _ _

theorem aft3_ne (V : Valuation τ sig (Elt F)) (c : Dev nD) (b : Ref sig .tc) (h : b ≠ main_v7) : at_ (aft3 V c) b = at_ V b :=
  Function.update_of_ne (fun e => h (Proc.devRef_injective _ e)) _ _

/-- Nothing is owed at a dense call, so every wait of it is allowed. -/
theorem cut (p : Fin 2) : Pipeline.LevelCut (pcfgs (F := F)) adm none (K (F := F)).L (K (F := F)).lev p (fun _ : Dev nD => 0) (fun _ => 0) where
  hι c w s := Finset.mem_univ _
  hιb c w s := le_of_eq rfl
  hD c g i h := absurd h (lt_irrefl 0)

/-- The scoped buffers the first call doesn't stage: its scratch, and the others. -/
theorem scoped2 (c : Dev nD) : (Pipeline.scopedRest (Ix := HIx 2) (Name := ℕ) (U := UU) (Lvl := ℕ) (Val := Elt F) spec2 c : sProp (𝕄 F))
    = iprop((∃ f : Buf (Elt F) ((c.tc : Thread nD τ).loc cc2_scratch0), ((c.tc : Thread nD τ).loc cc2_scratch0) ↦{fullShare} f) ∗ rest2 c) :=
  Pipeline.scopedRest_split_of_list spec2 c [cc2_scratch0] (by decide) (by decide)

/-- The scoped buffers the second call doesn't stage. -/
theorem scoped3 (c : Dev nD) : (Pipeline.scopedRest (Ix := HIx 2) (Name := ℕ) (U := UU) (Lvl := ℕ) (Val := Elt F) spec3 c : sProp (𝕄 F))
    = iprop((∃ f : Buf (Elt F) ((c.tc : Thread nD τ).loc cc3_scratch0), ((c.tc : Thread nD τ).loc cc3_scratch0) ↦{fullShare} f) ∗ rest3 c) :=
  Pipeline.scopedRest_split_of_list spec3 c [cc3_scratch0] (by decide) (by decide)

theorem hin2 (V : Valuation τ sig (Elt F)) (c : Dev nD) :
    iprop(Pipeline.scopedRest (Ix := HIx 2) (Name := ℕ) (U := UU) (Lvl := ℕ) (Val := Elt F) spec2 c ∗ emp) ⊢ (dat2 V c).Φ 0 := by
  rw [scoped2, show (dat2 V c).Φ 0 = iprop(Scr V c (Memref.whole cc2_scratch0) 0 ∗ rest2 c) from rfl]
  unfold Scr
  iintro ⟨⟨⟨%f, H⟩, HR⟩, -⟩
  isplitl [H]
  · iexists f
    isplitr; · ipureintro; exact fun h => absurd rfl h
    iapply (Entails.of_eq (owns_whole _ cc2_scratch0 _ f).symm) $$ H
  · iexact HR

theorem hin3 (V : Valuation τ sig (Elt F)) (c : Dev nD) :
    iprop(Pipeline.scopedRest (Ix := HIx 2) (Name := ℕ) (U := UU) (Lvl := ℕ) (Val := Elt F) spec3 c ∗ emp) ⊢ (dat3 V c).Φ 0 := by
  rw [scoped3, show (dat3 V c).Φ 0 = iprop(Scr V c (Memref.whole cc3_scratch0) 0 ∗ rest3 c) from rfl]
  unfold Scr
  iintro ⟨⟨⟨%f, H⟩, HR⟩, -⟩
  isplitl [H]
  · iexists f
    isplitr; · ipureintro; exact fun h => absurd rfl h
    iapply (Entails.of_eq (owns_whole _ cc3_scratch0 _ f).symm) $$ H
  · iexact HR

theorem hout2 (V : Valuation τ sig (Elt F)) (c : Dev nD) :
    (dat2 V c).Φ (Fin.last cfg2.N) ⊢ iprop(Pipeline.scopedRest (Ix := HIx 2) (Name := ℕ) (U := UU) (Lvl := ℕ) (Val := Elt F) spec2 c ∗ emp) := by
  rw [scoped2, show (dat2 V c).Φ (Fin.last cfg2.N) = iprop(Scr V c (Memref.whole cc2_scratch0) cfg2.N ∗ rest2 c) from rfl]
  unfold Scr
  iintro ⟨⟨%M, -, H⟩, HR⟩
  isplitl [H HR]
  · isplitl [H]
    · iexists M; iapply (Entails.of_eq (owns_whole _ cc2_scratch0 _ M)) $$ H
    · iexact HR
  · iempintro

theorem hout3 (V : Valuation τ sig (Elt F)) (c : Dev nD) :
    (dat3 V c).Φ (Fin.last cfg3.N) ⊢ iprop(Pipeline.scopedRest (Ix := HIx 2) (Name := ℕ) (U := UU) (Lvl := ℕ) (Val := Elt F) spec3 c ∗ emp) := by
  rw [scoped3, show (dat3 V c).Φ (Fin.last cfg3.N) = iprop(Scr V c (Memref.whole cc3_scratch0) cfg3.N ∗ rest3 c) from rfl]
  unfold Scr
  iintro ⟨⟨%M, -, H⟩, HR⟩
  isplitl [H HR]
  · isplitl [H]
    · iexists M; iapply (Entails.of_eq (owns_whole _ cc3_scratch0 _ M)) $$ H
    · iexact HR
  · iempintro

theorem aft2_self (V : Valuation τ sig (Elt F)) (c : Dev nD) : at_ (aft2 V c) main_v6 = out2 V c :=
  by unfold aft2 at_; rw [Function.update_self]

/-- Every array of the call ends as the valuation after it says. -/
theorem exit2 (V : Valuation τ sig (Elt F)) (c : Dev nD) (w : Fin 9) : (dat2 V c).arrAt w cfg2.N = at_ (aft2 V c) (arrRef spec2 w) := by
  by_cases h : w = 8
  · subst h; exact (aft2_self V c).symm
  · have h1 : ∀ w : Fin 9, w ≠ 8 → arrRef spec2 w ≠ main_v6 := by decide
    have h2 : ∀ w : Fin 9, w ≠ 8 → (spec2 w).isOut = false := by decide
    exact ((dat2 V c).arrAt_in w (h2 w h) _).trans (aft2_ne V c _ (h1 w h)).symm

theorem aft3_self (V : Valuation τ sig (Elt F)) (c : Dev nD) : at_ (aft3 V c) main_v7 = out3 V c :=
  by unfold aft3 at_; rw [Function.update_self]

/-- Every array of the call ends as the valuation after it says. -/
theorem exit3 (V : Valuation τ sig (Elt F)) (c : Dev nD) (w : Fin 9) : (dat3 V c).arrAt w cfg3.N = at_ (aft3 V c) (arrRef spec3 w) := by
  by_cases h : w = 8
  · subst h; exact (aft3_self V c).symm
  · have h1 : ∀ w : Fin 9, w ≠ 8 → arrRef spec3 w ≠ main_v7 := by decide
    have h2 : ∀ w : Fin 9, w ≠ 8 → (spec3 w).isOut = false := by decide
    exact ((dat3 V c).arrAt_in w (h2 w h) _).trans (aft3_ne V c _ (h1 w h)).symm

set_option backward.isDefEq.respectTransparency.types false in
/-- The first dense call's region. -/
def reg2 (V : Dev nD → Valuation τ sig (Elt F)) : RegionSeg (pcfgs (F := F)) adm (pdats V) none defs₀ 𝒱₀ (K (F := F)).L (K (F := F)).lev 0 :=
  RegionSeg.ofHeld (pcfgs (F := F)) adm (pdats V) none defs₀ 𝒱₀ (K (F := F)).L (K (F := F)).lev 0 (fun _ => 0) (fun _ => iprop(emp)) (fun _ => iprop(emp))
    launch2.toP rfl (fun c => (body_obligation2 (V c) c).loose) (fun _ _ => rfl) (fun _ => rfl) (fun c => (dat2 (V c) c).share_full fun _ => rfl)
    (fun c => hin2 (V c) c) (fun c => hout2 (V c) c) (fun _ => 0) (cut 0) (fun _ => iprop(emp)) V (fun c => aft2 (V c) c) (fun _ _ => rfl)
    (fun c => exit2 (V c) c)

set_option backward.isDefEq.respectTransparency.types false in
/-- The second's. -/
def reg3 (V : Dev nD → Valuation τ sig (Elt F)) : RegionSeg (pcfgs (F := F)) adm (pdats V) none defs₀ 𝒱₀ (K (F := F)).L (K (F := F)).lev 1 :=
  RegionSeg.ofHeld (pcfgs (F := F)) adm (pdats V) none defs₀ 𝒱₀ (K (F := F)).L (K (F := F)).lev 1 (fun _ => 0) (fun _ => iprop(emp)) (fun _ => iprop(emp))
    launch3.toP rfl (fun c => (body_obligation3 (V c) c).loose) (fun _ _ => rfl) (fun _ => rfl) (fun c => (dat3 (V c) c).share_full fun _ => rfl)
    (fun c => hin3 (V c) c) (fun c => hout3 (V c) c) (fun _ => 0) (cut 1) (fun _ => iprop(emp)) V (fun c => aft3 (V c) c) (fun _ _ => rfl)
    (fun c => exit3 (V c) c)

theorem reg2_pre (V : Dev nD → Valuation τ sig (Elt F)) (c : Dev nD) :
    (reg2 V).pre c = iprop(held (c.tc : Thread nD τ) (arrRefs (τ := τ) spec2) (V c) ∗ emp ∗ emp ∗ ∃ W, owes (c.tc : Thread nD τ) 0 W) := rfl

theorem reg2_post (V : Dev nD → Valuation τ sig (Elt F)) (c : Dev nD) :
    (reg2 V).post c = iprop(held (c.tc : Thread nD τ) (arrRefs (τ := τ) spec2) (aft2 (V c) c) ∗ emp ∗ emp ∗ ∃ W, owes (c.tc : Thread nD τ) 0 W) := rfl

/-- The buffers are the call's arrays and the others. -/
theorem split2 (V : Valuation τ sig (Elt F)) (c : Dev nD) : (held (c.tc : Thread nD τ) (ucRefs τ sig) V : sProp (𝕄 F))
    = iprop(held (c.tc : Thread nD τ) (arrRefs (τ := τ) spec2) V ∗ held (c.tc : Thread nD τ) (ucRefs τ sig \ arrRefs (τ := τ) spec2) V) :=
  StableHlo.held_sub_split _ (Pipeline.arrRefs_sub_ucRefs _ (by decide)) V

/-- The others are as they were after the call. -/
theorem rest2_eq (V : Valuation τ sig (Elt F)) (c : Dev nD) : (held (c.tc : Thread nD τ) (ucRefs τ sig \ arrRefs (τ := τ) spec2) (aft2 V c) : sProp (𝕄 F))
    = held (c.tc : Thread nD τ) (ucRefs τ sig \ arrRefs (τ := τ) spec2) V := by
  have hm : (Proc.devRef .tc main_v6 : DevRef τ sig) ∈ arrRefs (τ := τ) spec2 := Finset.mem_map.mpr ⟨main_v6, Finset.mem_image.mpr ⟨(8 : Fin 9), Finset.mem_univ _, rfl⟩, rfl⟩
  refine StableHlo.held_congr _ fun b hb => Function.update_of_ne (fun e => (Finset.mem_sdiff.mp hb).2 ?_) _ _
  rw [e]; exact hm

theorem reg3_pre (V : Dev nD → Valuation τ sig (Elt F)) (c : Dev nD) :
    (reg3 V).pre c = iprop(held (c.tc : Thread nD τ) (arrRefs (τ := τ) spec3) (V c) ∗ emp ∗ emp ∗ ∃ W, owes (c.tc : Thread nD τ) 0 W) := rfl

theorem reg3_post (V : Dev nD → Valuation τ sig (Elt F)) (c : Dev nD) :
    (reg3 V).post c = iprop(held (c.tc : Thread nD τ) (arrRefs (τ := τ) spec3) (aft3 (V c) c) ∗ emp ∗ emp ∗ ∃ W, owes (c.tc : Thread nD τ) 0 W) := rfl

/-- The buffers are the call's arrays and the others. -/
theorem split3 (V : Valuation τ sig (Elt F)) (c : Dev nD) : (held (c.tc : Thread nD τ) (ucRefs τ sig) V : sProp (𝕄 F))
    = iprop(held (c.tc : Thread nD τ) (arrRefs (τ := τ) spec3) V ∗ held (c.tc : Thread nD τ) (ucRefs τ sig \ arrRefs (τ := τ) spec3) V) :=
  StableHlo.held_sub_split _ (Pipeline.arrRefs_sub_ucRefs _ (by decide)) V

/-- The others are as they were after the call. -/
theorem rest3_eq (V : Valuation τ sig (Elt F)) (c : Dev nD) : (held (c.tc : Thread nD τ) (ucRefs τ sig \ arrRefs (τ := τ) spec3) (aft3 V c) : sProp (𝕄 F))
    = held (c.tc : Thread nD τ) (ucRefs τ sig \ arrRefs (τ := τ) spec3) V := by
  have hm : (Proc.devRef .tc main_v7 : DevRef τ sig) ∈ arrRefs (τ := τ) spec3 := Finset.mem_map.mpr ⟨main_v7, Finset.mem_image.mpr ⟨(8 : Fin 9), Finset.mem_univ _, rfl⟩, rfl⟩
  refine StableHlo.held_congr _ fun b hb => Function.update_of_ne (fun e => (Finset.mem_sdiff.mp hb).2 ?_) _ _
  rw [e]; exact hm

/-- The first dense call, run whole. -/
theorem call2_wp (V : Dev nD → Valuation τ sig (Elt F)) (c : Dev nD) (Q : PUnit → sProp (𝕄 F)) :
    iprop(boundary (c.tc : Thread nD τ) ∗ held (c.tc : Thread nD τ) (ucRefs τ sig) (V c) ∗ (∃ W, owes (c.tc : Thread nD τ) 0 W) ∗ levAts (K (F := F)).L (K (F := F)).lev
        ∗ Pipeline.cellsGhost (Pipeline.pin (pcfgs (F := F)) adm) EP 0 c ∗ Pipeline.toksInit (Pipeline.pin (pcfgs (F := F)) adm) EP 0 c
        ∗ (boundary (c.tc : Thread nD τ) ∗ held (c.tc : Thread nD τ) (ucRefs τ sig) (aft2 (V c) c) ∗ (∃ W, owes (c.tc : Thread nD τ) 0 W) -∗ Q ⟨⟩))
      ⊢ wp frame (wpE ((K (F := F)).defs (D (F := F))) 𝒱 (c.tc : Thread nD τ) none) Set.univ (Prog.lift (.customCall (SparseCore.inner (Pipeline.entry 0)) ())) Q := by
  have h1 := (K (F := F)).wp_liftProg (D (F := F)) 𝒱 (c.tc : Thread nD τ) Set.univ none (.op (.customCall (Pipeline.entry 0) ()) fun _ => .ret ⟨⟩) Q
  have h2 := (reg2 V).wp (pcfgs (F := F)) adm (pdats V) none cellOf_inj EP defs₀ 𝒱₀ (K (F := F)).L (K (F := F)).lev c none (fun _ h => nomatch h) (fun _ => .ret ⟨⟩) Q
  rw [reg2_pre, reg2_post, wp_ret] at h2
  refine BIBase.Entails.trans ?_ (h2.trans h1)
  rw [split2 (V c), split2 (aft2 (V c) c), rest2_eq]
  iintro ⟨Hb, ⟨Ha, Hr⟩, HO, Hl, Hg, Ht, HQ⟩
  isplitl [HQ Hr]
  · iintro ⟨Hb, Ha, -, -, HO⟩
    imodintro
    iapply HQ
    isplitl [Hb]; · iexact Hb
    isplitl [Ha Hr]
    · isplitl [Ha]; · iexact Ha
      iexact Hr
    iexact HO
  isplitl [Hb]; · iexact Hb
  isplitl [Ha HO]
  · isplitl [Ha]; · iexact Ha
    isplitr; · iempintro
    isplitr; · iempintro
    iexact HO
  isplitl [Hl]; · iexact Hl
  isplitl [Hg]; · iexact Hg
  iexact Ht

/-- The second dense call, run whole. -/
theorem call3_wp (V : Dev nD → Valuation τ sig (Elt F)) (c : Dev nD) (Q : PUnit → sProp (𝕄 F)) :
    iprop(boundary (c.tc : Thread nD τ) ∗ held (c.tc : Thread nD τ) (ucRefs τ sig) (V c) ∗ (∃ W, owes (c.tc : Thread nD τ) 0 W) ∗ levAts (K (F := F)).L (K (F := F)).lev
        ∗ Pipeline.cellsGhost (Pipeline.pin (pcfgs (F := F)) adm) EP 1 c ∗ Pipeline.toksInit (Pipeline.pin (pcfgs (F := F)) adm) EP 1 c
        ∗ (boundary (c.tc : Thread nD τ) ∗ held (c.tc : Thread nD τ) (ucRefs τ sig) (aft3 (V c) c) ∗ (∃ W, owes (c.tc : Thread nD τ) 0 W) -∗ Q ⟨⟩))
      ⊢ wp frame (wpE ((K (F := F)).defs (D (F := F))) 𝒱 (c.tc : Thread nD τ) none) Set.univ (Prog.lift (.customCall (SparseCore.inner (Pipeline.entry 1)) ())) Q := by
  have h1 := (K (F := F)).wp_liftProg (D (F := F)) 𝒱 (c.tc : Thread nD τ) Set.univ none (.op (.customCall (Pipeline.entry 1) ()) fun _ => .ret ⟨⟩) Q
  have h2 := (reg3 V).wp (pcfgs (F := F)) adm (pdats V) none cellOf_inj EP defs₀ 𝒱₀ (K (F := F)).L (K (F := F)).lev c none (fun _ h => nomatch h) (fun _ => .ret ⟨⟩) Q
  rw [reg3_pre, reg3_post, wp_ret] at h2
  refine BIBase.Entails.trans ?_ (h2.trans h1)
  rw [split3 (V c), split3 (aft3 (V c) c), rest3_eq]
  iintro ⟨Hb, ⟨Ha, Hr⟩, HO, Hl, Hg, Ht, HQ⟩
  isplitl [HQ Hr]
  · iintro ⟨Hb, Ha, -, -, HO⟩
    imodintro
    iapply HQ
    isplitl [Hb]; · iexact Hb
    isplitl [Ha Hr]
    · isplitl [Ha]; · iexact Ha
      iexact Hr
    iexact HO
  isplitl [Hb]; · iexact Hb
  isplitl [Ha HO]
  · isplitl [Ha]; · iexact Ha
    isplitr; · iempintro
    isplitr; · iempintro
    iexact HO
  isplitl [Hl]; · iexact Hl
  isplitl [Hg]; · iexact Hg
  iexact Ht

end Cert.Hist
-- ==== Proof.Launch.lean ====
/- The program's run: @main on the TensorCore from the launch's buffers to its result, and the launch theorem applied. -/
module

public import proofs.«01_k».proof.Proof.Region
public import Idealize.ShloMosaic.Lib.StableHlo.RunRead

@[expose] public section

noncomputable section

namespace Cert.Hist

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs)
open Idealize.ShloMosaic.StableHlo (held)
open Idealize.ShloMosaic.Rounds

variable {F : FTy → Type} [FloatOps F] [Named F]

/-! ## The buffers' contents along the program -/

/-- The host's operations before the calls: the table padded, the biases as rows. -/
abbrev ops : List (HloOp τ sig (Elt F)) :=
  [StableHlo.nullary main_c (constantI S_ 32 0#32),
   StableHlo.TRef.unary (.of main_c) main_call0.v0 (sitofp .f32),
   StableHlo.TRef.binary (.of main_arg1 : StableHlo.TRef sig ⟨S1000x64, .f32⟩) main_call0.v0 main_call0.v1 (fun x v => pad S1024x64 ![0, 0] ![24, 0] ![0, 0] x v pads_S1000x64_S1024x64_0240_000 h_S_),
   StableHlo.reshape main_arg3 main_v1 (rfl : (.f32 : EltTy) = .f32) shapeCasts_S256_S1x256,
   StableHlo.reshape main_arg5 main_v2 (rfl : (.f32 : EltTy) = .f32) shapeCasts_S256_S1x256,
   StableHlo.reshape main_arg7 main_v3 (rfl : (.f32 : EltTy) = .f32) shapeCasts_S128_S1x128]

/-- The copy between the dense calls. -/
abbrev cpy : HloOp τ sig (Elt F) := StableHlo.unary main_v6 main_v7 id

variable (m : (ℓ : Loc nD τ sig) → Buf (Elt F) ℓ) (ρ : Dev nD → PrngReg) (d : Dev nD)

/-- After the host's operations. -/
def V1 : Valuation τ sig (Elt F) := StableHlo.after ops (StableHlo.launchContents m d)

/-- After the first SparseCore call. -/
def Va : Valuation τ sig (Elt F) := Function.update (V1 m d) (Proc.devRef .tc main_v4) (C0 m d)

/-- After the second. -/
def V2 : Valuation τ sig (Elt F) := Function.update (Va m d) (Proc.devRef .tc main_v5) (C1 m d)

/-- After the first dense call. -/
def V3 : Valuation τ sig (Elt F) := aft2 (V2 m d) d

/-- After the copy. -/
def V4 : Valuation τ sig (Elt F) := (cpy (F := F)).result (V3 m d)

/-- At the end. -/
def V5 : Valuation τ sig (Elt F) := aft3 (V4 m d) d

theorem V1_of (b : Ref sig .tc) (h : b ∉ [main_c, main_call0_v0, main_v0, main_v1, main_v2, main_v3]) : at_ (V1 m d) b = m (d, Proc.devRef .tc b) :=
  StableHlo.after_unwritten [main_c, main_call0_v0, main_v0, main_v1, main_v2, main_v3] rfl h _

theorem Va_ne (b : Ref sig .tc) (h : b ≠ main_v4) : at_ (Va m d) b = at_ (V1 m d) b := Function.update_of_ne (fun e => h (Proc.devRef_injective _ e)) _ _
theorem Va_self : at_ (Va m d) main_v4 = C0 m d := by unfold Va at_; rw [Function.update_self]
theorem V2_ne (b : Ref sig .tc) (h : b ≠ main_v5) : at_ (V2 m d) b = at_ (Va m d) b := Function.update_of_ne (fun e => h (Proc.devRef_injective _ e)) _ _
theorem V2_self : at_ (V2 m d) main_v5 = C1 m d := by unfold V2 at_; rw [Function.update_self]
theorem V3_ne (b : Ref sig .tc) (h : b ≠ main_v6) : at_ (V3 m d) b = at_ (V2 m d) b := aft2_ne _ _ b h
theorem V4_ne (b : Ref sig .tc) (h : b ≠ main_v7) : at_ (V4 m d) b = at_ (V3 m d) b := StableHlo.unary_result_ne' _ _ _ _ h
theorem V4_self : at_ (V4 m d) main_v7 = at_ (V3 m d) main_v6 := StableHlo.unary_result' _ _ _ _
theorem V5_ne (b : Ref sig .tc) (h : b ≠ main_v7) : at_ (V5 m d) b = at_ (V4 m d) b := aft3_ne _ _ b h

/-- An argument is never written. -/
theorem V5_arg (b : Ref sig .tc) (h : b ∉ [main_c, main_call0_v0, main_v0, main_v1, main_v2, main_v3, main_v4, main_v5, main_v6, main_v7]) :
    at_ (V5 m d) b = m (d, Proc.devRef .tc b) := by
  have ne {r : Ref sig .tc} (hr : r ∈ [main_c, main_call0_v0, main_v0, main_v1, main_v2, main_v3, main_v4, main_v5, main_v6, main_v7]) : b ≠ r := fun e => h (e ▸ hr)
  rw [V5_ne m d b (ne (by decide)), V4_ne m d b (ne (by decide)), V3_ne m d b (ne (by decide)), V2_ne m d b (ne (by decide)), Va_ne m d b (ne (by decide))]
  exact V1_of m d b fun hb => h (List.mem_append_left [main_v4, main_v5, main_v6, main_v7] hb)

/-! ## The SparseCore calls -/

theorem mem_uc (b : Ref sig .tc) (h : b.isScoped = false) : (Proc.devRef .tc b : DevRef τ sig) ∈ ucRefs τ sig :=
  Finset.mem_filter.mpr ⟨StableHlo.devRef_mem_tcRefs _, fun h' => Bool.false_ne_true (h.symm.trans h')⟩

/-- The buffers are the tokens, one other and the rest. -/
theorem held_two (V : Valuation τ sig (Elt F)) (a b : Ref sig .tc) (ha : a.isScoped = false) (hb : b.isScoped = false) (h : b ≠ a) :
    (held (d.tc : Thread nD τ) (ucRefs τ sig) V : sProp (𝕄 F))
      = iprop(((d.tc : Thread nD τ).loc a ↦{fullShare} V (Proc.devRef .tc a)) ∗ ((d.tc : Thread nD τ).loc b ↦{fullShare} V (Proc.devRef .tc b))
          ∗ held (d.tc : Thread nD τ) (((ucRefs τ sig).erase (Proc.devRef .tc a)).erase (Proc.devRef .tc b)) V) := by
  unfold held
  rw [SparseCore.bigSep_erase' (mem_uc a ha), SparseCore.bigSep_erase' (Finset.mem_erase.mpr ⟨fun e => h (Proc.devRef_injective _ e), mem_uc b hb⟩)]

/-- Every core's chunks of call 0: the call's half of the tokens, and the whole result. -/
theorem cores0 (f : Buf (Elt F) (oLoc d)) : (bigSep Finset.univ fun c : Fin 2 => core64 (ch0 m d f) c)
    = iprop((bigSep Finset.univ fun t : Fin 2 × Fin 16 × Fin 4 => xLoc d ↦[(X0 t).view.set]{fullShare} m (xLoc d)) ∗ (oLoc d ↦{fullShare} f)) := by
  rw [split_o d f, ← bigSep_sep', bigSep_chunks]
  exact bigSep_congr fun c _ => bigSep_congr fun s _ => (bigSep_four fun r => ch0 m d f (c, s, r)).symm

/-- And of call 1. -/
theorem cores1 (f : Buf (Elt F) (pLoc d)) : (bigSep Finset.univ fun c : Fin 2 => core64 (ch1 m d f) c)
    = iprop((bigSep Finset.univ fun t : Fin 2 × Fin 16 × Fin 4 => xLoc d ↦[(X1 t).view.set]{fullShare} m (xLoc d)) ∗ (pLoc d ↦{fullShare} f)) := by
  rw [split_p d f, ← bigSep_sep', bigSep_chunks]
  exact bigSep_congr fun c _ => bigSep_congr fun s _ => (bigSep_four fun r => ch1 m d f (c, s, r)).symm

/-- What starts call 0, -/
theorem st0_eq : (bigSep Finset.univ fun c : Fin ((K (F := F)).nCore 0) => (P m).st 0 d c) = bigSep Finset.univ fun c : Fin 2 => core64 (ch0 m d (m (oLoc d))) c := rfl
/-- and what it hands back. -/
theorem dn0_eq : (bigSep Finset.univ fun c : Fin ((K (F := F)).nCore 0) => (P m).dn 0 d c) = bigSep Finset.univ fun c : Fin 2 => core64 (ch0 m d (C0 m d)) c := rfl

/-- The first SparseCore call, from the buffers to the buffers with its counts. -/
theorem sc0_wp (κ : GSem nD τ sig → ℕ) (Q : PUnit → sProp (𝕄 F)) :
    iprop((K (F := F)).ctx EH (P m) κ ∗ (K (F := F)).tcSt EH d 0 ∗ held (d.tc : Thread nD τ) (ucRefs τ sig) (V1 m d)
        ∗ ((K (F := F)).tcSt EH d 1 ∗ held (d.tc : Thread nD τ) (ucRefs τ sig) (Va m d) -∗ Q ⟨⟩))
      ⊢ wp frame (wpE ((K (F := F)).defs (D (F := F))) 𝒱 (SparseCore.T d) none) Set.univ (sc.run d 0) Q := by
  have hx : at_ (V1 m d) main_arg0 = m (xLoc d) := V1_of m d main_arg0 (by decide)
  have ho : at_ (V1 m d) main_v4 = m (oLoc d) := V1_of m d main_v4 (by decide)
  have hx' : at_ (Va m d) main_arg0 = m (xLoc d) := (Va_ne m d main_arg0 (by decide)).trans hx
  have hrest : (held (d.tc : Thread nD τ) (((ucRefs τ sig).erase (Proc.devRef .tc main_arg0)).erase (Proc.devRef .tc main_v4)) (Va m d) : sProp (𝕄 F))
      = held (d.tc : Thread nD τ) (((ucRefs τ sig).erase (Proc.devRef .tc main_arg0)).erase (Proc.devRef .tc main_v4)) (V1 m d) :=
    StableHlo.held_congr _ fun b hb => Function.update_of_ne (Finset.mem_erase.mp hb).1 _ _
  rw [held_two d (V1 m d) main_arg0 main_v4 rfl rfl (by decide), held_two d (Va m d) main_arg0 main_v4 rfl rfl (by decide), hrest,
    show (V1 m d) (Proc.devRef .tc main_arg0) = m (xLoc d) from hx, show (V1 m d) (Proc.devRef .tc main_v4) = m (oLoc d) from ho,
    show (Va m d) (Proc.devRef .tc main_arg0) = m (xLoc d) from hx', show (Va m d) (Proc.devRef .tc main_v4) = C0 m d from Va_self m d]
  iintro ⟨#Hctx, Hst, ⟨Hx, Ho, Hr⟩, HQ⟩
  ihave Hx' := (Entails.of_eq (split_x d (m (xLoc d)))) $$ Hx
  icases Hx' with ⟨Hx0, Hx1⟩
  iapply ((K (F := F)).wp_run (D (F := F)) 𝒱 (EH := EH) (P := P m) κ d 0) $$ [Hst Ho Hx0 Hx1 Hr HQ]
  isplitr; · iexact Hctx
  isplitl [Hst]; · iexact Hst
  isplitl [Hx0 Ho]
  · rw [st0_eq, cores0]
    isplitl [Hx0]; · iexact Hx0
    iexact Ho
  iintro ⟨Hst, Hdn⟩
  ihave Hdn' := (Entails.of_eq ((dn0_eq m d).trans (cores0 m d (C0 m d)))) $$ Hdn
  icases Hdn' with ⟨Hx0, Ho⟩
  iapply HQ
  isplitl [Hst]; · iexact Hst
  isplitl [Hx0 Hx1]
  · iapply (Entails.of_eq (split_x d (m (xLoc d))).symm)
    isplitl [Hx0]; · iexact Hx0
    iexact Hx1
  isplitl [Ho]; · iexact Ho
  iexact Hr

/-- What starts call 1, -/
theorem st1_eq : (bigSep Finset.univ fun c : Fin ((K (F := F)).nCore 1) => (P m).st 1 d c) = bigSep Finset.univ fun c : Fin 2 => core64 (ch1 m d (m (pLoc d))) c := rfl
/-- and what it hands back. -/
theorem dn1_eq : (bigSep Finset.univ fun c : Fin ((K (F := F)).nCore 1) => (P m).dn 1 d c) = bigSep Finset.univ fun c : Fin 2 => core64 (ch1 m d (C1 m d)) c := rfl

/-- The second SparseCore call, from the buffers to the buffers with its counts. -/
theorem sc1_wp (κ : GSem nD τ sig → ℕ) (Q : PUnit → sProp (𝕄 F)) :
    iprop((K (F := F)).ctx EH (P m) κ ∗ (K (F := F)).tcSt EH d 1 ∗ held (d.tc : Thread nD τ) (ucRefs τ sig) (Va m d)
        ∗ ((K (F := F)).tcSt EH d 2 ∗ held (d.tc : Thread nD τ) (ucRefs τ sig) (V2 m d) -∗ Q ⟨⟩))
      ⊢ wp frame (wpE ((K (F := F)).defs (D (F := F))) 𝒱 (SparseCore.T d) none) Set.univ (sc.run d 1) Q := by
  have hx : at_ (Va m d) main_arg0 = m (xLoc d) := (Va_ne m d main_arg0 (by decide)).trans (V1_of m d main_arg0 (by decide))
  have ho : at_ (Va m d) main_v5 = m (pLoc d) := (Va_ne m d main_v5 (by decide)).trans (V1_of m d main_v5 (by decide))
  have hx' : at_ (V2 m d) main_arg0 = m (xLoc d) := (V2_ne m d main_arg0 (by decide)).trans hx
  have hrest : (held (d.tc : Thread nD τ) (((ucRefs τ sig).erase (Proc.devRef .tc main_arg0)).erase (Proc.devRef .tc main_v5)) (V2 m d) : sProp (𝕄 F))
      = held (d.tc : Thread nD τ) (((ucRefs τ sig).erase (Proc.devRef .tc main_arg0)).erase (Proc.devRef .tc main_v5)) (Va m d) :=
    StableHlo.held_congr _ fun b hb => Function.update_of_ne (Finset.mem_erase.mp hb).1 _ _
  rw [held_two d (Va m d) main_arg0 main_v5 rfl rfl (by decide), held_two d (V2 m d) main_arg0 main_v5 rfl rfl (by decide), hrest,
    show (Va m d) (Proc.devRef .tc main_arg0) = m (xLoc d) from hx, show (Va m d) (Proc.devRef .tc main_v5) = m (pLoc d) from ho,
    show (V2 m d) (Proc.devRef .tc main_arg0) = m (xLoc d) from hx', show (V2 m d) (Proc.devRef .tc main_v5) = C1 m d from V2_self m d]
  iintro ⟨#Hctx, Hst, ⟨Hx, Ho, Hr⟩, HQ⟩
  ihave Hx' := (Entails.of_eq (split_x d (m (xLoc d)))) $$ Hx
  icases Hx' with ⟨Hx0, Hx1⟩
  iapply ((K (F := F)).wp_run (D (F := F)) 𝒱 (EH := EH) (P := P m) κ d 1) $$ [Hst Ho Hx0 Hx1 Hr HQ]
  isplitr; · iexact Hctx
  isplitl [Hst]; · iexact Hst
  isplitl [Hx1 Ho]
  · rw [st1_eq, cores1]
    isplitl [Hx1]; · iexact Hx1
    iexact Ho
  iintro ⟨Hst, Hdn⟩
  ihave Hdn' := (Entails.of_eq ((dn1_eq m d).trans (cores1 m d (C1 m d)))) $$ Hdn
  icases Hdn' with ⟨Hx1, Ho⟩
  iapply HQ
  isplitl [Hst]; · iexact Hst
  isplitl [Hx0 Hx1]
  · iapply (Entails.of_eq (split_x d (m (xLoc d))).symm)
    isplitl [Hx0]; · iexact Hx0
    iexact Hx1
  isplitl [Ho]; · iexact Ho
  iexact Hr

/-! ## The launch's ghost state -/

/-- The handshakes' rounds and the pipelines'. -/
noncomputable def u₀ : UU := ((initOf (K (F := F)).hsCells (K (F := F)).hsToks,
  initOf (Pipeline.cells (nD := nD) (τ := τ) (Pipeline.pin (pcfgs (F := F)) adm) cellOf_inj) (Pipeline.launchToks (Pipeline.pin (pcfgs (F := F)) adm) cellOf_inj)), 1)

/-- What a device's TensorCore is dealt: its pipelines' cells and tokens. -/
abbrev G : sProp (𝕄 F) :=
  iprop((bigSep Finset.univ fun p => Pipeline.cellsGhost (Pipeline.pin (pcfgs (F := F)) adm) EP p d) ∗ bigSep Finset.univ fun p => Pipeline.toksInit (Pipeline.pin (pcfgs (F := F)) adm) EP p d)

theorem own_three (a : UH) (b : UP) : (ownU (((a, b), 1) : UU) : sProp (𝕄 F)) ⊢ iprop(BI.own (EH a) ∗ BI.own (EP b)) :=
  (ownU_pair (a, b) (1 : Counters)).trans (BIBase.Entails.trans sep_elim_left (own_pair_emb (embL : Emb (UH × UP) (𝕄 F)) a b))

theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P m).x q thr) := by
  unfold u₀
  iintro Hu
  ihave H2 := (own_three _ _) $$ Hu
  icases H2 with ⟨HH, HP⟩
  imod (Pipeline.fund_ghost (Pipeline.pin (pcfgs (F := F)) adm) (EP : Emb UP (𝕄 F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## @main on the TensorCore -/

/-- One of the host's operations, from the buffers to the buffers at its result. -/
theorem host_wp (op : HloOp τ sig (Elt F)) (hS : op.bufs ⊆ StableHlo.tcRefs τ sig) (hf : op.fresh = ∅) (V : Valuation τ sig (Elt F)) (Q : PUnit → sProp (𝕄 F)) :
    iprop(boundary (d.tc : Thread nD τ) ∗ held (d.tc : Thread nD τ) (ucRefs τ sig) V
        ∗ (boundary (d.tc : Thread nD τ) ∗ held (d.tc : Thread nD τ) (ucRefs τ sig) (op.result V) -∗ Q ⟨⟩))
      ⊢ wp frame (wpE ((K (F := F)).defs (D (F := F))) 𝒱 (SparseCore.T d) none) Set.univ (hlo rfl op fun _ => .ret ⟨⟩) Q := by
  iintro ⟨Hb, Hh, HQ⟩
  iapply (StableHlo.wp_hlo_within 𝒱 (SparseCore.T d) none Set.univ (Pipeline.sub_ucRefs op hS) hf) $$ [Hb Hh]
  · isplitl [Hb]; · iexact Hb
    iexact Hh
  iintro H
  rw [wp_ret]
  imodintro
  iapply HQ; iexact H

/-- What @main leaves: every buffer at the last valuation. -/
abbrev FIN : sProp (𝕄 F) := held (d.tc : Thread nD τ) (ucRefs τ sig) (V5 m d)

theorem ops_sub : ∀ op ∈ (ops (F := F)), op.bufs ⊆ StableHlo.tcRefs τ sig := by
  simp only [ops, List.mem_cons, List.not_mem_nil, or_false, forall_eq_or_imp, forall_eq]
  exact ⟨StableHlo.nullary_bufs_sub (τ := τ) (y := main_c) _ (by decide), StableHlo.unary_bufs_sub (x := main_c) (y := main_call0_v0) _ _ _, StableHlo.binary_bufs_sub (a := main_arg1) (b := main_call0_v0) (y := main_v0) _ _ _ _, StableHlo.reshape_bufs_sub (x := main_arg3) (y := main_v1) _ _ _ _,
    StableHlo.reshape_bufs_sub (x := main_arg5) (y := main_v2) _ _ _ _, StableHlo.reshape_bufs_sub (x := main_arg7) (y := main_v3) _ _ _ _⟩

theorem G_eq : (G d : sProp (𝕄 F)) = iprop((Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d) := by
  unfold G
  rw [bigSep_fin_two, bigSep_fin_two]; rfl

/-- @main on device `d`'s TensorCore. -/
theorem hmain (κ : GSem nD τ sig → ℕ) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp (𝕄 F)) = held (d.tc : Thread nD τ) (ucRefs τ sig) (StableHlo.launchContents m d) from
    Pipeline.unscopedBufs_held d (StableHlo.launchContents m d), G_eq]
  simp only [main, fn_pad.body, wp_bind, wp_pure]
  iintro ⟨#Hctx, Hst, ⟨Hb, Hh, Hts, -⟩, ⟨Hg0, Hg1⟩, Ht0, Ht1⟩
  iapply (host_wp d _ (ops_sub _ (.head _)) rfl _ _)
  isplitl [Hb]; · iexact Hb
  isplitl [Hh]; · iexact Hh
  iintro ⟨Hb, Hh⟩
  iapply (host_wp d _ (ops_sub _ (.tail _ (.head _))) rfl _ _)
  isplitl [Hb]; · iexact Hb
  isplitl [Hh]; · iexact Hh
  iintro ⟨Hb, Hh⟩
  iapply (host_wp d _ (ops_sub _ (.tail _ (.tail _ (.head _)))) rfl _ _)
  isplitl [Hb]; · iexact Hb
  isplitl [Hh]; · iexact Hh
  iintro ⟨Hb, Hh⟩
  imodintro
  iapply (host_wp d _ (ops_sub _ (.tail _ (.tail _ (.tail _ (.head _))))) rfl _ _)
  isplitl [Hb]; · iexact Hb
  isplitl [Hh]; · iexact Hh
  iintro ⟨Hb, Hh⟩
  iapply (host_wp d _ (ops_sub _ (.tail _ (.tail _ (.tail _ (.tail _ (.head _)))))) rfl _ _)
  isplitl [Hb]; · iexact Hb
  isplitl [Hh]; · iexact Hh
  iintro ⟨Hb, Hh⟩
  iapply (host_wp d _ (ops_sub _ (.tail _ (.tail _ (.tail _ (.tail _ (.tail _ (.head _))))))) rfl _ _)
  isplitl [Hb]; · iexact Hb
  isplitl [Hh]; · iexact Hh
  iintro ⟨Hb, Hh⟩
  iapply (sc0_wp m d κ _)
  isplitr; · iexact Hctx
  isplitl [Hst]; · iexact Hst
  isplitl [Hh]; · iexact Hh
  iintro ⟨Hst, Hh⟩
  iapply (sc1_wp m d κ _)
  isplitr; · iexact Hctx
  isplitl [Hst]; · iexact Hst
  isplitl [Hh]; · iexact Hh
  iintro ⟨Hst, Hh⟩
  ihave Hl := (SparseCore.Cfg.ctx_levAts κ) $$ Hctx
  unfold SparseCore.Cfg.tcSt
  icases Hst with ⟨⟨%W, -, HO⟩, Hrest⟩
  iapply (call2_wp (fun _ => V2 m d) d _)
  isplitl [Hb]; · iexact Hb
  isplitl [Hh]; · iexact Hh
  isplitl [HO]; · iexists W; rw [(K (F := F)).Otc_end d (le_refl 2)]; iexact HO
  isplitr; · iexact Hl
  isplitl [Hg0]; · iexact Hg0
  isplitl [Ht0]; · iexact Ht0
  iintro ⟨Hb, Hh, HO⟩
  iapply (host_wp d (cpy (F := F)) (StableHlo.unary_bufs_sub (x := main_v6) (y := main_v7) _ _ _) rfl (V3 m d) _)
  isplitl [Hb]; · iexact Hb
  isplitl [Hh]; · iexact Hh
  iintro ⟨Hb, Hh⟩
  iapply (call3_wp (fun _ => V4 m d) d _)
  isplitl [Hb]; · iexact Hb
  isplitl [Hh]; · iexact Hh
  isplitl [HO]; · iexact HO
  isplitr; · iexact Hl
  isplitl [Hg1]; · iexact Hg1
  isplitl [Ht1]; · iexact Ht1
  iintro ⟨Hb, Hh, ⟨%W', HO⟩⟩
  imodintro
  isplitl [HO Hrest]
  · isplitl [HO]
    · iexists W'
      isplitr
      · ipureintro
        intro p _
        obtain ⟨s, ι⟩ := p
        cases ι with
        | none => exact Nat.zero_le _
        | some q => exact ((K (F := F)).lev_some_le _ q).trans (show 8 * q.val + 7 ≤ 8 * 2 by have := q.isLt; omega)
      · rw [(K (F := F)).Otc_end d (le_refl 2)]; iexact HO
    · iexact Hrest
  isplitl [Hh]; · iexact Hh
  isplitl [Hb] <;> iassumption

/-- Every unscoped buffer of a final state is at the last valuation. -/
def fq (s' : Phys nD τ sig (Elt F)) : Prop := ∀ b : Ref sig .tc, b.isScoped = false → s'.mem.mem (d, Proc.devRef .tc b) = V5 m d (Proc.devRef .tc b)

theorem hfin (s' : Phys nD τ sig (Elt F)) : iprop(FIN m d ∗ SI s') ⊢ (⌜fq m d s'⌝ : sProp (𝕄 F)) := by
  have one (b : Ref sig .tc) (hb : b.isScoped = false) : iprop(FIN m d ∗ SI s') ⊢ (⌜s'.mem.mem (d, Proc.devRef .tc b) = V5 m d (Proc.devRef .tc b)⌝ : sProp (𝕄 F)) := by
    unfold FIN held
    rw [SparseCore.bigSep_erase' (mem_uc b hb)]
    iintro ⟨⟨Hb, -⟩, HSI⟩
    ihave H := (SI_pointsTo_agree (st := s') (ℓ := ((d, Proc.devRef .tc b) : Loc nD τ sig)) (I := Finset.univ) (q := fullShare) (f := V5 m d (Proc.devRef .tc b))) $$ [HSI Hb]
    · isplitl [HSI] <;> iassumption
    icases H with %h
    ipureintro
    exact funext fun i => h i (Finset.mem_univ i)
  by_cases h : fq m d s'
  · iintro -
    ipureintro; exact h
  · unfold fq at h
    push Not at h
    obtain ⟨b, hb, hne⟩ := h
    exact (one b hb).trans (BI.pure_mono fun e => absurd e hne)

/-! ## The run -/

/-- Every device ends with the buffers at the last valuation, and the semaphores at zero. -/
def QC : PUnit × MemSt nD τ sig (Elt F) → Prop := fun r =>
  (∀ (c : Dev nD) (b : Ref sig .tc), b.isScoped = false → r.2.mem (c, Proc.devRef .tc b) = V5 m c (Proc.devRef .tc b)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m)
    (fun q _ => SparseCore.Cfg.VecSplit.of_plain (vecSplit m q))
    m ρ main (fun d => G d) (FIN m) (u₀ (F := F)) (sep_elim_left.trans (hu₀ m)) (fun κ d => hmain m ρ d κ) (fun d => fq m d) (fun d s' => hfin m d s') (QC m) (fun _ h hz => ⟨h, hz⟩)

end Cert.Hist
-- ==== Proof.Frames.lean ====
/- The frames of the kernel and of its idealization, and that the idealization is one. -/
module

public import proofs.«01_k».proof.Defs
public import proofs.«01_k».proof.Proof.Launch
public import proofs.«01_k».proof.Proof.Gen.Kernel
public import proofs.«01_k».proof.Proof.Gen.Pre_tokens

@[expose] public section

noncomputable section

namespace Cert.Hist

open Idealize.ShloMosaic Idealize.ShloMosaic.TcCoe Idealize.SL.Sem

/-- The arguments of a final state are the launch's. -/
theorem args_of {F : FTy → Type} [FloatOps F] [Named F] (m : (ℓ : Loc KernelIdeal.nD KernelIdeal.τ KernelIdeal.sig) → Buf (Elt F) ℓ)
    (r : PUnit × MemSt KernelIdeal.nD KernelIdeal.τ KernelIdeal.sig (Elt F)) (h : QC m r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
    ∧ r.2.mem ((c.tc : Thread KernelIdeal.nD KernelIdeal.τ).loc KernelIdeal.main_arg1) = m ((c.tc : Thread KernelIdeal.nD KernelIdeal.τ).loc KernelIdeal.main_arg1)
    ∧ r.2.mem ((c.tc : Thread KernelIdeal.nD KernelIdeal.τ).loc KernelIdeal.main_arg2) = m ((c.tc : Thread KernelIdeal.nD KernelIdeal.τ).loc KernelIdeal.main_arg2)
    ∧ r.2.mem ((c.tc : Thread KernelIdeal.nD KernelIdeal.τ).loc KernelIdeal.main_arg3) = m ((c.tc : Thread KernelIdeal.nD KernelIdeal.τ).loc KernelIdeal.main_arg3)
    ∧ r.2.mem ((c.tc : Thread KernelIdeal.nD KernelIdeal.τ).loc KernelIdeal.main_arg4) = m ((c.tc : Thread KernelIdeal.nD KernelIdeal.τ).loc KernelIdeal.main_arg4)
    ∧ r.2.mem ((c.tc : Thread KernelIdeal.nD KernelIdeal.τ).loc KernelIdeal.main_arg5) = m ((c.tc : Thread KernelIdeal.nD KernelIdeal.τ).loc KernelIdeal.main_arg5)
    ∧ r.2.mem ((c.tc : Thread KernelIdeal.nD KernelIdeal.τ).loc KernelIdeal.main_arg6) = m ((c.tc : Thread KernelIdeal.nD KernelIdeal.τ).loc KernelIdeal.main_arg6)
    ∧ r.2.mem ((c.tc : Thread KernelIdeal.nD KernelIdeal.τ).loc KernelIdeal.main_arg7) = m ((c.tc : Thread KernelIdeal.nD KernelIdeal.τ).loc KernelIdeal.main_arg7) := by
  have one (b : Ref KernelIdeal.sig .tc) (hb : b.isScoped = false) (hn : b ∉ [KernelIdeal.main_c, KernelIdeal.main_call0_v0, KernelIdeal.main_v0, KernelIdeal.main_v1, KernelIdeal.main_v2,
      KernelIdeal.main_v3, KernelIdeal.main_v4, KernelIdeal.main_v5, KernelIdeal.main_v6, KernelIdeal.main_v7]) :
      r.2.mem (c, Proc.devRef .tc b) = m (c, Proc.devRef .tc b) := (h.1 c b hb).trans (V5_arg m c b hn)
  exact ⟨one _ rfl (by decide), one _ rfl (by decide), one _ rfl (by decide), one _ rfl (by decide), one _ rfl (by decide), one _ rfl (by decide), one _ rfl (by decide), one _ rfl (by decide)⟩

/-- The idealized kernel runs, its arguments and its semaphores as they were. -/
theorem frame_ideal : Cert.quiescent_KernelIdeal (hKernelIdeal := KernelIdeal.Gen.facts) (hPre_tokens := Pre_tokens.Gen.facts) := fun m ρ _ =>
  (θ_run Cert.KernelIdeal.defs _ _).mono (fun r h => ⟨fun c => args_of m r h c, h.2⟩) (run_main (F := Ideal) m ρ)

/-- At machine floats a named constant is its own bits. -/
local instance : Named Bits where
  named _ _ {φ} b := Scalar.ofBits φ b

theorem body0_eq : @Kernel.cc0_body Bits _ Kernel.Gen.facts = @KernelIdeal.cc0_body Bits _ KernelIdeal.Gen.facts := rfl

theorem body1_eq : @Kernel.cc1_body Bits _ Kernel.Gen.facts = @KernelIdeal.cc1_body Bits _ KernelIdeal.Gen.facts := rfl

theorem body2_eq : @Kernel.cc2__mlp_body Bits _ Kernel.Gen.facts = @KernelIdeal.cc2__mlp_body Bits _ _ KernelIdeal.Gen.facts := rfl

theorem body3_eq : @Kernel.cc3__mlp_body_acc Bits _ Kernel.Gen.facts = @KernelIdeal.cc3__mlp_body_acc Bits _ _ KernelIdeal.Gen.facts := rfl

/-- The two programs' body tables agree at a call of the first dense kernel. -/
theorem defs₀_two (t s) : Kernel.defs₀ (F := Bits) .tc 2 (t, s) = KernelIdeal.defs₀ (F := Bits) .tc 2 (t, s) := by
  unfold Kernel.defs₀ KernelIdeal.defs₀
  exact congrFun (congrFun (congrFun (congrFun (congrFun (congrFun (congrFun (congrFun (congrFun (congrFun (congrFun (congrFun (congrFun (congrFun (congrFun (congrFun (congrFun (congrFun (congrFun (congrFun (congrFun body2_eq _) _) _) _) _) _) _) _) _) _) _) _) _) _) _) _) _) _) _) _) _

/-- And at a call of the second. -/
theorem defs₀_three (t s) : Kernel.defs₀ (F := Bits) .tc 3 (t, s) = KernelIdeal.defs₀ (F := Bits) .tc 3 (t, s) := by
  unfold Kernel.defs₀ KernelIdeal.defs₀
  exact congrFun (congrFun (congrFun (congrFun (congrFun (congrFun (congrFun (congrFun (congrFun (congrFun (congrFun (congrFun (congrFun (congrFun (congrFun (congrFun (congrFun (congrFun (congrFun (congrFun (congrFun (congrFun (congrFun body3_eq _) _) _) _) _) _) _) _) _) _) _) _) _) _) _) _) _) _) _) _) _) _) _

/-- At a label the TensorCore never runs. -/
theorem defs₀_tc0 (a) : Kernel.defs₀ (F := Bits) .tc 0 a = KernelIdeal.defs₀ (F := Bits) .tc 0 a := rfl

/-- At the other. -/
theorem defs₀_tc1 (a) : Kernel.defs₀ (F := Bits) .tc 1 a = KernelIdeal.defs₀ (F := Bits) .tc 1 a := rfl

/-- At the first histogram call's label on a tile. -/
theorem defs₀_tile0 (c s) (a) : Kernel.defs₀ (F := Bits) (.scVector c s) 0 a = KernelIdeal.defs₀ (F := Bits) (.scVector c s) 0 a := rfl

/-- At the second's. -/
theorem defs₀_tile1 (c s) (a) : Kernel.defs₀ (F := Bits) (.scVector c s) 1 a = KernelIdeal.defs₀ (F := Bits) (.scVector c s) 1 a := rfl

/-- At the dense labels on a tile. -/
theorem defs₀_tile2 (c s) (a) : Kernel.defs₀ (F := Bits) (.scVector c s) 2 a = KernelIdeal.defs₀ (F := Bits) (.scVector c s) 2 a := rfl

/-- At the second of them. -/
theorem defs₀_tile3 (c s) (a) : Kernel.defs₀ (F := Bits) (.scVector c s) 3 a = KernelIdeal.defs₀ (F := Bits) (.scVector c s) 3 a := rfl

/-- At each label on a scalar sequencer, which runs none. -/
theorem defs₀_seq0 (c) (a) : Kernel.defs₀ (F := Bits) (.scScalar c) 0 a = KernelIdeal.defs₀ (F := Bits) (.scScalar c) 0 a := rfl

/-- The next. -/
theorem defs₀_seq1 (c) (a) : Kernel.defs₀ (F := Bits) (.scScalar c) 1 a = KernelIdeal.defs₀ (F := Bits) (.scScalar c) 1 a := rfl

/-- The next. -/
theorem defs₀_seq2 (c) (a) : Kernel.defs₀ (F := Bits) (.scScalar c) 2 a = KernelIdeal.defs₀ (F := Bits) (.scScalar c) 2 a := rfl

/-- The last. -/
theorem defs₀_seq3 (c) (a) : Kernel.defs₀ (F := Bits) (.scScalar c) 3 a = KernelIdeal.defs₀ (F := Bits) (.scScalar c) 3 a := rfl

/-- So they are one table. -/
theorem defs₀_eq : Kernel.defs₀ (F := Bits) = KernelIdeal.defs₀ (F := Bits) :=
  funext fun p => match p with
  | .tc => funext fun ℓ => Fin.cases (funext defs₀_tc0) (Fin.cases (funext defs₀_tc1)
      (Fin.cases (funext fun a => defs₀_two a.1 a.2) (Fin.cases (funext fun a => defs₀_three a.1 a.2) (fun i => i.elim0)))) ℓ
  | .scScalar c => funext fun ℓ => Fin.cases (funext (defs₀_seq0 c)) (Fin.cases (funext (defs₀_seq1 c))
      (Fin.cases (funext (defs₀_seq2 c)) (Fin.cases (funext (defs₀_seq3 c)) (fun i => i.elim0)))) ℓ
  | .scVector c s => funext fun ℓ => Fin.cases (funext (defs₀_tile0 c s)) (Fin.cases (funext (defs₀_tile1 c s))
      (Fin.cases (funext (defs₀_tile2 c s)) (Fin.cases (funext (defs₀_tile3 c s)) (fun i => i.elim0)))) ℓ

theorem pcfgs_eq : Kernel.pcfgs (F := Bits) = KernelIdeal.pcfgs (F := Bits) := rfl

theorem defs_eq : Kernel.defs (F := Bits) = KernelIdeal.defs (F := Bits) :=
  congrArg (fun D => KernelIdeal.sc.defs (Pipeline.defs (KernelIdeal.pcfgs (F := Bits)) D)) defs₀_eq

theorem threads_eq : Kernel.threads (F := Bits) = KernelIdeal.threads (F := Bits) := rfl

/-- The kernel runs, its arguments and its semaphores as they were: its run at machine floats is the
    idealized kernel's with the named constant read as its bits. -/
theorem frame_kernel : Cert.quiescent_Kernel (hKernel := Kernel.Gen.facts) (hPre_tokens := Pre_tokens.Gen.facts) := by
  intro m ρ _
  rw [defs_eq, threads_eq]
  exact (θ_run (KernelIdeal.defs (F := Bits)) _ _).mono (fun r h => ⟨fun c => args_of m r h c, h.2⟩) (run_main (F := Bits) m ρ)

end Cert.Hist
-- ==== Proof.Others.lean ====
/- The idealized kernel's frame again, the reference's frame, and that the idealized kernel is an idealization. -/
module

public import proofs.«01_k».proof.Proof.Frames
public import proofs.«01_k».proof.Proof.Gen.ReferenceIdeal.Run
public import Idealize.ShloMosaic.Lib.Quiescent

@[expose] public section

noncomputable section

namespace Cert.Hist

open Idealize.ShloMosaic Idealize.ShloMosaic.TcCoe Idealize.SL.Sem

/-- The reference runs, its arguments as they were and its counters, of which it has none, at zero. -/
theorem frame_reference : Cert.quiescent_ReferenceIdeal (hReferenceIdeal := ReferenceIdeal.Gen.facts) := fun m ρ _ =>
  (θ_run (ReferenceIdeal.defs (F := Ideal)) _ _).mono (fun r h => ⟨fun c => (h c).2, sem_eq_zero_of_no_sems (by decide) r.2⟩)
    (ReferenceIdeal.Value.run (F := Ideal) m ρ)

/-- The one replaced constant is the one the table names. -/
theorem ideal : Cert.preserves_Kernel_KernelIdeal :=
  IdealRules.named_const.statement _ _ _ _ _ rfl

end Cert.Hist
-- ==== Proof.Bytes.lean ====
/- A byte of a packed count word is the number of the row's tokens with that value. -/
module

public import proofs.«01_k».proof.Proof.Counts
public import proofs.«01_k».proof.Proof.Sc
public import Idealize.ShloMosaic.Lib.PackedFields

@[expose] public section

noncomputable section

namespace Cert.Hist

open Idealize.ShloMosaic Idealize.ShloMosaic.PackedFields Cert.KernelIdeal
open Idealize.ShloMosaic.ValueIdx (ix1 ix2)

/-- A token's byte, from its bits 5 and up. -/
theorem byte_nat (a : Nat) (h : a < 1024) : a >>> 5 &&& 24 = 8 * (a / 256) := by
  have e : a / 256 = a / 32 / 8 := by rw [Nat.div_div_eq_div_mul]
  rw [Nat.shiftRight_eq_div_pow, e, show (2 : Nat) ^ 5 = 32 from rfl]
  have hb : a / 32 < 32 := by omega
  generalize a / 32 = b at hb
  interval_cases b <;> rfl

/-- The amount a token's one is shifted by. -/
theorem amount (w : BitVec 32) (h : w.toNat < 1024) :
    (IntOp.andi (IntOp.shrsi .vector w 5#32) 24#32).toNat = 8 * (w.toNat / 256) := by
  have hm : w.msb = false := BitVec.msb_eq_false_iff_two_mul_lt.mpr (by omega)
  unfold IntOp.andi IntOp.shrsi
  rw [if_pos (by decide), BitVec.toNat_and, show w.sshiftRight' 5#32 = w.sshiftRight 5 from rfl, BitVec.toNat_sshiftRight_of_msb_false hm]
  exact byte_nat _ h

/-- The word a token adds. -/
theorem shft_toNat (w : BitVec 32) (h : w.toNat < 1024) : (shft w).toNat = 1 <<< (8 * (w.toNat / 256)) := by
  have hk := amount w h
  have hlt : w.toNat / 256 < 4 := by omega
  unfold shft IntOp.shli
  rw [if_pos (by rw [hk]; omega), BitVec.shiftLeft_eq', BitVec.toNat_shiftLeft, hk, show (1#32 : BitVec 32).toNat = 1 from rfl]
  refine Nat.mod_eq_of_lt ?_
  rw [Nat.one_shiftLeft]
  exact Nat.pow_lt_pow_right (by decide) (by omega)

/-- A byte of what a token adds at a column. -/
theorem field_hit (w : BitVec 32) (h : w.toNat < 1024) (c : Nat) (hc : c < 256) (k : Nat) :
    field 8 k (hit w c).toNat = if w.toNat = 256 * k + c then 1 else 0 := by
  unfold hit
  have he : (w &&& 255#32).toNat = w.toNat % 256 := by
    rw [BitVec.toNat_and, show (255#32 : BitVec 32).toNat = 2 ^ 8 - 1 from rfl, Nat.and_two_pow_sub_one_eq_mod]
  rw [he]
  by_cases h1 : w.toNat % 256 = c
  · rw [if_pos h1, shft_toNat w h, field_one_shiftLeft 8 k _ (by decide)]
    exact if_congr (by omega) rfl rfl
  · rw [if_neg h1, if_neg (by omega)]
    simp [field]

/-- How many of the first `n` tokens of a row are the value `v`. -/
def times (f : Nat → BitVec 32) (n v : Nat) : Nat := ∑ p ∈ Finset.range n, if (f p).toNat = v then 1 else 0

theorem times_le (f : Nat → BitVec 32) (n v : Nat) : times f n v ≤ n := by
  unfold times
  calc _ ≤ ∑ _p ∈ Finset.range n, 1 := Finset.sum_le_sum fun p _ => by split <;> omega
    _ = n := by simp

/-- A byte of the first `n` tokens' sum is the count of its value. -/
theorem field_sum (f : Nat → BitVec 32) (hf : ∀ p, (f p).toNat < 1024) (c : Nat) (hc : c < 256) :
    ∀ n, n ≤ 200 → ∀ k < 4, field 8 k (∑ p ∈ Finset.range n, hit (f p) c).toNat = times f n (256 * k + c)
  | 0, _, k, _ => by simp [field, times]
  | n + 1, hn, k, hk => by
    have ih := field_sum f hf c hc n (by omega)
    have hb : ∀ k < 4, field 8 k (∑ p ∈ Finset.range n, hit (f p) c).toNat + field 8 k (hit (f n) c).toNat < 2 ^ 8 := fun k hk => by
      rw [ih k hk, field_hit _ (hf n) c hc]
      have := times_le f n (256 * k + c)
      split <;> omega
    have ha := field_addi (w := 8) (n := 4) rfl _ _ hb k hk
    rw [Finset.sum_range_succ]
    refine ha.trans ?_
    rw [ih k hk, field_hit _ (hf n) c hc]
    unfold times
    rw [Finset.sum_range_succ]

/-- A byte read by an arithmetic shift and a mask. -/
theorem byte_toNat (w : BitVec 32) (k : Nat) (hk : k < 4) :
    (IntOp.andi (IntOp.shrsi .vector w (BitVec.ofNat 32 (8 * k))) 255#32).toNat = field 8 k w.toNat := by
  have hs : (BitVec.ofNat 32 (8 * k)).toNat = 8 * k := by rw [BitVec.toNat_ofNat]; exact Nat.mod_eq_of_lt (by omega)
  unfold IntOp.andi IntOp.shrsi
  rw [if_pos (by rw [hs]; omega)]
  apply Nat.eq_of_testBit_eq; intro j
  rw [testBit_field, BitVec.testBit_toNat, BitVec.getLsbD_and, show w.sshiftRight' (BitVec.ofNat 32 (8 * k)) = w.sshiftRight (BitVec.ofNat 32 (8 * k)).toNat from rfl, hs, BitVec.getLsbD_sshiftRight]
  have hm : (255#32 : BitVec 32).getLsbD j = decide (j < 8) := by
    rw [← BitVec.testBit_toNat, show (255#32 : BitVec 32).toNat = 2 ^ 8 - 1 from rfl, Nat.testBit_two_pow_sub_one]
  rw [hm]
  by_cases hj : j < 8
  · have h1 : 8 * k + j < 32 := by omega
    simp [hj, h1, BitVec.testBit_toNat, show ¬ 32 ≤ j by omega]
  · simp [hj]

/-- A byte of a row's packed counts is how often the row holds that value. -/
theorem field_rowCnt (x : S16384x200.Idx → BitVec 32) (hx : ∀ j, (x j).toNat < 1000) (n : Fin 16384) (c : Nat) (hc : c < 256) (k : Nat) (hk : k < 4) :
    field 8 k (rowCnt x n c).toNat = ∑ l : Fin 200, if (x (ix2 n l)).toNat = 256 * k + c then 1 else 0 := by
  unfold rowCnt
  rw [field_sum (fun p => if h : p < 200 then x (ix2 n ⟨p, h⟩) else 0#32) ?_ c hc 200 le_rfl k hk, times, Finset.sum_range]
  · exact Finset.sum_congr rfl fun l _ => by simp only [l.isLt, dif_pos]
  · intro p
    show (if h : p < 200 then x (ix2 n ⟨p, h⟩) else 0#32).toNat < 1024
    split
    · exact (hx _).trans (by decide)
    · decide

end Cert.Hist
-- ==== Proof.Dense.lean ====
/- The dense body at an index over the extended reals. -/
module

public import proofs.«01_k».proof.Proof.Bytes
public import proofs.«01_k».proof.Proof.Mlp
public import Idealize.ShloMosaic.Lib.MatmulPlain
public import Idealize.ShloMosaic.Lib.ValueIdx
public import Idealize.ShloMosaic.Lib.ValueLayout
public import Idealize.ShloMosaic.Lib.KernelVsHost

@[expose] public section

noncomputable section

namespace Cert.Hist

open Idealize.ShloMosaic Idealize.ShloMosaic.PackedFields Idealize.ShloMosaic.ValueIdx Cert.KernelIdeal Cert.KernelIdeal.Gen
open scoped BigOperators

/-- A row's result from what enters its first hidden layer before the bias. -/
def tail (A : Fin 256 → EReal) (b1 : FVec Ideal S256 .f32) (W2 : FVec Ideal S256x256 .f32) (b2 : FVec Ideal S256 .f32)
    (Wo : FVec Ideal S256x128 .f32) (bo : FVec Ideal S128 .f32) (o : Fin 128) : EReal :=
  (∑ k : Fin 256, max ((∑ j : Fin 256, max (A j + b1 (ix1 j)) 0 * W2 (ix2 j k)) + b2 (ix1 k)) 0 * Wo (ix2 k o)) + bo (ix1 o)

/-- The scratch row of a value. -/
abbrev at4 (k : Fin 4) (c : Fin 256) : Fin 1024 := ⟨256 * k.val + c.val, by omega⟩

/-- A narrow float of a byte is the byte. -/
theorem byteF_apply (C : IVec S2048x256 32) (k : Fin 4) (i : S2048x256.Idx) :
    byteF (F := Ideal) C (BitVec.ofNat 32 (8 * k.val)) i = (((field 8 k.val (C i).toNat : ℕ) : ℝ) : EReal) := by
  have h := byte_toNat (C i) k.val k.isLt
  have hlt : field 8 k.val (C i).toNat < 2 ^ 8 := Nat.mod_lt _ (by decide)
  show (((IntOp.andi (IntOp.shrsi .vector (C i) (BitVec.ofNat 32 (8 * k.val))) 255#32).toInt : ℝ) : EReal) = _
  rw [BitVec.toInt_eq_toNat_of_lt (by rw [h]; omega), h]
  rfl

/-- A byte's product with its rows of the scratch. -/
theorem term_apply (C : IVec S2048x256 32) (M : FVec Ideal S1024x256 .bf16) (k : Fin 4) (ho) (r : Fin 2048) (j : Fin 256) :
    term C M (BitVec.ofNat 32 (8 * k.val)) (256 * k.val) ho (ix2 r j)
      = ∑ c : Fin 256, (((field 8 k.val (C (ix2 r c)).toNat : ℕ) : ℝ) : EReal) * M (ix2 (at4 k c) j) := by
  unfold term
  refine (Ideal.matmul_plain_apply none (byteF (F := Ideal) C (BitVec.ofNat 32 (8 * k.val))) (rows M (256 * k.val) ho) _ r j).trans ?_
  rw [constant_apply, Ideal.ofBits_zero_f32, zero_add]
  refine Finset.sum_congr rfl fun c _ => ?_
  rw [byteF_apply]
  rfl

/-- The first hidden layer. -/
theorem hid1_apply (C : IVec S2048x256 32) (M : FVec Ideal S1024x256 .bf16) (b1 : FVec Ideal S256 .f32) (r : Fin 2048) (j : Fin 256) :
    hid1 C M (shapeCast S1x256 b1 shapeCasts_S256_S1x256) (ix2 r j)
      = max ((∑ k : Fin 4, ∑ c : Fin 256, (((field 8 k.val (C (ix2 r c)).toNat : ℕ) : ℝ) : EReal) * M (ix2 (at4 k c) j)) + b1 (ix1 j)) 0 := by
  have hb : broadcastTo S2048x256 (shapeCast S1x256 b1 shapeCasts_S256_S1x256) broadcasts_S1x256_S2048x256 (ix2 r j) = b1 (ix1 j) :=
    (broadcastTo_1b_ab_apply _ _ r j).trans (shapeCast_a_1a_apply _ _ _ _)
  unfold hid1 acc3
  rw [maximumf_apply, addf_apply, addf_apply, addf_apply, addf_apply, addf_apply, hb]
  have h0 := term_apply C M 0 (by decide) r j
  have h1 := term_apply C M 1 (by decide) r j
  have h2 := term_apply C M 2 (by decide) r j
  have h3 := term_apply C M 3 (by decide) r j
  rw [Fin.sum_univ_four, ← h0, ← h1, ← h2, ← h3]
  show max (Ideal.ofBits .f32 0x00000000#32 + _ + _ + _ + _ + _) (Ideal.ofBits .f32 0x00000000#32) = _
  rw [Ideal.ofBits_zero_f32, zero_add]
  rfl

/-- The second hidden layer. -/
theorem hid2_apply (h : FVec Ideal S2048x256 .f32) (W2 : FVec Ideal S256x256 .f32) (b2 : FVec Ideal S256 .f32) (r : Fin 2048) (k : Fin 256) :
    hid2 h W2 (shapeCast S1x256 b2 shapeCasts_S256_S1x256) (ix2 r k)
      = max ((∑ j : Fin 256, h (ix2 r j) * W2 (ix2 j k)) + b2 (ix1 k)) 0 := by
  have hb : broadcastTo S2048x256 (shapeCast S1x256 b2 shapeCasts_S256_S1x256) broadcasts_S1x256_S2048x256 (ix2 r k) = b2 (ix1 k) :=
    (broadcastTo_1b_ab_apply _ _ r k).trans (shapeCast_a_1a_apply _ _ _ _)
  unfold hid2
  rw [maximumf_apply, addf_apply, hb]
  have hm := Ideal.matmul_plain_apply none (truncf .bf16 h bitsLt_bf16_f32) (truncf .bf16 W2 bitsLt_bf16_f32) (constant S2048x256 .f32 0x00000000#32) r k
  rw [constant_apply, Ideal.ofBits_zero_f32, zero_add] at hm
  show max (_ + _) (Ideal.ofBits .f32 0x00000000#32) = _
  rw [Ideal.ofBits_zero_f32]
  exact congrArg (fun z => max (z + b2 (ix1 k)) 0) hm

/-- The result's block. -/
theorem blk_apply (C : IVec S2048x256 32) (M : FVec Ideal S1024x256 .bf16) (b1 : FVec Ideal S256 .f32) (W2 : FVec Ideal S256x256 .f32) (b2 : FVec Ideal S256 .f32)
    (Wo : FVec Ideal S256x128 .f32) (bo : FVec Ideal S128 .f32) (r : Fin 2048) (o : Fin 128) :
    blk C M (shapeCast S1x256 b1 shapeCasts_S256_S1x256) W2 (shapeCast S1x256 b2 shapeCasts_S256_S1x256) Wo (shapeCast S1x128 bo shapeCasts_S128_S1x128) (ix2 r o)
      = tail (fun j => ∑ k : Fin 4, ∑ c : Fin 256, (((field 8 k.val (C (ix2 r c)).toNat : ℕ) : ℝ) : EReal) * M (ix2 (at4 k c) j)) b1 W2 b2 Wo bo o := by
  have hb : broadcastTo S2048x128 (shapeCast S1x128 bo shapeCasts_S128_S1x128) broadcasts_S1x128_S2048x128 (ix2 r o) = bo (ix1 o) :=
    (broadcastTo_1b_ab_apply _ _ r o).trans (shapeCast_a_1a_apply _ _ _ _)
  unfold blk tail
  rw [addf_apply, hb]
  have hm := Ideal.matmul_plain_apply none (hid2 (hid1 C M (shapeCast S1x256 b1 shapeCasts_S256_S1x256)) W2 (shapeCast S1x256 b2 shapeCasts_S256_S1x256)) Wo
    (constant S2048x128 .f32 0x00000000#32) r o
  rw [constant_apply, Ideal.ofBits_zero_f32, zero_add] at hm
  refine (congrArg (· + bo (ix1 o)) hm).trans (congrArg (· + bo (ix1 o)) (Finset.sum_congr rfl fun k _ => congrArg (· * Wo (ix2 k o)) ?_))
  rw [hid2_apply]
  exact congrArg (fun z => max (z + b2 (ix1 k)) 0) (Finset.sum_congr rfl fun j _ => congrArg (· * W2 (ix2 j k)) (hid1_apply C M b1 r j))

end Cert.Hist
-- ==== Proof.Out.lean ====
/- What the run leaves in the result, at an index: the dense body on a block holding that row's packed counts. -/
module

public import proofs.«01_k».proof.Proof.Launch
public import Idealize.ShloMosaic.Lib.StableHlo.RunRead

@[expose] public section

noncomputable section

namespace Cert.Hist

open Cert.KernelIdeal Cert.KernelIdeal.Gen
open Idealize.ShloMosaic
open Idealize.ShloMosaic.TcCoe
open Idealize.ShloMosaic.Pipeline (Dat arrRef)
open Idealize.ShloMosaic.ValueIdx (ix1 ix2)

variable {F : FTy → Type} [FloatOps F] [Named F]

/-! ## Where a block's elements sit -/

theorem index2_8 (t : Fin grid2.N) : win2_8.index t 0 = t.val ∧ win2_8.index t 1 = 0 := by
  obtain h | h | h | h := fin_N2 t <;> subst h <;> decide
theorem index3_8 (t : Fin grid3.N) : win3_8.index t 0 = t.val + 4 ∧ win3_8.index t 1 = 0 := by
  obtain h | h | h | h := fin_N3 t <;> subst h <;> decide
theorem index2_0 (t : Fin grid2.N) : win2_0.index t 0 = t.val ∧ win2_0.index t 1 = 0 := by
  obtain h | h | h | h := fin_N2 t <;> subst h <;> decide
theorem index3_0 (t : Fin grid3.N) : win3_0.index t 0 = t.val ∧ win3_0.index t 1 = 0 := by
  obtain h | h | h | h := fin_N3 t <;> subst h <;> decide

/-- A row of a result block in the first call's result. -/
theorem emb2 (t : Fin grid2.N) (y : S2048x128.Idx) :
    ((win2_8.rect t).emb y 0 : Nat) = t.val * 2048 + (y 0).val ∧ ((win2_8.rect t).emb y 1 : Nat) = (y 1).val := by
  have h0 := win2_8.rect_emb_val t y 0
  have h1 := win2_8.rect_emb_val t y 1
  rw [(index2_8 t).1] at h0
  rw [(index2_8 t).2] at h1
  exact ⟨h0, h1.trans (by omega)⟩

/-- A row of a result block in the second call's result. -/
theorem emb3 (t : Fin grid3.N) (y : S2048x128.Idx) :
    ((win3_8.rect t).emb y 0 : Nat) = (t.val + 4) * 2048 + (y 0).val ∧ ((win3_8.rect t).emb y 1 : Nat) = (y 1).val := by
  have h0 := win3_8.rect_emb_val t y 0
  have h1 := win3_8.rect_emb_val t y 1
  rw [(index3_8 t).1] at h0
  rw [(index3_8 t).2] at h1
  exact ⟨h0, h1.trans (by omega)⟩

variable (V : Valuation τ sig (Elt F)) (c : Dev nD)

/-- The counts' block at a point of the first call. -/
theorem cb2_apply (t : Fin cfg2.N) (y : S2048x256.Idx) (n : Fin 8192) (hn : n.val = t.val * 2048 + (y 0).val) :
    cb2 V t y = at_ V main_v4 (ix2 n (y 1)) := by
  have h0 := win2_0.rect_emb_val t y 0
  have h1 := win2_0.rect_emb_val t y 1
  rw [(index2_0 t).1] at h0
  rw [(index2_0 t).2] at h1
  refine congrArg (at_ V main_v4) (funext fun a => Fin.ext ?_)
  match a with
  | ⟨0, _⟩ => exact h0.trans hn.symm
  | ⟨1, _⟩ => exact h1.trans ((congrArg (· + (y 1).val) (Nat.zero_mul _)).trans (Nat.zero_add _))

/-- The counts' block at a point of the second call. -/
theorem cb3_apply (t : Fin cfg3.N) (y : S2048x256.Idx) (n : Fin 8192) (hn : n.val = t.val * 2048 + (y 0).val) :
    cb3 V t y = at_ V main_v5 (ix2 n (y 1)) := by
  have h0 := win3_0.rect_emb_val t y 0
  have h1 := win3_0.rect_emb_val t y 1
  rw [(index3_0 t).1] at h0
  rw [(index3_0 t).2] at h1
  refine congrArg (at_ V main_v5) (funext fun a => Fin.ext ?_)
  match a with
  | ⟨0, _⟩ => exact h0.trans hn.symm
  | ⟨1, _⟩ => exact h1.trans ((congrArg (· + (y 1).val) (Nat.zero_mul _)).trans (Nat.zero_add _))

/-- The first call's result at a row of a block. -/
theorem out2_apply (t : Fin cfg2.N) (r : Fin 2048) (o : Fin 128) (n : Fin 16384) (hn : n.val = t.val * 2048 + r.val) :
    out2 V c (ix2 n o) = blkV V (cb2 V t) (ix2 r o) := by
  have hd : ∀ t t' : Fin cfg2.N, (cfg2.win 8).flush t = true → (cfg2.win 8).flush t' = true → t ≠ t' →
      Disjoint ((cfg2.win 8).blk t).view.set ((cfg2.win 8).blk t').view.set := fun t t' _ _ hne => by
    rw [Finset.disjoint_left]
    intro i hi hi'
    obtain ⟨y, rfl⟩ := View.exists_emb_of_mem_set _ hi
    obtain ⟨y', he⟩ := View.exists_emb_of_mem_set _ hi'
    have e0 : ((win2_8.rect t').emb y' 0 : Nat) = ((win2_8.rect t).emb y 0 : Nat) := congrArg (fun i : S16384x128.Idx => (i 0).val) he
    rw [(emb2 t y).1, (emb2 t' y').1] at e0
    have hy : (y 0).val < 2048 := (y 0).isLt
    have hy' : (y' 0).val < 2048 := (y' 0).isLt
    exact hne (Fin.ext (by omega))
  have h := (dat2 V c).arrAt_emb_eq_flushed 8 hd t (flush2_8 t) (ix2 r o)
  have he : ((cfg2.win 8).blk t).view.emb (ix2 r o) = (ix2 n o : S16384x128.Idx) := funext fun a => Fin.ext (by
    match a with
    | ⟨0, _⟩ => exact (emb2 t (ix2 r o)).1.trans hn.symm
    | ⟨1, _⟩ => exact (emb2 t (ix2 r o)).2)
  rw [he] at h
  exact h

/-- The second call's result at a row of a block. -/
theorem out3_apply (t : Fin cfg3.N) (r : Fin 2048) (o : Fin 128) (n : Fin 16384) (hn : n.val = (t.val + 4) * 2048 + r.val) :
    out3 V c (ix2 n o) = blkV V (cb3 V t) (ix2 r o) := by
  have hd : ∀ t t' : Fin cfg3.N, (cfg3.win 8).flush t = true → (cfg3.win 8).flush t' = true → t ≠ t' →
      Disjoint ((cfg3.win 8).blk t).view.set ((cfg3.win 8).blk t').view.set := fun t t' _ _ hne => by
    rw [Finset.disjoint_left]
    intro i hi hi'
    obtain ⟨y, rfl⟩ := View.exists_emb_of_mem_set _ hi
    obtain ⟨y', he⟩ := View.exists_emb_of_mem_set _ hi'
    have e0 : ((win3_8.rect t').emb y' 0 : Nat) = ((win3_8.rect t).emb y 0 : Nat) := congrArg (fun i : S16384x128.Idx => (i 0).val) he
    rw [(emb3 t y).1, (emb3 t' y').1] at e0
    have hy : (y 0).val < 2048 := (y 0).isLt
    have hy' : (y' 0).val < 2048 := (y' 0).isLt
    exact hne (Fin.ext (by omega))
  have h := (dat3 V c).arrAt_emb_eq_flushed 8 hd t (flush3_8 t) (ix2 r o)
  have he : ((cfg3.win 8).blk t).view.emb (ix2 r o) = (ix2 n o : S16384x128.Idx) := funext fun a => Fin.ext (by
    match a with
    | ⟨0, _⟩ => exact (emb3 t (ix2 r o)).1.trans hn.symm
    | ⟨1, _⟩ => exact (emb3 t (ix2 r o)).2)
  rw [he] at h
  exact h

/-- A row before the second call's blocks keeps what it held. -/
theorem out3_old (n : Fin 16384) (hn : n.val < 8192) (o : Fin 128) : out3 V c (ix2 n o) = at_ V main_v7 (ix2 n o) := by
  refine (dat3 V c).arrAt_apply_of_forall_not_mem 8 cfg3.N (ix2 n o) fun t _ _ hi => ?_
  obtain ⟨y, he⟩ := View.exists_emb_of_mem_set _ hi
  have e0 : ((win3_8.rect t).emb y 0 : Nat) = n.val := congrArg (fun i : S16384x128.Idx => (i 0).val) he
  rw [(emb3 t y).1] at e0
  omega

/-! ## What the dense calls find -/

variable (m : (ℓ : Loc nD τ sig) → Buf (Elt F) ℓ) (d : Dev nD)

/-- The padded table. -/
def padE : FVec F S1024x64 .f32 :=
  pad S1024x64 ![0, 0] ![24, 0] ![0, 0] (m (d, Proc.devRef .tc main_arg1)) (sitofp .f32 (constantI S_ 32 0#32)) pads_S1000x64_S1024x64_0240_000 h_S_

theorem V1_v0 : at_ (V1 m d) main_v0 = padE m d := by
  unfold V1 at_ ops
  after_results_simp
  rfl
theorem V1_v1 : at_ (V1 m d) main_v1 = shapeCast S1x256 (m (d, Proc.devRef .tc main_arg3)) shapeCasts_S256_S1x256 := by
  unfold V1 at_ ops
  after_results_simp
  rfl
theorem V1_v2 : at_ (V1 m d) main_v2 = shapeCast S1x256 (m (d, Proc.devRef .tc main_arg5)) shapeCasts_S256_S1x256 := by
  unfold V1 at_ ops
  after_results_simp
  rfl
theorem V1_v3 : at_ (V1 m d) main_v3 = shapeCast S1x128 (m (d, Proc.devRef .tc main_arg7)) shapeCasts_S128_S1x128 := by
  unfold V1 at_ ops
  after_results_simp
  rfl

/-- The dense body on the arguments and a block of counts. -/
def blkM (C : IVec S2048x256 32) : FVec F S2048x128 .f32 :=
  blk C (prep (padE m d) (m (d, Proc.devRef .tc main_arg2))) (shapeCast S1x256 (m (d, Proc.devRef .tc main_arg3)) shapeCasts_S256_S1x256)
    (m (d, Proc.devRef .tc main_arg4)) (shapeCast S1x256 (m (d, Proc.devRef .tc main_arg5)) shapeCasts_S256_S1x256)
    (m (d, Proc.devRef .tc main_arg6)) (shapeCast S1x128 (m (d, Proc.devRef .tc main_arg7)) shapeCasts_S128_S1x128)

theorem V2_of1 (b : Ref sig .tc) (h4 : b ≠ main_v4) (h5 : b ≠ main_v5) : at_ (V2 m d) b = at_ (V1 m d) b :=
  (V2_ne m d b h5).trans (Va_ne m d b h4)
theorem V4_of2 (b : Ref sig .tc) (h6 : b ≠ main_v6) (h7 : b ≠ main_v7) : at_ (V4 m d) b = at_ (V2 m d) b :=
  (V4_ne m d b h7).trans (V3_ne m d b h6)

theorem blkV2 (C : IVec S2048x256 32) : blkV (V2 m d) C = blkM m d C := by
  unfold blkM
  rw [← V1_v0, ← V1_v1, ← V1_v2, ← V1_v3, ← V1_of m d main_arg2 (by decide), ← V1_of m d main_arg4 (by decide), ← V1_of m d main_arg6 (by decide),
    ← V2_of1 m d main_v0 (by decide) (by decide), ← V2_of1 m d main_v1 (by decide) (by decide), ← V2_of1 m d main_v2 (by decide) (by decide),
    ← V2_of1 m d main_v3 (by decide) (by decide), ← V2_of1 m d main_arg2 (by decide) (by decide), ← V2_of1 m d main_arg4 (by decide) (by decide),
    ← V2_of1 m d main_arg6 (by decide) (by decide)]

theorem blkV4 (C : IVec S2048x256 32) : blkV (V4 m d) C = blkM m d C := by
  rw [← blkV2]
  unfold blkV prepV
  rw [V4_of2 m d main_v0 (by decide) (by decide), V4_of2 m d main_v1 (by decide) (by decide), V4_of2 m d main_v2 (by decide) (by decide),
    V4_of2 m d main_v3 (by decide) (by decide), V4_of2 m d main_arg2 (by decide) (by decide), V4_of2 m d main_arg4 (by decide) (by decide),
    V4_of2 m d main_arg6 (by decide) (by decide)]

/-- The result at a row: the dense body, at some row of a block of counts that holds the row's packed counts. -/
theorem result_apply (n : Fin 16384) (o : Fin 128) : ∃ (C : IVec S2048x256 32) (r : Fin 2048),
    (∀ k : Fin 256, C (ix2 r k) = rowCnt (m (xLoc d)) n k.val) ∧ at_ (V5 m d) main_v7 (ix2 n o) = blkM m d C (ix2 r o) := by
  by_cases hn : n.val < 8192
  · have ht : n.val / 2048 < 4 := by omega
    refine ⟨cb2 (V2 m d) ⟨n.val / 2048, ht⟩, ⟨n.val % 2048, Nat.mod_lt _ (by decide)⟩, fun k => ?_, ?_⟩
    · rw [cb2_apply (V2 m d) ⟨n.val / 2048, ht⟩ _ ⟨n.val, hn⟩ (by show n.val = n.val / 2048 * 2048 + n.val % 2048; omega)]
      rw [V2_ne m d main_v4 (by decide), Va_self]
      rfl
    · rw [← blkV2, ← out2_apply (V2 m d) d ⟨n.val / 2048, ht⟩ _ o n (by show n.val = n.val / 2048 * 2048 + n.val % 2048; omega)]
      have h5 : at_ (V5 m d) main_v7 = out3 (V4 m d) d := aft3_self _ _
      have h3 : at_ (V3 m d) main_v6 = out2 (V2 m d) d := aft2_self _ _
      rw [h5, out3_old _ _ _ hn, V4_self, h3]
  · have ht : n.val / 2048 - 4 < 4 := by omega
    have hv : n.val = (n.val / 2048 - 4 + 4) * 2048 + n.val % 2048 := by omega
    refine ⟨cb3 (V4 m d) ⟨n.val / 2048 - 4, ht⟩, ⟨n.val % 2048, Nat.mod_lt _ (by decide)⟩, fun k => ?_, ?_⟩
    · rw [cb3_apply (V4 m d) ⟨n.val / 2048 - 4, ht⟩ _ ⟨n.val - 8192, by omega⟩ (by show n.val - 8192 = (n.val / 2048 - 4) * 2048 + n.val % 2048; omega)]
      rw [V4_of2 m d main_v5 (by decide) (by decide), V2_self]
      have e : (⟨8192 + (n.val - 8192), by omega⟩ : Fin 16384) = n := Fin.ext (by show 8192 + (n.val - 8192) = n.val; omega)
      show rowCnt (m (xLoc d)) ⟨8192 + (n.val - 8192), _⟩ k.val = _
      rw [e]
    · rw [← blkV4, ← out3_apply (V4 m d) d ⟨n.val / 2048 - 4, ht⟩ _ o n hv]
      have h5 : at_ (V5 m d) main_v7 = out3 (V4 m d) d := aft3_self _ _
      rw [h5]

end Cert.Hist
-- ==== Proof.Mean.lean ====
/- Counting before the table's product and looking up before it give the same first layer. -/
module

public import proofs.«01_k».proof.Proof.Dense
public import proofs.«01_k».proof.Proof.Out
public import Mathlib.Tactic.Ring
public import Mathlib.Algebra.BigOperators.Ring.Finset

@[expose] public section

noncomputable section

namespace Cert.Hist

open Idealize.ShloMosaic Idealize.ShloMosaic.PackedFields Idealize.ShloMosaic.ValueIdx Cert.KernelIdeal Cert.KernelIdeal.Gen
open Idealize.ShloMosaic.TcCoe
open scoped BigOperators

/-! ## Real sums -/

/-- A sum of reals read as an extended real. -/
theorem coe_sum {ι : Type} (s : Finset ι) (f : ι → ℝ) : ((∑ i ∈ s, f i : ℝ) : EReal) = ∑ i ∈ s, (f i : EReal) :=
  map_sum (⟨⟨(fun r : ℝ => (r : EReal)), EReal.coe_zero⟩, EReal.coe_add⟩ : ℝ →+ EReal) f s

/-- Every value below 1024 is one byte's value at one column. -/
theorem sum_values (v : Nat) (hv : v < 1024) (g : Fin 1024 → ℝ) :
    (∑ k : Fin 4, ∑ c : Fin 256, if v = 256 * k.val + c.val then g (at4 k c) else 0) = g ⟨v, hv⟩ := by
  have hk : v / 256 < 4 := by omega
  have hc : v % 256 < 256 := Nat.mod_lt _ (by decide)
  rw [Finset.sum_eq_single (⟨v / 256, hk⟩ : Fin 4), Finset.sum_eq_single (⟨v % 256, hc⟩ : Fin 256)]
  · rw [if_pos (by show v = 256 * (v / 256) + v % 256; omega)]
    exact congrArg g (Fin.ext (by show 256 * (v / 256) + v % 256 = v; omega))
  · intro c _ hne
    refine if_neg fun h => hne (Fin.ext ?_)
    have h' : v = 256 * (v / 256) + c.val := h
    show c.val = v % 256
    omega
  · intro h; exact absurd (Finset.mem_univ _) h
  · intro k _ hne
    refine Finset.sum_eq_zero fun c _ => if_neg fun h => hne (Fin.ext ?_)
    have := c.isLt
    show k.val = v / 256
    omega
  · intro h; exact absurd (Finset.mem_univ _) h

/-- Counts times a function of the value add up to the function over the tokens. -/
theorem sum_counts (v : Fin 200 → Nat) (hv : ∀ l, v l < 1024) (g : Fin 1024 → ℝ) :
    (∑ k : Fin 4, ∑ c : Fin 256, ((∑ l : Fin 200, if v l = 256 * k.val + c.val then 1 else 0 : ℕ) : ℝ) * g (at4 k c)) = ∑ l : Fin 200, g ⟨v l, hv l⟩ := by
  calc _ = ∑ k : Fin 4, ∑ c : Fin 256, ∑ l : Fin 200, (if v l = 256 * k.val + c.val then g (at4 k c) else 0) :=
        Finset.sum_congr rfl fun k _ => Finset.sum_congr rfl fun c _ => by
          rw [Nat.cast_sum, Finset.sum_mul]
          exact Finset.sum_congr rfl fun l _ => by split <;> simp
    _ = ∑ k : Fin 4, ∑ l : Fin 200, ∑ c : Fin 256, (if v l = 256 * k.val + c.val then g (at4 k c) else 0) :=
        Finset.sum_congr rfl fun k _ => Finset.sum_comm
    _ = ∑ l : Fin 200, ∑ k : Fin 4, ∑ c : Fin 256, (if v l = 256 * k.val + c.val then g (at4 k c) else 0) := Finset.sum_comm
    _ = _ := Finset.sum_congr rfl fun l _ => sum_values (v l) (hv l) g

/-- The first layer over the reals: the mean's factor and the weights may be taken in either order. -/
theorem real_layer (v : Fin 200 → Nat) (hv : ∀ l, v l < 1024) (P : Fin 1024 → Fin 64 → ℝ) (w : Fin 64 → ℝ) (s : ℝ) :
    (∑ k : Fin 4, ∑ c : Fin 256, ((∑ l : Fin 200, if v l = 256 * k.val + c.val then 1 else 0 : ℕ) : ℝ) * ((∑ e : Fin 64, P (at4 k c) e * w e) * s))
      = ∑ e : Fin 64, ((∑ l : Fin 200, P ⟨v l, hv l⟩ e) * s) * w e := by
  rw [sum_counts v hv (fun a => (∑ e : Fin 64, P a e * w e) * s), ← Finset.sum_mul, Finset.sum_comm, Finset.sum_mul]
  refine Finset.sum_congr rfl fun e _ => ?_
  rw [← Finset.sum_mul]
  ring

/-! ## The prepared table -/

variable (m : (ℓ : Loc nD τ sig) → Buf (Elt Ideal) ℓ) (d : Dev nD)

/-- The tokens. -/
abbrev tX : IVec S16384x200 32 := m (xLoc d)
/-- The table. -/
abbrev tE : FVec Ideal S1000x64 .f32 := m (d, Proc.devRef .tc main_arg1)
/-- The first layer's weights. -/
abbrev tW : FVec Ideal S64x256 .f32 := m (d, Proc.devRef .tc main_arg2)

/-- The padded table over the reals. -/
def padR (E : Fin 1000 → Fin 64 → ℝ) (a : Fin 1024) (e : Fin 64) : ℝ := if h : a.val < 1000 then E ⟨a.val, h⟩ e else 0

theorem padE_apply (E : Fin 1000 → Fin 64 → ℝ) (hE : ∀ a e, tE m d (ix2 a e) = (E a e : EReal))
    (a : Fin 1024) (e : Fin 64) : padE m d (ix2 a e) = (padR E a e : EReal) := by
  unfold padE padR
  split
  · rename_i h
    rw [pad_apply_of_inside _ _ _ _ _ _ _ (ix2 a e) (ix2 ⟨a.val, h⟩ e) (by intro b; fin_cases b <;> simp)]
    exact hE _ _
  · rename_i h
    rw [pad_apply_of_not_inside _ _ _ _ _ _ _ (ix2 a e) 0 (by
      rintro ⟨-, -, h3⟩
      have h4 : (a.val - 0) / (0 + 1) < 1000 := h3
      omega)]
    show (((0#32 : BitVec 32).toInt : ℝ) : EReal) = _
    norm_num

/-- The scratch's contents. -/
theorem prep_apply (E : Fin 1000 → Fin 64 → ℝ) (hE : ∀ a e, tE m d (ix2 a e) = (E a e : EReal))
    (W : Fin 64 → Fin 256 → ℝ) (hW : ∀ e j, tW m d (ix2 e j) = (W e j : EReal)) (a : Fin 1024) (j : Fin 256) :
    prep (padE m d) (tW m d) (ix2 a j) = (((∑ e : Fin 64, padR E a e * W e j) * (1 / 200) : ℝ) : EReal) := by
  unfold prep
  rw [truncf_apply, mulf_apply]
  have hm := Ideal.matmul_plain_apply none (padE m d) (tW m d) (constant S1024x256 .f32 0x00000000#32) a j
  rw [constant_apply, Ideal.ofBits_zero_f32, zero_add] at hm
  have hs : (∑ k : Fin 64, padE m d (ix2 a k) * tW m d (ix2 k j)) = ((∑ e : Fin 64, padR E a e * W e j : ℝ) : EReal) := by
    rw [coe_sum]
    exact Finset.sum_congr rfl fun e _ => by rw [padE_apply m d E hE, hW, EReal.coe_mul]
  have hn : Named.named (F := Ideal) κ "mean" (φ := .f32) 0x3BA3D70A#32 = ((200⁻¹ : ℝ) : EReal) := IdealRules.named_const.ideal_named_scalar κ "mean" _ _ rfl
  rw [EReal.coe_mul, ← hs, ← hm, one_div, ← hn]
  rfl

/-- The kernel's first layer before the bias is the reference's. -/
theorem layer_eq (x : S16384x200.Idx → BitVec 32) (hx : ∀ j, (x j).toNat < 1000) (n : Fin 16384)
    (E : Fin 1000 → Fin 64 → ℝ) (hE : ∀ a e, tE m d (ix2 a e) = (E a e : EReal))
    (W : Fin 64 → Fin 256 → ℝ) (hW : ∀ e j, tW m d (ix2 e j) = (W e j : EReal)) (j : Fin 256) :
    (∑ k : Fin 4, ∑ c : Fin 256, (((field 8 k.val (rowCnt x n c.val).toNat : ℕ) : ℝ) : EReal) * prep (padE m d) (tW m d) (ix2 (at4 k c) j))
      = ∑ e : Fin 64, ((∑ l : Fin 200, tE m d (ix2 ⟨(x (ix2 n l)).toNat, hx _⟩ e)) * ((1 / 200 : ℝ) : EReal))
          * tW m d (ix2 e j) := by
  have hv : ∀ l : Fin 200, (x (ix2 n l)).toNat < 1024 := fun l => (hx _).trans (by decide)
  have h := real_layer (fun l => (x (ix2 n l)).toNat) hv (padR E) (fun e => W e j) (1 / 200)
  have hl : (∑ k : Fin 4, ∑ c : Fin 256, (((field 8 k.val (rowCnt x n c.val).toNat : ℕ) : ℝ) : EReal) * prep (padE m d) (tW m d) (ix2 (at4 k c) j))
      = ((∑ k : Fin 4, ∑ c : Fin 256, ((∑ l : Fin 200, if (x (ix2 n l)).toNat = 256 * k.val + c.val then 1 else 0 : ℕ) : ℝ) * ((∑ e : Fin 64, padR E (at4 k c) e * W e j) * (1 / 200)) : ℝ) : EReal) := by
    rw [coe_sum]
    refine Finset.sum_congr rfl fun k _ => ?_
    rw [coe_sum]
    exact Finset.sum_congr rfl fun c _ => by rw [EReal.coe_mul, field_rowCnt x hx n c.val c.isLt k.val k.isLt, prep_apply m d E hE W hW]
  rw [hl, h, coe_sum]
  refine Finset.sum_congr rfl fun e _ => ?_
  rw [EReal.coe_mul, EReal.coe_mul, coe_sum, hW]
  refine congrArg (fun z => z * ((1 / 200 : ℝ) : EReal) * (W e j : EReal)) (Finset.sum_congr rfl fun l _ => ?_)
  rw [hE]
  refine congrArg (fun r : ℝ => (r : EReal)) ?_
  unfold padR
  rw [dif_pos (hx (ix2 n l))]

/-- The kernel's result at an index, on real tables and tokens in range. -/
theorem result_eq (hx : ∀ j, (tX m d j).toNat < 1000)
    (E : Fin 1000 → Fin 64 → ℝ) (hE : ∀ a e, tE m d (ix2 a e) = (E a e : EReal))
    (W : Fin 64 → Fin 256 → ℝ) (hW : ∀ e j, tW m d (ix2 e j) = (W e j : EReal)) (n : Fin 16384) (o : Fin 128) :
    (at_ (V5 m d) main_v7 : FVec Ideal S16384x128 .f32) (ix2 n o)
      = tail (fun j => ∑ e : Fin 64, ((∑ l : Fin 200, tE m d (ix2 ⟨(tX m d (ix2 n l)).toNat, hx _⟩ e))
            * ((1 / 200 : ℝ) : EReal)) * tW m d (ix2 e j))
          (m (d, Proc.devRef .tc main_arg3)) (m (d, Proc.devRef .tc main_arg4)) (m (d, Proc.devRef .tc main_arg5)) (m (d, Proc.devRef .tc main_arg6)) (m (d, Proc.devRef .tc main_arg7)) o := by
  obtain ⟨C, r, hC, h⟩ := result_apply m d n o
  refine h.trans ?_
  unfold blkM
  rw [blk_apply]
  refine congrArg (fun A => tail A _ _ _ _ _ o) (funext fun j => ?_)
  rw [← layer_eq m d (tX m d) hx n E hE W hW j]
  exact Finset.sum_congr rfl fun k _ => Finset.sum_congr rfl fun c _ => by rw [hC]

end Cert.Hist
-- ==== Proof.Reference.lean ====
/- The reference's result at an index over the extended reals. -/
module

public import proofs.«01_k».proof.Proof.Dense
public import proofs.«01_k».proof.Proof.Gen.ReferenceIdeal.Run
public import Idealize.ShloMosaic.Lib.ReduceAll
public import Idealize.ShloMosaic.Lib.IdealHost
public import Idealize.ShloMosaic.Lib.StackMember
public import Idealize.ShloMosaic.Lib.Pointwise.Reduce

@[expose] public section

noncomputable section

namespace Cert.Hist.Ref

open Idealize.ShloMosaic hiding ix1 ix2 ix3
open Idealize.ShloMosaic.ValueIdx Cert.ReferenceIdeal Cert.ReferenceIdeal.Gen
open scoped BigOperators

/-! ## The lookup -/

section Lookup
variable (x : IVec S16384x200 32)

/-- The tokens with the negative ones wrapped, as the lookup's row numbers. -/
def wrap : IVec S16384x200x1 32 :=
  broadcastInDim S16384x200x1 ![0, 1] bcast_S16384x200_S16384x200x1_0_1 (select (cmpi .slt x (broadcastInDim S16384x200 ![] bcast_S_S16384x200 (constantI S_ 32 0#32)))
    (addi x (broadcastInDim S16384x200 ![] bcast_S_S16384x200 (constantI S_ 32 1000#32))) x)

/-- Which row numbers the table has. -/
def mask : IVec S16384x200 1 :=
  Host.reduce IntOp.andi (andi (cmpi .sge (wrap x) (broadcastInDim S16384x200x1 ![] bcast_S_S16384x200x1 (constantI S_ 32 0#32)))
    (cmpi .sle (wrap x) (broadcastInDim S16384x200x1 ![0, 1, 2] bcast_S1x1x1_S16384x200x1_0_1_2 (broadcastInDim S1x1x1 ![2] bcast_S1_S1x1x1_2 (constantI S1 32 999#32)))))
    (constantI S_ 1 1#1) reducesTo_S16384x200x1_S16384x200_d2 h_S_

/-- The rows looked up. -/
def took (E : FVec Ideal S1000x64 .f32) : FVec Ideal S16384x200x64 .f32 :=
  select (broadcastInDim S16384x200x64 ![0, 1] bcast_S16384x200_S16384x200x64_0_1 (mask x))
    (Host.gather gather_S1000x64_S16384x200x1_S16384x200x64_2_0_n_n_0_2_164 E (wrap x))
    (broadcastInDim S16384x200x64 ![] bcast_S_S16384x200x64 (constant S_ .f32 0x7FC00000#32))

/-- A token below 2³¹ isn't negative. -/
theorem toInt_of_small {w : BitVec 32} (h : w.toNat < 1000) : w.toInt = w.toNat := BitVec.toInt_eq_toNat_of_lt (by omega)

variable (hx : ∀ j, (x j).toNat < 1000)

include hx in
theorem wrap_apply (n : Fin 16384) (l : Fin 200) (z : Fin 1) : wrap x (ix3 n l z) = x (ix2 n l) := by
  unfold wrap
  rw [broadcastInDim_apply ![0, 1] bcast_S16384x200_S16384x200x1_0_1 _ (ix3 n l z) (ix2 n l) (by intro a; fin_cases a <;> rfl), select_apply]
  have h : cmpi .slt x (broadcastInDim S16384x200 ![] bcast_S_S16384x200 (constantI S_ 32 0#32)) (ix2 n l) = 0#1 := by
    show BitVec.ofBool ((x (ix2 n l)).slt 0#32) = 0#1
    have hn : (x (ix2 n l)).slt 0#32 = false := by
      rw [BitVec.slt, decide_eq_false_iff_not, toInt_of_small (hx _), show (0#32 : BitVec 32).toInt = 0 from rfl]
      omega
    rw [hn]; rfl
  rw [h]
  rfl

include hx in
theorem mask_apply (j : S16384x200.Idx) : mask x j = 1#1 := by
  refine Host.reduce_andi_one _ _ _ _ j rfl fun i => ?_
  obtain ⟨n, l, z, rfl⟩ : ∃ (n : Fin 16384) (l : Fin 200) (z : Fin 1), i = ix3 n l z := ⟨i 0, i 1, i 2, ValueIdx.eq_ix3 i⟩
  refine IntOp.andi_eq_one.mpr ⟨?_, ?_⟩
  · show BitVec.ofBool ((0#32 : BitVec 32).sle (wrap x (ix3 n l z))) = 1#1
    rw [wrap_apply x hx]
    have hn : (0#32 : BitVec 32).sle (x (ix2 n l)) = true := by
      rw [BitVec.sle, decide_eq_true_iff, toInt_of_small (hx _), show (0#32 : BitVec 32).toInt = 0 from rfl]
      omega
    rw [hn]; rfl
  · show BitVec.ofBool ((wrap x (ix3 n l z)).sle 999#32) = 1#1
    rw [wrap_apply x hx]
    have hn : (x (ix2 n l)).sle 999#32 = true := by
      rw [BitVec.sle, decide_eq_true_iff, toInt_of_small (hx _), show (999#32 : BitVec 32).toInt = 999 from rfl]
      have := hx (ix2 n l)
      omega
    rw [hn]; rfl

/-- The lookup's gather at an index: the table at the row number there, read signed and clamped, and the same column. -/
theorem gather_apply {α : Type} (E : S1000x64.Idx → α) (I : IVec S16384x200x1 32) (n : Fin 16384) (l : Fin 200) (e : Fin 64) :
    Host.gather gather_S1000x64_S16384x200x1_S16384x200x64_2_0_n_n_0_2_164 E I (ix3 n l e)
      = E (ix2 ⟨min (I (ix3 n l (0 : Fin 1))).toInt.toNat 999, by omega⟩ e) := by
  unfold Host.gather
  congr 1
  funext a
  refine Fin.ext ?_
  set dd := gather_S1000x64_S16384x200x1_S16384x200x64_2_0_n_n_0_2_164 with hdd
  show dd.start (ix3 n l e) I a + dd.batchCoord (ix3 n l e) a + dd.offCoord (ix3 n l e) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ dd.startIndexMap from List.mem_singleton.mpr rfl)]
    have hsi : dd.siIdx (ix3 n l e) ⟨List.idxOf (0 : Fin 2) dd.startIndexMap, List.idxOf_lt_length_iff.2 (List.mem_singleton.mpr rfl)⟩ = ix3 n l (0 : Fin 1) := by
      funext b; refine Fin.ext ?_
      match b with
      | ⟨0, _⟩ => rfl
      | ⟨1, _⟩ => rfl
      | ⟨2, _⟩ => rfl
    exact (congrArg (fun i => min (I i).toInt.toNat 999) hsi).trans rfl
  · have hs : dd.start (ix3 n l e) I 1 = 0 := by
      unfold GatherDims.start
      rw [dif_neg (show ¬ (1 : Fin 2) ∈ dd.startIndexMap by rw [hdd]; decide)]
    exact (congrArg (· + dd.offCoord (ix3 n l e) 1) hs).trans ((Nat.zero_add _).trans rfl)

include hx in
theorem took_apply (E : FVec Ideal S1000x64 .f32) (n : Fin 16384) (l : Fin 200) (e : Fin 64) :
    took x E (ix3 n l e) = E (ix2 ⟨(x (ix2 n l)).toNat, hx _⟩ e) := by
  unfold took
  rw [select_apply, broadcastInDim_apply ![0, 1] bcast_S16384x200_S16384x200x64_0_1 (mask x) (ix3 n l e) (ix2 n l) (by intro a; fin_cases a <;> rfl),
    mask_apply x hx, gather_apply]
  refine congrArg E (funext fun a => Fin.ext ?_)
  match a with
  | ⟨0, _⟩ =>
    show min (wrap x (ix3 n l 0)).toInt.toNat 999 = (x (ix2 n l)).toNat
    rw [wrap_apply x hx]
    show min (x (ix2 n l)).toInt.toNat 999 = (x (ix2 n l)).toNat
    rw [toInt_of_small (hx _), Int.toNat_natCast]
    have := hx (ix2 n l)
    omega
  | ⟨1, _⟩ => rfl

end Lookup

/-! ## The mean and the layers -/

theorem count_word : Ideal.ofBits .f32 0x43480000#32 = ((200 : ℝ) : EReal) := by
  simp [Ideal.ofBits, Ideal.ieee, -EReal.coe_mul]; norm_num

theorem top_word : Ideal.ofBits .f32 0x7F800000#32 = ⊤ := by
  simp [Ideal.ofBits, Ideal.ieee]

/-- The mean of the rows looked up. -/
def mean (x : IVec S16384x200 32) (E : FVec Ideal S1000x64 .f32) : FVec Ideal S16384x64 .f32 :=
  Host.divf (Host.reduceAdd (took x E) (constant S_ .f32 0x00000000#32) reducesTo_S16384x200x64_S16384x64_d1 h_S_)
    (broadcastInDim S16384x64 ![] bcast_S_S16384x64 (constant S_ .f32 0x43480000#32))

theorem mean_apply (x : IVec S16384x200 32) (hx : ∀ j, (x j).toNat < 1000) (E : FVec Ideal S1000x64 .f32) (n : Fin 16384) (e : Fin 64) :
    mean x E (ix2 n e) = (∑ l : Fin 200, E (ix2 ⟨(x (ix2 n l)).toNat, hx _⟩ e)) * ((1 / 200 : ℝ) : EReal) := by
  unfold mean
  have hs : Host.reduceAdd (took x E) (constant S_ .f32 0x00000000#32) reducesTo_S16384x200x64_S16384x64_d1 h_S_ (ix2 n e)
      = ∑ l : Fin 200, E (ix2 ⟨(x (ix2 n l)).toNat, hx _⟩ e) := by
    rw [hostReduceAdd_apply, Ideal.hostReduceAdd_r3_a1, constant_apply, Ideal.ofBits_zero_f32, zero_add]
    exact Finset.sum_congr rfl fun l _ => took_apply x hx E n l e
  rw [hostDivf_apply, hs, broadcastInDim_scalar_apply, constant_apply, count_word, Ideal.div_coe (by norm_num)]

/-- One layer before its activation: the product and the bias. -/
theorem bias_apply {M N : Nat} (b : (⟨1, ![N]⟩ : Shape).Idx → EReal) (h1 : (⟨1, ![N]⟩ : Shape).BroadcastsInDim ⟨2, ![1, N]⟩ ![1])
    (h2 : (⟨2, ![1, N]⟩ : Shape).BroadcastsInDim ⟨2, ![M, N]⟩ ![0, 1]) (hN : N ≠ 1) (r : Fin M) (j : Fin N) :
    broadcastInDim ⟨2, ![M, N]⟩ ![0, 1] h2 (broadcastInDim ⟨2, ![1, N]⟩ ![1] h1 b) (ix2 r j) = b (ix1 j) := by
  rw [broadcastInDim_apply ![0, 1] h2 _ (ix2 r j) (ix2 (0 : Fin 1) j) (by
      intro a
      match a with
      | ⟨0, _⟩ => rfl
      | ⟨1, _⟩ => exact (if_neg hN).symm),
    broadcastInDim_apply ![1] h1 _ (ix2 (0 : Fin 1) j) (ix1 j) (by
      intro a
      match a with
      | ⟨0, _⟩ => exact (if_neg hN).symm)]

/-- The reference's result as a term of its arguments. -/
def out (x : IVec S16384x200 32) (E : FVec Ideal S1000x64 .f32) (W1 : FVec Ideal S64x256 .f32) (b1 : FVec Ideal S256 .f32) (W2 : FVec Ideal S256x256 .f32)
    (b2 : FVec Ideal S256 .f32) (Wo : FVec Ideal S256x128 .f32) (bo : FVec Ideal S128 .f32) : FVec Ideal S16384x128 .f32 :=
  addf (Host.dotGeneral dot_S16384x256_S256x128_S16384x128_1_0_0_1_n_n none (maximumf (addf (Host.dotGeneral dot_S16384x256_S256x256_S16384x256_1_0_0_1_n_n none
    (maximumf (addf (Host.dotGeneral dot_S16384x64_S64x256_S16384x256_1_0_0_1_n_n none (mean x E) W1)
      (broadcastInDim S16384x256 ![0, 1] bcast_S1x256_S16384x256_0_1 (broadcastInDim S1x256 ![1] bcast_S256_S1x256_1 b1)))
      (broadcastInDim S16384x256 ![] bcast_S_S16384x256 (constant S_ .f32 0x00000000#32))) W2)
      (broadcastInDim S16384x256 ![0, 1] bcast_S1x256_S16384x256_0_1 (broadcastInDim S1x256 ![1] bcast_S256_S1x256_1 b2)))
      (broadcastInDim S16384x256 ![] bcast_S_S16384x256 (constant S_ .f32 0x00000000#32))) Wo)
      (broadcastInDim S16384x128 ![0, 1] bcast_S1x128_S16384x128_0_1 (broadcastInDim S1x128 ![1] bcast_S128_S1x128_1 bo))

theorem out_apply (x : IVec S16384x200 32) (hx : ∀ j, (x j).toNat < 1000) (E : FVec Ideal S1000x64 .f32) (W1 : FVec Ideal S64x256 .f32) (b1 : FVec Ideal S256 .f32)
    (W2 : FVec Ideal S256x256 .f32) (b2 : FVec Ideal S256 .f32) (Wo : FVec Ideal S256x128 .f32) (bo : FVec Ideal S128 .f32) (n : Fin 16384) (o : Fin 128) :
    out x E W1 b1 W2 b2 Wo bo (ix2 n o)
      = tail (fun j => ∑ e : Fin 64, ((∑ l : Fin 200, E (ix2 ⟨(x (ix2 n l)).toNat, hx _⟩ e)) * ((1 / 200 : ℝ) : EReal)) * W1 (ix2 e j)) b1 W2 b2 Wo bo o := by
  have z : ∀ i, broadcastInDim S16384x256 ![] bcast_S_S16384x256 (constant (F := Ideal) S_ .f32 0x00000000#32) i = (0 : EReal) := fun i => by
    rw [broadcastInDim_scalar_apply, constant_apply, Ideal.ofBits_zero_f32]
  unfold out tail
  rw [addf_apply, bias_apply bo _ _ (by decide)]
  refine congrArg (· + bo (ix1 o)) ((StackMember.dotGeneral_plain_apply none _ Wo n o).trans (Finset.sum_congr rfl fun k _ => congrArg (· * Wo (ix2 k o)) ?_))
  rw [maximumf_apply, addf_apply, z, bias_apply b2 _ _ (by decide)]
  refine congrArg (fun q => max (q + b2 (ix1 k)) 0) ((StackMember.dotGeneral_plain_apply none _ W2 n k).trans (Finset.sum_congr rfl fun j _ => congrArg (· * W2 (ix2 j k)) ?_))
  rw [maximumf_apply, addf_apply, z, bias_apply b1 _ _ (by decide)]
  refine congrArg (fun q => max (q + b1 (ix1 j)) 0) ((StackMember.dotGeneral_plain_apply none _ W1 n j).trans (Finset.sum_congr rfl fun e _ => congrArg (· * W1 (ix2 e j)) ?_))
  exact mean_apply x hx E n e

end Cert.Hist.Ref
-- ==== Proof.Value.lean ====
/- The value claim: the idealized kernel's result is the reference's, on tokens in range and finite tables. -/
module

public import proofs.«01_k».proof.Proof.Others
public import proofs.«01_k».proof.Proof.Mean
public import proofs.«01_k».proof.Proof.Reference
public import proofs.«01_k».proof.Proof.Gen.Pre_finite

@[expose] public section

noncomputable section

namespace Cert.Hist

open Idealize.ShloMosaic hiding ix1 ix2 ix3
open Idealize.ShloMosaic.TcCoe Idealize.ShloMosaic.ValueIdx Idealize.SL.Sem
open scoped BigOperators

/-! ## What the precondition says -/

/-- The scalar shape has one index. -/
local instance : Subsingleton (Cert.Pre_finite.S_).Idx := ⟨fun _ _ => funext fun k => k.elim0⟩

/-- A one-bit word that is 1 comes of a true test. -/
theorem bit_true (b : Bool) (h : BitVec.ofBool b = 1#1) : b = true := by
  cases b
  · exact absurd h (by decide)
  · rfl

/-- A word at least 0 and below 1000 as a signed number is below 1000 as a natural number. -/
theorem word_lt (w : BitVec 32) (h0 : IntOp.cmpi .sge w 0#32 = 1#1) (h1 : IntOp.cmpi .slt w 1000#32 = 1#1) : w.toNat < 1000 := by
  have a : (0#32).sle w = true := bit_true _ h0
  have b : w.slt 1000#32 = true := bit_true _ h1
  rw [BitVec.sle_eq_decide, decide_eq_true_iff] at a
  rw [BitVec.slt_eq_decide, decide_eq_true_iff] at b
  simp only [BitVec.toInt_eq_toNat_cond, BitVec.toNat_ofNat] at a b
  have := w.isLt
  split at a <;> split at b <;> simp at a b <;> omega

/-- An extended real whose absolute value is below infinity is a real. -/
theorem real_of_abs (v : EReal) (h : Ideal.cmp .olt (max v (-v)) ⊤ = 1#1) : v = ((v.toReal : ℝ) : EReal) := by
  have h1 : max v (-v) < ⊤ := by
    have h2 := bit_true _ h
    exact of_decide_eq_true h2
  refine (EReal.coe_toReal ?_ ?_).symm
  · rintro rfl
    simp at h1
  · rintro rfl
    simp at h1

/-- The precondition, read: the tokens are in range, and both tables hold reals. -/
theorem finite_read (x : IVec Cert.Pre_finite.S16384x200 32) (E : FVec Ideal Cert.Pre_finite.S1000x64 .f32) (W : FVec Ideal Cert.Pre_finite.S64x256 .f32)
    (b1 : FVec Ideal Cert.Pre_finite.S256 .f32) (W2 : FVec Ideal Cert.Pre_finite.S256x256 .f32) (b2 : FVec Ideal Cert.Pre_finite.S256 .f32)
    (Wo : FVec Ideal Cert.Pre_finite.S256x128 .f32) (bo : FVec Ideal Cert.Pre_finite.S128 .f32)
    (h : @Cert.Pre_finite.fn Cert.Pre_finite.Gen.facts Ideal _ x E W b1 W2 b2 Wo bo = fun _ => 1#1) :
    (∀ j, (x j).toNat < 1000) ∧ (∀ j, E j = ((E j : EReal).toReal : EReal)) ∧ ∀ j, W j = ((W j : EReal).toReal : EReal) := by
  have h0 := congrFun h (fun k => k.elim0)
  unfold Cert.Pre_finite.fn at h0
  obtain ⟨h12, h3⟩ := IntOp.andi_eq_one.1 h0
  obtain ⟨h1, h2⟩ := IntOp.andi_eq_one.1 h12
  refine ⟨fun j => ?_, fun j => ?_, fun j => ?_⟩
  · obtain ⟨ha, hb⟩ := IntOp.andi_eq_one.1 (Host.reduce_andi_all _ _ _ _ _ h1 j)
    exact word_lt _ ha hb
  · have hj := Host.reduce_andi_all _ _ _ _ _ h2 j
    refine real_of_abs _ (Eq.trans ?_ hj)
    rw [← Ref.top_word]
    rfl
  · have hj := Host.reduce_andi_all _ _ _ _ _ h3 j
    refine real_of_abs _ (Eq.trans ?_ hj)
    rw [← Ref.top_word]
    rfl

/-! ## The frames under the value claim's precondition -/

/-- The idealized kernel's frame on tokens in range and finite tables. -/
theorem frame_ideal_finite : Cert.quiescent_KernelIdeal_pre_finite (hKernelIdeal := KernelIdeal.Gen.facts) (hPre_finite := Pre_finite.Gen.facts) := fun m ρ _ =>
  (θ_run Cert.KernelIdeal.defs _ _).mono (fun r h => ⟨fun c => args_of m r h c, h.2⟩) (run_main (F := Ideal) m ρ)

/-- The reference's frame on tokens in range and finite tables. -/
theorem frame_reference_finite : Cert.quiescent_ReferenceIdeal_pre_finite (hReferenceIdeal := ReferenceIdeal.Gen.facts) (hPre_finite := Pre_finite.Gen.facts) :=
  fun m ρ _ => frame_reference m ρ trivial

/-! ## The value -/

/-- The reference's term on the launch's arguments is the kernel's result. -/
theorem out_eq (m : (ℓ : Loc KernelIdeal.nD KernelIdeal.τ KernelIdeal.sig) → Buf (Elt Ideal) ℓ)
    (hp : Cert.Pre_KernelIdeal_finite (hPre_finite := Pre_finite.Gen.facts) m) (c : Dev KernelIdeal.nD) :
    Ref.out (tX m c) (tE m c) (tW m c) (m (c, Proc.devRef .tc KernelIdeal.main_arg3)) (m (c, Proc.devRef .tc KernelIdeal.main_arg4))
        (m (c, Proc.devRef .tc KernelIdeal.main_arg5)) (m (c, Proc.devRef .tc KernelIdeal.main_arg6)) (m (c, Proc.devRef .tc KernelIdeal.main_arg7))
      = at_ (V5 m c) KernelIdeal.main_v7 := by
  obtain ⟨hx, hE, hW⟩ := finite_read _ _ _ _ _ _ _ _ (hp c)
  funext j
  obtain ⟨n, o, rfl⟩ : ∃ (n : Fin 16384) (o : Fin 128), j = ix2 n o := ⟨j 0, j 1, ValueIdx.eq_ix2 j⟩
  exact (Ref.out_apply (tX m c) hx _ _ _ _ _ _ _ n o).trans
    (result_eq m c hx (fun a e => (tE m c (ix2 a e) : EReal).toReal) (fun a e => hE (ix2 a e))
      (fun e j => (tW m c (ix2 e j) : EReal).toReal) (fun e j => hW (ix2 e j)) n o).symm

/-- The idealized kernel and the reference end with the same result. -/
theorem algebraic : Cert.algebraic_KernelIdeal_ReferenceIdeal_pre_finite (hKernelIdeal := KernelIdeal.Gen.facts)
    (hReferenceIdeal := ReferenceIdeal.Gen.facts) (hPre_finite := Pre_finite.Gen.facts) := by
  intro m g m' g' hp ha
  refine ⟨fun c => at_ (V5 m c) KernelIdeal.main_v7, ?_, ?_⟩
  · exact (θ_run Cert.KernelIdeal.defs _ _).mono (fun r h c => ⟨h.1 c KernelIdeal.main_v7 rfl, args_of m r h c⟩) (run_main (F := Ideal) m g)
  · refine (θ_run (ReferenceIdeal.defs (F := Ideal)) _ _).mono (fun r h c => ⟨(h c).1.trans ?_, (h c).2⟩)
      (ReferenceIdeal.Value.run (F := Ideal) m' g')
    obtain ⟨a0, a1, a2, a3, a4, a5, a6, a7⟩ := ha c
    rw [a0, a1, a2, a3, a4, a5, a6, a7]
    exact out_eq m hp c

end Cert.Hist
-- ==== Proof.lean ====
module

public import proofs.«01_k».proof.Defs
public import proofs.«01_k».proof.Proof.Others
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_tokens
public import proofs.«01_k».proof.Proof.Gen.Pre_finite
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The certificate's claims: the frames of the kernel, of its idealization and of the reference, that the idealized kernel is an
    idealization, and that its result is the reference's. -/
theorem claim : Cert.Claim := ⟨Cert.Kernel.Gen.facts, Cert.KernelIdeal.Gen.facts, Cert.ReferenceIdeal.Gen.facts, Cert.Pre_tokens.Gen.facts,
  Cert.Pre_finite.Gen.facts, Cert.Hist.frame_kernel, Cert.Hist.frame_ideal, Cert.Hist.frame_ideal_finite, Cert.Hist.frame_reference,
  Cert.Hist.frame_reference_finite, Cert.Hist.ideal, Cert.Hist.algebraic⟩

end Cert.Proof

end
